-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite9 [hPre_finite9 : Cert.Pre_finite9.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite9.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite9 [hPre_finite9 : Cert.Pre_finite9.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite9.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite9 [hKernel9Ideal : Cert.Kernel9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite9 m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite9 [hReference9Ideal : Cert.Reference9Ideal.Facts] [hPre_finite9 : Cert.Pre_finite9.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite9 m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9)
      ∧ r.2.mem ((c.tc : Thread Cert.Kernel15.nD Cert.Kernel15.τ).loc Cert.Kernel15.main_arg10) = m ((c.tc : Thread Cert.Kernel15.nD Cert.Kernel15.τ).loc Cert.Kernel15.main_arg10)
      ∧ r.2.mem ((c.tc : Thread Cert.Kernel15.nD Cert.Kernel15.τ).loc Cert.Kernel15.main_arg11) = m ((c.tc : Thread Cert.Kernel15.nD Cert.Kernel15.τ).loc Cert.Kernel15.main_arg11)
      ∧ r.2.mem ((c.tc : Thread Cert.Kernel15.nD Cert.Kernel15.τ).loc Cert.Kernel15.main_arg12) = m ((c.tc : Thread Cert.Kernel15.nD Cert.Kernel15.τ).loc Cert.Kernel15.main_arg12)
      ∧ r.2.mem ((c.tc : Thread Cert.Kernel15.nD Cert.Kernel15.τ).loc Cert.Kernel15.main_arg13) = m ((c.tc : Thread Cert.Kernel15.nD Cert.Kernel15.τ).loc Cert.Kernel15.main_arg13)
      ∧ r.2.mem ((c.tc : Thread Cert.Kernel15.nD Cert.Kernel15.τ).loc Cert.Kernel15.main_arg14) = m ((c.tc : Thread Cert.Kernel15.nD Cert.Kernel15.τ).loc Cert.Kernel15.main_arg14)
      ∧ r.2.mem ((c.tc : Thread Cert.Kernel15.nD Cert.Kernel15.τ).loc Cert.Kernel15.main_arg15) = m ((c.tc : Thread Cert.Kernel15.nD Cert.Kernel15.τ).loc Cert.Kernel15.main_arg15)
      ∧ r.2.mem ((c.tc : Thread Cert.Kernel15.nD Cert.Kernel15.τ).loc Cert.Kernel15.main_arg16) = m ((c.tc : Thread Cert.Kernel15.nD Cert.Kernel15.τ).loc Cert.Kernel15.main_arg16)
      ∧ r.2.mem ((c.tc : Thread Cert.Kernel15.nD Cert.Kernel15.τ).loc Cert.Kernel15.main_arg17) = m ((c.tc : Thread Cert.Kernel15.nD Cert.Kernel15.τ).loc Cert.Kernel15.main_arg17)
      ∧ r.2.mem ((c.tc : Thread Cert.Kernel15.nD Cert.Kernel15.τ).loc Cert.Kernel15.main_arg18) = m ((c.tc : Thread Cert.Kernel15.nD Cert.Kernel15.τ).loc Cert.Kernel15.main_arg18)
      ∧ r.2.mem ((c.tc : Thread Cert.Kernel15.nD Cert.Kernel15.τ).loc Cert.Kernel15.main_arg19) = m ((c.tc : Thread Cert.Kernel15.nD Cert.Kernel15.τ).loc Cert.Kernel15.main_arg19)
      ∧ r.2.mem ((c.tc : Thread Cert.Kernel15.nD Cert.Kernel15.τ).loc Cert.Kernel15.main_arg20) = m ((c.tc : Thread Cert.Kernel15.nD Cert.Kernel15.τ).loc Cert.Kernel15.main_arg20)
      ∧ r.2.mem ((c.tc : Thread Cert.Kernel15.nD Cert.Kernel15.τ).loc Cert.Kernel15.main_arg21) = m ((c.tc : Thread Cert.Kernel15.nD Cert.Kernel15.τ).loc Cert.Kernel15.main_arg21)
      ∧ r.2.mem ((c.tc : Thread Cert.Kernel15.nD Cert.Kernel15.τ).loc Cert.Kernel15.main_arg22) = m ((c.tc : Thread Cert.Kernel15.nD Cert.Kernel15.τ).loc Cert.Kernel15.main_arg22)
      ∧ r.2.mem ((c.tc : Thread Cert.Kernel15.nD Cert.Kernel15.τ).loc Cert.Kernel15.main_arg23) = m ((c.tc : Thread Cert.Kernel15.nD Cert.Kernel15.τ).loc Cert.Kernel15.main_arg23)
      ∧ r.2.mem ((c.tc : Thread Cert.Kernel15.nD Cert.Kernel15.τ).loc Cert.Kernel15.main_arg24) = m ((c.tc : Thread Cert.Kernel15.nD Cert.Kernel15.τ).loc Cert.Kernel15.main_arg24))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
      ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
      ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
      ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
      ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
      ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
      ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
      ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
      ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
      ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
      ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
      ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
      ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
      ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
      ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
      ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9)
      ∧ r.2.mem ((c.tc : Thread Cert.Reference15Ideal.nD Cert.Reference15Ideal.τ).loc Cert.Reference15Ideal.main_arg10) = m ((c.tc : Thread Cert.Reference15Ideal.nD Cert.Reference15Ideal.τ).loc Cert.Reference15Ideal.main_arg10)
      ∧ r.2.mem ((c.tc : Thread Cert.Reference15Ideal.nD Cert.Reference15Ideal.τ).loc Cert.Reference15Ideal.main_arg11) = m ((c.tc : Thread Cert.Reference15Ideal.nD Cert.Reference15Ideal.τ).loc Cert.Reference15Ideal.main_arg11)
      ∧ r.2.mem ((c.tc : Thread Cert.Reference15Ideal.nD Cert.Reference15Ideal.τ).loc Cert.Reference15Ideal.main_arg12) = m ((c.tc : Thread Cert.Reference15Ideal.nD Cert.Reference15Ideal.τ).loc Cert.Reference15Ideal.main_arg12)
      ∧ r.2.mem ((c.tc : Thread Cert.Reference15Ideal.nD Cert.Reference15Ideal.τ).loc Cert.Reference15Ideal.main_arg13) = m ((c.tc : Thread Cert.Reference15Ideal.nD Cert.Reference15Ideal.τ).loc Cert.Reference15Ideal.main_arg13)
      ∧ r.2.mem ((c.tc : Thread Cert.Reference15Ideal.nD Cert.Reference15Ideal.τ).loc Cert.Reference15Ideal.main_arg14) = m ((c.tc : Thread Cert.Reference15Ideal.nD Cert.Reference15Ideal.τ).loc Cert.Reference15Ideal.main_arg14)
      ∧ r.2.mem ((c.tc : Thread Cert.Reference15Ideal.nD Cert.Reference15Ideal.τ).loc Cert.Reference15Ideal.main_arg15) = m ((c.tc : Thread Cert.Reference15Ideal.nD Cert.Reference15Ideal.τ).loc Cert.Reference15Ideal.main_arg15)
      ∧ r.2.mem ((c.tc : Thread Cert.Reference15Ideal.nD Cert.Reference15Ideal.τ).loc Cert.Reference15Ideal.main_arg16) = m ((c.tc : Thread Cert.Reference15Ideal.nD Cert.Reference15Ideal.τ).loc Cert.Reference15Ideal.main_arg16)
      ∧ r.2.mem ((c.tc : Thread Cert.Reference15Ideal.nD Cert.Reference15Ideal.τ).loc Cert.Reference15Ideal.main_arg17) = m ((c.tc : Thread Cert.Reference15Ideal.nD Cert.Reference15Ideal.τ).loc Cert.Reference15Ideal.main_arg17)
      ∧ r.2.mem ((c.tc : Thread Cert.Reference15Ideal.nD Cert.Reference15Ideal.τ).loc Cert.Reference15Ideal.main_arg18) = m ((c.tc : Thread Cert.Reference15Ideal.nD Cert.Reference15Ideal.τ).loc Cert.Reference15Ideal.main_arg18)
      ∧ r.2.mem ((c.tc : Thread Cert.Reference15Ideal.nD Cert.Reference15Ideal.τ).loc Cert.Reference15Ideal.main_arg19) = m ((c.tc : Thread Cert.Reference15Ideal.nD Cert.Reference15Ideal.τ).loc Cert.Reference15Ideal.main_arg19)
      ∧ r.2.mem ((c.tc : Thread Cert.Reference15Ideal.nD Cert.Reference15Ideal.τ).loc Cert.Reference15Ideal.main_arg20) = m ((c.tc : Thread Cert.Reference15Ideal.nD Cert.Reference15Ideal.τ).loc Cert.Reference15Ideal.main_arg20)
      ∧ r.2.mem ((c.tc : Thread Cert.Reference15Ideal.nD Cert.Reference15Ideal.τ).loc Cert.Reference15Ideal.main_arg21) = m ((c.tc : Thread Cert.Reference15Ideal.nD Cert.Reference15Ideal.τ).loc Cert.Reference15Ideal.main_arg21)
      ∧ r.2.mem ((c.tc : Thread Cert.Reference15Ideal.nD Cert.Reference15Ideal.τ).loc Cert.Reference15Ideal.main_arg22) = m ((c.tc : Thread Cert.Reference15Ideal.nD Cert.Reference15Ideal.τ).loc Cert.Reference15Ideal.main_arg22)
      ∧ r.2.mem ((c.tc : Thread Cert.Reference15Ideal.nD Cert.Reference15Ideal.τ).loc Cert.Reference15Ideal.main_arg23) = m ((c.tc : Thread Cert.Reference15Ideal.nD Cert.Reference15Ideal.τ).loc Cert.Reference15Ideal.main_arg23)
      ∧ r.2.mem ((c.tc : Thread Cert.Reference15Ideal.nD Cert.Reference15Ideal.τ).loc Cert.Reference15Ideal.main_arg24) = m ((c.tc : Thread Cert.Reference15Ideal.nD Cert.Reference15Ideal.τ).loc Cert.Reference15Ideal.main_arg24))
      ∧ r.2.sem = fun _ => 0)

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)) (v2 : (c : Dev Cert.Kernel2Ideal.nD) → Buf (Elt Ideal) ((c.tc : Thread Cert.Kernel2Ideal.nD Cert.Kernel2Ideal.τ).loc Cert.Kernel2Ideal.main_v7_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_v7_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v46) = v0 c
          ∧ r.2.mem ((c.tc : Thread Cert.Reference2Ideal.nD Cert.Reference2Ideal.τ).loc Cert.Reference2Ideal.main_v47) = v1 c
          ∧ r.2.mem ((c.tc : Thread Cert.Reference2Ideal.nD Cert.Reference2Ideal.τ).loc Cert.Reference2Ideal.main_v49) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)) (v2 : (c : Dev Cert.Kernel7Ideal.nD) → Buf (Elt Ideal) ((c.tc : Thread Cert.Kernel7Ideal.nD Cert.Kernel7Ideal.τ).loc Cert.Kernel7Ideal.main_v5_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_v5_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_v6) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v3_0)) (v1 : (c : Dev Cert.Kernel8Ideal.nD) → Buf (Elt Ideal) ((c.tc : Thread Cert.Kernel8Ideal.nD Cert.Kernel8Ideal.τ).loc Cert.Kernel8Ideal.main_v3_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v3_0) = v0 c
          ∧ r.2.mem ((c.tc : Thread Cert.Kernel8Ideal.nD Cert.Kernel8Ideal.τ).loc Cert.Kernel8Ideal.main_v3_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v3) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal_pre_finite9 [hKernel9Ideal : Cert.Kernel9Ideal.Facts] [hReference9Ideal : Cert.Reference9Ideal.Facts] [hPre_finite9 : Cert.Pre_finite9.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite9 m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)) (v2 : (c : Dev Cert.Kernel9Ideal.nD) → Buf (Elt Ideal) ((c.tc : Thread Cert.Kernel9Ideal.nD Cert.Kernel9Ideal.τ).loc Cert.Kernel9Ideal.main_v1_2)) (v3 : (c : Dev Cert.Kernel9Ideal.nD) → Buf (Elt Ideal) ((c.tc : Thread Cert.Kernel9Ideal.nD Cert.Kernel9Ideal.τ).loc Cert.Kernel9Ideal.main_v1_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_v1_2) = v2 c
          ∧ r.2.mem ((c.tc : Thread Cert.Kernel9Ideal.nD Cert.Kernel9Ideal.τ).loc Cert.Kernel9Ideal.main_v1_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v54) = v0 c
          ∧ r.2.mem ((c.tc : Thread Cert.Reference9Ideal.nD Cert.Reference9Ideal.τ).loc Cert.Reference9Ideal.main_v56) = v1 c
          ∧ r.2.mem ((c.tc : Thread Cert.Reference9Ideal.nD Cert.Reference9Ideal.τ).loc Cert.Reference9Ideal.main_v55) = v2 c
          ∧ r.2.mem ((c.tc : Thread Cert.Reference9Ideal.nD Cert.Reference9Ideal.τ).loc Cert.Reference9Ideal.main_v57) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)) (v2 : (c : Dev Cert.Kernel11Ideal.nD) → Buf (Elt Ideal) ((c.tc : Thread Cert.Kernel11Ideal.nD Cert.Kernel11Ideal.τ).loc Cert.Kernel11Ideal.main_v3_2)) (v3 : (c : Dev Cert.Kernel11Ideal.nD) → Buf (Elt Ideal) ((c.tc : Thread Cert.Kernel11Ideal.nD Cert.Kernel11Ideal.τ).loc Cert.Kernel11Ideal.main_v3_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_v3_2) = v2 c
          ∧ r.2.mem ((c.tc : Thread Cert.Kernel11Ideal.nD Cert.Kernel11Ideal.τ).loc Cert.Kernel11Ideal.main_v3_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v27) = v0 c
          ∧ r.2.mem ((c.tc : Thread Cert.Reference11Ideal.nD Cert.Reference11Ideal.τ).loc Cert.Reference11Ideal.main_v28) = v1 c
          ∧ r.2.mem ((c.tc : Thread Cert.Reference11Ideal.nD Cert.Reference11Ideal.τ).loc Cert.Reference11Ideal.main_v29) = v2 c
          ∧ r.2.mem ((c.tc : Thread Cert.Reference11Ideal.nD Cert.Reference11Ideal.τ).loc Cert.Reference11Ideal.main_v30) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3_0)) (v1 : (c : Dev Cert.Kernel12Ideal.nD) → Buf (Elt Ideal) ((c.tc : Thread Cert.Kernel12Ideal.nD Cert.Kernel12Ideal.τ).loc Cert.Kernel12Ideal.main_v3_1)) (v2 : (c : Dev Cert.Kernel12Ideal.nD) → Buf (Elt Ideal) ((c.tc : Thread Cert.Kernel12Ideal.nD Cert.Kernel12Ideal.τ).loc Cert.Kernel12Ideal.main_v3_2)) (v3 : (c : Dev Cert.Kernel12Ideal.nD) → Buf (Elt Ideal) ((c.tc : Thread Cert.Kernel12Ideal.nD Cert.Kernel12Ideal.τ).loc Cert.Kernel12Ideal.main_v3_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v3_0) = v0 c
          ∧ r.2.mem ((c.tc : Thread Cert.Kernel12Ideal.nD Cert.Kernel12Ideal.τ).loc Cert.Kernel12Ideal.main_v3_1) = v1 c
          ∧ r.2.mem ((c.tc : Thread Cert.Kernel12Ideal.nD Cert.Kernel12Ideal.τ).loc Cert.Kernel12Ideal.main_v3_2) = v2 c
          ∧ r.2.mem ((c.tc : Thread Cert.Kernel12Ideal.nD Cert.Kernel12Ideal.τ).loc Cert.Kernel12Ideal.main_v3_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v27) = v0 c
          ∧ r.2.mem ((c.tc : Thread Cert.Reference12Ideal.nD Cert.Reference12Ideal.τ).loc Cert.Reference12Ideal.main_v28) = v1 c
          ∧ r.2.mem ((c.tc : Thread Cert.Reference12Ideal.nD Cert.Reference12Ideal.τ).loc Cert.Reference12Ideal.main_v29) = v2 c
          ∧ r.2.mem ((c.tc : Thread Cert.Reference12Ideal.nD Cert.Reference12Ideal.τ).loc Cert.Reference12Ideal.main_v30) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v1) = v0 c
          ∧ r.2.mem ((c.tc : Thread Cert.Reference14Ideal.nD Cert.Reference14Ideal.τ).loc Cert.Reference14Ideal.main_v25) = v1 c
          ∧ r.2.mem ((c.tc : Thread Cert.Reference14Ideal.nD Cert.Reference14Ideal.τ).loc Cert.Reference14Ideal.main_v6) = v2 c
          ∧ r.2.mem ((c.tc : Thread Cert.Reference14Ideal.nD Cert.Reference14Ideal.τ).loc Cert.Reference14Ideal.main_v12) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)
      ∧ m' ((c.tc : Thread Cert.Reference15Ideal.nD Cert.Reference15Ideal.τ).loc Cert.Reference15Ideal.main_arg10) = m ((c.tc : Thread Cert.Kernel15Ideal.nD Cert.Kernel15Ideal.τ).loc Cert.Kernel15Ideal.main_arg10)
      ∧ m' ((c.tc : Thread Cert.Reference15Ideal.nD Cert.Reference15Ideal.τ).loc Cert.Reference15Ideal.main_arg11) = m ((c.tc : Thread Cert.Kernel15Ideal.nD Cert.Kernel15Ideal.τ).loc Cert.Kernel15Ideal.main_arg11)
      ∧ m' ((c.tc : Thread Cert.Reference15Ideal.nD Cert.Reference15Ideal.τ).loc Cert.Reference15Ideal.main_arg12) = m ((c.tc : Thread Cert.Kernel15Ideal.nD Cert.Kernel15Ideal.τ).loc Cert.Kernel15Ideal.main_arg12)
      ∧ m' ((c.tc : Thread Cert.Reference15Ideal.nD Cert.Reference15Ideal.τ).loc Cert.Reference15Ideal.main_arg13) = m ((c.tc : Thread Cert.Kernel15Ideal.nD Cert.Kernel15Ideal.τ).loc Cert.Kernel15Ideal.main_arg13)
      ∧ m' ((c.tc : Thread Cert.Reference15Ideal.nD Cert.Reference15Ideal.τ).loc Cert.Reference15Ideal.main_arg14) = m ((c.tc : Thread Cert.Kernel15Ideal.nD Cert.Kernel15Ideal.τ).loc Cert.Kernel15Ideal.main_arg14)
      ∧ m' ((c.tc : Thread Cert.Reference15Ideal.nD Cert.Reference15Ideal.τ).loc Cert.Reference15Ideal.main_arg15) = m ((c.tc : Thread Cert.Kernel15Ideal.nD Cert.Kernel15Ideal.τ).loc Cert.Kernel15Ideal.main_arg15)
      ∧ m' ((c.tc : Thread Cert.Reference15Ideal.nD Cert.Reference15Ideal.τ).loc Cert.Reference15Ideal.main_arg16) = m ((c.tc : Thread Cert.Kernel15Ideal.nD Cert.Kernel15Ideal.τ).loc Cert.Kernel15Ideal.main_arg16)
      ∧ m' ((c.tc : Thread Cert.Reference15Ideal.nD Cert.Reference15Ideal.τ).loc Cert.Reference15Ideal.main_arg17) = m ((c.tc : Thread Cert.Kernel15Ideal.nD Cert.Kernel15Ideal.τ).loc Cert.Kernel15Ideal.main_arg17)
      ∧ m' ((c.tc : Thread Cert.Reference15Ideal.nD Cert.Reference15Ideal.τ).loc Cert.Reference15Ideal.main_arg18) = m ((c.tc : Thread Cert.Kernel15Ideal.nD Cert.Kernel15Ideal.τ).loc Cert.Kernel15Ideal.main_arg18)
      ∧ m' ((c.tc : Thread Cert.Reference15Ideal.nD Cert.Reference15Ideal.τ).loc Cert.Reference15Ideal.main_arg19) = m ((c.tc : Thread Cert.Kernel15Ideal.nD Cert.Kernel15Ideal.τ).loc Cert.Kernel15Ideal.main_arg19)
      ∧ m' ((c.tc : Thread Cert.Reference15Ideal.nD Cert.Reference15Ideal.τ).loc Cert.Reference15Ideal.main_arg20) = m ((c.tc : Thread Cert.Kernel15Ideal.nD Cert.Kernel15Ideal.τ).loc Cert.Kernel15Ideal.main_arg20)
      ∧ m' ((c.tc : Thread Cert.Reference15Ideal.nD Cert.Reference15Ideal.τ).loc Cert.Reference15Ideal.main_arg21) = m ((c.tc : Thread Cert.Kernel15Ideal.nD Cert.Kernel15Ideal.τ).loc Cert.Kernel15Ideal.main_arg21)
      ∧ m' ((c.tc : Thread Cert.Reference15Ideal.nD Cert.Reference15Ideal.τ).loc Cert.Reference15Ideal.main_arg22) = m ((c.tc : Thread Cert.Kernel15Ideal.nD Cert.Kernel15Ideal.τ).loc Cert.Kernel15Ideal.main_arg22)
      ∧ m' ((c.tc : Thread Cert.Reference15Ideal.nD Cert.Reference15Ideal.τ).loc Cert.Reference15Ideal.main_arg23) = m ((c.tc : Thread Cert.Kernel15Ideal.nD Cert.Kernel15Ideal.τ).loc Cert.Kernel15Ideal.main_arg23)
      ∧ m' ((c.tc : Thread Cert.Reference15Ideal.nD Cert.Reference15Ideal.τ).loc Cert.Reference15Ideal.main_arg24) = m ((c.tc : Thread Cert.Kernel15Ideal.nD Cert.Kernel15Ideal.τ).loc Cert.Kernel15Ideal.main_arg24)) →
    ∃ (v0 : (c : Dev Cert.Kernel15Ideal.nD) → Buf (Elt Ideal) ((c.tc : Thread Cert.Kernel15Ideal.nD Cert.Kernel15Ideal.τ).loc Cert.Kernel15Ideal.main_v8_6)) (v1 : (c : Dev Cert.Kernel15Ideal.nD) → Buf (Elt Ideal) ((c.tc : Thread Cert.Kernel15Ideal.nD Cert.Kernel15Ideal.τ).loc Cert.Kernel15Ideal.main_v8_7)) (v2 : (c : Dev Cert.Kernel15Ideal.nD) → Buf (Elt Ideal) ((c.tc : Thread Cert.Kernel15Ideal.nD Cert.Kernel15Ideal.τ).loc Cert.Kernel15Ideal.main_v8_8)) (v3 : (c : Dev Cert.Kernel15Ideal.nD) → Buf (Elt Ideal) ((c.tc : Thread Cert.Kernel15Ideal.nD Cert.Kernel15Ideal.τ).loc Cert.Kernel15Ideal.main_v8_9)) (v4 : (c : Dev Cert.Kernel15Ideal.nD) → Buf (Elt Ideal) ((c.tc : Thread Cert.Kernel15Ideal.nD Cert.Kernel15Ideal.τ).loc Cert.Kernel15Ideal.main_v8_10)) (v5 : (c : Dev Cert.Kernel15Ideal.nD) → Buf (Elt Ideal) ((c.tc : Thread Cert.Kernel15Ideal.nD Cert.Kernel15Ideal.τ).loc Cert.Kernel15Ideal.main_v8_11)) (v6 : (c : Dev Cert.Kernel15Ideal.nD) → Buf (Elt Ideal) ((c.tc : Thread Cert.Kernel15Ideal.nD Cert.Kernel15Ideal.τ).loc Cert.Kernel15Ideal.main_v8_12)) (v7 : (c : Dev Cert.Kernel15Ideal.nD) → Buf (Elt Ideal) ((c.tc : Thread Cert.Kernel15Ideal.nD Cert.Kernel15Ideal.τ).loc Cert.Kernel15Ideal.main_v8_13)) (v8 : (c : Dev Cert.Kernel15Ideal.nD) → Buf (Elt Ideal) ((c.tc : Thread Cert.Kernel15Ideal.nD Cert.Kernel15Ideal.τ).loc Cert.Kernel15Ideal.main_v8_14)) (v9 : (c : Dev Cert.Kernel15Ideal.nD) → Buf (Elt Ideal) ((c.tc : Thread Cert.Kernel15Ideal.nD Cert.Kernel15Ideal.τ).loc Cert.Kernel15Ideal.main_v8_15)) (v10 : (c : Dev Cert.Kernel15Ideal.nD) → Buf (Elt Ideal) ((c.tc : Thread Cert.Kernel15Ideal.nD Cert.Kernel15Ideal.τ).loc Cert.Kernel15Ideal.main_v8_16)) (v11 : (c : Dev Cert.Kernel15Ideal.nD) → Buf (Elt Ideal) ((c.tc : Thread Cert.Kernel15Ideal.nD Cert.Kernel15Ideal.τ).loc Cert.Kernel15Ideal.main_v8_17)) (v12 : (c : Dev Cert.Kernel15Ideal.nD) → Buf (Elt Ideal) ((c.tc : Thread Cert.Kernel15Ideal.nD Cert.Kernel15Ideal.τ).loc Cert.Kernel15Ideal.main_v8_18)) (v13 : (c : Dev Cert.Kernel15Ideal.nD) → Buf (Elt Ideal) ((c.tc : Thread Cert.Kernel15Ideal.nD Cert.Kernel15Ideal.τ).loc Cert.Kernel15Ideal.main_v8_19)) (v14 : (c : Dev Cert.Kernel15Ideal.nD) → Buf (Elt Ideal) ((c.tc : Thread Cert.Kernel15Ideal.nD Cert.Kernel15Ideal.τ).loc Cert.Kernel15Ideal.main_v8_20)) (v15 : (c : Dev Cert.Kernel15Ideal.nD) → Buf (Elt Ideal) ((c.tc : Thread Cert.Kernel15Ideal.nD Cert.Kernel15Ideal.τ).loc Cert.Kernel15Ideal.main_v8_21)) (v16 : (c : Dev Cert.Kernel15Ideal.nD) → Buf (Elt Ideal) ((c.tc : Thread Cert.Kernel15Ideal.nD Cert.Kernel15Ideal.τ).loc Cert.Kernel15Ideal.main_v8_22)) (v17 : (c : Dev Cert.Kernel15Ideal.nD) → Buf (Elt Ideal) ((c.tc : Thread Cert.Kernel15Ideal.nD Cert.Kernel15Ideal.τ).loc Cert.Kernel15Ideal.main_v8_23)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v8_6) = v0 c
          ∧ r.2.mem ((c.tc : Thread Cert.Kernel15Ideal.nD Cert.Kernel15Ideal.τ).loc Cert.Kernel15Ideal.main_v8_7) = v1 c
          ∧ r.2.mem ((c.tc : Thread Cert.Kernel15Ideal.nD Cert.Kernel15Ideal.τ).loc Cert.Kernel15Ideal.main_v8_8) = v2 c
          ∧ r.2.mem ((c.tc : Thread Cert.Kernel15Ideal.nD Cert.Kernel15Ideal.τ).loc Cert.Kernel15Ideal.main_v8_9) = v3 c
          ∧ r.2.mem ((c.tc : Thread Cert.Kernel15Ideal.nD Cert.Kernel15Ideal.τ).loc Cert.Kernel15Ideal.main_v8_10) = v4 c
          ∧ r.2.mem ((c.tc : Thread Cert.Kernel15Ideal.nD Cert.Kernel15Ideal.τ).loc Cert.Kernel15Ideal.main_v8_11) = v5 c
          ∧ r.2.mem ((c.tc : Thread Cert.Kernel15Ideal.nD Cert.Kernel15Ideal.τ).loc Cert.Kernel15Ideal.main_v8_12) = v6 c
          ∧ r.2.mem ((c.tc : Thread Cert.Kernel15Ideal.nD Cert.Kernel15Ideal.τ).loc Cert.Kernel15Ideal.main_v8_13) = v7 c
          ∧ r.2.mem ((c.tc : Thread Cert.Kernel15Ideal.nD Cert.Kernel15Ideal.τ).loc Cert.Kernel15Ideal.main_v8_14) = v8 c
          ∧ r.2.mem ((c.tc : Thread Cert.Kernel15Ideal.nD Cert.Kernel15Ideal.τ).loc Cert.Kernel15Ideal.main_v8_15) = v9 c
          ∧ r.2.mem ((c.tc : Thread Cert.Kernel15Ideal.nD Cert.Kernel15Ideal.τ).loc Cert.Kernel15Ideal.main_v8_16) = v10 c
          ∧ r.2.mem ((c.tc : Thread Cert.Kernel15Ideal.nD Cert.Kernel15Ideal.τ).loc Cert.Kernel15Ideal.main_v8_17) = v11 c
          ∧ r.2.mem ((c.tc : Thread Cert.Kernel15Ideal.nD Cert.Kernel15Ideal.τ).loc Cert.Kernel15Ideal.main_v8_18) = v12 c
          ∧ r.2.mem ((c.tc : Thread Cert.Kernel15Ideal.nD Cert.Kernel15Ideal.τ).loc Cert.Kernel15Ideal.main_v8_19) = v13 c
          ∧ r.2.mem ((c.tc : Thread Cert.Kernel15Ideal.nD Cert.Kernel15Ideal.τ).loc Cert.Kernel15Ideal.main_v8_20) = v14 c
          ∧ r.2.mem ((c.tc : Thread Cert.Kernel15Ideal.nD Cert.Kernel15Ideal.τ).loc Cert.Kernel15Ideal.main_v8_21) = v15 c
          ∧ r.2.mem ((c.tc : Thread Cert.Kernel15Ideal.nD Cert.Kernel15Ideal.τ).loc Cert.Kernel15Ideal.main_v8_22) = v16 c
          ∧ r.2.mem ((c.tc : Thread Cert.Kernel15Ideal.nD Cert.Kernel15Ideal.τ).loc Cert.Kernel15Ideal.main_v8_23) = v17 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9)
          ∧ r.2.mem ((c.tc : Thread Cert.Kernel15Ideal.nD Cert.Kernel15Ideal.τ).loc Cert.Kernel15Ideal.main_arg10) = m ((c.tc : Thread Cert.Kernel15Ideal.nD Cert.Kernel15Ideal.τ).loc Cert.Kernel15Ideal.main_arg10)
          ∧ r.2.mem ((c.tc : Thread Cert.Kernel15Ideal.nD Cert.Kernel15Ideal.τ).loc Cert.Kernel15Ideal.main_arg11) = m ((c.tc : Thread Cert.Kernel15Ideal.nD Cert.Kernel15Ideal.τ).loc Cert.Kernel15Ideal.main_arg11)
          ∧ r.2.mem ((c.tc : Thread Cert.Kernel15Ideal.nD Cert.Kernel15Ideal.τ).loc Cert.Kernel15Ideal.main_arg12) = m ((c.tc : Thread Cert.Kernel15Ideal.nD Cert.Kernel15Ideal.τ).loc Cert.Kernel15Ideal.main_arg12)
          ∧ r.2.mem ((c.tc : Thread Cert.Kernel15Ideal.nD Cert.Kernel15Ideal.τ).loc Cert.Kernel15Ideal.main_arg13) = m ((c.tc : Thread Cert.Kernel15Ideal.nD Cert.Kernel15Ideal.τ).loc Cert.Kernel15Ideal.main_arg13)
          ∧ r.2.mem ((c.tc : Thread Cert.Kernel15Ideal.nD Cert.Kernel15Ideal.τ).loc Cert.Kernel15Ideal.main_arg14) = m ((c.tc : Thread Cert.Kernel15Ideal.nD Cert.Kernel15Ideal.τ).loc Cert.Kernel15Ideal.main_arg14)
          ∧ r.2.mem ((c.tc : Thread Cert.Kernel15Ideal.nD Cert.Kernel15Ideal.τ).loc Cert.Kernel15Ideal.main_arg15) = m ((c.tc : Thread Cert.Kernel15Ideal.nD Cert.Kernel15Ideal.τ).loc Cert.Kernel15Ideal.main_arg15)
          ∧ r.2.mem ((c.tc : Thread Cert.Kernel15Ideal.nD Cert.Kernel15Ideal.τ).loc Cert.Kernel15Ideal.main_arg16) = m ((c.tc : Thread Cert.Kernel15Ideal.nD Cert.Kernel15Ideal.τ).loc Cert.Kernel15Ideal.main_arg16)
          ∧ r.2.mem ((c.tc : Thread Cert.Kernel15Ideal.nD Cert.Kernel15Ideal.τ).loc Cert.Kernel15Ideal.main_arg17) = m ((c.tc : Thread Cert.Kernel15Ideal.nD Cert.Kernel15Ideal.τ).loc Cert.Kernel15Ideal.main_arg17)
          ∧ r.2.mem ((c.tc : Thread Cert.Kernel15Ideal.nD Cert.Kernel15Ideal.τ).loc Cert.Kernel15Ideal.main_arg18) = m ((c.tc : Thread Cert.Kernel15Ideal.nD Cert.Kernel15Ideal.τ).loc Cert.Kernel15Ideal.main_arg18)
          ∧ r.2.mem ((c.tc : Thread Cert.Kernel15Ideal.nD Cert.Kernel15Ideal.τ).loc Cert.Kernel15Ideal.main_arg19) = m ((c.tc : Thread Cert.Kernel15Ideal.nD Cert.Kernel15Ideal.τ).loc Cert.Kernel15Ideal.main_arg19)
          ∧ r.2.mem ((c.tc : Thread Cert.Kernel15Ideal.nD Cert.Kernel15Ideal.τ).loc Cert.Kernel15Ideal.main_arg20) = m ((c.tc : Thread Cert.Kernel15Ideal.nD Cert.Kernel15Ideal.τ).loc Cert.Kernel15Ideal.main_arg20)
          ∧ r.2.mem ((c.tc : Thread Cert.Kernel15Ideal.nD Cert.Kernel15Ideal.τ).loc Cert.Kernel15Ideal.main_arg21) = m ((c.tc : Thread Cert.Kernel15Ideal.nD Cert.Kernel15Ideal.τ).loc Cert.Kernel15Ideal.main_arg21)
          ∧ r.2.mem ((c.tc : Thread Cert.Kernel15Ideal.nD Cert.Kernel15Ideal.τ).loc Cert.Kernel15Ideal.main_arg22) = m ((c.tc : Thread Cert.Kernel15Ideal.nD Cert.Kernel15Ideal.τ).loc Cert.Kernel15Ideal.main_arg22)
          ∧ r.2.mem ((c.tc : Thread Cert.Kernel15Ideal.nD Cert.Kernel15Ideal.τ).loc Cert.Kernel15Ideal.main_arg23) = m ((c.tc : Thread Cert.Kernel15Ideal.nD Cert.Kernel15Ideal.τ).loc Cert.Kernel15Ideal.main_arg23)
          ∧ r.2.mem ((c.tc : Thread Cert.Kernel15Ideal.nD Cert.Kernel15Ideal.τ).loc Cert.Kernel15Ideal.main_arg24) = m ((c.tc : Thread Cert.Kernel15Ideal.nD Cert.Kernel15Ideal.τ).loc Cert.Kernel15Ideal.main_arg24))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v23) = v0 c
          ∧ r.2.mem ((c.tc : Thread Cert.Reference15Ideal.nD Cert.Reference15Ideal.τ).loc Cert.Reference15Ideal.main_v47) = v1 c
          ∧ r.2.mem ((c.tc : Thread Cert.Reference15Ideal.nD Cert.Reference15Ideal.τ).loc Cert.Reference15Ideal.main_v71) = v2 c
          ∧ r.2.mem ((c.tc : Thread Cert.Reference15Ideal.nD Cert.Reference15Ideal.τ).loc Cert.Reference15Ideal.main_v95) = v3 c
          ∧ r.2.mem ((c.tc : Thread Cert.Reference15Ideal.nD Cert.Reference15Ideal.τ).loc Cert.Reference15Ideal.main_v119) = v4 c
          ∧ r.2.mem ((c.tc : Thread Cert.Reference15Ideal.nD Cert.Reference15Ideal.τ).loc Cert.Reference15Ideal.main_v143) = v5 c
          ∧ r.2.mem ((c.tc : Thread Cert.Reference15Ideal.nD Cert.Reference15Ideal.τ).loc Cert.Reference15Ideal.main_v4) = v6 c
          ∧ r.2.mem ((c.tc : Thread Cert.Reference15Ideal.nD Cert.Reference15Ideal.τ).loc Cert.Reference15Ideal.main_v28) = v7 c
          ∧ r.2.mem ((c.tc : Thread Cert.Reference15Ideal.nD Cert.Reference15Ideal.τ).loc Cert.Reference15Ideal.main_v52) = v8 c
          ∧ r.2.mem ((c.tc : Thread Cert.Reference15Ideal.nD Cert.Reference15Ideal.τ).loc Cert.Reference15Ideal.main_v76) = v9 c
          ∧ r.2.mem ((c.tc : Thread Cert.Reference15Ideal.nD Cert.Reference15Ideal.τ).loc Cert.Reference15Ideal.main_v100) = v10 c
          ∧ r.2.mem ((c.tc : Thread Cert.Reference15Ideal.nD Cert.Reference15Ideal.τ).loc Cert.Reference15Ideal.main_v124) = v11 c
          ∧ r.2.mem ((c.tc : Thread Cert.Reference15Ideal.nD Cert.Reference15Ideal.τ).loc Cert.Reference15Ideal.main_v10) = v12 c
          ∧ r.2.mem ((c.tc : Thread Cert.Reference15Ideal.nD Cert.Reference15Ideal.τ).loc Cert.Reference15Ideal.main_v34) = v13 c
          ∧ r.2.mem ((c.tc : Thread Cert.Reference15Ideal.nD Cert.Reference15Ideal.τ).loc Cert.Reference15Ideal.main_v58) = v14 c
          ∧ r.2.mem ((c.tc : Thread Cert.Reference15Ideal.nD Cert.Reference15Ideal.τ).loc Cert.Reference15Ideal.main_v82) = v15 c
          ∧ r.2.mem ((c.tc : Thread Cert.Reference15Ideal.nD Cert.Reference15Ideal.τ).loc Cert.Reference15Ideal.main_v106) = v16 c
          ∧ r.2.mem ((c.tc : Thread Cert.Reference15Ideal.nD Cert.Reference15Ideal.τ).loc Cert.Reference15Ideal.main_v130) = v17 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9)
          ∧ r.2.mem ((c.tc : Thread Cert.Reference15Ideal.nD Cert.Reference15Ideal.τ).loc Cert.Reference15Ideal.main_arg10) = m' ((c.tc : Thread Cert.Reference15Ideal.nD Cert.Reference15Ideal.τ).loc Cert.Reference15Ideal.main_arg10)
          ∧ r.2.mem ((c.tc : Thread Cert.Reference15Ideal.nD Cert.Reference15Ideal.τ).loc Cert.Reference15Ideal.main_arg11) = m' ((c.tc : Thread Cert.Reference15Ideal.nD Cert.Reference15Ideal.τ).loc Cert.Reference15Ideal.main_arg11)
          ∧ r.2.mem ((c.tc : Thread Cert.Reference15Ideal.nD Cert.Reference15Ideal.τ).loc Cert.Reference15Ideal.main_arg12) = m' ((c.tc : Thread Cert.Reference15Ideal.nD Cert.Reference15Ideal.τ).loc Cert.Reference15Ideal.main_arg12)
          ∧ r.2.mem ((c.tc : Thread Cert.Reference15Ideal.nD Cert.Reference15Ideal.τ).loc Cert.Reference15Ideal.main_arg13) = m' ((c.tc : Thread Cert.Reference15Ideal.nD Cert.Reference15Ideal.τ).loc Cert.Reference15Ideal.main_arg13)
          ∧ r.2.mem ((c.tc : Thread Cert.Reference15Ideal.nD Cert.Reference15Ideal.τ).loc Cert.Reference15Ideal.main_arg14) = m' ((c.tc : Thread Cert.Reference15Ideal.nD Cert.Reference15Ideal.τ).loc Cert.Reference15Ideal.main_arg14)
          ∧ r.2.mem ((c.tc : Thread Cert.Reference15Ideal.nD Cert.Reference15Ideal.τ).loc Cert.Reference15Ideal.main_arg15) = m' ((c.tc : Thread Cert.Reference15Ideal.nD Cert.Reference15Ideal.τ).loc Cert.Reference15Ideal.main_arg15)
          ∧ r.2.mem ((c.tc : Thread Cert.Reference15Ideal.nD Cert.Reference15Ideal.τ).loc Cert.Reference15Ideal.main_arg16) = m' ((c.tc : Thread Cert.Reference15Ideal.nD Cert.Reference15Ideal.τ).loc Cert.Reference15Ideal.main_arg16)
          ∧ r.2.mem ((c.tc : Thread Cert.Reference15Ideal.nD Cert.Reference15Ideal.τ).loc Cert.Reference15Ideal.main_arg17) = m' ((c.tc : Thread Cert.Reference15Ideal.nD Cert.Reference15Ideal.τ).loc Cert.Reference15Ideal.main_arg17)
          ∧ r.2.mem ((c.tc : Thread Cert.Reference15Ideal.nD Cert.Reference15Ideal.τ).loc Cert.Reference15Ideal.main_arg18) = m' ((c.tc : Thread Cert.Reference15Ideal.nD Cert.Reference15Ideal.τ).loc Cert.Reference15Ideal.main_arg18)
          ∧ r.2.mem ((c.tc : Thread Cert.Reference15Ideal.nD Cert.Reference15Ideal.τ).loc Cert.Reference15Ideal.main_arg19) = m' ((c.tc : Thread Cert.Reference15Ideal.nD Cert.Reference15Ideal.τ).loc Cert.Reference15Ideal.main_arg19)
          ∧ r.2.mem ((c.tc : Thread Cert.Reference15Ideal.nD Cert.Reference15Ideal.τ).loc Cert.Reference15Ideal.main_arg20) = m' ((c.tc : Thread Cert.Reference15Ideal.nD Cert.Reference15Ideal.τ).loc Cert.Reference15Ideal.main_arg20)
          ∧ r.2.mem ((c.tc : Thread Cert.Reference15Ideal.nD Cert.Reference15Ideal.τ).loc Cert.Reference15Ideal.main_arg21) = m' ((c.tc : Thread Cert.Reference15Ideal.nD Cert.Reference15Ideal.τ).loc Cert.Reference15Ideal.main_arg21)
          ∧ r.2.mem ((c.tc : Thread Cert.Reference15Ideal.nD Cert.Reference15Ideal.τ).loc Cert.Reference15Ideal.main_arg22) = m' ((c.tc : Thread Cert.Reference15Ideal.nD Cert.Reference15Ideal.τ).loc Cert.Reference15Ideal.main_arg22)
          ∧ r.2.mem ((c.tc : Thread Cert.Reference15Ideal.nD Cert.Reference15Ideal.τ).loc Cert.Reference15Ideal.main_arg23) = m' ((c.tc : Thread Cert.Reference15Ideal.nD Cert.Reference15Ideal.τ).loc Cert.Reference15Ideal.main_arg23)
          ∧ r.2.mem ((c.tc : Thread Cert.Reference15Ideal.nD Cert.Reference15Ideal.τ).loc Cert.Reference15Ideal.main_arg24) = m' ((c.tc : Thread Cert.Reference15Ideal.nD Cert.Reference15Ideal.τ).loc Cert.Reference15Ideal.main_arg24))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite2 : Cert.Pre_finite2.Facts) (hPre_finite3 : Cert.Pre_finite3.Facts) (hPre_finite6 : Cert.Pre_finite6.Facts) (hPre_finite9 : Cert.Pre_finite9.Facts),
    quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite9 (hKernel9Ideal := hKernel9Ideal) (hPre_finite9 := hPre_finite9)
    ∧ quiescent_Reference9Ideal (hReference9Ideal := hReference9Ideal)
    ∧ quiescent_Reference9Ideal_pre_finite9 (hReference9Ideal := hReference9Ideal) (hPre_finite9 := hPre_finite9)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite9 (hKernel9Ideal := hKernel9Ideal) (hReference9Ideal := hReference9Ideal) (hPre_finite9 := hPre_finite9)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
-- ==== Pre_finite2.lean ====
abbrev S4096x1024 : Shape := ⟨2, ![4096, 1024]⟩
abbrev S1x1024 : Shape := ⟨2, ![1, 1024]⟩
abbrev S1024x2816 : Shape := ⟨2, ![1024, 2816]⟩
abbrev S1024x1024 : Shape := ⟨2, ![1024, 1024]⟩
abbrev S4096x2816 : Shape := ⟨2, ![4096, 2816]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S1024x1024 : S_.BroadcastsInDim S1024x1024 (![] : Fin 0 → Fin S1024x1024.rank)
  reducesTo_S1024x1024_S_d0_1 : S1024x1024.ReducesTo [0, 1] S_
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_

variable [Facts]

def fn_part2 {F : FTy → Type} [FloatOps F] (main_arg8 : FVec F S4096x1024 .f32) (main_v3 : IVec S_ 1) (main_v7 : IVec S_ 1) (main_v11 : IVec S_ 1) (main_v15 : IVec S_ 1) (main_v19 : IVec S_ 1) (main_v23 : IVec S_ 1) (main_v28 : IVec S_ 1) (main_v32 : IVec S4096x2816 1) : IVec S_ 1 :=
  let main_c_13 : IVec S_ 1 := constantI S_ 1 1#1
  let main_v33 : IVec S_ 1 := (fun x v => Host.reduce IntOp.andi x v reducesTo_S4096x2816_S_d0_1 h_S_) main_v32 main_c_13
  let main_v34 : FVec F S4096x1024 .f32 := Host.absf main_arg8
  let main_cst_14 : FVec F S_ .f32 := constant S_ .f32 0x7F800000#32
  let main_v35 : FVec F S4096x1024 .f32 := broadcastInDim S4096x1024 ![] bcast_S_S4096x1024 main_cst_14
  let main_v36 : IVec S4096x1024 1 := cmpf .olt main_v34 main_v35
  let main_c_15 : IVec S_ 1 := constantI S_ 1 1#1
  let main_v37 : IVec S_ 1 := (fun x v => Host.reduce IntOp.andi x v reducesTo_S4096x1024_S_d0_1 h_S_) main_v36 main_c_15
  let main_v38 : IVec S_ 1 := andi main_v3 main_v7
  let main_v39 : IVec S_ 1 := andi main_v38 main_v11
  let main_v40 : IVec S_ 1 := andi main_v39 main_v15
  let main_v41 : IVec S_ 1 := andi main_v40 main_v19
  let main_v42 : IVec S_ 1 := andi main_v41 main_v23
  let main_v43 : IVec S_ 1 := andi main_v42 main_v28
  let main_v44 : IVec S_ 1 := andi main_v43 main_v33
  let main_v45 : IVec S_ 1 := andi main_v44 main_v37
  main_v45

def fn_part1 {F : FTy → Type} [FloatOps F] (main_arg4 : FVec F S1024x2816 .f32) (main_arg5 : FVec F S1024x1024 .f32) (main_arg6 : FVec F S4096x2816 .bf16) (main_arg7 : FVec F S4096x2816 .bf16) (main_arg8 : FVec F S4096x1024 .f32) (main_v3 : IVec S_ 1) (main_v7 : IVec S_ 1) (main_v11 : IVec S_ 1) (main_v15 : IVec S_ 1) : IVec S_ 1 :=
  let main_v16 : FVec F S1024x2816 .f32 := Host.absf main_arg4
  let main_cst_6 : FVec F S_ .f32 := constant S_ .f32 0x7F800000#32
  let main_v17 : FVec F S1024x2816 .f32 := broadcastInDim S1024x2816 ![] bcast_S_S1024x2816 main_cst_6
  let main_v18 : IVec S1024x2816 1 := cmpf .olt main_v16 main_v17
  let main_c_7 : IVec S_ 1 := constantI S_ 1 1#1
  let main_v19 : IVec S_ 1 := (fun x v => Host.reduce IntOp.andi x v reducesTo_S1024x2816_S_d0_1 h_S_) main_v18 main_c_7
  let main_v20 : FVec F S1024x1024 .f32 := Host.absf main_arg5
  let main_cst_8 : FVec F S_ .f32 := constant S_ .f32 0x7F800000#32
  let main_v21 : FVec F S1024x1024 .f32 := broadcastInDim S1024x1024 ![] bcast_S_S1024x1024 main_cst_8
  let main_v22 : IVec S1024x1024 1 := cmpf .olt main_v20 main_v21
  let main_c_9 : IVec S_ 1 := constantI S_ 1 1#1
  let main_v23 : IVec S_ 1 := (fun x v => Host.reduce IntOp.andi x v reducesTo_S1024x1024_S_d0_1 h_S_) main_v22 main_c_9
  let main_v24 : FVec F S4096x2816 .f32 := (extf .f32 · bitsLt_bf16_f32) main_arg6
  let main_v25 : FVec F S4096x2816 .f32 := Host.absf main_v24
  let main_cst_10 : FVec F S_ .f32 := constant S_ .f32 0x7F800000#32
  let main_v26 : FVec F S4096x2816 .f32 := broadcastInDim S4096x2816 ![] bcast_S_S4096x2816 main_cst_10
  let main_v27 : IVec S4096x2816 1 := cmpf .olt main_v25 main_v26
  let main_c_11 : IVec S_ 1 := constantI S_ 1 1#1
  let main_v28 : IVec S_ 1 := (fun x v => Host.reduce IntOp.andi x v reducesTo_S4096x2816_S_d0_1 h_S_) main_v27 main_c_11
  let main_v29 : FVec F S4096x2816 .f32 := (extf .f32 · bitsLt_bf16_f32) main_arg7
  let main_v30 : FVec F S4096x2816 .f32 := Host.absf main_v29
  let main_cst_12 : FVec F S_ .f32 := constant S_ .f32 0x7F800000#32
  let main_v31 : FVec F S4096x2816 .f32 := broadcastInDim S4096x2816 ![] bcast_S_S4096x2816 main_cst_12
  let main_v32 : IVec S4096x2816 1 := cmpf .olt main_v30 main_v31
  fn_part2 (F := F) main_arg8 main_v3 main_v7 main_v11 main_v15 main_v19 main_v23 main_v28 main_v32

def fn {F : FTy → Type} [FloatOps F] (main_arg0 : FVec F S4096x1024 .f32) (main_arg1 : FVec F S4096x1024 .f32) (main_arg2 : FVec F S1x1024 .f32) (main_arg3 : FVec F S1024x2816 .f32) (main_arg4 : FVec F S1024x2816 .f32) (main_arg5 : FVec F S1024x1024 .f32) (main_arg6 : FVec F S4096x2816 .bf16) (main_arg7 : FVec F S4096x2816 .bf16) (main_arg8 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S1024x2816 .f32 := Host.absf main_arg3
  let main_cst_4 : FVec F S_ .f32 := constant S_ .f32 0x7F800000#32
  let main_v13 : FVec F S1024x2816 .f32 := broadcastInDim S1024x2816 ![] bcast_S_S1024x2816 main_cst_4
  let main_v14 : IVec S1024x2816 1 := cmpf .olt main_v12 main_v13
  let main_c_5 : IVec S_ 1 := constantI S_ 1 1#1
  let main_v15 : IVec S_ 1 := (fun x v => Host.reduce IntOp.andi x v reducesTo_S1024x2816_S_d0_1 h_S_) main_v14 main_c_5
  fn_part1 (F := F) main_arg4 main_arg5 main_arg6 main_arg7 main_arg8 main_v3 main_v7 main_v11 main_v15
-- ==== Pre_finite3.lean ====
abbrev S4096x1024 : Shape := ⟨2, ![4096, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S4096x1024 .f32) (main_v3 : IVec S_ 1) (main_v7 : IVec S_ 1) (main_v11 : IVec S_ 1) (main_v15 : IVec S_ 1) : IVec S_ 1 :=
  let main_v16 : FVec F S4096x1024 .f32 := Host.absf main_arg4
  let main_cst_6 : FVec F S_ .f32 := constant S_ .f32 0x7F800000#32
  let main_v17 : FVec F S4096x1024 .f32 := broadcastInDim S4096x1024 ![] bcast_S_S4096x1024 main_cst_6
  let main_v18 : IVec S4096x1024 1 := cmpf .olt main_v16 main_v17
  let main_c_7 : IVec S_ 1 := constantI S_ 1 1#1
  let main_v19 : IVec S_ 1 := (fun x v => Host.reduce IntOp.andi x v reducesTo_S4096x1024_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S4096x1024 .f32) (main_arg1 : FVec F S1024x2816 .f32) (main_arg2 : FVec F S1024x2816 .f32) (main_arg3 : FVec F S2816x1024 .f32) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x2816 .f32 := Host.absf main_arg1
  let main_cst_0 : FVec F S_ .f32 := constant S_ .f32 0x7F800000#32
  let main_v5 : FVec F S1024x2816 .f32 := broadcastInDim S1024x2816 ![] bcast_S_S1024x2816 main_cst_0
  let main_v6 : IVec S1024x2816 1 := cmpf .olt main_v4 main_v5
  let main_c_1 : IVec S_ 1 := constantI S_ 1 1#1
  let main_v7 : IVec S_ 1 := (fun x v => Host.reduce IntOp.andi x v reducesTo_S1024x2816_S_d0_1 h_S_) main_v6 main_c_1
  let main_v8 : FVec F S1024x2816 .f32 := Host.absf main_arg2
  let main_cst_2 : FVec F S_ .f32 := constant S_ .f32 0x7F800000#32
  let main_v9 : FVec F S1024x2816 .f32 := broadcastInDim S1024x2816 ![] bcast_S_S1024x2816 main_cst_2
  let main_v10 : IVec S1024x2816 1 := cmpf .olt main_v8 main_v9
  let main_c_3 : IVec S_ 1 := constantI S_ 1 1#1
  let main_v11 : IVec S_ 1 := (fun x v => Host.reduce IntOp.andi x v reducesTo_S1024x2816_S_d0_1 h_S_) main_v10 main_c_3
  let main_v12 : FVec F S2816x1024 .f32 := Host.absf main_arg3
  let main_cst_4 : FVec F S_ .f32 := constant S_ .f32 0x7F800000#32
  let main_v13 : FVec F S2816x1024 .f32 := broadcastInDim S2816x1024 ![] bcast_S_S2816x1024 main_cst_4
  let main_v14 : IVec S2816x1024 1 := cmpf .olt main_v12 main_v13
  let main_c_5 : IVec S_ 1 := constantI S_ 1 1#1
  let main_v15 : IVec S_ 1 := (fun x v => Host.reduce IntOp.andi x v reducesTo_S2816x1024_S_d0_1 h_S_) main_v14 main_c_5
  fn_part1 (F := F) main_arg4 main_v3 main_v7 main_v11 main_v15
-- ==== Pre_finite6.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x3584 : S_.BroadcastsInDim S1024x3584 (![] : Fin 0 → Fin S1024x3584.rank)
  reducesTo_S1024x3584_S_d0_1 : S1024x3584.ReducesTo [0, 1] S_
  bitsLt_bf16_f32 : FTy.bits .bf16 < FTy.bits .f32
  bcast_S_S4096x3584 : S_.BroadcastsInDim S4096x3584 (![] : Fin 0 → Fin S4096x3584.rank)
  reducesTo_S4096x3584_S_d0_1 : S4096x3584.ReducesTo [0, 1] S_

variable [Facts]

def fn_part1 {F : FTy → Type} [FloatOps F] (main_arg4 : FVec F S4096x1024 .f32) (main_v3 : IVec S_ 1) (main_v7 : IVec S_ 1) (main_v11 : IVec S_ 1) (main_v15 : IVec S4096x3584 1) (main_c_5 : IVec S_ 1) : IVec S_ 1 :=
  let main_v16 : IVec S_ 1 := (fun x v => Host.reduce IntOp.andi x v reducesTo_S4096x3584_S_d0_1 h_S_) main_v15 main_c_5
  let main_v17 : FVec F S4096x1024 .f32 := Host.absf main_arg4
  let main_cst_6 : FVec F S_ .f32 := constant S_ .f32 0x7F800000#32
  let main_v18 : FVec F S4096x1024 .f32 := broadcastInDim S4096x1024 ![] bcast_S_S4096x1024 main_cst_6
  let main_v19 : IVec S4096x1024 1 := cmpf .olt main_v17 main_v18
  let main_c_7 : IVec S_ 1 := constantI S_ 1 1#1
  let main_v20 : IVec S_ 1 := (fun x v => Host.reduce IntOp.andi x v reducesTo_S4096x1024_S_d0_1 h_S_) main_v19 main_c_7
  let main_v21 : IVec S_ 1 := andi main_v3 main_v7
  let main_v22 : IVec S_ 1 := andi main_v21 main_v11
  let main_v23 : IVec S_ 1 := andi main_v22 main_v16
  let main_v24 : IVec S_ 1 := andi main_v23 main_v20
  main_v24

def fn {F : FTy → Type} [FloatOps F] (main_arg0 : FVec F S4096x1024 .f32) (main_arg1 : FVec F S1x1024 .f32) (main_arg2 : FVec F S1024x3584 .f32) (main_arg3 : FVec F S4096x3584 .bf16) (main_arg4 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : FVec F S1024x3584 .f32 := Host.absf main_arg2
  let main_cst_2 : FVec F S_ .f32 := constant S_ .f32 0x7F800000#32
  let main_v9 : FVec F S1024x3584 .f32 := broadcastInDim S1024x3584 ![] bcast_S_S1024x3584 main_cst_2
  let main_v10 : IVec S1024x3584 1 := cmpf .olt main_v8 main_v9
  let main_c_3 : IVec S_ 1 := constantI S_ 1 1#1
  let main_v11 : IVec S_ 1 := (fun x v => Host.reduce IntOp.andi x v reducesTo_S1024x3584_S_d0_1 h_S_) main_v10 main_c_3
  let main_v12 : FVec F S4096x3584 .f32 := (extf .f32 · bitsLt_bf16_f32) main_arg3
  let main_v13 : FVec F S4096x3584 .f32 := Host.absf main_v12
  let main_cst_4 : FVec F S_ .f32 := constant S_ .f32 0x7F800000#32
  let main_v14 : FVec F S4096x3584 .f32 := broadcastInDim S4096x3584 ![] bcast_S_S4096x3584 main_cst_4
  let main_v15 : IVec S4096x3584 1 := cmpf .olt main_v13 main_v14
  let main_c_5 : IVec S_ 1 := constantI S_ 1 1#1
  fn_part1 (F := F) main_arg4 main_v3 main_v7 main_v11 main_v15 main_c_5
-- ==== Pre_finite9.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  reducesTo_S4096x2816_S_d0_1 : S4096x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_v4 : IVec S_ 1) (main_v8 : IVec S_ 1) (main_v12 : IVec S_ 1) (main_v15 : IVec S4096x1024 1) (main_c_5 : IVec S_ 1) : IVec S_ 1 :=
  let main_v16 : IVec S_ 1 := (fun x v => Host.reduce IntOp.andi x v reducesTo_S4096x1024_S_d0_1 h_S_) main_v15 main_c_5
  let main_v17 : FVec F S1x1024 .f32 := Host.absf main_arg4
  let main_cst_6 : FVec F S_ .f32 := constant S_ .f32 0x7F800000#32
  let main_v18 : FVec F S1x1024 .f32 := broadcastInDim S1x1024 ![] bcast_S_S1x1024 main_cst_6
  let main_v19 : IVec S1x1024 1 := cmpf .olt main_v17 main_v18
  let main_c_7 : IVec S_ 1 := constantI S_ 1 1#1
  let main_v20 : IVec S_ 1 := (fun x v => Host.reduce IntOp.andi x v reducesTo_S1x1024_S_d0_1 h_S_) main_v19 main_c_7
  let main_v21 : IVec S_ 1 := andi main_v4 main_v8
  let main_v22 : IVec S_ 1 := andi main_v21 main_v12
  let main_v23 : IVec S_ 1 := andi main_v22 main_v16
  let main_v24 : IVec S_ 1 := andi main_v23 main_v20
  main_v24

def fn {F : FTy → Type} [FloatOps F] (main_arg0 : FVec F S4096x2816 .bf16) (main_arg1 : FVec F S2816x1024 .f32) (main_arg2 : FVec F S4096x1024 .f32) (main_arg3 : FVec F S4096x1024 .f32) (main_arg4 : FVec F S1x1024 .f32) : IVec S_ 1 :=
  let main_v0 : FVec F S4096x2816 .f32 := (extf .f32 · bitsLt_bf16_f32) main_arg0
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_c : IVec S_ 1 := constantI S_ 1 1#1
  let main_v4 : IVec S_ 1 := (fun x v => Host.reduce IntOp.andi x v reducesTo_S4096x2816_S_d0_1 h_S_) main_v3 main_c
  let main_v5 : FVec F S2816x1024 .f32 := Host.absf main_arg1
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_c_1 : IVec S_ 1 := constantI S_ 1 1#1
  let main_v8 : IVec S_ 1 := (fun x v => Host.reduce IntOp.andi x v reducesTo_S2816x1024_S_d0_1 h_S_) main_v7 main_c_1
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : FVec F S4096x1024 .f32 := Host.absf main_arg3
  let main_cst_4 : FVec F S_ .f32 := constant S_ .f32 0x7F800000#32
  let main_v14 : FVec F S4096x1024 .f32 := broadcastInDim S4096x1024 ![] bcast_S_S4096x1024 main_cst_4
  let main_v15 : IVec S4096x1024 1 := cmpf .olt main_v13 main_v14
  let main_c_5 : IVec S_ 1 := constantI S_ 1 1#1
  fn_part1 (F := F) main_arg4 main_v4 main_v8 main_v12 main_v15 main_c_5
-- ==== Kernel2.lean ====
abbrev S4096x1024 : Shape := ⟨2, ![4096, 1024]⟩
abbrev S1x1024 : Shape := ⟨2, ![1, 1024]⟩
abbrev S1024x2816 : Shape := ⟨2, ![1024, 2816]⟩
abbrev S1024x1024 : Shape := ⟨2, ![1024, 1024]⟩
abbrev S4096x2816 : Shape := ⟨2, ![4096, 2816]⟩
abbrev S2816x1024 : Shape := ⟨2, ![2816, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 19
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S1024x1024, .f32⟩
  | .hbm, ⟨6, _⟩ => ⟨S4096x2816, .bf16⟩
  | .hbm, ⟨7, _⟩ => ⟨S4096x2816, .bf16⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S2816x1024, .f32⟩
  | .hbm, ⟨12, _⟩ => ⟨S2816x1024, .bf16⟩
  | .hbm, ⟨13, _⟩ => ⟨S2816x1024, .f32⟩
  | .hbm, ⟨14, _⟩ => ⟨S2816x1024, .bf16⟩
  | .hbm, ⟨15, _⟩ => ⟨S1024x1024, .bf16⟩
  | .hbm, ⟨16, _⟩ => ⟨S4096x1024, .f32⟩
  | .hbm, ⟨17, _⟩ => ⟨S1x1024, .f32⟩
  | .hbm, ⟨18, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S4096x1024 : Shape := ⟨2, ![4096, 1024]⟩
abbrev S1x1024 : Shape := ⟨2, ![1, 1024]⟩
abbrev S1024x2816 : Shape := ⟨2, ![1024, 2816]⟩
abbrev S1024x1024 : Shape := ⟨2, ![1024, 1024]⟩
abbrev S4096x2816 : Shape := ⟨2, ![4096, 2816]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S1024x1024, .f32⟩
  | .hbm, ⟨6, _⟩ => ⟨S4096x2816, .bf16⟩
  | .hbm, ⟨7, _⟩ => ⟨S4096x2816, .bf16⟩
  | .hbm, ⟨8, _⟩ => ⟨S4096x1024, .f32⟩
  | .hbm, ⟨9, _⟩ => ⟨S4096x2816, .f32⟩
  | .hbm, ⟨10, _⟩ => ⟨S4096x2816, .f32⟩
  | .hbm, ⟨11, _⟩ => ⟨S4096x1024, .f32⟩
  | .hbm, ⟨12, _⟩ => ⟨S4096x1024, .f32⟩
  | .hbm, ⟨13, _⟩ => ⟨S1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S_, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x2816, .f32⟩
  | .hbm, ⟨35, _⟩ => ⟨S4096x2816, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S4096x1024, .f32⟩
  | .hbm, ⟨48, _⟩ => ⟨S_, .f32⟩
  | .hbm, ⟨49, _⟩ => ⟨S4096, .f32⟩
  | .hbm, ⟨50, _⟩ => ⟨S4096x1, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1, .f32⟩
  | .hbm, ⟨55, _⟩ => ⟨S_, .f32⟩
  | .hbm, ⟨56, _⟩ => ⟨S4096x1, .f32⟩
  | .hbm, ⟨57, _⟩ => ⟨S4096x1, .f32⟩
  | .hbm, ⟨58, _⟩ => ⟨S_, .f32⟩
  | .hbm, ⟨59, _⟩ => ⟨S4096, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S1x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_4 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== Kernel3.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 13
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .bf16⟩
  | .hbm, ⟨7, _⟩ => ⟨S4096x2816, .f32⟩
  | .hbm, ⟨8, _⟩ => ⟨S4096x2816, .bf16⟩
  | .hbm, ⟨9, _⟩ => ⟨S4096x1024, .bf16⟩
  | .hbm, ⟨10, _⟩ => ⟨S2816x1024, .bf16⟩
  | .hbm, ⟨11, _⟩ => ⟨S4096x2816, .bf16⟩
  | .hbm, ⟨12, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .bf16⟩
  | .hbm, ⟨30, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Kernel4.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .bf16⟩
  | .hbm, ⟨3, _⟩ => ⟨S4096x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x1024 : Shape := ⟨2, ![4096, 1024]⟩
abbrev S1024x2816 : Shape := ⟨2, ![1024, 2816]⟩
abbrev S4096x2816 : Shape := ⟨2, ![4096, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S4096x2816, .bf16⟩
  | .hbm, ⟨3, _⟩ => ⟨S4096x2816, .f32⟩
  | .hbm, ⟨4, _⟩ => ⟨S4096x2816, .f32⟩
  | .hbm, ⟨5, _⟩ => ⟨S2816x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S3584x1024 : Shape := ⟨2, ![3584, 1024]⟩
abbrev S4096x512 : Shape := ⟨2, ![4096, 512]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S3584x1024, .f32⟩
  | .hbm, ⟨6, _⟩ => ⟨S3584x1024, .bf16⟩
  | .hbm, ⟨7, _⟩ => ⟨S4096x512, .bf16⟩
  | .hbm, ⟨8, _⟩ => ⟨S4096x512, .bf16⟩
  | .hbm, ⟨9, _⟩ => ⟨S4096x512, .bf16⟩
  | .hbm, ⟨10, _⟩ => ⟨S4096x512, .bf16⟩
  | .hbm, ⟨11, _⟩ => ⟨S4096x512, .bf16⟩
  | .hbm, ⟨12, _⟩ => ⟨S4096x512, .bf16⟩
  | .hbm, ⟨13, _⟩ => ⟨S4096x512, .bf16⟩
  | .hbm, ⟨14, _⟩ => ⟨S4096x1024, .f32⟩
  | .hbm, ⟨15, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x512, .bf16⟩
  | .local _ .vmem, ⟨4, _⟩ => ⟨S512x512, .bf16⟩
  | .local _ .vmem, ⟨5, _⟩ => ⟨S512x1024, .bf16⟩
  | .local _ .vmem, ⟨6, _⟩ => ⟨S512x512, .bf16⟩
  | .local _ .vmem, ⟨7, _⟩ => ⟨S512x512, .bf16⟩
  | .local _ .vmem, ⟨8, _⟩ => ⟨S512x1024, .bf16⟩
  | .local _ .vmem, ⟨9, _⟩ => ⟨S512x512, .bf16⟩
  | .local _ .vmem, ⟨10, _⟩ => ⟨S512x512, .bf16⟩
  | .local _ .vmem, ⟨11, _⟩ => ⟨S512x1024, .bf16⟩
  | .local _ .vmem, ⟨12, _⟩ => ⟨S512x512, .bf16⟩
  | .local _ .vmem, ⟨13, _⟩ => ⟨S512x512, .bf16⟩
  | .local _ .vmem, ⟨14, _⟩ => ⟨S512x1024, .bf16⟩
  | .local _ .vmem, ⟨15, _⟩ => ⟨S512x512, .bf16⟩
  | .local _ .vmem, ⟨16, _⟩ => ⟨S512x512, .bf16⟩
  | .local _ .vmem, ⟨17, _⟩ => ⟨S512x1024, .bf16⟩
  | .local _ .vmem, ⟨18, _⟩ => ⟨S512x512, .bf16⟩
  | .local _ .vmem, ⟨19, _⟩ => ⟨S512x512, .bf16⟩
  | .local _ .vmem, ⟨20, _⟩ => ⟨S512x1024, .bf16⟩
  | .local _ .vmem, ⟨21, _⟩ => ⟨S512x1024, .f32⟩
  | .local _ .vmem, ⟨22, _⟩ => ⟨S512x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c3_i32 : BitVec 32 := 3#32
  let c0_i32 : BitVec 32 := 0#32
  let c0_i32_0 : BitVec 32 := 0#32
  ![c3_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c5_i32 : BitVec 32 := 5#32
  let c0_i32 : BitVec 32 := 0#32
  let c0_i32_0 : BitVec 32 := 0#32
  ![c5_i32.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c6_i32 : BitVec 32 := 6#32
  let c0_i32 : BitVec 32 := 0#32
  let c0_i32_0 : BitVec 32 := 0#32
  ![c6_i32.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference6Ideal.lean ====
abbrev S4096x1024 : Shape := ⟨2, ![4096, 1024]⟩
abbrev S1x1024 : Shape := ⟨2, ![1, 1024]⟩
abbrev S1024x3584 : Shape := ⟨2, ![1024, 3584]⟩
abbrev S4096x3584 : Shape := ⟨2, ![4096, 3584]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 56
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3584, .f32⟩
  | .hbm, ⟨3, _⟩ => ⟨S4096x3584, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x3584, .f32⟩
  | .hbm, ⟨27, _⟩ => ⟨S4096x3584, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== Kernel7.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x1024, .bf16⟩
  | .hbm, ⟨4, _⟩ => ⟨S2816x1024, .f32⟩
  | .hbm, ⟨5, _⟩ => ⟨S2816x1024, .bf16⟩
  | .hbm, ⟨6, _⟩ => ⟨S2816x1024, .f32⟩
  | .hbm, ⟨7, _⟩ => ⟨S2816x1024, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S4096x1024 : Shape := ⟨2, ![4096, 1024]⟩
abbrev S1024x2816 : Shape := ⟨2, ![1024, 2816]⟩
abbrev S4096x2816 : Shape := ⟨2, ![4096, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S4096x2816, .bf16⟩
  | .hbm, ⟨17, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel8.lean ====
abbrev S4096x1024 : Shape := ⟨2, ![4096, 1024]⟩
abbrev S1024x3584 : Shape := ⟨2, ![1024, 3584]⟩
abbrev S3584x1024 : Shape := ⟨2, ![3584, 1024]⟩
abbrev S4096x2048 : Shape := ⟨2, ![4096, 2048]⟩
abbrev S4096x1536 : Shape := ⟨2, ![4096, 1536]⟩
abbrev S1024x1024 : Shape := ⟨2, ![1024, 1024]⟩
abbrev S1024x2048 : Shape := ⟨2, ![1024, 2048]⟩
abbrev S1024x1536 : Shape := ⟨2, ![1024, 1536]⟩
abbrev S2048x1024 : Shape := ⟨2, ![2048, 1024]⟩
abbrev S1536x1024 : Shape := ⟨2, ![1536, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S4096x1024, .bf16⟩
  | .hbm, ⟨3, _⟩ => ⟨S3584x1024, .f32⟩
  | .hbm, ⟨4, _⟩ => ⟨S3584x1024, .bf16⟩
  | .hbm, ⟨5, _⟩ => ⟨S4096x2048, .f32⟩
  | .hbm, ⟨6, _⟩ => ⟨S4096x1536, .bf16⟩
  | .local _ .vmem, ⟨0, _⟩ => ⟨S1024x1024, .bf16⟩
  | .local _ .vmem, ⟨1, _⟩ => ⟨S1024x1024, .bf16⟩
  | .local _ .vmem, ⟨2, _⟩ => ⟨S3584x1024, .bf16⟩
  | .local _ .vmem, ⟨3, _⟩ => ⟨S1024x2048, .f32⟩
  | .local _ .vmem, ⟨4, _⟩ => ⟨S1024x2048, .f32⟩
  | .local _ .vmem, ⟨5, _⟩ => ⟨S1024x1536, .bf16⟩
  | .local _ .vmem, ⟨6, _⟩ => ⟨S1024x1536, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3584x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S4096x1024 : Shape := ⟨2, ![4096, 1024]⟩
abbrev S1024x3584 : Shape := ⟨2, ![1024, 3584]⟩
abbrev S4096x3584 : Shape := ⟨2, ![4096, 3584]⟩
abbrev S4096x2048 : Shape := ⟨2, ![4096, 2048]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3584, .f32⟩
  | .hbm, ⟨2, _⟩ => ⟨S4096x3584, .f32⟩
  | .hbm, ⟨3, _⟩ => ⟨S4096x2048, .f32⟩
  | .hbm, ⟨4, _⟩ => ⟨S4096x1536, .f32⟩
  | .hbm, ⟨5, _⟩ => ⟨S4096x1536, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S2816x1024, .bf16⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference9Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x128 : Shape := ⟨2, ![1, 128]⟩

abbrev nBuf : Space → Nat
  | .hbm => 80
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1x1024, .f32⟩
  | .hbm, ⟨78, _⟩ => ⟨S4096x1024, .bf16⟩
  | .hbm, ⟨79, _⟩ => ⟨S1x128, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel10.lean ====
abbrev S4096x2816 : Shape := ⟨2, ![4096, 2816]⟩
abbrev S2816x1024 : Shape := ⟨2, ![2816, 1024]⟩
abbrev S4096x1024 : Shape := ⟨2, ![4096, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8x448x1024 : Shape := ⟨3, ![8, 448, 1024]⟩
abbrev S1024x448 : Shape := ⟨2, ![1024, 448]⟩
abbrev S448x1024 : Shape := ⟨2, ![448, 1024]⟩
abbrev S8x224x1024 : Shape := ⟨3, ![8, 224, 1024]⟩
abbrev S224x1024 : Shape := ⟨2, ![224, 1024]⟩
abbrev S1x224x1024 : Shape := ⟨3, ![1, 224, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x448x1024, .bf16⟩
  | .hbm, ⟨1, _⟩ => ⟨S1024x448, .f32⟩
  | .hbm, ⟨2, _⟩ => ⟨S1024x448, .f32⟩
  | .hbm, ⟨3, _⟩ => ⟨S1024x448, .f32⟩
  | .hbm, ⟨4, _⟩ => ⟨S448x1024, .f32⟩
  | .hbm, ⟨5, _⟩ => ⟨S448x1024, .f32⟩
  | .hbm, ⟨6, _⟩ => ⟨S448x1024, .f32⟩
  | .hbm, ⟨7, _⟩ => ⟨S448x1024, .f32⟩
  | .hbm, ⟨8, _⟩ => ⟨S448x1024, .f32⟩
  | .hbm, ⟨9, _⟩ => ⟨S448x1024, .f32⟩
  | .hbm, ⟨10, _⟩ => ⟨S448x1024, .f32⟩
  | .local _ .vmem, ⟨0, _⟩ => ⟨S8x224x1024, .bf16⟩
  | .local _ .vmem, ⟨1, _⟩ => ⟨S8x224x1024, .bf16⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | .local _ .vmem, ⟨9, _⟩ => ⟨S224x1024, .f32⟩
  | .local _ .vmem, ⟨10, _⟩ => ⟨S224x1024, .f32⟩
  | .local _ .vmem, ⟨11, _⟩ => ⟨S224x1024, .f32⟩
  | .local _ .vmem, ⟨12, _⟩ => ⟨S224x1024, .f32⟩
  | .local _ .vmem, ⟨13, _⟩ => ⟨S224x1024, .f32⟩
  | .local _ .vmem, ⟨14, _⟩ => ⟨S224x1024, .f32⟩
  | .local _ .vmem, ⟨15, _⟩ => ⟨S224x1024, .f32⟩
  | _, _ => ⟨S8x448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x224x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S224x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S224x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S224x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S224x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S224x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S224x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S224x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S8x448x1024 : Shape := ⟨3, ![8, 448, 1024]⟩
abbrev S1024x448 : Shape := ⟨2, ![1024, 448]⟩
abbrev S_ : Shape := ⟨0, ![]⟩
abbrev S448x1024 : Shape := ⟨2, ![448, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x448x1024, .bf16⟩
  | .hbm, ⟨1, _⟩ => ⟨S1024x448, .f32⟩
  | .hbm, ⟨2, _⟩ => ⟨S1024x448, .f32⟩
  | .hbm, ⟨3, _⟩ => ⟨S1024x448, .f32⟩
  | .hbm, ⟨4, _⟩ => ⟨S8x448x1024, .f32⟩
  | .hbm, ⟨5, _⟩ => ⟨S_, .f32⟩
  | .hbm, ⟨6, _⟩ => ⟨S448x1024, .f32⟩
  | .hbm, ⟨7, _⟩ => ⟨S1024x448, .f32⟩
  | .hbm, ⟨8, _⟩ => ⟨S_, .f32⟩
  | .hbm, ⟨9, _⟩ => ⟨S1024x448, .f32⟩
  | .hbm, ⟨10, _⟩ => ⟨S1024x448, .f32⟩
  | .hbm, ⟨11, _⟩ => ⟨S_, .f32⟩
  | .hbm, ⟨12, _⟩ => ⟨S1024x448, .f32⟩
  | .hbm, ⟨13, _⟩ => ⟨S1024x448, .f32⟩
  | .hbm, ⟨14, _⟩ => ⟨S1024x448, .f32⟩
  | .hbm, ⟨15, _⟩ => ⟨S_, .f32⟩
  | .hbm, ⟨16, _⟩ => ⟨S1024x448, .f32⟩
  | .hbm, ⟨17, _⟩ => ⟨S1024x448, .f32⟩
  | .hbm, ⟨18, _⟩ => ⟨S1024x448, .f32⟩
  | .hbm, ⟨19, _⟩ => ⟨S_, .f32⟩
  | .hbm, ⟨20, _⟩ => ⟨S1024x448, .f32⟩
  | .hbm, ⟨21, _⟩ => ⟨S1024x448, .f32⟩
  | .hbm, ⟨22, _⟩ => ⟨S1024x448, .f32⟩
  | .hbm, ⟨23, _⟩ => ⟨S_, .f32⟩
  | .hbm, ⟨24, _⟩ => ⟨S1024x448, .f32⟩
  | .hbm, ⟨25, _⟩ => ⟨S1024x448, .f32⟩
  | .hbm, ⟨26, _⟩ => ⟨S_, .f32⟩
  | .hbm, ⟨27, _⟩ => ⟨S1024x448, .f32⟩
  | .hbm, ⟨28, _⟩ => ⟨S1024x448, .f32⟩
  | .hbm, ⟨29, _⟩ => ⟨S1024x448, .f32⟩
  | .hbm, ⟨30, _⟩ => ⟨S_, .f32⟩
  | .hbm, ⟨31, _⟩ => ⟨S1024x448, .f32⟩
  | .hbm, ⟨32, _⟩ => ⟨S1024x448, .f32⟩
  | .hbm, ⟨33, _⟩ => ⟨S1024x448, .f32⟩
  | .hbm, ⟨34, _⟩ => ⟨S_, .f32⟩
  | .hbm, ⟨35, _⟩ => ⟨S1024x448, .f32⟩
  | .hbm, ⟨36, _⟩ => ⟨S1024x448, .f32⟩
  | .hbm, ⟨37, _⟩ => ⟨S1024x448, .f32⟩
  | .hbm, ⟨38, _⟩ => ⟨S_, .f32⟩
  | .hbm, ⟨39, _⟩ => ⟨S1024x448, .f32⟩
  | .hbm, ⟨40, _⟩ => ⟨S1024x448, .f32⟩
  | .hbm, ⟨41, _⟩ => ⟨S448x1024, .f32⟩
  | .hbm, ⟨42, _⟩ => ⟨S448x1024, .f32⟩
  | .hbm, ⟨43, _⟩ => ⟨S448x1024, .f32⟩
  | .hbm, ⟨44, _⟩ => ⟨S448x1024, .f32⟩
  | _, _ => ⟨S8x448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel12.lean ====
abbrev S8x352x1024 : Shape := ⟨3, ![8, 352, 1024]⟩
abbrev S1024x352 : Shape := ⟨2, ![1024, 352]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .hbm, ⟨10, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8x352x1024 : Shape := ⟨3, ![8, 352, 1024]⟩
abbrev S1024x352 : Shape := ⟨2, ![1024, 352]⟩
abbrev S_ : Shape := ⟨0, ![]⟩
abbrev S352x1024 : Shape := ⟨2, ![352, 1024]⟩

abbrev nBuf : Space → Nat
  | .hbm => 45
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1024x352, .f32⟩
  | .hbm, ⟨2, _⟩ => ⟨S1024x352, .f32⟩
  | .hbm, ⟨3, _⟩ => ⟨S1024x352, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1024x352, .f32⟩
  | .hbm, ⟨8, _⟩ => ⟨S_, .f32⟩
  | .hbm, ⟨9, _⟩ => ⟨S1024x352, .f32⟩
  | .hbm, ⟨10, _⟩ => ⟨S1024x352, .f32⟩
  | .hbm, ⟨11, _⟩ => ⟨S_, .f32⟩
  | .hbm, ⟨12, _⟩ => ⟨S1024x352, .f32⟩
  | .hbm, ⟨13, _⟩ => ⟨S1024x352, .f32⟩
  | .hbm, ⟨14, _⟩ => ⟨S1024x352, .f32⟩
  | .hbm, ⟨15, _⟩ => ⟨S_, .f32⟩
  | .hbm, ⟨16, _⟩ => ⟨S1024x352, .f32⟩
  | .hbm, ⟨17, _⟩ => ⟨S1024x352, .f32⟩
  | .hbm, ⟨18, _⟩ => ⟨S1024x352, .f32⟩
  | .hbm, ⟨19, _⟩ => ⟨S_, .f32⟩
  | .hbm, ⟨20, _⟩ => ⟨S1024x352, .f32⟩
  | .hbm, ⟨21, _⟩ => ⟨S1024x352, .f32⟩
  | .hbm, ⟨22, _⟩ => ⟨S1024x352, .f32⟩
  | .hbm, ⟨23, _⟩ => ⟨S_, .f32⟩
  | .hbm, ⟨24, _⟩ => ⟨S1024x352, .f32⟩
  | .hbm, ⟨25, _⟩ => ⟨S1024x352, .f32⟩
  | .hbm, ⟨26, _⟩ => ⟨S_, .f32⟩
  | .hbm, ⟨27, _⟩ => ⟨S1024x352, .f32⟩
  | .hbm, ⟨28, _⟩ => ⟨S1024x352, .f32⟩
  | .hbm, ⟨29, _⟩ => ⟨S1024x352, .f32⟩
  | .hbm, ⟨30, _⟩ => ⟨S_, .f32⟩
  | .hbm, ⟨31, _⟩ => ⟨S1024x352, .f32⟩
  | .hbm, ⟨32, _⟩ => ⟨S1024x352, .f32⟩
  | .hbm, ⟨33, _⟩ => ⟨S1024x352, .f32⟩
  | .hbm, ⟨34, _⟩ => ⟨S_, .f32⟩
  | .hbm, ⟨35, _⟩ => ⟨S1024x352, .f32⟩
  | .hbm, ⟨36, _⟩ => ⟨S1024x352, .f32⟩
  | .hbm, ⟨37, _⟩ => ⟨S1024x352, .f32⟩
  | .hbm, ⟨38, _⟩ => ⟨S_, .f32⟩
  | .hbm, ⟨39, _⟩ => ⟨S1024x352, .f32⟩
  | .hbm, ⟨40, _⟩ => ⟨S1024x352, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]
-- ==== Kernel13.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference13Ideal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference14Ideal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel15.lean ====
abbrev S1x128 : Shape := ⟨2, ![1, 128]⟩
abbrev S1x1024 : Shape := ⟨2, ![1, 1024]⟩
abbrev S2x512 : Shape := ⟨2, ![2, 512]⟩
abbrev S1x512 : Shape := ⟨2, ![1, 512]⟩
abbrev S_ : Shape := ⟨0, ![]⟩
abbrev S1x896 : Shape := ⟨2, ![1, 896]⟩
abbrev S2x1024 : Shape := ⟨2, ![2, 1024]⟩
abbrev S8x1024 : Shape := ⟨2, ![8, 1024]⟩

abbrev nBuf : Space → Nat
  | .hbm => 60
  | .vmem => 47
  | .smem => 0
  | _ => 0

abbrev bufTy : (tb : Table) → Fin (tcTables nBuf tb) → BufTy
  | .hbm, ⟨0, _⟩ => ⟨S1x128, .f32⟩
  | .hbm, ⟨1, _⟩ => ⟨S1x1024, .f32⟩
  | .hbm, ⟨2, _⟩ => ⟨S2x512, .f32⟩
  | .hbm, ⟨3, _⟩ => ⟨S1x512, .f32⟩
  | .hbm, ⟨4, _⟩ => ⟨S1x512, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S2x512, .f32⟩
  | .hbm, ⟨9, _⟩ => ⟨S1x512, .f32⟩
  | .hbm, ⟨10, _⟩ => ⟨S1x512, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S2x512, .f32⟩
  | .hbm, ⟨15, _⟩ => ⟨S1x512, .f32⟩
  | .hbm, ⟨16, _⟩ => ⟨S1x512, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S2x512, .f32⟩
  | .hbm, ⟨21, _⟩ => ⟨S1x512, .f32⟩
  | .hbm, ⟨22, _⟩ => ⟨S1x512, .f32⟩
  | .hbm, ⟨23, _⟩ => ⟨S1x1024, .f32⟩
  | .hbm, ⟨24, _⟩ => ⟨S1x1024, .f32⟩
  | .hbm, ⟨25, _⟩ => ⟨S1x512, .f32⟩
  | .hbm, ⟨26, _⟩ => ⟨S1x512, .f32⟩
  | .hbm, ⟨27, _⟩ => ⟨S1x1024, .f32⟩
  | .hbm, ⟨28, _⟩ => ⟨S1x1024, .f32⟩
  | .hbm, ⟨29, _⟩ => ⟨S_, .f32⟩
  | .hbm, ⟨30, _⟩ => ⟨S1x896, .f32⟩
  | .hbm, ⟨31, _⟩ => ⟨S1x1024, .f32⟩
  | .hbm, ⟨32, _⟩ => ⟨S_, .f32⟩
  | .hbm, ⟨33, _⟩ => ⟨S2x1024, .f32⟩
  | .hbm, ⟨34, _⟩ => ⟨S8x1024, .f32⟩
  | .hbm, ⟨35, _⟩ => ⟨S1x1024, .f32⟩
  | .hbm, ⟨36, _⟩ => ⟨S2x512, .f32⟩
  | .hbm, ⟨37, _⟩ => ⟨S1x512, .f32⟩
  | .hbm, ⟨38, _⟩ => ⟨S1x512, .f32⟩
  | .hbm, ⟨39, _⟩ => ⟨S1x1024, .f32⟩
  | .hbm, ⟨40, _⟩ => ⟨S1x1024, .f32⟩
  | .hbm, ⟨41, _⟩ => ⟨S1x1024, .f32⟩
  | .hbm, ⟨42, _⟩ => ⟨S2x512, .f32⟩
  | .hbm, ⟨43, _⟩ => ⟨S1x512, .f32⟩
  | .hbm, ⟨44, _⟩ => ⟨S1x512, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S2x512, .f32⟩
  | .hbm, ⟨49, _⟩ => ⟨S1x512, .f32⟩
  | .hbm, ⟨50, _⟩ => ⟨S1x512, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S2x512, .f32⟩
  | .hbm, ⟨55, _⟩ => ⟨S1x512, .f32⟩
  | .hbm, ⟨56, _⟩ => ⟨S1x512, .f32⟩
  | .hbm, ⟨57, _⟩ => ⟨S1x1024, .f32⟩
  | .hbm, ⟨58, _⟩ => ⟨S1x1024, .f32⟩
  | .hbm, ⟨59, _⟩ => ⟨S1x128, .f32⟩
  | .local _ .vmem, ⟨0, _⟩ => ⟨S8x1024, .f32⟩
  | .local _ .vmem, ⟨1, _⟩ => ⟨S1x1024, .f32⟩
  | .local _ .vmem, ⟨2, _⟩ => ⟨S2x512, .f32⟩
  | .local _ .vmem, ⟨3, _⟩ => ⟨S1x512, .f32⟩
  | .local _ .vmem, ⟨4, _⟩ => ⟨S1x512, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S2x512, .f32⟩
  | .local _ .vmem, ⟨9, _⟩ => ⟨S1x512, .f32⟩
  | .local _ .vmem, ⟨10, _⟩ => ⟨S1x512, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S2x512, .f32⟩
  | .local _ .vmem, ⟨15, _⟩ => ⟨S1x512, .f32⟩
  | .local _ .vmem, ⟨16, _⟩ => ⟨S1x512, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S2x512, .f32⟩
  | .local _ .vmem, ⟨21, _⟩ => ⟨S1x512, .f32⟩
  | .local _ .vmem, ⟨22, _⟩ => ⟨S1x512, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S2x512, .f32⟩
  | .local _ .vmem, ⟨27, _⟩ => ⟨S1x512, .f32⟩
  | .local _ .vmem, ⟨28, _⟩ => ⟨S1x512, .f32⟩
  | .local _ .vmem, ⟨29, _⟩ => ⟨S1x1024, .f32⟩
  | .local _ .vmem, ⟨30, _⟩ => ⟨S1x1024, .f32⟩
  | .local _ .vmem, ⟨31, _⟩ => ⟨S1x1024, .f32⟩
  | .local _ .vmem, ⟨32, _⟩ => ⟨S2x512, .f32⟩
  | .local _ .vmem, ⟨33, _⟩ => ⟨S1x512, .f32⟩
  | .local _ .vmem, ⟨34, _⟩ => ⟨S1x512, .f32⟩
  | .local _ .vmem, ⟨35, _⟩ => ⟨S1x1024, .f32⟩
  | .local _ .vmem, ⟨36, _⟩ => ⟨S1x1024, .f32⟩
  | .local _ .vmem, ⟨37, _⟩ => ⟨S1x1024, .f32⟩
  | .local _ .vmem, ⟨38, _⟩ => ⟨S2x512, .f32⟩
  | .local _ .vmem, ⟨39, _⟩ => ⟨S1x512, .f32⟩
  | .local _ .vmem, ⟨40, _⟩ => ⟨S1x512, .f32⟩
  | .local _ .vmem, ⟨41, _⟩ => ⟨S1x1024, .f32⟩
  | .local _ .vmem, ⟨42, _⟩ => ⟨S1x1024, .f32⟩
  | .local _ .vmem, ⟨43, _⟩ => ⟨S1x128, .f32⟩
  | .local _ .vmem, ⟨44, _⟩ => ⟨S8x1024, .f32⟩
  | .local _ .vmem, ⟨45, _⟩ => ⟨S8x1024, .f32⟩
  | .local _ .vmem, ⟨46, _⟩ => ⟨S8x1024, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_cst : Ref sig .tc := ⟨.hbm, 29, rfl⟩
abbrev main_v4 : Ref sig .tc := ⟨.hbm, 30, rfl⟩
abbrev main_v5 : Ref sig .tc := ⟨.hbm, 31, rfl⟩
abbrev main_cst_0 : Ref sig .tc := ⟨.hbm, 32, rfl⟩
abbrev main_v6 : Ref sig .tc := ⟨.hbm, 33, rfl⟩
abbrev main_v7 : Ref sig .tc := ⟨.hbm, 34, rfl⟩
abbrev main_v8_0 : Ref sig .tc := ⟨.hbm, 35, rfl⟩
abbrev main_v8_1 : Ref sig .tc := ⟨.hbm, 36, rfl⟩
abbrev main_v8_2 : Ref sig .tc := ⟨.hbm, 37, rfl⟩
abbrev main_v8_3 : Ref sig .tc := ⟨.hbm, 38, rfl⟩
abbrev main_v8_4 : Ref sig .tc := ⟨.hbm, 39, rfl⟩
abbrev main_v8_5 : Ref sig .tc := ⟨.hbm, 40, rfl⟩
abbrev main_v8_6 : Ref sig .tc := ⟨.hbm, 41, rfl⟩
abbrev main_v8_7 : Ref sig .tc := ⟨.hbm, 42, rfl⟩
abbrev main_v8_8 : Ref sig .tc := ⟨.hbm, 43, rfl⟩
abbrev main_v8_9 : Ref sig .tc := ⟨.hbm, 44, rfl⟩
abbrev main_v8_10 : Ref sig .tc := ⟨.hbm, 45, rfl⟩
abbrev main_v8_11 : Ref sig .tc := ⟨.hbm, 46, rfl⟩
abbrev main_v8_12 : Ref sig .tc := ⟨.hbm, 47, rfl⟩
abbrev main_v8_13 : Ref sig .tc := ⟨.hbm, 48, rfl⟩
abbrev main_v8_14 : Ref sig .tc := ⟨.hbm, 49, rfl⟩
abbrev main_v8_15 : Ref sig .tc := ⟨.hbm, 50, rfl⟩
abbrev main_v8_16 : Ref sig .tc := ⟨.hbm, 51, rfl⟩
abbrev main_v8_17 : Ref sig .tc := ⟨.hbm, 52, rfl⟩
abbrev main_v8_18 : Ref sig .tc := ⟨.hbm, 53, rfl⟩
abbrev main_v8_19 : Ref sig .tc := ⟨.hbm, 54, rfl⟩
abbrev main_v8_20 : Ref sig .tc := ⟨.hbm, 55, rfl⟩
abbrev main_v8_21 : Ref sig .tc := ⟨.hbm, 56, rfl⟩
abbrev main_v8_22 : Ref sig .tc := ⟨.hbm, 57, rfl⟩
abbrev main_v8_23 : Ref sig .tc := ⟨.hbm, 58, rfl⟩
abbrev main_v8_24 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_scratch0 : Ref sig .tc := ⟨.vmem, 44, rfl⟩
abbrev cc0_scratch1 : Ref sig .tc := ⟨.vmem, 45, rfl⟩
abbrev cc0_scratch2 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_42 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_43 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S2x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S2x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x512 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S2x512 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x512 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S1x1024 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S2x512 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S1x512 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x512 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S2x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S1x512 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S1x512 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))
abbrev reads0_41 : Fin grid0.rank → Bool := ![false]

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))
abbrev reads0_42 : Fin grid0.rank → Bool := ![false]

abbrev stage0_43 : Fin 1 → Memref sig .tc .vmem S1x128 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))
abbrev reads0_43 : Fin grid0.rank → Bool := ![false]
-- ==== Reference15Ideal.lean ====
abbrev S1x128 : Shape := ⟨2, ![1, 128]⟩
abbrev S1x1024 : Shape := ⟨2, ![1, 1024]⟩
abbrev S2x512 : Shape := ⟨2, ![2, 512]⟩
abbrev S1x512 : Shape := ⟨2, ![1, 512]⟩
abbrev S_ : Shape := ⟨0, ![]⟩

abbrev nBuf : Space → Nat
  | .hbm => 223
  | .vmem => 0
  | .smem => 0
  | _ => 0

abbrev hbmTy0_0 (i : Nat) : BufTy := match i % 128 with
  | 0 => ⟨S1x128, .f32⟩
  | 1 => ⟨S1x1024, .f32⟩
  | 2 => ⟨S2x512, .f32⟩
  | 3 => ⟨S1x512, .f32⟩
  | 4 => ⟨S1x512, .f32⟩
  | 5 => ⟨S1x1024, .f32⟩
  | 6 => ⟨S1x1024, .f32⟩
  | 7 => ⟨S1x1024, .f32⟩
  | 8 => ⟨S2x512, .f32⟩
  | 9 => ⟨S1x512, .f32⟩
  | 10 => ⟨S1x512, .f32⟩
  | 11 => ⟨S1x1024, .f32⟩
  | 12 => ⟨S1x1024, .f32⟩
  | 13 => ⟨S1x1024, .f32⟩
  | 14 => ⟨S2x512, .f32⟩
  | 15 => ⟨S1x512, .f32⟩
  | 16 => ⟨S1x512, .f32⟩
  | 17 => ⟨S1x1024, .f32⟩
  | 18 => ⟨S1x1024, .f32⟩
  | 19 => ⟨S1x1024, .f32⟩
  | 20 => ⟨S2x512, .f32⟩
  | 21 => ⟨S1x512, .f32⟩
  | 22 => ⟨S1x512, .f32⟩
  | 23 => ⟨S1x1024, .f32⟩
  | 24 => ⟨S1x1024, .f32⟩
  | 25 => ⟨S_, .f32⟩
  | 26 => ⟨S1x1024, .f32⟩
  | 27 => ⟨S1x1024, .f32⟩
  | 28 => ⟨S_, .f32⟩
  | 29 => ⟨S1x1024, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S_, .f32⟩
  | 44 => ⟨S1x1024, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S_, .f32⟩
  | 59 => ⟨S2x512, .f32⟩
  | 60 => ⟨S2x512, .f32⟩
  | 61 => ⟨S_, .f32⟩
  | 62 => ⟨S2x512, .f32⟩
  | 63 => ⟨S2x512, .f32⟩
  | 64 => ⟨S2x512, .f32⟩
  | 65 => ⟨S_, .f32⟩
  | 66 => ⟨S2x512, .f32⟩
  | 67 => ⟨S2x512, .f32⟩
  | 68 => ⟨S2x512, .f32⟩
  | 69 => ⟨S_, .f32⟩
  | 70 => ⟨S2x512, .f32⟩
  | 71 => ⟨S2x512, .f32⟩
  | 72 => ⟨S2x512, .f32⟩
  | 73 => ⟨S_, .f32⟩
  | 74 => ⟨S2x512, .f32⟩
  | 75 => ⟨S2x512, .f32⟩
  | 76 => ⟨S_, .f32⟩
  | 77 => ⟨S2x512, .f32⟩
  | 78 => ⟨S2x512, .f32⟩
  | 79 => ⟨S2x512, .f32⟩
  | 80 => ⟨S_, .f32⟩
  | 81 => ⟨S2x512, .f32⟩
  | 82 => ⟨S2x512, .f32⟩
  | 83 => ⟨S2x512, .f32⟩
  | 84 => ⟨S_, .f32⟩
  | 85 => ⟨S2x512, .f32⟩
  | 86 => ⟨S2x512, .f32⟩
  | 87 => ⟨S2x512, .f32⟩
  | 88 => ⟨S_, .f32⟩
  | 89 => ⟨S2x512, .f32⟩
  | 90 => ⟨S2x512, .f32⟩
  | 91 => ⟨S_, .f32⟩
  | 92 => ⟨S1x512, .f32⟩
  | 93 => ⟨S1x512, .f32⟩
  | 94 => ⟨S_, .f32⟩
  | 95 => ⟨S1x512, .f32⟩
  | 96 => ⟨S1x512, .f32⟩
  | 97 => ⟨S1x512, .f32⟩
  | 98 => ⟨S_, .f32⟩
  | 99 => ⟨S1x512, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S1x512, .f32⟩
  | 106 => ⟨S_, .f32⟩
  | 107 => ⟨S1x512, .f32⟩
  | 108 => ⟨S1x512, .f32⟩
  | 109 => ⟨S_, .f32⟩
  | 110 => ⟨S1x512, .f32⟩
  | 111 => ⟨S1x512, .f32⟩
  | 112 => ⟨S1x512, .f32⟩
  | 113 => ⟨S_, .f32⟩
  | 114 => ⟨S1x512, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S1x512, .f32⟩
  | 121 => ⟨S_, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S_, .f32⟩
  | _ => ⟨S1x128, .f32⟩

abbrev hbmTy0_1 (i : Nat) : BufTy := match i % 128 with
  | 0 => ⟨S1x512, .f32⟩
  | 1 => ⟨S1x512, .f32⟩
  | 2 => ⟨S1x512, .f32⟩
  | 3 => ⟨S_, .f32⟩
  | 4 => ⟨S1x512, .f32⟩
  | 5 => ⟨S1x512, .f32⟩
  | 6 => ⟨S1x512, .f32⟩
  | 7 => ⟨S_, .f32⟩
  | 8 => ⟨S1x512, .f32⟩
  | 9 => ⟨S1x512, .f32⟩
  | 10 => ⟨S1x512, .f32⟩
  | 11 => ⟨S_, .f32⟩
  | 12 => ⟨S1x512, .f32⟩
  | 13 => ⟨S1x512, .f32⟩
  | 14 => ⟨S_, .f32⟩
  | 15 => ⟨S1x512, .f32⟩
  | 16 => ⟨S1x512, .f32⟩
  | 17 => ⟨S1x512, .f32⟩
  | 18 => ⟨S_, .f32⟩
  | 19 => ⟨S1x512, .f32⟩
  | 20 => ⟨S1x512, .f32⟩
  | 21 => ⟨S1x512, .f32⟩
  | 22 => ⟨S_, .f32⟩
  | 23 => ⟨S1x512, .f32⟩
  | 24 => ⟨S1x512, .f32⟩
  | 25 => ⟨S1x512, .f32⟩
  | 26 => ⟨S_, .f32⟩
  | 27 => ⟨S1x512, .f32⟩
  | 28 => ⟨S1x512, .f32⟩
  | 29 => ⟨S_, .f32⟩
  | 30 => ⟨S1x1024, .f32⟩
  | 31 => ⟨S1x1024, .f32⟩
  | 32 => ⟨S_, .f32⟩
  | 33 => ⟨S1x1024, .f32⟩
  | 34 => ⟨S1x1024, .f32⟩
  | 35 => ⟨S1x1024, .f32⟩
  | 36 => ⟨S_, .f32⟩
  | 37 => ⟨S1x1024, .f32⟩
  | 38 => ⟨S1x1024, .f32⟩
  | 39 => ⟨S1x1024, .f32⟩
  | 40 => ⟨S_, .f32⟩
  | 41 => ⟨S1x1024, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S_, .f32⟩
  | 48 => ⟨S1x1024, .f32⟩
  | 49 => ⟨S1x1024, .f32⟩
  | 50 => ⟨S1x1024, .f32⟩
  | 51 => ⟨S_, .f32⟩
  | 52 => ⟨S1x1024, .f32⟩
  | 53 => ⟨S1x1024, .f32⟩
  | 54 => ⟨S1x1024, .f32⟩
  | 55 => ⟨S_, .f32⟩
  | 56 => ⟨S1x1024, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S_, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_cst : Ref sig .tc := ⟨.hbm, 25, rfl⟩
abbrev main_v0 : Ref sig .tc := ⟨.hbm, 26, rfl⟩
abbrev main_v1 : Ref sig .tc := ⟨.hbm, 27, rfl⟩
abbrev main_cst_0 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_cst_1 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst_2 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_cst_3 : Ref sig .tc := ⟨.hbm, 40, rfl⟩
abbrev main_v11 : Ref sig .tc := ⟨.hbm, 41, rfl⟩
abbrev main_v12 : Ref sig .tc := ⟨.hbm, 42, rfl⟩
abbrev main_cst_4 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_cst_5 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_cst_6 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_cst_7 : Ref sig .tc := ⟨.hbm, 55, rfl⟩
abbrev main_v22 : Ref sig .tc := ⟨.hbm, 56, rfl⟩
abbrev main_v23 : Ref sig .tc := ⟨.hbm, 57, rfl⟩
abbrev main_cst_8 : Ref sig .tc := ⟨.hbm, 58, rfl⟩
abbrev main_v24 : Ref sig .tc := ⟨.hbm, 59, rfl⟩
abbrev main_v25 : Ref sig .tc := ⟨.hbm, 60, rfl⟩
abbrev main_cst_9 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_10 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_cst_11 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_cst_12 : Ref sig .tc := ⟨.hbm, 73, rfl⟩
abbrev main_v35 : Ref sig .tc := ⟨.hbm, 74, rfl⟩
abbrev main_v36 : Ref sig .tc := ⟨.hbm, 75, rfl⟩
abbrev main_cst_13 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_14 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_cst_15 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_cst_16 : Ref sig .tc := ⟨.hbm, 88, rfl⟩
abbrev main_v46 : Ref sig .tc := ⟨.hbm, 89, rfl⟩
abbrev main_v47 : Ref sig .tc := ⟨.hbm, 90, rfl⟩
abbrev main_cst_17 : Ref sig .tc := ⟨.hbm, 91, rfl⟩
abbrev main_v48 : Ref sig .tc := ⟨.hbm, 92, rfl⟩
abbrev main_v49 : Ref sig .tc := ⟨.hbm, 93, rfl⟩
abbrev main_cst_18 : Ref sig .tc := ⟨.hbm, 94, rfl⟩
abbrev main_v50 : Ref sig .tc := ⟨.hbm, 95, rfl⟩
abbrev main_v51 : Ref sig .tc := ⟨.hbm, 96, rfl⟩
abbrev main_v52 : Ref sig .tc := ⟨.hbm, 97, rfl⟩
abbrev main_cst_19 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_cst_20 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_21 : Ref sig .tc := ⟨.hbm, 106, rfl⟩
abbrev main_v59 : Ref sig .tc := ⟨.hbm, 107, rfl⟩
abbrev main_v60 : Ref sig .tc := ⟨.hbm, 108, rfl⟩
abbrev main_cst_22 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_cst_23 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_cst_24 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_25 : Ref sig .tc := ⟨.hbm, 121, rfl⟩
abbrev main_v70 : Ref sig .tc := ⟨.hbm, 122, rfl⟩
abbrev main_v71 : Ref sig .tc := ⟨.hbm, 123, rfl⟩
abbrev main_cst_26 : Ref sig .tc := ⟨.hbm, 124, rfl⟩
abbrev main_v72 : Ref sig .tc := ⟨.hbm, 125, rfl⟩
abbrev main_v73 : Ref sig .tc := ⟨.hbm, 126, rfl⟩
abbrev main_cst_27 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_cst_28 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_29 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_30 : Ref sig .tc := ⟨.hbm, 139, rfl⟩
abbrev main_v83 : Ref sig .tc := ⟨.hbm, 140, rfl⟩
abbrev main_v84 : Ref sig .tc := ⟨.hbm, 141, rfl⟩
abbrev main_cst_31 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_cst_32 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_cst_33 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_cst_34 : Ref sig .tc := ⟨.hbm, 154, rfl⟩
abbrev main_v94 : Ref sig .tc := ⟨.hbm, 155, rfl⟩
abbrev main_v95 : Ref sig .tc := ⟨.hbm, 156, rfl⟩
abbrev main_cst_35 : Ref sig .tc := ⟨.hbm, 157, rfl⟩
abbrev main_v96 : Ref sig .tc := ⟨.hbm, 158, rfl⟩
abbrev main_v97 : Ref sig .tc := ⟨.hbm, 159, rfl⟩
abbrev main_cst_36 : Ref sig .tc := ⟨.hbm, 160, rfl⟩
abbrev main_v98 : Ref sig .tc := ⟨.hbm, 161, rfl⟩
abbrev main_v99 : Ref sig .tc := ⟨.hbm, 162, rfl⟩
abbrev main_v100 : Ref sig .tc := ⟨.hbm, 163, rfl⟩
abbrev main_cst_37 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_cst_38 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_cst_39 : Ref sig .tc := ⟨.hbm, 172, rfl⟩
abbrev main_v107 : Ref sig .tc := ⟨.hbm, 173, rfl⟩
abbrev main_v108 : Ref sig .tc := ⟨.hbm, 174, rfl⟩
abbrev main_cst_40 : Ref sig .tc := ⟨.hbm, 175, rfl⟩
abbrev main_v109 : Ref sig .tc := ⟨.hbm, 176, rfl⟩
abbrev main_v110 : Ref sig .tc := ⟨.hbm, 177, rfl⟩
abbrev main_v111 : Ref sig .tc := ⟨.hbm, 178, rfl⟩
abbrev main_cst_41 : Ref sig .tc := ⟨.hbm, 179, rfl⟩
abbrev main_v112 : Ref sig .tc := ⟨.hbm, 180, rfl⟩
abbrev main_v113 : Ref sig .tc := ⟨.hbm, 181, rfl⟩
abbrev main_v114 : Ref sig .tc := ⟨.hbm, 182, rfl⟩
abbrev main_cst_42 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_cst_43 : Ref sig .tc := ⟨.hbm, 187, rfl⟩
abbrev main_v118 : Ref sig .tc := ⟨.hbm, 188, rfl⟩
abbrev main_v119 : Ref sig .tc := ⟨.hbm, 189, rfl⟩
abbrev main_cst_44 : Ref sig .tc := ⟨.hbm, 190, rfl⟩
abbrev main_v120 : Ref sig .tc := ⟨.hbm, 191, rfl⟩
abbrev main_v121 : Ref sig .tc := ⟨.hbm, 192, rfl⟩
abbrev main_cst_45 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_cst_46 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_cst_47 : Ref sig .tc := ⟨.hbm, 201, rfl⟩
abbrev main_v128 : Ref sig .tc := ⟨.hbm, 202, rfl⟩
abbrev main_v129 : Ref sig .tc := ⟨.hbm, 203, rfl⟩
abbrev main_v130 : Ref sig .tc := ⟨.hbm, 204, rfl⟩
abbrev main_cst_48 : Ref sig .tc := ⟨.hbm, 205, rfl⟩
abbrev main_v131 : Ref sig .tc := ⟨.hbm, 206, rfl⟩
abbrev main_v132 : Ref sig .tc := ⟨.hbm, 207, rfl⟩
abbrev main_cst_49 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_50 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_cst_51 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_cst_52 : Ref sig .tc := ⟨.hbm, 220, rfl⟩
abbrev main_v142 : Ref sig .tc := ⟨.hbm, 221, rfl⟩
abbrev main_v143 : Ref sig .tc := ⟨.hbm, 222, rfl⟩

abbrev nD : Nat := 1
abbrev τ : Topo := Topo.v7x

variable {F : FTy → Type} [FloatOps F]
-- ==== Proof.Reals.lean ====
/- Finite entries: the precondition read at an index, and the arithmetic of the ideal reading at real numbers. -/
module

public import Idealize.ShloMosaic.Lib.Pointwise
public import Idealize.ShloMosaic.Lib.ReduceAll
public import Idealize.ShloMosaic.PureOps
public import Idealize.ShloMosaic.PureOps.Ideal

@[expose] public section

noncomputable section

namespace Cert.Reals

open Idealize.ShloMosaic
open scoped BigOperators

/-- The one index of a rank-zero array. -/
instance : Subsingleton (⟨0, ![]⟩ : Shape).Idx := ⟨fun a b => funext fun k => k.elim0⟩

/-- An entry whose magnitude is below the greatest value is a real number. -/
theorem real_of_abs_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  have hlt : max x (-x) < ⊤ := by
    by_contra hn
    simp [hn] at h
  rw [max_lt_iff] at hlt
  refine ⟨x.toReal, (EReal.coe_toReal hlt.1.ne ?_).symm⟩
  rintro rfl
  simp at hlt

/-- An array whose "every entry is finite" says one is an array of real numbers. -/
theorem reals_of_all {S : Shape} {axes : List (Fin S.rank)} (x : FVec Ideal S .f32) (hb : (⟨0, ![]⟩ : Shape).BroadcastsInDim S (![] : Fin 0 → Fin S.rank))
    (hr : S.ReducesTo axes ⟨0, ![]⟩) (hu : 0 < (⟨0, ![]⟩ : Shape).numel) (j : (⟨0, ![]⟩ : Shape).Idx)
    (e : Host.reduce IntOp.andi (cmpf .olt (Host.absf x) (broadcastInDim S ![] hb (constant (F := Ideal) ⟨0, ![]⟩ .f32 0x7F800000#32))) (constantI ⟨0, ![]⟩ 1 1#1) hr hu j = 1#1) :
    ∃ r : S.Idx → ℝ, x = fun i => (r i : EReal) := by
  have h : ∀ i, ∃ r : ℝ, (x i : EReal) = (r : EReal) := fun i => real_of_abs_lt _ (Host.reduce_andi_all _ _ hr hu j e i)
  choose r hr using h
  exact ⟨r, funext hr⟩

/-- The two conditions of a conjunction of bits. -/
theorem both {a b : BitVec 1} (h : IntOp.andi a b = 1#1) : a = 1#1 ∧ b = 1#1 := by
  revert a b
  decide

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A sum of products of real numbers. -/
theorem coe_dot {ι : Type} (s : Finset ι) (f g : ι → ℝ) : (∑ i ∈ s, (f i : EReal) * (g i : EReal)) = ((∑ i ∈ s, f i * g i : ℝ) : EReal) := by
  rw [← coe_sum]
  exact Finset.sum_congr rfl fun i _ => (EReal.coe_mul _ _).symm

theorem coe_div (a b : ℝ) (hb : b ≠ 0) : Ideal.div (a : EReal) (b : EReal) = ((a / b : ℝ) : EReal) := by
  have h : (b : EReal) ≠ 0 := by exact_mod_cast hb
  rw [Ideal.div, if_neg h, div_eq_mul_inv, EReal.coe_mul, EReal.coe_inv]

/-- The logistic function at a real number. -/
def sg (r : ℝ) : ℝ := 1 / (1 + Real.exp (-r))

theorem sg_eq (r : ℝ) : Ideal.div 1 (1 + Ideal.exp (-(r : EReal))) = ((sg r : ℝ) : EReal) := by
  have h : (1 : EReal) + Ideal.exp (-(r : EReal)) = ((1 + Real.exp (-r) : ℝ) : EReal) := by
    rw [← EReal.coe_neg, Ideal.exp_coe, EReal.coe_add, EReal.coe_one]
  rw [h]
  exact coe_div 1 _ (by positivity)

theorem sg_pos (r : ℝ) : 0 < sg r := by unfold sg; positivity

end Cert.Reals

end
-- ==== Proof.Norm.lean ====
/- The gradient of a row's norm: the form the calls compute and the form a derivative gives, equal over the reals. -/
module

public import proofs.«01_k».proof.Proof.Reals

@[expose] public section

noncomputable section

namespace Cert.Norm

open Idealize.ShloMosaic
open scoped BigOperators

theorem n1024 : Ideal.ofBits .f32 1149239296#32 = ((1024 : ℝ) : EReal) := by
  simp [Ideal.ofBits, Ideal.ieee]
  norm_num
  rw [← EReal.coe_mul]
  norm_num

theorem half : Ideal.ofBits .f32 1056964608#32 = ((1 / 2 : ℝ) : EReal) := by
  simp [Ideal.ofBits, Ideal.ieee]
  norm_num
  rw [← EReal.coe_mul]
  norm_num

theorem neg_half : Ideal.ofBits .f32 3204448256#32 = ((-(1 / 2) : ℝ) : EReal) := by
  simp [Ideal.ofBits, Ideal.ieee]
  norm_num
  rw [← EReal.coe_mul]
  norm_num

theorem two : Ideal.ofBits .f32 1073741824#32 = ((2 : ℝ) : EReal) := by
  simp [Ideal.ofBits, Ideal.ieee]
  norm_num
  rw [← EReal.coe_mul]
  norm_num

theorem inv1024 : Ideal.ofBits .f32 981467136#32 = ((1 / 1024 : ℝ) : EReal) := by
  simp [Ideal.ofBits, Ideal.ieee]
  norm_num
  rw [← EReal.coe_mul]
  norm_num

theorem eps : ∃ e : ℝ, 0 < e ∧ Ideal.ofBits .f32 897988541#32 = (e : EReal) := by
  refine ⟨8796093 * 2 ^ (-43 : ℤ), by positivity, ?_⟩
  simp [Ideal.ofBits, Ideal.ieee]
  try norm_num

/-- The mean square of a row, with the small constant. -/
def ms (x : Fin 1024 → EReal) : EReal := Ideal.div (∑ k, x k * x k) (Ideal.ofBits .f32 1149239296#32) + Ideal.ofBits .f32 897988541#32

/-- The norm's factor of a row. -/
def rs (x : Fin 1024 → EReal) : EReal := Ideal.rsqrt (ms x)

/-- The gradient of a row `x` of the norm's argument, where `d` is the gradient of the normed row. -/
def back (x d : Fin 1024 → EReal) (j : Fin 1024) : EReal :=
  rs x * (d j - x j * rs x * Ideal.div (∑ k, d k * (x k * rs x)) (Ideal.ofBits .f32 1149239296#32))

theorem ms_real (x : Fin 1024 → EReal) (f : Fin 1024 → ℝ) (hx : ∀ k, x k = (f k : EReal)) :
    ∃ r s : ℝ, ms x = (s : EReal) ∧ rs x = (r : EReal) ∧ r * r * s = 1 ∧ 0 < s := by
  obtain ⟨e, he, hE⟩ := eps
  have h0 : (0 : ℝ) ≤ ∑ k, f k * f k := Finset.sum_nonneg fun k _ => mul_self_nonneg _
  have hs : (0 : ℝ) < (∑ k, f k * f k) / 1024 + e := by positivity
  have hm : ms x = (((∑ k, f k * f k) / 1024 + e : ℝ) : EReal) := by
    unfold ms
    simp only [hx]
    rw [Cert.Reals.coe_dot, n1024, hE, Cert.Reals.coe_div _ _ (by norm_num), EReal.coe_add]
  refine ⟨(Real.sqrt ((∑ k, f k * f k) / 1024 + e))⁻¹, _, hm, ?_, ?_, hs⟩
  · unfold rs
    rw [hm, Ideal.rsqrt_coe, if_neg hs.le.not_gt, if_neg hs.ne']
  · rw [← mul_inv, Real.mul_self_sqrt hs.le, inv_mul_cancel₀ hs.ne']

/-- The derivative's form of the gradient is the calls'. -/
theorem back_ref (x d : Fin 1024 → EReal) (f g : Fin 1024 → ℝ) (hx : ∀ k, x k = (f k : EReal)) (hd : ∀ k, d k = (g k : EReal)) (a : EReal) (ha : ∃ b : ℝ, a = (b : EReal)) (j : Fin 1024) :
    a + d j * rs x
      + x j * (∑ _z : Fin 1, Ideal.div ((∑ k, x k * d k) * (Ideal.ofBits .f32 3204448256#32 * Ideal.div (rs x) (ms x))) (Ideal.ofBits .f32 1149239296#32))
      + (∑ _z : Fin 1, Ideal.div ((∑ k, x k * d k) * (Ideal.ofBits .f32 3204448256#32 * Ideal.div (rs x) (ms x))) (Ideal.ofBits .f32 1149239296#32)) * x j
      = a + back x d j := by
  obtain ⟨b, rfl⟩ := ha
  obtain ⟨r, s, hs, hr, h1, h0⟩ := ms_real x f hx
  unfold back
  rw [hr, hs, n1024, neg_half]
  simp only [hx, hd, Finset.univ_unique, Finset.sum_singleton]
  have e : r / s = r * r * r := by
    rw [div_eq_iff h0.ne', mul_assoc (r * r), mul_comm r s, ← mul_assoc, h1, one_mul]
  simp only [Cert.Reals.coe_div _ _ h0.ne', Cert.Reals.coe_dot, ← EReal.coe_mul, Cert.Reals.coe_sum, Cert.Reals.coe_div _ (1024 : ℝ) (by norm_num), ← EReal.coe_sub, ← EReal.coe_add, e]
  congr 1
  have h2 : ∑ k, g k * (f k * r) = (∑ k, f k * g k) * r := by
    rw [Finset.sum_mul]
    exact Finset.sum_congr rfl fun k _ => by ring
  rw [h2]
  ring

end Cert.Norm

end
-- ==== Proof.DhFfn.lean ====
/- The gradient of the norm before the feed-forward, of its input and of the output projection. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.Value
public import proofs.«01_k».proof.Proof.Norm
public import proofs.«01_k».proof.Proof.Gen.Pre_finite2

@[expose] public section

set_option maxRecDepth 16384

noncomputable section

namespace Cert.Kernel2Ideal.Norm

open Cert.Kernel2Ideal Cert.Kernel2Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- The residual stream before the norm. -/
def xarr (mixed x : FVec Ideal S4096x1024 .f32) (w : FVec Ideal S1024x1024 .f32) : FVec Ideal S4096x1024 .f32 := fun i =>
  (x i : EReal) + ∑ l : Fin 1024, (mixed (ix2 (i 0) l) : EReal) * w (ix2 l (i 1))

/-- The gradient of the norm's result. -/
def dharr (dg du : FVec Ideal S4096x2816 .bf16) (wg wu : FVec Ideal S1024x2816 .f32) : FVec Ideal S4096x1024 .f32 := fun i =>
  (∑ l : Fin 2816, (dg (ix2 (i 0) l) : EReal) * wg (ix2 (i 1) l)) + ∑ l : Fin 2816, (du (ix2 (i 0) l) : EReal) * wu (ix2 (i 1) l)

/-- A row of an array of 1024 columns. -/
def row (x : FVec Ideal S4096x1024 .f32) (R : Fin 4096) : Fin 1024 → EReal := fun k => x (ix2 R k)

/-- The gradient of the norm's argument, added to that of the residual stream. -/
def dx (x dh : FVec Ideal S4096x1024 .f32) (g : FVec Ideal S1x1024 .f32) (res : FVec Ideal S4096x1024 .f32) (R : Fin 4096) (j : Fin 1024) : EReal :=
  (res (ix2 R j) : EReal) + Cert.Norm.back (row x R) (fun k => row dh R k * g (ix2 0 k)) j

def G8 (x dh : FVec Ideal S4096x1024 .f32) (g : FVec Ideal S1x1024 .f32) (res : FVec Ideal S4096x1024 .f32) : FVec Ideal S4096x1024 .f32 := fun i => dx x dh g res (i 0) (i 1)

/-- One row's part of the gradient of the norm's gain (zero past the last row). -/
def term (x dh : FVec Ideal S4096x1024 .f32) (j : Fin 1024) (n : ℕ) : EReal :=
  if h : n < 4096 then row dh ⟨n, h⟩ j * (row x ⟨n, h⟩ j * Cert.Norm.rs (row x ⟨n, h⟩)) else 0

/-- The gradient of the norm's gain: the sum over the rows. -/
def G9 (x dh : FVec Ideal S4096x1024 .f32) : FVec Ideal S1x1024 .f32 := fun i => ∑ n ∈ Finset.range 4096, term x dh (i 1) n

/-- The gradient of the output projection's argument. -/
def G10 (x dh : FVec Ideal S4096x1024 .f32) (g : FVec Ideal S1x1024 .f32) (res : FVec Ideal S4096x1024 .f32) (w : FVec Ideal S1024x1024 .f32) : FVec Ideal S4096x1024 .f32 := fun i =>
  ∑ k : Fin 1024, dx x dh g res (i 0) k * w (ix2 (i 1) k)

theorem V_v1 (c : Dev nD) : (V m c main_v1 : FVec Ideal S4096x1024 .f32) = addf (F := Ideal) (φ := .f32) (m ((c : Thread nD τ).loc main_arg1)) (Host.dotGeneral (F := Ideal) (φ₁ := .f32) (φ₂ := .f32) dot_S4096x1024_S1024x1024_S4096x1024_1_0_0_1_n_n none (m ((c : Thread nD τ).loc main_arg0)) (m ((c : Thread nD τ).loc main_arg5))) := by
  dsimp only [V, hostOps0]
  after_results

theorem V_v3 (c : Dev nD) : (V m c main_v3 : FVec Ideal S2816x1024 .bf16) = truncf (F := Ideal) .bf16 (transpose S2816x1024 [1, 0] ((m ((c : Thread nD τ).loc main_arg3)) : FVec Ideal S1024x2816 .f32) transposes_S1024x2816_S2816x1024_1_0) bitsLt_bf16_f32 := by
  dsimp only [V, hostOps0]
  after_results

theorem V_v5 (c : Dev nD) : (V m c main_v5 : FVec Ideal S2816x1024 .bf16) = truncf (F := Ideal) .bf16 (transpose S2816x1024 [1, 0] ((m ((c : Thread nD τ).loc main_arg4)) : FVec Ideal S1024x2816 .f32) transposes_S1024x2816_S2816x1024_1_0) bitsLt_bf16_f32 := by
  dsimp only [V, hostOps0]
  after_results

theorem V_v6 (c : Dev nD) : (V m c main_v6 : FVec Ideal S1024x1024 .bf16) = truncf (F := Ideal) .bf16 ((m ((c : Thread nD τ).loc main_arg5)) : FVec Ideal S1024x1024 .f32) bitsLt_bf16_f32 := by
  dsimp only [V, hostOps0]
  after_results

/-- The index maps, over the grid. -/
theorem idx_all : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0
    ∧ win0_7.index t (0 : Fin 2) = 0
    ∧ win0_7.index t (1 : Fin 2) = 0
    ∧ win0_8.index t (0 : Fin 2) = t.val
    ∧ win0_8.index t (1 : Fin 2) = 0
    ∧ win0_9.index t (0 : Fin 2) = 0
    ∧ win0_9.index t (1 : Fin 2) = 0
    ∧ win0_10.index t (0 : Fin 2) = t.val
    ∧ win0_10.index t (1 : Fin 2) = 0
    ∧ (cfg0.win 8).flush t = true
    ∧ (cfg0.win 10).flush t = true :=
  (by decide +kernel : ∀ t : Fin grid0.N, _)

/-- The block of operand 0 at a point. -/
theorem blk0 (c : Dev nD) (t : Fin cfg0.N) (r : Fin 512) (k : Fin 2816) (R : Fin 4096) (K : Fin 2816)
    (hR : R.val = (t.val) * 512 + r.val) (hK : K.val = (0) * 2816 + k.val) :
    (iblk m c 0 t : Vec Ideal S512x2816 .bf16) (ix2 r k) = (V m c main_arg6 : Vec Ideal S4096x2816 .bf16) (ix2 R K) := by
  obtain ⟨e0, e1, -⟩ := idx_all t
  show (V m c main_arg6 : Vec Ideal S4096x2816 .bf16) (((cfg0.win 0).blk t).view.emb (ix2 r k)) = _
  refine congrArg _ (funext fun a => Fin.ext ?_)
  match a with
  | ⟨0, _⟩ => show win0_0.index t (0 : Fin 2) * 512 + 1 * r.val = R.val; rw [e0, hR]; omega
  | ⟨1, _⟩ => show win0_0.index t (1 : Fin 2) * 2816 + 1 * k.val = K.val; rw [e1, hK]; omega

/-- The block of operand 1 at a point. -/
theorem blk1 (c : Dev nD) (t : Fin cfg0.N) (r : Fin 2816) (k : Fin 1024) (R : Fin 2816) (K : Fin 1024)
    (hR : R.val = (0) * 2816 + r.val) (hK : K.val = (0) * 1024 + k.val) :
    (iblk m c 1 t : Vec Ideal S2816x1024 .bf16) (ix2 r k) = (V m c main_v3 : Vec Ideal S2816x1024 .bf16) (ix2 R K) := by
  obtain ⟨-, -, e0, e1, -⟩ := idx_all t
  show (V m c main_v3 : Vec Ideal S2816x1024 .bf16) (((cfg0.win 1).blk t).view.emb (ix2 r k)) = _
  refine congrArg _ (funext fun a => Fin.ext ?_)
  match a with
  | ⟨0, _⟩ => show win0_1.index t (0 : Fin 2) * 2816 + 1 * r.val = R.val; rw [e0, hR]; omega
  | ⟨1, _⟩ => show win0_1.index t (1 : Fin 2) * 1024 + 1 * k.val = K.val; rw [e1, hK]; omega

/-- The block of operand 2 at a point. -/
theorem blk2 (c : Dev nD) (t : Fin cfg0.N) (r : Fin 512) (k : Fin 2816) (R : Fin 4096) (K : Fin 2816)
    (hR : R.val = (t.val) * 512 + r.val) (hK : K.val = (0) * 2816 + k.val) :
    (iblk m c 2 t : Vec Ideal S512x2816 .bf16) (ix2 r k) = (V m c main_arg7 : Vec Ideal S4096x2816 .bf16) (ix2 R K) := by
  obtain ⟨-, -, -, -, e0, e1, -⟩ := idx_all t
  show (V m c main_arg7 : Vec Ideal S4096x2816 .bf16) (((cfg0.win 2).blk t).view.emb (ix2 r k)) = _
  refine congrArg _ (funext fun a => Fin.ext ?_)
  match a with
  | ⟨0, _⟩ => show win0_2.index t (0 : Fin 2) * 512 + 1 * r.val = R.val; rw [e0, hR]; omega
  | ⟨1, _⟩ => show win0_2.index t (1 : Fin 2) * 2816 + 1 * k.val = K.val; rw [e1, hK]; omega

/-- The block of operand 3 at a point. -/
theorem blk3 (c : Dev nD) (t : Fin cfg0.N) (r : Fin 2816) (k : Fin 1024) (R : Fin 2816) (K : Fin 1024)
    (hR : R.val = (0) * 2816 + r.val) (hK : K.val = (0) * 1024 + k.val) :
    (iblk m c 3 t : Vec Ideal S2816x1024 .bf16) (ix2 r k) = (V m c main_v5 : Vec Ideal S2816x1024 .bf16) (ix2 R K) := by
  obtain ⟨-, -, -, -, -, -, e0, e1, -⟩ := idx_all t
  show (V m c main_v5 : Vec Ideal S2816x1024 .bf16) (((cfg0.win 3).blk t).view.emb (ix2 r k)) = _
  refine congrArg _ (funext fun a => Fin.ext ?_)
  match a with
  | ⟨0, _⟩ => show win0_3.index t (0 : Fin 2) * 2816 + 1 * r.val = R.val; rw [e0, hR]; omega
  | ⟨1, _⟩ => show win0_3.index t (1 : Fin 2) * 1024 + 1 * k.val = K.val; rw [e1, hK]; omega

/-- The block of operand 4 at a point. -/
theorem blk4 (c : Dev nD) (t : Fin cfg0.N) (r : Fin 512) (k : Fin 1024) (R : Fin 4096) (K : Fin 1024)
    (hR : R.val = (t.val) * 512 + r.val) (hK : K.val = (0) * 1024 + k.val) :
    (iblk m c 4 t : Vec Ideal S512x1024 .f32) (ix2 r k) = (V m c main_v1 : Vec Ideal S4096x1024 .f32) (ix2 R K) := by
  obtain ⟨-, -, -, -, -, -, -, -, e0, e1, -⟩ := idx_all t
  show (V m c main_v1 : Vec Ideal S4096x1024 .f32) (((cfg0.win 4).blk t).view.emb (ix2 r k)) = _
  refine congrArg _ (funext fun a => Fin.ext ?_)
  match a with
  | ⟨0, _⟩ => show win0_4.index t (0 : Fin 2) * 512 + 1 * r.val = R.val; rw [e0, hR]; omega
  | ⟨1, _⟩ => show win0_4.index t (1 : Fin 2) * 1024 + 1 * k.val = K.val; rw [e1, hK]; omega

/-- The block of operand 5 at a point. -/
theorem blk5 (c : Dev nD) (t : Fin cfg0.N) (r : Fin 1) (k : Fin 1024) (R : Fin 1) (K : Fin 1024)
    (hR : R.val = (0) * 1 + r.val) (hK : K.val = (0) * 1024 + k.val) :
    (iblk m c 5 t : Vec Ideal S1x1024 .f32) (ix2 r k) = (V m c main_arg2 : Vec Ideal S1x1024 .f32) (ix2 R K) := by
  obtain ⟨-, -, -, -, -, -, -, -, -, -, e0, e1, -⟩ := idx_all t
  show (V m c main_arg2 : Vec Ideal S1x1024 .f32) (((cfg0.win 5).blk t).view.emb (ix2 r k)) = _
  refine congrArg _ (funext fun a => Fin.ext ?_)
  match a with
  | ⟨0, _⟩ => show win0_5.index t (0 : Fin 2) * 1 + 1 * r.val = R.val; rw [e0, hR]; omega
  | ⟨1, _⟩ => show win0_5.index t (1 : Fin 2) * 1024 + 1 * k.val = K.val; rw [e1, hK]; omega

/-- The block of operand 6 at a point. -/
theorem blk6 (c : Dev nD) (t : Fin cfg0.N) (r : Fin 512) (k : Fin 1024) (R : Fin 4096) (K : Fin 1024)
    (hR : R.val = (t.val) * 512 + r.val) (hK : K.val = (0) * 1024 + k.val) :
    (iblk m c 6 t : Vec Ideal S512x1024 .f32) (ix2 r k) = (V m c main_arg8 : Vec Ideal S4096x1024 .f32) (ix2 R K) := by
  obtain ⟨-, -, -, -, -, -, -, -, -, -, -, -, e0, e1, -⟩ := idx_all t
  show (V m c main_arg8 : Vec Ideal S4096x1024 .f32) (((cfg0.win 6).blk t).view.emb (ix2 r k)) = _
  refine congrArg _ (funext fun a => Fin.ext ?_)
  match a with
  | ⟨0, _⟩ => show win0_6.index t (0 : Fin 2) * 512 + 1 * r.val = R.val; rw [e0, hR]; omega
  | ⟨1, _⟩ => show win0_6.index t (1 : Fin 2) * 1024 + 1 * k.val = K.val; rw [e1, hK]; omega

/-- The block of operand 7 at a point. -/
theorem blk7 (c : Dev nD) (t : Fin cfg0.N) (r : Fin 1024) (k : Fin 1024) (R : Fin 1024) (K : Fin 1024)
    (hR : R.val = (0) * 1024 + r.val) (hK : K.val = (0) * 1024 + k.val) :
    (iblk m c 7 t : Vec Ideal S1024x1024 .bf16) (ix2 r k) = (V m c main_v6 : Vec Ideal S1024x1024 .bf16) (ix2 R K) := by
  obtain ⟨-, -, -, -, -, -, -, -, -, -, -, -, -, -, e0, e1, -⟩ := idx_all t
  show (V m c main_v6 : Vec Ideal S1024x1024 .bf16) (((cfg0.win 7).blk t).view.emb (ix2 r k)) = _
  refine congrArg _ (funext fun a => Fin.ext ?_)
  match a with
  | ⟨0, _⟩ => show win0_7.index t (0 : Fin 2) * 1024 + 1 * r.val = R.val; rw [e0, hR]; omega
  | ⟨1, _⟩ => show win0_7.index t (1 : Fin 2) * 1024 + 1 * k.val = K.val; rw [e1, hK]; omega

/-- The product of two entries. -/
abbrev mul1 (a b : EReal) : EReal := a * b

section Block

variable (x0 : FVec Ideal S512x2816 .bf16) (x1 : FVec Ideal S2816x1024 .bf16) (x2 : FVec Ideal S512x2816 .bf16) (x3 : FVec Ideal S2816x1024 .bf16) (x4 : FVec Ideal S512x1024 .f32) (x5 : FVec Ideal S1x1024 .f32) (x6 : FVec Ideal S512x1024 .f32) (x7 : FVec Ideal S1024x1024 .bf16)

/-- A block's entry of the gradient of the norm's result. -/
def bdh (r : Fin 512) (j : Fin 1024) : EReal := (∑ l : Fin 2816, (x0 (ix2 r l) : EReal) * x1 (ix2 l j)) + ∑ l : Fin 2816, (x2 (ix2 r l) : EReal) * x3 (ix2 l j)

/-- A block's row of the norm's argument. -/
def brow (r : Fin 512) : Fin 1024 → EReal := fun k => x4 (ix2 r k)

/-- A block's entry of the gradient of the norm's argument. -/
def bdx (r : Fin 512) (j : Fin 1024) : EReal := (x6 (ix2 r j) : EReal) + Cert.Norm.back (brow x4 r) (fun k => bdh x0 x1 x2 x3 r k * x5 (ix2 0 k)) j

theorem pdh (r : Fin 512) (j : Fin 1024) : ((k0_pay5 x0 x1 x2 x3) : FVec Ideal S512x1024 .f32) (ix2 r j) = bdh x0 x1 x2 x3 r j := by
  pointwise [k0_pay5, bdh]

theorem p7 (r : Fin 512) : (k0_pay7 x4 : FVec Ideal S512x1 .f32) (ix2 r 0) = Cert.Norm.rs (brow x4 r) := by
  pointwise [k0_pay7, k0_pay6]
  rfl

theorem pxh (r : Fin 512) (j : Fin 1024) : ((k0_pay8 x4) : FVec Ideal S512x1024 .f32) (ix2 r j) = brow x4 r j * Cert.Norm.rs (brow x4 r) := by
  pointwise [k0_pay8, k0_pay6]
  simp only [p7]
  rfl

theorem p9 (r : Fin 512) (j : Fin 1024) : (k0_pay9 x0 x1 x2 x3 x5 : FVec Ideal S512x1024 .f32) (ix2 r j) = bdh x0 x1 x2 x3 r j * x5 (ix2 0 j) := by
  pointwise [k0_pay9]
  simp only [pdh]

theorem pdx (r : Fin 512) (j : Fin 1024) : ((k0_pay1 (k0_pay7 x4) (k0_pay9 x0 x1 x2 x3 x5) x6 (k0_pay10 x0 x1 x2 x3 x4 x5)) : FVec Ideal S512x1024 .f32) (ix2 r j)
    = bdx x0 x1 x2 x3 x4 x5 x6 r j := by
  pointwise [k0_pay1, k0_pay10]
  simp only [p9, pxh, p7]
  rfl

theorem pnext (r : Fin 512) (j : Fin 1024) : (k0_pay3 (k0_pay7 x4) (k0_pay9 x0 x1 x2 x3 x5) x6 (k0_pay10 x0 x1 x2 x3 x4 x5) x7 : FVec Ideal S512x1024 .f32) (ix2 r j)
    = ∑ k : Fin 1024, mul1 (bdx x0 x1 x2 x3 x4 x5 x6 r k) (x7 (ix2 j k)) := by
  pointwise [k0_pay3]
  simp only [pdx]

theorem pdg (v : FVec Ideal S1x1024 .f32) (j : Fin 1024) : (k0_pay2 (k0_pay5 x0 x1 x2 x3) (k0_pay8 x4) v : FVec Ideal S1x1024 .f32) (ix2 0 j)
    = (v (ix2 0 j) : EReal) + ∑ r : Fin 512, bdh x0 x1 x2 x3 r j * (brow x4 r j * Cert.Norm.rs (brow x4 r)) := by
  pointwise [k0_pay2]
  simp only [pdh, pxh]

end Block

theorem out8_A (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1024x1024 .bf16) (h8 : a8.IsWhole) (a9 : Memref sig .tc .vmem S512x1024 .f32) (h9 : a9.IsWhole) (a10 : Memref sig .tc .vmem S1x1024 .f32) (h10 : a10.IsWhole) (a11 : Memref sig .tc .vmem S512x1024 .f32) (h11 : a11.IsWhole) (hc0 : cond0_0 i) (x0 : Vec Ideal S512x2816 .bf16) (x1 : Vec Ideal S2816x1024 .bf16) (x2 : Vec Ideal S512x2816 .bf16) (x3 : Vec Ideal S2816x1024 .bf16) (x4 : Vec Ideal S512x1024 .f32) (x5 : Vec Ideal S1x1024 .f32) (x6 : Vec Ideal S512x1024 .f32) (x7 : Vec Ideal S1024x1024 .bf16) :
    out0_A_8 c i a1 h1 a2 h2 a3 h3 a4 h4 a5 h5 a6 h6 a7 h7 a8 h8 a9 h9 a10 h10 a11 h11 hc0 x0 x1 x2 x3 x4 x5 x6 x7 = k0_pay1 (k0_pay7 x4) (k0_pay9 x0 x1 x2 x3 x5) x6 (k0_pay10 x0 x1 x2 x3 x4 x5) := by
  unfold out0_A_8
  rw [View.read_writes_eq_canon _ _ _ (cover0_A_8 c i a1 h1 a2 h2 a3 h3 a4 h4 a5 h5 a6 h6 a7 h7 a8 h8 a9 h9 a10 h10 a11 h11 hc0 x0 x1 x2 x3 x4 x5 x6 x7)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h10.read_unread, View.ld_unit_zero (S := S1x1024) hz2, View.ld_unit_zero (S := S512x1024) hz2, View.ld_unit_zero (S := S512x2816) hz2, View.ld_unit_zero (S := S1024x1024) hz2, View.ld_unit_zero (S := S2816x1024) hz2]

theorem out9_A (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1024x1024 .bf16) (h8 : a8.IsWhole) (a9 : Memref sig .tc .vmem S512x1024 .f32) (h9 : a9.IsWhole) (a10 : Memref sig .tc .vmem S1x1024 .f32) (h10 : a10.IsWhole) (a11 : Memref sig .tc .vmem S512x1024 .f32) (h11 : a11.IsWhole) (hc0 : cond0_0 i) (x0 : Vec Ideal S512x2816 .bf16) (x1 : Vec Ideal S2816x1024 .bf16) (x2 : Vec Ideal S512x2816 .bf16) (x3 : Vec Ideal S2816x1024 .bf16) (x4 : Vec Ideal S512x1024 .f32) (x5 : Vec Ideal S1x1024 .f32) (x6 : Vec Ideal S512x1024 .f32) (x7 : Vec Ideal S1024x1024 .bf16) :
    out0_A_9 c i a1 h1 a2 h2 a3 h3 a4 h4 a5 h5 a6 h6 a7 h7 a8 h8 a9 h9 a10 h10 a11 h11 hc0 x0 x1 x2 x3 x4 x5 x6 x7 = k0_pay2 (k0_pay5 x0 x1 x2 x3) (k0_pay8 x4) (k0_pay4 (F := Ideal)) := by
  unfold out0_A_9
  rw [View.read_writes_eq_canon _ _ _ (cover0_A_9 c i a1 h1 a2 h2 a3 h3 a4 h4 a5 h5 a6 h6 a7 h7 a8 h8 a9 h9 a10 h10 a11 h11 hc0 x0 x1 x2 x3 x4 x5 x6 x7)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h10.read_unread, View.ld_unit_zero (S := S1x1024) hz2, View.ld_unit_zero (S := S512x1024) hz2, View.ld_unit_zero (S := S512x2816) hz2, View.ld_unit_zero (S := S1024x1024) hz2, View.ld_unit_zero (S := S2816x1024) hz2]

theorem out10_A (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1024x1024 .bf16) (h8 : a8.IsWhole) (a9 : Memref sig .tc .vmem S512x1024 .f32) (h9 : a9.IsWhole) (a10 : Memref sig .tc .vmem S1x1024 .f32) (h10 : a10.IsWhole) (a11 : Memref sig .tc .vmem S512x1024 .f32) (h11 : a11.IsWhole) (hc0 : cond0_0 i) (x0 : Vec Ideal S512x2816 .bf16) (x1 : Vec Ideal S2816x1024 .bf16) (x2 : Vec Ideal S512x2816 .bf16) (x3 : Vec Ideal S2816x1024 .bf16) (x4 : Vec Ideal S512x1024 .f32) (x5 : Vec Ideal S1x1024 .f32) (x6 : Vec Ideal S512x1024 .f32) (x7 : Vec Ideal S1024x1024 .bf16) :
    out0_A_10 c i a1 h1 a2 h2 a3 h3 a4 h4 a5 h5 a6 h6 a7 h7 a8 h8 a9 h9 a10 h10 a11 h11 hc0 x0 x1 x2 x3 x4 x5 x6 x7 = k0_pay3 (k0_pay7 x4) (k0_pay9 x0 x1 x2 x3 x5) x6 (k0_pay10 x0 x1 x2 x3 x4 x5) x7 := by
  unfold out0_A_10
  rw [View.read_writes_eq_canon _ _ _ (cover0_A_10 c i a1 h1 a2 h2 a3 h3 a4 h4 a5 h5 a6 h6 a7 h7 a8 h8 a9 h9 a10 h10 a11 h11 hc0 x0 x1 x2 x3 x4 x5 x6 x7)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h10.read_unread, View.ld_unit_zero (S := S1x1024) hz2, View.ld_unit_zero (S := S512x1024) hz2, View.ld_unit_zero (S := S512x2816) hz2, View.ld_unit_zero (S := S1024x1024) hz2, View.ld_unit_zero (S := S2816x1024) hz2]

theorem out8_B (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1024x1024 .bf16) (h8 : a8.IsWhole) (a9 : Memref sig .tc .vmem S512x1024 .f32) (h9 : a9.IsWhole) (a10 : Memref sig .tc .vmem S1x1024 .f32) (h10 : a10.IsWhole) (a11 : Memref sig .tc .vmem S512x1024 .f32) (h11 : a11.IsWhole) (hc0 : ¬cond0_0 i) (x0 : Vec Ideal S512x2816 .bf16) (x1 : Vec Ideal S2816x1024 .bf16) (x2 : Vec Ideal S512x2816 .bf16) (x3 : Vec Ideal S2816x1024 .bf16) (x4 : Vec Ideal S512x1024 .f32) (x5 : Vec Ideal S1x1024 .f32) (x6 : Vec Ideal S512x1024 .f32) (x7 : Vec Ideal S1024x1024 .bf16) (y : Vec Ideal S1x1024 .f32) :
    out0_B_8 c i a1 h1 a2 h2 a3 h3 a4 h4 a5 h5 a6 h6 a7 h7 a8 h8 a9 h9 a10 h10 a11 h11 hc0 x0 x1 x2 x3 x4 x5 x6 x7 y = k0_pay1 (k0_pay7 x4) (k0_pay9 x0 x1 x2 x3 x5) x6 (k0_pay10 x0 x1 x2 x3 x4 x5) := by
  unfold out0_B_8
  rw [View.read_writes_eq_canon _ _ _ (cover0_B_8 c i a1 h1 a2 h2 a3 h3 a4 h4 a5 h5 a6 h6 a7 h7 a8 h8 a9 h9 a10 h10 a11 h11 hc0 x0 x1 x2 x3 x4 x5 x6 x7 y)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h10.read_unread, View.ld_unit_zero (S := S1x1024) hz2, View.ld_unit_zero (S := S512x1024) hz2, View.ld_unit_zero (S := S512x2816) hz2, View.ld_unit_zero (S := S1024x1024) hz2, View.ld_unit_zero (S := S2816x1024) hz2]

theorem out9_B (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1024x1024 .bf16) (h8 : a8.IsWhole) (a9 : Memref sig .tc .vmem S512x1024 .f32) (h9 : a9.IsWhole) (a10 : Memref sig .tc .vmem S1x1024 .f32) (h10 : a10.IsWhole) (a11 : Memref sig .tc .vmem S512x1024 .f32) (h11 : a11.IsWhole) (hc0 : ¬cond0_0 i) (x0 : Vec Ideal S512x2816 .bf16) (x1 : Vec Ideal S2816x1024 .bf16) (x2 : Vec Ideal S512x2816 .bf16) (x3 : Vec Ideal S2816x1024 .bf16) (x4 : Vec Ideal S512x1024 .f32) (x5 : Vec Ideal S1x1024 .f32) (x6 : Vec Ideal S512x1024 .f32) (x7 : Vec Ideal S1024x1024 .bf16) (y : Vec Ideal S1x1024 .f32) :
    out0_B_9 c i a1 h1 a2 h2 a3 h3 a4 h4 a5 h5 a6 h6 a7 h7 a8 h8 a9 h9 a10 h10 a11 h11 hc0 x0 x1 x2 x3 x4 x5 x6 x7 y = k0_pay2 (k0_pay5 x0 x1 x2 x3) (k0_pay8 x4) y := by
  unfold out0_B_9
  rw [View.read_writes_eq_canon _ _ _ (cover0_B_9 c i a1 h1 a2 h2 a3 h3 a4 h4 a5 h5 a6 h6 a7 h7 a8 h8 a9 h9 a10 h10 a11 h11 hc0 x0 x1 x2 x3 x4 x5 x6 x7 y)]
  unfold kernelRun0_B
  dsimp only
  sl_unfold_words
  rw [View.canon_unit_zero (S := S1x1024) hz2]
  simp only [View.readAt_eq_ld, h1.read_unread, h2.read_unread, h3.read_unread, h4.read_unread, h5.read_unread, h6.read_unread, h7.read_unread, h8.read_unread, h10.read_unread, View.ld_unit_zero (S := S1x1024) hz2, View.ld_unit_zero (S := S512x1024) hz2, View.ld_unit_zero (S := S512x2816) hz2, View.ld_unit_zero (S := S1024x1024) hz2, View.ld_unit_zero (S := S2816x1024) hz2]

theorem out10_B (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x2816 .bf16) (h3 : a3.IsWhole) (a4 : Memref sig .tc .vmem S2816x1024 .bf16) (h4 : a4.IsWhole) (a5 : Memref sig .tc .vmem S512x1024 .f32) (h5 : a5.IsWhole) (a6 : Memref sig .tc .vmem S1x1024 .f32) (h6 : a6.IsWhole) (a7 : Memref sig .tc .vmem S512x1024 .f32) (h7 : a7.IsWhole) (a8 : Memref sig .tc .vmem S1024x1024 .bf16) (h8 : a8.IsWhole) (a9 : Memref sig .tc .vmem S512x1024 .f32) (h9 : a9.IsWhole) (a10 : Memref sig .tc .vmem S1x1024 .f32) (h10 : a10.IsWhole) (a11 : Memref sig .tc .vmem S512x1024 .f32) (h11 : a11.IsWhole) (hc0 : ¬cond0_0 i) (x0 : Vec Ideal S512x2816 .bf16) (x1 : Vec Ideal S2816x1024 .bf16) (x2 : Vec Ideal S512x2816 .bf16) (x3 : Vec Ideal S2816x1024 .bf16) (x4 : Vec Ideal S512x1024 .f32) (x5 : Vec Ideal S1x1024 .f32) (x6 : Vec Ideal S512x1024 .f32) (x7 : Vec Ideal S1024x1024 .bf16) (y : Vec Ideal S1x1024 .f32) :
    out0_B_10 c i a1 h1 a2 h2 a3 h3 a4 h4 a5 h5 a6 h6 a7 h7 a8 h8 a9 h9 a10 h10 a11 h11 hc0 x0 x1 x2 x3 x4 x5 x6 x7 y = k0_pay3 (k0_pay7 x4) (k0_pay9 x0 x1 x2 x3 x5) x6 (k0_pay10 x0 x1 x2 x3 x4 x5) x7 := by
  unfold out0_B_10
  rw [View.read_writes_eq_canon _ _ _ (cover0_B_10 c i a1 h1 a2 h2 a3 h3 a4 h4 a5 h5 a6 h6 a7 h7 a8 h8 a9 h9 a10 h10 a11 h11 hc0 x0 x1 x2 x3 x4 x5 x6 x7 y)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h10.read_unread, View.ld_unit_zero (S := S1x1024) hz2, View.ld_unit_zero (S := S512x1024) hz2, View.ld_unit_zero (S := S512x2816) hz2, View.ld_unit_zero (S := S1024x1024) hz2, View.ld_unit_zero (S := S2816x1024) hz2]

theorem brow_eq (c : Dev nD) (t : Fin cfg0.N) (r : Fin 512) (R : Fin 4096) (hR : R.val = t.val * 512 + r.val) :
    brow (iblk m c 4 t : FVec Ideal S512x1024 .f32) r = row (xarr (m ((c : Thread nD τ).loc main_arg0)) (m ((c : Thread nD τ).loc main_arg1)) (m ((c : Thread nD τ).loc main_arg5))) R := by
  funext k
  exact (blk4 m c t r k R k hR (by omega)).trans ((congrFun (V_v1 m c) (ix2 R k)).trans (by pointwise [row, xarr]))

theorem bdh_eq (c : Dev nD) (t : Fin cfg0.N) (r : Fin 512) (j : Fin 1024) (R : Fin 4096) (hR : R.val = t.val * 512 + r.val) :
    bdh (iblk m c 0 t : FVec Ideal S512x2816 .bf16) (iblk m c 1 t : FVec Ideal S2816x1024 .bf16) (iblk m c 2 t : FVec Ideal S512x2816 .bf16) (iblk m c 3 t : FVec Ideal S2816x1024 .bf16) r j = row (dharr (m ((c : Thread nD τ).loc main_arg6)) (m ((c : Thread nD τ).loc main_arg7)) (m ((c : Thread nD τ).loc main_arg3)) (m ((c : Thread nD τ).loc main_arg4))) R j := by
  have e0 : ∀ l : Fin 2816, _ := fun l => blk0 m c t r l R l hR (by omega)
  have e2 : ∀ l : Fin 2816, _ := fun l => blk2 m c t r l R l hR (by omega)
  simp only [V_main_arg6] at e0
  simp only [V_main_arg7] at e2
  have e1 : ∀ l : Fin 2816, ((iblk m c 1 t : FVec Ideal S2816x1024 .bf16) (ix2 l j) : EReal) = ((m ((c : Thread nD τ).loc main_arg3)) : FVec Ideal S1024x2816 .f32) (ix2 j l) := fun l =>
    (blk1 m c t l j l j (by omega) (by omega)).trans ((congrFun (V_v3 m c) (ix2 l j)).trans (by pointwise))
  have e3 : ∀ l : Fin 2816, ((iblk m c 3 t : FVec Ideal S2816x1024 .bf16) (ix2 l j) : EReal) = ((m ((c : Thread nD τ).loc main_arg4)) : FVec Ideal S1024x2816 .f32) (ix2 j l) := fun l =>
    (blk3 m c t l j l j (by omega) (by omega)).trans ((congrFun (V_v5 m c) (ix2 l j)).trans (by pointwise))
  unfold bdh row dharr
  exact congrArg₂ (fun a b : EReal => a + b) (Finset.sum_congr rfl fun l _ => congrArg₂ (fun a b : EReal => a * b) (e0 l) (e1 l))
    (Finset.sum_congr rfl fun l _ => congrArg₂ (fun a b : EReal => a * b) (e2 l) (e3 l))

theorem g_eq (c : Dev nD) (t : Fin cfg0.N) (k : Fin 1024) : ((iblk m c 5 t : FVec Ideal S1x1024 .f32) (ix2 0 k) : EReal) = ((m ((c : Thread nD τ).loc main_arg2)) : FVec Ideal S1x1024 .f32) (ix2 0 k) := by
  have e := blk5 m c t 0 k 0 k rfl (by omega)
  rw [V_main_arg2] at e
  exact e

theorem res_eq (c : Dev nD) (t : Fin cfg0.N) (r : Fin 512) (j : Fin 1024) (R : Fin 4096) (J : Fin 1024)
    (hR : R.val = t.val * 512 + r.val) (hJ : J.val = 0 * 1024 + j.val) : ((iblk m c 6 t : FVec Ideal S512x1024 .f32) (ix2 r j) : EReal) = ((m ((c : Thread nD τ).loc main_arg8)) : FVec Ideal S4096x1024 .f32) (ix2 R J) := by
  have e := blk6 m c t r j R J hR hJ
  rw [V_main_arg8] at e
  exact e

theorem w_eq (c : Dev nD) (t : Fin cfg0.N) (j k : Fin 1024) : ((iblk m c 7 t : FVec Ideal S1024x1024 .bf16) (ix2 j k) : EReal) = ((m ((c : Thread nD τ).loc main_arg5)) : FVec Ideal S1024x1024 .f32) (ix2 j k) :=
  (blk7 m c t j k j k (by omega) (by omega)).trans ((congrFun (V_v6 m c) (ix2 j k)).trans (by pointwise))

theorem dx_form (c : Dev nD) (t : Fin cfg0.N) (r : Fin 512) (j : Fin 1024) (R : Fin 4096) (J : Fin 1024)
    (hR : R.val = t.val * 512 + r.val) (hJ : J.val = 0 * 1024 + j.val) :
    bdx (iblk m c 0 t : FVec Ideal S512x2816 .bf16) (iblk m c 1 t : FVec Ideal S2816x1024 .bf16) (iblk m c 2 t : FVec Ideal S512x2816 .bf16) (iblk m c 3 t : FVec Ideal S2816x1024 .bf16) (iblk m c 4 t : FVec Ideal S512x1024 .f32) (iblk m c 5 t : FVec Ideal S1x1024 .f32) (iblk m c 6 t : FVec Ideal S512x1024 .f32) r j = dx (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (m ((c : Thread nD τ).loc main_arg2)) (m ((c : Thread nD τ).loc main_arg8)) R J := by
  obtain rfl : J = j := Fin.ext (by omega)
  unfold dx bdx
  rw [brow_eq m c t r R hR]
  refine congrArg₂ (fun a b : EReal => a + b) (res_eq m c t r J R J hR hJ) (congrArg (fun f => Cert.Norm.back (row (xarr (m ((c : Thread nD τ).loc main_arg0)) (m ((c : Thread nD τ).loc main_arg1)) (m ((c : Thread nD τ).loc main_arg5))) R) f J) (funext fun k => ?_))
  rw [bdh_eq m c t r k R hR]
  exact congrArg (fun a : EReal => row (dharr (m ((c : Thread nD τ).loc main_arg6)) (m ((c : Thread nD τ).loc main_arg7)) (m ((c : Thread nD τ).loc main_arg3)) (m ((c : Thread nD τ).loc main_arg4))) R k * a) (g_eq m c t k)

theorem point8 (c : Dev nD) (t : Fin cfg0.N) (r : Fin 512) (j : Fin 1024) (R : Fin 4096) (J : Fin 1024)
    (hR : R.val = t.val * 512 + r.val) (hJ : J.val = 0 * 1024 + j.val) :
    (outsAt0 m c t.val t.isLt).1 (ix2 r j) = G8 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (m ((c : Thread nD τ).loc main_arg2)) (m ((c : Thread nD τ).loc main_arg8)) (ix2 R J) := by
  by_cases h0 : t.val % 8 = 0
  · rw [outsAt0_A m c t h0]
    dsimp only
    rw [out8_A]
    exact (pdx _ _ _ _ _ _ _ r j).trans (dx_form m c t r j R J hR hJ)
  · rw [outsAt0_B m c t h0]
    dsimp only
    rw [out8_B]
    exact (pdx _ _ _ _ _ _ _ r j).trans (dx_form m c t r j R J hR hJ)

theorem point10 (c : Dev nD) (t : Fin cfg0.N) (r : Fin 512) (j : Fin 1024) (R : Fin 4096) (J : Fin 1024)
    (hR : R.val = t.val * 512 + r.val) (hJ : J.val = 0 * 1024 + j.val) :
    (outsAt0 m c t.val t.isLt).2.2 (ix2 r j) = G10 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (m ((c : Thread nD τ).loc main_arg2)) (m ((c : Thread nD τ).loc main_arg8)) (m ((c : Thread nD τ).loc main_arg5)) (ix2 R J) := by
  obtain rfl : J = j := Fin.ext (by omega)
  have e : (∑ k : Fin 1024, mul1 (bdx (iblk m c 0 t : FVec Ideal S512x2816 .bf16) (iblk m c 1 t : FVec Ideal S2816x1024 .bf16) (iblk m c 2 t : FVec Ideal S512x2816 .bf16) (iblk m c 3 t : FVec Ideal S2816x1024 .bf16) (iblk m c 4 t : FVec Ideal S512x1024 .f32) (iblk m c 5 t : FVec Ideal S1x1024 .f32) (iblk m c 6 t : FVec Ideal S512x1024 .f32) r k) ((iblk m c 7 t : FVec Ideal S1024x1024 .bf16) (ix2 J k))) = G10 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (m ((c : Thread nD τ).loc main_arg2)) (m ((c : Thread nD τ).loc main_arg8)) (m ((c : Thread nD τ).loc main_arg5)) (ix2 R J) :=
    Finset.sum_congr rfl fun k _ => congrArg₂ (fun a b : EReal => a * b) (dx_form m c t r k R k hR (by omega)) (w_eq m c t J k)
  by_cases h0 : t.val % 8 = 0
  · rw [outsAt0_A m c t h0]
    dsimp only
    rw [out10_A]
    exact (pnext _ _ _ _ _ _ _ _ r J).trans e
  · rw [outsAt0_B m c t h0]
    dsimp only
    rw [out10_B]
    exact (pnext _ _ _ _ _ _ _ _ r J).trans e

/-- A point's part of the gradient of the gain is its stretch of the sum. -/
theorem stretch (c : Dev nD) (t : Fin cfg0.N) (j : Fin 1024) :
    ∑ r : Fin 512, bdh (iblk m c 0 t : FVec Ideal S512x2816 .bf16) (iblk m c 1 t : FVec Ideal S2816x1024 .bf16) (iblk m c 2 t : FVec Ideal S512x2816 .bf16) (iblk m c 3 t : FVec Ideal S2816x1024 .bf16) r j * (brow (iblk m c 4 t : FVec Ideal S512x1024 .f32) r j * Cert.Norm.rs (brow (iblk m c 4 t : FVec Ideal S512x1024 .f32) r))
      = ∑ n ∈ Finset.range 512, term (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) j (t.val * 512 + n) := by
  rw [Finset.sum_range (fun n => term (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) j (t.val * 512 + n))]
  refine Finset.sum_congr rfl fun r _ => ?_
  have hr := r.isLt
  have ht : t.val < 8 := lt_of_lt_of_eq t.isLt N_0
  have hlt : t.val * 512 + r.val < 4096 := by omega
  rw [bdh_eq m c t r j ⟨t.val * 512 + r.val, hlt⟩ rfl, brow_eq m c t r ⟨t.val * 512 + r.val, hlt⟩ rfl]
  unfold term
  rw [dif_pos hlt]

/-- The gradient of the gain after point `n`. -/
theorem acc9 (c : Dev nD) (j : Fin 1024) : ∀ (n : ℕ) (h : n < cfg0.N),
    ((outsAt0 m c n h).2.1 (ix2 0 j) : EReal) = ∑ k ∈ Finset.range (n * 512 + 512), term (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) j k := by
  have hz : ((k0_pay4 (F := Ideal) : FVec Ideal S1x1024 .f32) (ix2 0 j) : EReal) = 0 := by pointwise [k0_pay4]
  intro n
  induction n with
  | zero =>
    intro h
    have e : outsAt0 m c 0 h = outsAt0 m c (⟨0, h⟩ : Fin cfg0.N).val (⟨0, h⟩ : Fin cfg0.N).isLt := rfl
    rw [Finset.sum_range_add, ← stretch m c ⟨0, h⟩ j, e, outsAt0_A m c ⟨0, h⟩ rfl]
    dsimp only
    rw [out9_A]
    refine (pdg _ _ _ _ _ _ j).trans ?_
    rw [hz]
    simp
  | succ n ih =>
    intro h
    have hN : n + 1 < 8 := lt_of_lt_of_eq h N_0
    have h0 : ¬(n + 1) % 8 = 0 := by omega
    have e : outsAt0 m c (n + 1) h = outsAt0 m c (⟨n + 1, h⟩ : Fin cfg0.N).val (⟨n + 1, h⟩ : Fin cfg0.N).isLt := rfl
    rw [Finset.sum_range_add, ← stretch m c ⟨n + 1, h⟩ j, e, outsAt0_B m c ⟨n + 1, h⟩ h0]
    dsimp only
    rw [out9_B]
    refine (pdg _ _ _ _ _ _ j).trans ?_
    have hp := ih (Nat.lt_of_succ_lt h)
    rw [show n * 512 + 512 = (n + 1) * 512 by ring] at hp
    exact congrArg (fun a : EReal => a + _) hp

theorem point9 (c : Dev nD) (t : Fin cfg0.N) (r : Fin 1) (j : Fin 1024) (R : Fin 1) (J : Fin 1024) (h1 : t.val % 8 = 7)
    (hR : R.val = 0 * 1 + r.val) (hJ : J.val = 0 * 1024 + j.val) :
    (outsAt0 m c t.val t.isLt).2.1 (ix2 r j) = G9 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (ix2 R J) := by
  obtain rfl : J = j := Fin.ext (by omega)
  obtain rfl : r = 0 := Subsingleton.elim _ _
  have ht : t.val < 8 := lt_of_lt_of_eq t.isLt N_0
  refine (acc9 m c J t.val t.isLt).trans ?_
  rw [show t.val * 512 + 512 = 4096 by omega]
  rfl

/-- What a point writes back to result 0 is its block. -/
theorem flushed8_eq (c : Dev nD) (t : Fin cfg0.N) (hf : (cfg0.win 8).flush t = true) :
    (dats m 0 c).flushed 8 t = ((cfg0.win 8).blk t).view.read (Elt Ideal) (G8 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (m ((c : Thread nD τ).loc main_arg2)) (m ((c : Thread nD τ).loc main_arg8))) := by
  rw [Value.flushed8]
  obtain ⟨-, -, -, -, -, -, -, -, -, -, -, -, -, -, -, -, e0, e1, -⟩ := idx_all t
  funext y
  have ht : t.val < grid0.N := t.isLt
  rw [N_0] at ht
  show (outsAt0 m c t.val t.isLt).1 ((cfg0.win 8).xinj (grid0.coords t) y) = G8 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (m ((c : Thread nD τ).loc main_arg2)) (m ((c : Thread nD τ).loc main_arg8)) (((cfg0.win 8).blk t).view.emb y)
  rw [eq_ix2 (n0 := 512) (n1 := 1024) ((cfg0.win 8).xinj (grid0.coords t) y), eq_ix2 (n0 := 4096) (n1 := 1024) (((cfg0.win 8).blk t).view.emb y)]
  exact point8 m c t _ _ _ _ (by show win0_8.index t (0 : Fin 2) * 512 + 1 * (y 0).val = (t.val) * 512 + (y 0).val; rw [e0]; omega) (by show win0_8.index t (1 : Fin 2) * 1024 + 1 * (y 1).val = (0) * 1024 + (y 1).val; rw [e1]; omega)

/-- Every index of result 0 is in some point's block. -/
theorem cover8 (i : S4096x1024.Idx) : ∃ t : Fin cfg0.N, (cfg0.win 8).flush t = true ∧ i ∈ ((cfg0.win 8).blk t).view.set := by
  have hi0 : (i 0).val < 4096 := (i 0).isLt
  have hi1 : (i 1).val < 1024 := (i 1).isLt
  let t : Fin cfg0.N := ⟨(i 0).val / 512, by show _ < grid0.N; rw [N_0]; omega⟩
  have htv : t.val = (i 0).val / 512 := rfl
  obtain ⟨-, -, -, -, -, -, -, -, -, -, -, -, -, -, -, -, e0, e1, -, -, -, -, hfl, -⟩ := idx_all t
  refine ⟨t, hfl, ?_⟩
  show i ∈ ((View.whole main_v7_0).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + 512; rw [e0]; try rw [htv]
              omega
  | ⟨1, _⟩ => show win0_8.index t (1 : Fin 2) * 1024 ≤ (i 1).val ∧ (i 1).val < win0_8.index t (1 : Fin 2) * 1024 + 1024; rw [e1]; try rw [htv]
              omega

/-- What a point writes back to result 1 is its block. -/
theorem flushed9_eq (c : Dev nD) (t : Fin cfg0.N) (hf : (cfg0.win 9).flush t = true) :
    (dats m 0 c).flushed 9 t = ((cfg0.win 9).blk t).view.read (Elt Ideal) (G9 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4)))) := by
  rw [Value.flushed9]
  obtain ⟨-, -, -, -, -, -, -, -, -, -, -, -, -, -, -, -, -, -, e0, e1, -⟩ := idx_all t
  funext y
  have ht : t.val < grid0.N := t.isLt
  rw [N_0] at ht
  show (outsAt0 m c t.val t.isLt).2.1 ((cfg0.win 9).xinj (grid0.coords t) y) = G9 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (((cfg0.win 9).blk t).view.emb y)
  rw [eq_ix2 (n0 := 1) (n1 := 1024) ((cfg0.win 9).xinj (grid0.coords t) y), eq_ix2 (n0 := 1) (n1 := 1024) (((cfg0.win 9).blk t).view.emb y)]
  exact point9 m c t _ _ _ _ ((flush0_9 t).mp hf) (by show win0_9.index t (0 : Fin 2) * 1 + 1 * (y 0).val = (0) * 1 + (y 0).val; rw [e0]; omega) (by show win0_9.index t (1 : Fin 2) * 1024 + 1 * (y 1).val = (0) * 1024 + (y 1).val; rw [e1]; omega)

/-- Every index of result 1 is in some point's block. -/
theorem cover9 (i : S1x1024.Idx) : ∃ t : Fin cfg0.N, (cfg0.win 9).flush t = true ∧ i ∈ ((cfg0.win 9).blk t).view.set := by
  have hi0 : (i 0).val < 1 := (i 0).isLt
  have hi1 : (i 1).val < 1024 := (i 1).isLt
  let t : Fin cfg0.N := ⟨7, by show _ < grid0.N; rw [N_0]; omega⟩
  have htv : t.val = 7 := rfl
  obtain ⟨-, -, -, -, -, -, -, -, -, -, -, -, -, -, -, -, -, -, e0, e1, -⟩ := idx_all t
  refine ⟨t, (flush0_9 t).mpr (by rw [htv]), ?_⟩
  show i ∈ ((View.whole main_v7_1).slice (win0_9.rect t)).set
  rw [View.set_slice_whole, Rect.mem_set_unit]
  intro a
  match a with
  | ⟨0, _⟩ => show win0_9.index t (0 : Fin 2) * 1 ≤ (i 0).val ∧ (i 0).val < win0_9.index t (0 : Fin 2) * 1 + 1; rw [e0]; try rw [htv]
              omega
  | ⟨1, _⟩ => show win0_9.index t (1 : Fin 2) * 1024 ≤ (i 1).val ∧ (i 1).val < win0_9.index t (1 : Fin 2) * 1024 + 1024; rw [e1]; try rw [htv]
              omega

/-- What a point writes back to result 2 is its block. -/
theorem flushed10_eq (c : Dev nD) (t : Fin cfg0.N) (hf : (cfg0.win 10).flush t = true) :
    (dats m 0 c).flushed 10 t = ((cfg0.win 10).blk t).view.read (Elt Ideal) (G10 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (m ((c : Thread nD τ).loc main_arg2)) (m ((c : Thread nD τ).loc main_arg8)) (m ((c : Thread nD τ).loc main_arg5))) := by
  rw [Value.flushed10]
  obtain ⟨-, -, -, -, -, -, -, -, -, -, -, -, -, -, -, -, -, -, -, -, e0, e1, -⟩ := idx_all t
  funext y
  have ht : t.val < grid0.N := t.isLt
  rw [N_0] at ht
  show (outsAt0 m c t.val t.isLt).2.2 ((cfg0.win 10).xinj (grid0.coords t) y) = G10 (xarr (m ((c : Thread nD τ).loc main_arg0)) (m ((c : Thread nD τ).loc main_arg1)) (m ((c : Thread nD τ).loc main_arg5))) (dharr (m ((c : Thread nD τ).loc main_arg6)) (m ((c : Thread nD τ).loc main_arg7)) (m ((c : Thread nD τ).loc main_arg3)) (m ((c : Thread nD τ).loc main_arg4))) (m ((c : Thread nD τ).loc main_arg2)) (m ((c : Thread nD τ).loc main_arg8)) (m ((c : Thread nD τ).loc main_arg5)) (((cfg0.win 10).blk t).view.emb y)
  rw [eq_ix2 (n0 := 512) (n1 := 1024) ((cfg0.win 10).xinj (grid0.coords t) y), eq_ix2 (n0 := 4096) (n1 := 1024) (((cfg0.win 10).blk t).view.emb y)]
  exact point10 m c t _ _ _ _ (by show win0_10.index t (0 : Fin 2) * 512 + 1 * (y 0).val = (t.val) * 512 + (y 0).val; rw [e0]; omega) (by show win0_10.index t (1 : Fin 2) * 1024 + 1 * (y 1).val = (0) * 1024 + (y 1).val; rw [e1]; omega)

/-- Every index of result 2 is in some point's block. -/
theorem cover10 (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  let t : Fin cfg0.N := ⟨(i 0).val / 512, by show _ < grid0.N; rw [N_0]; omega⟩
  have htv : t.val = (i 0).val / 512 := rfl
  obtain ⟨-, -, -, -, -, -, -, -, -, -, -, -, -, -, -, -, -, -, -, -, e0, e1, -, hfl⟩ := idx_all t
  refine ⟨t, hfl, ?_⟩
  show i ∈ ((View.whole main_v7_2).slice (win0_10.rect t)).set
  rw [View.set_slice_whole, Rect.mem_set_unit]
  intro a
  match a with
  | ⟨0, _⟩ => show win0_10.index t (0 : Fin 2) * 512 ≤ (i 0).val ∧ (i 0).val < win0_10.index t (0 : Fin 2) * 512 + 512; rw [e0]; try rw [htv]
              omega
  | ⟨1, _⟩ => show win0_10.index t (1 : Fin 2) * 1024 ≤ (i 1).val ∧ (i 1).val < win0_10.index t (1 : Fin 2) * 1024 + 1024; rw [e1]; try rw [htv]
              omega

/-- The run, read: the results, the arguments unchanged. -/
theorem run : θ_run defs (onTc (τ := τ) (main (F := Ideal))) ⟨m, fun _ => 0, ρ⟩ fun r => ∀ c : Dev nD,
      r.2.mem ((c.tc : Thread nD τ).loc main_v7_0) = G8 (xarr (m ((c.tc : Thread nD τ).loc main_arg0)) (m ((c.tc : Thread nD τ).loc main_arg1)) (m ((c.tc : Thread nD τ).loc main_arg5))) (dharr (m ((c.tc : Thread nD τ).loc main_arg6)) (m ((c.tc : Thread nD τ).loc main_arg7)) (m ((c.tc : Thread nD τ).loc main_arg3)) (m ((c.tc : Thread nD τ).loc main_arg4))) (m ((c.tc : Thread nD τ).loc main_arg2)) (m ((c.tc : Thread nD τ).loc main_arg8))
      ∧ r.2.mem ((c.tc : Thread nD τ).loc main_v7_1) = G9 (xarr (m ((c.tc : Thread nD τ).loc main_arg0)) (m ((c.tc : Thread nD τ).loc main_arg1)) (m ((c.tc : Thread nD τ).loc main_arg5))) (dharr (m ((c.tc : Thread nD τ).loc main_arg6)) (m ((c.tc : Thread nD τ).loc main_arg7)) (m ((c.tc : Thread nD τ).loc main_arg3)) (m ((c.tc : Thread nD τ).loc main_arg4)))
      ∧ r.2.mem ((c.tc : Thread nD τ).loc main_v7_2) = G10 (xarr (m ((c.tc : Thread nD τ).loc main_arg0)) (m ((c.tc : Thread nD τ).loc main_arg1)) (m ((c.tc : Thread nD τ).loc main_arg5))) (dharr (m ((c.tc : Thread nD τ).loc main_arg6)) (m ((c.tc : Thread nD τ).loc main_arg7)) (m ((c.tc : Thread nD τ).loc main_arg3)) (m ((c.tc : Thread nD τ).loc main_arg4))) (m ((c.tc : Thread nD τ).loc main_arg2)) (m ((c.tc : Thread nD τ).loc main_arg8)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c).1.trans ((dats m 0 c).arrAt_eq_of_cover 8 _ (fun t hf => flushed8_eq m c t hf) cover8), (h c).2.1.trans ((dats m 0 c).arrAt_eq_of_cover 9 _ (fun t hf => flushed9_eq m c t hf) cover9), (h c).2.2.1.trans ((dats m 0 c).arrAt_eq_of_cover 10 _ (fun t hf => flushed10_eq m c t hf) cover10), (h c).2.2.2⟩)
    (Value.run_blocks m ρ)

end Cert.Kernel2Ideal.Norm

namespace Cert.Reference2Ideal.Norm

open Cert.Reference2Ideal Cert.Reference2Ideal.Facts₀ Idealize.ShloMosaic Idealize.ShloMosaic.TcCoe Idealize.SL.Sem
open scoped BigOperators

/-- The precondition read: the arguments are arrays of real numbers. -/
theorem reals (a0 : FVec Ideal S4096x1024 .f32) (a1 : FVec Ideal S4096x1024 .f32) (a2 : FVec Ideal S1x1024 .f32) (a3 : FVec Ideal S1024x2816 .f32) (a4 : FVec Ideal S1024x2816 .f32) (a5 : FVec Ideal S1024x1024 .f32) (a6 : FVec Ideal S4096x2816 .bf16) (a7 : FVec Ideal S4096x2816 .bf16) (a8 : FVec Ideal S4096x1024 .f32) (h : Cert.Pre_finite2.fn (F := Ideal) a0 a1 a2 a3 a4 a5 a6 a7 a8 = fun _ => 1#1) :
    (∃ r : S4096x1024.Idx → ℝ, a0 = fun i => (r i : EReal))
    ∧ (∃ r : S4096x1024.Idx → ℝ, a1 = fun i => (r i : EReal))
    ∧ (∃ r : S1x1024.Idx → ℝ, a2 = fun i => (r i : EReal))
    ∧ (∃ r : S1024x2816.Idx → ℝ, a3 = fun i => (r i : EReal))
    ∧ (∃ r : S1024x2816.Idx → ℝ, a4 = fun i => (r i : EReal))
    ∧ (∃ r : S1024x1024.Idx → ℝ, a5 = fun i => (r i : EReal))
    ∧ (∃ r : S4096x2816.Idx → ℝ, a6 = fun i => (r i : EReal))
    ∧ (∃ r : S4096x2816.Idx → ℝ, a7 = fun i => (r i : EReal))
    ∧ (∃ r : S4096x1024.Idx → ℝ, a8 = fun i => (r i : EReal)) := by
  have e := congrFun h (fun k => k.elim0)
  obtain ⟨e, e8⟩ := Cert.Reals.both e
  obtain ⟨e, e7⟩ := Cert.Reals.both e
  obtain ⟨e, e6⟩ := Cert.Reals.both e
  obtain ⟨e, e5⟩ := Cert.Reals.both e
  obtain ⟨e, e4⟩ := Cert.Reals.both e
  obtain ⟨e, e3⟩ := Cert.Reals.both e
  obtain ⟨e, e2⟩ := Cert.Reals.both e
  obtain ⟨e0, e1⟩ := Cert.Reals.both e
  exact ⟨Cert.Reals.reals_of_all a0 _ _ _ _ e0, Cert.Reals.reals_of_all a1 _ _ _ _ e1, Cert.Reals.reals_of_all a2 _ _ _ _ e2, Cert.Reals.reals_of_all a3 _ _ _ _ e3, Cert.Reals.reals_of_all a4 _ _ _ _ e4, Cert.Reals.reals_of_all a5 _ _ _ _ e5, Cert.Reals.reals_of_all (extf (F := Ideal) .f32 a6 bitsLt_bf16_f32) _ _ _ _ e6, Cert.Reals.reals_of_all (extf (F := Ideal) .f32 a7 bitsLt_bf16_f32) _ _ _ _ e7, Cert.Reals.reals_of_all a8 _ _ _ _ e8⟩

section Row

variable (x dh : FVec Ideal S4096x1024 .f32) (g : FVec Ideal S1x1024 .f32) (res : FVec Ideal S4096x1024 .f32) (f fd : S4096x1024.Idx → ℝ) (fg : S1x1024.Idx → ℝ) (fr : S4096x1024.Idx → ℝ)
  (hx : x = fun i => (f i : EReal)) (hd : dh = fun i => (fd i : EReal)) (hg : g = fun i => (fg i : EReal)) (hr : res = fun i => (fr i : EReal))

include hx hd hg hr

theorem dx_form (R : Fin 4096) (j : Fin 1024) :
    (res (ix2 R j) : EReal) + Cert.Kernel2Ideal.Norm.row dh R j * g (ix2 0 j) * Cert.Norm.rs (Cert.Kernel2Ideal.Norm.row x R)
      + Cert.Kernel2Ideal.Norm.row x R j * (∑ _z : Fin 1, Ideal.div ((∑ k, Cert.Kernel2Ideal.Norm.row x R k * (Cert.Kernel2Ideal.Norm.row dh R k * g (ix2 0 k))) * (Ideal.ofBits .f32 3204448256#32 * Ideal.div (Cert.Norm.rs (Cert.Kernel2Ideal.Norm.row x R)) (Cert.Norm.ms (Cert.Kernel2Ideal.Norm.row x R)))) (Ideal.ofBits .f32 1149239296#32))
      + (∑ _z : Fin 1, Ideal.div ((∑ k, Cert.Kernel2Ideal.Norm.row x R k * (Cert.Kernel2Ideal.Norm.row dh R k * g (ix2 0 k))) * (Ideal.ofBits .f32 3204448256#32 * Ideal.div (Cert.Norm.rs (Cert.Kernel2Ideal.Norm.row x R)) (Cert.Norm.ms (Cert.Kernel2Ideal.Norm.row x R)))) (Ideal.ofBits .f32 1149239296#32)) * Cert.Kernel2Ideal.Norm.row x R j
      = Cert.Kernel2Ideal.Norm.dx x dh g res R j :=
  Cert.Norm.back_ref (Cert.Kernel2Ideal.Norm.row x R) (fun k => Cert.Kernel2Ideal.Norm.row dh R k * g (ix2 0 k)) (fun k => f (ix2 R k)) (fun k => fd (ix2 R k) * fg (ix2 0 k))
    (fun k => by rw [hx]; rfl) (fun k => by rw [hd, hg, EReal.coe_mul]; rfl) (res (ix2 R j)) ⟨fr (ix2 R j), by rw [hr]⟩ j

/-- The lines of the reference that give the gradient of the normalisation's input plus the residual. -/
abbrev dxHost (x : FVec Ideal S4096x1024 .f32) (dh : FVec Ideal S4096x1024 .f32) (g : FVec Ideal S1x1024 .f32) (res : FVec Ideal S4096x1024 .f32) : FVec Ideal S4096x1024 .f32 :=
  (addf (addf (addf res (mulf (mulf dh (broadcastInDim S4096x1024 ![0, 1] bcast_S1x1024_S4096x1024_0_1 (broadcastInDim S1x1024 ![1] bcast_S1024_S1x1024_1 (shapeCast _ g shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32))))))) (mulf x (broadcastInDim S4096x1024 ![0] bcast_S4096_S4096x1024_0 (Host.reduceAdd (Host.divf (mulf (shapeCast _ (Host.reduceAdd (mulf x (mulf dh (broadcastInDim S4096x1024 ![0, 1] bcast_S1x1024_S4096x1024_0_1 (broadcastInDim S1x1024 ![1] bcast_S1024_S1x1024_1 (shapeCast _ g shapeCasts_S1x1024_S1024))))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf dh (broadcastInDim S4096x1024 ![0, 1] bcast_S1x1024_S4096x1024_0_1 (broadcastInDim S1x1024 ![1] bcast_S1024_S1x1024_1 (shapeCast _ g shapeCasts_S1x1024_S1024))))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)) x) : FVec Ideal S4096x1024 .f32)

theorem ref8_at : (dxHost x dh g res) = Cert.Kernel2Ideal.Norm.G8 x dh g res := by
  unfold dxHost
  funext j
  idx_vars j
  have h := dx_form x dh g res f fd fg fr hx hd hg hr j0 j1
  unfold Cert.Kernel2Ideal.Norm.row Cert.Norm.rs Cert.Norm.ms at h
  pointwise
  exact h

/-- The lines of the reference that give the gradient of its gain. -/
abbrev dgHost (x : FVec Ideal S4096x1024 .f32) (dh : FVec Ideal S4096x1024 .f32) : FVec Ideal S1x1024 .f32 :=
  (broadcastInDim S1x1024 ![1] bcast_S1024_S1x1024_1 (Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) dh) (constant (F := Ideal) S_ .f32 0x00000000#32) reducesTo_S4096x1024_S1024_d0 h_S_) shapeCasts_S1024_S1x1024) (constant (F := Ideal) S_ .f32 0x00000000#32) reducesTo_S1x1024_S1024_d0 h_S_) : FVec Ideal S1x1024 .f32)

theorem ref9_at : (dgHost x dh) = Cert.Kernel2Ideal.Norm.G9 x dh := by
  unfold dgHost
  funext j
  idx_vars j
  show _ = ∑ n ∈ Finset.range 4096, Cert.Kernel2Ideal.Norm.term x dh j1 n
  rw [Finset.sum_range]
  pointwise
  rw [Fintype.sum_unique]
  refine Finset.sum_congr rfl fun R _ => ?_
  unfold Cert.Kernel2Ideal.Norm.term
  rw [dif_pos R.isLt, mul_comm]
  rfl

end Row

variable (a0 : FVec Ideal S4096x1024 .f32) (a1 : FVec Ideal S4096x1024 .f32) (a2 : FVec Ideal S1x1024 .f32) (a3 : FVec Ideal S1024x2816 .f32) (a4 : FVec Ideal S1024x2816 .f32) (a5 : FVec Ideal S1024x1024 .f32) (a6 : FVec Ideal S4096x2816 .bf16) (a7 : FVec Ideal S4096x2816 .bf16) (a8 : FVec Ideal S4096x1024 .f32)

theorem x_eq : (addf (F := Ideal) (φ := .f32) a1 (Host.dotGeneral (F := Ideal) (φ₁ := .f32) (φ₂ := .f32) dot_S4096x1024_S1024x1024_S4096x1024_1_0_0_1_n_n none a0 a5)) = Cert.Kernel2Ideal.Norm.xarr a0 a1 a5 := by
  funext j
  idx_vars j
  pointwise [Cert.Kernel2Ideal.Norm.xarr]

theorem dh_eq : (addf (F := Ideal) (φ := .f32) (Host.dotGeneral (F := Ideal) (φ₁ := .f32) (φ₂ := .f32) dot_S4096x2816_S1024x2816_S4096x1024_1_1_0_0_n_n none (extf (F := Ideal) .f32 a7 bitsLt_bf16_f32) a4) (Host.dotGeneral (F := Ideal) (φ₁ := .f32) (φ₂ := .f32) dot_S4096x2816_S1024x2816_S4096x1024_1_1_0_0_n_n none (extf (F := Ideal) .f32 a6 bitsLt_bf16_f32) a3)) = Cert.Kernel2Ideal.Norm.dharr a6 a7 a3 a4 := by
  funext j
  idx_vars j
  pointwise [Cert.Kernel2Ideal.Norm.dharr]
  exact add_comm _ _

theorem x_real (h0 : ∃ r : S4096x1024.Idx → ℝ, a0 = fun i => (r i : EReal)) (h1 : ∃ r : S4096x1024.Idx → ℝ, a1 = fun i => (r i : EReal)) (h5 : ∃ r : S1024x1024.Idx → ℝ, a5 = fun i => (r i : EReal)) :
    ∃ r : S4096x1024.Idx → ℝ, Cert.Kernel2Ideal.Norm.xarr a0 a1 a5 = fun i => (r i : EReal) := by
  obtain ⟨r0, rfl⟩ := h0
  obtain ⟨r1, rfl⟩ := h1
  obtain ⟨r2, rfl⟩ := h5
  refine ⟨fun i => r1 i + ∑ l : Fin 1024, r0 (ix2 (i 0) l) * r2 (ix2 l (i 1)), funext fun i => ?_⟩
  unfold Cert.Kernel2Ideal.Norm.xarr
  rw [Cert.Reals.coe_dot, EReal.coe_add]

theorem dh_real (h6 : ∃ r : S4096x2816.Idx → ℝ, a6 = fun i => (r i : EReal)) (h7 : ∃ r : S4096x2816.Idx → ℝ, a7 = fun i => (r i : EReal))
    (h3 : ∃ r : S1024x2816.Idx → ℝ, a3 = fun i => (r i : EReal)) (h4 : ∃ r : S1024x2816.Idx → ℝ, a4 = fun i => (r i : EReal)) :
    ∃ r : S4096x1024.Idx → ℝ, Cert.Kernel2Ideal.Norm.dharr a6 a7 a3 a4 = fun i => (r i : EReal) := by
  obtain ⟨r6, rfl⟩ := h6
  obtain ⟨r7, rfl⟩ := h7
  obtain ⟨r3, rfl⟩ := h3
  obtain ⟨r4, rfl⟩ := h4
  refine ⟨fun i => (∑ l : Fin 2816, r6 (ix2 (i 0) l) * r3 (ix2 (i 1) l)) + ∑ l : Fin 2816, r7 (ix2 (i 0) l) * r4 (ix2 (i 1) l), funext fun i => ?_⟩
  unfold Cert.Kernel2Ideal.Norm.dharr
  rw [Cert.Reals.coe_dot, Cert.Reals.coe_dot, EReal.coe_add]

theorem ref8 (h : Cert.Pre_finite2.fn (F := Ideal) a0 a1 a2 a3 a4 a5 a6 a7 a8 = fun _ => 1#1) :
    (dxHost (addf (F := Ideal) (φ := .f32) a1 (Host.dotGeneral (F := Ideal) (φ₁ := .f32) (φ₂ := .f32) dot_S4096x1024_S1024x1024_S4096x1024_1_0_0_1_n_n none a0 a5)) (addf (F := Ideal) (φ := .f32) (Host.dotGeneral (F := Ideal) (φ₁ := .f32) (φ₂ := .f32) dot_S4096x2816_S1024x2816_S4096x1024_1_1_0_0_n_n none (extf (F := Ideal) .f32 a7 bitsLt_bf16_f32) a4) (Host.dotGeneral (F := Ideal) (φ₁ := .f32) (φ₂ := .f32) dot_S4096x2816_S1024x2816_S4096x1024_1_1_0_0_n_n none (extf (F := Ideal) .f32 a6 bitsLt_bf16_f32) a3)) a2 a8) = Cert.Kernel2Ideal.Norm.G8 (Cert.Kernel2Ideal.Norm.xarr a0 a1 a5) (Cert.Kernel2Ideal.Norm.dharr a6 a7 a3 a4) a2 a8 := by
  obtain ⟨h0, h1, ⟨fg, hg⟩, h3, h4, h5, h6, h7, ⟨fr, hr⟩⟩ := reals a0 a1 a2 a3 a4 a5 a6 a7 a8 h
  obtain ⟨f, hf⟩ := x_real a0 a1 a5 h0 h1 h5
  obtain ⟨fd, hd⟩ := dh_real a3 a4 a6 a7 h6 h7 h3 h4
  rw [x_eq, dh_eq]
  exact ref8_at _ _ a2 a8 f fd fg fr hf hd hg hr

theorem ref9 (h : Cert.Pre_finite2.fn (F := Ideal) a0 a1 a2 a3 a4 a5 a6 a7 a8 = fun _ => 1#1) :
    (dgHost (addf (F := Ideal) (φ := .f32) a1 (Host.dotGeneral (F := Ideal) (φ₁ := .f32) (φ₂ := .f32) dot_S4096x1024_S1024x1024_S4096x1024_1_0_0_1_n_n none a0 a5)) (addf (F := Ideal) (φ := .f32) (Host.dotGeneral (F := Ideal) (φ₁ := .f32) (φ₂ := .f32) dot_S4096x2816_S1024x2816_S4096x1024_1_1_0_0_n_n none (extf (F := Ideal) .f32 a7 bitsLt_bf16_f32) a4) (Host.dotGeneral (F := Ideal) (φ₁ := .f32) (φ₂ := .f32) dot_S4096x2816_S1024x2816_S4096x1024_1_1_0_0_n_n none (extf (F := Ideal) .f32 a6 bitsLt_bf16_f32) a3))) = Cert.Kernel2Ideal.Norm.G9 (Cert.Kernel2Ideal.Norm.xarr a0 a1 a5) (Cert.Kernel2Ideal.Norm.dharr a6 a7 a3 a4) := by
  obtain ⟨h0, h1, ⟨fg, hg⟩, h3, h4, h5, h6, h7, ⟨fr, hr⟩⟩ := reals a0 a1 a2 a3 a4 a5 a6 a7 a8 h
  obtain ⟨f, hf⟩ := x_real a0 a1 a5 h0 h1 h5
  obtain ⟨fd, hd⟩ := dh_real a3 a4 a6 a7 h6 h7 h3 h4
  rw [x_eq, dh_eq]
  exact ref9_at _ _ a2 a8 f fd fg fr hf hd hg hr

theorem next_eq (y : FVec Ideal S4096x1024 .f32) : (Host.dotGeneral (F := Ideal) (φ₁ := .f32) (φ₂ := .f32) dot_S4096x1024_S1024x1024_S4096x1024_1_1_0_0_n_n none (shapeCast _ y shapeCasts_S4096x1024_S4096x1024) a5 : FVec Ideal S4096x1024 .f32) = fun i => ∑ k : Fin 1024, (y (ix2 (i 0) k) : EReal) * a5 (ix2 (i 1) k) := by
  funext j
  idx_vars j
  pointwise

theorem ref10 (h : Cert.Pre_finite2.fn (F := Ideal) a0 a1 a2 a3 a4 a5 a6 a7 a8 = fun _ => 1#1) :
    (Host.dotGeneral (F := Ideal) (φ₁ := .f32) (φ₂ := .f32) dot_S4096x1024_S1024x1024_S4096x1024_1_1_0_0_n_n none (shapeCast _ (dxHost (addf (F := Ideal) (φ := .f32) a1 (Host.dotGeneral (F := Ideal) (φ₁ := .f32) (φ₂ := .f32) dot_S4096x1024_S1024x1024_S4096x1024_1_0_0_1_n_n none a0 a5)) (addf (F := Ideal) (φ := .f32) (Host.dotGeneral (F := Ideal) (φ₁ := .f32) (φ₂ := .f32) dot_S4096x2816_S1024x2816_S4096x1024_1_1_0_0_n_n none (extf (F := Ideal) .f32 a7 bitsLt_bf16_f32) a4) (Host.dotGeneral (F := Ideal) (φ₁ := .f32) (φ₂ := .f32) dot_S4096x2816_S1024x2816_S4096x1024_1_1_0_0_n_n none (extf (F := Ideal) .f32 a6 bitsLt_bf16_f32) a3)) a2 a8) shapeCasts_S4096x1024_S4096x1024) a5 : FVec Ideal S4096x1024 .f32) = Cert.Kernel2Ideal.Norm.G10 (Cert.Kernel2Ideal.Norm.xarr a0 a1 a5) (Cert.Kernel2Ideal.Norm.dharr a6 a7 a3 a4) a2 a8 a5 := by
  rw [ref8 a0 a1 a2 a3 a4 a5 a6 a7 a8 h, next_eq]
  rfl

end Cert.Reference2Ideal.Norm

end
-- ==== Proof.FfnBwd.lean ====
/- The gradient of the gated activation: of the gate and of the other factor. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.Value
public import proofs.«01_k».proof.Proof.Reals
public import proofs.«01_k».proof.Proof.Gen.Pre_finite3

@[expose] public section

set_option maxRecDepth 16384

noncomputable section

namespace Cert.Kernel3Ideal.Gate

open Cert.Kernel3Ideal Cert.Kernel3Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- One entry of a product of the hidden rows and a weight. -/
def dot (x : FVec Ideal S4096x1024 .f32) (w : FVec Ideal S1024x2816 .f32) (r : Fin 4096) (j : Fin 2816) : EReal :=
  ∑ k : Fin 1024, (x (ix2 r k) : EReal) * w (ix2 k j)

/-- One entry of the gradient of the gated activation. -/
def ddot (x : FVec Ideal S4096x1024 .f32) (w : FVec Ideal S2816x1024 .f32) (r : Fin 4096) (j : Fin 2816) : EReal :=
  ∑ k : Fin 1024, (x (ix2 r k) : EReal) * w (ix2 j k)

/-- The gradient of the gate, of the gradient `d` of the activation, the gate `g` and the other factor `u`. -/
def dgate (d g u : EReal) : EReal :=
  d * u * Ideal.div 1 (1 + Ideal.exp (-g)) * (1 + g * (1 - Ideal.div 1 (1 + Ideal.exp (-g))))

/-- The gradient of the other factor. -/
def dup (d g : EReal) : EReal := d * g * Ideal.div 1 (1 + Ideal.exp (-g))

/-- The gradient of the gate, as an array. -/
def G4 (h : FVec Ideal S4096x1024 .f32) (wg wu : FVec Ideal S1024x2816 .f32) (wd : FVec Ideal S2816x1024 .f32) (x : FVec Ideal S4096x1024 .f32) : FVec Ideal S4096x2816 .bf16 := fun i =>
  dgate (ddot x wd (i 0) (i 1)) (dot h wg (i 0) (i 1)) (dot h wu (i 0) (i 1))

/-- The gradient of the other factor, as an array. -/
def G5 (h : FVec Ideal S4096x1024 .f32) (wg : FVec Ideal S1024x2816 .f32) (wd : FVec Ideal S2816x1024 .f32) (x : FVec Ideal S4096x1024 .f32) : FVec Ideal S4096x2816 .bf16 := fun i =>
  dup (ddot x wd (i 0) (i 1)) (dot h wg (i 0) (i 1))

theorem V_v1 (c : Dev nD) : (V m c main_v1 : FVec Ideal S4096x2816 .bf16) = truncf (F := Ideal) .bf16 (Host.dotGeneral (F := Ideal) (φ₁ := .f32) (φ₂ := .f32) dot_S4096x1024_S1024x2816_S4096x2816_1_0_0_1_n_n none (m ((c : Thread nD τ).loc main_arg0) : FVec Ideal S4096x1024 .f32) (m ((c : Thread nD τ).loc main_arg1) : FVec Ideal S1024x2816 .f32)) bitsLt_bf16_f32 := by
  dsimp only [V, hostOps0]
  after_results

theorem V_v3 (c : Dev nD) : (V m c main_v3 : FVec Ideal S4096x2816 .bf16) = truncf (F := Ideal) .bf16 (Host.dotGeneral (F := Ideal) (φ₁ := .f32) (φ₂ := .f32) dot_S4096x1024_S1024x2816_S4096x2816_1_0_0_1_n_n none (m ((c : Thread nD τ).loc main_arg0) : FVec Ideal S4096x1024 .f32) (m ((c : Thread nD τ).loc main_arg2) : FVec Ideal S1024x2816 .f32)) bitsLt_bf16_f32 := by
  dsimp only [V, hostOps0]
  after_results

theorem V_v4 (c : Dev nD) : (V m c main_v4 : FVec Ideal S4096x1024 .bf16) = truncf (F := Ideal) .bf16 (m ((c : Thread nD τ).loc main_arg4) : FVec Ideal S4096x1024 .f32) bitsLt_bf16_f32 := by
  dsimp only [V, hostOps0]
  after_results

theorem V_v5 (c : Dev nD) : (V m c main_v5 : FVec Ideal S2816x1024 .bf16) = truncf (F := Ideal) .bf16 (m ((c : Thread nD τ).loc main_arg3) : FVec Ideal S2816x1024 .f32) bitsLt_bf16_f32 := by
  dsimp only [V, hostOps0]
  after_results

/-- The index maps, over the grid. -/
theorem idx_all : ∀ t : Fin cfg0.N, win0_0.index t (0 : Fin 2) = t.val % 4
    ∧ win0_0.index t (1 : Fin 2) = 0
    ∧ win0_1.index t (0 : Fin 2) = t.val / 4
    ∧ win0_1.index t (1 : Fin 2) = 0
    ∧ win0_2.index t (0 : Fin 2) = t.val % 4
    ∧ win0_2.index t (1 : Fin 2) = t.val / 4
    ∧ win0_3.index t (0 : Fin 2) = t.val % 4
    ∧ win0_3.index t (1 : Fin 2) = t.val / 4
    ∧ win0_4.index t (0 : Fin 2) = t.val % 4
    ∧ win0_4.index t (1 : Fin 2) = t.val / 4
    ∧ win0_5.index t (0 : Fin 2) = t.val % 4
    ∧ win0_5.index t (1 : Fin 2) = t.val / 4
    ∧ (cfg0.win 4).flush t = true
    ∧ (cfg0.win 5).flush t = true :=
  (by decide +kernel : ∀ t : Fin grid0.N, _)

/-- The block of the rows at a point. -/
theorem blk0 (c : Dev nD) (t : Fin cfg0.N) (r : Fin 1024) (k : Fin 1024) (R : Fin 4096) (K : Fin 1024)
    (hR : R.val = (t.val % 4) * 1024 + r.val) (hK : K.val = (0) * 1024 + k.val) :
    (iblk m c 0 t : Vec Ideal S1024x1024 .bf16) (ix2 r k) = (V m c main_v4 : Vec Ideal S4096x1024 .bf16) (ix2 R K) := by
  obtain ⟨e0, e1, -⟩ := idx_all t
  show (V m c main_v4 : Vec Ideal S4096x1024 .bf16) (((cfg0.win 0).blk t).view.emb (ix2 r k)) = _
  refine congrArg _ (funext fun a => Fin.ext ?_)
  match a with
  | ⟨0, _⟩ => show win0_0.index t (0 : Fin 2) * 1024 + 1 * r.val = R.val; rw [e0, hR]; omega
  | ⟨1, _⟩ => show win0_0.index t (1 : Fin 2) * 1024 + 1 * k.val = K.val; rw [e1, hK]; omega

/-- The block of the weight at a point. -/
theorem blk1 (c : Dev nD) (t : Fin cfg0.N) (r : Fin 1408) (k : Fin 1024) (R : Fin 2816) (K : Fin 1024)
    (hR : R.val = (t.val / 4) * 1408 + r.val) (hK : K.val = (0) * 1024 + k.val) :
    (iblk m c 1 t : Vec Ideal S1408x1024 .bf16) (ix2 r k) = (V m c main_v5 : Vec Ideal S2816x1024 .bf16) (ix2 R K) := by
  obtain ⟨-, -, e0, e1, -⟩ := idx_all t
  show (V m c main_v5 : Vec Ideal S2816x1024 .bf16) (((cfg0.win 1).blk t).view.emb (ix2 r k)) = _
  refine congrArg _ (funext fun a => Fin.ext ?_)
  match a with
  | ⟨0, _⟩ => show win0_1.index t (0 : Fin 2) * 1408 + 1 * r.val = R.val; rw [e0, hR]; omega
  | ⟨1, _⟩ => show win0_1.index t (1 : Fin 2) * 1024 + 1 * k.val = K.val; rw [e1, hK]; omega

/-- The block of the gate at a point. -/
theorem blk2 (c : Dev nD) (t : Fin cfg0.N) (r : Fin 1024) (k : Fin 1408) (R : Fin 4096) (K : Fin 2816)
    (hR : R.val = (t.val % 4) * 1024 + r.val) (hK : K.val = (t.val / 4) * 1408 + k.val) :
    (iblk m c 2 t : Vec Ideal S1024x1408 .bf16) (ix2 r k) = (V m c main_v1 : Vec Ideal S4096x2816 .bf16) (ix2 R K) := by
  obtain ⟨-, -, -, -, e0, e1, -⟩ := idx_all t
  show (V m c main_v1 : Vec Ideal S4096x2816 .bf16) (((cfg0.win 2).blk t).view.emb (ix2 r k)) = _
  refine congrArg _ (funext fun a => Fin.ext ?_)
  match a with
  | ⟨0, _⟩ => show win0_2.index t (0 : Fin 2) * 1024 + 1 * r.val = R.val; rw [e0, hR]; omega
  | ⟨1, _⟩ => show win0_2.index t (1 : Fin 2) * 1408 + 1 * k.val = K.val; rw [e1, hK]; omega

/-- The block of the other factor at a point. -/
theorem blk3 (c : Dev nD) (t : Fin cfg0.N) (r : Fin 1024) (k : Fin 1408) (R : Fin 4096) (K : Fin 2816)
    (hR : R.val = (t.val % 4) * 1024 + r.val) (hK : K.val = (t.val / 4) * 1408 + k.val) :
    (iblk m c 3 t : Vec Ideal S1024x1408 .bf16) (ix2 r k) = (V m c main_v3 : Vec Ideal S4096x2816 .bf16) (ix2 R K) := by
  obtain ⟨-, -, -, -, -, -, e0, e1, -⟩ := idx_all t
  show (V m c main_v3 : Vec Ideal S4096x2816 .bf16) (((cfg0.win 3).blk t).view.emb (ix2 r k)) = _
  refine congrArg _ (funext fun a => Fin.ext ?_)
  match a with
  | ⟨0, _⟩ => show win0_3.index t (0 : Fin 2) * 1024 + 1 * r.val = R.val; rw [e0, hR]; omega
  | ⟨1, _⟩ => show win0_3.index t (1 : Fin 2) * 1408 + 1 * k.val = K.val; rw [e1, hK]; omega

/-- The product of two entries. -/
abbrev mul1 (a b : EReal) : EReal := a * b

/-- A product of two blocks is an entry of the product of the arrays. -/
theorem dot1 (c : Dev nD) (t : Fin cfg0.N) (r : Fin 1024) (j : Fin 1408) (R : Fin 4096) (J : Fin 2816)
    (hR : R.val = (t.val % 4) * 1024 + r.val) (hJ : J.val = (t.val / 4) * 1408 + j.val) :
    ∑ k : Fin 1024, mul1 ((iblk m c 0 t : Vec Ideal S1024x1024 .bf16) (ix2 r k)) ((iblk m c 1 t : Vec Ideal S1408x1024 .bf16) (ix2 j k))
      = ddot (m ((c : Thread nD τ).loc main_arg4)) (m ((c : Thread nD τ).loc main_arg3)) R J := by
  unfold ddot
  refine Finset.sum_congr rfl fun k _ => ?_
  rw [blk0 m c t r k R k hR (by omega), blk1 m c t j k J k hJ (by omega), V_v4, V_v5]
  pointwise

theorem gate_blk (c : Dev nD) (t : Fin cfg0.N) (r : Fin 1024) (j : Fin 1408) (R : Fin 4096) (J : Fin 2816)
    (hR : R.val = (t.val % 4) * 1024 + r.val) (hJ : J.val = (t.val / 4) * 1408 + j.val) : (iblk m c 2 t : Vec Ideal S1024x1408 .bf16) (ix2 r j) = dot (m ((c : Thread nD τ).loc main_arg0)) (m ((c : Thread nD τ).loc main_arg1)) R J := by
  rw [blk2 m c t r j R J hR hJ, V_v1]
  pointwise [dot]

theorem up_blk (c : Dev nD) (t : Fin cfg0.N) (r : Fin 1024) (j : Fin 1408) (R : Fin 4096) (J : Fin 2816)
    (hR : R.val = (t.val % 4) * 1024 + r.val) (hJ : J.val = (t.val / 4) * 1408 + j.val) : (iblk m c 3 t : Vec Ideal S1024x1408 .bf16) (ix2 r j) = dot (m ((c : Thread nD τ).loc main_arg0)) (m ((c : Thread nD τ).loc main_arg2)) R J := by
  rw [blk3 m c t r j R J hR hJ, V_v3]
  pointwise [dot]

theorem out4 (x0 : Vec Ideal S1024x1024 .bf16) (x1 : Vec Ideal S1408x1024 .bf16) (x2 x3 : Vec Ideal S1024x1408 .bf16) (r : Fin 1024) (j : Fin 1408) (d g u : EReal)
    (hd : ∑ k : Fin 1024, mul1 (x0 (ix2 r k)) (x1 (ix2 j k)) = d) (hg : (x2 (ix2 r j) : EReal) = g) (hu : (x3 (ix2 r j) : EReal) = u) :
    out0_4 x0 x1 x2 x3 (ix2 r j) = dgate d g u := by
  unfold out0_4
  rw [View.canon_unit_zero hz2, View.ld_unit_zero hz2, View.ld_unit_zero hz2, View.ld_unit_zero hz2, View.ld_unit_zero hz2]
  subst hd hg hu
  pointwise [k0_pay4, k0_pay3, k0_pay2, k0_pay1, dgate]
  rw [zero_sub]

theorem out5 (x0 : Vec Ideal S1024x1024 .bf16) (x1 : Vec Ideal S1408x1024 .bf16) (x2 x3 : Vec Ideal S1024x1408 .bf16) (r : Fin 1024) (j : Fin 1408) (d g : EReal)
    (hd : ∑ k : Fin 1024, mul1 (x0 (ix2 r k)) (x1 (ix2 j k)) = d) (hg : (x2 (ix2 r j) : EReal) = g) :
    out0_5 x0 x1 x2 x3 (ix2 r j) = dup d g := by
  unfold out0_5
  rw [View.canon_unit_zero hz2, View.ld_unit_zero hz2, View.ld_unit_zero hz2, View.ld_unit_zero hz2]
  subst hd hg
  pointwise [k0_pay5, k0_pay3, k0_pay2, k0_pay1, dup]
  rw [zero_sub]

theorem point4 (c : Dev nD) (t : Fin cfg0.N) (r : Fin 1024) (j : Fin 1408) (R : Fin 4096) (J : Fin 2816)
    (hR : R.val = (t.val % 4) * 1024 + r.val) (hJ : J.val = (t.val / 4) * 1408 + j.val) :
    out0_4 (iblk m c 0 t) (iblk m c 1 t) (iblk m c 2 t) (iblk m c 3 t) (ix2 r j) = G4 (m ((c : Thread nD τ).loc main_arg0)) (m ((c : Thread nD τ).loc main_arg1)) (m ((c : Thread nD τ).loc main_arg2)) (m ((c : Thread nD τ).loc main_arg3)) (m ((c : Thread nD τ).loc main_arg4)) (ix2 R J) :=
  out4 _ _ _ _ r j _ _ _ (dot1 m c t r j R J hR hJ) (gate_blk m c t r j R J hR hJ) (up_blk m c t r j R J hR hJ)

theorem point5 (c : Dev nD) (t : Fin cfg0.N) (r : Fin 1024) (j : Fin 1408) (R : Fin 4096) (J : Fin 2816)
    (hR : R.val = (t.val % 4) * 1024 + r.val) (hJ : J.val = (t.val / 4) * 1408 + j.val) :
    out0_5 (iblk m c 0 t) (iblk m c 1 t) (iblk m c 2 t) (iblk m c 3 t) (ix2 r j) = G5 (m ((c : Thread nD τ).loc main_arg0)) (m ((c : Thread nD τ).loc main_arg1)) (m ((c : Thread nD τ).loc main_arg3)) (m ((c : Thread nD τ).loc main_arg4)) (ix2 R J) :=
  out5 _ _ _ _ r j _ _ (dot1 m c t r j R J hR hJ) (gate_blk m c t r j R J hR hJ)

/-- What a point writes back to the gradient of the gate is its block. -/
theorem flushed4_eq (c : Dev nD) (t : Fin cfg0.N) (hf : (cfg0.win 4).flush t = true) :
    (dats m 0 c).flushed 4 t = ((cfg0.win 4).blk t).view.read (Elt Ideal) (G4 (m ((c : Thread nD τ).loc main_arg0)) (m ((c : Thread nD τ).loc main_arg1)) (m ((c : Thread nD τ).loc main_arg2)) (m ((c : Thread nD τ).loc main_arg3)) (m ((c : Thread nD τ).loc main_arg4))) := by
  rw [Value.flushed4]
  obtain ⟨-, -, -, -, -, -, -, -, e0, e1, -⟩ := idx_all t
  funext y
  have ht : t.val < grid0.N := t.isLt
  rw [N_0] at ht
  show out0_4 (iblk m c 0 t) (iblk m c 1 t) (iblk m c 2 t) (iblk m c 3 t) ((cfg0.win 4).xinj (grid0.coords t) y) = G4 (m ((c : Thread nD τ).loc main_arg0)) (m ((c : Thread nD τ).loc main_arg1)) (m ((c : Thread nD τ).loc main_arg2)) (m ((c : Thread nD τ).loc main_arg3)) (m ((c : Thread nD τ).loc main_arg4)) (((cfg0.win 4).blk t).view.emb y)
  rw [eq_ix2 (n0 := 1024) (n1 := 1408) ((cfg0.win 4).xinj (grid0.coords t) y), eq_ix2 (n0 := 4096) (n1 := 2816) (((cfg0.win 4).blk t).view.emb y)]
  exact point4 m c t _ _ _ _ (by show win0_4.index t (0 : Fin 2) * 1024 + 1 * (y 0).val = (t.val % 4) * 1024 + (y 0).val; rw [e0]; omega) (by show win0_4.index t (1 : Fin 2) * 1408 + 1 * (y 1).val = (t.val / 4) * 1408 + (y 1).val; rw [e1]; omega)

/-- Every index of the gradient of the gate is in some point's block. -/
theorem cover4 (i : S4096x2816.Idx) : ∃ t : Fin cfg0.N, (cfg0.win 4).flush t = true ∧ i ∈ ((cfg0.win 4).blk t).view.set := by
  have hi0 : (i 0).val < 4096 := (i 0).isLt
  have hi1 : (i 1).val < 2816 := (i 1).isLt
  let t : Fin cfg0.N := ⟨4 * ((i 1).val / 1408) + (i 0).val / 1024, by show _ < grid0.N; rw [N_0]; omega⟩
  have htv : t.val = 4 * ((i 1).val / 1408) + (i 0).val / 1024 := rfl
  obtain ⟨-, -, -, -, -, -, -, -, e0, e1, -, -, hfl, -⟩ := idx_all t
  refine ⟨t, hfl, ?_⟩
  show i ∈ ((View.whole main_v6_0).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; rw [e0]; try rw [htv]
              omega
  | ⟨1, _⟩ => show win0_4.index t (1 : Fin 2) * 1408 ≤ (i 1).val ∧ (i 1).val < win0_4.index t (1 : Fin 2) * 1408 + 1408; rw [e1]; try rw [htv]
              omega

/-- What a point writes back to the gradient of the other factor is its block. -/
theorem flushed5_eq (c : Dev nD) (t : Fin cfg0.N) (hf : (cfg0.win 5).flush t = true) :
    (dats m 0 c).flushed 5 t = ((cfg0.win 5).blk t).view.read (Elt Ideal) (G5 (m ((c : Thread nD τ).loc main_arg0)) (m ((c : Thread nD τ).loc main_arg1)) (m ((c : Thread nD τ).loc main_arg3)) (m ((c : Thread nD τ).loc main_arg4))) := by
  rw [Value.flushed5]
  obtain ⟨-, -, -, -, -, -, -, -, -, -, e0, e1, -⟩ := idx_all t
  funext y
  have ht : t.val < grid0.N := t.isLt
  rw [N_0] at ht
  show out0_5 (iblk m c 0 t) (iblk m c 1 t) (iblk m c 2 t) (iblk m c 3 t) ((cfg0.win 5).xinj (grid0.coords t) y) = G5 (m ((c : Thread nD τ).loc main_arg0)) (m ((c : Thread nD τ).loc main_arg1)) (m ((c : Thread nD τ).loc main_arg3)) (m ((c : Thread nD τ).loc main_arg4)) (((cfg0.win 5).blk t).view.emb y)
  rw [eq_ix2 (n0 := 1024) (n1 := 1408) ((cfg0.win 5).xinj (grid0.coords t) y), eq_ix2 (n0 := 4096) (n1 := 2816) (((cfg0.win 5).blk t).view.emb y)]
  exact point5 m c t _ _ _ _ (by show win0_5.index t (0 : Fin 2) * 1024 + 1 * (y 0).val = (t.val % 4) * 1024 + (y 0).val; rw [e0]; omega) (by show win0_5.index t (1 : Fin 2) * 1408 + 1 * (y 1).val = (t.val / 4) * 1408 + (y 1).val; rw [e1]; omega)

/-- Every index of the gradient of the other factor is in some point's block. -/
theorem cover5 (i : S4096x2816.Idx) : ∃ t : Fin cfg0.N, (cfg0.win 5).flush t = true ∧ i ∈ ((cfg0.win 5).blk t).view.set := by
  have hi0 : (i 0).val < 4096 := (i 0).isLt
  have hi1 : (i 1).val < 2816 := (i 1).isLt
  let t : Fin cfg0.N := ⟨4 * ((i 1).val / 1408) + (i 0).val / 1024, by show _ < grid0.N; rw [N_0]; omega⟩
  have htv : t.val = 4 * ((i 1).val / 1408) + (i 0).val / 1024 := rfl
  obtain ⟨-, -, -, -, -, -, -, -, -, -, e0, e1, -, hfl⟩ := idx_all t
  refine ⟨t, hfl, ?_⟩
  show i ∈ ((View.whole main_v6_1).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; rw [e0]; try rw [htv]
              omega
  | ⟨1, _⟩ => show win0_5.index t (1 : Fin 2) * 1408 ≤ (i 1).val ∧ (i 1).val < win0_5.index t (1 : Fin 2) * 1408 + 1408; rw [e1]; try rw [htv]
              omega

/-- The run, read: the two results, the arguments unchanged. -/
theorem run : θ_run defs (onTc (τ := τ) (main (F := Ideal))) ⟨m, fun _ => 0, ρ⟩ fun r => ∀ c : Dev nD,
      r.2.mem ((c.tc : Thread nD τ).loc main_v6_0) = G4 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c.tc : Thread nD τ).loc main_v6_1) = G5 (m ((c : Thread nD τ).loc main_arg0)) (m ((c : Thread nD τ).loc main_arg1)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((dats m 0 c).arrAt_eq_of_cover 4 _ (fun t hf => flushed4_eq m c t hf) cover4),
      (h c).2.1.trans ((dats m 0 c).arrAt_eq_of_cover 5 _ (fun t hf => flushed5_eq m c t hf) cover5),
      (h c).2.2⟩)
    (Value.run_blocks m ρ)

end Cert.Kernel3Ideal.Gate

namespace Cert.Reference3Ideal.Gate

open Cert.Reference3Ideal Cert.Reference3Ideal.Facts₀ Idealize.ShloMosaic Idealize.ShloMosaic.TcCoe Idealize.SL.Sem
open scoped BigOperators

/-- The precondition read: the arguments are arrays of real numbers. -/
theorem reals (a0 : FVec Ideal S4096x1024 .f32) (a1 a2 : FVec Ideal S1024x2816 .f32) (a3 : FVec Ideal S2816x1024 .f32) (a4 : FVec Ideal S4096x1024 .f32)
    (h : Cert.Pre_finite3.fn (F := Ideal) a0 a1 a2 a3 a4 = fun _ => 1#1) :
    (∃ r : S4096x1024.Idx → ℝ, a0 = fun i => (r i : EReal)) ∧ (∃ r : S1024x2816.Idx → ℝ, a1 = fun i => (r i : EReal))
    ∧ (∃ r : S1024x2816.Idx → ℝ, a2 = fun i => (r i : EReal)) ∧ (∃ r : S2816x1024.Idx → ℝ, a3 = fun i => (r i : EReal))
    ∧ (∃ r : S4096x1024.Idx → ℝ, a4 = fun i => (r i : EReal)) := by
  have e := congrFun h (fun k => k.elim0)
  obtain ⟨e, e4⟩ := Cert.Reals.both e
  obtain ⟨e, e3⟩ := Cert.Reals.both e
  obtain ⟨e, e2⟩ := Cert.Reals.both e
  obtain ⟨e0, e1⟩ := Cert.Reals.both e
  exact ⟨Cert.Reals.reals_of_all a0 _ _ _ _ e0, Cert.Reals.reals_of_all a1 _ _ _ _ e1, Cert.Reals.reals_of_all a2 _ _ _ _ e2,
    Cert.Reals.reals_of_all a3 _ _ _ _ e3, Cert.Reals.reals_of_all a4 _ _ _ _ e4⟩

/-- Over the reals the two forms of the gate's gradient agree. -/
theorem gate_eq (d g u : ℝ) :
    (d : EReal) * u * Ideal.div 1 (1 + Ideal.exp (-(g : EReal))) + (g : EReal) * ((d : EReal) * u) * (Ideal.div 1 (1 + Ideal.exp (-(g : EReal))) * (1 - Ideal.div 1 (1 + Ideal.exp (-(g : EReal)))))
      = Cert.Kernel3Ideal.Gate.dgate d g u := by
  unfold Cert.Kernel3Ideal.Gate.dgate
  rw [Cert.Reals.sg_eq]
  generalize Cert.Reals.sg g = s
  norm_cast
  ring

variable (a0 : FVec Ideal S4096x1024 .f32) (a1 a2 : FVec Ideal S1024x2816 .f32) (a3 : FVec Ideal S2816x1024 .f32) (a4 : FVec Ideal S4096x1024 .f32)

theorem ref4 (h : Cert.Pre_finite3.fn (F := Ideal) a0 a1 a2 a3 a4 = fun _ => 1#1) :
    truncf (F := Ideal) .bf16 (addf (mulf (mulf (Host.dotGeneral (F := Ideal) (φ₁ := .f32) (φ₂ := .f32) dot_S4096x1024_S2816x1024_S4096x2816_1_1_0_0_n_n none a4 a3) (Host.dotGeneral (F := Ideal) (φ₁ := .f32) (φ₂ := .f32) dot_S4096x1024_S1024x2816_S4096x2816_1_0_0_1_n_n none a0 a2)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral (F := Ideal) (φ₁ := .f32) (φ₂ := .f32) dot_S4096x1024_S1024x2816_S4096x2816_1_0_0_1_n_n none a0 a1)))))) (mulf (mulf (Host.dotGeneral (F := Ideal) (φ₁ := .f32) (φ₂ := .f32) dot_S4096x1024_S1024x2816_S4096x2816_1_0_0_1_n_n none a0 a1) (mulf (Host.dotGeneral (F := Ideal) (φ₁ := .f32) (φ₂ := .f32) dot_S4096x1024_S2816x1024_S4096x2816_1_1_0_0_n_n none a4 a3) (Host.dotGeneral (F := Ideal) (φ₁ := .f32) (φ₂ := .f32) dot_S4096x1024_S1024x2816_S4096x2816_1_0_0_1_n_n none a0 a2))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral (F := Ideal) (φ₁ := .f32) (φ₂ := .f32) dot_S4096x1024_S1024x2816_S4096x2816_1_0_0_1_n_n none a0 a1))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral (F := Ideal) (φ₁ := .f32) (φ₂ := .f32) dot_S4096x1024_S1024x2816_S4096x2816_1_0_0_1_n_n none a0 a1))))))))) bitsLt_bf16_f32 = Cert.Kernel3Ideal.Gate.G4 a0 a1 a2 a3 a4 := by
  obtain ⟨⟨r0, rfl⟩, ⟨r1, rfl⟩, ⟨r2, rfl⟩, ⟨r3, rfl⟩, ⟨r4, rfl⟩⟩ := reals a0 a1 a2 a3 a4 h
  funext j
  idx_vars j
  pointwise [Cert.Kernel3Ideal.Gate.G4, Cert.Kernel3Ideal.Gate.dot, Cert.Kernel3Ideal.Gate.ddot]
  simp only [Cert.Reals.coe_dot]
  exact gate_eq _ _ _

theorem ref5 :
    truncf (F := Ideal) .bf16 (mulf (mulf (Host.dotGeneral (F := Ideal) (φ₁ := .f32) (φ₂ := .f32) dot_S4096x1024_S1024x2816_S4096x2816_1_0_0_1_n_n none a0 a1) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral (F := Ideal) (φ₁ := .f32) (φ₂ := .f32) dot_S4096x1024_S1024x2816_S4096x2816_1_0_0_1_n_n none a0 a1)))))) (Host.dotGeneral (F := Ideal) (φ₁ := .f32) (φ₂ := .f32) dot_S4096x1024_S2816x1024_S4096x2816_1_1_0_0_n_n none a4 a3)) bitsLt_bf16_f32 = Cert.Kernel3Ideal.Gate.G5 a0 a1 a3 a4 := by
  funext j
  idx_vars j
  pointwise [Cert.Kernel3Ideal.Gate.G5, Cert.Kernel3Ideal.Gate.dot, Cert.Kernel3Ideal.Gate.ddot, Cert.Kernel3Ideal.Gate.dup]
  rw [mul_comm, mul_assoc]

end Cert.Reference3Ideal.Gate

end
-- ==== Proof.DwGate.lean ====
/- The gradient of a weight: a product accumulated over four row blocks. -/
module

public import proofs.«01_k».proof.Proof.Gen.Kernel4Ideal.Value
public import proofs.«01_k».proof.Proof.Gen.Reference4Ideal.Run
public import Idealize.ShloMosaic.Lib.Pointwise
public import Idealize.ShloMosaic.Lib.Pipeline.Value

@[expose] public section

set_option maxRecDepth 16384

noncomputable section

namespace Cert.Kernel4Ideal.Tn

open Cert.Kernel4Ideal Cert.Kernel4Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- One term of the product's sum: row `n` of the two arrays, at a column of each (zero past the last row). -/
def term (a : FVec Ideal S4096x2816 .bf16) (b : FVec Ideal S4096x1024 .f32) (i : Fin 2816) (j : Fin 1024) (n : ℕ) : EReal :=
  if h : n < 4096 then (a (ix2 (⟨n, h⟩ : Fin 4096) i) : EReal) * b (ix2 (⟨n, h⟩ : Fin 4096) j) else 0

/-- The product: the sum over the rows. -/
def G (a : FVec Ideal S4096x2816 .bf16) (b : FVec Ideal S4096x1024 .f32) : FVec Ideal S2816x1024 .bf16 := fun i => ∑ n ∈ Finset.range 4096, term a b (i 0) (i 1) n

theorem V_v0 (c : Dev nD) : (V m c main_v0 : FVec Ideal S4096x1024 .bf16) = truncf (F := Ideal) .bf16 (m ((c : Thread nD τ).loc main_arg0) : FVec Ideal S4096x1024 .f32) bitsLt_bf16_f32 := by
  dsimp only [V, hostOps0]
  after_results

/-- The index maps, over the grid. -/
theorem idx_all : ∀ t : Fin cfg0.N, win0_0.index t (0 : Fin 2) = t.val % 4
    ∧ win0_0.index t (1 : Fin 2) = t.val / 4
    ∧ win0_1.index t (0 : Fin 2) = t.val % 4
    ∧ win0_1.index t (1 : Fin 2) = 0
    ∧ win0_2.index t (0 : Fin 2) = t.val / 4
    ∧ win0_2.index t (1 : Fin 2) = 0 :=
  (by decide +kernel : ∀ t : Fin grid0.N, _)

/-- The block of the rows of the first array at a point. -/
theorem blk0 (c : Dev nD) (t : Fin cfg0.N) (r : Fin 1024) (k : Fin 1408) (R : Fin 4096) (K : Fin 2816)
    (hR : R.val = (t.val % 4) * 1024 + r.val) (hK : K.val = (t.val / 4) * 1408 + k.val) :
    (iblk m c 0 t : Vec Ideal S1024x1408 .bf16) (ix2 r k) = (V m c main_arg2 : Vec Ideal S4096x2816 .bf16) (ix2 R K) := by
  obtain ⟨e0, e1, -⟩ := idx_all t
  show (V m c main_arg2 : Vec Ideal S4096x2816 .bf16) (((cfg0.win 0).blk t).view.emb (ix2 r k)) = _
  refine congrArg _ (funext fun a => Fin.ext ?_)
  match a with
  | ⟨0, _⟩ => show win0_0.index t (0 : Fin 2) * 1024 + 1 * r.val = R.val; rw [e0, hR]; omega
  | ⟨1, _⟩ => show win0_0.index t (1 : Fin 2) * 1408 + 1 * k.val = K.val; rw [e1, hK]; omega

/-- The block of the rows of the second array at a point. -/
theorem blk1 (c : Dev nD) (t : Fin cfg0.N) (r : Fin 1024) (k : Fin 1024) (R : Fin 4096) (K : Fin 1024)
    (hR : R.val = (t.val % 4) * 1024 + r.val) (hK : K.val = (0) * 1024 + k.val) :
    (iblk m c 1 t : Vec Ideal S1024x1024 .bf16) (ix2 r k) = (V m c main_v0 : Vec Ideal S4096x1024 .bf16) (ix2 R K) := by
  obtain ⟨-, -, e0, e1, -⟩ := idx_all t
  show (V m c main_v0 : Vec Ideal S4096x1024 .bf16) (((cfg0.win 1).blk t).view.emb (ix2 r k)) = _
  refine congrArg _ (funext fun a => Fin.ext ?_)
  match a with
  | ⟨0, _⟩ => show win0_1.index t (0 : Fin 2) * 1024 + 1 * r.val = R.val; rw [e0, hR]; omega
  | ⟨1, _⟩ => show win0_1.index t (1 : Fin 2) * 1024 + 1 * k.val = K.val; rw [e1, hK]; omega

/-- The product of two entries. -/
abbrev mul1 (a b : EReal) : EReal := a * b

/-- What the first point of four leaves in the accumulator: the product of its blocks. -/
theorem sout_A (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .bf16) (h5 : a5.IsWhole) (a6 : Memref sig .tc .vmem S1408x1024 .f32) (h6 : a6.IsWhole) (hc0 : cond0_0 i) (hc1 : ¬cond0_1 i) (x0 : Vec Ideal S1024x1408 .bf16) (x1 : Vec Ideal S1024x1024 .bf16) :
    sout0_A_0 c i a3 h3 a4 h4 a5 h5 a6 h6 hc0 hc1 x0 x1 = k0_pay2 (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz2, View.readCov_unit_zero (S := S1408x1024) _ hz2]
  simp only [View.readAt_eq_ld, h3.read_unread, h4.read_unread, View.ld_unit_zero (S := S1024x1408) hz2, View.ld_unit_zero (S := S1024x1024) hz2, View.ld_unit_zero (S := S1408x1024) hz2]

/-- What a later point leaves in the accumulator: the product of its blocks added to it. -/
theorem sout_B (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .bf16) (h5 : a5.IsWhole) (a6 : Memref sig .tc .vmem S1408x1024 .f32) (h6 : a6.IsWhole) (hc0 : ¬cond0_0 i) (hc1 : ¬cond0_1 i) (x0 : Vec Ideal S1024x1408 .bf16) (x1 : Vec Ideal S1024x1024 .bf16) (xs : Vec Ideal S1408x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1408x1024) hz2]
  simp only [View.readAt_eq_ld, h3.read_unread, h4.read_unread, h6.read_unread, View.ld_unit_zero (S := S1024x1408) hz2, View.ld_unit_zero (S := S1024x1024) hz2, View.ld_unit_zero (S := S1408x1024) hz2]

theorem sout_C (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .bf16) (h5 : a5.IsWhole) (a6 : Memref sig .tc .vmem S1408x1024 .f32) (h6 : a6.IsWhole) (hc0 : ¬cond0_0 i) (hc1 : cond0_1 i) (x0 : Vec Ideal S1024x1408 .bf16) (x1 : Vec Ideal S1024x1024 .bf16) (xs : Vec Ideal S1408x1024 .f32) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S1408x1024) hz2]
  simp only [View.readAt_eq_ld, h3.read_unread, h4.read_unread, h6.read_unread, View.ld_unit_zero (S := S1024x1408) hz2, View.ld_unit_zero (S := S1024x1024) hz2, View.ld_unit_zero (S := S1408x1024) hz2]

/-- What the last point of four writes: the accumulator as it leaves it. -/
theorem out_C (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .bf16) (h5 : a5.IsWhole) (a6 : Memref sig .tc .vmem S1408x1024 .f32) (h6 : a6.IsWhole) (hc0 : ¬cond0_0 i) (hc1 : cond0_1 i) (x0 : Vec Ideal S1024x1408 .bf16) (x1 : Vec Ideal S1024x1024 .bf16) (xs : Vec Ideal S1408x1024 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1408x1024) hz2, View.readCov_unit_zero (S := S1408x1024) _ hz2]
  simp only [View.readAt_eq_ld, h3.read_unread, h4.read_unread, h6.read_unread, View.ld_unit_zero (S := S1024x1408) hz2, View.ld_unit_zero (S := S1024x1024) hz2, View.ld_unit_zero (S := S1408x1024) hz2]

/-- One entry of an accumulation step. -/
theorem step_at (xs : Vec Ideal S1408x1024 .f32) (x0 : Vec Ideal S1024x1408 .bf16) (x1 : Vec Ideal S1024x1024 .bf16) (r : Fin 1408) (j : Fin 1024) :
    k0_pay2 xs x0 x1 (ix2 r j) = (xs (ix2 r j) : EReal) + ∑ k : Fin 1024, mul1 (x0 (ix2 k r)) (x1 (ix2 k j)) := by
  pointwise [k0_pay2]

/-- The product of a point's blocks is its stretch of the sum. -/
theorem stretch (c : Dev nD) (t : Fin cfg0.N) (r : Fin 1408) (j : Fin 1024) (R : Fin 2816) (hR : R.val = (t.val / 4) * 1408 + r.val) :
    ∑ k : Fin 1024, mul1 ((iblk m c 0 t : Vec Ideal S1024x1408 .bf16) (ix2 k r)) ((iblk m c 1 t : Vec Ideal S1024x1024 .bf16) (ix2 k j))
      = ∑ n ∈ Finset.range 1024, term (m ((c : Thread nD τ).loc main_arg2)) (m ((c : Thread nD τ).loc main_arg0)) R j (t.val % 4 * 1024 + n) := by
  rw [Finset.sum_range (fun n => term (m ((c : Thread nD τ).loc main_arg2)) (m ((c : Thread nD τ).loc main_arg0)) R j (t.val % 4 * 1024 + n))]
  refine Finset.sum_congr rfl fun k _ => ?_
  have hk := k.isLt
  have hlt : t.val % 4 * 1024 + k.val < 4096 := by omega
  rw [blk0 m c t k r ⟨t.val % 4 * 1024 + k.val, hlt⟩ R rfl hR, blk1 m c t k j ⟨t.val % 4 * 1024 + k.val, hlt⟩ j rfl (by omega), V_v0, V_main_arg2]
  unfold term
  rw [dif_pos hlt]
  rfl

/-- The accumulator after point `n`: the part of the sum its four points have covered. -/
theorem acc_eq (c : Dev nD) (r : Fin 1408) (j : Fin 1024) (R : Fin 2816) : ∀ (n : ℕ) (h : n < cfg0.N), R.val = (n / 4) * 1408 + r.val →
    ((outsAt0 m c n h).2 (ix2 r j) : EReal) = ∑ k ∈ Finset.range (n % 4 * 1024 + 1024), term (m ((c : Thread nD τ).loc main_arg2)) (m ((c : Thread nD τ).loc main_arg0)) R j k := by
  have hz : ((k0_pay1 (F := Ideal) : Vec Ideal S1408x1024 .f32) (ix2 r j) : EReal) = 0 := by pointwise [k0_pay1]
  intro n
  induction n using Nat.strong_induction_on with
  | _ n ih =>
    intro h hR
    have e : outsAt0 m c n h = outsAt0 m c (⟨n, h⟩ : Fin cfg0.N).val (⟨n, h⟩ : Fin cfg0.N).isLt := rfl
    rw [Finset.sum_range_add, ← stretch m c ⟨n, h⟩ r j R hR]
    by_cases h0 : n % 4 = 0
    · rw [e, outsAt0_A m c ⟨n, h⟩ h0 (by dsimp only; omega)]
      dsimp only
      rw [sout_A, step_at, hz, h0]
      simp
    · have hp : ((outsAt0 m c (n - 1) (Nat.lt_of_le_of_lt (Nat.sub_le _ _) h)).2 (ix2 r j) : EReal) = ∑ k ∈ Finset.range (n % 4 * 1024), term (m ((c : Thread nD τ).loc main_arg2)) (m ((c : Thread nD τ).loc main_arg0)) R j k := by
        rw [ih (n - 1) (by omega) _ (by rw [hR]; congr 2; omega)]
        congr 2; omega
      by_cases h1 : n % 4 = 3
      · rw [e, outsAt0_C m c ⟨n, h⟩ h0 h1]
        dsimp only
        rw [sout_C, step_at, hp]
      · rw [e, outsAt0_B m c ⟨n, h⟩ h0 h1]
        dsimp only
        rw [sout_B, step_at, hp]

/-- The output's block at the last point of four. -/
theorem point2 (c : Dev nD) (t : Fin cfg0.N) (r : Fin 1408) (j : Fin 1024) (R : Fin 2816) (J : Fin 1024) (h1 : t.val % 4 = 3)
    (hR : R.val = (t.val / 4) * 1408 + r.val) (hJ : J.val = 0 * 1024 + j.val) :
    (outsAt0 m c t.val t.isLt).1 (ix2 r j) = G (m ((c : Thread nD τ).loc main_arg2)) (m ((c : Thread nD τ).loc main_arg0)) (ix2 R J) := by
  obtain rfl : J = j := Fin.ext (by omega)
  have h0 : ¬t.val % 4 = 0 := by omega
  have e := acc_eq m c r J R t.val t.isLt hR
  rw [outsAt0_C m c t h0 h1] at e ⊢
  dsimp only at e ⊢
  rw [sout_C] at e
  rw [out_C]
  rw [h1] at e
  exact e

/-- What a point writes back to the result is its block. -/
theorem flushed2_eq (c : Dev nD) (t : Fin cfg0.N) (hf : (cfg0.win 2).flush t = true) :
    (dats m 0 c).flushed 2 t = ((cfg0.win 2).blk t).view.read (Elt Ideal) (G (m ((c : Thread nD τ).loc main_arg2)) (m ((c : Thread nD τ).loc main_arg0))) := by
  rw [Value.flushed2]
  obtain ⟨-, -, -, -, e0, e1⟩ := idx_all t
  funext y
  have ht : t.val < grid0.N := t.isLt
  rw [N_0] at ht
  show (outsAt0 m c t.val t.isLt).1 ((cfg0.win 2).xinj (grid0.coords t) y) = G (m ((c : Thread nD τ).loc main_arg2)) (m ((c : Thread nD τ).loc main_arg0)) (((cfg0.win 2).blk t).view.emb y)
  rw [eq_ix2 (n0 := 1408) (n1 := 1024) ((cfg0.win 2).xinj (grid0.coords t) y), eq_ix2 (n0 := 2816) (n1 := 1024) (((cfg0.win 2).blk t).view.emb y)]
  exact point2 m c t _ _ _ _ ((flush0_2 t).mp hf) (by show win0_2.index t (0 : Fin 2) * 1408 + 1 * (y 0).val = (t.val / 4) * 1408 + (y 0).val; rw [e0]; omega) (by show win0_2.index t (1 : Fin 2) * 1024 + 1 * (y 1).val = (0) * 1024 + (y 1).val; rw [e1]; omega)

/-- Every index of the result is in some point's block. -/
theorem cover2 (i : S2816x1024.Idx) : ∃ t : Fin cfg0.N, (cfg0.win 2).flush t = true ∧ i ∈ ((cfg0.win 2).blk t).view.set := by
  have hi0 : (i 0).val < 2816 := (i 0).isLt
  have hi1 : (i 1).val < 1024 := (i 1).isLt
  let t : Fin cfg0.N := ⟨4 * ((i 0).val / 1408) + 3, by show _ < grid0.N; rw [N_0]; omega⟩
  have htv : t.val = 4 * ((i 0).val / 1408) + 3 := rfl
  obtain ⟨-, -, -, -, e0, e1⟩ := idx_all t
  refine ⟨t, (flush0_2 t).mpr (by rw [htv]; omega), ?_⟩
  show i ∈ ((View.whole main_v1).slice (win0_2.rect t)).set
  rw [View.set_slice_whole, Rect.mem_set_unit]
  intro a
  match a with
  | ⟨0, _⟩ => show win0_2.index t (0 : Fin 2) * 1408 ≤ (i 0).val ∧ (i 0).val < win0_2.index t (0 : Fin 2) * 1408 + 1408; rw [e0]; try rw [htv]
              omega
  | ⟨1, _⟩ => show win0_2.index t (1 : Fin 2) * 1024 ≤ (i 1).val ∧ (i 1).val < win0_2.index t (1 : Fin 2) * 1024 + 1024; rw [e1]; try rw [htv]
              omega

/-- The run, read: the result, the arguments unchanged. -/
theorem run : θ_run defs (onTc (τ := τ) (main (F := Ideal))) ⟨m, fun _ => 0, ρ⟩ fun r => ∀ c : Dev nD,
      r.2.mem ((c.tc : Thread nD τ).loc main_v1) = G (m ((c : Thread nD τ).loc main_arg2)) (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((dats m 0 c).arrAt_eq_of_cover 2 _ (fun t hf => flushed2_eq m c t hf) cover2),
      (h c).2⟩)
    (Value.run_blocks m ρ)

end Cert.Kernel4Ideal.Tn

namespace Cert.Reference4Ideal.Tn

open Cert.Reference4Ideal Cert.Reference4Ideal.Facts₀ Idealize.ShloMosaic Idealize.ShloMosaic.TcCoe Idealize.SL.Sem
open scoped BigOperators

theorem ref (a0 : FVec Ideal S4096x1024 .f32) (a2 : FVec Ideal S4096x2816 .bf16) :
    truncf (F := Ideal) .bf16 (transpose S2816x1024 [1, 0] (transpose S1024x2816 [1, 0] (Host.dotGeneral (F := Ideal) (φ₁ := .f32) (φ₂ := .f32) dot_S4096x2816_S4096x1024_S2816x1024_0_0_1_1_n_n none (extf .f32 a2 bitsLt_bf16_f32) a0) transposes_S2816x1024_S1024x2816_1_0) transposes_S1024x2816_S2816x1024_1_0) bitsLt_bf16_f32 = Cert.Kernel4Ideal.Tn.G a2 a0 := by
  funext j
  idx_vars j
  show _ = ∑ n ∈ Finset.range 4096, Cert.Kernel4Ideal.Tn.term a2 a0 j0 j1 n
  rw [Finset.sum_range]
  pointwise
  refine Finset.sum_congr rfl fun k _ => ?_
  unfold Cert.Kernel4Ideal.Tn.term
  rw [dif_pos k.isLt]

end Cert.Reference4Ideal.Tn

end
-- ==== Proof.DhMix.lean ====
/- The gradient of the norm before the mixers. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.Value
public import proofs.«01_k».proof.Proof.Norm
public import proofs.«01_k».proof.Proof.Gen.Pre_finite6

@[expose] public section

set_option maxRecDepth 16384

noncomputable section

namespace Cert.Kernel6Ideal.Norm

open Cert.Kernel6Ideal Cert.Kernel6Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- A term of the gradient of the norm's result (zero past the last column). -/
def dht (dp : FVec Ideal S4096x3584 .bf16) (w : FVec Ideal S1024x3584 .f32) (R : Fin 4096) (j : Fin 1024) (n : ℕ) : EReal :=
  if h : n < 3584 then (dp (ix2 R ⟨n, h⟩) : EReal) * w (ix2 j ⟨n, h⟩) else 0

/-- The gradient of the norm's result. -/
def dharr (dp : FVec Ideal S4096x3584 .bf16) (w : FVec Ideal S1024x3584 .f32) : FVec Ideal S4096x1024 .f32 := fun i =>
  ∑ l : Fin 3584, (dp (ix2 (i 0) l) : EReal) * w (ix2 (i 1) l)

/-- The same by pieces of 512 columns. -/
theorem dharr_eq (dp : FVec Ideal S4096x3584 .bf16) (w : FVec Ideal S1024x3584 .f32) (R : Fin 4096) (j : Fin 1024) :
    dharr dp w (ix2 R j) = (∑ l : Fin 512, dht dp w R j (0 + l.val)) + (∑ l : Fin 512, dht dp w R j (512 + l.val)) + (∑ l : Fin 512, dht dp w R j (1024 + l.val)) + (∑ l : Fin 512, dht dp w R j (1536 + l.val)) + (∑ l : Fin 512, dht dp w R j (2048 + l.val)) + (∑ l : Fin 512, dht dp w R j (2560 + l.val)) + (∑ l : Fin 512, dht dp w R j (3072 + l.val)) := by
  have h : dharr dp w (ix2 R j) = ∑ n ∈ Finset.range (512 + 512 + 512 + 512 + 512 + 512 + 512), dht dp w R j n := by
    rw [show 512 + 512 + 512 + 512 + 512 + 512 + 512 = 3584 from rfl, Finset.sum_range]
    refine Finset.sum_congr rfl fun l _ => ?_
    unfold dht
    rw [dif_pos l.isLt]
    rfl
  rw [h]
  iterate 6 rw [Finset.sum_range_add]
  simp only [Finset.sum_range, zero_add, Nat.reduceAdd]

/-- A row of an array of 1024 columns. -/
def row (x : FVec Ideal S4096x1024 .f32) (R : Fin 4096) : Fin 1024 → EReal := fun k => x (ix2 R k)

/-- The gradient of the norm's argument, added to that of the residual stream. -/
def dx (x dh : FVec Ideal S4096x1024 .f32) (g : FVec Ideal S1x1024 .f32) (res : FVec Ideal S4096x1024 .f32) (R : Fin 4096) (j : Fin 1024) : EReal :=
  (res (ix2 R j) : EReal) + Cert.Norm.back (row x R) (fun k => row dh R k * g (ix2 0 k)) j

def G17 (x dh : FVec Ideal S4096x1024 .f32) (g : FVec Ideal S1x1024 .f32) (res : FVec Ideal S4096x1024 .f32) : FVec Ideal S4096x1024 .f32 := fun i => dx x dh g res (i 0) (i 1)

/-- One row's part of the gradient of the norm's gain (zero past the last row). -/
def term (x dh : FVec Ideal S4096x1024 .f32) (j : Fin 1024) (n : ℕ) : EReal :=
  if h : n < 4096 then row dh ⟨n, h⟩ j * (row x ⟨n, h⟩ j * Cert.Norm.rs (row x ⟨n, h⟩)) else 0

/-- The gradient of the norm's gain: the sum over the rows. -/
def G18 (x dh : FVec Ideal S4096x1024 .f32) : FVec Ideal S1x1024 .f32 := fun i => ∑ n ∈ Finset.range 4096, term x dh (i 1) n

theorem V_v1 (c : Dev nD) : (V m c main_v1 : FVec Ideal S3584x1024 .bf16) = truncf (F := Ideal) .bf16 (transpose S3584x1024 [1, 0] ((m ((c : Thread nD τ).loc main_arg2)) : FVec Ideal S1024x3584 .f32) transposes_S1024x3584_S3584x1024_1_0) bitsLt_bf16_f32 := by
  dsimp only [V, hostOps0]
  after_results

theorem V_v2 (c : Dev nD) : (V m c main_v2 : FVec Ideal S4096x512 .bf16) = extractStridedSlice S4096x512 ![0, 0] ((m ((c : Thread nD τ).loc main_arg3)) : FVec Ideal S4096x3584 .bf16) slices_S4096x3584_S4096x512_0_0 := by
  dsimp only [V, hostOps0]
  after_results

theorem V_v3 (c : Dev nD) : (V m c main_v3 : FVec Ideal S4096x512 .bf16) = extractStridedSlice S4096x512 ![0, 512] ((m ((c : Thread nD τ).loc main_arg3)) : FVec Ideal S4096x3584 .bf16) slices_S4096x3584_S4096x512_0_512 := by
  dsimp only [V, hostOps0]
  after_results

theorem V_v4 (c : Dev nD) : (V m c main_v4 : FVec Ideal S4096x512 .bf16) = extractStridedSlice S4096x512 ![0, 1024] ((m ((c : Thread nD τ).loc main_arg3)) : FVec Ideal S4096x3584 .bf16) slices_S4096x3584_S4096x512_0_1024 := by
  dsimp only [V, hostOps0]
  after_results

theorem V_v5 (c : Dev nD) : (V m c main_v5 : FVec Ideal S4096x512 .bf16) = extractStridedSlice S4096x512 ![0, 1536] ((m ((c : Thread nD τ).loc main_arg3)) : FVec Ideal S4096x3584 .bf16) slices_S4096x3584_S4096x512_0_1536 := by
  dsimp only [V, hostOps0]
  after_results

theorem V_v6 (c : Dev nD) : (V m c main_v6 : FVec Ideal S4096x512 .bf16) = extractStridedSlice S4096x512 ![0, 2048] ((m ((c : Thread nD τ).loc main_arg3)) : FVec Ideal S4096x3584 .bf16) slices_S4096x3584_S4096x512_0_2048 := by
  dsimp only [V, hostOps0]
  after_results

theorem V_v7 (c : Dev nD) : (V m c main_v7 : FVec Ideal S4096x512 .bf16) = extractStridedSlice S4096x512 ![0, 2560] ((m ((c : Thread nD τ).loc main_arg3)) : FVec Ideal S4096x3584 .bf16) slices_S4096x3584_S4096x512_0_2560 := by
  dsimp only [V, hostOps0]
  after_results

theorem V_v8 (c : Dev nD) : (V m c main_v8 : FVec Ideal S4096x512 .bf16) = extractStridedSlice S4096x512 ![0, 3072] ((m ((c : Thread nD τ).loc main_arg3)) : FVec Ideal S4096x3584 .bf16) slices_S4096x3584_S4096x512_0_3072 := by
  dsimp only [V, hostOps0]
  after_results

/-- The index maps, over the grid. -/
theorem idx_all : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = 1
    ∧ win0_3.index t (1 : Fin 2) = 0
    ∧ win0_4.index t (0 : Fin 2) = t.val
    ∧ win0_4.index t (1 : Fin 2) = 0
    ∧ win0_5.index t (0 : Fin 2) = 2
    ∧ win0_5.index t (1 : Fin 2) = 0
    ∧ win0_6.index t (0 : Fin 2) = t.val
    ∧ win0_6.index t (1 : Fin 2) = 0
    ∧ win0_7.index t (0 : Fin 2) = 3
    ∧ win0_7.index t (1 : Fin 2) = 0
    ∧ win0_8.index t (0 : Fin 2) = t.val
    ∧ win0_8.index t (1 : Fin 2) = 0
    ∧ win0_9.index t (0 : Fin 2) = 4
    ∧ win0_9.index t (1 : Fin 2) = 0
    ∧ win0_10.index t (0 : Fin 2) = t.val
    ∧ win0_10.index t (1 : Fin 2) = 0
    ∧ win0_11.index t (0 : Fin 2) = 5
    ∧ win0_11.index t (1 : Fin 2) = 0
    ∧ win0_12.index t (0 : Fin 2) = t.val
    ∧ win0_12.index t (1 : Fin 2) = 0
    ∧ win0_13.index t (0 : Fin 2) = 6
    ∧ win0_13.index t (1 : Fin 2) = 0
    ∧ win0_14.index t (0 : Fin 2) = t.val
    ∧ win0_14.index t (1 : Fin 2) = 0
    ∧ win0_15.index t (0 : Fin 2) = 0
    ∧ win0_15.index t (1 : Fin 2) = 0
    ∧ win0_16.index t (0 : Fin 2) = t.val
    ∧ win0_16.index t (1 : Fin 2) = 0
    ∧ win0_17.index t (0 : Fin 2) = t.val
    ∧ win0_17.index t (1 : Fin 2) = 0
    ∧ win0_18.index t (0 : Fin 2) = 0
    ∧ win0_18.index t (1 : Fin 2) = 0
    ∧ (cfg0.win 17).flush t = true :=
  (by decide +kernel : ∀ t : Fin grid0.N, _)

/-- The block of operand 0 at a point. -/
theorem blk0 (c : Dev nD) (t : Fin cfg0.N) (r : Fin 512) (k : Fin 512) (R : Fin 4096) (K : Fin 512)
    (hR : R.val = (t.val) * 512 + r.val) (hK : K.val = (0) * 512 + k.val) :
    (iblk m c 0 t : Vec Ideal S512x512 .bf16) (ix2 r k) = (V m c main_v2 : Vec Ideal S4096x512 .bf16) (ix2 R K) := by
  obtain ⟨e0, e1, -⟩ := idx_all t
  show (V m c main_v2 : Vec Ideal S4096x512 .bf16) (((cfg0.win 0).blk t).view.emb (ix2 r k)) = _
  refine congrArg _ (funext fun a => Fin.ext ?_)
  match a with
  | ⟨0, _⟩ => show win0_0.index t (0 : Fin 2) * 512 + 1 * r.val = R.val; rw [e0, hR]; omega
  | ⟨1, _⟩ => show win0_0.index t (1 : Fin 2) * 512 + 1 * k.val = K.val; rw [e1, hK]; omega

/-- The block of operand 1 at a point. -/
theorem blk1 (c : Dev nD) (t : Fin cfg0.N) (r : Fin 512) (k : Fin 1024) (R : Fin 3584) (K : Fin 1024)
    (hR : R.val = (0) * 512 + r.val) (hK : K.val = (0) * 1024 + k.val) :
    (iblk m c 1 t : Vec Ideal S512x1024 .bf16) (ix2 r k) = (V m c main_v1 : Vec Ideal S3584x1024 .bf16) (ix2 R K) := by
  obtain ⟨-, -, e0, e1, -⟩ := idx_all t
  show (V m c main_v1 : Vec Ideal S3584x1024 .bf16) (((cfg0.win 1).blk t).view.emb (ix2 r k)) = _
  refine congrArg _ (funext fun a => Fin.ext ?_)
  match a with
  | ⟨0, _⟩ => show win0_1.index t (0 : Fin 2) * 512 + 1 * r.val = R.val; rw [e0, hR]; omega
  | ⟨1, _⟩ => show win0_1.index t (1 : Fin 2) * 1024 + 1 * k.val = K.val; rw [e1, hK]; omega

/-- The block of operand 2 at a point. -/
theorem blk2 (c : Dev nD) (t : Fin cfg0.N) (r : Fin 512) (k : Fin 512) (R : Fin 4096) (K : Fin 512)
    (hR : R.val = (t.val) * 512 + r.val) (hK : K.val = (0) * 512 + k.val) :
    (iblk m c 2 t : Vec Ideal S512x512 .bf16) (ix2 r k) = (V m c main_v3 : Vec Ideal S4096x512 .bf16) (ix2 R K) := by
  obtain ⟨-, -, -, -, e0, e1, -⟩ := idx_all t
  show (V m c main_v3 : Vec Ideal S4096x512 .bf16) (((cfg0.win 2).blk t).view.emb (ix2 r k)) = _
  refine congrArg _ (funext fun a => Fin.ext ?_)
  match a with
  | ⟨0, _⟩ => show win0_2.index t (0 : Fin 2) * 512 + 1 * r.val = R.val; rw [e0, hR]; omega
  | ⟨1, _⟩ => show win0_2.index t (1 : Fin 2) * 512 + 1 * k.val = K.val; rw [e1, hK]; omega

/-- The block of operand 3 at a point. -/
theorem blk3 (c : Dev nD) (t : Fin cfg0.N) (r : Fin 512) (k : Fin 1024) (R : Fin 3584) (K : Fin 1024)
    (hR : R.val = (1) * 512 + r.val) (hK : K.val = (0) * 1024 + k.val) :
    (iblk m c 3 t : Vec Ideal S512x1024 .bf16) (ix2 r k) = (V m c main_v1 : Vec Ideal S3584x1024 .bf16) (ix2 R K) := by
  obtain ⟨-, -, -, -, -, -, e0, e1, -⟩ := idx_all t
  show (V m c main_v1 : Vec Ideal S3584x1024 .bf16) (((cfg0.win 3).blk t).view.emb (ix2 r k)) = _
  refine congrArg _ (funext fun a => Fin.ext ?_)
  match a with
  | ⟨0, _⟩ => show win0_3.index t (0 : Fin 2) * 512 + 1 * r.val = R.val; rw [e0, hR]; omega
  | ⟨1, _⟩ => show win0_3.index t (1 : Fin 2) * 1024 + 1 * k.val = K.val; rw [e1, hK]; omega

/-- The block of operand 4 at a point. -/
theorem blk4 (c : Dev nD) (t : Fin cfg0.N) (r : Fin 512) (k : Fin 512) (R : Fin 4096) (K : Fin 512)
    (hR : R.val = (t.val) * 512 + r.val) (hK : K.val = (0) * 512 + k.val) :
    (iblk m c 4 t : Vec Ideal S512x512 .bf16) (ix2 r k) = (V m c main_v4 : Vec Ideal S4096x512 .bf16) (ix2 R K) := by
  obtain ⟨-, -, -, -, -, -, -, -, e0, e1, -⟩ := idx_all t
  show (V m c main_v4 : Vec Ideal S4096x512 .bf16) (((cfg0.win 4).blk t).view.emb (ix2 r k)) = _
  refine congrArg _ (funext fun a => Fin.ext ?_)
  match a with
  | ⟨0, _⟩ => show win0_4.index t (0 : Fin 2) * 512 + 1 * r.val = R.val; rw [e0, hR]; omega
  | ⟨1, _⟩ => show win0_4.index t (1 : Fin 2) * 512 + 1 * k.val = K.val; rw [e1, hK]; omega

/-- The block of operand 5 at a point. -/
theorem blk5 (c : Dev nD) (t : Fin cfg0.N) (r : Fin 512) (k : Fin 1024) (R : Fin 3584) (K : Fin 1024)
    (hR : R.val = (2) * 512 + r.val) (hK : K.val = (0) * 1024 + k.val) :
    (iblk m c 5 t : Vec Ideal S512x1024 .bf16) (ix2 r k) = (V m c main_v1 : Vec Ideal S3584x1024 .bf16) (ix2 R K) := by
  obtain ⟨-, -, -, -, -, -, -, -, -, -, e0, e1, -⟩ := idx_all t
  show (V m c main_v1 : Vec Ideal S3584x1024 .bf16) (((cfg0.win 5).blk t).view.emb (ix2 r k)) = _
  refine congrArg _ (funext fun a => Fin.ext ?_)
  match a with
  | ⟨0, _⟩ => show win0_5.index t (0 : Fin 2) * 512 + 1 * r.val = R.val; rw [e0, hR]; omega
  | ⟨1, _⟩ => show win0_5.index t (1 : Fin 2) * 1024 + 1 * k.val = K.val; rw [e1, hK]; omega

/-- The block of operand 6 at a point. -/
theorem blk6 (c : Dev nD) (t : Fin cfg0.N) (r : Fin 512) (k : Fin 512) (R : Fin 4096) (K : Fin 512)
    (hR : R.val = (t.val) * 512 + r.val) (hK : K.val = (0) * 512 + k.val) :
    (iblk m c 6 t : Vec Ideal S512x512 .bf16) (ix2 r k) = (V m c main_v5 : Vec Ideal S4096x512 .bf16) (ix2 R K) := by
  obtain ⟨-, -, -, -, -, -, -, -, -, -, -, -, e0, e1, -⟩ := idx_all t
  show (V m c main_v5 : Vec Ideal S4096x512 .bf16) (((cfg0.win 6).blk t).view.emb (ix2 r k)) = _
  refine congrArg _ (funext fun a => Fin.ext ?_)
  match a with
  | ⟨0, _⟩ => show win0_6.index t (0 : Fin 2) * 512 + 1 * r.val = R.val; rw [e0, hR]; omega
  | ⟨1, _⟩ => show win0_6.index t (1 : Fin 2) * 512 + 1 * k.val = K.val; rw [e1, hK]; omega

/-- The block of operand 7 at a point. -/
theorem blk7 (c : Dev nD) (t : Fin cfg0.N) (r : Fin 512) (k : Fin 1024) (R : Fin 3584) (K : Fin 1024)
    (hR : R.val = (3) * 512 + r.val) (hK : K.val = (0) * 1024 + k.val) :
    (iblk m c 7 t : Vec Ideal S512x1024 .bf16) (ix2 r k) = (V m c main_v1 : Vec Ideal S3584x1024 .bf16) (ix2 R K) := by
  obtain ⟨-, -, -, -, -, -, -, -, -, -, -, -, -, -, e0, e1, -⟩ := idx_all t
  show (V m c main_v1 : Vec Ideal S3584x1024 .bf16) (((cfg0.win 7).blk t).view.emb (ix2 r k)) = _
  refine congrArg _ (funext fun a => Fin.ext ?_)
  match a with
  | ⟨0, _⟩ => show win0_7.index t (0 : Fin 2) * 512 + 1 * r.val = R.val; rw [e0, hR]; omega
  | ⟨1, _⟩ => show win0_7.index t (1 : Fin 2) * 1024 + 1 * k.val = K.val; rw [e1, hK]; omega

/-- The block of operand 8 at a point. -/
theorem blk8 (c : Dev nD) (t : Fin cfg0.N) (r : Fin 512) (k : Fin 512) (R : Fin 4096) (K : Fin 512)
    (hR : R.val = (t.val) * 512 + r.val) (hK : K.val = (0) * 512 + k.val) :
    (iblk m c 8 t : Vec Ideal S512x512 .bf16) (ix2 r k) = (V m c main_v6 : Vec Ideal S4096x512 .bf16) (ix2 R K) := by
  obtain ⟨-, -, -, -, -, -, -, -, -, -, -, -, -, -, -, -, e0, e1, -⟩ := idx_all t
  show (V m c main_v6 : Vec Ideal S4096x512 .bf16) (((cfg0.win 8).blk t).view.emb (ix2 r k)) = _
  refine congrArg _ (funext fun a => Fin.ext ?_)
  match a with
  | ⟨0, _⟩ => show win0_8.index t (0 : Fin 2) * 512 + 1 * r.val = R.val; rw [e0, hR]; omega
  | ⟨1, _⟩ => show win0_8.index t (1 : Fin 2) * 512 + 1 * k.val = K.val; rw [e1, hK]; omega

/-- The block of operand 9 at a point. -/
theorem blk9 (c : Dev nD) (t : Fin cfg0.N) (r : Fin 512) (k : Fin 1024) (R : Fin 3584) (K : Fin 1024)
    (hR : R.val = (4) * 512 + r.val) (hK : K.val = (0) * 1024 + k.val) :
    (iblk m c 9 t : Vec Ideal S512x1024 .bf16) (ix2 r k) = (V m c main_v1 : Vec Ideal S3584x1024 .bf16) (ix2 R K) := by
  obtain ⟨-, -, -, -, -, -, -, -, -, -, -, -, -, -, -, -, -, -, e0, e1, -⟩ := idx_all t
  show (V m c main_v1 : Vec Ideal S3584x1024 .bf16) (((cfg0.win 9).blk t).view.emb (ix2 r k)) = _
  refine congrArg _ (funext fun a => Fin.ext ?_)
  match a with
  | ⟨0, _⟩ => show win0_9.index t (0 : Fin 2) * 512 + 1 * r.val = R.val; rw [e0, hR]; omega
  | ⟨1, _⟩ => show win0_9.index t (1 : Fin 2) * 1024 + 1 * k.val = K.val; rw [e1, hK]; omega

/-- The block of operand 10 at a point. -/
theorem blk10 (c : Dev nD) (t : Fin cfg0.N) (r : Fin 512) (k : Fin 512) (R : Fin 4096) (K : Fin 512)
    (hR : R.val = (t.val) * 512 + r.val) (hK : K.val = (0) * 512 + k.val) :
    (iblk m c 10 t : Vec Ideal S512x512 .bf16) (ix2 r k) = (V m c main_v7 : Vec Ideal S4096x512 .bf16) (ix2 R K) := by
  obtain ⟨-, -, -, -, -, -, -, -, -, -, -, -, -, -, -, -, -, -, -, -, e0, e1, -⟩ := idx_all t
  show (V m c main_v7 : Vec Ideal S4096x512 .bf16) (((cfg0.win 10).blk t).view.emb (ix2 r k)) = _
  refine congrArg _ (funext fun a => Fin.ext ?_)
  match a with
  | ⟨0, _⟩ => show win0_10.index t (0 : Fin 2) * 512 + 1 * r.val = R.val; rw [e0, hR]; omega
  | ⟨1, _⟩ => show win0_10.index t (1 : Fin 2) * 512 + 1 * k.val = K.val; rw [e1, hK]; omega

/-- The block of operand 11 at a point. -/
theorem blk11 (c : Dev nD) (t : Fin cfg0.N) (r : Fin 512) (k : Fin 1024) (R : Fin 3584) (K : Fin 1024)
    (hR : R.val = (5) * 512 + r.val) (hK : K.val = (0) * 1024 + k.val) :
    (iblk m c 11 t : Vec Ideal S512x1024 .bf16) (ix2 r k) = (V m c main_v1 : Vec Ideal S3584x1024 .bf16) (ix2 R K) := by
  obtain ⟨-, -, -, -, -, -, -, -, -, -, -, -, -, -, -, -, -, -, -, -, -, -, e0, e1, -⟩ := idx_all t
  show (V m c main_v1 : Vec Ideal S3584x1024 .bf16) (((cfg0.win 11).blk t).view.emb (ix2 r k)) = _
  refine congrArg _ (funext fun a => Fin.ext ?_)
  match a with
  | ⟨0, _⟩ => show win0_11.index t (0 : Fin 2) * 512 + 1 * r.val = R.val; rw [e0, hR]; omega
  | ⟨1, _⟩ => show win0_11.index t (1 : Fin 2) * 1024 + 1 * k.val = K.val; rw [e1, hK]; omega

/-- The block of operand 12 at a point. -/
theorem blk12 (c : Dev nD) (t : Fin cfg0.N) (r : Fin 512) (k : Fin 512) (R : Fin 4096) (K : Fin 512)
    (hR : R.val = (t.val) * 512 + r.val) (hK : K.val = (0) * 512 + k.val) :
    (iblk m c 12 t : Vec Ideal S512x512 .bf16) (ix2 r k) = (V m c main_v8 : Vec Ideal S4096x512 .bf16) (ix2 R K) := by
  obtain ⟨-, -, -, -, -, -, -, -, -, -, -, -, -, -, -, -, -, -, -, -, -, -, -, -, e0, e1, -⟩ := idx_all t
  show (V m c main_v8 : Vec Ideal S4096x512 .bf16) (((cfg0.win 12).blk t).view.emb (ix2 r k)) = _
  refine congrArg _ (funext fun a => Fin.ext ?_)
  match a with
  | ⟨0, _⟩ => show win0_12.index t (0 : Fin 2) * 512 + 1 * r.val = R.val; rw [e0, hR]; omega
  | ⟨1, _⟩ => show win0_12.index t (1 : Fin 2) * 512 + 1 * k.val = K.val; rw [e1, hK]; omega

/-- The block of operand 13 at a point. -/
theorem blk13 (c : Dev nD) (t : Fin cfg0.N) (r : Fin 512) (k : Fin 1024) (R : Fin 3584) (K : Fin 1024)
    (hR : R.val = (6) * 512 + r.val) (hK : K.val = (0) * 1024 + k.val) :
    (iblk m c 13 t : Vec Ideal S512x1024 .bf16) (ix2 r k) = (V m c main_v1 : Vec Ideal S3584x1024 .bf16) (ix2 R K) := by
  obtain ⟨-, -, -, -, -, -, -, -, -, -, -, -, -, -, -, -, -, -, -, -, -, -, -, -, -, -, e0, e1, -⟩ := idx_all t
  show (V m c main_v1 : Vec Ideal S3584x1024 .bf16) (((cfg0.win 13).blk t).view.emb (ix2 r k)) = _
  refine congrArg _ (funext fun a => Fin.ext ?_)
  match a with
  | ⟨0, _⟩ => show win0_13.index t (0 : Fin 2) * 512 + 1 * r.val = R.val; rw [e0, hR]; omega
  | ⟨1, _⟩ => show win0_13.index t (1 : Fin 2) * 1024 + 1 * k.val = K.val; rw [e1, hK]; omega

/-- The block of operand 14 at a point. -/
theorem blk14 (c : Dev nD) (t : Fin cfg0.N) (r : Fin 512) (k : Fin 1024) (R : Fin 4096) (K : Fin 1024)
    (hR : R.val = (t.val) * 512 + r.val) (hK : K.val = (0) * 1024 + k.val) :
    (iblk m c 14 t : Vec Ideal S512x1024 .f32) (ix2 r k) = (V m c main_arg0 : Vec Ideal S4096x1024 .f32) (ix2 R K) := by
  obtain ⟨-, -, -, -, -, -, -, -, -, -, -, -, -, -, -, -, -, -, -, -, -, -, -, -, -, -, -, -, e0, e1, -⟩ := idx_all t
  show (V m c main_arg0 : Vec Ideal S4096x1024 .f32) (((cfg0.win 14).blk t).view.emb (ix2 r k)) = _
  refine congrArg _ (funext fun a => Fin.ext ?_)
  match a with
  | ⟨0, _⟩ => show win0_14.index t (0 : Fin 2) * 512 + 1 * r.val = R.val; rw [e0, hR]; omega
  | ⟨1, _⟩ => show win0_14.index t (1 : Fin 2) * 1024 + 1 * k.val = K.val; rw [e1, hK]; omega

/-- The block of operand 15 at a point. -/
theorem blk15 (c : Dev nD) (t : Fin cfg0.N) (r : Fin 1) (k : Fin 1024) (R : Fin 1) (K : Fin 1024)
    (hR : R.val = (0) * 1 + r.val) (hK : K.val = (0) * 1024 + k.val) :
    (iblk m c 15 t : Vec Ideal S1x1024 .f32) (ix2 r k) = (V m c main_arg1 : Vec Ideal S1x1024 .f32) (ix2 R K) := by
  obtain ⟨-, -, -, -, -, -, -, -, -, -, -, -, -, -, -, -, -, -, -, -, -, -, -, -, -, -, -, -, -, -, e0, e1, -⟩ := idx_all t
  show (V m c main_arg1 : Vec Ideal S1x1024 .f32) (((cfg0.win 15).blk t).view.emb (ix2 r k)) = _
  refine congrArg _ (funext fun a => Fin.ext ?_)
  match a with
  | ⟨0, _⟩ => show win0_15.index t (0 : Fin 2) * 1 + 1 * r.val = R.val; rw [e0, hR]; omega
  | ⟨1, _⟩ => show win0_15.index t (1 : Fin 2) * 1024 + 1 * k.val = K.val; rw [e1, hK]; omega

/-- The block of operand 16 at a point. -/
theorem blk16 (c : Dev nD) (t : Fin cfg0.N) (r : Fin 512) (k : Fin 1024) (R : Fin 4096) (K : Fin 1024)
    (hR : R.val = (t.val) * 512 + r.val) (hK : K.val = (0) * 1024 + k.val) :
    (iblk m c 16 t : Vec Ideal S512x1024 .f32) (ix2 r k) = (V m c main_arg4 : Vec Ideal S4096x1024 .f32) (ix2 R K) := by
  obtain ⟨-, -, -, -, -, -, -, -, -, -, -, -, -, -, -, -, -, -, -, -, -, -, -, -, -, -, -, -, -, -, -, -, e0, e1, -⟩ := idx_all t
  show (V m c main_arg4 : Vec Ideal S4096x1024 .f32) (((cfg0.win 16).blk t).view.emb (ix2 r k)) = _
  refine congrArg _ (funext fun a => Fin.ext ?_)
  match a with
  | ⟨0, _⟩ => show win0_16.index t (0 : Fin 2) * 512 + 1 * r.val = R.val; rw [e0, hR]; omega
  | ⟨1, _⟩ => show win0_16.index t (1 : Fin 2) * 1024 + 1 * k.val = K.val; rw [e1, hK]; omega

/-- The product of two entries. -/
abbrev mul1 (a b : EReal) : EReal := a * b

section Block

variable (x0 : FVec Ideal S512x512 .bf16) (x1 : FVec Ideal S512x1024 .bf16) (x2 : FVec Ideal S512x512 .bf16) (x3 : FVec Ideal S512x1024 .bf16) (x4 : FVec Ideal S512x512 .bf16) (x5 : FVec Ideal S512x1024 .bf16) (x6 : FVec Ideal S512x512 .bf16) (x7 : FVec Ideal S512x1024 .bf16) (x8 : FVec Ideal S512x512 .bf16) (x9 : FVec Ideal S512x1024 .bf16) (x10 : FVec Ideal S512x512 .bf16) (x11 : FVec Ideal S512x1024 .bf16) (x12 : FVec Ideal S512x512 .bf16) (x13 : FVec Ideal S512x1024 .bf16) (x14 : FVec Ideal S512x1024 .f32) (x15 : FVec Ideal S1x1024 .f32) (x16 : FVec Ideal S512x1024 .f32)

/-- A block's entry of the gradient of the norm's result. -/
def bdh (r : Fin 512) (j : Fin 1024) : EReal := (∑ l : Fin 512, (x0 (ix2 r l) : EReal) * x1 (ix2 l j)) + (∑ l : Fin 512, (x2 (ix2 r l) : EReal) * x3 (ix2 l j)) + (∑ l : Fin 512, (x4 (ix2 r l) : EReal) * x5 (ix2 l j)) + (∑ l : Fin 512, (x6 (ix2 r l) : EReal) * x7 (ix2 l j)) + (∑ l : Fin 512, (x8 (ix2 r l) : EReal) * x9 (ix2 l j)) + (∑ l : Fin 512, (x10 (ix2 r l) : EReal) * x11 (ix2 l j)) + (∑ l : Fin 512, (x12 (ix2 r l) : EReal) * x13 (ix2 l j))

/-- A block's row of the norm's argument. -/
def brow (r : Fin 512) : Fin 1024 → EReal := fun k => x14 (ix2 r k)

/-- A block's entry of the gradient of the norm's argument. -/
def bdx (r : Fin 512) (j : Fin 1024) : EReal := (x16 (ix2 r j) : EReal) + Cert.Norm.back (brow x14 r) (fun k => bdh x0 x1 x2 x3 x4 x5 x6 x7 x8 x9 x10 x11 x12 x13 r k * x15 (ix2 0 k)) j

theorem pdh (r : Fin 512) (j : Fin 1024) : ((k0_pay5 (k0_pay3 x0 x1 x2 x3 x4 x5 x6 x7) (k0_pay4 x8 x9) x10 x11 x12 x13) : FVec Ideal S512x1024 .f32) (ix2 r j) = bdh x0 x1 x2 x3 x4 x5 x6 x7 x8 x9 x10 x11 x12 x13 r j := by
  pointwise [k0_pay3, k0_pay4, k0_pay5, bdh]

theorem p6 (r : Fin 512) : (k0_pay6 x14 : FVec Ideal S512x1 .f32) (ix2 r 0) = Cert.Norm.rs (brow x14 r) := by
  pointwise [k0_pay6]
  rfl

theorem pxh (r : Fin 512) (j : Fin 1024) : ((k0_pay7 x14) : FVec Ideal S512x1024 .f32) (ix2 r j) = brow x14 r j * Cert.Norm.rs (brow x14 r) := by
  pointwise [k0_pay7]
  simp only [p6]
  rfl

theorem pdx (r : Fin 512) (j : Fin 1024) : ((k0_pay8 (k0_pay3 x0 x1 x2 x3 x4 x5 x6 x7) (k0_pay4 x8 x9) x10 x11 x12 x13 x14 x15 x16) : FVec Ideal S512x1024 .f32) (ix2 r j)
    = bdx x0 x1 x2 x3 x4 x5 x6 x7 x8 x9 x10 x11 x12 x13 x14 x15 x16 r j := by
  pointwise [k0_pay8]
  simp only [pdh, pxh, p6]
  rfl

theorem pdg (v : FVec Ideal S1x1024 .f32) (j : Fin 1024) : (k0_pay1 (k0_pay5 (k0_pay3 x0 x1 x2 x3 x4 x5 x6 x7) (k0_pay4 x8 x9) x10 x11 x12 x13) (k0_pay7 x14) v : FVec Ideal S1x1024 .f32) (ix2 0 j)
    = (v (ix2 0 j) : EReal) + ∑ r : Fin 512, bdh x0 x1 x2 x3 x4 x5 x6 x7 x8 x9 x10 x11 x12 x13 r j * (brow x14 r j * Cert.Norm.rs (brow x14 r)) := by
  pointwise [k0_pay1]
  simp only [pdh, pxh]

end Block

theorem out17_A (c : Dev nD) (i : grid0.Coords) (a1 : Memref sig .tc .vmem S512x512 .bf16) (h1 : a1.IsWhole) (a2 : Memref sig .tc .vmem S512x1024 .bf16) (h2 : a2.IsWhole) (a3 : Memref sig .tc .vmem S512x512 .bf16) (h3 : a3.IsWhole) (a4 : Memref sig .tc .vmem S512x1024 .bf16) (h4 : a4.IsWhole) (a5 : Memref sig .tc .vmem S512x512 .bf16) (h5 : a5.IsWhole) (a6 : Memref sig .tc .vmem S512x1024 .bf16) (h6 : a6.IsWhole) (a7 : Memref sig .tc .vmem S512x512 .bf16) (h7 : a7.IsWhole) (a8 : Memref sig .tc .vmem S512x1024 .bf16) (h8 : a8.IsWhole) (a9 : Memref sig .tc .vmem S512x512 .bf16) (h9 : a9.IsWhole) (a10 : Memref sig .tc .vmem S512x1024 .bf16) (h10 : a10.IsWhole) (a11 : Memref sig .tc .vmem S512x512 .bf16) (h11 : a11.IsWhole) (a12 : Memref sig .tc .vmem S512x1024 .bf16) (h12 : a12.IsWhole) (a13 : Memref sig .tc .vmem S512x512 .bf16) (h13 : a13.IsWhole) (a14 : Memref sig .tc .vmem S512x1024 .bf16) (h14 : a14.IsWhole) (a15 : Memref sig .tc .vmem S512x1024 .f32) (h15 : a15.IsWhole) (a16 : Memref sig .tc .vmem S1x1024 .f32) (h16 : a16.IsWhole) (a17 : Memref sig .tc .vmem S512x1024 .f32) (h17 : a17.IsWhole) (a18 : Memref sig .tc .vmem S512x1024 .f32) (h18 : a18.IsWhole) (a19 : Memref sig .tc .vmem S1x1024 .f32) (h19 : a19.IsWhole) (hc0 : cond0_0 i) (x0 : Vec Ideal S512x512 .bf16) (x1 : Vec Ideal S512x1024 .bf16) (x2 : Vec Ideal S512x512 .bf16) (x3 : Vec Ideal S512x1024 .bf16) (x4 : Vec Ideal S512x512 .bf16) (x5 : Vec Ideal S512x1024 .bf16) (x6 : Vec Ideal S512x512 .bf16) (x7 : Vec Ideal S512x1024 .bf16) (x8 : Vec Ideal S512x512 .bf16) (x9 : Vec Ideal S512x1024 .bf16) (x10 : Vec Ideal S512x512 .bf16) (x11 : Vec Ideal S512x1024 .bf16) (x12 : Vec Ideal S512x512 .bf16) (x13 : Vec Ideal S512x1024 .bf16) (x14 : Vec Ideal S512x1024 .f32) (x15 : Vec Ideal S1x1024 .f32) (x16 : Vec Ideal S512x1024 .f32) :
    out0_A_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x14 x15 x16 = k0_pay8 (k0_pay3 x0 x1 x2 x3 x4 x5 x6 x7) (k0_pay4 x8 x9) x10 x11 x12 x13 x14 x15 x16 := by
  unfold out0_A_17
  rw [View.read_writes_eq_canon _ _ _ (cover0_A_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x14 x15 x16)]
  unfold kernelRun0_A
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h19.read_unread, View.ld_unit_zero (S := S1x1024) hz2, View.ld_unit_zero (S := S512x512) hz2, View.ld_unit_zero (S := S512x1024) hz2]

theorem out18_A (c : Dev nD) (i : grid0.Coords) (a1 : Memref sig .tc .vmem S512x512 .bf16) (h1 : a1.IsWhole) (a2 : Memref sig .tc .vmem S512x1024 .bf16) (h2 : a2.IsWhole) (a3 : Memref sig .tc .vmem S512x512 .bf16) (h3 : a3.IsWhole) (a4 : Memref sig .tc .vmem S512x1024 .bf16) (h4 : a4.IsWhole) (a5 : Memref sig .tc .vmem S512x512 .bf16) (h5 : a5.IsWhole) (a6 : Memref sig .tc .vmem S512x1024 .bf16) (h6 : a6.IsWhole) (a7 : Memref sig .tc .vmem S512x512 .bf16) (h7 : a7.IsWhole) (a8 : Memref sig .tc .vmem S512x1024 .bf16) (h8 : a8.IsWhole) (a9 : Memref sig .tc .vmem S512x512 .bf16) (h9 : a9.IsWhole) (a10 : Memref sig .tc .vmem S512x1024 .bf16) (h10 : a10.IsWhole) (a11 : Memref sig .tc .vmem S512x512 .bf16) (h11 : a11.IsWhole) (a12 : Memref sig .tc .vmem S512x1024 .bf16) (h12 : a12.IsWhole) (a13 : Memref sig .tc .vmem S512x512 .bf16) (h13 : a13.IsWhole) (a14 : Memref sig .tc .vmem S512x1024 .bf16) (h14 : a14.IsWhole) (a15 : Memref sig .tc .vmem S512x1024 .f32) (h15 : a15.IsWhole) (a16 : Memref sig .tc .vmem S1x1024 .f32) (h16 : a16.IsWhole) (a17 : Memref sig .tc .vmem S512x1024 .f32) (h17 : a17.IsWhole) (a18 : Memref sig .tc .vmem S512x1024 .f32) (h18 : a18.IsWhole) (a19 : Memref sig .tc .vmem S1x1024 .f32) (h19 : a19.IsWhole) (hc0 : cond0_0 i) (x0 : Vec Ideal S512x512 .bf16) (x1 : Vec Ideal S512x1024 .bf16) (x2 : Vec Ideal S512x512 .bf16) (x3 : Vec Ideal S512x1024 .bf16) (x4 : Vec Ideal S512x512 .bf16) (x5 : Vec Ideal S512x1024 .bf16) (x6 : Vec Ideal S512x512 .bf16) (x7 : Vec Ideal S512x1024 .bf16) (x8 : Vec Ideal S512x512 .bf16) (x9 : Vec Ideal S512x1024 .bf16) (x10 : Vec Ideal S512x512 .bf16) (x11 : Vec Ideal S512x1024 .bf16) (x12 : Vec Ideal S512x512 .bf16) (x13 : Vec Ideal S512x1024 .bf16) (x14 : Vec Ideal S512x1024 .f32) (x15 : Vec Ideal S1x1024 .f32) (x16 : Vec Ideal S512x1024 .f32) :
    out0_A_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x14 x15 x16 = k0_pay1 (k0_pay5 (k0_pay3 x0 x1 x2 x3 x4 x5 x6 x7) (k0_pay4 x8 x9) x10 x11 x12 x13) (k0_pay7 x14) (k0_pay2 (F := Ideal)) := by
  unfold out0_A_18
  rw [View.read_writes_eq_canon _ _ _ (cover0_A_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x14 x15 x16)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h19.read_unread, View.ld_unit_zero (S := S1x1024) hz2, View.ld_unit_zero (S := S512x512) hz2, View.ld_unit_zero (S := S512x1024) hz2]

theorem out17_B (c : Dev nD) (i : grid0.Coords) (a1 : Memref sig .tc .vmem S512x512 .bf16) (h1 : a1.IsWhole) (a2 : Memref sig .tc .vmem S512x1024 .bf16) (h2 : a2.IsWhole) (a3 : Memref sig .tc .vmem S512x512 .bf16) (h3 : a3.IsWhole) (a4 : Memref sig .tc .vmem S512x1024 .bf16) (h4 : a4.IsWhole) (a5 : Memref sig .tc .vmem S512x512 .bf16) (h5 : a5.IsWhole) (a6 : Memref sig .tc .vmem S512x1024 .bf16) (h6 : a6.IsWhole) (a7 : Memref sig .tc .vmem S512x512 .bf16) (h7 : a7.IsWhole) (a8 : Memref sig .tc .vmem S512x1024 .bf16) (h8 : a8.IsWhole) (a9 : Memref sig .tc .vmem S512x512 .bf16) (h9 : a9.IsWhole) (a10 : Memref sig .tc .vmem S512x1024 .bf16) (h10 : a10.IsWhole) (a11 : Memref sig .tc .vmem S512x512 .bf16) (h11 : a11.IsWhole) (a12 : Memref sig .tc .vmem S512x1024 .bf16) (h12 : a12.IsWhole) (a13 : Memref sig .tc .vmem S512x512 .bf16) (h13 : a13.IsWhole) (a14 : Memref sig .tc .vmem S512x1024 .bf16) (h14 : a14.IsWhole) (a15 : Memref sig .tc .vmem S512x1024 .f32) (h15 : a15.IsWhole) (a16 : Memref sig .tc .vmem S1x1024 .f32) (h16 : a16.IsWhole) (a17 : Memref sig .tc .vmem S512x1024 .f32) (h17 : a17.IsWhole) (a18 : Memref sig .tc .vmem S512x1024 .f32) (h18 : a18.IsWhole) (a19 : Memref sig .tc .vmem S1x1024 .f32) (h19 : a19.IsWhole) (hc0 : ¬cond0_0 i) (x0 : Vec Ideal S512x512 .bf16) (x1 : Vec Ideal S512x1024 .bf16) (x2 : Vec Ideal S512x512 .bf16) (x3 : Vec Ideal S512x1024 .bf16) (x4 : Vec Ideal S512x512 .bf16) (x5 : Vec Ideal S512x1024 .bf16) (x6 : Vec Ideal S512x512 .bf16) (x7 : Vec Ideal S512x1024 .bf16) (x8 : Vec Ideal S512x512 .bf16) (x9 : Vec Ideal S512x1024 .bf16) (x10 : Vec Ideal S512x512 .bf16) (x11 : Vec Ideal S512x1024 .bf16) (x12 : Vec Ideal S512x512 .bf16) (x13 : Vec Ideal S512x1024 .bf16) (x14 : Vec Ideal S512x1024 .f32) (x15 : Vec Ideal S1x1024 .f32) (x16 : Vec Ideal S512x1024 .f32) (y : Vec Ideal S1x1024 .f32) :
    out0_B_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x14 x15 x16 y = k0_pay8 (k0_pay3 x0 x1 x2 x3 x4 x5 x6 x7) (k0_pay4 x8 x9) x10 x11 x12 x13 x14 x15 x16 := by
  unfold out0_B_17
  rw [View.read_writes_eq_canon _ _ _ (cover0_B_17 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x14 x15 x16 y)]
  unfold kernelRun0_B
  dsimp only
  sl_unfold_words
  rw [View.canon_unit_zero (S := S512x1024) hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h19.read_unread, View.ld_unit_zero (S := S1x1024) hz2, View.ld_unit_zero (S := S512x512) hz2, View.ld_unit_zero (S := S512x1024) hz2]

theorem out18_B (c : Dev nD) (i : grid0.Coords) (a1 : Memref sig .tc .vmem S512x512 .bf16) (h1 : a1.IsWhole) (a2 : Memref sig .tc .vmem S512x1024 .bf16) (h2 : a2.IsWhole) (a3 : Memref sig .tc .vmem S512x512 .bf16) (h3 : a3.IsWhole) (a4 : Memref sig .tc .vmem S512x1024 .bf16) (h4 : a4.IsWhole) (a5 : Memref sig .tc .vmem S512x512 .bf16) (h5 : a5.IsWhole) (a6 : Memref sig .tc .vmem S512x1024 .bf16) (h6 : a6.IsWhole) (a7 : Memref sig .tc .vmem S512x512 .bf16) (h7 : a7.IsWhole) (a8 : Memref sig .tc .vmem S512x1024 .bf16) (h8 : a8.IsWhole) (a9 : Memref sig .tc .vmem S512x512 .bf16) (h9 : a9.IsWhole) (a10 : Memref sig .tc .vmem S512x1024 .bf16) (h10 : a10.IsWhole) (a11 : Memref sig .tc .vmem S512x512 .bf16) (h11 : a11.IsWhole) (a12 : Memref sig .tc .vmem S512x1024 .bf16) (h12 : a12.IsWhole) (a13 : Memref sig .tc .vmem S512x512 .bf16) (h13 : a13.IsWhole) (a14 : Memref sig .tc .vmem S512x1024 .bf16) (h14 : a14.IsWhole) (a15 : Memref sig .tc .vmem S512x1024 .f32) (h15 : a15.IsWhole) (a16 : Memref sig .tc .vmem S1x1024 .f32) (h16 : a16.IsWhole) (a17 : Memref sig .tc .vmem S512x1024 .f32) (h17 : a17.IsWhole) (a18 : Memref sig .tc .vmem S512x1024 .f32) (h18 : a18.IsWhole) (a19 : Memref sig .tc .vmem S1x1024 .f32) (h19 : a19.IsWhole) (hc0 : ¬cond0_0 i) (x0 : Vec Ideal S512x512 .bf16) (x1 : Vec Ideal S512x1024 .bf16) (x2 : Vec Ideal S512x512 .bf16) (x3 : Vec Ideal S512x1024 .bf16) (x4 : Vec Ideal S512x512 .bf16) (x5 : Vec Ideal S512x1024 .bf16) (x6 : Vec Ideal S512x512 .bf16) (x7 : Vec Ideal S512x1024 .bf16) (x8 : Vec Ideal S512x512 .bf16) (x9 : Vec Ideal S512x1024 .bf16) (x10 : Vec Ideal S512x512 .bf16) (x11 : Vec Ideal S512x1024 .bf16) (x12 : Vec Ideal S512x512 .bf16) (x13 : Vec Ideal S512x1024 .bf16) (x14 : Vec Ideal S512x1024 .f32) (x15 : Vec Ideal S1x1024 .f32) (x16 : Vec Ideal S512x1024 .f32) (y : Vec Ideal S1x1024 .f32) :
    out0_B_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x14 x15 x16 y = k0_pay1 (k0_pay5 (k0_pay3 x0 x1 x2 x3 x4 x5 x6 x7) (k0_pay4 x8 x9) x10 x11 x12 x13) (k0_pay7 x14) y := by
  unfold out0_B_18
  rw [View.read_writes_eq_canon _ _ _ (cover0_B_18 c i a1 h1 a2 h2 a3 h3 a4 h4 a5 h5 a6 h6 a7 h7 a8 h8 a9 h9 a10 h10 a11 h11 a12 h12 a13 h13 a14 h14 a15 h15 a16 h16 a17 h17 a18 h18 a19 h19 hc0 x0 x1 x2 x3 x4 x5 x6 x7 x8 x9 x10 x11 x12 x13 x14 x15 x16 y)]
  unfold kernelRun0_B
  dsimp only
  sl_unfold_words
  rw [View.canon_unit_zero (S := S1x1024) hz2]
  simp only [View.readAt_eq_ld, h1.read_unread, h2.read_unread, h3.read_unread, h4.read_unread, h5.read_unread, h6.read_unread, h7.read_unread, h8.read_unread, h9.read_unread, h10.read_unread, h11.read_unread, h12.read_unread, h13.read_unread, h14.read_unread, h15.read_unread, h16.read_unread, h17.read_unread, h19.read_unread, View.ld_unit_zero (S := S1x1024) hz2, View.ld_unit_zero (S := S512x512) hz2, View.ld_unit_zero (S := S512x1024) hz2]

theorem piece0 (c : Dev nD) (t : Fin cfg0.N) (r : Fin 512) (j : Fin 1024) (R : Fin 4096) (hR : R.val = t.val * 512 + r.val) :
    (∑ l : Fin 512, mul1 ((iblk m c 0 t : FVec Ideal S512x512 .bf16) (ix2 r l)) ((iblk m c 1 t : FVec Ideal S512x1024 .bf16) (ix2 l j))) = ∑ l : Fin 512, dht (m ((c : Thread nD τ).loc main_arg3)) (m ((c : Thread nD τ).loc main_arg2)) R j (0 + l.val) := by
  refine Finset.sum_congr rfl fun l _ => ?_
  have hl := l.isLt
  have hlt : 0 + l.val < 3584 := by omega
  have e0 : ((iblk m c 0 t : FVec Ideal S512x512 .bf16) (ix2 r l) : EReal) = ((m ((c : Thread nD τ).loc main_arg3)) : FVec Ideal S4096x3584 .bf16) (ix2 R ⟨0 + l.val, hlt⟩) :=
    (blk0 m c t r l R l hR (by omega)).trans ((congrFun (V_v2 m c) (ix2 R l)).trans (congrArg ((m ((c : Thread nD τ).loc main_arg3)) : FVec Ideal S4096x3584 .bf16) (funext fun a => Fin.ext (by
      match a with
      | ⟨0, _⟩ => show 0 + R.val = R.val; omega
      | ⟨1, _⟩ => show 0 + l.val = 0 + l.val; rfl))))
  have e1 : ((iblk m c 1 t : FVec Ideal S512x1024 .bf16) (ix2 l j) : EReal) = ((m ((c : Thread nD τ).loc main_arg2)) : FVec Ideal S1024x3584 .f32) (ix2 j ⟨0 + l.val, hlt⟩) :=
    (blk1 m c t l j ⟨0 + l.val, hlt⟩ j (by show 0 + l.val = _; omega) (by omega)).trans ((congrFun (V_v1 m c) (ix2 ⟨0 + l.val, hlt⟩ j)).trans (by pointwise))
  unfold dht
  rw [dif_pos hlt]
  exact congrArg₂ (fun a b : EReal => a * b) e0 e1

theorem piece1 (c : Dev nD) (t : Fin cfg0.N) (r : Fin 512) (j : Fin 1024) (R : Fin 4096) (hR : R.val = t.val * 512 + r.val) :
    (∑ l : Fin 512, mul1 ((iblk m c 2 t : FVec Ideal S512x512 .bf16) (ix2 r l)) ((iblk m c 3 t : FVec Ideal S512x1024 .bf16) (ix2 l j))) = ∑ l : Fin 512, dht (m ((c : Thread nD τ).loc main_arg3)) (m ((c : Thread nD τ).loc main_arg2)) R j (512 + l.val) := by
  refine Finset.sum_congr rfl fun l _ => ?_
  have hl := l.isLt
  have hlt : 512 + l.val < 3584 := by omega
  have e0 : ((iblk m c 2 t : FVec Ideal S512x512 .bf16) (ix2 r l) : EReal) = ((m ((c : Thread nD τ).loc main_arg3)) : FVec Ideal S4096x3584 .bf16) (ix2 R ⟨512 + l.val, hlt⟩) :=
    (blk2 m c t r l R l hR (by omega)).trans ((congrFun (V_v3 m c) (ix2 R l)).trans (congrArg ((m ((c : Thread nD τ).loc main_arg3)) : FVec Ideal S4096x3584 .bf16) (funext fun a => Fin.ext (by
      match a with
      | ⟨0, _⟩ => show 0 + R.val = R.val; omega
      | ⟨1, _⟩ => show 512 + l.val = 512 + l.val; rfl))))
  have e1 : ((iblk m c 3 t : FVec Ideal S512x1024 .bf16) (ix2 l j) : EReal) = ((m ((c : Thread nD τ).loc main_arg2)) : FVec Ideal S1024x3584 .f32) (ix2 j ⟨512 + l.val, hlt⟩) :=
    (blk3 m c t l j ⟨512 + l.val, hlt⟩ j (by show 512 + l.val = _; omega) (by omega)).trans ((congrFun (V_v1 m c) (ix2 ⟨512 + l.val, hlt⟩ j)).trans (by pointwise))
  unfold dht
  rw [dif_pos hlt]
  exact congrArg₂ (fun a b : EReal => a * b) e0 e1

theorem piece2 (c : Dev nD) (t : Fin cfg0.N) (r : Fin 512) (j : Fin 1024) (R : Fin 4096) (hR : R.val = t.val * 512 + r.val) :
    (∑ l : Fin 512, mul1 ((iblk m c 4 t : FVec Ideal S512x512 .bf16) (ix2 r l)) ((iblk m c 5 t : FVec Ideal S512x1024 .bf16) (ix2 l j))) = ∑ l : Fin 512, dht (m ((c : Thread nD τ).loc main_arg3)) (m ((c : Thread nD τ).loc main_arg2)) R j (1024 + l.val) := by
  refine Finset.sum_congr rfl fun l _ => ?_
  have hl := l.isLt
  have hlt : 1024 + l.val < 3584 := by omega
  have e0 : ((iblk m c 4 t : FVec Ideal S512x512 .bf16) (ix2 r l) : EReal) = ((m ((c : Thread nD τ).loc main_arg3)) : FVec Ideal S4096x3584 .bf16) (ix2 R ⟨1024 + l.val, hlt⟩) :=
    (blk4 m c t r l R l hR (by omega)).trans ((congrFun (V_v4 m c) (ix2 R l)).trans (congrArg ((m ((c : Thread nD τ).loc main_arg3)) : FVec Ideal S4096x3584 .bf16) (funext fun a => Fin.ext (by
      match a with
      | ⟨0, _⟩ => show 0 + R.val = R.val; omega
      | ⟨1, _⟩ => show 1024 + l.val = 1024 + l.val; rfl))))
  have e1 : ((iblk m c 5 t : FVec Ideal S512x1024 .bf16) (ix2 l j) : EReal) = ((m ((c : Thread nD τ).loc main_arg2)) : FVec Ideal S1024x3584 .f32) (ix2 j ⟨1024 + l.val, hlt⟩) :=
    (blk5 m c t l j ⟨1024 + l.val, hlt⟩ j (by show 1024 + l.val = _; omega) (by omega)).trans ((congrFun (V_v1 m c) (ix2 ⟨1024 + l.val, hlt⟩ j)).trans (by pointwise))
  unfold dht
  rw [dif_pos hlt]
  exact congrArg₂ (fun a b : EReal => a * b) e0 e1

theorem piece3 (c : Dev nD) (t : Fin cfg0.N) (r : Fin 512) (j : Fin 1024) (R : Fin 4096) (hR : R.val = t.val * 512 + r.val) :
    (∑ l : Fin 512, mul1 ((iblk m c 6 t : FVec Ideal S512x512 .bf16) (ix2 r l)) ((iblk m c 7 t : FVec Ideal S512x1024 .bf16) (ix2 l j))) = ∑ l : Fin 512, dht (m ((c : Thread nD τ).loc main_arg3)) (m ((c : Thread nD τ).loc main_arg2)) R j (1536 + l.val) := by
  refine Finset.sum_congr rfl fun l _ => ?_
  have hl := l.isLt
  have hlt : 1536 + l.val < 3584 := by omega
  have e0 : ((iblk m c 6 t : FVec Ideal S512x512 .bf16) (ix2 r l) : EReal) = ((m ((c : Thread nD τ).loc main_arg3)) : FVec Ideal S4096x3584 .bf16) (ix2 R ⟨1536 + l.val, hlt⟩) :=
    (blk6 m c t r l R l hR (by omega)).trans ((congrFun (V_v5 m c) (ix2 R l)).trans (congrArg ((m ((c : Thread nD τ).loc main_arg3)) : FVec Ideal S4096x3584 .bf16) (funext fun a => Fin.ext (by
      match a with
      | ⟨0, _⟩ => show 0 + R.val = R.val; omega
      | ⟨1, _⟩ => show 1536 + l.val = 1536 + l.val; rfl))))
  have e1 : ((iblk m c 7 t : FVec Ideal S512x1024 .bf16) (ix2 l j) : EReal) = ((m ((c : Thread nD τ).loc main_arg2)) : FVec Ideal S1024x3584 .f32) (ix2 j ⟨1536 + l.val, hlt⟩) :=
    (blk7 m c t l j ⟨1536 + l.val, hlt⟩ j (by show 1536 + l.val = _; omega) (by omega)).trans ((congrFun (V_v1 m c) (ix2 ⟨1536 + l.val, hlt⟩ j)).trans (by pointwise))
  unfold dht
  rw [dif_pos hlt]
  exact congrArg₂ (fun a b : EReal => a * b) e0 e1

theorem piece4 (c : Dev nD) (t : Fin cfg0.N) (r : Fin 512) (j : Fin 1024) (R : Fin 4096) (hR : R.val = t.val * 512 + r.val) :
    (∑ l : Fin 512, mul1 ((iblk m c 8 t : FVec Ideal S512x512 .bf16) (ix2 r l)) ((iblk m c 9 t : FVec Ideal S512x1024 .bf16) (ix2 l j))) = ∑ l : Fin 512, dht (m ((c : Thread nD τ).loc main_arg3)) (m ((c : Thread nD τ).loc main_arg2)) R j (2048 + l.val) := by
  refine Finset.sum_congr rfl fun l _ => ?_
  have hl := l.isLt
  have hlt : 2048 + l.val < 3584 := by omega
  have e0 : ((iblk m c 8 t : FVec Ideal S512x512 .bf16) (ix2 r l) : EReal) = ((m ((c : Thread nD τ).loc main_arg3)) : FVec Ideal S4096x3584 .bf16) (ix2 R ⟨2048 + l.val, hlt⟩) :=
    (blk8 m c t r l R l hR (by omega)).trans ((congrFun (V_v6 m c) (ix2 R l)).trans (congrArg ((m ((c : Thread nD τ).loc main_arg3)) : FVec Ideal S4096x3584 .bf16) (funext fun a => Fin.ext (by
      match a with
      | ⟨0, _⟩ => show 0 + R.val = R.val; omega
      | ⟨1, _⟩ => show 2048 + l.val = 2048 + l.val; rfl))))
  have e1 : ((iblk m c 9 t : FVec Ideal S512x1024 .bf16) (ix2 l j) : EReal) = ((m ((c : Thread nD τ).loc main_arg2)) : FVec Ideal S1024x3584 .f32) (ix2 j ⟨2048 + l.val, hlt⟩) :=
    (blk9 m c t l j ⟨2048 + l.val, hlt⟩ j (by show 2048 + l.val = _; omega) (by omega)).trans ((congrFun (V_v1 m c) (ix2 ⟨2048 + l.val, hlt⟩ j)).trans (by pointwise))
  unfold dht
  rw [dif_pos hlt]
  exact congrArg₂ (fun a b : EReal => a * b) e0 e1

theorem piece5 (c : Dev nD) (t : Fin cfg0.N) (r : Fin 512) (j : Fin 1024) (R : Fin 4096) (hR : R.val = t.val * 512 + r.val) :
    (∑ l : Fin 512, mul1 ((iblk m c 10 t : FVec Ideal S512x512 .bf16) (ix2 r l)) ((iblk m c 11 t : FVec Ideal S512x1024 .bf16) (ix2 l j))) = ∑ l : Fin 512, dht (m ((c : Thread nD τ).loc main_arg3)) (m ((c : Thread nD τ).loc main_arg2)) R j (2560 + l.val) := by
  refine Finset.sum_congr rfl fun l _ => ?_
  have hl := l.isLt
  have hlt : 2560 + l.val < 3584 := by omega
  have e0 : ((iblk m c 10 t : FVec Ideal S512x512 .bf16) (ix2 r l) : EReal) = ((m ((c : Thread nD τ).loc main_arg3)) : FVec Ideal S4096x3584 .bf16) (ix2 R ⟨2560 + l.val, hlt⟩) :=
    (blk10 m c t r l R l hR (by omega)).trans ((congrFun (V_v7 m c) (ix2 R l)).trans (congrArg ((m ((c : Thread nD τ).loc main_arg3)) : FVec Ideal S4096x3584 .bf16) (funext fun a => Fin.ext (by
      match a with
      | ⟨0, _⟩ => show 0 + R.val = R.val; omega
      | ⟨1, _⟩ => show 2560 + l.val = 2560 + l.val; rfl))))
  have e1 : ((iblk m c 11 t : FVec Ideal S512x1024 .bf16) (ix2 l j) : EReal) = ((m ((c : Thread nD τ).loc main_arg2)) : FVec Ideal S1024x3584 .f32) (ix2 j ⟨2560 + l.val, hlt⟩) :=
    (blk11 m c t l j ⟨2560 + l.val, hlt⟩ j (by show 2560 + l.val = _; omega) (by omega)).trans ((congrFun (V_v1 m c) (ix2 ⟨2560 + l.val, hlt⟩ j)).trans (by pointwise))
  unfold dht
  rw [dif_pos hlt]
  exact congrArg₂ (fun a b : EReal => a * b) e0 e1

theorem piece6 (c : Dev nD) (t : Fin cfg0.N) (r : Fin 512) (j : Fin 1024) (R : Fin 4096) (hR : R.val = t.val * 512 + r.val) :
    (∑ l : Fin 512, mul1 ((iblk m c 12 t : FVec Ideal S512x512 .bf16) (ix2 r l)) ((iblk m c 13 t : FVec Ideal S512x1024 .bf16) (ix2 l j))) = ∑ l : Fin 512, dht (m ((c : Thread nD τ).loc main_arg3)) (m ((c : Thread nD τ).loc main_arg2)) R j (3072 + l.val) := by
  refine Finset.sum_congr rfl fun l _ => ?_
  have hl := l.isLt
  have hlt : 3072 + l.val < 3584 := by omega
  have e0 : ((iblk m c 12 t : FVec Ideal S512x512 .bf16) (ix2 r l) : EReal) = ((m ((c : Thread nD τ).loc main_arg3)) : FVec Ideal S4096x3584 .bf16) (ix2 R ⟨3072 + l.val, hlt⟩) :=
    (blk12 m c t r l R l hR (by omega)).trans ((congrFun (V_v8 m c) (ix2 R l)).trans (congrArg ((m ((c : Thread nD τ).loc main_arg3)) : FVec Ideal S4096x3584 .bf16) (funext fun a => Fin.ext (by
      match a with
      | ⟨0, _⟩ => show 0 + R.val = R.val; omega
      | ⟨1, _⟩ => show 3072 + l.val = 3072 + l.val; rfl))))
  have e1 : ((iblk m c 13 t : FVec Ideal S512x1024 .bf16) (ix2 l j) : EReal) = ((m ((c : Thread nD τ).loc main_arg2)) : FVec Ideal S1024x3584 .f32) (ix2 j ⟨3072 + l.val, hlt⟩) :=
    (blk13 m c t l j ⟨3072 + l.val, hlt⟩ j (by show 3072 + l.val = _; omega) (by omega)).trans ((congrFun (V_v1 m c) (ix2 ⟨3072 + l.val, hlt⟩ j)).trans (by pointwise))
  unfold dht
  rw [dif_pos hlt]
  exact congrArg₂ (fun a b : EReal => a * b) e0 e1

theorem brow_eq (c : Dev nD) (t : Fin cfg0.N) (r : Fin 512) (R : Fin 4096) (hR : R.val = t.val * 512 + r.val) :
    brow (iblk m c 14 t : FVec Ideal S512x1024 .f32) r = row (m ((c : Thread nD τ).loc main_arg0)) R := by
  funext k
  have e := blk14 m c t r k R k hR (by omega)
  rw [V_main_arg0] at e
  exact e

theorem bdh_eq (c : Dev nD) (t : Fin cfg0.N) (r : Fin 512) (j : Fin 1024) (R : Fin 4096) (hR : R.val = t.val * 512 + r.val) :
    bdh (iblk m c 0 t : FVec Ideal S512x512 .bf16) (iblk m c 1 t : FVec Ideal S512x1024 .bf16) (iblk m c 2 t : FVec Ideal S512x512 .bf16) (iblk m c 3 t : FVec Ideal S512x1024 .bf16) (iblk m c 4 t : FVec Ideal S512x512 .bf16) (iblk m c 5 t : FVec Ideal S512x1024 .bf16) (iblk m c 6 t : FVec Ideal S512x512 .bf16) (iblk m c 7 t : FVec Ideal S512x1024 .bf16) (iblk m c 8 t : FVec Ideal S512x512 .bf16) (iblk m c 9 t : FVec Ideal S512x1024 .bf16) (iblk m c 10 t : FVec Ideal S512x512 .bf16) (iblk m c 11 t : FVec Ideal S512x1024 .bf16) (iblk m c 12 t : FVec Ideal S512x512 .bf16) (iblk m c 13 t : FVec Ideal S512x1024 .bf16) r j = row (dharr (m ((c : Thread nD τ).loc main_arg3)) (m ((c : Thread nD τ).loc main_arg2))) R j := by
  unfold bdh row
  rw [dharr_eq, ← piece0 m c t r j R hR, ← piece1 m c t r j R hR, ← piece2 m c t r j R hR, ← piece3 m c t r j R hR, ← piece4 m c t r j R hR, ← piece5 m c t r j R hR, ← piece6 m c t r j R hR]

theorem g_eq (c : Dev nD) (t : Fin cfg0.N) (k : Fin 1024) : ((iblk m c 15 t : FVec Ideal S1x1024 .f32) (ix2 0 k) : EReal) = ((m ((c : Thread nD τ).loc main_arg1)) : FVec Ideal S1x1024 .f32) (ix2 0 k) := by
  have e := blk15 m c t 0 k 0 k rfl (by omega)
  rw [V_main_arg1] at e
  exact e

theorem res_eq (c : Dev nD) (t : Fin cfg0.N) (r : Fin 512) (j : Fin 1024) (R : Fin 4096) (J : Fin 1024)
    (hR : R.val = t.val * 512 + r.val) (hJ : J.val = 0 * 1024 + j.val) : ((iblk m c 16 t : FVec Ideal S512x1024 .f32) (ix2 r j) : EReal) = ((m ((c : Thread nD τ).loc main_arg4)) : FVec Ideal S4096x1024 .f32) (ix2 R J) := by
  have e := blk16 m c t r j R J hR hJ
  rw [V_main_arg4] at e
  exact e

theorem dx_form (c : Dev nD) (t : Fin cfg0.N) (r : Fin 512) (j : Fin 1024) (R : Fin 4096) (J : Fin 1024)
    (hR : R.val = t.val * 512 + r.val) (hJ : J.val = 0 * 1024 + j.val) :
    bdx (iblk m c 0 t : FVec Ideal S512x512 .bf16) (iblk m c 1 t : FVec Ideal S512x1024 .bf16) (iblk m c 2 t : FVec Ideal S512x512 .bf16) (iblk m c 3 t : FVec Ideal S512x1024 .bf16) (iblk m c 4 t : FVec Ideal S512x512 .bf16) (iblk m c 5 t : FVec Ideal S512x1024 .bf16) (iblk m c 6 t : FVec Ideal S512x512 .bf16) (iblk m c 7 t : FVec Ideal S512x1024 .bf16) (iblk m c 8 t : FVec Ideal S512x512 .bf16) (iblk m c 9 t : FVec Ideal S512x1024 .bf16) (iblk m c 10 t : FVec Ideal S512x512 .bf16) (iblk m c 11 t : FVec Ideal S512x1024 .bf16) (iblk m c 12 t : FVec Ideal S512x512 .bf16) (iblk m c 13 t : FVec Ideal S512x1024 .bf16) (iblk m c 14 t : FVec Ideal S512x1024 .f32) (iblk m c 15 t : FVec Ideal S1x1024 .f32) (iblk m c 16 t : FVec Ideal S512x1024 .f32) r j = dx (m ((c : Thread nD τ).loc main_arg0)) (dharr (m ((c : Thread nD τ).loc main_arg3)) (m ((c : Thread nD τ).loc main_arg2))) (m ((c : Thread nD τ).loc main_arg1)) (m ((c : Thread nD τ).loc main_arg4)) R J := by
  obtain rfl : J = j := Fin.ext (by omega)
  unfold dx bdx
  rw [brow_eq m c t r R hR]
  refine congrArg₂ (fun a b : EReal => a + b) (res_eq m c t r J R J hR hJ) (congrArg (fun f => Cert.Norm.back (row (m ((c : Thread nD τ).loc main_arg0)) R) f J) (funext fun k => ?_))
  rw [bdh_eq m c t r k R hR]
  exact congrArg (fun a : EReal => row (dharr (m ((c : Thread nD τ).loc main_arg3)) (m ((c : Thread nD τ).loc main_arg2))) R k * a) (g_eq m c t k)

theorem point17 (c : Dev nD) (t : Fin cfg0.N) (r : Fin 512) (j : Fin 1024) (R : Fin 4096) (J : Fin 1024)
    (hR : R.val = t.val * 512 + r.val) (hJ : J.val = 0 * 1024 + j.val) :
    (outsAt0 m c t.val t.isLt).1 (ix2 r j) = G17 (m ((c : Thread nD τ).loc main_arg0)) (dharr (m ((c : Thread nD τ).loc main_arg3)) (m ((c : Thread nD τ).loc main_arg2))) (m ((c : Thread nD τ).loc main_arg1)) (m ((c : Thread nD τ).loc main_arg4)) (ix2 R J) := by
  by_cases h0 : t.val % 8 = 0
  · rw [outsAt0_A m c t h0]
    dsimp only
    rw [out17_A]
    exact (pdx _ _ _ _ _ _ _ _ _ _ _ _ _ _ _ _ _ r j).trans (dx_form m c t r j R J hR hJ)
  · rw [outsAt0_B m c t h0]
    dsimp only
    rw [out17_B]
    exact (pdx _ _ _ _ _ _ _ _ _ _ _ _ _ _ _ _ _ r j).trans (dx_form m c t r j R J hR hJ)

/-- A point's part of the gradient of the gain is its stretch of the sum. -/
theorem stretch (c : Dev nD) (t : Fin cfg0.N) (j : Fin 1024) :
    ∑ r : Fin 512, bdh (iblk m c 0 t : FVec Ideal S512x512 .bf16) (iblk m c 1 t : FVec Ideal S512x1024 .bf16) (iblk m c 2 t : FVec Ideal S512x512 .bf16) (iblk m c 3 t : FVec Ideal S512x1024 .bf16) (iblk m c 4 t : FVec Ideal S512x512 .bf16) (iblk m c 5 t : FVec Ideal S512x1024 .bf16) (iblk m c 6 t : FVec Ideal S512x512 .bf16) (iblk m c 7 t : FVec Ideal S512x1024 .bf16) (iblk m c 8 t : FVec Ideal S512x512 .bf16) (iblk m c 9 t : FVec Ideal S512x1024 .bf16) (iblk m c 10 t : FVec Ideal S512x512 .bf16) (iblk m c 11 t : FVec Ideal S512x1024 .bf16) (iblk m c 12 t : FVec Ideal S512x512 .bf16) (iblk m c 13 t : FVec Ideal S512x1024 .bf16) r j * (brow (iblk m c 14 t : FVec Ideal S512x1024 .f32) r j * Cert.Norm.rs (brow (iblk m c 14 t : FVec Ideal S512x1024 .f32) r))
      = ∑ n ∈ Finset.range 512, term (m ((c : Thread nD τ).loc main_arg0)) (dharr (m ((c : Thread nD τ).loc main_arg3)) (m ((c : Thread nD τ).loc main_arg2))) j (t.val * 512 + n) := by
  rw [Finset.sum_range (fun n => term (m ((c : Thread nD τ).loc main_arg0)) (dharr (m ((c : Thread nD τ).loc main_arg3)) (m ((c : Thread nD τ).loc main_arg2))) j (t.val * 512 + n))]
  refine Finset.sum_congr rfl fun r _ => ?_
  have hr := r.isLt
  have ht : t.val < 8 := lt_of_lt_of_eq t.isLt N_0
  have hlt : t.val * 512 + r.val < 4096 := by omega
  rw [bdh_eq m c t r j ⟨t.val * 512 + r.val, hlt⟩ rfl, brow_eq m c t r ⟨t.val * 512 + r.val, hlt⟩ rfl]
  unfold term
  rw [dif_pos hlt]

/-- The gradient of the gain after point `n`. -/
theorem acc18 (c : Dev nD) (j : Fin 1024) : ∀ (n : ℕ) (h : n < cfg0.N),
    ((outsAt0 m c n h).2 (ix2 0 j) : EReal) = ∑ k ∈ Finset.range (n * 512 + 512), term (m ((c : Thread nD τ).loc main_arg0)) (dharr (m ((c : Thread nD τ).loc main_arg3)) (m ((c : Thread nD τ).loc main_arg2))) j k := by
  have hz : ((k0_pay2 (F := Ideal) : FVec Ideal S1x1024 .f32) (ix2 0 j) : EReal) = 0 := by pointwise [k0_pay2]
  intro n
  induction n with
  | zero =>
    intro h
    have e : outsAt0 m c 0 h = outsAt0 m c (⟨0, h⟩ : Fin cfg0.N).val (⟨0, h⟩ : Fin cfg0.N).isLt := rfl
    rw [Finset.sum_range_add, ← stretch m c ⟨0, h⟩ j, e, outsAt0_A m c ⟨0, h⟩ rfl]
    dsimp only
    rw [out18_A]
    refine (pdg _ _ _ _ _ _ _ _ _ _ _ _ _ _ _ _ j).trans ?_
    rw [hz]
    simp
  | succ n ih =>
    intro h
    have hN : n + 1 < 8 := lt_of_lt_of_eq h N_0
    have h0 : ¬(n + 1) % 8 = 0 := by omega
    have e : outsAt0 m c (n + 1) h = outsAt0 m c (⟨n + 1, h⟩ : Fin cfg0.N).val (⟨n + 1, h⟩ : Fin cfg0.N).isLt := rfl
    rw [Finset.sum_range_add, ← stretch m c ⟨n + 1, h⟩ j, e, outsAt0_B m c ⟨n + 1, h⟩ h0]
    dsimp only
    rw [out18_B]
    refine (pdg _ _ _ _ _ _ _ _ _ _ _ _ _ _ _ _ j).trans ?_
    have hp := ih (Nat.lt_of_succ_lt h)
    rw [show n * 512 + 512 = (n + 1) * 512 by ring] at hp
    exact congrArg (fun a : EReal => a + _) hp

theorem point18 (c : Dev nD) (t : Fin cfg0.N) (r : Fin 1) (j : Fin 1024) (R : Fin 1) (J : Fin 1024) (h1 : t.val % 8 = 7)
    (hR : R.val = 0 * 1 + r.val) (hJ : J.val = 0 * 1024 + j.val) :
    (outsAt0 m c t.val t.isLt).2 (ix2 r j) = G18 (m ((c : Thread nD τ).loc main_arg0)) (dharr (m ((c : Thread nD τ).loc main_arg3)) (m ((c : Thread nD τ).loc main_arg2))) (ix2 R J) := by
  obtain rfl : J = j := Fin.ext (by omega)
  obtain rfl : r = 0 := Subsingleton.elim _ _
  have ht : t.val < 8 := lt_of_lt_of_eq t.isLt N_0
  refine (acc18 m c J t.val t.isLt).trans ?_
  rw [show t.val * 512 + 512 = 4096 by omega]
  rfl

/-- What a point writes back to result 0 is its block. -/
theorem flushed17_eq (c : Dev nD) (t : Fin cfg0.N) (hf : (cfg0.win 17).flush t = true) :
    (dats m 0 c).flushed 17 t = ((cfg0.win 17).blk t).view.read (Elt Ideal) (G17 (m ((c : Thread nD τ).loc main_arg0)) (dharr (m ((c : Thread nD τ).loc main_arg3)) (m ((c : Thread nD τ).loc main_arg2))) (m ((c : Thread nD τ).loc main_arg1)) (m ((c : Thread nD τ).loc main_arg4))) := by
  rw [Value.flushed17]
  obtain ⟨-, -, -, -, -, -, -, -, -, -, -, -, -, -, -, -, -, -, -, -, -, -, -, -, -, -, -, -, -, -, -, -, -, -, e0, e1, -⟩ := idx_all t
  funext y
  have ht : t.val < grid0.N := t.isLt
  rw [N_0] at ht
  show (outsAt0 m c t.val t.isLt).1 ((cfg0.win 17).xinj (grid0.coords t) y) = G17 (m ((c : Thread nD τ).loc main_arg0)) (dharr (m ((c : Thread nD τ).loc main_arg3)) (m ((c : Thread nD τ).loc main_arg2))) (m ((c : Thread nD τ).loc main_arg1)) (m ((c : Thread nD τ).loc main_arg4)) (((cfg0.win 17).blk t).view.emb y)
  rw [eq_ix2 (n0 := 512) (n1 := 1024) ((cfg0.win 17).xinj (grid0.coords t) y), eq_ix2 (n0 := 4096) (n1 := 1024) (((cfg0.win 17).blk t).view.emb y)]
  exact point17 m c t _ _ _ _ (by show win0_17.index t (0 : Fin 2) * 512 + 1 * (y 0).val = (t.val) * 512 + (y 0).val; rw [e0]; omega) (by show win0_17.index t (1 : Fin 2) * 1024 + 1 * (y 1).val = (0) * 1024 + (y 1).val; rw [e1]; omega)

/-- Every index of result 0 is in some point's block. -/
theorem cover17 (i : S4096x1024.Idx) : ∃ t : Fin cfg0.N, (cfg0.win 17).flush t = true ∧ i ∈ ((cfg0.win 17).blk t).view.set := by
  have hi0 : (i 0).val < 4096 := (i 0).isLt
  have hi1 : (i 1).val < 1024 := (i 1).isLt
  let t : Fin cfg0.N := ⟨(i 0).val / 512, by show _ < grid0.N; rw [N_0]; omega⟩
  have htv : t.val = (i 0).val / 512 := rfl
  obtain ⟨-, -, -, -, -, -, -, -, -, -, -, -, -, -, -, -, -, -, -, -, -, -, -, -, -, -, -, -, -, -, -, -, -, -, e0, e1, -, -, hfl⟩ := idx_all t
  refine ⟨t, hfl, ?_⟩
  show i ∈ ((View.whole main_v9_0).slice (win0_17.rect t)).set
  rw [View.set_slice_whole, Rect.mem_set_unit]
  intro a
  match a with
  | ⟨0, _⟩ => show win0_17.index t (0 : Fin 2) * 512 ≤ (i 0).val ∧ (i 0).val < win0_17.index t (0 : Fin 2) * 512 + 512; rw [e0]; try rw [htv]
              omega
  | ⟨1, _⟩ => show win0_17.index t (1 : Fin 2) * 1024 ≤ (i 1).val ∧ (i 1).val < win0_17.index t (1 : Fin 2) * 1024 + 1024; rw [e1]; try rw [htv]
              omega

/-- What a point writes back to result 1 is its block. -/
theorem flushed18_eq (c : Dev nD) (t : Fin cfg0.N) (hf : (cfg0.win 18).flush t = true) :
    (dats m 0 c).flushed 18 t = ((cfg0.win 18).blk t).view.read (Elt Ideal) (G18 (m ((c : Thread nD τ).loc main_arg0)) (dharr (m ((c : Thread nD τ).loc main_arg3)) (m ((c : Thread nD τ).loc main_arg2)))) := by
  rw [Value.flushed18]
  obtain ⟨-, -, -, -, -, -, -, -, -, -, -, -, -, -, -, -, -, -, -, -, -, -, -, -, -, -, -, -, -, -, -, -, -, -, -, -, e0, e1, -⟩ := idx_all t
  funext y
  have ht : t.val < grid0.N := t.isLt
  rw [N_0] at ht
  show (outsAt0 m c t.val t.isLt).2 ((cfg0.win 18).xinj (grid0.coords t) y) = G18 (m ((c : Thread nD τ).loc main_arg0)) (dharr (m ((c : Thread nD τ).loc main_arg3)) (m ((c : Thread nD τ).loc main_arg2))) (((cfg0.win 18).blk t).view.emb y)
  rw [eq_ix2 (n0 := 1) (n1 := 1024) ((cfg0.win 18).xinj (grid0.coords t) y), eq_ix2 (n0 := 1) (n1 := 1024) (((cfg0.win 18).blk t).view.emb y)]
  exact point18 m c t _ _ _ _ ((flush0_18 t).mp hf) (by show win0_18.index t (0 : Fin 2) * 1 + 1 * (y 0).val = (0) * 1 + (y 0).val; rw [e0]; omega) (by show win0_18.index t (1 : Fin 2) * 1024 + 1 * (y 1).val = (0) * 1024 + (y 1).val; rw [e1]; omega)

/-- Every index of result 1 is in some point's block. -/
theorem cover18 (i : S1x1024.Idx) : ∃ t : Fin cfg0.N, (cfg0.win 18).flush t = true ∧ i ∈ ((cfg0.win 18).blk t).view.set := by
  have hi0 : (i 0).val < 1 := (i 0).isLt
  have hi1 : (i 1).val < 1024 := (i 1).isLt
  let t : Fin cfg0.N := ⟨7, by show _ < grid0.N; rw [N_0]; omega⟩
  have htv : t.val = 7 := rfl
  obtain ⟨-, -, -, -, -, -, -, -, -, -, -, -, -, -, -, -, -, -, -, -, -, -, -, -, -, -, -, -, -, -, -, -, -, -, -, -, e0, e1, -⟩ := idx_all t
  refine ⟨t, (flush0_18 t).mpr (by rw [htv]), ?_⟩
  show i ∈ ((View.whole main_v9_1).slice (win0_18.rect t)).set
  rw [View.set_slice_whole, Rect.mem_set_unit]
  intro a
  match a with
  | ⟨0, _⟩ => show win0_18.index t (0 : Fin 2) * 1 ≤ (i 0).val ∧ (i 0).val < win0_18.index t (0 : Fin 2) * 1 + 1; rw [e0]; try rw [htv]
              omega
  | ⟨1, _⟩ => show win0_18.index t (1 : Fin 2) * 1024 ≤ (i 1).val ∧ (i 1).val < win0_18.index t (1 : Fin 2) * 1024 + 1024; rw [e1]; try rw [htv]
              omega

/-- The run, read: the results, the arguments unchanged. -/
theorem run : θ_run defs (onTc (τ := τ) (main (F := Ideal))) ⟨m, fun _ => 0, ρ⟩ fun r => ∀ c : Dev nD,
      r.2.mem ((c.tc : Thread nD τ).loc main_v9_0) = G17 (m ((c.tc : Thread nD τ).loc main_arg0)) (dharr (m ((c.tc : Thread nD τ).loc main_arg3)) (m ((c.tc : Thread nD τ).loc main_arg2))) (m ((c.tc : Thread nD τ).loc main_arg1)) (m ((c.tc : Thread nD τ).loc main_arg4))
      ∧ r.2.mem ((c.tc : Thread nD τ).loc main_v9_1) = G18 (m ((c.tc : Thread nD τ).loc main_arg0)) (dharr (m ((c.tc : Thread nD τ).loc main_arg3)) (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((dats m 0 c).arrAt_eq_of_cover 17 _ (fun t hf => flushed17_eq m c t hf) cover17), (h c).2.1.trans ((dats m 0 c).arrAt_eq_of_cover 18 _ (fun t hf => flushed18_eq m c t hf) cover18), (h c).2.2⟩)
    (Value.run_blocks m ρ)

end Cert.Kernel6Ideal.Norm

namespace Cert.Reference6Ideal.Norm

open Cert.Reference6Ideal Cert.Reference6Ideal.Facts₀ Idealize.ShloMosaic Idealize.ShloMosaic.TcCoe Idealize.SL.Sem
open scoped BigOperators

/-- The precondition read: the arguments are arrays of real numbers. -/
theorem reals (a0 : FVec Ideal S4096x1024 .f32) (a1 : FVec Ideal S1x1024 .f32) (a2 : FVec Ideal S1024x3584 .f32) (a3 : FVec Ideal S4096x3584 .bf16) (a4 : FVec Ideal S4096x1024 .f32) (h : Cert.Pre_finite6.fn (F := Ideal) a0 a1 a2 a3 a4 = fun _ => 1#1) :
    (∃ r : S4096x1024.Idx → ℝ, a0 = fun i => (r i : EReal))
    ∧ (∃ r : S1x1024.Idx → ℝ, a1 = fun i => (r i : EReal))
    ∧ (∃ r : S1024x3584.Idx → ℝ, a2 = fun i => (r i : EReal))
    ∧ (∃ r : S4096x3584.Idx → ℝ, a3 = fun i => (r i : EReal))
    ∧ (∃ r : S4096x1024.Idx → ℝ, a4 = fun i => (r i : EReal)) := by
  have e := congrFun h (fun k => k.elim0)
  obtain ⟨e, e4⟩ := Cert.Reals.both e
  obtain ⟨e, e3⟩ := Cert.Reals.both e
  obtain ⟨e, e2⟩ := Cert.Reals.both e
  obtain ⟨e0, e1⟩ := Cert.Reals.both e
  exact ⟨Cert.Reals.reals_of_all a0 _ _ _ _ e0, Cert.Reals.reals_of_all a1 _ _ _ _ e1, Cert.Reals.reals_of_all a2 _ _ _ _ e2, Cert.Reals.reals_of_all (extf (F := Ideal) .f32 a3 bitsLt_bf16_f32) _ _ _ _ e3, Cert.Reals.reals_of_all a4 _ _ _ _ e4⟩

section Row

variable (x dh : FVec Ideal S4096x1024 .f32) (g : FVec Ideal S1x1024 .f32) (res : FVec Ideal S4096x1024 .f32) (f fd : S4096x1024.Idx → ℝ) (fg : S1x1024.Idx → ℝ) (fr : S4096x1024.Idx → ℝ)
  (hx : x = fun i => (f i : EReal)) (hd : dh = fun i => (fd i : EReal)) (hg : g = fun i => (fg i : EReal)) (hr : res = fun i => (fr i : EReal))

include hx hd hg hr

theorem dx_form (R : Fin 4096) (j : Fin 1024) :
    (res (ix2 R j) : EReal) + Cert.Kernel6Ideal.Norm.row dh R j * g (ix2 0 j) * Cert.Norm.rs (Cert.Kernel6Ideal.Norm.row x R)
      + Cert.Kernel6Ideal.Norm.row x R j * (∑ _z : Fin 1, Ideal.div ((∑ k, Cert.Kernel6Ideal.Norm.row x R k * (Cert.Kernel6Ideal.Norm.row dh R k * g (ix2 0 k))) * (Ideal.ofBits .f32 3204448256#32 * Ideal.div (Cert.Norm.rs (Cert.Kernel6Ideal.Norm.row x R)) (Cert.Norm.ms (Cert.Kernel6Ideal.Norm.row x R)))) (Ideal.ofBits .f32 1149239296#32))
      + (∑ _z : Fin 1, Ideal.div ((∑ k, Cert.Kernel6Ideal.Norm.row x R k * (Cert.Kernel6Ideal.Norm.row dh R k * g (ix2 0 k))) * (Ideal.ofBits .f32 3204448256#32 * Ideal.div (Cert.Norm.rs (Cert.Kernel6Ideal.Norm.row x R)) (Cert.Norm.ms (Cert.Kernel6Ideal.Norm.row x R)))) (Ideal.ofBits .f32 1149239296#32)) * Cert.Kernel6Ideal.Norm.row x R j
      = Cert.Kernel6Ideal.Norm.dx x dh g res R j :=
  Cert.Norm.back_ref (Cert.Kernel6Ideal.Norm.row x R) (fun k => Cert.Kernel6Ideal.Norm.row dh R k * g (ix2 0 k)) (fun k => f (ix2 R k)) (fun k => fd (ix2 R k) * fg (ix2 0 k))
    (fun k => by rw [hx]; rfl) (fun k => by rw [hd, hg, EReal.coe_mul]; rfl) (res (ix2 R j)) ⟨fr (ix2 R j), by rw [hr]⟩ j

/-- The lines of the reference that give the gradient of the normalisation's input plus the residual. -/
abbrev dxHost (x : FVec Ideal S4096x1024 .f32) (dh : FVec Ideal S4096x1024 .f32) (g : FVec Ideal S1x1024 .f32) (res : FVec Ideal S4096x1024 .f32) : FVec Ideal S4096x1024 .f32 :=
  (addf (addf (addf res (mulf (mulf dh (broadcastInDim S4096x1024 ![0, 1] bcast_S1x1024_S4096x1024_0_1 (broadcastInDim S1x1024 ![1] bcast_S1024_S1x1024_1 (shapeCast _ g shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32))))))) (mulf x (broadcastInDim S4096x1024 ![0] bcast_S4096_S4096x1024_0 (Host.reduceAdd (Host.divf (mulf (shapeCast _ (Host.reduceAdd (mulf x (mulf dh (broadcastInDim S4096x1024 ![0, 1] bcast_S1x1024_S4096x1024_0_1 (broadcastInDim S1x1024 ![1] bcast_S1024_S1x1024_1 (shapeCast _ g shapeCasts_S1x1024_S1024))))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf dh (broadcastInDim S4096x1024 ![0, 1] bcast_S1x1024_S4096x1024_0_1 (broadcastInDim S1x1024 ![1] bcast_S1024_S1x1024_1 (shapeCast _ g shapeCasts_S1x1024_S1024))))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)) x) : FVec Ideal S4096x1024 .f32)

theorem ref17_at : (dxHost x dh g res) = Cert.Kernel6Ideal.Norm.G17 x dh g res := by
  unfold dxHost
  funext j
  idx_vars j
  have h := dx_form x dh g res f fd fg fr hx hd hg hr j0 j1
  unfold Cert.Kernel6Ideal.Norm.row Cert.Norm.rs Cert.Norm.ms at h
  pointwise
  exact h

/-- The lines of the reference that give the gradient of its gain. -/
abbrev dgHost (x : FVec Ideal S4096x1024 .f32) (dh : FVec Ideal S4096x1024 .f32) : FVec Ideal S1x1024 .f32 :=
  (broadcastInDim S1x1024 ![1] bcast_S1024_S1x1024_1 (Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) dh) (constant (F := Ideal) S_ .f32 0x00000000#32) reducesTo_S4096x1024_S1024_d0 h_S_) shapeCasts_S1024_S1x1024) (constant (F := Ideal) S_ .f32 0x00000000#32) reducesTo_S1x1024_S1024_d0 h_S_) : FVec Ideal S1x1024 .f32)

theorem ref18_at : (dgHost x dh) = Cert.Kernel6Ideal.Norm.G18 x dh := by
  unfold dgHost
  funext j
  idx_vars j
  show _ = ∑ n ∈ Finset.range 4096, Cert.Kernel6Ideal.Norm.term x dh j1 n
  rw [Finset.sum_range]
  pointwise
  rw [Fintype.sum_unique]
  refine Finset.sum_congr rfl fun R _ => ?_
  unfold Cert.Kernel6Ideal.Norm.term
  rw [dif_pos R.isLt, mul_comm]
  rfl

end Row

variable (a0 : FVec Ideal S4096x1024 .f32) (a1 : FVec Ideal S1x1024 .f32) (a2 : FVec Ideal S1024x3584 .f32) (a3 : FVec Ideal S4096x3584 .bf16) (a4 : FVec Ideal S4096x1024 .f32)

theorem dh_eq : (Host.dotGeneral (F := Ideal) (φ₁ := .f32) (φ₂ := .f32) dot_S4096x3584_S1024x3584_S4096x1024_1_1_0_0_n_n none (extf (F := Ideal) .f32 a3 bitsLt_bf16_f32) a2) = Cert.Kernel6Ideal.Norm.dharr a3 a2 := by
  funext j
  idx_vars j
  pointwise [Cert.Kernel6Ideal.Norm.dharr]

theorem dh_real (h3 : ∃ r : S4096x3584.Idx → ℝ, a3 = fun i => (r i : EReal)) (h2 : ∃ r : S1024x3584.Idx → ℝ, a2 = fun i => (r i : EReal)) :
    ∃ r : S4096x1024.Idx → ℝ, Cert.Kernel6Ideal.Norm.dharr a3 a2 = fun i => (r i : EReal) := by
  obtain ⟨r3, rfl⟩ := h3
  obtain ⟨r2, rfl⟩ := h2
  refine ⟨fun i => ∑ l : Fin 3584, r3 (ix2 (i 0) l) * r2 (ix2 (i 1) l), funext fun i => ?_⟩
  unfold Cert.Kernel6Ideal.Norm.dharr
  rw [Cert.Reals.coe_dot]

theorem ref17 (h : Cert.Pre_finite6.fn (F := Ideal) a0 a1 a2 a3 a4 = fun _ => 1#1) :
    (dxHost a0 (Host.dotGeneral (F := Ideal) (φ₁ := .f32) (φ₂ := .f32) dot_S4096x3584_S1024x3584_S4096x1024_1_1_0_0_n_n none (extf (F := Ideal) .f32 a3 bitsLt_bf16_f32) a2) a1 a4) = Cert.Kernel6Ideal.Norm.G17 a0 (Cert.Kernel6Ideal.Norm.dharr a3 a2) a1 a4 := by
  obtain ⟨⟨f, hf⟩, ⟨fg, hg⟩, h2, h3, ⟨fr, hr⟩⟩ := reals a0 a1 a2 a3 a4 h
  obtain ⟨fd, hd⟩ := dh_real a2 a3 h3 h2
  rw [dh_eq]
  exact ref17_at _ _ a1 a4 f fd fg fr hf hd hg hr

theorem ref18 (h : Cert.Pre_finite6.fn (F := Ideal) a0 a1 a2 a3 a4 = fun _ => 1#1) :
    (dgHost a0 (Host.dotGeneral (F := Ideal) (φ₁ := .f32) (φ₂ := .f32) dot_S4096x3584_S1024x3584_S4096x1024_1_1_0_0_n_n none (extf (F := Ideal) .f32 a3 bitsLt_bf16_f32) a2)) = Cert.Kernel6Ideal.Norm.G18 a0 (Cert.Kernel6Ideal.Norm.dharr a3 a2) := by
  obtain ⟨⟨f, hf⟩, ⟨fg, hg⟩, h2, h3, ⟨fr, hr⟩⟩ := reals a0 a1 a2 a3 a4 h
  obtain ⟨fd, hd⟩ := dh_real a2 a3 h3 h2
  rw [dh_eq]
  exact ref18_at _ _ a1 a4 f fd fg fr hf hd hg hr

end Cert.Reference6Ideal.Norm

end
-- ==== Proof.FfnUp.lean ====
/- The gated layer going up: the two products and the gated activation. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.Value

@[expose] public section

set_option maxRecDepth 16384

noncomputable section

namespace Cert.Kernel7Ideal.Ffn

open Cert.Kernel7Ideal Cert.Kernel7Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- One entry of a product of the hidden rows and a weight. -/
def dot (x : FVec Ideal S4096x1024 .f32) (w : FVec Ideal S1024x2816 .f32) (r : Fin 4096) (j : Fin 2816) : EReal :=
  ∑ k : Fin 1024, (x (ix2 r k) : EReal) * w (ix2 k j)

/-- A product. -/
def G3 (x : FVec Ideal S4096x1024 .f32) (w : FVec Ideal S1024x2816 .f32) : FVec Ideal S4096x2816 .bf16 := fun i => dot x w (i 0) (i 1)

/-- The gated activation. -/
def G5 (x : FVec Ideal S4096x1024 .f32) (w u : FVec Ideal S1024x2816 .f32) : FVec Ideal S4096x2816 .bf16 := fun i =>
  dot x w (i 0) (i 1) * Ideal.div 1 (1 + Ideal.exp (-dot x w (i 0) (i 1))) * dot x u (i 0) (i 1)

theorem V_v0 (c : Dev nD) : (V m c main_v0 : FVec Ideal S4096x1024 .bf16) = truncf (F := Ideal) .bf16 (m ((c : Thread nD τ).loc main_arg0) : FVec Ideal S4096x1024 .f32) bitsLt_bf16_f32 := by
  dsimp only [V, hostOps0]
  after_results

theorem V_v2 (c : Dev nD) : (V m c main_v2 : FVec Ideal S2816x1024 .bf16) = truncf (F := Ideal) .bf16 (transpose S2816x1024 [1, 0] (m ((c : Thread nD τ).loc main_arg1) : FVec Ideal S1024x2816 .f32) transposes_S1024x2816_S2816x1024_1_0) bitsLt_bf16_f32 := by
  dsimp only [V, hostOps0]
  after_results

theorem V_v4 (c : Dev nD) : (V m c main_v4 : FVec Ideal S2816x1024 .bf16) = truncf (F := Ideal) .bf16 (transpose S2816x1024 [1, 0] (m ((c : Thread nD τ).loc main_arg2) : FVec Ideal S1024x2816 .f32) transposes_S1024x2816_S2816x1024_1_0) bitsLt_bf16_f32 := by
  dsimp only [V, hostOps0]
  after_results

/-- The index maps, over the grid. -/
theorem idx_all : ∀ t : Fin cfg0.N, win0_0.index t (0 : Fin 2) = t.val % 4
    ∧ win0_0.index t (1 : Fin 2) = 0
    ∧ win0_1.index t (0 : Fin 2) = t.val / 4
    ∧ win0_1.index t (1 : Fin 2) = 0
    ∧ win0_2.index t (0 : Fin 2) = t.val / 4
    ∧ win0_2.index t (1 : Fin 2) = 0
    ∧ win0_3.index t (0 : Fin 2) = t.val % 4
    ∧ win0_3.index t (1 : Fin 2) = t.val / 4
    ∧ win0_4.index t (0 : Fin 2) = t.val % 4
    ∧ win0_4.index t (1 : Fin 2) = t.val / 4
    ∧ win0_5.index t (0 : Fin 2) = t.val % 4
    ∧ win0_5.index t (1 : Fin 2) = t.val / 4
    ∧ (cfg0.win 3).flush t = true
    ∧ (cfg0.win 4).flush t = true
    ∧ (cfg0.win 5).flush t = true :=
  (by decide +kernel : ∀ t : Fin grid0.N, _)

/-- The block of the rows at a point. -/
theorem blk0 (c : Dev nD) (t : Fin cfg0.N) (r : Fin 1024) (k : Fin 1024) (R : Fin 4096) (K : Fin 1024)
    (hR : R.val = (t.val % 4) * 1024 + r.val) (hK : K.val = (0) * 1024 + k.val) :
    (iblk m c 0 t : Vec Ideal S1024x1024 .bf16) (ix2 r k) = (V m c main_v0 : Vec Ideal S4096x1024 .bf16) (ix2 R K) := by
  obtain ⟨e0, e1, -⟩ := idx_all t
  show (V m c main_v0 : Vec Ideal S4096x1024 .bf16) (((cfg0.win 0).blk t).view.emb (ix2 r k)) = _
  refine congrArg _ (funext fun a => Fin.ext ?_)
  match a with
  | ⟨0, _⟩ => show win0_0.index t (0 : Fin 2) * 1024 + 1 * r.val = R.val; rw [e0, hR]; omega
  | ⟨1, _⟩ => show win0_0.index t (1 : Fin 2) * 1024 + 1 * k.val = K.val; rw [e1, hK]; omega

/-- The block of the gate weight at a point. -/
theorem blk1 (c : Dev nD) (t : Fin cfg0.N) (r : Fin 1408) (k : Fin 1024) (R : Fin 2816) (K : Fin 1024)
    (hR : R.val = (t.val / 4) * 1408 + r.val) (hK : K.val = (0) * 1024 + k.val) :
    (iblk m c 1 t : Vec Ideal S1408x1024 .bf16) (ix2 r k) = (V m c main_v2 : Vec Ideal S2816x1024 .bf16) (ix2 R K) := by
  obtain ⟨-, -, e0, e1, -⟩ := idx_all t
  show (V m c main_v2 : Vec Ideal S2816x1024 .bf16) (((cfg0.win 1).blk t).view.emb (ix2 r k)) = _
  refine congrArg _ (funext fun a => Fin.ext ?_)
  match a with
  | ⟨0, _⟩ => show win0_1.index t (0 : Fin 2) * 1408 + 1 * r.val = R.val; rw [e0, hR]; omega
  | ⟨1, _⟩ => show win0_1.index t (1 : Fin 2) * 1024 + 1 * k.val = K.val; rw [e1, hK]; omega

/-- The block of the up weight at a point. -/
theorem blk2 (c : Dev nD) (t : Fin cfg0.N) (r : Fin 1408) (k : Fin 1024) (R : Fin 2816) (K : Fin 1024)
    (hR : R.val = (t.val / 4) * 1408 + r.val) (hK : K.val = (0) * 1024 + k.val) :
    (iblk m c 2 t : Vec Ideal S1408x1024 .bf16) (ix2 r k) = (V m c main_v4 : Vec Ideal S2816x1024 .bf16) (ix2 R K) := by
  obtain ⟨-, -, -, -, e0, e1, -⟩ := idx_all t
  show (V m c main_v4 : Vec Ideal S2816x1024 .bf16) (((cfg0.win 2).blk t).view.emb (ix2 r k)) = _
  refine congrArg _ (funext fun a => Fin.ext ?_)
  match a with
  | ⟨0, _⟩ => show win0_2.index t (0 : Fin 2) * 1408 + 1 * r.val = R.val; rw [e0, hR]; omega
  | ⟨1, _⟩ => show win0_2.index t (1 : Fin 2) * 1024 + 1 * k.val = K.val; rw [e1, hK]; omega

/-- The product of two entries. -/
abbrev mul1 (a b : EReal) : EReal := a * b

/-- A product of two blocks is an entry of the product of the arrays. -/
theorem dot1 (c : Dev nD) (t : Fin cfg0.N) (r : Fin 1024) (j : Fin 1408) (R : Fin 4096) (J : Fin 2816)
    (hR : R.val = (t.val % 4) * 1024 + r.val) (hJ : J.val = (t.val / 4) * 1408 + j.val) :
    ∑ k : Fin 1024, mul1 ((iblk m c 0 t : Vec Ideal S1024x1024 .bf16) (ix2 r k)) ((iblk m c 1 t : Vec Ideal S1408x1024 .bf16) (ix2 j k))
      = dot (m ((c : Thread nD τ).loc main_arg0)) (m ((c : Thread nD τ).loc main_arg1)) R J := by
  unfold dot
  refine Finset.sum_congr rfl fun k _ => ?_
  rw [blk0 m c t r k R k hR (by omega), blk1 m c t j k J k hJ (by omega), V_v0, V_v2]
  pointwise

theorem dot2 (c : Dev nD) (t : Fin cfg0.N) (r : Fin 1024) (j : Fin 1408) (R : Fin 4096) (J : Fin 2816)
    (hR : R.val = (t.val % 4) * 1024 + r.val) (hJ : J.val = (t.val / 4) * 1408 + j.val) :
    ∑ k : Fin 1024, mul1 ((iblk m c 0 t : Vec Ideal S1024x1024 .bf16) (ix2 r k)) ((iblk m c 2 t : Vec Ideal S1408x1024 .bf16) (ix2 j k))
      = dot (m ((c : Thread nD τ).loc main_arg0)) (m ((c : Thread nD τ).loc main_arg2)) R J := by
  unfold dot
  refine Finset.sum_congr rfl fun k _ => ?_
  rw [blk0 m c t r k R k hR (by omega), blk2 m c t j k J k hJ (by omega), V_v0, V_v4]
  pointwise

theorem out3 (x0 : Vec Ideal S1024x1024 .bf16) (x1 x2 : Vec Ideal S1408x1024 .bf16) (r : Fin 1024) (j : Fin 1408) :
    out0_3 x0 x1 x2 (ix2 r j) = ∑ k : Fin 1024, (x0 (ix2 r k) : EReal) * x1 (ix2 j k) := by
  unfold out0_3
  rw [View.canon_unit_zero hz2, View.ld_unit_zero hz2, View.ld_unit_zero hz2]
  pointwise [k0_pay4, k0_pay2, k0_pay1]

theorem out4 (x0 : Vec Ideal S1024x1024 .bf16) (x1 x2 : Vec Ideal S1408x1024 .bf16) (r : Fin 1024) (j : Fin 1408) :
    out0_4 x0 x1 x2 (ix2 r j) = ∑ k : Fin 1024, (x0 (ix2 r k) : EReal) * x2 (ix2 j k) := by
  unfold out0_4
  rw [View.canon_unit_zero hz2, View.ld_unit_zero hz2, View.ld_unit_zero hz2]
  pointwise [k0_pay5, k0_pay3, k0_pay1]

theorem out5 (x0 : Vec Ideal S1024x1024 .bf16) (x1 x2 : Vec Ideal S1408x1024 .bf16) (r : Fin 1024) (j : Fin 1408) (a b : EReal)
    (ha : ∑ k : Fin 1024, (x0 (ix2 r k) : EReal) * x1 (ix2 j k) = a) (hb : ∑ k : Fin 1024, (x0 (ix2 r k) : EReal) * x2 (ix2 j k) = b) :
    out0_5 x0 x1 x2 (ix2 r j) = a * Ideal.div 1 (1 + Ideal.exp (-a)) * b := by
  unfold out0_5
  rw [View.canon_unit_zero hz2, View.ld_unit_zero hz2, View.ld_unit_zero hz2, View.ld_unit_zero hz2]
  subst ha hb
  pointwise [k0_pay6, k0_pay3, k0_pay2, k0_pay1]
  rw [zero_sub]

theorem point3 (c : Dev nD) (t : Fin cfg0.N) (r : Fin 1024) (j : Fin 1408) (R : Fin 4096) (J : Fin 2816)
    (hR : R.val = (t.val % 4) * 1024 + r.val) (hJ : J.val = (t.val / 4) * 1408 + j.val) :
    out0_3 (iblk m c 0 t) (iblk m c 1 t) (iblk m c 2 t) (ix2 r j) = G3 (m ((c : Thread nD τ).loc main_arg0)) (m ((c : Thread nD τ).loc main_arg1)) (ix2 R J) :=
  (out3 _ _ _ r j).trans (dot1 m c t r j R J hR hJ)

theorem point4 (c : Dev nD) (t : Fin cfg0.N) (r : Fin 1024) (j : Fin 1408) (R : Fin 4096) (J : Fin 2816)
    (hR : R.val = (t.val % 4) * 1024 + r.val) (hJ : J.val = (t.val / 4) * 1408 + j.val) :
    out0_4 (iblk m c 0 t) (iblk m c 1 t) (iblk m c 2 t) (ix2 r j) = G3 (m ((c : Thread nD τ).loc main_arg0)) (m ((c : Thread nD τ).loc main_arg2)) (ix2 R J) :=
  (out4 _ _ _ r j).trans (dot2 m c t r j R J hR hJ)

theorem point5 (c : Dev nD) (t : Fin cfg0.N) (r : Fin 1024) (j : Fin 1408) (R : Fin 4096) (J : Fin 2816)
    (hR : R.val = (t.val % 4) * 1024 + r.val) (hJ : J.val = (t.val / 4) * 1408 + j.val) :
    out0_5 (iblk m c 0 t) (iblk m c 1 t) (iblk m c 2 t) (ix2 r j) = G5 (m ((c : Thread nD τ).loc main_arg0)) (m ((c : Thread nD τ).loc main_arg1)) (m ((c : Thread nD τ).loc main_arg2)) (ix2 R J) :=
  out5 _ _ _ r j _ _ (dot1 m c t r j R J hR hJ) (dot2 m c t r j R J hR hJ)

/-- What a point writes back to the gate product is its block. -/
theorem flushed3_eq (c : Dev nD) (t : Fin cfg0.N) (hf : (cfg0.win 3).flush t = true) :
    (dats m 0 c).flushed 3 t = ((cfg0.win 3).blk t).view.read (Elt Ideal) (G3 (m ((c : Thread nD τ).loc main_arg0)) (m ((c : Thread nD τ).loc main_arg1))) := by
  rw [Value.flushed3]
  obtain ⟨-, -, -, -, -, -, e0, e1, -⟩ := idx_all t
  funext y
  have ht : t.val < grid0.N := t.isLt
  rw [N_0] at ht
  show out0_3 (iblk m c 0 t) (iblk m c 1 t) (iblk m c 2 t) ((cfg0.win 3).xinj (grid0.coords t) y) = G3 (m ((c : Thread nD τ).loc main_arg0)) (m ((c : Thread nD τ).loc main_arg1)) (((cfg0.win 3).blk t).view.emb y)
  rw [eq_ix2 (n0 := 1024) (n1 := 1408) ((cfg0.win 3).xinj (grid0.coords t) y), eq_ix2 (n0 := 4096) (n1 := 2816) (((cfg0.win 3).blk t).view.emb y)]
  exact point3 m c t _ _ _ _ (by show win0_3.index t (0 : Fin 2) * 1024 + 1 * (y 0).val = (t.val % 4) * 1024 + (y 0).val; rw [e0]; omega) (by show win0_3.index t (1 : Fin 2) * 1408 + 1 * (y 1).val = (t.val / 4) * 1408 + (y 1).val; rw [e1]; omega)

/-- Every index of the gate product is in some point's block. -/
theorem cover3 (i : S4096x2816.Idx) : ∃ t : Fin cfg0.N, (cfg0.win 3).flush t = true ∧ i ∈ ((cfg0.win 3).blk t).view.set := by
  have hi0 : (i 0).val < 4096 := (i 0).isLt
  have hi1 : (i 1).val < 2816 := (i 1).isLt
  let t : Fin cfg0.N := ⟨4 * ((i 1).val / 1408) + (i 0).val / 1024, by show _ < grid0.N; rw [N_0]; omega⟩
  have htv : t.val = 4 * ((i 1).val / 1408) + (i 0).val / 1024 := rfl
  obtain ⟨-, -, -, -, -, -, e0, e1, -, -, -, -, hfl, -⟩ := idx_all t
  refine ⟨t, hfl, ?_⟩
  show i ∈ ((View.whole main_v5_0).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [e0]; try rw [htv]
              omega
  | ⟨1, _⟩ => show win0_3.index t (1 : Fin 2) * 1408 ≤ (i 1).val ∧ (i 1).val < win0_3.index t (1 : Fin 2) * 1408 + 1408; rw [e1]; try rw [htv]
              omega

/-- What a point writes back to the up product is its block. -/
theorem flushed4_eq (c : Dev nD) (t : Fin cfg0.N) (hf : (cfg0.win 4).flush t = true) :
    (dats m 0 c).flushed 4 t = ((cfg0.win 4).blk t).view.read (Elt Ideal) (G3 (m ((c : Thread nD τ).loc main_arg0)) (m ((c : Thread nD τ).loc main_arg2))) := by
  rw [Value.flushed4]
  obtain ⟨-, -, -, -, -, -, -, -, e0, e1, -⟩ := idx_all t
  funext y
  have ht : t.val < grid0.N := t.isLt
  rw [N_0] at ht
  show out0_4 (iblk m c 0 t) (iblk m c 1 t) (iblk m c 2 t) ((cfg0.win 4).xinj (grid0.coords t) y) = G3 (m ((c : Thread nD τ).loc main_arg0)) (m ((c : Thread nD τ).loc main_arg2)) (((cfg0.win 4).blk t).view.emb y)
  rw [eq_ix2 (n0 := 1024) (n1 := 1408) ((cfg0.win 4).xinj (grid0.coords t) y), eq_ix2 (n0 := 4096) (n1 := 2816) (((cfg0.win 4).blk t).view.emb y)]
  exact point4 m c t _ _ _ _ (by show win0_4.index t (0 : Fin 2) * 1024 + 1 * (y 0).val = (t.val % 4) * 1024 + (y 0).val; rw [e0]; omega) (by show win0_4.index t (1 : Fin 2) * 1408 + 1 * (y 1).val = (t.val / 4) * 1408 + (y 1).val; rw [e1]; omega)

/-- Every index of the up product is in some point's block. -/
theorem cover4 (i : S4096x2816.Idx) : ∃ t : Fin cfg0.N, (cfg0.win 4).flush t = true ∧ i ∈ ((cfg0.win 4).blk t).view.set := by
  have hi0 : (i 0).val < 4096 := (i 0).isLt
  have hi1 : (i 1).val < 2816 := (i 1).isLt
  let t : Fin cfg0.N := ⟨4 * ((i 1).val / 1408) + (i 0).val / 1024, by show _ < grid0.N; rw [N_0]; omega⟩
  have htv : t.val = 4 * ((i 1).val / 1408) + (i 0).val / 1024 := rfl
  obtain ⟨-, -, -, -, -, -, -, -, e0, e1, -, -, -, hfl, -⟩ := idx_all t
  refine ⟨t, hfl, ?_⟩
  show i ∈ ((View.whole main_v5_1).slice (win0_4.rect t)).set
  rw [View.set_slice_whole, Rect.mem_set_unit]
  intro a
  match a with
  | ⟨0, _⟩ => show win0_4.index t (0 : Fin 2) * 1024 ≤ (i 0).val ∧ (i 0).val < win0_4.index t (0 : Fin 2) * 1024 + 1024; rw [e0]; try rw [htv]
              omega
  | ⟨1, _⟩ => show win0_4.index t (1 : Fin 2) * 1408 ≤ (i 1).val ∧ (i 1).val < win0_4.index t (1 : Fin 2) * 1408 + 1408; rw [e1]; try rw [htv]
              omega

/-- What a point writes back to the activation is its block. -/
theorem flushed5_eq (c : Dev nD) (t : Fin cfg0.N) (hf : (cfg0.win 5).flush t = true) :
    (dats m 0 c).flushed 5 t = ((cfg0.win 5).blk t).view.read (Elt Ideal) (G5 (m ((c : Thread nD τ).loc main_arg0)) (m ((c : Thread nD τ).loc main_arg1)) (m ((c : Thread nD τ).loc main_arg2))) := by
  rw [Value.flushed5]
  obtain ⟨-, -, -, -, -, -, -, -, -, -, e0, e1, -⟩ := idx_all t
  funext y
  have ht : t.val < grid0.N := t.isLt
  rw [N_0] at ht
  show out0_5 (iblk m c 0 t) (iblk m c 1 t) (iblk m c 2 t) ((cfg0.win 5).xinj (grid0.coords t) y) = G5 (m ((c : Thread nD τ).loc main_arg0)) (m ((c : Thread nD τ).loc main_arg1)) (m ((c : Thread nD τ).loc main_arg2)) (((cfg0.win 5).blk t).view.emb y)
  rw [eq_ix2 (n0 := 1024) (n1 := 1408) ((cfg0.win 5).xinj (grid0.coords t) y), eq_ix2 (n0 := 4096) (n1 := 2816) (((cfg0.win 5).blk t).view.emb y)]
  exact point5 m c t _ _ _ _ (by show win0_5.index t (0 : Fin 2) * 1024 + 1 * (y 0).val = (t.val % 4) * 1024 + (y 0).val; rw [e0]; omega) (by show win0_5.index t (1 : Fin 2) * 1408 + 1 * (y 1).val = (t.val / 4) * 1408 + (y 1).val; rw [e1]; omega)

/-- Every index of the activation is in some point's block. -/
theorem cover5 (i : S4096x2816.Idx) : ∃ t : Fin cfg0.N, (cfg0.win 5).flush t = true ∧ i ∈ ((cfg0.win 5).blk t).view.set := by
  have hi0 : (i 0).val < 4096 := (i 0).isLt
  have hi1 : (i 1).val < 2816 := (i 1).isLt
  let t : Fin cfg0.N := ⟨4 * ((i 1).val / 1408) + (i 0).val / 1024, by show _ < grid0.N; rw [N_0]; omega⟩
  have htv : t.val = 4 * ((i 1).val / 1408) + (i 0).val / 1024 := rfl
  obtain ⟨-, -, -, -, -, -, -, -, -, -, e0, e1, -, -, hfl⟩ := idx_all t
  refine ⟨t, hfl, ?_⟩
  show i ∈ ((View.whole main_v5_2).slice (win0_5.rect t)).set
  rw [View.set_slice_whole, Rect.mem_set_unit]
  intro a
  match a with
  | ⟨0, _⟩ => show win0_5.index t (0 : Fin 2) * 1024 ≤ (i 0).val ∧ (i 0).val < win0_5.index t (0 : Fin 2) * 1024 + 1024; rw [e0]; try rw [htv]
              omega
  | ⟨1, _⟩ => show win0_5.index t (1 : Fin 2) * 1408 ≤ (i 1).val ∧ (i 1).val < win0_5.index t (1 : Fin 2) * 1408 + 1408; rw [e1]; try rw [htv]
              omega

/-- The run, read: the three results, the arguments unchanged. -/
theorem run : θ_run defs (onTc (τ := τ) (main (F := Ideal))) ⟨m, fun _ => 0, ρ⟩ fun r => ∀ c : Dev nD,
      r.2.mem ((c.tc : Thread nD τ).loc main_v5_0) = G3 (m ((c : Thread nD τ).loc main_arg0)) (m ((c : Thread nD τ).loc main_arg1))
      ∧ r.2.mem ((c.tc : Thread nD τ).loc main_v5_1) = G3 (m ((c : Thread nD τ).loc main_arg0)) (m ((c : Thread nD τ).loc main_arg2))
      ∧ r.2.mem ((c.tc : Thread nD τ).loc main_v5_2) = G5 (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((dats m 0 c).arrAt_eq_of_cover 3 _ (fun t hf => flushed3_eq m c t hf) cover3),
      (h c).2.1.trans ((dats m 0 c).arrAt_eq_of_cover 4 _ (fun t hf => flushed4_eq m c t hf) cover4),
      (h c).2.2.1.trans ((dats m 0 c).arrAt_eq_of_cover 5 _ (fun t hf => flushed5_eq m c t hf) cover5),
      (h c).2.2.2⟩)
    (Value.run_blocks m ρ)

end Cert.Kernel7Ideal.Ffn

namespace Cert.Reference7Ideal.Ffn

open Cert.Reference7Ideal Cert.Reference7Ideal.Facts₀ Idealize.ShloMosaic Idealize.ShloMosaic.TcCoe Idealize.SL.Sem

theorem ref3 (x : FVec Ideal S4096x1024 .f32) (w : FVec Ideal S1024x2816 .f32) :
    truncf (F := Ideal) .bf16 (Host.dotGeneral (F := Ideal) (φ₁ := .f32) (φ₂ := .f32) dot_S4096x1024_S1024x2816_S4096x2816_1_0_0_1_n_n none x w) bitsLt_bf16_f32 = Cert.Kernel7Ideal.Ffn.G3 x w := by
  funext j
  idx_vars j
  pointwise [Cert.Kernel7Ideal.Ffn.G3, Cert.Kernel7Ideal.Ffn.dot]

theorem ref5 (x : FVec Ideal S4096x1024 .f32) (w u : FVec Ideal S1024x2816 .f32) :
    truncf (F := Ideal) .bf16 (mulf (mulf (Host.dotGeneral (F := Ideal) (φ₁ := .f32) (φ₂ := .f32) dot_S4096x1024_S1024x2816_S4096x2816_1_0_0_1_n_n none x w) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (Host.dotGeneral (F := Ideal) (φ₁ := .f32) (φ₂ := .f32) dot_S4096x1024_S1024x2816_S4096x2816_1_0_0_1_n_n none x w)))))) (Host.dotGeneral (F := Ideal) (φ₁ := .f32) (φ₂ := .f32) dot_S4096x1024_S1024x2816_S4096x2816_1_0_0_1_n_n none x u)) bitsLt_bf16_f32 = Cert.Kernel7Ideal.Ffn.G5 x w u := by
  funext j
  idx_vars j
  pointwise [Cert.Kernel7Ideal.Ffn.G5, Cert.Kernel7Ideal.Ffn.dot]

end Cert.Reference7Ideal.Ffn

end
-- ==== Proof.Proj.lean ====
/- The projection of the mixer: the two results of the call are the columns of one product. -/
module

public import proofs.«01_k».proof.Proof.Gen.Kernel8Ideal.Value
public import proofs.«01_k».proof.Proof.Gen.Reference8Ideal.Run
public import Idealize.ShloMosaic.Lib.Pointwise
public import Idealize.ShloMosaic.Lib.Pipeline.Value

@[expose] public section

set_option maxRecDepth 16384

noncomputable section

namespace Cert.Kernel8Ideal.Proj

open Cert.Kernel8Ideal Cert.Kernel8Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- The first result: columns 0 to 2047 of the product. -/
def G2 (x : FVec Ideal S4096x1024 .f32) (w : FVec Ideal S1024x3584 .f32) : FVec Ideal S4096x2048 .f32 := fun i =>
  ∑ k : Fin 1024, (x (ix2 (i 0) k) : EReal) * w (ix2 k ⟨(i 1).val, by have : (i 1).val < 2048 := (i 1).isLt; omega⟩)

/-- The second result: columns 2048 to 3583 of the product. -/
def G3 (x : FVec Ideal S4096x1024 .f32) (w : FVec Ideal S1024x3584 .f32) : FVec Ideal S4096x1536 .bf16 := fun i =>
  ∑ k : Fin 1024, (x (ix2 (i 0) k) : EReal) * w (ix2 k ⟨2048 + (i 1).val, by have : (i 1).val < 1536 := (i 1).isLt; omega⟩)

/-- The left operand as the region finds it. -/
theorem V_v0 (c : Dev nD) : (V m c main_v0 : FVec Ideal S4096x1024 .bf16) = truncf (F := Ideal) .bf16 (m ((c : Thread nD τ).loc main_arg0) : FVec Ideal S4096x1024 .f32) bitsLt_bf16_f32 := by
  dsimp only [V, hostOps0]
  after_results

/-- The right operand as the region finds it. -/
theorem V_v2 (c : Dev nD) : (V m c main_v2 : FVec Ideal S3584x1024 .bf16) = truncf (F := Ideal) .bf16 (transpose S3584x1024 [1, 0] (m ((c : Thread nD τ).loc main_arg1) : FVec Ideal S1024x3584 .f32) transposes_S1024x3584_S3584x1024_1_0) bitsLt_bf16_f32 := by
  dsimp only [V, hostOps0]
  after_results

/-- The index maps, over the grid: the rows' windows step with the point, the weight's stays. -/
theorem idx_all : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ (cfg0.win 2).flush t = true ∧ (cfg0.win 3).flush t = true :=
  (by decide +kernel : ∀ t : Fin grid0.N, _)

/-- The block of the left operand at a point. -/
theorem blk0 (c : Dev nD) (t : Fin cfg0.N) (r : Fin 1024) (k : Fin 1024) (R : Fin 4096) (hR : R.val = t.val * 1024 + r.val) :
    (iblk m c 0 t : Vec Ideal S1024x1024 .bf16) (ix2 r k) = (m ((c : Thread nD τ).loc main_arg0) : FVec Ideal S4096x1024 .f32) (ix2 R k) := by
  obtain ⟨e0, e1, -⟩ := idx_all t
  show (V m c main_v0 : FVec Ideal S4096x1024 .bf16) (((cfg0.win 0).blk t).view.emb (ix2 r k)) = _
  rw [V_v0]
  show (m ((c : Thread nD τ).loc main_arg0) : FVec Ideal S4096x1024 .f32) (((cfg0.win 0).blk t).view.emb (ix2 r k)) = _
  refine congrArg _ (funext fun a => Fin.ext ?_)
  match a with
  | ⟨0, _⟩ => show win0_0.index t (0 : Fin 2) * 1024 + 1 * r.val = R.val; rw [e0, hR]; omega
  | ⟨1, _⟩ => show win0_0.index t (1 : Fin 2) * 1024 + 1 * k.val = k.val; rw [e1]; omega

/-- The block of the right operand at a point. -/
theorem blk1 (c : Dev nD) (t : Fin cfg0.N) (j : Fin 3584) (k : Fin 1024) :
    (iblk m c 1 t : Vec Ideal S3584x1024 .bf16) (ix2 j k) = (m ((c : Thread nD τ).loc main_arg1) : FVec Ideal S1024x3584 .f32) (ix2 k j) := by
  obtain ⟨-, -, e0, e1, -⟩ := idx_all t
  show (V m c main_v2 : FVec Ideal S3584x1024 .bf16) (((cfg0.win 1).blk t).view.emb (ix2 j k)) = _
  rw [V_v2]
  have he : ((cfg0.win 1).blk t).view.emb (ix2 j k) = (ix2 j k : S3584x1024.Idx) := funext fun a => Fin.ext (by
    match a with
    | ⟨0, _⟩ => show win0_1.index t (0 : Fin 2) * 3584 + 1 * j.val = j.val; rw [e0]; omega
    | ⟨1, _⟩ => show win0_1.index t (1 : Fin 2) * 1024 + 1 * k.val = k.val; rw [e1]; omega)
  rw [he]
  pointwise

/-- What the body leaves in the first output's buffer. -/
theorem out2 (x0 : Vec Ideal S1024x1024 .bf16) (x1 : Vec Ideal S3584x1024 .bf16) (r : Fin 1024) (j : Fin 2048) (J : Fin 3584) (hJ : J.val = j.val) :
    out0_2 x0 x1 (ix2 r j) = ∑ k : Fin 1024, (x0 (ix2 r k) : EReal) * x1 (ix2 J k) := by
  unfold out0_2
  rw [View.canon_unit_zero hz2, View.ld_unit_zero hz2]
  pointwise [k0_pay2, k0_pay1]
  obtain ⟨J, hJ'⟩ := J
  obtain rfl : J = j.val := hJ
  rfl

/-- What the body leaves in the second output's buffer. -/
theorem out3 (x0 : Vec Ideal S1024x1024 .bf16) (x1 : Vec Ideal S3584x1024 .bf16) (r : Fin 1024) (j : Fin 1536) (J : Fin 3584) (hJ : J.val = 2048 + j.val) :
    out0_3 x0 x1 (ix2 r j) = ∑ k : Fin 1024, (x0 (ix2 r k) : EReal) * x1 (ix2 J k) := by
  unfold out0_3
  rw [View.canon_unit_zero hz2, View.ld_unit_zero hz2]
  pointwise [k0_pay3, k0_pay1]
  obtain ⟨J, hJ'⟩ := J
  obtain rfl : J = 2048 + j.val := hJ
  rfl

/-- What a point writes back to the first result is its block of the product's columns. -/
theorem flushed2_eq (c : Dev nD) (t : Fin cfg0.N) (hf : (cfg0.win 2).flush t = true) :
    (dats m 0 c).flushed 2 t = ((cfg0.win 2).blk t).view.read (Elt Ideal)
      (G2 (m ((c : Thread nD τ).loc main_arg0)) (m ((c : Thread nD τ).loc main_arg1))) := by
  rw [Value.flushed2]
  obtain ⟨-, -, -, -, e0, e1, -⟩ := idx_all t
  funext y
  have hy0 : (y 0).val < 1024 := (y 0).isLt
  have hy1 : (y 1).val < 2048 := (y 1).isLt
  have ht : t.val < 4 := lt_of_lt_of_eq t.isLt N_0
  have hb0 : (((cfg0.win 2).blk t).view.emb y 0).val = win0_2.index t (0 : Fin 2) * 1024 + 1 * (y 0).val := rfl
  have hb1 : (((cfg0.win 2).blk t).view.emb y 1).val = win0_2.index t (1 : Fin 2) * 2048 + 1 * (y 1).val := rfl
  rw [e0] at hb0; rw [e1] at hb1
  have hx : (cfg0.win 2).xinj (grid0.coords t) y = ix2 (⟨(y 0).val, hy0⟩ : Fin 1024) (⟨(y 1).val, hy1⟩ : Fin 2048) := funext fun a => Fin.ext (by
    match a with | ⟨0, _⟩ => rfl | ⟨1, _⟩ => rfl)
  show out0_2 (iblk m c 0 t) (iblk m c 1 t) ((cfg0.win 2).xinj (grid0.coords t) y) = G2 _ _ (((cfg0.win 2).blk t).view.emb y)
  rw [hx, out2 _ _ _ _ (⟨(((cfg0.win 2).blk t).view.emb y 1).val, by rw [hb1]; omega⟩ : Fin 3584) (by show (((cfg0.win 2).blk t).view.emb y 1).val = (y 1).val; rw [hb1]; omega)]
  unfold G2
  refine Finset.sum_congr rfl fun k _ => ?_
  rw [blk0 m c t _ k (((cfg0.win 2).blk t).view.emb y 0) (by rw [hb0]; show _ = t.val * 1024 + (y 0).val; omega), blk1]

/-- Every index of the first result is in some point's block. -/
theorem cover2 (i : S4096x2048.Idx) : ∃ t : Fin cfg0.N, (cfg0.win 2).flush t = true ∧ i ∈ ((cfg0.win 2).blk t).view.set := by
  have hi0 : (i 0).val < 4096 := (i 0).isLt
  have hi1 : (i 1).val < 2048 := (i 1).isLt
  let t : Fin cfg0.N := ⟨(i 0).val / 1024, by show _ < grid0.N; rw [N_0]; omega⟩
  have htv : t.val = (i 0).val / 1024 := rfl
  obtain ⟨-, -, -, -, e0, e1, -, -, f2, f3⟩ := idx_all t
  refine ⟨t, f2, ?_⟩
  show i ∈ ((View.whole main_v3_0).slice (win0_2.rect t)).set
  rw [View.set_slice_whole, Rect.mem_set_unit]
  intro a
  match a with
  | ⟨0, _⟩ => show win0_2.index t (0 : Fin 2) * 1024 ≤ (i 0).val ∧ (i 0).val < win0_2.index t (0 : Fin 2) * 1024 + 1024; rw [e0, htv]; omega
  | ⟨1, _⟩ => show win0_2.index t (1 : Fin 2) * 2048 ≤ (i 1).val ∧ (i 1).val < win0_2.index t (1 : Fin 2) * 2048 + 2048; rw [e1]; omega

/-- What a point writes back to the second result is its block of the product's columns. -/
theorem flushed3_eq (c : Dev nD) (t : Fin cfg0.N) (hf : (cfg0.win 3).flush t = true) :
    (dats m 0 c).flushed 3 t = ((cfg0.win 3).blk t).view.read (Elt Ideal)
      (G3 (m ((c : Thread nD τ).loc main_arg0)) (m ((c : Thread nD τ).loc main_arg1))) := by
  rw [Value.flushed3]
  obtain ⟨-, -, -, -, -, -, e0, e1, -⟩ := idx_all t
  funext y
  have hy0 : (y 0).val < 1024 := (y 0).isLt
  have hy1 : (y 1).val < 1536 := (y 1).isLt
  have ht : t.val < 4 := lt_of_lt_of_eq t.isLt N_0
  have hb0 : (((cfg0.win 3).blk t).view.emb y 0).val = win0_3.index t (0 : Fin 2) * 1024 + 1 * (y 0).val := rfl
  have hb1 : (((cfg0.win 3).blk t).view.emb y 1).val = win0_3.index t (1 : Fin 2) * 1536 + 1 * (y 1).val := rfl
  rw [e0] at hb0; rw [e1] at hb1
  have hx : (cfg0.win 3).xinj (grid0.coords t) y = ix2 (⟨(y 0).val, hy0⟩ : Fin 1024) (⟨(y 1).val, hy1⟩ : Fin 1536) := funext fun a => Fin.ext (by
    match a with | ⟨0, _⟩ => rfl | ⟨1, _⟩ => rfl)
  show out0_3 (iblk m c 0 t) (iblk m c 1 t) ((cfg0.win 3).xinj (grid0.coords t) y) = G3 _ _ (((cfg0.win 3).blk t).view.emb y)
  rw [hx, out3 _ _ _ _ (⟨2048 + (((cfg0.win 3).blk t).view.emb y 1).val, by rw [hb1]; omega⟩ : Fin 3584) (by show 2048 + (((cfg0.win 3).blk t).view.emb y 1).val = 2048 + (y 1).val; rw [hb1]; omega)]
  unfold G3
  refine Finset.sum_congr rfl fun k _ => ?_
  rw [blk0 m c t _ k (((cfg0.win 3).blk t).view.emb y 0) (by rw [hb0]; show _ = t.val * 1024 + (y 0).val; omega), blk1]

/-- Every index of the second result is in some point's block. -/
theorem cover3 (i : S4096x1536.Idx) : ∃ t : Fin cfg0.N, (cfg0.win 3).flush t = true ∧ i ∈ ((cfg0.win 3).blk t).view.set := by
  have hi0 : (i 0).val < 4096 := (i 0).isLt
  have hi1 : (i 1).val < 1536 := (i 1).isLt
  let t : Fin cfg0.N := ⟨(i 0).val / 1024, by show _ < grid0.N; rw [N_0]; omega⟩
  have htv : t.val = (i 0).val / 1024 := rfl
  obtain ⟨-, -, -, -, -, -, e0, e1, f2, f3⟩ := idx_all t
  refine ⟨t, f3, ?_⟩
  show i ∈ ((View.whole main_v3_1).slice (win0_3.rect t)).set
  rw [View.set_slice_whole, Rect.mem_set_unit]
  intro a
  match a with
  | ⟨0, _⟩ => show win0_3.index t (0 : Fin 2) * 1024 ≤ (i 0).val ∧ (i 0).val < win0_3.index t (0 : Fin 2) * 1024 + 1024; rw [e0, htv]; omega
  | ⟨1, _⟩ => show win0_3.index t (1 : Fin 2) * 1536 ≤ (i 1).val ∧ (i 1).val < win0_3.index t (1 : Fin 2) * 1536 + 1536; rw [e1]; omega

/-- The run, read: the two results, the arguments unchanged. -/
theorem run : θ_run defs (onTc (τ := τ) (main (F := Ideal))) ⟨m, fun _ => 0, ρ⟩ fun r => ∀ c : Dev nD,
      r.2.mem ((c.tc : Thread nD τ).loc main_v3_0) = G2 (m ((c.tc : Thread nD τ).loc main_arg0)) (m ((c.tc : Thread nD τ).loc main_arg1))
      ∧ r.2.mem ((c.tc : Thread nD τ).loc main_v3_1) = G3 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨(h c).1.trans ((dats m 0 c).arrAt_eq_of_cover 2 _ (fun t hf => flushed2_eq m c t hf) cover2),
      (h c).2.1.trans ((dats m 0 c).arrAt_eq_of_cover 3 _ (fun t hf => flushed3_eq m c t hf) cover3),
      (h c).2.2.1, (h c).2.2.2⟩)
    (Value.run_blocks m ρ)

end Cert.Kernel8Ideal.Proj

namespace Cert.Reference8Ideal.Proj

open Cert.Reference8Ideal Idealize.ShloMosaic Idealize.ShloMosaic.TcCoe Idealize.SL.Sem

/-- The reference's results are the same columns. -/
theorem ref2 (x : FVec Ideal S4096x1024 .f32) (w : FVec Ideal S1024x3584 .f32) :
    extractStridedSlice S4096x2048 ![0, 0] (Host.dotGeneral (F := Ideal) (φ₁ := .f32) (φ₂ := .f32) dot_S4096x1024_S1024x3584_S4096x3584_1_0_0_1_n_n none x w) Facts₀.slices_S4096x3584_S4096x2048_0_0 = Cert.Kernel8Ideal.Proj.G2 x w := by
  funext j
  idx_vars j
  pointwise [Cert.Kernel8Ideal.Proj.G2]

theorem ref3 (x : FVec Ideal S4096x1024 .f32) (w : FVec Ideal S1024x3584 .f32) :
    truncf (F := Ideal) .bf16 (extractStridedSlice S4096x1536 ![0, 2048] (Host.dotGeneral (F := Ideal) (φ₁ := .f32) (φ₂ := .f32) dot_S4096x1024_S1024x3584_S4096x3584_1_0_0_1_n_n none x w) Facts₀.slices_S4096x3584_S4096x1536_0_2048) Facts₀.bitsLt_bf16_f32 = Cert.Kernel8Ideal.Proj.G3 x w := by
  funext j
  idx_vars j
  pointwise [Cert.Kernel8Ideal.Proj.G3]

end Cert.Reference8Ideal.Proj

end
-- ==== Proof.LossDown.lean ====
/- The last product with the final norm and the loss: the loss and its gradients. -/
module

public import proofs.«01_k».proof.Proof.Gen.Kernel9Ideal.Value
public import proofs.«01_k».proof.Proof.Gen.Reference9Ideal.Run
public import Idealize.ShloMosaic.Lib.Pointwise
public import Idealize.ShloMosaic.Lib.Pipeline.Value
public import proofs.«01_k».proof.Proof.Norm
public import proofs.«01_k».proof.Proof.Gen.Pre_finite9

@[expose] public section

set_option maxRecDepth 16384

noncomputable section

namespace Cert.Kernel9Ideal.Loss

open Cert.Kernel9Ideal Cert.Kernel9Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- The residual stream after the last product. -/
def xarr (ff : FVec Ideal S4096x2816 .bf16) (w : FVec Ideal S2816x1024 .f32) (x1 : FVec Ideal S4096x1024 .f32) : FVec Ideal S4096x1024 .f32 := fun i =>
  (x1 i : EReal) + ∑ l : Fin 2816, (ff (ix2 (i 0) l) : EReal) * w (ix2 l (i 1))

/-- A row of an array of 1024 columns. -/
def row (x : FVec Ideal S4096x1024 .f32) (R : Fin 4096) : Fin 1024 → EReal := fun k => x (ix2 R k)

/-- An entry of the final norm, less the target's. -/
def err (x t : FVec Ideal S4096x1024 .f32) (g : FVec Ideal S1x1024 .f32) (R : Fin 4096) (j : Fin 1024) : EReal :=
  row x R j * Cert.Norm.rs (row x R) * g (ix2 0 j) - t (ix2 R j)

/-- The gradient of an entry of the final norm. -/
def dy (x t : FVec Ideal S4096x1024 .f32) (g : FVec Ideal S1x1024 .f32) (R : Fin 4096) (j : Fin 1024) : EReal :=
  err x t g R j * Ideal.ofBits .f32 981467136#32

/-- The gradient of the residual stream. -/
def dx (x t : FVec Ideal S4096x1024 .f32) (g : FVec Ideal S1x1024 .f32) (R : Fin 4096) (j : Fin 1024) : EReal :=
  Cert.Norm.back (row x R) (fun k => dy x t g R k * g (ix2 0 k)) j

def G5 (x t : FVec Ideal S4096x1024 .f32) (g : FVec Ideal S1x1024 .f32) : FVec Ideal S4096x1024 .f32 := fun i => dx x t g (i 0) (i 1)

def G6 (x t : FVec Ideal S4096x1024 .f32) (g : FVec Ideal S1x1024 .f32) : FVec Ideal S4096x1024 .bf16 := fun i => dx x t g (i 0) (i 1)

/-- One row's part of the gradient of the norm's gain (zero past the last row). -/
def term (x t : FVec Ideal S4096x1024 .f32) (g : FVec Ideal S1x1024 .f32) (j : Fin 1024) (n : ℕ) : EReal :=
  if h : n < 4096 then dy x t g ⟨n, h⟩ j * (row x ⟨n, h⟩ j * Cert.Norm.rs (row x ⟨n, h⟩)) else 0

/-- The gradient of the norm's gain: the sum over the rows. -/
def G7 (x t : FVec Ideal S4096x1024 .f32) (g : FVec Ideal S1x1024 .f32) : FVec Ideal S1x1024 .f32 := fun i => ∑ n ∈ Finset.range 4096, term x t g (i 1) n

/-- One row's mean square error (zero past the last row). -/
def sq (x t : FVec Ideal S4096x1024 .f32) (g : FVec Ideal S1x1024 .f32) (n : ℕ) : EReal :=
  if h : n < 4096 then Ideal.div (∑ k : Fin 1024, err x t g ⟨n, h⟩ k * err x t g ⟨n, h⟩ k) (Ideal.ofBits .f32 1149239296#32) else 0

/-- The loss, in every lane: the sum over the row blocks of half the sum of a block's rows. -/
def G8 (x t : FVec Ideal S4096x1024 .f32) (g : FVec Ideal S1x1024 .f32) : FVec Ideal S1x128 .f32 := fun _ =>
  ∑ b ∈ Finset.range 8, Ideal.ofBits .f32 1056964608#32 * ∑ r : Fin 512, sq x t g (b * 512 + r.val)

theorem V_v0 (c : Dev nD) : (V m c main_v0 : FVec Ideal S2816x1024 .bf16) = truncf (F := Ideal) .bf16 (m ((c : Thread nD τ).loc main_arg1) : FVec Ideal S2816x1024 .f32) bitsLt_bf16_f32 := by
  dsimp only [V, hostOps0]
  after_results

/-- The index maps, over the grid. -/
theorem idx_all : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ (cfg0.win 5).flush t = true
    ∧ (cfg0.win 6).flush t = true :=
  (by decide +kernel : ∀ t : Fin grid0.N, _)

/-- The block of the activation at a point. -/
theorem blk0 (c : Dev nD) (t : Fin cfg0.N) (r : Fin 512) (k : Fin 2816) (R : Fin 4096) (K : Fin 2816)
    (hR : R.val = (t.val) * 512 + r.val) (hK : K.val = (0) * 2816 + k.val) :
    (iblk m c 0 t : Vec Ideal S512x2816 .bf16) (ix2 r k) = (V m c main_arg0 : Vec Ideal S4096x2816 .bf16) (ix2 R K) := by
  obtain ⟨e0, e1, -⟩ := idx_all t
  show (V m c main_arg0 : Vec Ideal S4096x2816 .bf16) (((cfg0.win 0).blk t).view.emb (ix2 r k)) = _
  refine congrArg _ (funext fun a => Fin.ext ?_)
  match a with
  | ⟨0, _⟩ => show win0_0.index t (0 : Fin 2) * 512 + 1 * r.val = R.val; rw [e0, hR]; omega
  | ⟨1, _⟩ => show win0_0.index t (1 : Fin 2) * 2816 + 1 * k.val = K.val; rw [e1, hK]; omega

/-- The block of the weight at a point. -/
theorem blk1 (c : Dev nD) (t : Fin cfg0.N) (r : Fin 2816) (k : Fin 1024) (R : Fin 2816) (K : Fin 1024)
    (hR : R.val = (0) * 2816 + r.val) (hK : K.val = (0) * 1024 + k.val) :
    (iblk m c 1 t : Vec Ideal S2816x1024 .bf16) (ix2 r k) = (V m c main_v0 : Vec Ideal S2816x1024 .bf16) (ix2 R K) := by
  obtain ⟨-, -, e0, e1, -⟩ := idx_all t
  show (V m c main_v0 : Vec Ideal S2816x1024 .bf16) (((cfg0.win 1).blk t).view.emb (ix2 r k)) = _
  refine congrArg _ (funext fun a => Fin.ext ?_)
  match a with
  | ⟨0, _⟩ => show win0_1.index t (0 : Fin 2) * 2816 + 1 * r.val = R.val; rw [e0, hR]; omega
  | ⟨1, _⟩ => show win0_1.index t (1 : Fin 2) * 1024 + 1 * k.val = K.val; rw [e1, hK]; omega

/-- The block of the residual stream at a point. -/
theorem blk2 (c : Dev nD) (t : Fin cfg0.N) (r : Fin 512) (k : Fin 1024) (R : Fin 4096) (K : Fin 1024)
    (hR : R.val = (t.val) * 512 + r.val) (hK : K.val = (0) * 1024 + k.val) :
    (iblk m c 2 t : Vec Ideal S512x1024 .f32) (ix2 r k) = (V m c main_arg2 : Vec Ideal S4096x1024 .f32) (ix2 R K) := by
  obtain ⟨-, -, -, -, e0, e1, -⟩ := idx_all t
  show (V m c main_arg2 : Vec Ideal S4096x1024 .f32) (((cfg0.win 2).blk t).view.emb (ix2 r k)) = _
  refine congrArg _ (funext fun a => Fin.ext ?_)
  match a with
  | ⟨0, _⟩ => show win0_2.index t (0 : Fin 2) * 512 + 1 * r.val = R.val; rw [e0, hR]; omega
  | ⟨1, _⟩ => show win0_2.index t (1 : Fin 2) * 1024 + 1 * k.val = K.val; rw [e1, hK]; omega

/-- The block of the target at a point. -/
theorem blk3 (c : Dev nD) (t : Fin cfg0.N) (r : Fin 512) (k : Fin 1024) (R : Fin 4096) (K : Fin 1024)
    (hR : R.val = (t.val) * 512 + r.val) (hK : K.val = (0) * 1024 + k.val) :
    (iblk m c 3 t : Vec Ideal S512x1024 .f32) (ix2 r k) = (V m c main_arg3 : Vec Ideal S4096x1024 .f32) (ix2 R K) := by
  obtain ⟨-, -, -, -, -, -, e0, e1, -⟩ := idx_all t
  show (V m c main_arg3 : Vec Ideal S4096x1024 .f32) (((cfg0.win 3).blk t).view.emb (ix2 r k)) = _
  refine congrArg _ (funext fun a => Fin.ext ?_)
  match a with
  | ⟨0, _⟩ => show win0_3.index t (0 : Fin 2) * 512 + 1 * r.val = R.val; rw [e0, hR]; omega
  | ⟨1, _⟩ => show win0_3.index t (1 : Fin 2) * 1024 + 1 * k.val = K.val; rw [e1, hK]; omega

/-- The block of the gain at a point. -/
theorem blk4 (c : Dev nD) (t : Fin cfg0.N) (r : Fin 1) (k : Fin 1024) (R : Fin 1) (K : Fin 1024)
    (hR : R.val = (0) * 1 + r.val) (hK : K.val = (0) * 1024 + k.val) :
    (iblk m c 4 t : Vec Ideal S1x1024 .f32) (ix2 r k) = (V m c main_arg4 : Vec Ideal S1x1024 .f32) (ix2 R K) := by
  obtain ⟨-, -, -, -, -, -, -, -, e0, e1, -⟩ := idx_all t
  show (V m c main_arg4 : Vec Ideal S1x1024 .f32) (((cfg0.win 4).blk t).view.emb (ix2 r k)) = _
  refine congrArg _ (funext fun a => Fin.ext ?_)
  match a with
  | ⟨0, _⟩ => show win0_4.index t (0 : Fin 2) * 1 + 1 * r.val = R.val; rw [e0, hR]; omega
  | ⟨1, _⟩ => show win0_4.index t (1 : Fin 2) * 1024 + 1 * k.val = K.val; rw [e1, hK]; omega

section Block

variable (x0 : FVec Ideal S512x2816 .bf16) (x1 : FVec Ideal S2816x1024 .bf16) (x2 x3 : FVec Ideal S512x1024 .f32) (x4 : FVec Ideal S1x1024 .f32)

/-- A block's row of the residual stream. -/
def brow (r : Fin 512) : Fin 1024 → EReal := fun k => (x2 (ix2 r k) : EReal) + ∑ l : Fin 2816, (x0 (ix2 r l) : EReal) * x1 (ix2 l k)

/-- A block's entry of the error. -/
def berr (r : Fin 512) (j : Fin 1024) : EReal := brow x0 x1 x2 r j * Cert.Norm.rs (brow x0 x1 x2 r) * x4 (ix2 0 j) - x3 (ix2 r j)

theorem p5 (r : Fin 512) (j : Fin 1024) : k0_pay5 (F := Ideal) x2 x0 x1 (ix2 r j) = brow x0 x1 x2 r j := by
  pointwise [k0_pay5, brow]

theorem p6 (r : Fin 512) : k0_pay6 (F := Ideal) x2 x0 x1 (ix2 r 0) = Cert.Norm.rs (brow x0 x1 x2 r) := by
  pointwise [k0_pay6]
  simp only [p5]
  rfl

theorem p7 (r : Fin 512) (j : Fin 1024) : k0_pay7 (F := Ideal) x2 x0 x1 (ix2 r j) = brow x0 x1 x2 r j * Cert.Norm.rs (brow x0 x1 x2 r) := by
  pointwise [k0_pay7]
  simp only [p5, p6]

theorem p8 (r : Fin 512) (j : Fin 1024) : k0_pay8 (F := Ideal) x2 x0 x1 x4 x3 (ix2 r j) = berr x0 x1 x2 x3 x4 r j := by
  pointwise [k0_pay8]
  simp only [p7]
  rfl

theorem p9 (r : Fin 512) (j : Fin 1024) : k0_pay9 (F := Ideal) x2 x0 x1 x4 x3 (ix2 r j) = berr x0 x1 x2 x3 x4 r j * Ideal.ofBits .f32 981467136#32 := by
  pointwise [k0_pay9]
  simp only [p8]

theorem p10 (r : Fin 512) (j : Fin 1024) : k0_pay10 (F := Ideal) x2 x0 x1 x4 x3 (ix2 r j)
    = Cert.Norm.back (brow x0 x1 x2 r) (fun k => berr x0 x1 x2 x3 x4 r k * Ideal.ofBits .f32 981467136#32 * x4 (ix2 0 k)) j := by
  pointwise [k0_pay10]
  simp only [p9, p7, p6]
  rfl

theorem p3 (v : FVec Ideal S1x1024 .f32) (j : Fin 1024) : k0_pay3 (F := Ideal) (k0_pay7 x2 x0 x1) (k0_pay9 x2 x0 x1 x4 x3) v (ix2 0 j)
    = (v (ix2 0 j) : EReal) + ∑ r : Fin 512, berr x0 x1 x2 x3 x4 r j * Ideal.ofBits .f32 981467136#32 * (brow x0 x1 x2 r j * Cert.Norm.rs (brow x0 x1 x2 r)) := by
  pointwise [k0_pay3]
  simp only [p9, p7]

theorem p4 (v : FVec Ideal S1x128 .f32) (l : Fin 128) : k0_pay4 (F := Ideal) (k0_pay8 x2 x0 x1 x4 x3) v (ix2 0 l)
    = (v (ix2 0 l) : EReal) + Ideal.ofBits .f32 1056964608#32 * ∑ r : Fin 512, Ideal.div (∑ k : Fin 1024, berr x0 x1 x2 x3 x4 r k * berr x0 x1 x2 x3 x4 r k) (Ideal.ofBits .f32 1149239296#32) := by
  pointwise [k0_pay4]
  simp only [p8]

end Block

theorem out5_A (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x128 .f32) (h9 : a9.IsWhole) (hc0 : cond0_0 i) (x0 : Vec Ideal S512x2816 .bf16) (x1 : Vec Ideal S2816x1024 .bf16) (x2 x3 : Vec Ideal S512x1024 .f32) (x4 : Vec Ideal S1x1024 .f32) :
    out0_A_5 c i a1 h1 a2 h2 a3 h3 a4 h4 a5 h5 a6 h6 a7 h7 a8 h8 a9 h9 hc0 x0 x1 x2 x3 x4 = k0_pay10 x2 x0 x1 x4 x3 := by
  unfold out0_A_5
  rw [View.read_writes_eq_canon _ _ _ (cover0_A_5 c i a1 h1 a2 h2 a3 h3 a4 h4 a5 h5 a6 h6 a7 h7 a8 h8 a9 h9 hc0 x0 x1 x2 x3 x4)]
  unfold kernelRun0_A
  dsimp only
  sl_unfold_words
  rw [View.canon_unit_zero (S := S512x1024) hz2]
  simp only [View.readAt_eq_ld, h1.read_unread, h2.read_unread, h3.read_unread, h4.read_unread, h5.read_unread, h8.read_unread, h9.read_unread, View.ld_unit_zero (S := S512x2816) hz2, View.ld_unit_zero (S := S2816x1024) hz2, View.ld_unit_zero (S := S512x1024) hz2, View.ld_unit_zero (S := S1x1024) hz2, View.ld_unit_zero (S := S1x128) hz2]

theorem out6_A (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x128 .f32) (h9 : a9.IsWhole) (hc0 : cond0_0 i) (x0 : Vec Ideal S512x2816 .bf16) (x1 : Vec Ideal S2816x1024 .bf16) (x2 x3 : Vec Ideal S512x1024 .f32) (x4 : Vec Ideal S1x1024 .f32) :
    out0_A_6 c i a1 h1 a2 h2 a3 h3 a4 h4 a5 h5 a6 h6 a7 h7 a8 h8 a9 h9 hc0 x0 x1 x2 x3 x4 = k0_pay11 x2 x0 x1 x4 x3 := by
  unfold out0_A_6
  rw [View.read_writes_eq_canon _ _ _ (cover0_A_6 c i a1 h1 a2 h2 a3 h3 a4 h4 a5 h5 a6 h6 a7 h7 a8 h8 a9 h9 hc0 x0 x1 x2 x3 x4)]
  unfold kernelRun0_A
  dsimp only
  sl_unfold_words
  rw [View.canon_unit_zero (S := S512x1024) hz2]
  simp only [View.readAt_eq_ld, h1.read_unread, h2.read_unread, h3.read_unread, h4.read_unread, h5.read_unread, h8.read_unread, h9.read_unread, View.ld_unit_zero (S := S512x2816) hz2, View.ld_unit_zero (S := S2816x1024) hz2, View.ld_unit_zero (S := S512x1024) hz2, View.ld_unit_zero (S := S1x1024) hz2, View.ld_unit_zero (S := S1x128) hz2]

theorem out7_A (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x128 .f32) (h9 : a9.IsWhole) (hc0 : cond0_0 i) (x0 : Vec Ideal S512x2816 .bf16) (x1 : Vec Ideal S2816x1024 .bf16) (x2 x3 : Vec Ideal S512x1024 .f32) (x4 : Vec Ideal S1x1024 .f32) :
    out0_A_7 c i a1 h1 a2 h2 a3 h3 a4 h4 a5 h5 a6 h6 a7 h7 a8 h8 a9 h9 hc0 x0 x1 x2 x3 x4 = k0_pay3 (k0_pay7 x2 x0 x1) (k0_pay9 x2 x0 x1 x4 x3) (k0_pay1 (F := Ideal)) := by
  unfold out0_A_7
  rw [View.read_writes_eq_canon _ _ _ (cover0_A_7 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x1024) hz2, View.readCov_unit_zero (S := S1x1024) _ hz2]
  simp only [View.readAt_eq_ld, h1.read_unread, h2.read_unread, h3.read_unread, h4.read_unread, h5.read_unread, h8.read_unread, h9.read_unread, View.ld_unit_zero (S := S512x2816) hz2, View.ld_unit_zero (S := S2816x1024) hz2, View.ld_unit_zero (S := S512x1024) hz2, View.ld_unit_zero (S := S1x1024) hz2, View.ld_unit_zero (S := S1x128) hz2]

theorem out8_A (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x128 .f32) (h9 : a9.IsWhole) (hc0 : cond0_0 i) (x0 : Vec Ideal S512x2816 .bf16) (x1 : Vec Ideal S2816x1024 .bf16) (x2 x3 : Vec Ideal S512x1024 .f32) (x4 : Vec Ideal S1x1024 .f32) :
    out0_A_8 c i a1 h1 a2 h2 a3 h3 a4 h4 a5 h5 a6 h6 a7 h7 a8 h8 a9 h9 hc0 x0 x1 x2 x3 x4 = k0_pay4 (k0_pay8 x2 x0 x1 x4 x3) (k0_pay2 (F := Ideal)) := by
  unfold out0_A_8
  rw [View.read_writes_eq_canon _ _ _ (cover0_A_8 c i a1 h1 a2 h2 a3 h3 a4 h4 a5 h5 a6 h6 a7 h7 a8 h8 a9 h9 hc0 x0 x1 x2 x3 x4)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, h8.read_unread, h9.read_unread, View.ld_unit_zero (S := S512x2816) hz2, View.ld_unit_zero (S := S2816x1024) hz2, View.ld_unit_zero (S := S512x1024) hz2, View.ld_unit_zero (S := S1x1024) hz2, View.ld_unit_zero (S := S1x128) hz2]

theorem out5_B (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x128 .f32) (h9 : a9.IsWhole) (hc0 : ¬cond0_0 i) (x0 : Vec Ideal S512x2816 .bf16) (x1 : Vec Ideal S2816x1024 .bf16) (x2 x3 : Vec Ideal S512x1024 .f32) (x4 : Vec Ideal S1x1024 .f32) (y7 : Vec Ideal S1x1024 .f32) (y8 : Vec Ideal S1x128 .f32) :
    out0_B_5 c i a1 h1 a2 h2 a3 h3 a4 h4 a5 h5 a6 h6 a7 h7 a8 h8 a9 h9 hc0 x0 x1 x2 x3 x4 y7 y8 = k0_pay10 x2 x0 x1 x4 x3 := by
  unfold out0_B_5
  rw [View.read_writes_eq_canon _ _ _ (cover0_B_5 c i a1 h1 a2 h2 a3 h3 a4 h4 a5 h5 a6 h6 a7 h7 a8 h8 a9 h9 hc0 x0 x1 x2 x3 x4 y7 y8)]
  unfold kernelRun0_B
  dsimp only
  sl_unfold_words
  rw [View.canon_unit_zero (S := S512x1024) hz2]
  simp only [View.readAt_eq_ld, h1.read_unread, h2.read_unread, h3.read_unread, h4.read_unread, h5.read_unread, h8.read_unread, h9.read_unread, View.ld_unit_zero (S := S512x2816) hz2, View.ld_unit_zero (S := S2816x1024) hz2, View.ld_unit_zero (S := S512x1024) hz2, View.ld_unit_zero (S := S1x1024) hz2, View.ld_unit_zero (S := S1x128) hz2]

theorem out6_B (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x128 .f32) (h9 : a9.IsWhole) (hc0 : ¬cond0_0 i) (x0 : Vec Ideal S512x2816 .bf16) (x1 : Vec Ideal S2816x1024 .bf16) (x2 x3 : Vec Ideal S512x1024 .f32) (x4 : Vec Ideal S1x1024 .f32) (y7 : Vec Ideal S1x1024 .f32) (y8 : Vec Ideal S1x128 .f32) :
    out0_B_6 c i a1 h1 a2 h2 a3 h3 a4 h4 a5 h5 a6 h6 a7 h7 a8 h8 a9 h9 hc0 x0 x1 x2 x3 x4 y7 y8 = k0_pay11 x2 x0 x1 x4 x3 := by
  unfold out0_B_6
  rw [View.read_writes_eq_canon _ _ _ (cover0_B_6 c i a1 h1 a2 h2 a3 h3 a4 h4 a5 h5 a6 h6 a7 h7 a8 h8 a9 h9 hc0 x0 x1 x2 x3 x4 y7 y8)]
  unfold kernelRun0_B
  dsimp only
  sl_unfold_words
  rw [View.canon_unit_zero (S := S512x1024) hz2]
  simp only [View.readAt_eq_ld, h1.read_unread, h2.read_unread, h3.read_unread, h4.read_unread, h5.read_unread, h8.read_unread, h9.read_unread, View.ld_unit_zero (S := S512x2816) hz2, View.ld_unit_zero (S := S2816x1024) hz2, View.ld_unit_zero (S := S512x1024) hz2, View.ld_unit_zero (S := S1x1024) hz2, View.ld_unit_zero (S := S1x128) hz2]

theorem out7_B (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x128 .f32) (h9 : a9.IsWhole) (hc0 : ¬cond0_0 i) (x0 : Vec Ideal S512x2816 .bf16) (x1 : Vec Ideal S2816x1024 .bf16) (x2 x3 : Vec Ideal S512x1024 .f32) (x4 : Vec Ideal S1x1024 .f32) (y7 : Vec Ideal S1x1024 .f32) (y8 : Vec Ideal S1x128 .f32) :
    out0_B_7 c i a1 h1 a2 h2 a3 h3 a4 h4 a5 h5 a6 h6 a7 h7 a8 h8 a9 h9 hc0 x0 x1 x2 x3 x4 y7 y8 = k0_pay3 (k0_pay7 x2 x0 x1) (k0_pay9 x2 x0 x1 x4 x3) y7 := by
  unfold out0_B_7
  rw [View.read_writes_eq_canon _ _ _ (cover0_B_7 c i a1 h1 a2 h2 a3 h3 a4 h4 a5 h5 a6 h6 a7 h7 a8 h8 a9 h9 hc0 x0 x1 x2 x3 x4 y7 y8)]
  unfold kernelRun0_B
  dsimp only
  sl_unfold_words
  rw [View.canon_unit_zero (S := S1x1024) hz2]
  simp only [View.readAt_eq_ld, h1.read_unread, h2.read_unread, h3.read_unread, h4.read_unread, h5.read_unread, h8.read_unread, h9.read_unread, View.ld_unit_zero (S := S512x2816) hz2, View.ld_unit_zero (S := S2816x1024) hz2, View.ld_unit_zero (S := S512x1024) hz2, View.ld_unit_zero (S := S1x1024) hz2, View.ld_unit_zero (S := S1x128) hz2]

theorem out8_B (c : Dev nD) (i : grid0.Coords) (a1 : Memref sig .tc .vmem S512x2816 .bf16) (h1 : a1.IsWhole) (a2 : Memref sig .tc .vmem S2816x1024 .bf16) (h2 : a2.IsWhole) (a3 : Memref sig .tc .vmem S512x1024 .f32) (h3 : a3.IsWhole) (a4 : Memref sig .tc .vmem S512x1024 .f32) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole) (a9 : Memref sig .tc .vmem S1x128 .f32) (h9 : a9.IsWhole) (hc0 : ¬cond0_0 i) (x0 : Vec Ideal S512x2816 .bf16) (x1 : Vec Ideal S2816x1024 .bf16) (x2 x3 : Vec Ideal S512x1024 .f32) (x4 : Vec Ideal S1x1024 .f32) (y7 : Vec Ideal S1x1024 .f32) (y8 : Vec Ideal S1x128 .f32) :
    out0_B_8 c i a1 h1 a2 h2 a3 h3 a4 h4 a5 h5 a6 h6 a7 h7 a8 h8 a9 h9 hc0 x0 x1 x2 x3 x4 y7 y8 = k0_pay4 (k0_pay8 x2 x0 x1 x4 x3) y8 := by
  unfold out0_B_8
  rw [View.read_writes_eq_canon _ _ _ (cover0_B_8 c i a1 h1 a2 h2 a3 h3 a4 h4 a5 h5 a6 h6 a7 h7 a8 h8 a9 h9 hc0 x0 x1 x2 x3 x4 y7 y8)]
  unfold kernelRun0_B
  dsimp only
  sl_unfold_words
  rw [View.canon_unit_zero (S := S1x128) hz2]
  simp only [View.readAt_eq_ld, h1.read_unread, h2.read_unread, h3.read_unread, h4.read_unread, h5.read_unread, h8.read_unread, h9.read_unread, View.ld_unit_zero (S := S512x2816) hz2, View.ld_unit_zero (S := S2816x1024) hz2, View.ld_unit_zero (S := S512x1024) hz2, View.ld_unit_zero (S := S1x1024) hz2, View.ld_unit_zero (S := S1x128) hz2]

theorem brow_eq (c : Dev nD) (t : Fin cfg0.N) (r : Fin 512) (R : Fin 4096) (hR : R.val = t.val * 512 + r.val) :
    brow (iblk m c 0 t : FVec Ideal S512x2816 .bf16) (iblk m c 1 t : FVec Ideal S2816x1024 .bf16) (iblk m c 2 t : FVec Ideal S512x1024 .f32) r = row (xarr (m ((c : Thread nD τ).loc main_arg0)) (m ((c : Thread nD τ).loc main_arg1)) (m ((c : Thread nD τ).loc main_arg2))) R := by
  funext k
  have e2 := blk2 m c t r k R k hR (by omega)
  have e0 : ∀ l : Fin 2816, _ := fun l => blk0 m c t r l R l hR (by omega)
  have e1 : ∀ l : Fin 2816, ((iblk m c 1 t : FVec Ideal S2816x1024 .bf16) (ix2 l k) : EReal) = (m ((c : Thread nD τ).loc main_arg1) : FVec Ideal S2816x1024 .f32) (ix2 l k) := fun l =>
    (blk1 m c t l k l k (by omega) (by omega)).trans ((congrFun (V_v0 m c) (ix2 l k)).trans (by pointwise))
  rw [V_main_arg2] at e2
  simp only [V_main_arg0] at e0
  unfold brow row xarr
  refine congrArg₂ (fun a b : EReal => a + b) e2 (Finset.sum_congr rfl fun l _ => ?_)
  exact congrArg₂ (fun a b : EReal => a * b) (e0 l) (e1 l)

theorem berr_eq (c : Dev nD) (t : Fin cfg0.N) (r : Fin 512) (j : Fin 1024) (R : Fin 4096) (J : Fin 1024)
    (hR : R.val = t.val * 512 + r.val) (hJ : J.val = 0 * 1024 + j.val) :
    berr (iblk m c 0 t : FVec Ideal S512x2816 .bf16) (iblk m c 1 t : FVec Ideal S2816x1024 .bf16) (iblk m c 2 t : FVec Ideal S512x1024 .f32) (iblk m c 3 t : FVec Ideal S512x1024 .f32) (iblk m c 4 t : FVec Ideal S1x1024 .f32) r j = err (xarr (m ((c : Thread nD τ).loc main_arg0)) (m ((c : Thread nD τ).loc main_arg1)) (m ((c : Thread nD τ).loc main_arg2))) (m ((c : Thread nD τ).loc main_arg3)) (m ((c : Thread nD τ).loc main_arg4)) R J := by
  obtain rfl : J = j := Fin.ext (by omega)
  have e3 := blk3 m c t r J R J hR (by omega)
  have e4 := blk4 m c t 0 J 0 J rfl (by omega)
  rw [V_main_arg3] at e3
  rw [V_main_arg4] at e4
  unfold berr err
  rw [brow_eq m c t r R hR]
  exact congrArg₂ (fun a b : EReal => row (xarr (m ((c : Thread nD τ).loc main_arg0)) (m ((c : Thread nD τ).loc main_arg1)) (m ((c : Thread nD τ).loc main_arg2))) R J * Cert.Norm.rs (row (xarr (m ((c : Thread nD τ).loc main_arg0)) (m ((c : Thread nD τ).loc main_arg1)) (m ((c : Thread nD τ).loc main_arg2))) R) * a - b) e4 e3

theorem dx_eq (c : Dev nD) (t : Fin cfg0.N) (r : Fin 512) (j : Fin 1024) (R : Fin 4096) (J : Fin 1024)
    (hR : R.val = t.val * 512 + r.val) (hJ : J.val = 0 * 1024 + j.val) :
    k0_pay10 (F := Ideal) (iblk m c 2 t : FVec Ideal S512x1024 .f32) (iblk m c 0 t : FVec Ideal S512x2816 .bf16) (iblk m c 1 t : FVec Ideal S2816x1024 .bf16) (iblk m c 4 t : FVec Ideal S1x1024 .f32) (iblk m c 3 t : FVec Ideal S512x1024 .f32) (ix2 r j) = dx (xarr (m ((c : Thread nD τ).loc main_arg0)) (m ((c : Thread nD τ).loc main_arg1)) (m ((c : Thread nD τ).loc main_arg2))) (m ((c : Thread nD τ).loc main_arg3)) (m ((c : Thread nD τ).loc main_arg4)) R J := by
  obtain rfl : J = j := Fin.ext (by omega)
  refine (p10 _ _ _ _ _ r J).trans ?_
  unfold dx
  rw [brow_eq m c t r R hR]
  refine congrArg (fun f => Cert.Norm.back (row (xarr (m ((c : Thread nD τ).loc main_arg0)) (m ((c : Thread nD τ).loc main_arg1)) (m ((c : Thread nD τ).loc main_arg2))) R) f J) (funext fun k => ?_)
  have e4 := blk4 m c t 0 k 0 k rfl (by omega)
  rw [V_main_arg4] at e4
  rw [berr_eq m c t r k R k hR (by omega)]
  exact congrArg (fun a : EReal => err (xarr (m ((c : Thread nD τ).loc main_arg0)) (m ((c : Thread nD τ).loc main_arg1)) (m ((c : Thread nD τ).loc main_arg2))) (m ((c : Thread nD τ).loc main_arg3)) (m ((c : Thread nD τ).loc main_arg4)) R k * Ideal.ofBits .f32 981467136#32 * a) e4

theorem point5 (c : Dev nD) (t : Fin cfg0.N) (r : Fin 512) (j : Fin 1024) (R : Fin 4096) (J : Fin 1024)
    (hR : R.val = t.val * 512 + r.val) (hJ : J.val = 0 * 1024 + j.val) :
    (outsAt0 m c t.val t.isLt).1 (ix2 r j) = G5 (xarr (m ((c : Thread nD τ).loc main_arg0)) (m ((c : Thread nD τ).loc main_arg1)) (m ((c : Thread nD τ).loc main_arg2))) (m ((c : Thread nD τ).loc main_arg3)) (m ((c : Thread nD τ).loc main_arg4)) (ix2 R J) := by
  by_cases h0 : t.val % 8 = 0
  · rw [outsAt0_A m c t h0]
    dsimp only
    rw [out5_A]
    exact dx_eq m c t r j R J hR hJ
  · rw [outsAt0_B m c t h0]
    dsimp only
    rw [out5_B]
    exact dx_eq m c t r j R J hR hJ

theorem point6 (c : Dev nD) (t : Fin cfg0.N) (r : Fin 512) (j : Fin 1024) (R : Fin 4096) (J : Fin 1024)
    (hR : R.val = t.val * 512 + r.val) (hJ : J.val = 0 * 1024 + j.val) :
    (outsAt0 m c t.val t.isLt).2.1 (ix2 r j) = G6 (xarr (m ((c : Thread nD τ).loc main_arg0)) (m ((c : Thread nD τ).loc main_arg1)) (m ((c : Thread nD τ).loc main_arg2))) (m ((c : Thread nD τ).loc main_arg3)) (m ((c : Thread nD τ).loc main_arg4)) (ix2 R J) := by
  have e : k0_pay11 (F := Ideal) (iblk m c 2 t : FVec Ideal S512x1024 .f32) (iblk m c 0 t : FVec Ideal S512x2816 .bf16) (iblk m c 1 t : FVec Ideal S2816x1024 .bf16) (iblk m c 4 t : FVec Ideal S1x1024 .f32) (iblk m c 3 t : FVec Ideal S512x1024 .f32) (ix2 r j) = k0_pay10 (F := Ideal) (iblk m c 2 t : FVec Ideal S512x1024 .f32) (iblk m c 0 t : FVec Ideal S512x2816 .bf16) (iblk m c 1 t : FVec Ideal S2816x1024 .bf16) (iblk m c 4 t : FVec Ideal S1x1024 .f32) (iblk m c 3 t : FVec Ideal S512x1024 .f32) (ix2 r j) := by
    pointwise [k0_pay11]
  by_cases h0 : t.val % 8 = 0
  · rw [outsAt0_A m c t h0]
    dsimp only
    rw [out6_A]
    exact e.trans (dx_eq m c t r j R J hR hJ)
  · rw [outsAt0_B m c t h0]
    dsimp only
    rw [out6_B]
    exact e.trans (dx_eq m c t r j R J hR hJ)

/-- A point's part of the gradient of the gain is its stretch of the sum. -/
theorem stretch (c : Dev nD) (t : Fin cfg0.N) (j : Fin 1024) :
    ∑ r : Fin 512, berr (iblk m c 0 t : FVec Ideal S512x2816 .bf16) (iblk m c 1 t : FVec Ideal S2816x1024 .bf16) (iblk m c 2 t : FVec Ideal S512x1024 .f32) (iblk m c 3 t : FVec Ideal S512x1024 .f32) (iblk m c 4 t : FVec Ideal S1x1024 .f32) r j * Ideal.ofBits .f32 981467136#32 * (brow (iblk m c 0 t : FVec Ideal S512x2816 .bf16) (iblk m c 1 t : FVec Ideal S2816x1024 .bf16) (iblk m c 2 t : FVec Ideal S512x1024 .f32) r j * Cert.Norm.rs (brow (iblk m c 0 t : FVec Ideal S512x2816 .bf16) (iblk m c 1 t : FVec Ideal S2816x1024 .bf16) (iblk m c 2 t : FVec Ideal S512x1024 .f32) r))
      = ∑ n ∈ Finset.range 512, term (xarr (m ((c : Thread nD τ).loc main_arg0)) (m ((c : Thread nD τ).loc main_arg1)) (m ((c : Thread nD τ).loc main_arg2))) (m ((c : Thread nD τ).loc main_arg3)) (m ((c : Thread nD τ).loc main_arg4)) j (t.val * 512 + n) := by
  rw [Finset.sum_range (fun n => term (xarr (m ((c : Thread nD τ).loc main_arg0)) (m ((c : Thread nD τ).loc main_arg1)) (m ((c : Thread nD τ).loc main_arg2))) (m ((c : Thread nD τ).loc main_arg3)) (m ((c : Thread nD τ).loc main_arg4)) j (t.val * 512 + n))]
  refine Finset.sum_congr rfl fun r _ => ?_
  have hr := r.isLt
  have ht : t.val < 8 := lt_of_lt_of_eq t.isLt N_0
  have hlt : t.val * 512 + r.val < 4096 := by omega
  rw [berr_eq m c t r j ⟨t.val * 512 + r.val, hlt⟩ j rfl (by omega), brow_eq m c t r ⟨t.val * 512 + r.val, hlt⟩ rfl]
  unfold term
  rw [dif_pos hlt]
  rfl

/-- A point's part of the loss. -/
theorem part (c : Dev nD) (t : Fin cfg0.N) :
    ∑ r : Fin 512, Ideal.div (∑ k : Fin 1024, berr (iblk m c 0 t : FVec Ideal S512x2816 .bf16) (iblk m c 1 t : FVec Ideal S2816x1024 .bf16) (iblk m c 2 t : FVec Ideal S512x1024 .f32) (iblk m c 3 t : FVec Ideal S512x1024 .f32) (iblk m c 4 t : FVec Ideal S1x1024 .f32) r k * berr (iblk m c 0 t : FVec Ideal S512x2816 .bf16) (iblk m c 1 t : FVec Ideal S2816x1024 .bf16) (iblk m c 2 t : FVec Ideal S512x1024 .f32) (iblk m c 3 t : FVec Ideal S512x1024 .f32) (iblk m c 4 t : FVec Ideal S1x1024 .f32) r k) (Ideal.ofBits .f32 1149239296#32)
      = ∑ r : Fin 512, sq (xarr (m ((c : Thread nD τ).loc main_arg0)) (m ((c : Thread nD τ).loc main_arg1)) (m ((c : Thread nD τ).loc main_arg2))) (m ((c : Thread nD τ).loc main_arg3)) (m ((c : Thread nD τ).loc main_arg4)) (t.val * 512 + r.val) := by
  refine Finset.sum_congr rfl fun r _ => ?_
  have hr := r.isLt
  have ht : t.val < 8 := lt_of_lt_of_eq t.isLt N_0
  have hlt : t.val * 512 + r.val < 4096 := by omega
  unfold sq
  rw [dif_pos hlt]
  refine congrArg (fun a : EReal => Ideal.div a _) (Finset.sum_congr rfl fun k _ => ?_)
  rw [berr_eq m c t r k ⟨t.val * 512 + r.val, hlt⟩ k rfl (by omega)]

/-- The gradient of the gain after point `n`. -/
theorem acc7 (c : Dev nD) (j : Fin 1024) : ∀ (n : ℕ) (h : n < cfg0.N),
    ((outsAt0 m c n h).2.2.1 (ix2 0 j) : EReal) = ∑ k ∈ Finset.range (n * 512 + 512), term (xarr (m ((c : Thread nD τ).loc main_arg0)) (m ((c : Thread nD τ).loc main_arg1)) (m ((c : Thread nD τ).loc main_arg2))) (m ((c : Thread nD τ).loc main_arg3)) (m ((c : Thread nD τ).loc main_arg4)) j k := by
  have hz : ((k0_pay1 (F := Ideal) : FVec Ideal S1x1024 .f32) (ix2 0 j) : EReal) = 0 := by pointwise [k0_pay1]
  intro n
  induction n with
  | zero =>
    intro h
    have e : outsAt0 m c 0 h = outsAt0 m c (⟨0, h⟩ : Fin cfg0.N).val (⟨0, h⟩ : Fin cfg0.N).isLt := rfl
    rw [Finset.sum_range_add, ← stretch m c ⟨0, h⟩ j, e, outsAt0_A m c ⟨0, h⟩ rfl]
    dsimp only
    rw [out7_A]
    refine (p3 _ _ _ _ _ _ j).trans ?_
    rw [hz]
    simp
  | succ n ih =>
    intro h
    have hN : n + 1 < 8 := lt_of_lt_of_eq h N_0
    have h0 : ¬(n + 1) % 8 = 0 := by omega
    have e : outsAt0 m c (n + 1) h = outsAt0 m c (⟨n + 1, h⟩ : Fin cfg0.N).val (⟨n + 1, h⟩ : Fin cfg0.N).isLt := rfl
    rw [Finset.sum_range_add, ← stretch m c ⟨n + 1, h⟩ j, e, outsAt0_B m c ⟨n + 1, h⟩ h0]
    dsimp only
    rw [out7_B]
    refine (p3 _ _ _ _ _ _ j).trans ?_
    have hp := ih (Nat.lt_of_succ_lt h)
    rw [show n * 512 + 512 = (n + 1) * 512 by ring] at hp
    exact congrArg (fun a : EReal => a + _) hp

/-- The loss after point `n`. -/
theorem acc8 (c : Dev nD) (l : Fin 128) : ∀ (n : ℕ) (h : n < cfg0.N),
    ((outsAt0 m c n h).2.2.2 (ix2 0 l) : EReal) = ∑ b ∈ Finset.range (n + 1), Ideal.ofBits .f32 1056964608#32 * ∑ r : Fin 512, sq (xarr (m ((c : Thread nD τ).loc main_arg0)) (m ((c : Thread nD τ).loc main_arg1)) (m ((c : Thread nD τ).loc main_arg2))) (m ((c : Thread nD τ).loc main_arg3)) (m ((c : Thread nD τ).loc main_arg4)) (b * 512 + r.val) := by
  have hz : ((k0_pay2 (F := Ideal) : FVec Ideal S1x128 .f32) (ix2 0 l) : EReal) = 0 := by pointwise [k0_pay2]
  intro n
  induction n with
  | zero =>
    intro h
    have e : outsAt0 m c 0 h = outsAt0 m c (⟨0, h⟩ : Fin cfg0.N).val (⟨0, h⟩ : Fin cfg0.N).isLt := rfl
    rw [Finset.sum_range_succ, ← part m c ⟨0, h⟩, e, outsAt0_A m c ⟨0, h⟩ rfl]
    dsimp only
    rw [out8_A]
    refine (p4 _ _ _ _ _ _ l).trans ?_
    rw [hz]
    simp
  | succ n ih =>
    intro h
    have hN : n + 1 < 8 := lt_of_lt_of_eq h N_0
    have h0 : ¬(n + 1) % 8 = 0 := by omega
    have e : outsAt0 m c (n + 1) h = outsAt0 m c (⟨n + 1, h⟩ : Fin cfg0.N).val (⟨n + 1, h⟩ : Fin cfg0.N).isLt := rfl
    rw [Finset.sum_range_succ, ← part m c ⟨n + 1, h⟩, e, outsAt0_B m c ⟨n + 1, h⟩ h0]
    dsimp only
    rw [out8_B]
    refine (p4 _ _ _ _ _ _ l).trans ?_
    exact congrArg (fun a : EReal => a + _) (ih (Nat.lt_of_succ_lt h))

theorem point7 (c : Dev nD) (t : Fin cfg0.N) (r : Fin 1) (j : Fin 1024) (R : Fin 1) (J : Fin 1024) (h1 : t.val % 8 = 7)
    (hR : R.val = 0 * 1 + r.val) (hJ : J.val = 0 * 1024 + j.val) :
    (outsAt0 m c t.val t.isLt).2.2.1 (ix2 r j) = G7 (xarr (m ((c : Thread nD τ).loc main_arg0)) (m ((c : Thread nD τ).loc main_arg1)) (m ((c : Thread nD τ).loc main_arg2))) (m ((c : Thread nD τ).loc main_arg3)) (m ((c : Thread nD τ).loc main_arg4)) (ix2 R J) := by
  obtain rfl : J = j := Fin.ext (by omega)
  obtain rfl : r = 0 := Subsingleton.elim _ _
  have ht : t.val < 8 := lt_of_lt_of_eq t.isLt N_0
  refine (acc7 m c J t.val t.isLt).trans ?_
  rw [show t.val * 512 + 512 = 4096 by omega]
  rfl

theorem point8 (c : Dev nD) (t : Fin cfg0.N) (r : Fin 1) (j : Fin 128) (R : Fin 1) (J : Fin 128) (h1 : t.val % 8 = 7)
    (hR : R.val = 0 * 1 + r.val) (hJ : J.val = 0 * 128 + j.val) :
    (outsAt0 m c t.val t.isLt).2.2.2 (ix2 r j) = G8 (xarr (m ((c : Thread nD τ).loc main_arg0)) (m ((c : Thread nD τ).loc main_arg1)) (m ((c : Thread nD τ).loc main_arg2))) (m ((c : Thread nD τ).loc main_arg3)) (m ((c : Thread nD τ).loc main_arg4)) (ix2 R J) := by
  obtain rfl : r = 0 := Subsingleton.elim _ _
  have ht : t.val < 8 := lt_of_lt_of_eq t.isLt N_0
  refine (acc8 m c j t.val t.isLt).trans ?_
  rw [show t.val + 1 = 8 by omega]
  rfl

/-- What a point writes back to result 0 is its block. -/
theorem flushed5_eq (c : Dev nD) (t : Fin cfg0.N) (hf : (cfg0.win 5).flush t = true) :
    (dats m 0 c).flushed 5 t = ((cfg0.win 5).blk t).view.read (Elt Ideal) (G5 (xarr (m ((c : Thread nD τ).loc main_arg0)) (m ((c : Thread nD τ).loc main_arg1)) (m ((c : Thread nD τ).loc main_arg2))) (m ((c : Thread nD τ).loc main_arg3)) (m ((c : Thread nD τ).loc main_arg4))) := by
  rw [Value.flushed5]
  obtain ⟨-, -, -, -, -, -, -, -, -, -, e0, e1, -⟩ := idx_all t
  funext y
  have ht : t.val < grid0.N := t.isLt
  rw [N_0] at ht
  show (outsAt0 m c t.val t.isLt).1 ((cfg0.win 5).xinj (grid0.coords t) y) = G5 (xarr (m ((c : Thread nD τ).loc main_arg0)) (m ((c : Thread nD τ).loc main_arg1)) (m ((c : Thread nD τ).loc main_arg2))) (m ((c : Thread nD τ).loc main_arg3)) (m ((c : Thread nD τ).loc main_arg4)) (((cfg0.win 5).blk t).view.emb y)
  rw [eq_ix2 (n0 := 512) (n1 := 1024) ((cfg0.win 5).xinj (grid0.coords t) y), eq_ix2 (n0 := 4096) (n1 := 1024) (((cfg0.win 5).blk t).view.emb y)]
  exact point5 m c t _ _ _ _ (by show win0_5.index t (0 : Fin 2) * 512 + 1 * (y 0).val = (t.val) * 512 + (y 0).val; rw [e0]; omega) (by show win0_5.index t (1 : Fin 2) * 1024 + 1 * (y 1).val = (0) * 1024 + (y 1).val; rw [e1]; omega)

/-- Every index of result 0 is in some point's block. -/
theorem cover5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  let t : Fin cfg0.N := ⟨(i 0).val / 512, by show _ < grid0.N; rw [N_0]; omega⟩
  have htv : t.val = (i 0).val / 512 := rfl
  obtain ⟨-, -, -, -, -, -, -, -, -, -, e0, e1, -, -, -, -, -, -, hfl, -⟩ := idx_all t
  refine ⟨t, hfl, ?_⟩
  show i ∈ ((View.whole main_v1_0).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; rw [e0]; try rw [htv]
              omega
  | ⟨1, _⟩ => show win0_5.index t (1 : Fin 2) * 1024 ≤ (i 1).val ∧ (i 1).val < win0_5.index t (1 : Fin 2) * 1024 + 1024; rw [e1]; try rw [htv]
              omega

/-- What a point writes back to result 1 is its block. -/
theorem flushed6_eq (c : Dev nD) (t : Fin cfg0.N) (hf : (cfg0.win 6).flush t = true) :
    (dats m 0 c).flushed 6 t = ((cfg0.win 6).blk t).view.read (Elt Ideal) (G6 (xarr (m ((c : Thread nD τ).loc main_arg0)) (m ((c : Thread nD τ).loc main_arg1)) (m ((c : Thread nD τ).loc main_arg2))) (m ((c : Thread nD τ).loc main_arg3)) (m ((c : Thread nD τ).loc main_arg4))) := by
  rw [Value.flushed6]
  obtain ⟨-, -, -, -, -, -, -, -, -, -, -, -, e0, e1, -⟩ := idx_all t
  funext y
  have ht : t.val < grid0.N := t.isLt
  rw [N_0] at ht
  show (outsAt0 m c t.val t.isLt).2.1 ((cfg0.win 6).xinj (grid0.coords t) y) = G6 (xarr (m ((c : Thread nD τ).loc main_arg0)) (m ((c : Thread nD τ).loc main_arg1)) (m ((c : Thread nD τ).loc main_arg2))) (m ((c : Thread nD τ).loc main_arg3)) (m ((c : Thread nD τ).loc main_arg4)) (((cfg0.win 6).blk t).view.emb y)
  rw [eq_ix2 (n0 := 512) (n1 := 1024) ((cfg0.win 6).xinj (grid0.coords t) y), eq_ix2 (n0 := 4096) (n1 := 1024) (((cfg0.win 6).blk t).view.emb y)]
  exact point6 m c t _ _ _ _ (by show win0_6.index t (0 : Fin 2) * 512 + 1 * (y 0).val = (t.val) * 512 + (y 0).val; rw [e0]; omega) (by show win0_6.index t (1 : Fin 2) * 1024 + 1 * (y 1).val = (0) * 1024 + (y 1).val; rw [e1]; omega)

/-- Every index of result 1 is in some point's block. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  let t : Fin cfg0.N := ⟨(i 0).val / 512, by show _ < grid0.N; rw [N_0]; omega⟩
  have htv : t.val = (i 0).val / 512 := rfl
  obtain ⟨-, -, -, -, -, -, -, -, -, -, -, -, e0, e1, -, -, -, -, -, hfl⟩ := idx_all t
  refine ⟨t, hfl, ?_⟩
  show i ∈ ((View.whole main_v1_1).slice (win0_6.rect t)).set
  rw [View.set_slice_whole, Rect.mem_set_unit]
  intro a
  match a with
  | ⟨0, _⟩ => show win0_6.index t (0 : Fin 2) * 512 ≤ (i 0).val ∧ (i 0).val < win0_6.index t (0 : Fin 2) * 512 + 512; rw [e0]; try rw [htv]
              omega
  | ⟨1, _⟩ => show win0_6.index t (1 : Fin 2) * 1024 ≤ (i 1).val ∧ (i 1).val < win0_6.index t (1 : Fin 2) * 1024 + 1024; rw [e1]; try rw [htv]
              omega

/-- What a point writes back to result 2 is its block. -/
theorem flushed7_eq (c : Dev nD) (t : Fin cfg0.N) (hf : (cfg0.win 7).flush t = true) :
    (dats m 0 c).flushed 7 t = ((cfg0.win 7).blk t).view.read (Elt Ideal) (G7 (xarr (m ((c : Thread nD τ).loc main_arg0)) (m ((c : Thread nD τ).loc main_arg1)) (m ((c : Thread nD τ).loc main_arg2))) (m ((c : Thread nD τ).loc main_arg3)) (m ((c : Thread nD τ).loc main_arg4))) := by
  rw [Value.flushed7]
  obtain ⟨-, -, -, -, -, -, -, -, -, -, -, -, -, -, e0, e1, -⟩ := idx_all t
  funext y
  have ht : t.val < grid0.N := t.isLt
  rw [N_0] at ht
  show (outsAt0 m c t.val t.isLt).2.2.1 ((cfg0.win 7).xinj (grid0.coords t) y) = G7 (xarr (m ((c : Thread nD τ).loc main_arg0)) (m ((c : Thread nD τ).loc main_arg1)) (m ((c : Thread nD τ).loc main_arg2))) (m ((c : Thread nD τ).loc main_arg3)) (m ((c : Thread nD τ).loc main_arg4)) (((cfg0.win 7).blk t).view.emb y)
  rw [eq_ix2 (n0 := 1) (n1 := 1024) ((cfg0.win 7).xinj (grid0.coords t) y), eq_ix2 (n0 := 1) (n1 := 1024) (((cfg0.win 7).blk t).view.emb y)]
  exact point7 m c t _ _ _ _ ((flush0_7 t).mp hf) (by show win0_7.index t (0 : Fin 2) * 1 + 1 * (y 0).val = (0) * 1 + (y 0).val; rw [e0]; omega) (by show win0_7.index t (1 : Fin 2) * 1024 + 1 * (y 1).val = (0) * 1024 + (y 1).val; rw [e1]; omega)

/-- Every index of result 2 is in some point's block. -/
theorem cover7 (i : S1x1024.Idx) : ∃ t : Fin cfg0.N, (cfg0.win 7).flush t = true ∧ i ∈ ((cfg0.win 7).blk t).view.set := by
  have hi0 : (i 0).val < 1 := (i 0).isLt
  have hi1 : (i 1).val < 1024 := (i 1).isLt
  let t : Fin cfg0.N := ⟨7, by show _ < grid0.N; rw [N_0]; omega⟩
  have htv : t.val = 7 := rfl
  obtain ⟨-, -, -, -, -, -, -, -, -, -, -, -, -, -, e0, e1, -⟩ := idx_all t
  refine ⟨t, (flush0_7 t).mpr (by rw [htv]), ?_⟩
  show i ∈ ((View.whole main_v1_2).slice (win0_7.rect t)).set
  rw [View.set_slice_whole, Rect.mem_set_unit]
  intro a
  match a with
  | ⟨0, _⟩ => show win0_7.index t (0 : Fin 2) * 1 ≤ (i 0).val ∧ (i 0).val < win0_7.index t (0 : Fin 2) * 1 + 1; rw [e0]; try rw [htv]
              omega
  | ⟨1, _⟩ => show win0_7.index t (1 : Fin 2) * 1024 ≤ (i 1).val ∧ (i 1).val < win0_7.index t (1 : Fin 2) * 1024 + 1024; rw [e1]; try rw [htv]
              omega

/-- What a point writes back to result 3 is its block. -/
theorem flushed8_eq (c : Dev nD) (t : Fin cfg0.N) (hf : (cfg0.win 8).flush t = true) :
    (dats m 0 c).flushed 8 t = ((cfg0.win 8).blk t).view.read (Elt Ideal) (G8 (xarr (m ((c : Thread nD τ).loc main_arg0)) (m ((c : Thread nD τ).loc main_arg1)) (m ((c : Thread nD τ).loc main_arg2))) (m ((c : Thread nD τ).loc main_arg3)) (m ((c : Thread nD τ).loc main_arg4))) := by
  rw [Value.flushed8]
  obtain ⟨-, -, -, -, -, -, -, -, -, -, -, -, -, -, -, -, e0, e1, -⟩ := idx_all t
  funext y
  have ht : t.val < grid0.N := t.isLt
  rw [N_0] at ht
  show (outsAt0 m c t.val t.isLt).2.2.2 ((cfg0.win 8).xinj (grid0.coords t) y) = G8 (xarr (m ((c : Thread nD τ).loc main_arg0)) (m ((c : Thread nD τ).loc main_arg1)) (m ((c : Thread nD τ).loc main_arg2))) (m ((c : Thread nD τ).loc main_arg3)) (m ((c : Thread nD τ).loc main_arg4)) (((cfg0.win 8).blk t).view.emb y)
  rw [eq_ix2 (n0 := 1) (n1 := 128) ((cfg0.win 8).xinj (grid0.coords t) y), eq_ix2 (n0 := 1) (n1 := 128) (((cfg0.win 8).blk t).view.emb y)]
  exact point8 m c t _ _ _ _ ((flush0_8 t).mp hf) (by show win0_8.index t (0 : Fin 2) * 1 + 1 * (y 0).val = (0) * 1 + (y 0).val; rw [e0]; omega) (by show win0_8.index t (1 : Fin 2) * 128 + 1 * (y 1).val = (0) * 128 + (y 1).val; rw [e1]; omega)

/-- Every index of result 3 is in some point's block. -/
theorem cover8 (i : S1x128.Idx) : ∃ t : Fin cfg0.N, (cfg0.win 8).flush t = true ∧ i ∈ ((cfg0.win 8).blk t).view.set := by
  have hi0 : (i 0).val < 1 := (i 0).isLt
  have hi1 : (i 1).val < 128 := (i 1).isLt
  let t : Fin cfg0.N := ⟨7, by show _ < grid0.N; rw [N_0]; omega⟩
  have htv : t.val = 7 := rfl
  obtain ⟨-, -, -, -, -, -, -, -, -, -, -, -, -, -, -, -, e0, e1, -⟩ := idx_all t
  refine ⟨t, (flush0_8 t).mpr (by rw [htv]), ?_⟩
  show i ∈ ((View.whole main_v1_3).slice (win0_8.rect t)).set
  rw [View.set_slice_whole, Rect.mem_set_unit]
  intro a
  match a with
  | ⟨0, _⟩ => show win0_8.index t (0 : Fin 2) * 1 ≤ (i 0).val ∧ (i 0).val < win0_8.index t (0 : Fin 2) * 1 + 1; rw [e0]; try rw [htv]
              omega
  | ⟨1, _⟩ => show win0_8.index t (1 : Fin 2) * 128 ≤ (i 1).val ∧ (i 1).val < win0_8.index t (1 : Fin 2) * 128 + 128; rw [e1]; try rw [htv]
              omega

/-- The run, read: the four results, the arguments unchanged. -/
theorem run : θ_run defs (onTc (τ := τ) (main (F := Ideal))) ⟨m, fun _ => 0, ρ⟩ fun r => ∀ c : Dev nD,
      r.2.mem ((c.tc : Thread nD τ).loc main_v1_0) = G5 (xarr (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_v1_1) = G6 (xarr (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_v1_2) = G7 (xarr (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_v1_3) = G8 (xarr (m ((c.tc : Thread nD τ).loc main_arg0)) (m ((c.tc : Thread nD τ).loc main_arg1)) (m ((c.tc : Thread nD τ).loc main_arg2))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨(h c).1.trans ((dats m 0 c).arrAt_eq_of_cover 5 _ (fun t hf => flushed5_eq m c t hf) cover5),
      (h c).2.1.trans ((dats m 0 c).arrAt_eq_of_cover 6 _ (fun t hf => flushed6_eq m c t hf) cover6),
      (h c).2.2.1.trans ((dats m 0 c).arrAt_eq_of_cover 7 _ (fun t hf => flushed7_eq m c t hf) cover7),
      (h c).2.2.2.1.trans ((dats m 0 c).arrAt_eq_of_cover 8 _ (fun t hf => flushed8_eq m c t hf) cover8),
      (h c).2.2.2.2⟩)
    (Value.run_blocks m ρ)

end Cert.Kernel9Ideal.Loss

namespace Cert.Reference9Ideal.Loss

open Cert.Reference9Ideal Cert.Reference9Ideal.Facts₀ Idealize.ShloMosaic Idealize.ShloMosaic.TcCoe Idealize.SL.Sem
open scoped BigOperators

/-- The precondition read: the arguments are arrays of real numbers. -/
theorem reals (a0 : FVec Ideal S4096x2816 .bf16) (a1 : FVec Ideal S2816x1024 .f32) (a2 a3 : FVec Ideal S4096x1024 .f32) (a4 : FVec Ideal S1x1024 .f32)
    (h : Cert.Pre_finite9.fn (F := Ideal) a0 a1 a2 a3 a4 = fun _ => 1#1) :
    (∃ r : S4096x2816.Idx → ℝ, a0 = fun i => (r i : EReal)) ∧ (∃ r : S2816x1024.Idx → ℝ, a1 = fun i => (r i : EReal))
    ∧ (∃ r : S4096x1024.Idx → ℝ, a2 = fun i => (r i : EReal)) ∧ (∃ r : S4096x1024.Idx → ℝ, a3 = fun i => (r i : EReal))
    ∧ (∃ r : S1x1024.Idx → ℝ, a4 = fun i => (r i : EReal)) := by
  have e := congrFun h (fun k => k.elim0)
  obtain ⟨e, e4⟩ := Cert.Reals.both e
  obtain ⟨e, e3⟩ := Cert.Reals.both e
  obtain ⟨e, e2⟩ := Cert.Reals.both e
  obtain ⟨e0, e1⟩ := Cert.Reals.both e
  exact ⟨Cert.Reals.reals_of_all (extf (F := Ideal) .f32 a0 bitsLt_bf16_f32) _ _ _ _ e0, Cert.Reals.reals_of_all a1 _ _ _ _ e1, Cert.Reals.reals_of_all a2 _ _ _ _ e2,
    Cert.Reals.reals_of_all a3 _ _ _ _ e3, Cert.Reals.reals_of_all a4 _ _ _ _ e4⟩

/-- A sum over rows, by blocks of rows. -/
theorem blocks (q : ℕ → EReal) (b : ℕ) : ∑ n ∈ Finset.range (b * 512), q n = ∑ k ∈ Finset.range b, ∑ r : Fin 512, q (k * 512 + r.val) := by
  induction b with
  | zero => simp
  | succ b ih => rw [Finset.sum_range_succ, ← ih, show (b + 1) * 512 = b * 512 + 512 by ring, Finset.sum_range_add, Finset.sum_range (fun r => q (b * 512 + r))]

section Row

variable (x a3 : FVec Ideal S4096x1024 .f32) (a4 : FVec Ideal S1x1024 .f32) (f : S4096x1024.Idx → ℝ) (t : S4096x1024.Idx → ℝ) (g : S1x1024.Idx → ℝ)
  (hx : x = fun i => (f i : EReal)) (ht : a3 = fun i => (t i : EReal)) (hg : a4 = fun i => (g i : EReal))

include hx ht hg

/-- The errors are real numbers. -/
theorem err_real (R : Fin 4096) : ∃ e : Fin 1024 → ℝ, ∀ j, Cert.Kernel9Ideal.Loss.err x a3 a4 R j = (e j : EReal) := by
  obtain ⟨r, s, -, hr, -, -⟩ := Cert.Norm.ms_real (Cert.Kernel9Ideal.Loss.row x R) (fun k => f (ix2 R k)) (fun k => by rw [hx]; rfl)
  refine ⟨fun j => f (ix2 R j) * r * g (ix2 0 j) - t (ix2 R j), fun j => ?_⟩
  unfold Cert.Kernel9Ideal.Loss.err
  rw [hr]
  unfold Cert.Kernel9Ideal.Loss.row
  rw [hx, ht, hg]
  simp only [EReal.coe_sub, EReal.coe_mul]

/-- The derivative's form of the gradient of an entry of the norm. -/
theorem dy_form (R : Fin 4096) (j : Fin 1024) :
    Ideal.div (Ideal.ofBits .f32 1056964608#32) (Ideal.ofBits .f32 1149239296#32) * (Ideal.ofBits .f32 1073741824#32 * Cert.Kernel9Ideal.Loss.err x a3 a4 R j) = Cert.Kernel9Ideal.Loss.dy x a3 a4 R j := by
  obtain ⟨e, he⟩ := err_real x a3 a4 f t g hx ht hg R
  unfold Cert.Kernel9Ideal.Loss.dy
  rw [he, Cert.Norm.half, Cert.Norm.n1024, Cert.Norm.two, Cert.Norm.inv1024, Cert.Reals.coe_div _ _ (by norm_num)]
  norm_cast
  ring

theorem dx_form (R : Fin 4096) (j : Fin 1024) :
    Cert.Kernel9Ideal.Loss.dy x a3 a4 R j * a4 (ix2 0 j) * Cert.Norm.rs (Cert.Kernel9Ideal.Loss.row x R)
      + Cert.Kernel9Ideal.Loss.row x R j * (∑ _z : Fin 1, Ideal.div ((∑ k, Cert.Kernel9Ideal.Loss.row x R k * (Cert.Kernel9Ideal.Loss.dy x a3 a4 R k * a4 (ix2 0 k))) * (Ideal.ofBits .f32 3204448256#32 * Ideal.div (Cert.Norm.rs (Cert.Kernel9Ideal.Loss.row x R)) (Cert.Norm.ms (Cert.Kernel9Ideal.Loss.row x R)))) (Ideal.ofBits .f32 1149239296#32))
      + (∑ _z : Fin 1, Ideal.div ((∑ k, Cert.Kernel9Ideal.Loss.row x R k * (Cert.Kernel9Ideal.Loss.dy x a3 a4 R k * a4 (ix2 0 k))) * (Ideal.ofBits .f32 3204448256#32 * Ideal.div (Cert.Norm.rs (Cert.Kernel9Ideal.Loss.row x R)) (Cert.Norm.ms (Cert.Kernel9Ideal.Loss.row x R)))) (Ideal.ofBits .f32 1149239296#32)) * Cert.Kernel9Ideal.Loss.row x R j
      = Cert.Kernel9Ideal.Loss.dx x a3 a4 R j := by
  obtain ⟨e, he⟩ := err_real x a3 a4 f t g hx ht hg R
  have h := Cert.Norm.back_ref (Cert.Kernel9Ideal.Loss.row x R) (fun k => Cert.Kernel9Ideal.Loss.dy x a3 a4 R k * a4 (ix2 0 k)) (fun k => f (ix2 R k)) (fun k => e k * (1 / 1024) * g (ix2 0 k))
    (fun k => by rw [hx]; rfl) (fun k => by unfold Cert.Kernel9Ideal.Loss.dy; rw [he, Cert.Norm.inv1024, hg]; norm_cast) 0 ⟨0, EReal.coe_zero.symm⟩ j
  simp only [zero_add] at h
  exact h

/-- The lines of the reference that give the gradient of the input of the last normalisation. -/
abbrev dxHost (x : FVec Ideal S4096x1024 .f32) (a3 : FVec Ideal S4096x1024 .f32) (a4 : FVec Ideal S1x1024 .f32) : FVec Ideal S4096x1024 .f32 :=
  (addf (addf (mulf (mulf (mulf (broadcastInDim S4096x1024 ![0] bcast_S4096_S4096x1024_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x44800000#32)))) (mulf (broadcastInDim S4096x1024 ![] bcast_S_S4096x1024 (constant (F := Ideal) S_ .f32 0x40000000#32)) (subf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 (shapeCast _ a4 shapeCasts_S1x1024_S1024)))) a3))) (broadcastInDim S4096x1024 ![0, 1] bcast_S1x1024_S4096x1024_0_1 (broadcastInDim S1x1024 ![1] bcast_S1024_S1x1024_1 (shapeCast _ a4 shapeCasts_S1x1024_S1024)))) (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (mulf x (broadcastInDim S4096x1024 ![0] bcast_S4096_S4096x1024_0 (Host.reduceAdd (Host.divf (mulf (shapeCast _ (Host.reduceAdd (mulf x (mulf (mulf (broadcastInDim S4096x1024 ![0] bcast_S4096_S4096x1024_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x44800000#32)))) (mulf (broadcastInDim S4096x1024 ![] bcast_S_S4096x1024 (constant (F := Ideal) S_ .f32 0x40000000#32)) (subf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 (shapeCast _ a4 shapeCasts_S1x1024_S1024)))) a3))) (broadcastInDim S4096x1024 ![0, 1] bcast_S1x1024_S4096x1024_0_1 (broadcastInDim S1x1024 ![1] bcast_S1024_S1x1024_1 (shapeCast _ a4 shapeCasts_S1x1024_S1024))))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)))) (mulf (broadcastInDim S4096x1024 ![0] bcast_S4096_S4096x1024_0 (Host.reduceAdd (Host.divf (mulf (shapeCast _ (Host.reduceAdd (mulf x (mulf (mulf (broadcastInDim S4096x1024 ![0] bcast_S4096_S4096x1024_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x44800000#32)))) (mulf (broadcastInDim S4096x1024 ![] bcast_S_S4096x1024 (constant (F := Ideal) S_ .f32 0x40000000#32)) (subf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 (shapeCast _ a4 shapeCasts_S1x1024_S1024)))) a3))) (broadcastInDim S4096x1024 ![0, 1] bcast_S1x1024_S4096x1024_0_1 (broadcastInDim S1x1024 ![1] bcast_S1024_S1x1024_1 (shapeCast _ a4 shapeCasts_S1x1024_S1024))))) (constant (F := Ideal) S_ .f32 0x00000000#32) reducesTo_S4096x1024_S4096_d1 h_S_) shapeCasts_S4096_S4096x1) (mulf (broadcastInDim S4096x1 ![] bcast_S_S4096x1 (constant (F := Ideal) S_ .f32 0xBF000000#32)) (Host.divf (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))) (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1 ![] bcast_S_S4096x1 (constant (F := Ideal) S_ .f32 0x44800000#32))) (constant (F := Ideal) S_ .f32 0x00000000#32) reducesTo_S4096x1_S4096_d1 h_S_)) x) : FVec Ideal S4096x1024 .f32)

theorem ref5_at : (dxHost x a3 a4) = Cert.Kernel9Ideal.Loss.G5 x a3 a4 := by
  unfold dxHost
  funext j
  idx_vars j
  have hd : ∀ k : Fin 1024, _ := fun k => dy_form x a3 a4 f t g hx ht hg j0 k
  have h := dx_form x a3 a4 f t g hx ht hg j0 j1
  simp only [← hd] at h
  unfold Cert.Kernel9Ideal.Loss.err Cert.Kernel9Ideal.Loss.row Cert.Norm.rs Cert.Norm.ms at h
  pointwise
  exact h

/-- The lines of the reference that give the gradient of its gain. -/
abbrev dgHost (x : FVec Ideal S4096x1024 .f32) (a3 : FVec Ideal S4096x1024 .f32) (a4 : FVec Ideal S1x1024 .f32) : FVec Ideal S1x1024 .f32 :=
  (broadcastInDim S1x1024 ![1] bcast_S1024_S1x1024_1 (Host.reduceAdd (shapeCast _ (Host.reduceAdd (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (mulf (broadcastInDim S4096x1024 ![0] bcast_S4096_S4096x1024_0 (Host.divf (broadcastInDim S4096 ![] bcast_S_S4096 (mulf (constant (F := Ideal) S_ .f32 0x3F000000#32) (constant (F := Ideal) S_ .f32 0x3F800000#32))) (broadcastInDim S4096 ![] bcast_S_S4096 (constant (F := Ideal) S_ .f32 0x44800000#32)))) (mulf (broadcastInDim S4096x1024 ![] bcast_S_S4096x1024 (constant (F := Ideal) S_ .f32 0x40000000#32)) (subf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 (shapeCast _ a4 shapeCasts_S1x1024_S1024)))) a3)))) (constant (F := Ideal) S_ .f32 0x00000000#32) reducesTo_S4096x1024_S1024_d0 h_S_) shapeCasts_S1024_S1x1024) (constant (F := Ideal) S_ .f32 0x00000000#32) reducesTo_S1x1024_S1024_d0 h_S_) : FVec Ideal S1x1024 .f32)

theorem ref7_at : (dgHost x a3 a4) = Cert.Kernel9Ideal.Loss.G7 x a3 a4 := by
  unfold dgHost
  funext j
  idx_vars j
  show _ = ∑ n ∈ Finset.range 4096, Cert.Kernel9Ideal.Loss.term x a3 a4 j1 n
  rw [Finset.sum_range]
  pointwise
  rw [Fintype.sum_unique]
  refine Finset.sum_congr rfl fun R _ => ?_
  unfold Cert.Kernel9Ideal.Loss.term
  rw [dif_pos R.isLt, ← dy_form x a3 a4 f t g hx ht hg R j1, mul_comm]
  rfl

/-- The lines of the reference that give the loss. -/
abbrev lossHost (x : FVec Ideal S4096x1024 .f32) (a3 : FVec Ideal S4096x1024 .f32) (a4 : FVec Ideal S1x1024 .f32) : FVec Ideal S1x128 .f32 :=
  (broadcastInDim S1x128 ![] bcast_S_S1x128 (mulf (constant (F := Ideal) S_ .f32 0x3F000000#32) (Host.reduceAdd (Host.divf (Host.reduceAdd (mulf (subf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 (shapeCast _ a4 shapeCasts_S1x1024_S1024)))) a3) (subf (mulf (mulf x (broadcastInDim S4096x1024 ![0, 1] bcast_S4096x1_S4096x1024_0_1 (Host.rsqrt (addf (Host.divf (broadcastInDim S4096x1 ![0] bcast_S4096_S4096x1_0 (Host.reduceAdd (mulf x x) (constant (F := Ideal) S_ .f32 0x00000000#32) reducesTo_S4096x1024_S4096_d1 h_S_)) (broadcastInDim S4096x1 ![] bcast_S_S4096x1 (constant (F := Ideal) S_ .f32 0x44800000#32))) (broadcastInDim S4096x1 ![] bcast_S_S4096x1 (constant (F := Ideal) S_ .f32 0x358637BD#32)))))) (broadcastInDim S4096x1024 ![0, 1] bcast_S1x1024_S4096x1024_0_1 (broadcastInDim S1x1024 ![1] bcast_S1024_S1x1024_1 (shapeCast _ a4 shapeCasts_S1x1024_S1024)))) a3)) (constant (F := Ideal) S_ .f32 0x00000000#32) reducesTo_S4096x1024_S4096_d1 h_S_) (broadcastInDim S4096 ![] bcast_S_S4096 (constant (F := Ideal) S_ .f32 0x44800000#32))) (constant (F := Ideal) S_ .f32 0x00000000#32) reducesTo_S4096_S_d0 h_S_)) : FVec Ideal S1x128 .f32)

theorem ref8_at : (lossHost x a3 a4) = Cert.Kernel9Ideal.Loss.G8 x a3 a4 := by
  unfold lossHost
  funext j
  idx_vars j
  have hq : ∀ R : Fin 4096, ∃ q : ℝ, Cert.Kernel9Ideal.Loss.sq x a3 a4 R.val = (q : EReal) := fun R => by
    obtain ⟨e, he⟩ := err_real x a3 a4 f t g hx ht hg R
    refine ⟨(∑ k, e k * e k) / 1024, ?_⟩
    unfold Cert.Kernel9Ideal.Loss.sq
    rw [dif_pos R.isLt]
    simp only [Fin.eta, he]
    rw [Cert.Reals.coe_dot, Cert.Norm.n1024, Cert.Reals.coe_div _ _ (by norm_num)]
  choose q hq using hq
  have hs : ∑ R : Fin 4096, Cert.Kernel9Ideal.Loss.sq x a3 a4 R.val = ((∑ R, q R : ℝ) : EReal) := by
    rw [← Cert.Reals.coe_sum]
    exact Finset.sum_congr rfl fun R _ => hq R
  have e1 : Cert.Kernel9Ideal.Loss.G8 x a3 a4 (ix2 j0 j1) = Ideal.ofBits .f32 1056964608#32 * ∑ R : Fin 4096, Cert.Kernel9Ideal.Loss.sq x a3 a4 R.val := by
    show ∑ b ∈ Finset.range 8, Ideal.ofBits .f32 1056964608#32 * ∑ r : Fin 512, Cert.Kernel9Ideal.Loss.sq x a3 a4 (b * 512 + r.val) = _
    have hb : ∀ b : Fin 8, ∃ p : ℝ, ∑ r : Fin 512, Cert.Kernel9Ideal.Loss.sq x a3 a4 (b.val * 512 + r.val) = (p : EReal) := fun b => by
      have hlt : ∀ r : Fin 512, b.val * 512 + r.val < 4096 := fun r => by have := b.isLt; have := r.isLt; omega
      refine ⟨∑ r : Fin 512, q ⟨b.val * 512 + r.val, hlt r⟩, ?_⟩
      rw [← Cert.Reals.coe_sum]
      exact Finset.sum_congr rfl fun r _ => hq ⟨b.val * 512 + r.val, hlt r⟩
    choose p hp using hb
    have e2 : ∑ R : Fin 4096, Cert.Kernel9Ideal.Loss.sq x a3 a4 R.val = ∑ b : Fin 8, ∑ r : Fin 512, Cert.Kernel9Ideal.Loss.sq x a3 a4 (b.val * 512 + r.val) := by
      rw [← Finset.sum_range (fun n => Cert.Kernel9Ideal.Loss.sq x a3 a4 n), ← Finset.sum_range (fun b => ∑ r : Fin 512, Cert.Kernel9Ideal.Loss.sq x a3 a4 (b * 512 + r.val))]
      exact blocks _ 8
    rw [e2, Finset.sum_range]
    simp only [hp, Cert.Norm.half, Cert.Reals.coe_sum, ← EReal.coe_mul]
    rw [Finset.mul_sum]
  rw [e1]
  pointwise
  refine congrArg (fun a : EReal => _ * a) (Finset.sum_congr rfl fun R _ => ?_)
  unfold Cert.Kernel9Ideal.Loss.sq
  rw [dif_pos R.isLt]
  rfl

end Row

variable (a0 : FVec Ideal S4096x2816 .bf16) (a1 : FVec Ideal S2816x1024 .f32) (a2 a3 : FVec Ideal S4096x1024 .f32) (a4 : FVec Ideal S1x1024 .f32)

theorem x_eq : (addf (F := Ideal) (φ := .f32) a2 (Host.dotGeneral (F := Ideal) (φ₁ := .f32) (φ₂ := .f32) dot_S4096x2816_S2816x1024_S4096x1024_1_0_0_1_n_n none (extf (F := Ideal) .f32 a0 bitsLt_bf16_f32) a1)) = Cert.Kernel9Ideal.Loss.xarr a0 a1 a2 := by
  funext j
  idx_vars j
  pointwise [Cert.Kernel9Ideal.Loss.xarr]

theorem x_real (h0 : ∃ r : S4096x2816.Idx → ℝ, a0 = fun i => (r i : EReal)) (h1 : ∃ r : S2816x1024.Idx → ℝ, a1 = fun i => (r i : EReal)) (h2 : ∃ r : S4096x1024.Idx → ℝ, a2 = fun i => (r i : EReal)) :
    ∃ r : S4096x1024.Idx → ℝ, Cert.Kernel9Ideal.Loss.xarr a0 a1 a2 = fun i => (r i : EReal) := by
  obtain ⟨r0, rfl⟩ := h0
  obtain ⟨r1, rfl⟩ := h1
  obtain ⟨r2, rfl⟩ := h2
  refine ⟨fun i => r2 i + ∑ l : Fin 2816, r0 (ix2 (i 0) l) * r1 (ix2 l (i 1)), funext fun i => ?_⟩
  unfold Cert.Kernel9Ideal.Loss.xarr
  rw [Cert.Reals.coe_dot, EReal.coe_add]

theorem ref5 (h : Cert.Pre_finite9.fn (F := Ideal) a0 a1 a2 a3 a4 = fun _ => 1#1) :
    (dxHost (addf (F := Ideal) (φ := .f32) a2 (Host.dotGeneral (F := Ideal) (φ₁ := .f32) (φ₂ := .f32) dot_S4096x2816_S2816x1024_S4096x1024_1_0_0_1_n_n none (extf (F := Ideal) .f32 a0 bitsLt_bf16_f32) a1)) a3 a4) = Cert.Kernel9Ideal.Loss.G5 (Cert.Kernel9Ideal.Loss.xarr a0 a1 a2) a3 a4 := by
  obtain ⟨h0, h1, h2, ⟨t, ht⟩, ⟨g, hg⟩⟩ := reals a0 a1 a2 a3 a4 h
  obtain ⟨f, hf⟩ := x_real a0 a1 a2 h0 h1 h2
  rw [x_eq]
  exact (ref5_at _ a3 a4 f t g hf ht hg)

theorem ref6 (h : Cert.Pre_finite9.fn (F := Ideal) a0 a1 a2 a3 a4 = fun _ => 1#1) :
    (truncf (F := Ideal) .bf16 (dxHost (addf (F := Ideal) (φ := .f32) a2 (Host.dotGeneral (F := Ideal) (φ₁ := .f32) (φ₂ := .f32) dot_S4096x2816_S2816x1024_S4096x1024_1_0_0_1_n_n none (extf (F := Ideal) .f32 a0 bitsLt_bf16_f32) a1)) a3 a4) bitsLt_bf16_f32 : FVec Ideal S4096x1024 .bf16) = Cert.Kernel9Ideal.Loss.G6 (Cert.Kernel9Ideal.Loss.xarr a0 a1 a2) a3 a4 := by
  obtain ⟨h0, h1, h2, ⟨t, ht⟩, ⟨g, hg⟩⟩ := reals a0 a1 a2 a3 a4 h
  obtain ⟨f, hf⟩ := x_real a0 a1 a2 h0 h1 h2
  rw [x_eq]
  exact congrArg (fun y => truncf (F := Ideal) .bf16 y bitsLt_bf16_f32) (ref5_at _ a3 a4 f t g hf ht hg)

theorem ref7 (h : Cert.Pre_finite9.fn (F := Ideal) a0 a1 a2 a3 a4 = fun _ => 1#1) :
    (dgHost (addf (F := Ideal) (φ := .f32) a2 (Host.dotGeneral (F := Ideal) (φ₁ := .f32) (φ₂ := .f32) dot_S4096x2816_S2816x1024_S4096x1024_1_0_0_1_n_n none (extf (F := Ideal) .f32 a0 bitsLt_bf16_f32) a1)) a3 a4) = Cert.Kernel9Ideal.Loss.G7 (Cert.Kernel9Ideal.Loss.xarr a0 a1 a2) a3 a4 := by
  obtain ⟨h0, h1, h2, ⟨t, ht⟩, ⟨g, hg⟩⟩ := reals a0 a1 a2 a3 a4 h
  obtain ⟨f, hf⟩ := x_real a0 a1 a2 h0 h1 h2
  rw [x_eq]
  exact (ref7_at _ a3 a4 f t g hf ht hg)

theorem ref8 (h : Cert.Pre_finite9.fn (F := Ideal) a0 a1 a2 a3 a4 = fun _ => 1#1) :
    (lossHost (addf (F := Ideal) (φ := .f32) a2 (Host.dotGeneral (F := Ideal) (φ₁ := .f32) (φ₂ := .f32) dot_S4096x2816_S2816x1024_S4096x1024_1_0_0_1_n_n none (extf (F := Ideal) .f32 a0 bitsLt_bf16_f32) a1)) a3 a4) = Cert.Kernel9Ideal.Loss.G8 (Cert.Kernel9Ideal.Loss.xarr a0 a1 a2) a3 a4 := by
  obtain ⟨h0, h1, h2, ⟨t, ht⟩, ⟨g, hg⟩⟩ := reals a0 a1 a2 a3 a4 h
  obtain ⟨f, hf⟩ := x_real a0 a1 a2 h0 h1 h2
  rw [x_eq]
  exact (ref8_at _ a3 a4 f t g hf ht hg)

end Cert.Reference9Ideal.Loss

end
-- ==== Proof.DwDown.lean ====
/- The gradient of a weight: a product accumulated over four row blocks. -/
module

public import proofs.«01_k».proof.Proof.Gen.Kernel10Ideal.Value
public import proofs.«01_k».proof.Proof.Gen.Reference10Ideal.Run
public import Idealize.ShloMosaic.Lib.Pointwise
public import Idealize.ShloMosaic.Lib.Pipeline.Value

@[expose] public section

set_option maxRecDepth 16384

noncomputable section

namespace Cert.Kernel10Ideal.Tn

open Cert.Kernel10Ideal Cert.Kernel10Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- One term of the product's sum: row `n` of the two arrays, at a column of each (zero past the last row). -/
def term (a : FVec Ideal S4096x2816 .bf16) (b : FVec Ideal S4096x1024 .f32) (i : Fin 2816) (j : Fin 1024) (n : ℕ) : EReal :=
  if h : n < 4096 then (a (ix2 (⟨n, h⟩ : Fin 4096) i) : EReal) * b (ix2 (⟨n, h⟩ : Fin 4096) j) else 0

/-- The product: the sum over the rows. -/
def G (a : FVec Ideal S4096x2816 .bf16) (b : FVec Ideal S4096x1024 .f32) : FVec Ideal S2816x1024 .bf16 := fun i => ∑ n ∈ Finset.range 4096, term a b (i 0) (i 1) n

theorem V_v0 (c : Dev nD) : (V m c main_v0 : FVec Ideal S4096x1024 .bf16) = truncf (F := Ideal) .bf16 (m ((c : Thread nD τ).loc main_arg2) : FVec Ideal S4096x1024 .f32) bitsLt_bf16_f32 := by
  dsimp only [V, hostOps0]
  after_results

/-- The index maps, over the grid. -/
theorem idx_all : ∀ t : Fin cfg0.N, win0_0.index t (0 : Fin 2) = t.val % 4
    ∧ win0_0.index t (1 : Fin 2) = t.val / 4
    ∧ win0_1.index t (0 : Fin 2) = t.val % 4
    ∧ win0_1.index t (1 : Fin 2) = 0
    ∧ win0_2.index t (0 : Fin 2) = t.val / 4
    ∧ win0_2.index t (1 : Fin 2) = 0 :=
  (by decide +kernel : ∀ t : Fin grid0.N, _)

/-- The block of the rows of the first array at a point. -/
theorem blk0 (c : Dev nD) (t : Fin cfg0.N) (r : Fin 1024) (k : Fin 1408) (R : Fin 4096) (K : Fin 2816)
    (hR : R.val = (t.val % 4) * 1024 + r.val) (hK : K.val = (t.val / 4) * 1408 + k.val) :
    (iblk m c 0 t : Vec Ideal S1024x1408 .bf16) (ix2 r k) = (V m c main_arg0 : Vec Ideal S4096x2816 .bf16) (ix2 R K) := by
  obtain ⟨e0, e1, -⟩ := idx_all t
  show (V m c main_arg0 : Vec Ideal S4096x2816 .bf16) (((cfg0.win 0).blk t).view.emb (ix2 r k)) = _
  refine congrArg _ (funext fun a => Fin.ext ?_)
  match a with
  | ⟨0, _⟩ => show win0_0.index t (0 : Fin 2) * 1024 + 1 * r.val = R.val; rw [e0, hR]; omega
  | ⟨1, _⟩ => show win0_0.index t (1 : Fin 2) * 1408 + 1 * k.val = K.val; rw [e1, hK]; omega

/-- The block of the rows of the second array at a point. -/
theorem blk1 (c : Dev nD) (t : Fin cfg0.N) (r : Fin 1024) (k : Fin 1024) (R : Fin 4096) (K : Fin 1024)
    (hR : R.val = (t.val % 4) * 1024 + r.val) (hK : K.val = (0) * 1024 + k.val) :
    (iblk m c 1 t : Vec Ideal S1024x1024 .bf16) (ix2 r k) = (V m c main_v0 : Vec Ideal S4096x1024 .bf16) (ix2 R K) := by
  obtain ⟨-, -, e0, e1, -⟩ := idx_all t
  show (V m c main_v0 : Vec Ideal S4096x1024 .bf16) (((cfg0.win 1).blk t).view.emb (ix2 r k)) = _
  refine congrArg _ (funext fun a => Fin.ext ?_)
  match a with
  | ⟨0, _⟩ => show win0_1.index t (0 : Fin 2) * 1024 + 1 * r.val = R.val; rw [e0, hR]; omega
  | ⟨1, _⟩ => show win0_1.index t (1 : Fin 2) * 1024 + 1 * k.val = K.val; rw [e1, hK]; omega

/-- The product of two entries. -/
abbrev mul1 (a b : EReal) : EReal := a * b

/-- What the first point of four leaves in the accumulator: the product of its blocks. -/
theorem sout_A (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .bf16) (h5 : a5.IsWhole) (a6 : Memref sig .tc .vmem S1408x1024 .f32) (h6 : a6.IsWhole) (hc0 : cond0_0 i) (hc1 : ¬cond0_1 i) (x0 : Vec Ideal S1024x1408 .bf16) (x1 : Vec Ideal S1024x1024 .bf16) :
    sout0_A_0 c i a3 h3 a4 h4 a5 h5 a6 h6 hc0 hc1 x0 x1 = k0_pay2 (k0_pay1 (F := Ideal)) x0 x1 := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1408x1024) hz2, View.readCov_unit_zero (S := S1408x1024) _ hz2]
  simp only [View.readAt_eq_ld, h3.read_unread, h4.read_unread, View.ld_unit_zero (S := S1024x1408) hz2, View.ld_unit_zero (S := S1024x1024) hz2, View.ld_unit_zero (S := S1408x1024) hz2]

/-- What a later point leaves in the accumulator: the product of its blocks added to it. -/
theorem sout_B (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .bf16) (h5 : a5.IsWhole) (a6 : Memref sig .tc .vmem S1408x1024 .f32) (h6 : a6.IsWhole) (hc0 : ¬cond0_0 i) (hc1 : ¬cond0_1 i) (x0 : Vec Ideal S1024x1408 .bf16) (x1 : Vec Ideal S1024x1024 .bf16) (xs : Vec Ideal S1408x1024 .f32) :
    sout0_B_0 c i a3 h3 a4 h4 a5 h5 a6 h6 hc0 hc1 x0 x1 xs = k0_pay2 xs x0 x1 := by
  unfold sout0_B_0
  rw [View.read_writes_eq_canon _ _ _ (scover0_B_0 c i a3 h3 a4 h4 a5 h5 a6 h6 hc0 hc1 x0 x1 xs)]
  unfold kernelRun0_B
  dsimp only
  sl_unfold_words
  rw [View.canon_unit_zero (S := S1408x1024) hz2]
  simp only [View.readAt_eq_ld, h3.read_unread, h4.read_unread, h6.read_unread, View.ld_unit_zero (S := S1024x1408) hz2, View.ld_unit_zero (S := S1024x1024) hz2, View.ld_unit_zero (S := S1408x1024) hz2]

theorem sout_C (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .bf16) (h5 : a5.IsWhole) (a6 : Memref sig .tc .vmem S1408x1024 .f32) (h6 : a6.IsWhole) (hc0 : ¬cond0_0 i) (hc1 : cond0_1 i) (x0 : Vec Ideal S1024x1408 .bf16) (x1 : Vec Ideal S1024x1024 .bf16) (xs : Vec Ideal S1408x1024 .f32) :
    sout0_C_0 c i a3 h3 a4 h4 a5 h5 a6 h6 hc0 hc1 x0 x1 xs = k0_pay2 xs x0 x1 := by
  unfold sout0_C_0
  rw [View.read_writes_eq_canon _ _ _ (scover0_C_0 c i a3 h3 a4 h4 a5 h5 a6 h6 hc0 hc1 x0 x1 xs)]
  unfold kernelRun0_C
  dsimp only
  sl_unfold_words
  rw [View.canon_unit_zero (S := S1408x1024) hz2]
  simp only [View.readAt_eq_ld, h3.read_unread, h4.read_unread, h6.read_unread, View.ld_unit_zero (S := S1024x1408) hz2, View.ld_unit_zero (S := S1024x1024) hz2, View.ld_unit_zero (S := S1408x1024) hz2]

/-- What the last point of four writes: the accumulator as it leaves it. -/
theorem out_C (c : Dev nD) (i : grid0.Coords) (a3 : Memref sig .tc .vmem S1024x1408 .bf16) (h3 : a3.IsWhole) (a4 : Memref sig .tc .vmem S1024x1024 .bf16) (h4 : a4.IsWhole) (a5 : Memref sig .tc .vmem S1408x1024 .bf16) (h5 : a5.IsWhole) (a6 : Memref sig .tc .vmem S1408x1024 .f32) (h6 : a6.IsWhole) (hc0 : ¬cond0_0 i) (hc1 : cond0_1 i) (x0 : Vec Ideal S1024x1408 .bf16) (x1 : Vec Ideal S1024x1024 .bf16) (xs : Vec Ideal S1408x1024 .f32) :
    out0_C_2 c i a3 h3 a4 h4 a5 h5 a6 h6 hc0 hc1 x0 x1 xs = k0_pay3 (k0_pay2 xs x0 x1) := by
  unfold out0_C_2
  rw [View.read_writes_eq_canon _ _ _ (cover0_C_2 c i a3 h3 a4 h4 a5 h5 a6 h6 hc0 hc1 x0 x1 xs)]
  unfold kernelRun0_C
  dsimp only
  sl_unfold_words
  rw [View.canon_unit_zero (S := S1408x1024) hz2, View.readCov_unit_zero (S := S1408x1024) _ hz2]
  simp only [View.readAt_eq_ld, h3.read_unread, h4.read_unread, h6.read_unread, View.ld_unit_zero (S := S1024x1408) hz2, View.ld_unit_zero (S := S1024x1024) hz2, View.ld_unit_zero (S := S1408x1024) hz2]

/-- One entry of an accumulation step. -/
theorem step_at (xs : Vec Ideal S1408x1024 .f32) (x0 : Vec Ideal S1024x1408 .bf16) (x1 : Vec Ideal S1024x1024 .bf16) (r : Fin 1408) (j : Fin 1024) :
    k0_pay2 xs x0 x1 (ix2 r j) = (xs (ix2 r j) : EReal) + ∑ k : Fin 1024, mul1 (x0 (ix2 k r)) (x1 (ix2 k j)) := by
  pointwise [k0_pay2]

/-- The product of a point's blocks is its stretch of the sum. -/
theorem stretch (c : Dev nD) (t : Fin cfg0.N) (r : Fin 1408) (j : Fin 1024) (R : Fin 2816) (hR : R.val = (t.val / 4) * 1408 + r.val) :
    ∑ k : Fin 1024, mul1 ((iblk m c 0 t : Vec Ideal S1024x1408 .bf16) (ix2 k r)) ((iblk m c 1 t : Vec Ideal S1024x1024 .bf16) (ix2 k j))
      = ∑ n ∈ Finset.range 1024, term (m ((c : Thread nD τ).loc main_arg0)) (m ((c : Thread nD τ).loc main_arg2)) R j (t.val % 4 * 1024 + n) := by
  rw [Finset.sum_range (fun n => term (m ((c : Thread nD τ).loc main_arg0)) (m ((c : Thread nD τ).loc main_arg2)) R j (t.val % 4 * 1024 + n))]
  refine Finset.sum_congr rfl fun k _ => ?_
  have hk := k.isLt
  have hlt : t.val % 4 * 1024 + k.val < 4096 := by omega
  rw [blk0 m c t k r ⟨t.val % 4 * 1024 + k.val, hlt⟩ R rfl hR, blk1 m c t k j ⟨t.val % 4 * 1024 + k.val, hlt⟩ j rfl (by omega), V_v0, V_main_arg0]
  unfold term
  rw [dif_pos hlt]
  rfl

/-- The accumulator after point `n`: the part of the sum its four points have covered. -/
theorem acc_eq (c : Dev nD) (r : Fin 1408) (j : Fin 1024) (R : Fin 2816) : ∀ (n : ℕ) (h : n < cfg0.N), R.val = (n / 4) * 1408 + r.val →
    ((outsAt0 m c n h).2 (ix2 r j) : EReal) = ∑ k ∈ Finset.range (n % 4 * 1024 + 1024), term (m ((c : Thread nD τ).loc main_arg0)) (m ((c : Thread nD τ).loc main_arg2)) R j k := by
  have hz : ((k0_pay1 (F := Ideal) : Vec Ideal S1408x1024 .f32) (ix2 r j) : EReal) = 0 := by pointwise [k0_pay1]
  intro n
  induction n using Nat.strong_induction_on with
  | _ n ih =>
    intro h hR
    have e : outsAt0 m c n h = outsAt0 m c (⟨n, h⟩ : Fin cfg0.N).val (⟨n, h⟩ : Fin cfg0.N).isLt := rfl
    rw [Finset.sum_range_add, ← stretch m c ⟨n, h⟩ r j R hR]
    by_cases h0 : n % 4 = 0
    · rw [e, outsAt0_A m c ⟨n, h⟩ h0 (by dsimp only; omega)]
      dsimp only
      rw [sout_A, step_at, hz, h0]
      simp
    · have hp : ((outsAt0 m c (n - 1) (Nat.lt_of_le_of_lt (Nat.sub_le _ _) h)).2 (ix2 r j) : EReal) = ∑ k ∈ Finset.range (n % 4 * 1024), term (m ((c : Thread nD τ).loc main_arg0)) (m ((c : Thread nD τ).loc main_arg2)) R j k := by
        rw [ih (n - 1) (by omega) _ (by rw [hR]; congr 2; omega)]
        congr 2; omega
      by_cases h1 : n % 4 = 3
      · rw [e, outsAt0_C m c ⟨n, h⟩ h0 h1]
        dsimp only
        rw [sout_C, step_at, hp]
      · rw [e, outsAt0_B m c ⟨n, h⟩ h0 h1]
        dsimp only
        rw [sout_B, step_at, hp]

/-- The output's block at the last point of four. -/
theorem point2 (c : Dev nD) (t : Fin cfg0.N) (r : Fin 1408) (j : Fin 1024) (R : Fin 2816) (J : Fin 1024) (h1 : t.val % 4 = 3)
    (hR : R.val = (t.val / 4) * 1408 + r.val) (hJ : J.val = 0 * 1024 + j.val) :
    (outsAt0 m c t.val t.isLt).1 (ix2 r j) = G (m ((c : Thread nD τ).loc main_arg0)) (m ((c : Thread nD τ).loc main_arg2)) (ix2 R J) := by
  obtain rfl : J = j := Fin.ext (by omega)
  have h0 : ¬t.val % 4 = 0 := by omega
  have e := acc_eq m c r J R t.val t.isLt hR
  rw [outsAt0_C m c t h0 h1] at e ⊢
  dsimp only at e ⊢
  rw [sout_C] at e
  rw [out_C]
  rw [h1] at e
  exact e

/-- What a point writes back to the result is its block. -/
theorem flushed2_eq (c : Dev nD) (t : Fin cfg0.N) (hf : (cfg0.win 2).flush t = true) :
    (dats m 0 c).flushed 2 t = ((cfg0.win 2).blk t).view.read (Elt Ideal) (G (m ((c : Thread nD τ).loc main_arg0)) (m ((c : Thread nD τ).loc main_arg2))) := by
  rw [Value.flushed2]
  obtain ⟨-, -, -, -, e0, e1⟩ := idx_all t
  funext y
  have ht : t.val < grid0.N := t.isLt
  rw [N_0] at ht
  show (outsAt0 m c t.val t.isLt).1 ((cfg0.win 2).xinj (grid0.coords t) y) = G (m ((c : Thread nD τ).loc main_arg0)) (m ((c : Thread nD τ).loc main_arg2)) (((cfg0.win 2).blk t).view.emb y)
  rw [eq_ix2 (n0 := 1408) (n1 := 1024) ((cfg0.win 2).xinj (grid0.coords t) y), eq_ix2 (n0 := 2816) (n1 := 1024) (((cfg0.win 2).blk t).view.emb y)]
  exact point2 m c t _ _ _ _ ((flush0_2 t).mp hf) (by show win0_2.index t (0 : Fin 2) * 1408 + 1 * (y 0).val = (t.val / 4) * 1408 + (y 0).val; rw [e0]; omega) (by show win0_2.index t (1 : Fin 2) * 1024 + 1 * (y 1).val = (0) * 1024 + (y 1).val; rw [e1]; omega)

/-- Every index of the result is in some point's block. -/
theorem cover2 (i : S2816x1024.Idx) : ∃ t : Fin cfg0.N, (cfg0.win 2).flush t = true ∧ i ∈ ((cfg0.win 2).blk t).view.set := by
  have hi0 : (i 0).val < 2816 := (i 0).isLt
  have hi1 : (i 1).val < 1024 := (i 1).isLt
  let t : Fin cfg0.N := ⟨4 * ((i 0).val / 1408) + 3, by show _ < grid0.N; rw [N_0]; omega⟩
  have htv : t.val = 4 * ((i 0).val / 1408) + 3 := rfl
  obtain ⟨-, -, -, -, e0, e1⟩ := idx_all t
  refine ⟨t, (flush0_2 t).mpr (by rw [htv]; omega), ?_⟩
  show i ∈ ((View.whole main_v1).slice (win0_2.rect t)).set
  rw [View.set_slice_whole, Rect.mem_set_unit]
  intro a
  match a with
  | ⟨0, _⟩ => show win0_2.index t (0 : Fin 2) * 1408 ≤ (i 0).val ∧ (i 0).val < win0_2.index t (0 : Fin 2) * 1408 + 1408; rw [e0]; try rw [htv]
              omega
  | ⟨1, _⟩ => show win0_2.index t (1 : Fin 2) * 1024 ≤ (i 1).val ∧ (i 1).val < win0_2.index t (1 : Fin 2) * 1024 + 1024; rw [e1]; try rw [htv]
              omega

/-- The run, read: the result, the arguments unchanged. -/
theorem run : θ_run defs (onTc (τ := τ) (main (F := Ideal))) ⟨m, fun _ => 0, ρ⟩ fun r => ∀ c : Dev nD,
      r.2.mem ((c.tc : Thread nD τ).loc main_v1) = G (m ((c : Thread nD τ).loc main_arg0)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans ((dats m 0 c).arrAt_eq_of_cover 2 _ (fun t hf => flushed2_eq m c t hf) cover2),
      (h c).2⟩)
    (Value.run_blocks m ρ)

end Cert.Kernel10Ideal.Tn

namespace Cert.Reference10Ideal.Tn

open Cert.Reference10Ideal Cert.Reference10Ideal.Facts₀ Idealize.ShloMosaic Idealize.ShloMosaic.TcCoe Idealize.SL.Sem
open scoped BigOperators

theorem ref (a0 : FVec Ideal S4096x2816 .bf16) (a2 : FVec Ideal S4096x1024 .f32) :
    truncf (F := Ideal) .bf16 (transpose S2816x1024 [1, 0] (Host.dotGeneral (F := Ideal) (φ₁ := .f32) (φ₂ := .f32) dot_S4096x1024_S4096x2816_S1024x2816_0_0_1_1_n_n none a2 (extf .f32 a0 bitsLt_bf16_f32)) transposes_S1024x2816_S2816x1024_1_0) bitsLt_bf16_f32 = Cert.Kernel10Ideal.Tn.G a0 a2 := by
  funext j
  idx_vars j
  show _ = ∑ n ∈ Finset.range 4096, Cert.Kernel10Ideal.Tn.term a0 a2 j0 j1 n
  rw [Finset.sum_range]
  pointwise
  refine Finset.sum_congr rfl fun k _ => ?_
  unfold Cert.Kernel10Ideal.Tn.term
  rw [dif_pos k.isLt]
  exact mul_comm _ _

end Cert.Reference10Ideal.Tn

end
-- ==== Proof.Adam.lean ====
/- One step of the optimiser, entry by entry. -/
module

public import Idealize.ShloMosaic.Lib.Pointwise
public import Idealize.ShloMosaic.PureOps.Ideal

@[expose] public section

noncomputable section

namespace Cert.Adam

open Idealize.ShloMosaic
open scoped BigOperators

/-- The new first moment. -/
def nm (g a : EReal) : EReal := Ideal.ofBits .f32 0x3F666666#32 * a + Ideal.ofBits .f32 0x3DCCCCCD#32 * g

/-- The new second moment. -/
def nv (g a : EReal) : EReal := Ideal.ofBits .f32 0x3F7FBE77#32 * a + Ideal.ofBits .f32 0x3A83126F#32 * (g * g)

/-- The change of the weight. -/
def delta (w g a b : EReal) : EReal :=
  Ideal.ofBits .f32 0xBA83126F#32 * (Ideal.div (Ideal.div (nm g a) (Ideal.ofBits .f32 0x3F26BD02#32))
      (Ideal.sqrt (Ideal.div (nv g b) (Ideal.ofBits .f32 0x3C231ACC#32)) + Ideal.ofBits .f32 0x322BCC77#32)
    + Ideal.ofBits .f32 0x3C23D70A#32 * w)

end Cert.Adam

end
-- ==== Proof.OptIn.lean ====
/- The optimiser's step of the weight of the input projection: the sum of the devices' parts of its gradient, and the step. -/
module

public import proofs.«01_k».proof.Proof.Gen.Kernel11Ideal.Value
public import proofs.«01_k».proof.Proof.Gen.Reference11Ideal.Run
public import Idealize.ShloMosaic.Lib.Pointwise
public import Idealize.ShloMosaic.Lib.Pipeline.Value
public import proofs.«01_k».proof.Proof.Adam

@[expose] public section

set_option maxRecDepth 16384

noncomputable section

namespace Cert.Kernel11Ideal.Opt

open Cert.Kernel11Ideal Cert.Kernel11Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- The sum of the devices' parts. -/
def gs (p : FVec Ideal S8x448x1024 .bf16) (r : Fin 448) (j : Fin 1024) : EReal := ∑ d : Fin 8, (p (ix3 d r j) : EReal)

/-- The gradient, the change, and the new moments. -/
def G4 (p : FVec Ideal S8x448x1024 .bf16) : FVec Ideal S448x1024 .f32 := fun i => gs p (i 0) (i 1)

def G5 (p : FVec Ideal S8x448x1024 .bf16) (w a b : FVec Ideal S1024x448 .f32) : FVec Ideal S448x1024 .f32 := fun i =>
  Cert.Adam.delta (w (ix2 (i 1) (i 0))) (gs p (i 0) (i 1)) (a (ix2 (i 1) (i 0))) (b (ix2 (i 1) (i 0)))

def G6 (p : FVec Ideal S8x448x1024 .bf16) (a : FVec Ideal S1024x448 .f32) : FVec Ideal S448x1024 .f32 := fun i => Cert.Adam.nm (gs p (i 0) (i 1)) (a (ix2 (i 1) (i 0)))

def G7 (p : FVec Ideal S8x448x1024 .bf16) (b : FVec Ideal S1024x448 .f32) : FVec Ideal S448x1024 .f32 := fun i => Cert.Adam.nv (gs p (i 0) (i 1)) (b (ix2 (i 1) (i 0)))

theorem V_v0 (c : Dev nD) : (V m c main_v0 : FVec Ideal S448x1024 .f32) = transpose S448x1024 [1, 0] ((m ((c : Thread nD τ).loc main_arg1)) : FVec Ideal S1024x448 .f32) transposes_S1024x448_S448x1024_1_0 := by
  dsimp only [V, hostOps0]
  after_results

theorem V_v1 (c : Dev nD) : (V m c main_v1 : FVec Ideal S448x1024 .f32) = transpose S448x1024 [1, 0] ((m ((c : Thread nD τ).loc main_arg2)) : FVec Ideal S1024x448 .f32) transposes_S1024x448_S448x1024_1_0 := by
  dsimp only [V, hostOps0]
  after_results

theorem V_v2 (c : Dev nD) : (V m c main_v2 : FVec Ideal S448x1024 .f32) = transpose S448x1024 [1, 0] ((m ((c : Thread nD τ).loc main_arg3)) : FVec Ideal S1024x448 .f32) transposes_S1024x448_S448x1024_1_0 := by
  dsimp only [V, hostOps0]
  after_results

/-- The index maps, over the grid. -/
theorem idx_all : ∀ t : Fin cfg0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The block of the parts at a point. -/
theorem blk0 (c : Dev nD) (t : Fin cfg0.N) (d : Fin 8) (r : Fin 224) (k : Fin 1024) (R : Fin 448) (hR : R.val = t.val * 224 + r.val) :
    (iblk m c 0 t : Vec Ideal S8x224x1024 .bf16) (ix3 d r k) = ((m ((c : Thread nD τ).loc main_arg0)) : Vec Ideal S8x448x1024 .bf16) (ix3 d R k) := by
  obtain ⟨e0, e1, e2, -⟩ := idx_all t
  rw [← V_main_arg0 m c]
  show (V m c main_arg0 : Vec Ideal S8x448x1024 .bf16) (((cfg0.win 0).blk t).view.emb (ix3 d r k)) = _
  refine congrArg _ (funext fun a => Fin.ext ?_)
  match a with
  | ⟨0, _⟩ => show win0_0.index t (0 : Fin 3) * 8 + 1 * d.val = d.val; rw [e0]; omega
  | ⟨1, _⟩ => show win0_0.index t (1 : Fin 3) * 224 + 1 * r.val = R.val; rw [e1, hR]; omega
  | ⟨2, _⟩ => show win0_0.index t (2 : Fin 3) * 1024 + 1 * k.val = k.val; rw [e2]; omega

theorem blk1 (c : Dev nD) (t : Fin cfg0.N) (r : Fin 224) (k : Fin 1024) (R : Fin 448) (hR : R.val = t.val * 224 + r.val) :
    (iblk m c 1 t : Vec Ideal S224x1024 .f32) (ix2 r k) = ((m ((c : Thread nD τ).loc main_arg1)) : Vec Ideal S1024x448 .f32) (ix2 k R) := by
  obtain ⟨-, -, -, e0, e1, -⟩ := idx_all t
  have h : (iblk m c 1 t : Vec Ideal S224x1024 .f32) (ix2 r k) = (V m c main_v0 : Vec Ideal S448x1024 .f32) (ix2 R k) := by
    show (V m c main_v0 : Vec Ideal S448x1024 .f32) (((cfg0.win 1).blk t).view.emb (ix2 r k)) = _
    refine congrArg _ (funext fun a => Fin.ext ?_)
    match a with
    | ⟨0, _⟩ => show win0_1.index t (0 : Fin 2) * 224 + 1 * r.val = R.val; rw [e0, hR]; omega
    | ⟨1, _⟩ => show win0_1.index t (1 : Fin 2) * 1024 + 1 * k.val = k.val; rw [e1]; omega
  rw [h, V_v0]
  pointwise

theorem blk2 (c : Dev nD) (t : Fin cfg0.N) (r : Fin 224) (k : Fin 1024) (R : Fin 448) (hR : R.val = t.val * 224 + r.val) :
    (iblk m c 2 t : Vec Ideal S224x1024 .f32) (ix2 r k) = ((m ((c : Thread nD τ).loc main_arg2)) : Vec Ideal S1024x448 .f32) (ix2 k R) := by
  obtain ⟨-, -, -, -, -, e0, e1, -⟩ := idx_all t
  have h : (iblk m c 2 t : Vec Ideal S224x1024 .f32) (ix2 r k) = (V m c main_v1 : Vec Ideal S448x1024 .f32) (ix2 R k) := by
    show (V m c main_v1 : Vec Ideal S448x1024 .f32) (((cfg0.win 2).blk t).view.emb (ix2 r k)) = _
    refine congrArg _ (funext fun a => Fin.ext ?_)
    match a with
    | ⟨0, _⟩ => show win0_2.index t (0 : Fin 2) * 224 + 1 * r.val = R.val; rw [e0, hR]; omega
    | ⟨1, _⟩ => show win0_2.index t (1 : Fin 2) * 1024 + 1 * k.val = k.val; rw [e1]; omega
  rw [h, V_v1]
  pointwise

theorem blk3 (c : Dev nD) (t : Fin cfg0.N) (r : Fin 224) (k : Fin 1024) (R : Fin 448) (hR : R.val = t.val * 224 + r.val) :
    (iblk m c 3 t : Vec Ideal S224x1024 .f32) (ix2 r k) = ((m ((c : Thread nD τ).loc main_arg3)) : Vec Ideal S1024x448 .f32) (ix2 k R) := by
  obtain ⟨-, -, -, -, -, -, -, e0, e1, -⟩ := idx_all t
  have h : (iblk m c 3 t : Vec Ideal S224x1024 .f32) (ix2 r k) = (V m c main_v2 : Vec Ideal S448x1024 .f32) (ix2 R k) := by
    show (V m c main_v2 : Vec Ideal S448x1024 .f32) (((cfg0.win 3).blk t).view.emb (ix2 r k)) = _
    refine congrArg _ (funext fun a => Fin.ext ?_)
    match a with
    | ⟨0, _⟩ => show win0_3.index t (0 : Fin 2) * 224 + 1 * r.val = R.val; rw [e0, hR]; omega
    | ⟨1, _⟩ => show win0_3.index t (1 : Fin 2) * 1024 + 1 * k.val = k.val; rw [e1]; omega
  rw [h, V_v2]
  pointwise

/-- The sum in the body. -/
theorem pay6 (x0 : Vec Ideal S8x224x1024 .bf16) (x1 x2 x3 : Vec Ideal S224x1024 .f32) (r : Fin 224) (j : Fin 1024) : k0_pay6 x0 x1 x2 x3 (ix2 r j) = ∑ d : Fin 8, (x0 (ix3 d r j) : EReal) := by
  rw [Fin.sum_univ_eight]
  pointwise [k0_pay6, k0_pay4]

theorem out4 (x0 : Vec Ideal S8x224x1024 .bf16) (x1 x2 x3 : Vec Ideal S224x1024 .f32) (r : Fin 224) (j : Fin 1024) : out0_4 x0 x1 x2 x3 (ix2 r j) = k0_pay6 x0 x1 x2 x3 (ix2 r j) := by
  unfold out0_4
  rw [View.canon_unit_zero hz2]

theorem out5 (x0 : Vec Ideal S8x224x1024 .bf16) (x1 x2 x3 : Vec Ideal S224x1024 .f32) (r : Fin 224) (j : Fin 1024) : out0_5 x0 x1 x2 x3 (ix2 r j) = Cert.Adam.delta (x1 (ix2 r j)) (k0_pay6 x0 x1 x2 x3 (ix2 r j)) (x2 (ix2 r j)) (x3 (ix2 r j)) := by
  unfold out0_5
  rw [View.canon_unit_zero hz2, View.ld_unit_zero hz2, View.ld_unit_zero hz2, View.ld_unit_zero hz2]
  generalize k0_pay6 x0 x1 x2 x3 = s
  pointwise [k0_pay3, k0_pay5, k0_pay2, k0_pay1]
  rfl

theorem out6 (x0 : Vec Ideal S8x224x1024 .bf16) (x1 x2 x3 : Vec Ideal S224x1024 .f32) (r : Fin 224) (j : Fin 1024) : out0_6 x0 x1 x2 x3 (ix2 r j) = Cert.Adam.nm (k0_pay6 x0 x1 x2 x3 (ix2 r j)) (x2 (ix2 r j)) := by
  unfold out0_6
  rw [View.canon_unit_zero hz2, View.ld_unit_zero hz2]
  generalize k0_pay6 x0 x1 x2 x3 = s
  pointwise [k0_pay1]
  rfl

theorem out7 (x0 : Vec Ideal S8x224x1024 .bf16) (x1 x2 x3 : Vec Ideal S224x1024 .f32) (r : Fin 224) (j : Fin 1024) : out0_7 x0 x1 x2 x3 (ix2 r j) = Cert.Adam.nv (k0_pay6 x0 x1 x2 x3 (ix2 r j)) (x3 (ix2 r j)) := by
  unfold out0_7
  rw [View.canon_unit_zero hz2, View.ld_unit_zero hz2]
  generalize k0_pay6 x0 x1 x2 x3 = s
  pointwise [k0_pay2]
  rfl

theorem sum_blk (c : Dev nD) (t : Fin cfg0.N) (x1 x2 x3 : Vec Ideal S224x1024 .f32) (r : Fin 224) (j : Fin 1024) (R : Fin 448) (hR : R.val = t.val * 224 + r.val) :
    k0_pay6 (iblk m c 0 t) x1 x2 x3 (ix2 r j) = gs (m ((c : Thread nD τ).loc main_arg0)) R j :=
  (pay6 _ _ _ _ r j).trans (Finset.sum_congr rfl fun d _ => blk0 m c t d r j R hR)

theorem point4 (c : Dev nD) (t : Fin cfg0.N) (r : Fin 224) (j : Fin 1024) (R : Fin 448) (J : Fin 1024)
    (hR : R.val = t.val * 224 + r.val) (hJ : J.val = 0 * 1024 + j.val) :
    out0_4 (iblk m c 0 t) (iblk m c 1 t) (iblk m c 2 t) (iblk m c 3 t) (ix2 r j) = G4 (m ((c : Thread nD τ).loc main_arg0)) (ix2 R J) := by
  obtain rfl : J = j := Fin.ext (by omega)
  rw [out4, sum_blk m c t (iblk m c 1 t) (iblk m c 2 t) (iblk m c 3 t) r J R hR]
  rfl

/-- What a point writes back to result 0 is its block. -/
theorem flushed4_eq (c : Dev nD) (t : Fin cfg0.N) (hf : (cfg0.win 4).flush t = true) :
    (dats m 0 c).flushed 4 t = ((cfg0.win 4).blk t).view.read (Elt Ideal) (G4 (m ((c : Thread nD τ).loc main_arg0))) := by
  rw [Value.flushed4]
  obtain ⟨-, -, -, -, -, -, -, -, -, e0, e1, -⟩ := idx_all t
  funext y
  have ht : t.val < grid0.N := t.isLt
  rw [N_0] at ht
  show out0_4 (iblk m c 0 t) (iblk m c 1 t) (iblk m c 2 t) (iblk m c 3 t) ((cfg0.win 4).xinj (grid0.coords t) y) = G4 (m ((c : Thread nD τ).loc main_arg0)) (((cfg0.win 4).blk t).view.emb y)
  rw [eq_ix2 (n0 := 224) (n1 := 1024) ((cfg0.win 4).xinj (grid0.coords t) y), eq_ix2 (n0 := 448) (n1 := 1024) (((cfg0.win 4).blk t).view.emb y)]
  exact point4 m c t _ _ _ _ (by show win0_4.index t (0 : Fin 2) * 224 + 1 * (y 0).val = (t.val) * 224 + (y 0).val; rw [e0]; omega) (by show win0_4.index t (1 : Fin 2) * 1024 + 1 * (y 1).val = (0) * 1024 + (y 1).val; rw [e1]; omega)

/-- Every index of result 0 is in some point's block. -/
theorem cover4 (i : S448x1024.Idx) : ∃ t : Fin cfg0.N, (cfg0.win 4).flush t = true ∧ i ∈ ((cfg0.win 4).blk t).view.set := by
  have hi0 : (i 0).val < 448 := (i 0).isLt
  have hi1 : (i 1).val < 1024 := (i 1).isLt
  let t : Fin cfg0.N := ⟨(i 0).val / 224, by show _ < grid0.N; rw [N_0]; omega⟩
  have htv : t.val = (i 0).val / 224 := rfl
  obtain ⟨-, -, -, -, -, -, -, -, -, e0, e1, -⟩ := idx_all t
  refine ⟨t, flush0_4 t, ?_⟩
  show i ∈ ((View.whole main_v3_0).slice (win0_4.rect t)).set
  rw [View.set_slice_whole, Rect.mem_set_unit]
  intro a
  match a with
  | ⟨0, _⟩ => show win0_4.index t (0 : Fin 2) * 224 ≤ (i 0).val ∧ (i 0).val < win0_4.index t (0 : Fin 2) * 224 + 224; rw [e0]; try rw [htv]
              omega
  | ⟨1, _⟩ => show win0_4.index t (1 : Fin 2) * 1024 ≤ (i 1).val ∧ (i 1).val < win0_4.index t (1 : Fin 2) * 1024 + 1024; rw [e1]; try rw [htv]
              omega

theorem point5 (c : Dev nD) (t : Fin cfg0.N) (r : Fin 224) (j : Fin 1024) (R : Fin 448) (J : Fin 1024)
    (hR : R.val = t.val * 224 + r.val) (hJ : J.val = 0 * 1024 + j.val) :
    out0_5 (iblk m c 0 t) (iblk m c 1 t) (iblk m c 2 t) (iblk m c 3 t) (ix2 r j) = G5 (m ((c : Thread nD τ).loc main_arg0)) (m ((c : Thread nD τ).loc main_arg1)) (m ((c : Thread nD τ).loc main_arg2)) (m ((c : Thread nD τ).loc main_arg3)) (ix2 R J) := by
  obtain rfl : J = j := Fin.ext (by omega)
  rw [out5, sum_blk m c t (iblk m c 1 t) (iblk m c 2 t) (iblk m c 3 t) r J R hR, blk1 m c t r J R hR, blk2 m c t r J R hR, blk3 m c t r J R hR]
  rfl

/-- What a point writes back to result 1 is its block. -/
theorem flushed5_eq (c : Dev nD) (t : Fin cfg0.N) (hf : (cfg0.win 5).flush t = true) :
    (dats m 0 c).flushed 5 t = ((cfg0.win 5).blk t).view.read (Elt Ideal) (G5 (m ((c : Thread nD τ).loc main_arg0)) (m ((c : Thread nD τ).loc main_arg1)) (m ((c : Thread nD τ).loc main_arg2)) (m ((c : Thread nD τ).loc main_arg3))) := by
  rw [Value.flushed5]
  obtain ⟨-, -, -, -, -, -, -, -, -, -, -, e0, e1, -⟩ := idx_all t
  funext y
  have ht : t.val < grid0.N := t.isLt
  rw [N_0] at ht
  show out0_5 (iblk m c 0 t) (iblk m c 1 t) (iblk m c 2 t) (iblk m c 3 t) ((cfg0.win 5).xinj (grid0.coords t) y) = G5 (m ((c : Thread nD τ).loc main_arg0)) (m ((c : Thread nD τ).loc main_arg1)) (m ((c : Thread nD τ).loc main_arg2)) (m ((c : Thread nD τ).loc main_arg3)) (((cfg0.win 5).blk t).view.emb y)
  rw [eq_ix2 (n0 := 224) (n1 := 1024) ((cfg0.win 5).xinj (grid0.coords t) y), eq_ix2 (n0 := 448) (n1 := 1024) (((cfg0.win 5).blk t).view.emb y)]
  exact point5 m c t _ _ _ _ (by show win0_5.index t (0 : Fin 2) * 224 + 1 * (y 0).val = (t.val) * 224 + (y 0).val; rw [e0]; omega) (by show win0_5.index t (1 : Fin 2) * 1024 + 1 * (y 1).val = (0) * 1024 + (y 1).val; rw [e1]; omega)

/-- Every index of result 1 is in some point's block. -/
theorem cover5 (i : S448x1024.Idx) : ∃ t : Fin cfg0.N, (cfg0.win 5).flush t = true ∧ i ∈ ((cfg0.win 5).blk t).view.set := by
  have hi0 : (i 0).val < 448 := (i 0).isLt
  have hi1 : (i 1).val < 1024 := (i 1).isLt
  let t : Fin cfg0.N := ⟨(i 0).val / 224, by show _ < grid0.N; rw [N_0]; omega⟩
  have htv : t.val = (i 0).val / 224 := rfl
  obtain ⟨-, -, -, -, -, -, -, -, -, -, -, e0, e1, -⟩ := idx_all t
  refine ⟨t, flush0_5 t, ?_⟩
  show i ∈ ((View.whole main_v3_1).slice (win0_5.rect t)).set
  rw [View.set_slice_whole, Rect.mem_set_unit]
  intro a
  match a with
  | ⟨0, _⟩ => show win0_5.index t (0 : Fin 2) * 224 ≤ (i 0).val ∧ (i 0).val < win0_5.index t (0 : Fin 2) * 224 + 224; rw [e0]; try rw [htv]
              omega
  | ⟨1, _⟩ => show win0_5.index t (1 : Fin 2) * 1024 ≤ (i 1).val ∧ (i 1).val < win0_5.index t (1 : Fin 2) * 1024 + 1024; rw [e1]; try rw [htv]
              omega

theorem point6 (c : Dev nD) (t : Fin cfg0.N) (r : Fin 224) (j : Fin 1024) (R : Fin 448) (J : Fin 1024)
    (hR : R.val = t.val * 224 + r.val) (hJ : J.val = 0 * 1024 + j.val) :
    out0_6 (iblk m c 0 t) (iblk m c 1 t) (iblk m c 2 t) (iblk m c 3 t) (ix2 r j) = G6 (m ((c : Thread nD τ).loc main_arg0)) (m ((c : Thread nD τ).loc main_arg2)) (ix2 R J) := by
  obtain rfl : J = j := Fin.ext (by omega)
  rw [out6, sum_blk m c t (iblk m c 1 t) (iblk m c 2 t) (iblk m c 3 t) r J R hR, blk2 m c t r J R hR]
  rfl

/-- What a point writes back to result 2 is its block. -/
theorem flushed6_eq (c : Dev nD) (t : Fin cfg0.N) (hf : (cfg0.win 6).flush t = true) :
    (dats m 0 c).flushed 6 t = ((cfg0.win 6).blk t).view.read (Elt Ideal) (G6 (m ((c : Thread nD τ).loc main_arg0)) (m ((c : Thread nD τ).loc main_arg2))) := by
  rw [Value.flushed6]
  obtain ⟨-, -, -, -, -, -, -, -, -, -, -, -, -, e0, e1, -⟩ := idx_all t
  funext y
  have ht : t.val < grid0.N := t.isLt
  rw [N_0] at ht
  show out0_6 (iblk m c 0 t) (iblk m c 1 t) (iblk m c 2 t) (iblk m c 3 t) ((cfg0.win 6).xinj (grid0.coords t) y) = G6 (m ((c : Thread nD τ).loc main_arg0)) (m ((c : Thread nD τ).loc main_arg2)) (((cfg0.win 6).blk t).view.emb y)
  rw [eq_ix2 (n0 := 224) (n1 := 1024) ((cfg0.win 6).xinj (grid0.coords t) y), eq_ix2 (n0 := 448) (n1 := 1024) (((cfg0.win 6).blk t).view.emb y)]
  exact point6 m c t _ _ _ _ (by show win0_6.index t (0 : Fin 2) * 224 + 1 * (y 0).val = (t.val) * 224 + (y 0).val; rw [e0]; omega) (by show win0_6.index t (1 : Fin 2) * 1024 + 1 * (y 1).val = (0) * 1024 + (y 1).val; rw [e1]; omega)

/-- Every index of result 2 is in some point's block. -/
theorem cover6 (i : S448x1024.Idx) : ∃ t : Fin cfg0.N, (cfg0.win 6).flush t = true ∧ i ∈ ((cfg0.win 6).blk t).view.set := by
  have hi0 : (i 0).val < 448 := (i 0).isLt
  have hi1 : (i 1).val < 1024 := (i 1).isLt
  let t : Fin cfg0.N := ⟨(i 0).val / 224, by show _ < grid0.N; rw [N_0]; omega⟩
  have htv : t.val = (i 0).val / 224 := rfl
  obtain ⟨-, -, -, -, -, -, -, -, -, -, -, -, -, e0, e1, -⟩ := idx_all t
  refine ⟨t, flush0_6 t, ?_⟩
  show i ∈ ((View.whole main_v3_2).slice (win0_6.rect t)).set
  rw [View.set_slice_whole, Rect.mem_set_unit]
  intro a
  match a with
  | ⟨0, _⟩ => show win0_6.index t (0 : Fin 2) * 224 ≤ (i 0).val ∧ (i 0).val < win0_6.index t (0 : Fin 2) * 224 + 224; rw [e0]; try rw [htv]
              omega
  | ⟨1, _⟩ => show win0_6.index t (1 : Fin 2) * 1024 ≤ (i 1).val ∧ (i 1).val < win0_6.index t (1 : Fin 2) * 1024 + 1024; rw [e1]; try rw [htv]
              omega

theorem point7 (c : Dev nD) (t : Fin cfg0.N) (r : Fin 224) (j : Fin 1024) (R : Fin 448) (J : Fin 1024)
    (hR : R.val = t.val * 224 + r.val) (hJ : J.val = 0 * 1024 + j.val) :
    out0_7 (iblk m c 0 t) (iblk m c 1 t) (iblk m c 2 t) (iblk m c 3 t) (ix2 r j) = G7 (m ((c : Thread nD τ).loc main_arg0)) (m ((c : Thread nD τ).loc main_arg3)) (ix2 R J) := by
  obtain rfl : J = j := Fin.ext (by omega)
  rw [out7, sum_blk m c t (iblk m c 1 t) (iblk m c 2 t) (iblk m c 3 t) r J R hR, blk3 m c t r J R hR]
  rfl

/-- What a point writes back to result 3 is its block. -/
theorem flushed7_eq (c : Dev nD) (t : Fin cfg0.N) (hf : (cfg0.win 7).flush t = true) :
    (dats m 0 c).flushed 7 t = ((cfg0.win 7).blk t).view.read (Elt Ideal) (G7 (m ((c : Thread nD τ).loc main_arg0)) (m ((c : Thread nD τ).loc main_arg3))) := by
  rw [Value.flushed7]
  obtain ⟨-, -, -, -, -, -, -, -, -, -, -, -, -, -, -, e0, e1⟩ := idx_all t
  funext y
  have ht : t.val < grid0.N := t.isLt
  rw [N_0] at ht
  show out0_7 (iblk m c 0 t) (iblk m c 1 t) (iblk m c 2 t) (iblk m c 3 t) ((cfg0.win 7).xinj (grid0.coords t) y) = G7 (m ((c : Thread nD τ).loc main_arg0)) (m ((c : Thread nD τ).loc main_arg3)) (((cfg0.win 7).blk t).view.emb y)
  rw [eq_ix2 (n0 := 224) (n1 := 1024) ((cfg0.win 7).xinj (grid0.coords t) y), eq_ix2 (n0 := 448) (n1 := 1024) (((cfg0.win 7).blk t).view.emb y)]
  exact point7 m c t _ _ _ _ (by show win0_7.index t (0 : Fin 2) * 224 + 1 * (y 0).val = (t.val) * 224 + (y 0).val; rw [e0]; omega) (by show win0_7.index t (1 : Fin 2) * 1024 + 1 * (y 1).val = (0) * 1024 + (y 1).val; rw [e1]; omega)

/-- Every index of result 3 is in some point's block. -/
theorem cover7 (i : S448x1024.Idx) : ∃ t : Fin cfg0.N, (cfg0.win 7).flush t = true ∧ i ∈ ((cfg0.win 7).blk t).view.set := by
  have hi0 : (i 0).val < 448 := (i 0).isLt
  have hi1 : (i 1).val < 1024 := (i 1).isLt
  let t : Fin cfg0.N := ⟨(i 0).val / 224, by show _ < grid0.N; rw [N_0]; omega⟩
  have htv : t.val = (i 0).val / 224 := rfl
  obtain ⟨-, -, -, -, -, -, -, -, -, -, -, -, -, -, -, e0, e1⟩ := idx_all t
  refine ⟨t, flush0_7 t, ?_⟩
  show i ∈ ((View.whole main_v3_3).slice (win0_7.rect t)).set
  rw [View.set_slice_whole, Rect.mem_set_unit]
  intro a
  match a with
  | ⟨0, _⟩ => show win0_7.index t (0 : Fin 2) * 224 ≤ (i 0).val ∧ (i 0).val < win0_7.index t (0 : Fin 2) * 224 + 224; rw [e0]; try rw [htv]
              omega
  | ⟨1, _⟩ => show win0_7.index t (1 : Fin 2) * 1024 ≤ (i 1).val ∧ (i 1).val < win0_7.index t (1 : Fin 2) * 1024 + 1024; rw [e1]; try rw [htv]
              omega

/-- The run, read: the results, the arguments unchanged. -/
theorem run : θ_run defs (onTc (τ := τ) (main (F := Ideal))) ⟨m, fun _ => 0, ρ⟩ fun r => ∀ c : Dev nD,
      r.2.mem ((c.tc : Thread nD τ).loc main_v3_0) = G4 (m ((c : Thread nD τ).loc main_arg0))
      ∧ r.2.mem ((c.tc : Thread nD τ).loc main_v3_1) = G5 (m ((c : Thread nD τ).loc main_arg0)) (m ((c : Thread nD τ).loc main_arg1)) (m ((c : Thread nD τ).loc main_arg2)) (m ((c : Thread nD τ).loc main_arg3))
      ∧ r.2.mem ((c.tc : Thread nD τ).loc main_v3_2) = G6 (m ((c : Thread nD τ).loc main_arg0)) (m ((c : Thread nD τ).loc main_arg2))
      ∧ r.2.mem ((c.tc : Thread nD τ).loc main_v3_3) = G7 (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((dats m 0 c).arrAt_eq_of_cover 4 _ (fun t hf => flushed4_eq m c t hf) cover4),
      (h c).2.1.trans ((dats m 0 c).arrAt_eq_of_cover 5 _ (fun t hf => flushed5_eq m c t hf) cover5),
      (h c).2.2.1.trans ((dats m 0 c).arrAt_eq_of_cover 6 _ (fun t hf => flushed6_eq m c t hf) cover6),
      (h c).2.2.2.1.trans ((dats m 0 c).arrAt_eq_of_cover 7 _ (fun t hf => flushed7_eq m c t hf) cover7),
      (h c).2.2.2.2⟩)
    (Value.run_blocks m ρ)

end Cert.Kernel11Ideal.Opt

namespace Cert.Reference11Ideal.Opt

open Cert.Reference11Ideal Cert.Reference11Ideal.Facts₀ Idealize.ShloMosaic Idealize.ShloMosaic.TcCoe Idealize.SL.Sem
open scoped BigOperators

variable (a0 : FVec Ideal S8x448x1024 .bf16) (a1 a2 a3 : FVec Ideal S1024x448 .f32)

/-- The sum of the parts. -/
abbrev sm : FVec Ideal S448x1024 .f32 := Host.reduceAdd (extf (F := Ideal) .f32 a0 bitsLt_bf16_f32) (constant S_ .f32 0x00000000#32) reducesTo_S8x448x1024_S448x1024_d0 h_S_

theorem sm_at (r : Fin 448) (j : Fin 1024) : sm a0 (ix2 r j) = Cert.Kernel11Ideal.Opt.gs a0 r j := by
  unfold Cert.Kernel11Ideal.Opt.gs
  pointwise [sm]

theorem ref4 : transpose S448x1024 [1, 0] (transpose S1024x448 [1, 0] (sm a0) transposes_S448x1024_S1024x448_1_0) transposes_S1024x448_S448x1024_1_0 = Cert.Kernel11Ideal.Opt.G4 a0 := by
  have h := sm_at a0
  generalize sm a0 = s at h ⊢
  funext j
  idx_vars j
  show _ = Cert.Kernel11Ideal.Opt.gs a0 j0 j1
  rw [← h]
  pointwise

theorem ref5 : transpose S448x1024 [1, 0] (mulf (broadcastInDim S1024x448 ![] bcast_S_S1024x448 (constant S_ .f32 0xBA83126F#32)) (addf (Host.divf (Host.divf (addf (mulf (broadcastInDim S1024x448 ![] bcast_S_S1024x448 (constant S_ .f32 0x3F666666#32)) a2) (mulf (broadcastInDim S1024x448 ![] bcast_S_S1024x448 (constant S_ .f32 0x3DCCCCCD#32)) (transpose S1024x448 [1, 0] (sm a0) transposes_S448x1024_S1024x448_1_0))) (broadcastInDim S1024x448 ![] bcast_S_S1024x448 (constant S_ .f32 0x3F26BD02#32))) (addf (Host.sqrt (Host.divf (addf (mulf (broadcastInDim S1024x448 ![] bcast_S_S1024x448 (constant S_ .f32 0x3F7FBE77#32)) a3) (mulf (broadcastInDim S1024x448 ![] bcast_S_S1024x448 (constant S_ .f32 0x3A83126F#32)) (mulf (transpose S1024x448 [1, 0] (sm a0) transposes_S448x1024_S1024x448_1_0) (transpose S1024x448 [1, 0] (sm a0) transposes_S448x1024_S1024x448_1_0)))) (broadcastInDim S1024x448 ![] bcast_S_S1024x448 (constant S_ .f32 0x3C231ACC#32)))) (broadcastInDim S1024x448 ![] bcast_S_S1024x448 (constant S_ .f32 0x322BCC77#32)))) (mulf (broadcastInDim S1024x448 ![] bcast_S_S1024x448 (constant S_ .f32 0x3C23D70A#32)) a1))) transposes_S1024x448_S448x1024_1_0 = Cert.Kernel11Ideal.Opt.G5 a0 a1 a2 a3 := by
  have h := sm_at a0
  generalize sm a0 = s at h ⊢
  funext j
  idx_vars j
  show _ = Cert.Adam.delta (a1 (ix2 j1 j0)) (Cert.Kernel11Ideal.Opt.gs a0 j0 j1) (a2 (ix2 j1 j0)) (a3 (ix2 j1 j0))
  rw [← h]
  pointwise
  rfl

theorem ref6 : transpose S448x1024 [1, 0] (addf (mulf (broadcastInDim S1024x448 ![] bcast_S_S1024x448 (constant S_ .f32 0x3F666666#32)) a2) (mulf (broadcastInDim S1024x448 ![] bcast_S_S1024x448 (constant S_ .f32 0x3DCCCCCD#32)) (transpose S1024x448 [1, 0] (sm a0) transposes_S448x1024_S1024x448_1_0))) transposes_S1024x448_S448x1024_1_0 = Cert.Kernel11Ideal.Opt.G6 a0 a2 := by
  have h := sm_at a0
  generalize sm a0 = s at h ⊢
  funext j
  idx_vars j
  show _ = Cert.Adam.nm (Cert.Kernel11Ideal.Opt.gs a0 j0 j1) (a2 (ix2 j1 j0))
  rw [← h]
  pointwise
  rfl

theorem ref7 : transpose S448x1024 [1, 0] (addf (mulf (broadcastInDim S1024x448 ![] bcast_S_S1024x448 (constant S_ .f32 0x3F7FBE77#32)) a3) (mulf (broadcastInDim S1024x448 ![] bcast_S_S1024x448 (constant S_ .f32 0x3A83126F#32)) (mulf (transpose S1024x448 [1, 0] (sm a0) transposes_S448x1024_S1024x448_1_0) (transpose S1024x448 [1, 0] (sm a0) transposes_S448x1024_S1024x448_1_0)))) transposes_S1024x448_S448x1024_1_0 = Cert.Kernel11Ideal.Opt.G7 a0 a3 := by
  have h := sm_at a0
  generalize sm a0 = s at h ⊢
  funext j
  idx_vars j
  show _ = Cert.Adam.nv (Cert.Kernel11Ideal.Opt.gs a0 j0 j1) (a3 (ix2 j1 j0))
  rw [← h]
  pointwise
  rfl

end Cert.Reference11Ideal.Opt

end
-- ==== Proof.OptGate.lean ====
/- The optimiser's step of the weight of the gate: the sum of the devices' parts of its gradient, and the step. -/
module

public import proofs.«01_k».proof.Proof.Gen.Kernel12Ideal.Value
public import proofs.«01_k».proof.Proof.Gen.Reference12Ideal.Run
public import Idealize.ShloMosaic.Lib.Pointwise
public import Idealize.ShloMosaic.Lib.Pipeline.Value
public import proofs.«01_k».proof.Proof.Adam

@[expose] public section

set_option maxRecDepth 16384

noncomputable section

namespace Cert.Kernel12Ideal.Opt

open Cert.Kernel12Ideal Cert.Kernel12Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- The sum of the devices' parts. -/
def gs (p : FVec Ideal S8x352x1024 .bf16) (r : Fin 352) (j : Fin 1024) : EReal := ∑ d : Fin 8, (p (ix3 d r j) : EReal)

/-- The gradient, the change, and the new moments. -/
def G4 (p : FVec Ideal S8x352x1024 .bf16) : FVec Ideal S352x1024 .f32 := fun i => gs p (i 0) (i 1)

def G5 (p : FVec Ideal S8x352x1024 .bf16) (w a b : FVec Ideal S1024x352 .f32) : FVec Ideal S352x1024 .f32 := fun i =>
  Cert.Adam.delta (w (ix2 (i 1) (i 0))) (gs p (i 0) (i 1)) (a (ix2 (i 1) (i 0))) (b (ix2 (i 1) (i 0)))

def G6 (p : FVec Ideal S8x352x1024 .bf16) (a : FVec Ideal S1024x352 .f32) : FVec Ideal S352x1024 .f32 := fun i => Cert.Adam.nm (gs p (i 0) (i 1)) (a (ix2 (i 1) (i 0)))

def G7 (p : FVec Ideal S8x352x1024 .bf16) (b : FVec Ideal S1024x352 .f32) : FVec Ideal S352x1024 .f32 := fun i => Cert.Adam.nv (gs p (i 0) (i 1)) (b (ix2 (i 1) (i 0)))

theorem V_v0 (c : Dev nD) : (V m c main_v0 : FVec Ideal S352x1024 .f32) = transpose S352x1024 [1, 0] ((m ((c : Thread nD τ).loc main_arg1)) : FVec Ideal S1024x352 .f32) transposes_S1024x352_S352x1024_1_0 := by
  dsimp only [V, hostOps0]
  after_results

theorem V_v1 (c : Dev nD) : (V m c main_v1 : FVec Ideal S352x1024 .f32) = transpose S352x1024 [1, 0] ((m ((c : Thread nD τ).loc main_arg2)) : FVec Ideal S1024x352 .f32) transposes_S1024x352_S352x1024_1_0 := by
  dsimp only [V, hostOps0]
  after_results

theorem V_v2 (c : Dev nD) : (V m c main_v2 : FVec Ideal S352x1024 .f32) = transpose S352x1024 [1, 0] ((m ((c : Thread nD τ).loc main_arg3)) : FVec Ideal S1024x352 .f32) transposes_S1024x352_S352x1024_1_0 := by
  dsimp only [V, hostOps0]
  after_results

/-- The index maps, over the grid. -/
theorem idx_all : ∀ t : Fin cfg0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The block of the parts at a point. -/
theorem blk0 (c : Dev nD) (t : Fin cfg0.N) (d : Fin 8) (r : Fin 176) (k : Fin 1024) (R : Fin 352) (hR : R.val = t.val * 176 + r.val) :
    (iblk m c 0 t : Vec Ideal S8x176x1024 .bf16) (ix3 d r k) = ((m ((c : Thread nD τ).loc main_arg0)) : Vec Ideal S8x352x1024 .bf16) (ix3 d R k) := by
  obtain ⟨e0, e1, e2, -⟩ := idx_all t
  rw [← V_main_arg0 m c]
  show (V m c main_arg0 : Vec Ideal S8x352x1024 .bf16) (((cfg0.win 0).blk t).view.emb (ix3 d r k)) = _
  refine congrArg _ (funext fun a => Fin.ext ?_)
  match a with
  | ⟨0, _⟩ => show win0_0.index t (0 : Fin 3) * 8 + 1 * d.val = d.val; rw [e0]; omega
  | ⟨1, _⟩ => show win0_0.index t (1 : Fin 3) * 176 + 1 * r.val = R.val; rw [e1, hR]; omega
  | ⟨2, _⟩ => show win0_0.index t (2 : Fin 3) * 1024 + 1 * k.val = k.val; rw [e2]; omega

theorem blk1 (c : Dev nD) (t : Fin cfg0.N) (r : Fin 176) (k : Fin 1024) (R : Fin 352) (hR : R.val = t.val * 176 + r.val) :
    (iblk m c 1 t : Vec Ideal S176x1024 .f32) (ix2 r k) = ((m ((c : Thread nD τ).loc main_arg1)) : Vec Ideal S1024x352 .f32) (ix2 k R) := by
  obtain ⟨-, -, -, e0, e1, -⟩ := idx_all t
  have h : (iblk m c 1 t : Vec Ideal S176x1024 .f32) (ix2 r k) = (V m c main_v0 : Vec Ideal S352x1024 .f32) (ix2 R k) := by
    show (V m c main_v0 : Vec Ideal S352x1024 .f32) (((cfg0.win 1).blk t).view.emb (ix2 r k)) = _
    refine congrArg _ (funext fun a => Fin.ext ?_)
    match a with
    | ⟨0, _⟩ => show win0_1.index t (0 : Fin 2) * 176 + 1 * r.val = R.val; rw [e0, hR]; omega
    | ⟨1, _⟩ => show win0_1.index t (1 : Fin 2) * 1024 + 1 * k.val = k.val; rw [e1]; omega
  rw [h, V_v0]
  pointwise

theorem blk2 (c : Dev nD) (t : Fin cfg0.N) (r : Fin 176) (k : Fin 1024) (R : Fin 352) (hR : R.val = t.val * 176 + r.val) :
    (iblk m c 2 t : Vec Ideal S176x1024 .f32) (ix2 r k) = ((m ((c : Thread nD τ).loc main_arg2)) : Vec Ideal S1024x352 .f32) (ix2 k R) := by
  obtain ⟨-, -, -, -, -, e0, e1, -⟩ := idx_all t
  have h : (iblk m c 2 t : Vec Ideal S176x1024 .f32) (ix2 r k) = (V m c main_v1 : Vec Ideal S352x1024 .f32) (ix2 R k) := by
    show (V m c main_v1 : Vec Ideal S352x1024 .f32) (((cfg0.win 2).blk t).view.emb (ix2 r k)) = _
    refine congrArg _ (funext fun a => Fin.ext ?_)
    match a with
    | ⟨0, _⟩ => show win0_2.index t (0 : Fin 2) * 176 + 1 * r.val = R.val; rw [e0, hR]; omega
    | ⟨1, _⟩ => show win0_2.index t (1 : Fin 2) * 1024 + 1 * k.val = k.val; rw [e1]; omega
  rw [h, V_v1]
  pointwise

theorem blk3 (c : Dev nD) (t : Fin cfg0.N) (r : Fin 176) (k : Fin 1024) (R : Fin 352) (hR : R.val = t.val * 176 + r.val) :
    (iblk m c 3 t : Vec Ideal S176x1024 .f32) (ix2 r k) = ((m ((c : Thread nD τ).loc main_arg3)) : Vec Ideal S1024x352 .f32) (ix2 k R) := by
  obtain ⟨-, -, -, -, -, -, -, e0, e1, -⟩ := idx_all t
  have h : (iblk m c 3 t : Vec Ideal S176x1024 .f32) (ix2 r k) = (V m c main_v2 : Vec Ideal S352x1024 .f32) (ix2 R k) := by
    show (V m c main_v2 : Vec Ideal S352x1024 .f32) (((cfg0.win 3).blk t).view.emb (ix2 r k)) = _
    refine congrArg _ (funext fun a => Fin.ext ?_)
    match a with
    | ⟨0, _⟩ => show win0_3.index t (0 : Fin 2) * 176 + 1 * r.val = R.val; rw [e0, hR]; omega
    | ⟨1, _⟩ => show win0_3.index t (1 : Fin 2) * 1024 + 1 * k.val = k.val; rw [e1]; omega
  rw [h, V_v2]
  pointwise

/-- The sum in the body. -/
theorem pay6 (x0 : Vec Ideal S8x176x1024 .bf16) (x1 x2 x3 : Vec Ideal S176x1024 .f32) (r : Fin 176) (j : Fin 1024) : k0_pay6 x0 x1 x2 x3 (ix2 r j) = ∑ d : Fin 8, (x0 (ix3 d r j) : EReal) := by
  rw [Fin.sum_univ_eight]
  pointwise [k0_pay6, k0_pay4]

theorem out4 (x0 : Vec Ideal S8x176x1024 .bf16) (x1 x2 x3 : Vec Ideal S176x1024 .f32) (r : Fin 176) (j : Fin 1024) : out0_4 x0 x1 x2 x3 (ix2 r j) = k0_pay6 x0 x1 x2 x3 (ix2 r j) := by
  unfold out0_4
  rw [View.canon_unit_zero hz2]

theorem out5 (x0 : Vec Ideal S8x176x1024 .bf16) (x1 x2 x3 : Vec Ideal S176x1024 .f32) (r : Fin 176) (j : Fin 1024) : out0_5 x0 x1 x2 x3 (ix2 r j) = Cert.Adam.delta (x1 (ix2 r j)) (k0_pay6 x0 x1 x2 x3 (ix2 r j)) (x2 (ix2 r j)) (x3 (ix2 r j)) := by
  unfold out0_5
  rw [View.canon_unit_zero hz2, View.ld_unit_zero hz2, View.ld_unit_zero hz2, View.ld_unit_zero hz2]
  generalize k0_pay6 x0 x1 x2 x3 = s
  pointwise [k0_pay3, k0_pay5, k0_pay2, k0_pay1]
  rfl

theorem out6 (x0 : Vec Ideal S8x176x1024 .bf16) (x1 x2 x3 : Vec Ideal S176x1024 .f32) (r : Fin 176) (j : Fin 1024) : out0_6 x0 x1 x2 x3 (ix2 r j) = Cert.Adam.nm (k0_pay6 x0 x1 x2 x3 (ix2 r j)) (x2 (ix2 r j)) := by
  unfold out0_6
  rw [View.canon_unit_zero hz2, View.ld_unit_zero hz2]
  generalize k0_pay6 x0 x1 x2 x3 = s
  pointwise [k0_pay1]
  rfl

theorem out7 (x0 : Vec Ideal S8x176x1024 .bf16) (x1 x2 x3 : Vec Ideal S176x1024 .f32) (r : Fin 176) (j : Fin 1024) : out0_7 x0 x1 x2 x3 (ix2 r j) = Cert.Adam.nv (k0_pay6 x0 x1 x2 x3 (ix2 r j)) (x3 (ix2 r j)) := by
  unfold out0_7
  rw [View.canon_unit_zero hz2, View.ld_unit_zero hz2]
  generalize k0_pay6 x0 x1 x2 x3 = s
  pointwise [k0_pay2]
  rfl

theorem sum_blk (c : Dev nD) (t : Fin cfg0.N) (x1 x2 x3 : Vec Ideal S176x1024 .f32) (r : Fin 176) (j : Fin 1024) (R : Fin 352) (hR : R.val = t.val * 176 + r.val) :
    k0_pay6 (iblk m c 0 t) x1 x2 x3 (ix2 r j) = gs (m ((c : Thread nD τ).loc main_arg0)) R j :=
  (pay6 _ _ _ _ r j).trans (Finset.sum_congr rfl fun d _ => blk0 m c t d r j R hR)

theorem point4 (c : Dev nD) (t : Fin cfg0.N) (r : Fin 176) (j : Fin 1024) (R : Fin 352) (J : Fin 1024)
    (hR : R.val = t.val * 176 + r.val) (hJ : J.val = 0 * 1024 + j.val) :
    out0_4 (iblk m c 0 t) (iblk m c 1 t) (iblk m c 2 t) (iblk m c 3 t) (ix2 r j) = G4 (m ((c : Thread nD τ).loc main_arg0)) (ix2 R J) := by
  obtain rfl : J = j := Fin.ext (by omega)
  rw [out4, sum_blk m c t (iblk m c 1 t) (iblk m c 2 t) (iblk m c 3 t) r J R hR]
  rfl

/-- What a point writes back to result 0 is its block. -/
theorem flushed4_eq (c : Dev nD) (t : Fin cfg0.N) (hf : (cfg0.win 4).flush t = true) :
    (dats m 0 c).flushed 4 t = ((cfg0.win 4).blk t).view.read (Elt Ideal) (G4 (m ((c : Thread nD τ).loc main_arg0))) := by
  rw [Value.flushed4]
  obtain ⟨-, -, -, -, -, -, -, -, -, e0, e1, -⟩ := idx_all t
  funext y
  have ht : t.val < grid0.N := t.isLt
  rw [N_0] at ht
  show out0_4 (iblk m c 0 t) (iblk m c 1 t) (iblk m c 2 t) (iblk m c 3 t) ((cfg0.win 4).xinj (grid0.coords t) y) = G4 (m ((c : Thread nD τ).loc main_arg0)) (((cfg0.win 4).blk t).view.emb y)
  rw [eq_ix2 (n0 := 176) (n1 := 1024) ((cfg0.win 4).xinj (grid0.coords t) y), eq_ix2 (n0 := 352) (n1 := 1024) (((cfg0.win 4).blk t).view.emb y)]
  exact point4 m c t _ _ _ _ (by show win0_4.index t (0 : Fin 2) * 176 + 1 * (y 0).val = (t.val) * 176 + (y 0).val; rw [e0]; omega) (by show win0_4.index t (1 : Fin 2) * 1024 + 1 * (y 1).val = (0) * 1024 + (y 1).val; rw [e1]; omega)

/-- Every index of result 0 is in some point's block. -/
theorem cover4 (i : S352x1024.Idx) : ∃ t : Fin cfg0.N, (cfg0.win 4).flush t = true ∧ i ∈ ((cfg0.win 4).blk t).view.set := by
  have hi0 : (i 0).val < 352 := (i 0).isLt
  have hi1 : (i 1).val < 1024 := (i 1).isLt
  let t : Fin cfg0.N := ⟨(i 0).val / 176, by show _ < grid0.N; rw [N_0]; omega⟩
  have htv : t.val = (i 0).val / 176 := rfl
  obtain ⟨-, -, -, -, -, -, -, -, -, e0, e1, -⟩ := idx_all t
  refine ⟨t, flush0_4 t, ?_⟩
  show i ∈ ((View.whole main_v3_0).slice (win0_4.rect t)).set
  rw [View.set_slice_whole, Rect.mem_set_unit]
  intro a
  match a with
  | ⟨0, _⟩ => show win0_4.index t (0 : Fin 2) * 176 ≤ (i 0).val ∧ (i 0).val < win0_4.index t (0 : Fin 2) * 176 + 176; rw [e0]; try rw [htv]
              omega
  | ⟨1, _⟩ => show win0_4.index t (1 : Fin 2) * 1024 ≤ (i 1).val ∧ (i 1).val < win0_4.index t (1 : Fin 2) * 1024 + 1024; rw [e1]; try rw [htv]
              omega

theorem point5 (c : Dev nD) (t : Fin cfg0.N) (r : Fin 176) (j : Fin 1024) (R : Fin 352) (J : Fin 1024)
    (hR : R.val = t.val * 176 + r.val) (hJ : J.val = 0 * 1024 + j.val) :
    out0_5 (iblk m c 0 t) (iblk m c 1 t) (iblk m c 2 t) (iblk m c 3 t) (ix2 r j) = G5 (m ((c : Thread nD τ).loc main_arg0)) (m ((c : Thread nD τ).loc main_arg1)) (m ((c : Thread nD τ).loc main_arg2)) (m ((c : Thread nD τ).loc main_arg3)) (ix2 R J) := by
  obtain rfl : J = j := Fin.ext (by omega)
  rw [out5, sum_blk m c t (iblk m c 1 t) (iblk m c 2 t) (iblk m c 3 t) r J R hR, blk1 m c t r J R hR, blk2 m c t r J R hR, blk3 m c t r J R hR]
  rfl

/-- What a point writes back to result 1 is its block. -/
theorem flushed5_eq (c : Dev nD) (t : Fin cfg0.N) (hf : (cfg0.win 5).flush t = true) :
    (dats m 0 c).flushed 5 t = ((cfg0.win 5).blk t).view.read (Elt Ideal) (G5 (m ((c : Thread nD τ).loc main_arg0)) (m ((c : Thread nD τ).loc main_arg1)) (m ((c : Thread nD τ).loc main_arg2)) (m ((c : Thread nD τ).loc main_arg3))) := by
  rw [Value.flushed5]
  obtain ⟨-, -, -, -, -, -, -, -, -, -, -, e0, e1, -⟩ := idx_all t
  funext y
  have ht : t.val < grid0.N := t.isLt
  rw [N_0] at ht
  show out0_5 (iblk m c 0 t) (iblk m c 1 t) (iblk m c 2 t) (iblk m c 3 t) ((cfg0.win 5).xinj (grid0.coords t) y) = G5 (m ((c : Thread nD τ).loc main_arg0)) (m ((c : Thread nD τ).loc main_arg1)) (m ((c : Thread nD τ).loc main_arg2)) (m ((c : Thread nD τ).loc main_arg3)) (((cfg0.win 5).blk t).view.emb y)
  rw [eq_ix2 (n0 := 176) (n1 := 1024) ((cfg0.win 5).xinj (grid0.coords t) y), eq_ix2 (n0 := 352) (n1 := 1024) (((cfg0.win 5).blk t).view.emb y)]
  exact point5 m c t _ _ _ _ (by show win0_5.index t (0 : Fin 2) * 176 + 1 * (y 0).val = (t.val) * 176 + (y 0).val; rw [e0]; omega) (by show win0_5.index t (1 : Fin 2) * 1024 + 1 * (y 1).val = (0) * 1024 + (y 1).val; rw [e1]; omega)

/-- Every index of result 1 is in some point's block. -/
theorem cover5 (i : S352x1024.Idx) : ∃ t : Fin cfg0.N, (cfg0.win 5).flush t = true ∧ i ∈ ((cfg0.win 5).blk t).view.set := by
  have hi0 : (i 0).val < 352 := (i 0).isLt
  have hi1 : (i 1).val < 1024 := (i 1).isLt
  let t : Fin cfg0.N := ⟨(i 0).val / 176, by show _ < grid0.N; rw [N_0]; omega⟩
  have htv : t.val = (i 0).val / 176 := rfl
  obtain ⟨-, -, -, -, -, -, -, -, -, -, -, e0, e1, -⟩ := idx_all t
  refine ⟨t, flush0_5 t, ?_⟩
  show i ∈ ((View.whole main_v3_1).slice (win0_5.rect t)).set
  rw [View.set_slice_whole, Rect.mem_set_unit]
  intro a
  match a with
  | ⟨0, _⟩ => show win0_5.index t (0 : Fin 2) * 176 ≤ (i 0).val ∧ (i 0).val < win0_5.index t (0 : Fin 2) * 176 + 176; rw [e0]; try rw [htv]
              omega
  | ⟨1, _⟩ => show win0_5.index t (1 : Fin 2) * 1024 ≤ (i 1).val ∧ (i 1).val < win0_5.index t (1 : Fin 2) * 1024 + 1024; rw [e1]; try rw [htv]
              omega

theorem point6 (c : Dev nD) (t : Fin cfg0.N) (r : Fin 176) (j : Fin 1024) (R : Fin 352) (J : Fin 1024)
    (hR : R.val = t.val * 176 + r.val) (hJ : J.val = 0 * 1024 + j.val) :
    out0_6 (iblk m c 0 t) (iblk m c 1 t) (iblk m c 2 t) (iblk m c 3 t) (ix2 r j) = G6 (m ((c : Thread nD τ).loc main_arg0)) (m ((c : Thread nD τ).loc main_arg2)) (ix2 R J) := by
  obtain rfl : J = j := Fin.ext (by omega)
  rw [out6, sum_blk m c t (iblk m c 1 t) (iblk m c 2 t) (iblk m c 3 t) r J R hR, blk2 m c t r J R hR]
  rfl

/-- What a point writes back to result 2 is its block. -/
theorem flushed6_eq (c : Dev nD) (t : Fin cfg0.N) (hf : (cfg0.win 6).flush t = true) :
    (dats m 0 c).flushed 6 t = ((cfg0.win 6).blk t).view.read (Elt Ideal) (G6 (m ((c : Thread nD τ).loc main_arg0)) (m ((c : Thread nD τ).loc main_arg2))) := by
  rw [Value.flushed6]
  obtain ⟨-, -, -, -, -, -, -, -, -, -, -, -, -, e0, e1, -⟩ := idx_all t
  funext y
  have ht : t.val < grid0.N := t.isLt
  rw [N_0] at ht
  show out0_6 (iblk m c 0 t) (iblk m c 1 t) (iblk m c 2 t) (iblk m c 3 t) ((cfg0.win 6).xinj (grid0.coords t) y) = G6 (m ((c : Thread nD τ).loc main_arg0)) (m ((c : Thread nD τ).loc main_arg2)) (((cfg0.win 6).blk t).view.emb y)
  rw [eq_ix2 (n0 := 176) (n1 := 1024) ((cfg0.win 6).xinj (grid0.coords t) y), eq_ix2 (n0 := 352) (n1 := 1024) (((cfg0.win 6).blk t).view.emb y)]
  exact point6 m c t _ _ _ _ (by show win0_6.index t (0 : Fin 2) * 176 + 1 * (y 0).val = (t.val) * 176 + (y 0).val; rw [e0]; omega) (by show win0_6.index t (1 : Fin 2) * 1024 + 1 * (y 1).val = (0) * 1024 + (y 1).val; rw [e1]; omega)

/-- Every index of result 2 is in some point's block. -/
theorem cover6 (i : S352x1024.Idx) : ∃ t : Fin cfg0.N, (cfg0.win 6).flush t = true ∧ i ∈ ((cfg0.win 6).blk t).view.set := by
  have hi0 : (i 0).val < 352 := (i 0).isLt
  have hi1 : (i 1).val < 1024 := (i 1).isLt
  let t : Fin cfg0.N := ⟨(i 0).val / 176, by show _ < grid0.N; rw [N_0]; omega⟩
  have htv : t.val = (i 0).val / 176 := rfl
  obtain ⟨-, -, -, -, -, -, -, -, -, -, -, -, -, e0, e1, -⟩ := idx_all t
  refine ⟨t, flush0_6 t, ?_⟩
  show i ∈ ((View.whole main_v3_2).slice (win0_6.rect t)).set
  rw [View.set_slice_whole, Rect.mem_set_unit]
  intro a
  match a with
  | ⟨0, _⟩ => show win0_6.index t (0 : Fin 2) * 176 ≤ (i 0).val ∧ (i 0).val < win0_6.index t (0 : Fin 2) * 176 + 176; rw [e0]; try rw [htv]
              omega
  | ⟨1, _⟩ => show win0_6.index t (1 : Fin 2) * 1024 ≤ (i 1).val ∧ (i 1).val < win0_6.index t (1 : Fin 2) * 1024 + 1024; rw [e1]; try rw [htv]
              omega

theorem point7 (c : Dev nD) (t : Fin cfg0.N) (r : Fin 176) (j : Fin 1024) (R : Fin 352) (J : Fin 1024)
    (hR : R.val = t.val * 176 + r.val) (hJ : J.val = 0 * 1024 + j.val) :
    out0_7 (iblk m c 0 t) (iblk m c 1 t) (iblk m c 2 t) (iblk m c 3 t) (ix2 r j) = G7 (m ((c : Thread nD τ).loc main_arg0)) (m ((c : Thread nD τ).loc main_arg3)) (ix2 R J) := by
  obtain rfl : J = j := Fin.ext (by omega)
  rw [out7, sum_blk m c t (iblk m c 1 t) (iblk m c 2 t) (iblk m c 3 t) r J R hR, blk3 m c t r J R hR]
  rfl

/-- What a point writes back to result 3 is its block. -/
theorem flushed7_eq (c : Dev nD) (t : Fin cfg0.N) (hf : (cfg0.win 7).flush t = true) :
    (dats m 0 c).flushed 7 t = ((cfg0.win 7).blk t).view.read (Elt Ideal) (G7 (m ((c : Thread nD τ).loc main_arg0)) (m ((c : Thread nD τ).loc main_arg3))) := by
  rw [Value.flushed7]
  obtain ⟨-, -, -, -, -, -, -, -, -, -, -, -, -, -, -, e0, e1⟩ := idx_all t
  funext y
  have ht : t.val < grid0.N := t.isLt
  rw [N_0] at ht
  show out0_7 (iblk m c 0 t) (iblk m c 1 t) (iblk m c 2 t) (iblk m c 3 t) ((cfg0.win 7).xinj (grid0.coords t) y) = G7 (m ((c : Thread nD τ).loc main_arg0)) (m ((c : Thread nD τ).loc main_arg3)) (((cfg0.win 7).blk t).view.emb y)
  rw [eq_ix2 (n0 := 176) (n1 := 1024) ((cfg0.win 7).xinj (grid0.coords t) y), eq_ix2 (n0 := 352) (n1 := 1024) (((cfg0.win 7).blk t).view.emb y)]
  exact point7 m c t _ _ _ _ (by show win0_7.index t (0 : Fin 2) * 176 + 1 * (y 0).val = (t.val) * 176 + (y 0).val; rw [e0]; omega) (by show win0_7.index t (1 : Fin 2) * 1024 + 1 * (y 1).val = (0) * 1024 + (y 1).val; rw [e1]; omega)

/-- Every index of result 3 is in some point's block. -/
theorem cover7 (i : S352x1024.Idx) : ∃ t : Fin cfg0.N, (cfg0.win 7).flush t = true ∧ i ∈ ((cfg0.win 7).blk t).view.set := by
  have hi0 : (i 0).val < 352 := (i 0).isLt
  have hi1 : (i 1).val < 1024 := (i 1).isLt
  let t : Fin cfg0.N := ⟨(i 0).val / 176, by show _ < grid0.N; rw [N_0]; omega⟩
  have htv : t.val = (i 0).val / 176 := rfl
  obtain ⟨-, -, -, -, -, -, -, -, -, -, -, -, -, -, -, e0, e1⟩ := idx_all t
  refine ⟨t, flush0_7 t, ?_⟩
  show i ∈ ((View.whole main_v3_3).slice (win0_7.rect t)).set
  rw [View.set_slice_whole, Rect.mem_set_unit]
  intro a
  match a with
  | ⟨0, _⟩ => show win0_7.index t (0 : Fin 2) * 176 ≤ (i 0).val ∧ (i 0).val < win0_7.index t (0 : Fin 2) * 176 + 176; rw [e0]; try rw [htv]
              omega
  | ⟨1, _⟩ => show win0_7.index t (1 : Fin 2) * 1024 ≤ (i 1).val ∧ (i 1).val < win0_7.index t (1 : Fin 2) * 1024 + 1024; rw [e1]; try rw [htv]
              omega

/-- The run, read: the results, the arguments unchanged. -/
theorem run : θ_run defs (onTc (τ := τ) (main (F := Ideal))) ⟨m, fun _ => 0, ρ⟩ fun r => ∀ c : Dev nD,
      r.2.mem ((c.tc : Thread nD τ).loc main_v3_0) = G4 (m ((c : Thread nD τ).loc main_arg0))
      ∧ r.2.mem ((c.tc : Thread nD τ).loc main_v3_1) = G5 (m ((c : Thread nD τ).loc main_arg0)) (m ((c : Thread nD τ).loc main_arg1)) (m ((c : Thread nD τ).loc main_arg2)) (m ((c : Thread nD τ).loc main_arg3))
      ∧ r.2.mem ((c.tc : Thread nD τ).loc main_v3_2) = G6 (m ((c : Thread nD τ).loc main_arg0)) (m ((c : Thread nD τ).loc main_arg2))
      ∧ r.2.mem ((c.tc : Thread nD τ).loc main_v3_3) = G7 (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((dats m 0 c).arrAt_eq_of_cover 4 _ (fun t hf => flushed4_eq m c t hf) cover4),
      (h c).2.1.trans ((dats m 0 c).arrAt_eq_of_cover 5 _ (fun t hf => flushed5_eq m c t hf) cover5),
      (h c).2.2.1.trans ((dats m 0 c).arrAt_eq_of_cover 6 _ (fun t hf => flushed6_eq m c t hf) cover6),
      (h c).2.2.2.1.trans ((dats m 0 c).arrAt_eq_of_cover 7 _ (fun t hf => flushed7_eq m c t hf) cover7),
      (h c).2.2.2.2⟩)
    (Value.run_blocks m ρ)

end Cert.Kernel12Ideal.Opt

namespace Cert.Reference12Ideal.Opt

open Cert.Reference12Ideal Cert.Reference12Ideal.Facts₀ Idealize.ShloMosaic Idealize.ShloMosaic.TcCoe Idealize.SL.Sem
open scoped BigOperators

variable (a0 : FVec Ideal S8x352x1024 .bf16) (a1 a2 a3 : FVec Ideal S1024x352 .f32)

/-- The sum of the parts. -/
abbrev sm : FVec Ideal S352x1024 .f32 := Host.reduceAdd (extf (F := Ideal) .f32 a0 bitsLt_bf16_f32) (constant S_ .f32 0x00000000#32) reducesTo_S8x352x1024_S352x1024_d0 h_S_

theorem sm_at (r : Fin 352) (j : Fin 1024) : sm a0 (ix2 r j) = Cert.Kernel12Ideal.Opt.gs a0 r j := by
  unfold Cert.Kernel12Ideal.Opt.gs
  pointwise [sm]

theorem ref4 : transpose S352x1024 [1, 0] (transpose S1024x352 [1, 0] (sm a0) transposes_S352x1024_S1024x352_1_0) transposes_S1024x352_S352x1024_1_0 = Cert.Kernel12Ideal.Opt.G4 a0 := by
  have h := sm_at a0
  generalize sm a0 = s at h ⊢
  funext j
  idx_vars j
  show _ = Cert.Kernel12Ideal.Opt.gs a0 j0 j1
  rw [← h]
  pointwise

theorem ref5 : transpose S352x1024 [1, 0] (mulf (broadcastInDim S1024x352 ![] bcast_S_S1024x352 (constant S_ .f32 0xBA83126F#32)) (addf (Host.divf (Host.divf (addf (mulf (broadcastInDim S1024x352 ![] bcast_S_S1024x352 (constant S_ .f32 0x3F666666#32)) a2) (mulf (broadcastInDim S1024x352 ![] bcast_S_S1024x352 (constant S_ .f32 0x3DCCCCCD#32)) (transpose S1024x352 [1, 0] (sm a0) transposes_S352x1024_S1024x352_1_0))) (broadcastInDim S1024x352 ![] bcast_S_S1024x352 (constant S_ .f32 0x3F26BD02#32))) (addf (Host.sqrt (Host.divf (addf (mulf (broadcastInDim S1024x352 ![] bcast_S_S1024x352 (constant S_ .f32 0x3F7FBE77#32)) a3) (mulf (broadcastInDim S1024x352 ![] bcast_S_S1024x352 (constant S_ .f32 0x3A83126F#32)) (mulf (transpose S1024x352 [1, 0] (sm a0) transposes_S352x1024_S1024x352_1_0) (transpose S1024x352 [1, 0] (sm a0) transposes_S352x1024_S1024x352_1_0)))) (broadcastInDim S1024x352 ![] bcast_S_S1024x352 (constant S_ .f32 0x3C231ACC#32)))) (broadcastInDim S1024x352 ![] bcast_S_S1024x352 (constant S_ .f32 0x322BCC77#32)))) (mulf (broadcastInDim S1024x352 ![] bcast_S_S1024x352 (constant S_ .f32 0x3C23D70A#32)) a1))) transposes_S1024x352_S352x1024_1_0 = Cert.Kernel12Ideal.Opt.G5 a0 a1 a2 a3 := by
  have h := sm_at a0
  generalize sm a0 = s at h ⊢
  funext j
  idx_vars j
  show _ = Cert.Adam.delta (a1 (ix2 j1 j0)) (Cert.Kernel12Ideal.Opt.gs a0 j0 j1) (a2 (ix2 j1 j0)) (a3 (ix2 j1 j0))
  rw [← h]
  pointwise
  rfl

theorem ref6 : transpose S352x1024 [1, 0] (addf (mulf (broadcastInDim S1024x352 ![] bcast_S_S1024x352 (constant S_ .f32 0x3F666666#32)) a2) (mulf (broadcastInDim S1024x352 ![] bcast_S_S1024x352 (constant S_ .f32 0x3DCCCCCD#32)) (transpose S1024x352 [1, 0] (sm a0) transposes_S352x1024_S1024x352_1_0))) transposes_S1024x352_S352x1024_1_0 = Cert.Kernel12Ideal.Opt.G6 a0 a2 := by
  have h := sm_at a0
  generalize sm a0 = s at h ⊢
  funext j
  idx_vars j
  show _ = Cert.Adam.nm (Cert.Kernel12Ideal.Opt.gs a0 j0 j1) (a2 (ix2 j1 j0))
  rw [← h]
  pointwise
  rfl

theorem ref7 : transpose S352x1024 [1, 0] (addf (mulf (broadcastInDim S1024x352 ![] bcast_S_S1024x352 (constant S_ .f32 0x3F7FBE77#32)) a3) (mulf (broadcastInDim S1024x352 ![] bcast_S_S1024x352 (constant S_ .f32 0x3A83126F#32)) (mulf (transpose S1024x352 [1, 0] (sm a0) transposes_S352x1024_S1024x352_1_0) (transpose S1024x352 [1, 0] (sm a0) transposes_S352x1024_S1024x352_1_0)))) transposes_S1024x352_S352x1024_1_0 = Cert.Kernel12Ideal.Opt.G7 a0 a3 := by
  have h := sm_at a0
  generalize sm a0 = s at h ⊢
  funext j
  idx_vars j
  show _ = Cert.Adam.nv (Cert.Kernel12Ideal.Opt.gs a0 j0 j1) (a3 (ix2 j1 j0))
  rw [← h]
  pointwise
  rfl

end Cert.Reference12Ideal.Opt

end
-- ==== Proof.OptOut.lean ====
/- The optimiser's step of the weight of the output projection: the sum of the devices' parts of its gradient, and the step. -/
module

public import proofs.«01_k».proof.Proof.Gen.Kernel13Ideal.Value
public import proofs.«01_k».proof.Proof.Gen.Reference13Ideal.Run
public import Idealize.ShloMosaic.Lib.Pointwise
public import Idealize.ShloMosaic.Lib.Pipeline.Value
public import proofs.«01_k».proof.Proof.Adam

@[expose] public section

set_option maxRecDepth 16384

noncomputable section

namespace Cert.Kernel13Ideal.Opt

open Cert.Kernel13Ideal Cert.Kernel13Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- The sum of the devices' parts. -/
def gs (p : FVec Ideal S8x128x1024 .bf16) (r : Fin 128) (j : Fin 1024) : EReal := ∑ d : Fin 8, (p (ix3 d r j) : EReal)

/-- The gradient, the change, and the new moments. -/
def G4 (p : FVec Ideal S8x128x1024 .bf16) : FVec Ideal S128x1024 .f32 := fun i => gs p (i 0) (i 1)

def G5 (p : FVec Ideal S8x128x1024 .bf16) (w a b : FVec Ideal S128x1024 .f32) : FVec Ideal S128x1024 .f32 := fun i =>
  Cert.Adam.delta (w (ix2 (i 0) (i 1))) (gs p (i 0) (i 1)) (a (ix2 (i 0) (i 1))) (b (ix2 (i 0) (i 1)))

def G6 (p : FVec Ideal S8x128x1024 .bf16) (a : FVec Ideal S128x1024 .f32) : FVec Ideal S128x1024 .f32 := fun i => Cert.Adam.nm (gs p (i 0) (i 1)) (a (ix2 (i 0) (i 1)))

def G7 (p : FVec Ideal S8x128x1024 .bf16) (b : FVec Ideal S128x1024 .f32) : FVec Ideal S128x1024 .f32 := fun i => Cert.Adam.nv (gs p (i 0) (i 1)) (b (ix2 (i 0) (i 1)))

/-- The index maps, over the grid. -/
theorem idx_all : ∀ t : Fin cfg0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The block of the parts at a point. -/
theorem blk0 (c : Dev nD) (t : Fin cfg0.N) (d : Fin 8) (r : Fin 128) (k : Fin 1024) (R : Fin 128) (hR : R.val = t.val * 128 + r.val) :
    (iblk m c 0 t : Vec Ideal S8x128x1024 .bf16) (ix3 d r k) = ((m ((c : Thread nD τ).loc main_arg0)) : Vec Ideal S8x128x1024 .bf16) (ix3 d R k) := by
  obtain ⟨e0, e1, e2, -⟩ := idx_all t
  rw [← V_main_arg0 m c]
  show (V m c main_arg0 : Vec Ideal S8x128x1024 .bf16) (((cfg0.win 0).blk t).view.emb (ix3 d r k)) = _
  refine congrArg _ (funext fun a => Fin.ext ?_)
  match a with
  | ⟨0, _⟩ => show win0_0.index t (0 : Fin 3) * 8 + 1 * d.val = d.val; rw [e0]; omega
  | ⟨1, _⟩ => show win0_0.index t (1 : Fin 3) * 128 + 1 * r.val = R.val; rw [e1, hR]; omega
  | ⟨2, _⟩ => show win0_0.index t (2 : Fin 3) * 1024 + 1 * k.val = k.val; rw [e2]; omega

theorem blk1 (c : Dev nD) (t : Fin cfg0.N) (r : Fin 128) (k : Fin 1024) (R : Fin 128) (hR : R.val = t.val * 128 + r.val) :
    (iblk m c 1 t : Vec Ideal S128x1024 .f32) (ix2 r k) = ((m ((c : Thread nD τ).loc main_arg1)) : Vec Ideal S128x1024 .f32) (ix2 R k) := by
  obtain ⟨-, -, -, e0, e1, -⟩ := idx_all t
  have h : (iblk m c 1 t : Vec Ideal S128x1024 .f32) (ix2 r k) = (V m c main_arg1 : Vec Ideal S128x1024 .f32) (ix2 R k) := by
    show (V m c main_arg1 : Vec Ideal S128x1024 .f32) (((cfg0.win 1).blk t).view.emb (ix2 r k)) = _
    refine congrArg _ (funext fun a => Fin.ext ?_)
    match a with
    | ⟨0, _⟩ => show win0_1.index t (0 : Fin 2) * 128 + 1 * r.val = R.val; rw [e0, hR]; omega
    | ⟨1, _⟩ => show win0_1.index t (1 : Fin 2) * 1024 + 1 * k.val = k.val; rw [e1]; omega
  rw [h, V_main_arg1]

theorem blk2 (c : Dev nD) (t : Fin cfg0.N) (r : Fin 128) (k : Fin 1024) (R : Fin 128) (hR : R.val = t.val * 128 + r.val) :
    (iblk m c 2 t : Vec Ideal S128x1024 .f32) (ix2 r k) = ((m ((c : Thread nD τ).loc main_arg2)) : Vec Ideal S128x1024 .f32) (ix2 R k) := by
  obtain ⟨-, -, -, -, -, e0, e1, -⟩ := idx_all t
  have h : (iblk m c 2 t : Vec Ideal S128x1024 .f32) (ix2 r k) = (V m c main_arg2 : Vec Ideal S128x1024 .f32) (ix2 R k) := by
    show (V m c main_arg2 : Vec Ideal S128x1024 .f32) (((cfg0.win 2).blk t).view.emb (ix2 r k)) = _
    refine congrArg _ (funext fun a => Fin.ext ?_)
    match a with
    | ⟨0, _⟩ => show win0_2.index t (0 : Fin 2) * 128 + 1 * r.val = R.val; rw [e0, hR]; omega
    | ⟨1, _⟩ => show win0_2.index t (1 : Fin 2) * 1024 + 1 * k.val = k.val; rw [e1]; omega
  rw [h, V_main_arg2]

theorem blk3 (c : Dev nD) (t : Fin cfg0.N) (r : Fin 128) (k : Fin 1024) (R : Fin 128) (hR : R.val = t.val * 128 + r.val) :
    (iblk m c 3 t : Vec Ideal S128x1024 .f32) (ix2 r k) = ((m ((c : Thread nD τ).loc main_arg3)) : Vec Ideal S128x1024 .f32) (ix2 R k) := by
  obtain ⟨-, -, -, -, -, -, -, e0, e1, -⟩ := idx_all t
  have h : (iblk m c 3 t : Vec Ideal S128x1024 .f32) (ix2 r k) = (V m c main_arg3 : Vec Ideal S128x1024 .f32) (ix2 R k) := by
    show (V m c main_arg3 : Vec Ideal S128x1024 .f32) (((cfg0.win 3).blk t).view.emb (ix2 r k)) = _
    refine congrArg _ (funext fun a => Fin.ext ?_)
    match a with
    | ⟨0, _⟩ => show win0_3.index t (0 : Fin 2) * 128 + 1 * r.val = R.val; rw [e0, hR]; omega
    | ⟨1, _⟩ => show win0_3.index t (1 : Fin 2) * 1024 + 1 * k.val = k.val; rw [e1]; omega
  rw [h, V_main_arg3]

/-- The sum in the body. -/
theorem pay6 (x0 : Vec Ideal S8x128x1024 .bf16) (x1 x2 x3 : Vec Ideal S128x1024 .f32) (r : Fin 128) (j : Fin 1024) : k0_pay5 x0 x1 x2 x3 (ix2 r j) = ∑ d : Fin 8, (x0 (ix3 d r j) : EReal) := by
  rw [Fin.sum_univ_eight]
  pointwise [k0_pay5, k0_pay4]

theorem out4 (x0 : Vec Ideal S8x128x1024 .bf16) (x1 x2 x3 : Vec Ideal S128x1024 .f32) (r : Fin 128) (j : Fin 1024) : out0_4 x0 x1 x2 x3 (ix2 r j) = k0_pay5 x0 x1 x2 x3 (ix2 r j) := by
  unfold out0_4
  rw [View.canon_unit_zero hz2]

theorem out5 (x0 : Vec Ideal S8x128x1024 .bf16) (x1 x2 x3 : Vec Ideal S128x1024 .f32) (r : Fin 128) (j : Fin 1024) : out0_5 x0 x1 x2 x3 (ix2 r j) = Cert.Adam.delta (x1 (ix2 r j)) (k0_pay5 x0 x1 x2 x3 (ix2 r j)) (x2 (ix2 r j)) (x3 (ix2 r j)) := by
  unfold out0_5
  rw [View.canon_unit_zero hz2, View.ld_unit_zero hz2, View.ld_unit_zero hz2, View.ld_unit_zero hz2]
  generalize k0_pay5 x0 x1 x2 x3 = s
  pointwise [k0_pay3, k0_pay2, k0_pay1]
  rfl

theorem out6 (x0 : Vec Ideal S8x128x1024 .bf16) (x1 x2 x3 : Vec Ideal S128x1024 .f32) (r : Fin 128) (j : Fin 1024) : out0_6 x0 x1 x2 x3 (ix2 r j) = Cert.Adam.nm (k0_pay5 x0 x1 x2 x3 (ix2 r j)) (x2 (ix2 r j)) := by
  unfold out0_6
  rw [View.canon_unit_zero hz2, View.ld_unit_zero hz2]
  generalize k0_pay5 x0 x1 x2 x3 = s
  pointwise [k0_pay1]
  rfl

theorem out7 (x0 : Vec Ideal S8x128x1024 .bf16) (x1 x2 x3 : Vec Ideal S128x1024 .f32) (r : Fin 128) (j : Fin 1024) : out0_7 x0 x1 x2 x3 (ix2 r j) = Cert.Adam.nv (k0_pay5 x0 x1 x2 x3 (ix2 r j)) (x3 (ix2 r j)) := by
  unfold out0_7
  rw [View.canon_unit_zero hz2, View.ld_unit_zero hz2]
  generalize k0_pay5 x0 x1 x2 x3 = s
  pointwise [k0_pay2]
  rfl

theorem sum_blk (c : Dev nD) (t : Fin cfg0.N) (x1 x2 x3 : Vec Ideal S128x1024 .f32) (r : Fin 128) (j : Fin 1024) (R : Fin 128) (hR : R.val = t.val * 128 + r.val) :
    k0_pay5 (iblk m c 0 t) x1 x2 x3 (ix2 r j) = gs (m ((c : Thread nD τ).loc main_arg0)) R j :=
  (pay6 _ _ _ _ r j).trans (Finset.sum_congr rfl fun d _ => blk0 m c t d r j R hR)

theorem point4 (c : Dev nD) (t : Fin cfg0.N) (r : Fin 128) (j : Fin 1024) (R : Fin 128) (J : Fin 1024)
    (hR : R.val = t.val * 128 + r.val) (hJ : J.val = 0 * 1024 + j.val) :
    out0_4 (iblk m c 0 t) (iblk m c 1 t) (iblk m c 2 t) (iblk m c 3 t) (ix2 r j) = G4 (m ((c : Thread nD τ).loc main_arg0)) (ix2 R J) := by
  obtain rfl : J = j := Fin.ext (by omega)
  rw [out4, sum_blk m c t (iblk m c 1 t) (iblk m c 2 t) (iblk m c 3 t) r J R hR]
  rfl

/-- What a point writes back to result 0 is its block. -/
theorem flushed4_eq (c : Dev nD) (t : Fin cfg0.N) (hf : (cfg0.win 4).flush t = true) :
    (dats m 0 c).flushed 4 t = ((cfg0.win 4).blk t).view.read (Elt Ideal) (G4 (m ((c : Thread nD τ).loc main_arg0))) := by
  rw [Value.flushed4]
  obtain ⟨-, -, -, -, -, -, -, -, -, e0, e1, -⟩ := idx_all t
  funext y
  have ht : t.val < grid0.N := t.isLt
  rw [N_0] at ht
  show out0_4 (iblk m c 0 t) (iblk m c 1 t) (iblk m c 2 t) (iblk m c 3 t) ((cfg0.win 4).xinj (grid0.coords t) y) = G4 (m ((c : Thread nD τ).loc main_arg0)) (((cfg0.win 4).blk t).view.emb y)
  rw [eq_ix2 (n0 := 128) (n1 := 1024) ((cfg0.win 4).xinj (grid0.coords t) y), eq_ix2 (n0 := 128) (n1 := 1024) (((cfg0.win 4).blk t).view.emb y)]
  exact point4 m c t _ _ _ _ (by show win0_4.index t (0 : Fin 2) * 128 + 1 * (y 0).val = (t.val) * 128 + (y 0).val; rw [e0]; omega) (by show win0_4.index t (1 : Fin 2) * 1024 + 1 * (y 1).val = (0) * 1024 + (y 1).val; rw [e1]; omega)

/-- Every index of result 0 is in some point's block. -/
theorem cover4 (i : S128x1024.Idx) : ∃ t : Fin cfg0.N, (cfg0.win 4).flush t = true ∧ i ∈ ((cfg0.win 4).blk t).view.set := by
  have hi0 : (i 0).val < 128 := (i 0).isLt
  have hi1 : (i 1).val < 1024 := (i 1).isLt
  let t : Fin cfg0.N := ⟨(i 0).val / 128, by show _ < grid0.N; rw [N_0]; omega⟩
  have htv : t.val = (i 0).val / 128 := rfl
  obtain ⟨-, -, -, -, -, -, -, -, -, e0, e1, -⟩ := idx_all t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 128 ≤ (i 0).val ∧ (i 0).val < win0_4.index t (0 : Fin 2) * 128 + 128; rw [e0]; try rw [htv]
              omega
  | ⟨1, _⟩ => show win0_4.index t (1 : Fin 2) * 1024 ≤ (i 1).val ∧ (i 1).val < win0_4.index t (1 : Fin 2) * 1024 + 1024; rw [e1]; try rw [htv]
              omega

theorem point5 (c : Dev nD) (t : Fin cfg0.N) (r : Fin 128) (j : Fin 1024) (R : Fin 128) (J : Fin 1024)
    (hR : R.val = t.val * 128 + r.val) (hJ : J.val = 0 * 1024 + j.val) :
    out0_5 (iblk m c 0 t) (iblk m c 1 t) (iblk m c 2 t) (iblk m c 3 t) (ix2 r j) = G5 (m ((c : Thread nD τ).loc main_arg0)) (m ((c : Thread nD τ).loc main_arg1)) (m ((c : Thread nD τ).loc main_arg2)) (m ((c : Thread nD τ).loc main_arg3)) (ix2 R J) := by
  obtain rfl : J = j := Fin.ext (by omega)
  rw [out5, sum_blk m c t (iblk m c 1 t) (iblk m c 2 t) (iblk m c 3 t) r J R hR, blk1 m c t r J R hR, blk2 m c t r J R hR, blk3 m c t r J R hR]
  rfl

/-- What a point writes back to result 1 is its block. -/
theorem flushed5_eq (c : Dev nD) (t : Fin cfg0.N) (hf : (cfg0.win 5).flush t = true) :
    (dats m 0 c).flushed 5 t = ((cfg0.win 5).blk t).view.read (Elt Ideal) (G5 (m ((c : Thread nD τ).loc main_arg0)) (m ((c : Thread nD τ).loc main_arg1)) (m ((c : Thread nD τ).loc main_arg2)) (m ((c : Thread nD τ).loc main_arg3))) := by
  rw [Value.flushed5]
  obtain ⟨-, -, -, -, -, -, -, -, -, -, -, e0, e1, -⟩ := idx_all t
  funext y
  have ht : t.val < grid0.N := t.isLt
  rw [N_0] at ht
  show out0_5 (iblk m c 0 t) (iblk m c 1 t) (iblk m c 2 t) (iblk m c 3 t) ((cfg0.win 5).xinj (grid0.coords t) y) = G5 (m ((c : Thread nD τ).loc main_arg0)) (m ((c : Thread nD τ).loc main_arg1)) (m ((c : Thread nD τ).loc main_arg2)) (m ((c : Thread nD τ).loc main_arg3)) (((cfg0.win 5).blk t).view.emb y)
  rw [eq_ix2 (n0 := 128) (n1 := 1024) ((cfg0.win 5).xinj (grid0.coords t) y), eq_ix2 (n0 := 128) (n1 := 1024) (((cfg0.win 5).blk t).view.emb y)]
  exact point5 m c t _ _ _ _ (by show win0_5.index t (0 : Fin 2) * 128 + 1 * (y 0).val = (t.val) * 128 + (y 0).val; rw [e0]; omega) (by show win0_5.index t (1 : Fin 2) * 1024 + 1 * (y 1).val = (0) * 1024 + (y 1).val; rw [e1]; omega)

/-- Every index of result 1 is in some point's block. -/
theorem cover5 (i : S128x1024.Idx) : ∃ t : Fin cfg0.N, (cfg0.win 5).flush t = true ∧ i ∈ ((cfg0.win 5).blk t).view.set := by
  have hi0 : (i 0).val < 128 := (i 0).isLt
  have hi1 : (i 1).val < 1024 := (i 1).isLt
  let t : Fin cfg0.N := ⟨(i 0).val / 128, by show _ < grid0.N; rw [N_0]; omega⟩
  have htv : t.val = (i 0).val / 128 := rfl
  obtain ⟨-, -, -, -, -, -, -, -, -, -, -, e0, e1, -⟩ := idx_all t
  refine ⟨t, flush0_5 t, ?_⟩
  show i ∈ ((View.whole main_v0_1).slice (win0_5.rect t)).set
  rw [View.set_slice_whole, Rect.mem_set_unit]
  intro a
  match a with
  | ⟨0, _⟩ => show win0_5.index t (0 : Fin 2) * 128 ≤ (i 0).val ∧ (i 0).val < win0_5.index t (0 : Fin 2) * 128 + 128; rw [e0]; try rw [htv]
              omega
  | ⟨1, _⟩ => show win0_5.index t (1 : Fin 2) * 1024 ≤ (i 1).val ∧ (i 1).val < win0_5.index t (1 : Fin 2) * 1024 + 1024; rw [e1]; try rw [htv]
              omega

theorem point6 (c : Dev nD) (t : Fin cfg0.N) (r : Fin 128) (j : Fin 1024) (R : Fin 128) (J : Fin 1024)
    (hR : R.val = t.val * 128 + r.val) (hJ : J.val = 0 * 1024 + j.val) :
    out0_6 (iblk m c 0 t) (iblk m c 1 t) (iblk m c 2 t) (iblk m c 3 t) (ix2 r j) = G6 (m ((c : Thread nD τ).loc main_arg0)) (m ((c : Thread nD τ).loc main_arg2)) (ix2 R J) := by
  obtain rfl : J = j := Fin.ext (by omega)
  rw [out6, sum_blk m c t (iblk m c 1 t) (iblk m c 2 t) (iblk m c 3 t) r J R hR, blk2 m c t r J R hR]
  rfl

/-- What a point writes back to result 2 is its block. -/
theorem flushed6_eq (c : Dev nD) (t : Fin cfg0.N) (hf : (cfg0.win 6).flush t = true) :
    (dats m 0 c).flushed 6 t = ((cfg0.win 6).blk t).view.read (Elt Ideal) (G6 (m ((c : Thread nD τ).loc main_arg0)) (m ((c : Thread nD τ).loc main_arg2))) := by
  rw [Value.flushed6]
  obtain ⟨-, -, -, -, -, -, -, -, -, -, -, -, -, e0, e1, -⟩ := idx_all t
  funext y
  have ht : t.val < grid0.N := t.isLt
  rw [N_0] at ht
  show out0_6 (iblk m c 0 t) (iblk m c 1 t) (iblk m c 2 t) (iblk m c 3 t) ((cfg0.win 6).xinj (grid0.coords t) y) = G6 (m ((c : Thread nD τ).loc main_arg0)) (m ((c : Thread nD τ).loc main_arg2)) (((cfg0.win 6).blk t).view.emb y)
  rw [eq_ix2 (n0 := 128) (n1 := 1024) ((cfg0.win 6).xinj (grid0.coords t) y), eq_ix2 (n0 := 128) (n1 := 1024) (((cfg0.win 6).blk t).view.emb y)]
  exact point6 m c t _ _ _ _ (by show win0_6.index t (0 : Fin 2) * 128 + 1 * (y 0).val = (t.val) * 128 + (y 0).val; rw [e0]; omega) (by show win0_6.index t (1 : Fin 2) * 1024 + 1 * (y 1).val = (0) * 1024 + (y 1).val; rw [e1]; omega)

/-- Every index of result 2 is in some point's block. -/
theorem cover6 (i : S128x1024.Idx) : ∃ t : Fin cfg0.N, (cfg0.win 6).flush t = true ∧ i ∈ ((cfg0.win 6).blk t).view.set := by
  have hi0 : (i 0).val < 128 := (i 0).isLt
  have hi1 : (i 1).val < 1024 := (i 1).isLt
  let t : Fin cfg0.N := ⟨(i 0).val / 128, by show _ < grid0.N; rw [N_0]; omega⟩
  have htv : t.val = (i 0).val / 128 := rfl
  obtain ⟨-, -, -, -, -, -, -, -, -, -, -, -, -, e0, e1, -⟩ := idx_all t
  refine ⟨t, flush0_6 t, ?_⟩
  show i ∈ ((View.whole main_v0_2).slice (win0_6.rect t)).set
  rw [View.set_slice_whole, Rect.mem_set_unit]
  intro a
  match a with
  | ⟨0, _⟩ => show win0_6.index t (0 : Fin 2) * 128 ≤ (i 0).val ∧ (i 0).val < win0_6.index t (0 : Fin 2) * 128 + 128; rw [e0]; try rw [htv]
              omega
  | ⟨1, _⟩ => show win0_6.index t (1 : Fin 2) * 1024 ≤ (i 1).val ∧ (i 1).val < win0_6.index t (1 : Fin 2) * 1024 + 1024; rw [e1]; try rw [htv]
              omega

theorem point7 (c : Dev nD) (t : Fin cfg0.N) (r : Fin 128) (j : Fin 1024) (R : Fin 128) (J : Fin 1024)
    (hR : R.val = t.val * 128 + r.val) (hJ : J.val = 0 * 1024 + j.val) :
    out0_7 (iblk m c 0 t) (iblk m c 1 t) (iblk m c 2 t) (iblk m c 3 t) (ix2 r j) = G7 (m ((c : Thread nD τ).loc main_arg0)) (m ((c : Thread nD τ).loc main_arg3)) (ix2 R J) := by
  obtain rfl : J = j := Fin.ext (by omega)
  rw [out7, sum_blk m c t (iblk m c 1 t) (iblk m c 2 t) (iblk m c 3 t) r J R hR, blk3 m c t r J R hR]
  rfl

/-- What a point writes back to result 3 is its block. -/
theorem flushed7_eq (c : Dev nD) (t : Fin cfg0.N) (hf : (cfg0.win 7).flush t = true) :
    (dats m 0 c).flushed 7 t = ((cfg0.win 7).blk t).view.read (Elt Ideal) (G7 (m ((c : Thread nD τ).loc main_arg0)) (m ((c : Thread nD τ).loc main_arg3))) := by
  rw [Value.flushed7]
  obtain ⟨-, -, -, -, -, -, -, -, -, -, -, -, -, -, -, e0, e1⟩ := idx_all t
  funext y
  have ht : t.val < grid0.N := t.isLt
  rw [N_0] at ht
  show out0_7 (iblk m c 0 t) (iblk m c 1 t) (iblk m c 2 t) (iblk m c 3 t) ((cfg0.win 7).xinj (grid0.coords t) y) = G7 (m ((c : Thread nD τ).loc main_arg0)) (m ((c : Thread nD τ).loc main_arg3)) (((cfg0.win 7).blk t).view.emb y)
  rw [eq_ix2 (n0 := 128) (n1 := 1024) ((cfg0.win 7).xinj (grid0.coords t) y), eq_ix2 (n0 := 128) (n1 := 1024) (((cfg0.win 7).blk t).view.emb y)]
  exact point7 m c t _ _ _ _ (by show win0_7.index t (0 : Fin 2) * 128 + 1 * (y 0).val = (t.val) * 128 + (y 0).val; rw [e0]; omega) (by show win0_7.index t (1 : Fin 2) * 1024 + 1 * (y 1).val = (0) * 1024 + (y 1).val; rw [e1]; omega)

/-- Every index of result 3 is in some point's block. -/
theorem cover7 (i : S128x1024.Idx) : ∃ t : Fin cfg0.N, (cfg0.win 7).flush t = true ∧ i ∈ ((cfg0.win 7).blk t).view.set := by
  have hi0 : (i 0).val < 128 := (i 0).isLt
  have hi1 : (i 1).val < 1024 := (i 1).isLt
  let t : Fin cfg0.N := ⟨(i 0).val / 128, by show _ < grid0.N; rw [N_0]; omega⟩
  have htv : t.val = (i 0).val / 128 := rfl
  obtain ⟨-, -, -, -, -, -, -, -, -, -, -, -, -, -, -, e0, e1⟩ := idx_all t
  refine ⟨t, flush0_7 t, ?_⟩
  show i ∈ ((View.whole main_v0_3).slice (win0_7.rect t)).set
  rw [View.set_slice_whole, Rect.mem_set_unit]
  intro a
  match a with
  | ⟨0, _⟩ => show win0_7.index t (0 : Fin 2) * 128 ≤ (i 0).val ∧ (i 0).val < win0_7.index t (0 : Fin 2) * 128 + 128; rw [e0]; try rw [htv]
              omega
  | ⟨1, _⟩ => show win0_7.index t (1 : Fin 2) * 1024 ≤ (i 1).val ∧ (i 1).val < win0_7.index t (1 : Fin 2) * 1024 + 1024; rw [e1]; try rw [htv]
              omega

/-- The run, read: the results, the arguments unchanged. -/
theorem run : θ_run defs (onTc (τ := τ) (main (F := Ideal))) ⟨m, fun _ => 0, ρ⟩ fun r => ∀ c : Dev nD,
      r.2.mem ((c.tc : Thread nD τ).loc main_v0_0) = G4 (m ((c : Thread nD τ).loc main_arg0))
      ∧ r.2.mem ((c.tc : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_2) = G6 (m ((c : Thread nD τ).loc main_arg0)) (m ((c : Thread nD τ).loc main_arg2))
      ∧ r.2.mem ((c.tc : Thread nD τ).loc main_v0_3) = G7 (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((dats m 0 c).arrAt_eq_of_cover 4 _ (fun t hf => flushed4_eq m c t hf) cover4),
      (h c).2.1.trans ((dats m 0 c).arrAt_eq_of_cover 5 _ (fun t hf => flushed5_eq m c t hf) cover5),
      (h c).2.2.1.trans ((dats m 0 c).arrAt_eq_of_cover 6 _ (fun t hf => flushed6_eq m c t hf) cover6),
      (h c).2.2.2.1.trans ((dats m 0 c).arrAt_eq_of_cover 7 _ (fun t hf => flushed7_eq m c t hf) cover7),
      (h c).2.2.2.2⟩)
    (Value.run_blocks m ρ)

end Cert.Kernel13Ideal.Opt

namespace Cert.Reference13Ideal.Opt

open Cert.Reference13Ideal Cert.Reference13Ideal.Facts₀ Idealize.ShloMosaic Idealize.ShloMosaic.TcCoe Idealize.SL.Sem
open scoped BigOperators

variable (a0 : FVec Ideal S8x128x1024 .bf16) (a1 a2 a3 : FVec Ideal S128x1024 .f32)

/-- The sum of the parts. -/
abbrev sm : FVec Ideal S128x1024 .f32 := Host.reduceAdd (extf (F := Ideal) .f32 a0 bitsLt_bf16_f32) (constant S_ .f32 0x00000000#32) reducesTo_S8x128x1024_S128x1024_d0 h_S_

theorem sm_at (r : Fin 128) (j : Fin 1024) : sm a0 (ix2 r j) = Cert.Kernel13Ideal.Opt.gs a0 r j := by
  unfold Cert.Kernel13Ideal.Opt.gs
  pointwise [sm]

theorem ref4 : sm a0 = Cert.Kernel13Ideal.Opt.G4 a0 := by
  have h := sm_at a0
  generalize sm a0 = s at h ⊢
  funext j
  idx_vars j
  show _ = Cert.Kernel13Ideal.Opt.gs a0 j0 j1
  rw [← h]

theorem ref5 : mulf (broadcastInDim S128x1024 ![] bcast_S_S128x1024 (constant S_ .f32 0xBA83126F#32)) (addf (Host.divf (Host.divf (addf (mulf (broadcastInDim S128x1024 ![] bcast_S_S128x1024 (constant S_ .f32 0x3F666666#32)) a2) (mulf (broadcastInDim S128x1024 ![] bcast_S_S128x1024 (constant S_ .f32 0x3DCCCCCD#32)) (sm a0))) (broadcastInDim S128x1024 ![] bcast_S_S128x1024 (constant S_ .f32 0x3F26BD02#32))) (addf (Host.sqrt (Host.divf (addf (mulf (broadcastInDim S128x1024 ![] bcast_S_S128x1024 (constant S_ .f32 0x3F7FBE77#32)) a3) (mulf (broadcastInDim S128x1024 ![] bcast_S_S128x1024 (constant S_ .f32 0x3A83126F#32)) (mulf (sm a0) (sm a0)))) (broadcastInDim S128x1024 ![] bcast_S_S128x1024 (constant S_ .f32 0x3C231ACC#32)))) (broadcastInDim S128x1024 ![] bcast_S_S128x1024 (constant S_ .f32 0x322BCC77#32)))) (mulf (broadcastInDim S128x1024 ![] bcast_S_S128x1024 (constant S_ .f32 0x3C23D70A#32)) a1)) = Cert.Kernel13Ideal.Opt.G5 a0 a1 a2 a3 := by
  have h := sm_at a0
  generalize sm a0 = s at h ⊢
  funext j
  idx_vars j
  show _ = Cert.Adam.delta (a1 (ix2 j0 j1)) (Cert.Kernel13Ideal.Opt.gs a0 j0 j1) (a2 (ix2 j0 j1)) (a3 (ix2 j0 j1))
  rw [← h]
  pointwise
  rfl

theorem ref6 : addf (mulf (broadcastInDim S128x1024 ![] bcast_S_S128x1024 (constant S_ .f32 0x3F666666#32)) a2) (mulf (broadcastInDim S128x1024 ![] bcast_S_S128x1024 (constant S_ .f32 0x3DCCCCCD#32)) (sm a0)) = Cert.Kernel13Ideal.Opt.G6 a0 a2 := by
  have h := sm_at a0
  generalize sm a0 = s at h ⊢
  funext j
  idx_vars j
  show _ = Cert.Adam.nm (Cert.Kernel13Ideal.Opt.gs a0 j0 j1) (a2 (ix2 j0 j1))
  rw [← h]
  pointwise
  rfl

theorem ref7 : addf (mulf (broadcastInDim S128x1024 ![] bcast_S_S128x1024 (constant S_ .f32 0x3F7FBE77#32)) a3) (mulf (broadcastInDim S128x1024 ![] bcast_S_S128x1024 (constant S_ .f32 0x3A83126F#32)) (mulf (sm a0) (sm a0))) = Cert.Kernel13Ideal.Opt.G7 a0 a3 := by
  have h := sm_at a0
  generalize sm a0 = s at h ⊢
  funext j
  idx_vars j
  show _ = Cert.Adam.nv (Cert.Kernel13Ideal.Opt.gs a0 j0 j1) (a3 (ix2 j0 j1))
  rw [← h]
  pointwise
  rfl

end Cert.Reference13Ideal.Opt

end
-- ==== Proof.OptDown.lean ====
/- The optimiser's step of the weight of the last product: the sum of the devices' parts of its gradient, and the step. -/
module

public import proofs.«01_k».proof.Proof.Gen.Kernel14Ideal.Value
public import proofs.«01_k».proof.Proof.Gen.Reference14Ideal.Run
public import Idealize.ShloMosaic.Lib.Pointwise
public import Idealize.ShloMosaic.Lib.Pipeline.Value
public import proofs.«01_k».proof.Proof.Adam

@[expose] public section

set_option maxRecDepth 16384

noncomputable section

namespace Cert.Kernel14Ideal.Opt

open Cert.Kernel14Ideal Cert.Kernel14Ideal.Gen Idealize.ShloMosaic Idealize.ShloMosaic.TcCoe Idealize.SL.Sem
open Idealize.ShloMosaic.Pipeline (Dat)
open Idealize.ShloMosaic.StableHlo
open scoped BigOperators

variable (m : (ℓ : Loc nD τ sig) → Buf (Elt Ideal) ℓ) (ρ : Dev nD → PrngReg)

theorem hz2 : (![0, 0] : Fin 2 → Nat) = fun _ => 0 := funext fun a => by fin_cases a <;> rfl

/-- The sum of the devices' parts. -/
def gs (p : FVec Ideal S8x352x1024 .bf16) (r : Fin 352) (j : Fin 1024) : EReal := ∑ d : Fin 8, (p (ix3 d r j) : EReal)

/-- The gradient, the change, and the new moments. -/
def G4 (p : FVec Ideal S8x352x1024 .bf16) : FVec Ideal S352x1024 .f32 := fun i => gs p (i 0) (i 1)

def G5 (p : FVec Ideal S8x352x1024 .bf16) (w a b : FVec Ideal S352x1024 .f32) : FVec Ideal S352x1024 .f32 := fun i =>
  Cert.Adam.delta (w (ix2 (i 0) (i 1))) (gs p (i 0) (i 1)) (a (ix2 (i 0) (i 1))) (b (ix2 (i 0) (i 1)))

def G6 (p : FVec Ideal S8x352x1024 .bf16) (a : FVec Ideal S352x1024 .f32) : FVec Ideal S352x1024 .f32 := fun i => Cert.Adam.nm (gs p (i 0) (i 1)) (a (ix2 (i 0) (i 1)))

def G7 (p : FVec Ideal S8x352x1024 .bf16) (b : FVec Ideal S352x1024 .f32) : FVec Ideal S352x1024 .f32 := fun i => Cert.Adam.nv (gs p (i 0) (i 1)) (b (ix2 (i 0) (i 1)))

/-- The index maps, over the grid. -/
theorem idx_all : ∀ t : Fin cfg0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- The block of the parts at a point. -/
theorem blk0 (c : Dev nD) (t : Fin cfg0.N) (d : Fin 8) (r : Fin 176) (k : Fin 1024) (R : Fin 352) (hR : R.val = t.val * 176 + r.val) :
    (iblk m c 0 t : Vec Ideal S8x176x1024 .bf16) (ix3 d r k) = ((m ((c : Thread nD τ).loc main_arg0)) : Vec Ideal S8x352x1024 .bf16) (ix3 d R k) := by
  obtain ⟨e0, e1, e2, -⟩ := idx_all t
  rw [← V_main_arg0 m c]
  show (V m c main_arg0 : Vec Ideal S8x352x1024 .bf16) (((cfg0.win 0).blk t).view.emb (ix3 d r k)) = _
  refine congrArg _ (funext fun a => Fin.ext ?_)
  match a with
  | ⟨0, _⟩ => show win0_0.index t (0 : Fin 3) * 8 + 1 * d.val = d.val; rw [e0]; omega
  | ⟨1, _⟩ => show win0_0.index t (1 : Fin 3) * 176 + 1 * r.val = R.val; rw [e1, hR]; omega
  | ⟨2, _⟩ => show win0_0.index t (2 : Fin 3) * 1024 + 1 * k.val = k.val; rw [e2]; omega

theorem blk1 (c : Dev nD) (t : Fin cfg0.N) (r : Fin 176) (k : Fin 1024) (R : Fin 352) (hR : R.val = t.val * 176 + r.val) :
    (iblk m c 1 t : Vec Ideal S176x1024 .f32) (ix2 r k) = ((m ((c : Thread nD τ).loc main_arg1)) : Vec Ideal S352x1024 .f32) (ix2 R k) := by
  obtain ⟨-, -, -, e0, e1, -⟩ := idx_all t
  have h : (iblk m c 1 t : Vec Ideal S176x1024 .f32) (ix2 r k) = (V m c main_arg1 : Vec Ideal S352x1024 .f32) (ix2 R k) := by
    show (V m c main_arg1 : Vec Ideal S352x1024 .f32) (((cfg0.win 1).blk t).view.emb (ix2 r k)) = _
    refine congrArg _ (funext fun a => Fin.ext ?_)
    match a with
    | ⟨0, _⟩ => show win0_1.index t (0 : Fin 2) * 176 + 1 * r.val = R.val; rw [e0, hR]; omega
    | ⟨1, _⟩ => show win0_1.index t (1 : Fin 2) * 1024 + 1 * k.val = k.val; rw [e1]; omega
  rw [h, V_main_arg1]

theorem blk2 (c : Dev nD) (t : Fin cfg0.N) (r : Fin 176) (k : Fin 1024) (R : Fin 352) (hR : R.val = t.val * 176 + r.val) :
    (iblk m c 2 t : Vec Ideal S176x1024 .f32) (ix2 r k) = ((m ((c : Thread nD τ).loc main_arg2)) : Vec Ideal S352x1024 .f32) (ix2 R k) := by
  obtain ⟨-, -, -, -, -, e0, e1, -⟩ := idx_all t
  have h : (iblk m c 2 t : Vec Ideal S176x1024 .f32) (ix2 r k) = (V m c main_arg2 : Vec Ideal S352x1024 .f32) (ix2 R k) := by
    show (V m c main_arg2 : Vec Ideal S352x1024 .f32) (((cfg0.win 2).blk t).view.emb (ix2 r k)) = _
    refine congrArg _ (funext fun a => Fin.ext ?_)
    match a with
    | ⟨0, _⟩ => show win0_2.index t (0 : Fin 2) * 176 + 1 * r.val = R.val; rw [e0, hR]; omega
    | ⟨1, _⟩ => show win0_2.index t (1 : Fin 2) * 1024 + 1 * k.val = k.val; rw [e1]; omega
  rw [h, V_main_arg2]

theorem blk3 (c : Dev nD) (t : Fin cfg0.N) (r : Fin 176) (k : Fin 1024) (R : Fin 352) (hR : R.val = t.val * 176 + r.val) :
    (iblk m c 3 t : Vec Ideal S176x1024 .f32) (ix2 r k) = ((m ((c : Thread nD τ).loc main_arg3)) : Vec Ideal S352x1024 .f32) (ix2 R k) := by
  obtain ⟨-, -, -, -, -, -, -, e0, e1, -⟩ := idx_all t
  have h : (iblk m c 3 t : Vec Ideal S176x1024 .f32) (ix2 r k) = (V m c main_arg3 : Vec Ideal S352x1024 .f32) (ix2 R k) := by
    show (V m c main_arg3 : Vec Ideal S352x1024 .f32) (((cfg0.win 3).blk t).view.emb (ix2 r k)) = _
    refine congrArg _ (funext fun a => Fin.ext ?_)
    match a with
    | ⟨0, _⟩ => show win0_3.index t (0 : Fin 2) * 176 + 1 * r.val = R.val; rw [e0, hR]; omega
    | ⟨1, _⟩ => show win0_3.index t (1 : Fin 2) * 1024 + 1 * k.val = k.val; rw [e1]; omega
  rw [h, V_main_arg3]

/-- The sum in the body. -/
theorem pay6 (x0 : Vec Ideal S8x176x1024 .bf16) (x1 x2 x3 : Vec Ideal S176x1024 .f32) (r : Fin 176) (j : Fin 1024) : k0_pay5 x0 x1 x2 x3 (ix2 r j) = ∑ d : Fin 8, (x0 (ix3 d r j) : EReal) := by
  rw [Fin.sum_univ_eight]
  pointwise [k0_pay5, k0_pay4]

theorem out4 (x0 : Vec Ideal S8x176x1024 .bf16) (x1 x2 x3 : Vec Ideal S176x1024 .f32) (r : Fin 176) (j : Fin 1024) : out0_4 x0 x1 x2 x3 (ix2 r j) = k0_pay5 x0 x1 x2 x3 (ix2 r j) := by
  unfold out0_4
  rw [View.canon_unit_zero hz2]

theorem out5 (x0 : Vec Ideal S8x176x1024 .bf16) (x1 x2 x3 : Vec Ideal S176x1024 .f32) (r : Fin 176) (j : Fin 1024) : out0_5 x0 x1 x2 x3 (ix2 r j) = Cert.Adam.delta (x1 (ix2 r j)) (k0_pay5 x0 x1 x2 x3 (ix2 r j)) (x2 (ix2 r j)) (x3 (ix2 r j)) := by
  unfold out0_5
  rw [View.canon_unit_zero hz2, View.ld_unit_zero hz2, View.ld_unit_zero hz2, View.ld_unit_zero hz2]
  generalize k0_pay5 x0 x1 x2 x3 = s
  pointwise [k0_pay3, k0_pay2, k0_pay1]
  rfl

theorem out6 (x0 : Vec Ideal S8x176x1024 .bf16) (x1 x2 x3 : Vec Ideal S176x1024 .f32) (r : Fin 176) (j : Fin 1024) : out0_6 x0 x1 x2 x3 (ix2 r j) = Cert.Adam.nm (k0_pay5 x0 x1 x2 x3 (ix2 r j)) (x2 (ix2 r j)) := by
  unfold out0_6
  rw [View.canon_unit_zero hz2, View.ld_unit_zero hz2]
  generalize k0_pay5 x0 x1 x2 x3 = s
  pointwise [k0_pay1]
  rfl

theorem out7 (x0 : Vec Ideal S8x176x1024 .bf16) (x1 x2 x3 : Vec Ideal S176x1024 .f32) (r : Fin 176) (j : Fin 1024) : out0_7 x0 x1 x2 x3 (ix2 r j) = Cert.Adam.nv (k0_pay5 x0 x1 x2 x3 (ix2 r j)) (x3 (ix2 r j)) := by
  unfold out0_7
  rw [View.canon_unit_zero hz2, View.ld_unit_zero hz2]
  generalize k0_pay5 x0 x1 x2 x3 = s
  pointwise [k0_pay2]
  rfl

theorem sum_blk (c : Dev nD) (t : Fin cfg0.N) (x1 x2 x3 : Vec Ideal S176x1024 .f32) (r : Fin 176) (j : Fin 1024) (R : Fin 352) (hR : R.val = t.val * 176 + r.val) :
    k0_pay5 (iblk m c 0 t) x1 x2 x3 (ix2 r j) = gs (m ((c : Thread nD τ).loc main_arg0)) R j :=
  (pay6 _ _ _ _ r j).trans (Finset.sum_congr rfl fun d _ => blk0 m c t d r j R hR)

theorem point4 (c : Dev nD) (t : Fin cfg0.N) (r : Fin 176) (j : Fin 1024) (R : Fin 352) (J : Fin 1024)
    (hR : R.val = t.val * 176 + r.val) (hJ : J.val = 0 * 1024 + j.val) :
    out0_4 (iblk m c 0 t) (iblk m c 1 t) (iblk m c 2 t) (iblk m c 3 t) (ix2 r j) = G4 (m ((c : Thread nD τ).loc main_arg0)) (ix2 R J) := by
  obtain rfl : J = j := Fin.ext (by omega)
  rw [out4, sum_blk m c t (iblk m c 1 t) (iblk m c 2 t) (iblk m c 3 t) r J R hR]
  rfl

/-- What a point writes back to result 0 is its block. -/
theorem flushed4_eq (c : Dev nD) (t : Fin cfg0.N) (hf : (cfg0.win 4).flush t = true) :
    (dats m 0 c).flushed 4 t = ((cfg0.win 4).blk t).view.read (Elt Ideal) (G4 (m ((c : Thread nD τ).loc main_arg0))) := by
  rw [Value.flushed4]
  obtain ⟨-, -, -, -, -, -, -, -, -, e0, e1, -⟩ := idx_all t
  funext y
  have ht : t.val < grid0.N := t.isLt
  rw [N_0] at ht
  show out0_4 (iblk m c 0 t) (iblk m c 1 t) (iblk m c 2 t) (iblk m c 3 t) ((cfg0.win 4).xinj (grid0.coords t) y) = G4 (m ((c : Thread nD τ).loc main_arg0)) (((cfg0.win 4).blk t).view.emb y)
  rw [eq_ix2 (n0 := 176) (n1 := 1024) ((cfg0.win 4).xinj (grid0.coords t) y), eq_ix2 (n0 := 352) (n1 := 1024) (((cfg0.win 4).blk t).view.emb y)]
  exact point4 m c t _ _ _ _ (by show win0_4.index t (0 : Fin 2) * 176 + 1 * (y 0).val = (t.val) * 176 + (y 0).val; rw [e0]; omega) (by show win0_4.index t (1 : Fin 2) * 1024 + 1 * (y 1).val = (0) * 1024 + (y 1).val; rw [e1]; omega)

/-- Every index of result 0 is in some point's block. -/
theorem cover4 (i : S352x1024.Idx) : ∃ t : Fin cfg0.N, (cfg0.win 4).flush t = true ∧ i ∈ ((cfg0.win 4).blk t).view.set := by
  have hi0 : (i 0).val < 352 := (i 0).isLt
  have hi1 : (i 1).val < 1024 := (i 1).isLt
  let t : Fin cfg0.N := ⟨(i 0).val / 176, by show _ < grid0.N; rw [N_0]; omega⟩
  have htv : t.val = (i 0).val / 176 := rfl
  obtain ⟨-, -, -, -, -, -, -, -, -, e0, e1, -⟩ := idx_all t
  refine ⟨t, flush0_4 t, ?_⟩
  show i ∈ ((View.whole main_v0_0).slice (win0_4.rect t)).set
  rw [View.set_slice_whole, Rect.mem_set_unit]
  intro a
  match a with
  | ⟨0, _⟩ => show win0_4.index t (0 : Fin 2) * 176 ≤ (i 0).val ∧ (i 0).val < win0_4.index t (0 : Fin 2) * 176 + 176; rw [e0]; try rw [htv]
              omega
  | ⟨1, _⟩ => show win0_4.index t (1 : Fin 2) * 1024 ≤ (i 1).val ∧ (i 1).val < win0_4.index t (1 : Fin 2) * 1024 + 1024; rw [e1]; try rw [htv]
              omega

theorem point5 (c : Dev nD) (t : Fin cfg0.N) (r : Fin 176) (j : Fin 1024) (R : Fin 352) (J : Fin 1024)
    (hR : R.val = t.val * 176 + r.val) (hJ : J.val = 0 * 1024 + j.val) :
    out0_5 (iblk m c 0 t) (iblk m c 1 t) (iblk m c 2 t) (iblk m c 3 t) (ix2 r j) = G5 (m ((c : Thread nD τ).loc main_arg0)) (m ((c : Thread nD τ).loc main_arg1)) (m ((c : Thread nD τ).loc main_arg2)) (m ((c : Thread nD τ).loc main_arg3)) (ix2 R J) := by
  obtain rfl : J = j := Fin.ext (by omega)
  rw [out5, sum_blk m c t (iblk m c 1 t) (iblk m c 2 t) (iblk m c 3 t) r J R hR, blk1 m c t r J R hR, blk2 m c t r J R hR, blk3 m c t r J R hR]
  rfl

/-- What a point writes back to result 1 is its block. -/
theorem flushed5_eq (c : Dev nD) (t : Fin cfg0.N) (hf : (cfg0.win 5).flush t = true) :
    (dats m 0 c).flushed 5 t = ((cfg0.win 5).blk t).view.read (Elt Ideal) (G5 (m ((c : Thread nD τ).loc main_arg0)) (m ((c : Thread nD τ).loc main_arg1)) (m ((c : Thread nD τ).loc main_arg2)) (m ((c : Thread nD τ).loc main_arg3))) := by
  rw [Value.flushed5]
  obtain ⟨-, -, -, -, -, -, -, -, -, -, -, e0, e1, -⟩ := idx_all t
  funext y
  have ht : t.val < grid0.N := t.isLt
  rw [N_0] at ht
  show out0_5 (iblk m c 0 t) (iblk m c 1 t) (iblk m c 2 t) (iblk m c 3 t) ((cfg0.win 5).xinj (grid0.coords t) y) = G5 (m ((c : Thread nD τ).loc main_arg0)) (m ((c : Thread nD τ).loc main_arg1)) (m ((c : Thread nD τ).loc main_arg2)) (m ((c : Thread nD τ).loc main_arg3)) (((cfg0.win 5).blk t).view.emb y)
  rw [eq_ix2 (n0 := 176) (n1 := 1024) ((cfg0.win 5).xinj (grid0.coords t) y), eq_ix2 (n0 := 352) (n1 := 1024) (((cfg0.win 5).blk t).view.emb y)]
  exact point5 m c t _ _ _ _ (by show win0_5.index t (0 : Fin 2) * 176 + 1 * (y 0).val = (t.val) * 176 + (y 0).val; rw [e0]; omega) (by show win0_5.index t (1 : Fin 2) * 1024 + 1 * (y 1).val = (0) * 1024 + (y 1).val; rw [e1]; omega)

/-- Every index of result 1 is in some point's block. -/
theorem cover5 (i : S352x1024.Idx) : ∃ t : Fin cfg0.N, (cfg0.win 5).flush t = true ∧ i ∈ ((cfg0.win 5).blk t).view.set := by
  have hi0 : (i 0).val < 352 := (i 0).isLt
  have hi1 : (i 1).val < 1024 := (i 1).isLt
  let t : Fin cfg0.N := ⟨(i 0).val / 176, by show _ < grid0.N; rw [N_0]; omega⟩
  have htv : t.val = (i 0).val / 176 := rfl
  obtain ⟨-, -, -, -, -, -, -, -, -, -, -, e0, e1, -⟩ := idx_all t
  refine ⟨t, flush0_5 t, ?_⟩
  show i ∈ ((View.whole main_v0_1).slice (win0_5.rect t)).set
  rw [View.set_slice_whole, Rect.mem_set_unit]
  intro a
  match a with
  | ⟨0, _⟩ => show win0_5.index t (0 : Fin 2) * 176 ≤ (i 0).val ∧ (i 0).val < win0_5.index t (0 : Fin 2) * 176 + 176; rw [e0]; try rw [htv]
              omega
  | ⟨1, _⟩ => show win0_5.index t (1 : Fin 2) * 1024 ≤ (i 1).val ∧ (i 1).val < win0_5.index t (1 : Fin 2) * 1024 + 1024; rw [e1]; try rw [htv]
              omega

theorem point6 (c : Dev nD) (t : Fin cfg0.N) (r : Fin 176) (j : Fin 1024) (R : Fin 352) (J : Fin 1024)
    (hR : R.val = t.val * 176 + r.val) (hJ : J.val = 0 * 1024 + j.val) :
    out0_6 (iblk m c 0 t) (iblk m c 1 t) (iblk m c 2 t) (iblk m c 3 t) (ix2 r j) = G6 (m ((c : Thread nD τ).loc main_arg0)) (m ((c : Thread nD τ).loc main_arg2)) (ix2 R J) := by
  obtain rfl : J = j := Fin.ext (by omega)
  rw [out6, sum_blk m c t (iblk m c 1 t) (iblk m c 2 t) (iblk m c 3 t) r J R hR, blk2 m c t r J R hR]
  rfl

/-- What a point writes back to result 2 is its block. -/
theorem flushed6_eq (c : Dev nD) (t : Fin cfg0.N) (hf : (cfg0.win 6).flush t = true) :
    (dats m 0 c).flushed 6 t = ((cfg0.win 6).blk t).view.read (Elt Ideal) (G6 (m ((c : Thread nD τ).loc main_arg0)) (m ((c : Thread nD τ).loc main_arg2))) := by
  rw [Value.flushed6]
  obtain ⟨-, -, -, -, -, -, -, -, -, -, -, -, -, e0, e1, -⟩ := idx_all t
  funext y
  have ht : t.val < grid0.N := t.isLt
  rw [N_0] at ht
  show out0_6 (iblk m c 0 t) (iblk m c 1 t) (iblk m c 2 t) (iblk m c 3 t) ((cfg0.win 6).xinj (grid0.coords t) y) = G6 (m ((c : Thread nD τ).loc main_arg0)) (m ((c : Thread nD τ).loc main_arg2)) (((cfg0.win 6).blk t).view.emb y)
  rw [eq_ix2 (n0 := 176) (n1 := 1024) ((cfg0.win 6).xinj (grid0.coords t) y), eq_ix2 (n0 := 352) (n1 := 1024) (((cfg0.win 6).blk t).view.emb y)]
  exact point6 m c t _ _ _ _ (by show win0_6.index t (0 : Fin 2) * 176 + 1 * (y 0).val = (t.val) * 176 + (y 0).val; rw [e0]; omega) (by show win0_6.index t (1 : Fin 2) * 1024 + 1 * (y 1).val = (0) * 1024 + (y 1).val; rw [e1]; omega)

/-- Every index of result 2 is in some point's block. -/
theorem cover6 (i : S352x1024.Idx) : ∃ t : Fin cfg0.N, (cfg0.win 6).flush t = true ∧ i ∈ ((cfg0.win 6).blk t).view.set := by
  have hi0 : (i 0).val < 352 := (i 0).isLt
  have hi1 : (i 1).val < 1024 := (i 1).isLt
  let t : Fin cfg0.N := ⟨(i 0).val / 176, by show _ < grid0.N; rw [N_0]; omega⟩
  have htv : t.val = (i 0).val / 176 := rfl
  obtain ⟨-, -, -, -, -, -, -, -, -, -, -, -, -, e0, e1, -⟩ := idx_all t
  refine ⟨t, flush0_6 t, ?_⟩
  show i ∈ ((View.whole main_v0_2).slice (win0_6.rect t)).set
  rw [View.set_slice_whole, Rect.mem_set_unit]
  intro a
  match a with
  | ⟨0, _⟩ => show win0_6.index t (0 : Fin 2) * 176 ≤ (i 0).val ∧ (i 0).val < win0_6.index t (0 : Fin 2) * 176 + 176; rw [e0]; try rw [htv]
              omega
  | ⟨1, _⟩ => show win0_6.index t (1 : Fin 2) * 1024 ≤ (i 1).val ∧ (i 1).val < win0_6.index t (1 : Fin 2) * 1024 + 1024; rw [e1]; try rw [htv]
              omega

theorem point7 (c : Dev nD) (t : Fin cfg0.N) (r : Fin 176) (j : Fin 1024) (R : Fin 352) (J : Fin 1024)
    (hR : R.val = t.val * 176 + r.val) (hJ : J.val = 0 * 1024 + j.val) :
    out0_7 (iblk m c 0 t) (iblk m c 1 t) (iblk m c 2 t) (iblk m c 3 t) (ix2 r j) = G7 (m ((c : Thread nD τ).loc main_arg0)) (m ((c : Thread nD τ).loc main_arg3)) (ix2 R J) := by
  obtain rfl : J = j := Fin.ext (by omega)
  rw [out7, sum_blk m c t (iblk m c 1 t) (iblk m c 2 t) (iblk m c 3 t) r J R hR, blk3 m c t r J R hR]
  rfl

/-- What a point writes back to result 3 is its block. -/
theorem flushed7_eq (c : Dev nD) (t : Fin cfg0.N) (hf : (cfg0.win 7).flush t = true) :
    (dats m 0 c).flushed 7 t = ((cfg0.win 7).blk t).view.read (Elt Ideal) (G7 (m ((c : Thread nD τ).loc main_arg0)) (m ((c : Thread nD τ).loc main_arg3))) := by
  rw [Value.flushed7]
  obtain ⟨-, -, -, -, -, -, -, -, -, -, -, -, -, -, -, e0, e1⟩ := idx_all t
  funext y
  have ht : t.val < grid0.N := t.isLt
  rw [N_0] at ht
  show out0_7 (iblk m c 0 t) (iblk m c 1 t) (iblk m c 2 t) (iblk m c 3 t) ((cfg0.win 7).xinj (grid0.coords t) y) = G7 (m ((c : Thread nD τ).loc main_arg0)) (m ((c : Thread nD τ).loc main_arg3)) (((cfg0.win 7).blk t).view.emb y)
  rw [eq_ix2 (n0 := 176) (n1 := 1024) ((cfg0.win 7).xinj (grid0.coords t) y), eq_ix2 (n0 := 352) (n1 := 1024) (((cfg0.win 7).blk t).view.emb y)]
  exact point7 m c t _ _ _ _ (by show win0_7.index t (0 : Fin 2) * 176 + 1 * (y 0).val = (t.val) * 176 + (y 0).val; rw [e0]; omega) (by show win0_7.index t (1 : Fin 2) * 1024 + 1 * (y 1).val = (0) * 1024 + (y 1).val; rw [e1]; omega)

/-- Every index of result 3 is in some point's block. -/
theorem cover7 (i : S352x1024.Idx) : ∃ t : Fin cfg0.N, (cfg0.win 7).flush t = true ∧ i ∈ ((cfg0.win 7).blk t).view.set := by
  have hi0 : (i 0).val < 352 := (i 0).isLt
  have hi1 : (i 1).val < 1024 := (i 1).isLt
  let t : Fin cfg0.N := ⟨(i 0).val / 176, by show _ < grid0.N; rw [N_0]; omega⟩
  have htv : t.val = (i 0).val / 176 := rfl
  obtain ⟨-, -, -, -, -, -, -, -, -, -, -, -, -, -, -, e0, e1⟩ := idx_all t
  refine ⟨t, flush0_7 t, ?_⟩
  show i ∈ ((View.whole main_v0_3).slice (win0_7.rect t)).set
  rw [View.set_slice_whole, Rect.mem_set_unit]
  intro a
  match a with
  | ⟨0, _⟩ => show win0_7.index t (0 : Fin 2) * 176 ≤ (i 0).val ∧ (i 0).val < win0_7.index t (0 : Fin 2) * 176 + 176; rw [e0]; try rw [htv]
              omega
  | ⟨1, _⟩ => show win0_7.index t (1 : Fin 2) * 1024 ≤ (i 1).val ∧ (i 1).val < win0_7.index t (1 : Fin 2) * 1024 + 1024; rw [e1]; try rw [htv]
              omega

/-- The run, read: the results, the arguments unchanged. -/
theorem run : θ_run defs (onTc (τ := τ) (main (F := Ideal))) ⟨m, fun _ => 0, ρ⟩ fun r => ∀ c : Dev nD,
      r.2.mem ((c.tc : Thread nD τ).loc main_v0_0) = G4 (m ((c : Thread nD τ).loc main_arg0))
      ∧ r.2.mem ((c.tc : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c.tc : Thread nD τ).loc main_v0_2) = G6 (m ((c : Thread nD τ).loc main_arg0)) (m ((c : Thread nD τ).loc main_arg2))
      ∧ r.2.mem ((c.tc : Thread nD τ).loc main_v0_3) = G7 (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).1.trans ((dats m 0 c).arrAt_eq_of_cover 4 _ (fun t hf => flushed4_eq m c t hf) cover4),
      (h c).2.1.trans ((dats m 0 c).arrAt_eq_of_cover 5 _ (fun t hf => flushed5_eq m c t hf) cover5),
      (h c).2.2.1.trans ((dats m 0 c).arrAt_eq_of_cover 6 _ (fun t hf => flushed6_eq m c t hf) cover6),
      (h c).2.2.2.1.trans ((dats m 0 c).arrAt_eq_of_cover 7 _ (fun t hf => flushed7_eq m c t hf) cover7),
      (h c).2.2.2.2⟩)
    (Value.run_blocks m ρ)

end Cert.Kernel14Ideal.Opt

namespace Cert.Reference14Ideal.Opt

open Cert.Reference14Ideal Cert.Reference14Ideal.Facts₀ Idealize.ShloMosaic Idealize.ShloMosaic.TcCoe Idealize.SL.Sem
open scoped BigOperators

variable (a0 : FVec Ideal S8x352x1024 .bf16) (a1 a2 a3 : FVec Ideal S352x1024 .f32)

/-- The sum of the parts. -/
abbrev sm : FVec Ideal S352x1024 .f32 := Host.reduceAdd (extf (F := Ideal) .f32 a0 bitsLt_bf16_f32) (constant S_ .f32 0x00000000#32) reducesTo_S8x352x1024_S352x1024_d0 h_S_

theorem sm_at (r : Fin 352) (j : Fin 1024) : sm a0 (ix2 r j) = Cert.Kernel14Ideal.Opt.gs a0 r j := by
  unfold Cert.Kernel14Ideal.Opt.gs
  pointwise [sm]

theorem ref4 : sm a0 = Cert.Kernel14Ideal.Opt.G4 a0 := by
  have h := sm_at a0
  generalize sm a0 = s at h ⊢
  funext j
  idx_vars j
  show _ = Cert.Kernel14Ideal.Opt.gs a0 j0 j1
  rw [← h]

theorem ref5 : mulf (broadcastInDim S352x1024 ![] bcast_S_S352x1024 (constant S_ .f32 0xBA83126F#32)) (addf (Host.divf (Host.divf (addf (mulf (broadcastInDim S352x1024 ![] bcast_S_S352x1024 (constant S_ .f32 0x3F666666#32)) a2) (mulf (broadcastInDim S352x1024 ![] bcast_S_S352x1024 (constant S_ .f32 0x3DCCCCCD#32)) (sm a0))) (broadcastInDim S352x1024 ![] bcast_S_S352x1024 (constant S_ .f32 0x3F26BD02#32))) (addf (Host.sqrt (Host.divf (addf (mulf (broadcastInDim S352x1024 ![] bcast_S_S352x1024 (constant S_ .f32 0x3F7FBE77#32)) a3) (mulf (broadcastInDim S352x1024 ![] bcast_S_S352x1024 (constant S_ .f32 0x3A83126F#32)) (mulf (sm a0) (sm a0)))) (broadcastInDim S352x1024 ![] bcast_S_S352x1024 (constant S_ .f32 0x3C231ACC#32)))) (broadcastInDim S352x1024 ![] bcast_S_S352x1024 (constant S_ .f32 0x322BCC77#32)))) (mulf (broadcastInDim S352x1024 ![] bcast_S_S352x1024 (constant S_ .f32 0x3C23D70A#32)) a1)) = Cert.Kernel14Ideal.Opt.G5 a0 a1 a2 a3 := by
  have h := sm_at a0
  generalize sm a0 = s at h ⊢
  funext j
  idx_vars j
  show _ = Cert.Adam.delta (a1 (ix2 j0 j1)) (Cert.Kernel14Ideal.Opt.gs a0 j0 j1) (a2 (ix2 j0 j1)) (a3 (ix2 j0 j1))
  rw [← h]
  pointwise
  rfl

theorem ref6 : addf (mulf (broadcastInDim S352x1024 ![] bcast_S_S352x1024 (constant S_ .f32 0x3F666666#32)) a2) (mulf (broadcastInDim S352x1024 ![] bcast_S_S352x1024 (constant S_ .f32 0x3DCCCCCD#32)) (sm a0)) = Cert.Kernel14Ideal.Opt.G6 a0 a2 := by
  have h := sm_at a0
  generalize sm a0 = s at h ⊢
  funext j
  idx_vars j
  show _ = Cert.Adam.nm (Cert.Kernel14Ideal.Opt.gs a0 j0 j1) (a2 (ix2 j0 j1))
  rw [← h]
  pointwise
  rfl

theorem ref7 : addf (mulf (broadcastInDim S352x1024 ![] bcast_S_S352x1024 (constant S_ .f32 0x3F7FBE77#32)) a3) (mulf (broadcastInDim S352x1024 ![] bcast_S_S352x1024 (constant S_ .f32 0x3A83126F#32)) (mulf (sm a0) (sm a0))) = Cert.Kernel14Ideal.Opt.G7 a0 a3 := by
  have h := sm_at a0
  generalize sm a0 = s at h ⊢
  funext j
  idx_vars j
  show _ = Cert.Adam.nv (Cert.Kernel14Ideal.Opt.gs a0 j0 j1) (a3 (ix2 j0 j1))
  rw [← h]
  pointwise
  rfl

end Cert.Reference14Ideal.Opt

end
-- ==== Proof.Small.Run.lean ====
/- The run of the body of the small parameters' step, at a point of the grid. -/
module

public import proofs.«01_k».proof.Proof.Gen.Kernel15Ideal.Frame.Runs

@[expose] public section

set_option maxRecDepth 16384

noncomputable section

namespace Cert.Kernel15Ideal.Small

open Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- What the body's stores leave in each output, as pieces (last first), and the body's triple with them. -/
noncomputable def kernelRun0_A (c : Dev nD) (i : grid0.Coords) (arg1 : Memref sig .tc .vmem S8x1024 .f32) (harg1 : arg1.IsWhole) (arg2 : Memref sig .tc .vmem S1x1024 .f32) (harg2 : arg2.IsWhole) (arg3 : Memref sig .tc .vmem S2x512 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1x1024 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S2x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S2x512 .f32) (harg15 : arg15.IsWhole) (arg16 : Memref sig .tc .vmem S1x512 .f32) (harg16 : arg16.IsWhole) (arg17 : Memref sig .tc .vmem S1x512 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S2x512 .f32) (harg21 : arg21.IsWhole) (arg22 : Memref sig .tc .vmem S1x512 .f32) (harg22 : arg22.IsWhole) (arg23 : Memref sig .tc .vmem S1x512 .f32) (harg23 : arg23.IsWhole) (arg24 : Memref sig .tc .vmem S1x1024 .f32) (harg24 : arg24.IsWhole) (arg25 : Memref sig .tc .vmem S1x1024 .f32) (harg25 : arg25.IsWhole) (arg26 : Memref sig .tc .vmem S1x1024 .f32) (harg26 : arg26.IsWhole) (arg27 : Memref sig .tc .vmem S2x512 .f32) (harg27 : arg27.IsWhole) (arg28 : Memref sig .tc .vmem S1x512 .f32) (harg28 : arg28.IsWhole) (arg29 : Memref sig .tc .vmem S1x512 .f32) (harg29 : arg29.IsWhole) (arg30 : Memref sig .tc .vmem S1x1024 .f32) (harg30 : arg30.IsWhole) (arg31 : Memref sig .tc .vmem S1x1024 .f32) (harg31 : arg31.IsWhole) (arg32 : Memref sig .tc .vmem S1x1024 .f32) (harg32 : arg32.IsWhole) (arg33 : Memref sig .tc .vmem S2x512 .f32) (harg33 : arg33.IsWhole) (arg34 : Memref sig .tc .vmem S1x512 .f32) (harg34 : arg34.IsWhole) (arg35 : Memref sig .tc .vmem S1x512 .f32) (harg35 : arg35.IsWhole) (arg36 : Memref sig .tc .vmem S1x1024 .f32) (harg36 : arg36.IsWhole) (arg37 : Memref sig .tc .vmem S1x1024 .f32) (harg37 : arg37.IsWhole) (arg38 : Memref sig .tc .vmem S1x1024 .f32) (harg38 : arg38.IsWhole) (arg39 : Memref sig .tc .vmem S2x512 .f32) (harg39 : arg39.IsWhole) (arg40 : Memref sig .tc .vmem S1x512 .f32) (harg40 : arg40.IsWhole) (arg41 : Memref sig .tc .vmem S1x512 .f32) (harg41 : arg41.IsWhole) (arg42 : Memref sig .tc .vmem S1x1024 .f32) (harg42 : arg42.IsWhole) (arg43 : Memref sig .tc .vmem S1x1024 .f32) (harg43 : arg43.IsWhole) (arg44 : Memref sig .tc .vmem S1x128 .f32) (harg44 : arg44.IsWhole) (arg45 : Memref sig .tc .vmem S8x1024 .f32) (harg45 : arg45.IsWhole) (arg46 : Memref sig .tc .vmem S8x1024 .f32) (harg46 : arg46.IsWhole) (arg47 : Memref sig .tc .vmem S8x1024 .f32) (harg47 : arg47.IsWhole)
    (x0 : Vec F S8x1024 .f32) (x1 : Vec F S1x1024 .f32) (x2 : Vec F S2x512 .f32) (x3 : Vec F S1x512 .f32) (x4 : Vec F S1x512 .f32) (x5 : Vec F S1x1024 .f32) (x6 : Vec F S1x1024 .f32) (x7 : Vec F S1x1024 .f32) (x8 : Vec F S2x512 .f32) (x9 : Vec F S1x512 .f32) (x10 : Vec F S1x512 .f32) (x11 : Vec F S1x1024 .f32) (x12 : Vec F S1x1024 .f32) (x13 : Vec F S1x1024 .f32) (x14 : Vec F S2x512 .f32) (x15 : Vec F S1x512 .f32) (x16 : Vec F S1x512 .f32) (x17 : Vec F S1x1024 .f32) (x18 : Vec F S1x1024 .f32) :
    Σ' (L19 : List (View.Piece (Elt F) S1x1024 .f32)), Σ' (L20 : List (View.Piece (Elt F) S2x512 .f32)), Σ' (L21 : List (View.Piece (Elt F) S1x512 .f32)), Σ' (L22 : List (View.Piece (Elt F) S1x512 .f32)), Σ' (L23 : List (View.Piece (Elt F) S1x1024 .f32)), Σ' (L24 : List (View.Piece (Elt F) S1x1024 .f32)), Σ' (L25 : List (View.Piece (Elt F) S1x1024 .f32)), Σ' (L26 : List (View.Piece (Elt F) S2x512 .f32)), Σ' (L27 : List (View.Piece (Elt F) S1x512 .f32)), Σ' (L28 : List (View.Piece (Elt F) S1x512 .f32)), Σ' (L29 : List (View.Piece (Elt F) S1x1024 .f32)), Σ' (L30 : List (View.Piece (Elt F) S1x1024 .f32)), Σ' (L31 : List (View.Piece (Elt F) S1x1024 .f32)), Σ' (L32 : List (View.Piece (Elt F) S2x512 .f32)), Σ' (L33 : List (View.Piece (Elt F) S1x512 .f32)), Σ' (L34 : List (View.Piece (Elt F) S1x512 .f32)), Σ' (L35 : List (View.Piece (Elt F) S1x1024 .f32)), Σ' (L36 : List (View.Piece (Elt F) S1x1024 .f32)), Σ' (L37 : List (View.Piece (Elt F) S1x1024 .f32)), Σ' (L38 : List (View.Piece (Elt F) S2x512 .f32)), Σ' (L39 : List (View.Piece (Elt F) S1x512 .f32)), Σ' (L40 : List (View.Piece (Elt F) S1x512 .f32)), Σ' (L41 : List (View.Piece (Elt F) S1x1024 .f32)), Σ' (L42 : List (View.Piece (Elt F) S1x1024 .f32)), Σ' (L43 : List (View.Piece (Elt F) S1x128 .f32)), Σ' (LT0 : List (View.Piece (Elt F) S8x1024 .f32)), Σ' (LT1 : List (View.Piece (Elt F) S8x1024 .f32)), { LT2 : List (View.Piece (Elt F) S8x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d) ∗ (∃ d, owns (c : Thread nD τ) arg34 fullShare d) ∗ (∃ d, owns (c : Thread nD τ) arg35 fullShare d) ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24) ∗ (∃ f, arg26.view.loc (c : Thread nD τ) ↦[arg26.view.set]{fullShare} arg26.view.writes (Elt F) f L25) ∗ (∃ f, arg27.view.loc (c : Thread nD τ) ↦[arg27.view.set]{fullShare} arg27.view.writes (Elt F) f L26) ∗ (∃ f, arg28.view.loc (c : Thread nD τ) ↦[arg28.view.set]{fullShare} arg28.view.writes (Elt F) f L27) ∗ (∃ f, arg29.view.loc (c : Thread nD τ) ↦[arg29.view.set]{fullShare} arg29.view.writes (Elt F) f L28) ∗ (∃ f, arg30.view.loc (c : Thread nD τ) ↦[arg30.view.set]{fullShare} arg30.view.writes (Elt F) f L29) ∗ (∃ f, arg31.view.loc (c : Thread nD τ) ↦[arg31.view.set]{fullShare} arg31.view.writes (Elt F) f L30) ∗ (∃ f, arg32.view.loc (c : Thread nD τ) ↦[arg32.view.set]{fullShare} arg32.view.writes (Elt F) f L31) ∗ (∃ f, arg33.view.loc (c : Thread nD τ) ↦[arg33.view.set]{fullShare} arg33.view.writes (Elt F) f L32) ∗ (∃ f, arg34.view.loc (c : Thread nD τ) ↦[arg34.view.set]{fullShare} arg34.view.writes (Elt F) f L33) ∗ (∃ f, arg35.view.loc (c : Thread nD τ) ↦[arg35.view.set]{fullShare} arg35.view.writes (Elt F) f L34) ∗ (∃ f, arg36.view.loc (c : Thread nD τ) ↦[arg36.view.set]{fullShare} arg36.view.writes (Elt F) f L35) ∗ (∃ f, arg37.view.loc (c : Thread nD τ) ↦[arg37.view.set]{fullShare} arg37.view.writes (Elt F) f L36) ∗ (∃ f, arg38.view.loc (c : Thread nD τ) ↦[arg38.view.set]{fullShare} arg38.view.writes (Elt F) f L37) ∗ (∃ f, arg39.view.loc (c : Thread nD τ) ↦[arg39.view.set]{fullShare} arg39.view.writes (Elt F) f L38) ∗ (∃ f, arg40.view.loc (c : Thread nD τ) ↦[arg40.view.set]{fullShare} arg40.view.writes (Elt F) f L39) ∗ (∃ f, arg41.view.loc (c : Thread nD τ) ↦[arg41.view.set]{fullShare} arg41.view.writes (Elt F) f L40) ∗ (∃ f, arg42.view.loc (c : Thread nD τ) ↦[arg42.view.set]{fullShare} arg42.view.writes (Elt F) f L41) ∗ (∃ f, arg43.view.loc (c : Thread nD τ) ↦[arg43.view.set]{fullShare} arg43.view.writes (Elt F) f L42) ∗ (∃ f, arg44.view.loc (c : Thread nD τ) ↦[arg44.view.set]{fullShare} arg44.view.writes (Elt F) f L43) ∗ (∃ f, arg45.view.loc (c : Thread nD τ) ↦[arg45.view.set]{fullShare} arg45.view.writes (Elt F) f LT0) ∗ (∃ f, arg46.view.loc (c : Thread nD τ) ↦[arg46.view.set]{fullShare} arg46.view.writes (Elt F) f LT1) ∗ (∃ f, arg47.view.loc (c : Thread nD τ) ↦[arg47.view.set]{fullShare} arg47.view.writes (Elt F) f LT2)) -∗ K ⟨⟩))
          ⊢ wp frame (wpE (defs₀ (F := F)) Variants.none c none) E (cc0_small_adamw i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47) K } := by
  refine ⟨?_, ?_, ?_, ?_, ?_, ?_, ?_, ?_, ?_, ?_, ?_, ?_, ?_, ?_, ?_, ?_, ?_, ?_, ?_, ?_, ?_, ?_, ?_, ?_, ?_, ?_, ?_, ?_, fun E K => ?run⟩
  case run =>
    simp only [cc0_small_adamw_eq_skeleton]; unfold cc0_small_adamw_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%d31, %f31, -, H31⟩, ⟨%d32, %f32, -, H32⟩, ⟨%d33, %f33, -, H33⟩, ⟨%d34, %f34, -, H34⟩, ⟨%d35, %f35, -, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%ds0, %fs0, -, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    isplitl [H31]; · iexists _; iexact H31
    isplitl [H32]; · iexists _; iexact H32
    isplitl [H33]; · iexists _; iexact H33
    isplitl [H34]; · iexists _; iexact H34
    isplitl [H35]; · iexists _; iexact H35
    isplitl [H36]; · iexists _; iexact H36
    isplitl [H37]; · iexists _; iexact H37
    isplitl [H38]; · iexists _; iexact H38
    isplitl [H39]; · iexists _; iexact H39
    isplitl [H40]; · iexists _; iexact H40
    isplitl [H41]; · iexists _; iexact H41
    isplitl [H42]; · iexists _; iexact H42
    isplitl [H43]; · iexists _; iexact H43
    isplitl [HS0]; · iexists _; iexact HS0
    isplitl [HS1]; · iexists _; iexact HS1
    iexists _; iexact HS2

end Cert.Kernel15Ideal.Small

end
-- ==== Proof.Small.Pack.lean ====
/- What the body of the small parameters' step packs and computes, at a point of the grid. -/
module

public import proofs.«01_k».proof.Proof.Gen.Kernel15Ideal.Frame.Runs

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The packed array's pieces, last first: the rows of the six parameters over zeros. -/
def pk (a1 : Vec F S1x1024 .f32) (a2 a2' a3 a4 : Vec F S1x512 .f32) (a5 a6 : Vec F S1x1024 .f32) : List (View.Piece (Elt F) S8x1024 .f32) :=
  [⟨Rect.unit (s := S8x1024) ![4, 0] S1x1024.size inb_S8x1024_S1x1024_4_0, a6⟩, ⟨Rect.unit (s := S8x1024) ![3, 0] S1x1024.size inb_S8x1024_S1x1024_3_0, a5⟩,
   ⟨Rect.unit (s := S8x1024) ![2, 512] S1x512.size inb_S8x1024_S1x512_2_512, a4⟩, ⟨Rect.unit (s := S8x1024) ![2, 0] S1x512.size inb_S8x1024_S1x512_2_0, a3⟩,
   ⟨Rect.unit (s := S8x1024) ![1, 512] S1x512.size inb_S8x1024_S1x512_1_512, a2'⟩, ⟨Rect.unit (s := S8x1024) ![1, 0] S1x512.size inb_S8x1024_S1x512_1_0, a2⟩,
   ⟨Rect.unit (s := S8x1024) ![0, 0] S1x1024.size inb_S8x1024_S1x1024_0_0, a1⟩, ⟨Rect.unit (s := S8x1024) ![0, 0] S8x1024.size inb_S8x1024_S8x1024_0_0, k0_pay10⟩]

/-- The packed gradients as the body reads them, and the packed weights and moments as it reads them back. -/
def gr (c : Dev nD) (t : Fin cfg0.N) : Vec F S8x1024 .f32 := ((ms0_0 t).view.readAt (Elt F) (Rect.unit (s := S8x1024) ![0, 0] S8x1024.size inb_S8x1024_S8x1024_0_0).toLoadRect ((hs0_0 t).unread (iblk m c 0 t)))

def wr (c : Dev nD) (t : Fin cfg0.N) : Vec F S8x1024 .f32 :=
  scM0_0.view.readCov (pk (k0_pay11 ((ms0_1 t).view.readAt (Elt F) (Rect.unit (s := S1x1024) ![0, 0] S1x1024.size inb_S1x1024_S1x1024_0_0).toLoadRect ((hs0_1 t).unread (iblk m c 1 t)))) (k0_pay12 ((ms0_2 t).view.readAt (Elt F) (Rect.unit (s := S2x512) ![0, 0] S1x512.size inb_S2x512_S1x512_0_0).toLoadRect ((hs0_2 t).unread (iblk m c 2 t)))) (k0_pay13 ((ms0_2 t).view.readAt (Elt F) (Rect.unit (s := S2x512) ![1, 0] S1x512.size inb_S2x512_S1x512_1_0).toLoadRect ((hs0_2 t).unread (iblk m c 2 t)))) (k0_pay14 ((ms0_3 t).view.readAt (Elt F) (Rect.unit (s := S1x512) ![0, 0] S1x512.size inb_S1x512_S1x512_0_0).toLoadRect ((hs0_3 t).unread (iblk m c 3 t)))) (k0_pay15 ((ms0_4 t).view.readAt (Elt F) (Rect.unit (s := S1x512) ![0, 0] S1x512.size inb_S1x512_S1x512_0_0).toLoadRect ((hs0_4 t).unread (iblk m c 4 t)))) (k0_pay16 ((ms0_5 t).view.readAt (Elt F) (Rect.unit (s := S1x1024) ![0, 0] S1x1024.size inb_S1x1024_S1x1024_0_0).toLoadRect ((hs0_5 t).unread (iblk m c 5 t)))) (k0_pay17 ((ms0_6 t).view.readAt (Elt F) (Rect.unit (s := S1x1024) ![0, 0] S1x1024.size inb_S1x1024_S1x1024_0_0).toLoadRect ((hs0_6 t).unread (iblk m c 6 t))))) (Rect.unit (s := S8x1024) ![0, 0] S8x1024.size inb_S8x1024_S8x1024_0_0).toLoadRect

def ar (c : Dev nD) (t : Fin cfg0.N) : Vec F S8x1024 .f32 :=
  scM0_1.view.readCov (pk (k0_pay19 ((ms0_7 t).view.readAt (Elt F) (Rect.unit (s := S1x1024) ![0, 0] S1x1024.size inb_S1x1024_S1x1024_0_0).toLoadRect ((hs0_7 t).unread (iblk m c 7 t)))) (k0_pay20 ((ms0_8 t).view.readAt (Elt F) (Rect.unit (s := S2x512) ![0, 0] S1x512.size inb_S2x512_S1x512_0_0).toLoadRect ((hs0_8 t).unread (iblk m c 8 t)))) (k0_pay21 ((ms0_8 t).view.readAt (Elt F) (Rect.unit (s := S2x512) ![1, 0] S1x512.size inb_S2x512_S1x512_1_0).toLoadRect ((hs0_8 t).unread (iblk m c 8 t)))) (k0_pay22 ((ms0_9 t).view.readAt (Elt F) (Rect.unit (s := S1x512) ![0, 0] S1x512.size inb_S1x512_S1x512_0_0).toLoadRect ((hs0_9 t).unread (iblk m c 9 t)))) (k0_pay23 ((ms0_10 t).view.readAt (Elt F) (Rect.unit (s := S1x512) ![0, 0] S1x512.size inb_S1x512_S1x512_0_0).toLoadRect ((hs0_10 t).unread (iblk m c 10 t)))) (k0_pay24 ((ms0_11 t).view.readAt (Elt F) (Rect.unit (s := S1x1024) ![0, 0] S1x1024.size inb_S1x1024_S1x1024_0_0).toLoadRect ((hs0_11 t).unread (iblk m c 11 t)))) (k0_pay25 ((ms0_12 t).view.readAt (Elt F) (Rect.unit (s := S1x1024) ![0, 0] S1x1024.size inb_S1x1024_S1x1024_0_0).toLoadRect ((hs0_12 t).unread (iblk m c 12 t))))) (Rect.unit (s := S8x1024) ![0, 0] S8x1024.size inb_S8x1024_S8x1024_0_0).toLoadRect

def br (c : Dev nD) (t : Fin cfg0.N) : Vec F S8x1024 .f32 :=
  scM0_2.view.readCov (pk (k0_pay27 ((ms0_13 t).view.readAt (Elt F) (Rect.unit (s := S1x1024) ![0, 0] S1x1024.size inb_S1x1024_S1x1024_0_0).toLoadRect ((hs0_13 t).unread (iblk m c 13 t)))) (k0_pay28 ((ms0_14 t).view.readAt (Elt F) (Rect.unit (s := S2x512) ![0, 0] S1x512.size inb_S2x512_S1x512_0_0).toLoadRect ((hs0_14 t).unread (iblk m c 14 t)))) (k0_pay29 ((ms0_14 t).view.readAt (Elt F) (Rect.unit (s := S2x512) ![1, 0] S1x512.size inb_S2x512_S1x512_1_0).toLoadRect ((hs0_14 t).unread (iblk m c 14 t)))) (k0_pay30 ((ms0_15 t).view.readAt (Elt F) (Rect.unit (s := S1x512) ![0, 0] S1x512.size inb_S1x512_S1x512_0_0).toLoadRect ((hs0_15 t).unread (iblk m c 15 t)))) (k0_pay31 ((ms0_16 t).view.readAt (Elt F) (Rect.unit (s := S1x512) ![0, 0] S1x512.size inb_S1x512_S1x512_0_0).toLoadRect ((hs0_16 t).unread (iblk m c 16 t)))) (k0_pay32 ((ms0_17 t).view.readAt (Elt F) (Rect.unit (s := S1x1024) ![0, 0] S1x1024.size inb_S1x1024_S1x1024_0_0).toLoadRect ((hs0_17 t).unread (iblk m c 17 t)))) (k0_pay33 ((ms0_18 t).view.readAt (Elt F) (Rect.unit (s := S1x1024) ![0, 0] S1x1024.size inb_S1x1024_S1x1024_0_0).toLoadRect ((hs0_18 t).unread (iblk m c 18 t))))) (Rect.unit (s := S8x1024) ![0, 0] S8x1024.size inb_S8x1024_S8x1024_0_0).toLoadRect

/-- The new moments and the change, packed. -/
def mr (c : Dev nD) (t : Fin cfg0.N) : Vec F S8x1024 .f32 := k0_pay35 (gr m c t) (ar m c t)

def vr (c : Dev nD) (t : Fin cfg0.N) : Vec F S8x1024 .f32 := k0_pay39 (k0_pay36 (br m c t)) (k0_pay37 (gr m c t)) k0_pay38

def dr (c : Dev nD) (t : Fin cfg0.N) : Vec F S8x1024 .f32 := k0_pay40 (wr m c t) (mr m c t) (k0_pay36 (br m c t)) (k0_pay37 (gr m c t)) k0_pay38

end Cert.Kernel15Ideal.Small

end
-- ==== Proof.Small.At.lean ====
/- The run of the body at a point of the grid. -/
module

public import proofs.«01_k».proof.Proof.Small.Run
public import proofs.«01_k».proof.Proof.Small.Pack

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Pieces of an array of shape S1x1024. -/
abbrev Pa (F : FTy → Type) := List (View.Piece (Elt F) S1x1024 .f32)
/-- Pieces of an array of shape S2x512. -/
abbrev Pb (F : FTy → Type) := List (View.Piece (Elt F) S2x512 .f32)
/-- Pieces of an array of shape S1x512. -/
abbrev Pc (F : FTy → Type) := List (View.Piece (Elt F) S1x512 .f32)
/-- Pieces of an array of shape S1x128. -/
abbrev Pe (F : FTy → Type) := List (View.Piece (Elt F) S1x128 .f32)
/-- Pieces of an array of shape S8x1024. -/
abbrev Ph (F : FTy → Type) := List (View.Piece (Elt F) S8x1024 .f32)

variable (c : Dev nD) (t : Fin cfg0.N)

/-- What the body does when these are the pieces it leaves. -/
def St (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) (x39 x40 : Pc F) (x41 x42 : Pa F) (x43 : Pe F) (xT0 xT1 xT2 : Ph F) : Prop :=
      ∀ (E : Set ℕ) (K : PUnit → sProp 𝕄),
        iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ (∃ d, owns (c : Thread nD τ) (ms0_19 t) fullShare d) ∗ (∃ d, owns (c : Thread nD τ) (ms0_20 t) fullShare d) ∗ (∃ d, owns (c : Thread nD τ) (ms0_21 t) fullShare d) ∗ (∃ d, owns (c : Thread nD τ) (ms0_22 t) fullShare d) ∗ (∃ d, owns (c : Thread nD τ) (ms0_23 t) fullShare d) ∗ (∃ d, owns (c : Thread nD τ) (ms0_24 t) fullShare d) ∗ (∃ d, owns (c : Thread nD τ) (ms0_25 t) fullShare d) ∗ (∃ d, owns (c : Thread nD τ) (ms0_26 t) fullShare d) ∗ (∃ d, owns (c : Thread nD τ) (ms0_27 t) fullShare d) ∗ (∃ d, owns (c : Thread nD τ) (ms0_28 t) fullShare d) ∗ (∃ d, owns (c : Thread nD τ) (ms0_29 t) fullShare d) ∗ (∃ d, owns (c : Thread nD τ) (ms0_30 t) fullShare d) ∗ (∃ d, owns (c : Thread nD τ) (ms0_31 t) fullShare d) ∗ (∃ d, owns (c : Thread nD τ) (ms0_32 t) fullShare d) ∗ (∃ d, owns (c : Thread nD τ) (ms0_33 t) fullShare d) ∗ (∃ d, owns (c : Thread nD τ) (ms0_34 t) fullShare d) ∗ (∃ d, owns (c : Thread nD τ) (ms0_35 t) fullShare d) ∗ (∃ d, owns (c : Thread nD τ) (ms0_36 t) fullShare d) ∗ (∃ d, owns (c : Thread nD τ) (ms0_37 t) fullShare d) ∗ (∃ d, owns (c : Thread nD τ) (ms0_38 t) fullShare d) ∗ (∃ d, owns (c : Thread nD τ) (ms0_39 t) fullShare d) ∗ (∃ d, owns (c : Thread nD τ) (ms0_40 t) fullShare d) ∗ (∃ d, owns (c : Thread nD τ) (ms0_41 t) fullShare d) ∗ (∃ d, owns (c : Thread nD τ) (ms0_42 t) fullShare d) ∗ (∃ d, owns (c : Thread nD τ) (ms0_43 t) fullShare d) ∗ (∃ d, owns (c : Thread nD τ) scM0_0 fullShare d) ∗ (∃ d, owns (c : Thread nD τ) scM0_1 fullShare d) ∗ (∃ d, owns (c : Thread nD τ) scM0_2 fullShare d)
            ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ owns (c : Thread nD τ) (ms0_16 t) fullShare (iblk m c 16 t) ∗ owns (c : Thread nD τ) (ms0_17 t) fullShare (iblk m c 17 t) ∗ owns (c : Thread nD τ) (ms0_18 t) fullShare (iblk m c 18 t) ∗ (∃ f, (ms0_19 t).view.loc (c : Thread nD τ) ↦[(ms0_19 t).view.set]{fullShare} (ms0_19 t).view.writes (Elt F) f x19) ∗ (∃ f, (ms0_20 t).view.loc (c : Thread nD τ) ↦[(ms0_20 t).view.set]{fullShare} (ms0_20 t).view.writes (Elt F) f x20) ∗ (∃ f, (ms0_21 t).view.loc (c : Thread nD τ) ↦[(ms0_21 t).view.set]{fullShare} (ms0_21 t).view.writes (Elt F) f x21) ∗ (∃ f, (ms0_22 t).view.loc (c : Thread nD τ) ↦[(ms0_22 t).view.set]{fullShare} (ms0_22 t).view.writes (Elt F) f x22) ∗ (∃ f, (ms0_23 t).view.loc (c : Thread nD τ) ↦[(ms0_23 t).view.set]{fullShare} (ms0_23 t).view.writes (Elt F) f x23) ∗ (∃ f, (ms0_24 t).view.loc (c : Thread nD τ) ↦[(ms0_24 t).view.set]{fullShare} (ms0_24 t).view.writes (Elt F) f x24) ∗ (∃ f, (ms0_25 t).view.loc (c : Thread nD τ) ↦[(ms0_25 t).view.set]{fullShare} (ms0_25 t).view.writes (Elt F) f x25) ∗ (∃ f, (ms0_26 t).view.loc (c : Thread nD τ) ↦[(ms0_26 t).view.set]{fullShare} (ms0_26 t).view.writes (Elt F) f x26) ∗ (∃ f, (ms0_27 t).view.loc (c : Thread nD τ) ↦[(ms0_27 t).view.set]{fullShare} (ms0_27 t).view.writes (Elt F) f x27) ∗ (∃ f, (ms0_28 t).view.loc (c : Thread nD τ) ↦[(ms0_28 t).view.set]{fullShare} (ms0_28 t).view.writes (Elt F) f x28) ∗ (∃ f, (ms0_29 t).view.loc (c : Thread nD τ) ↦[(ms0_29 t).view.set]{fullShare} (ms0_29 t).view.writes (Elt F) f x29) ∗ (∃ f, (ms0_30 t).view.loc (c : Thread nD τ) ↦[(ms0_30 t).view.set]{fullShare} (ms0_30 t).view.writes (Elt F) f x30) ∗ (∃ f, (ms0_31 t).view.loc (c : Thread nD τ) ↦[(ms0_31 t).view.set]{fullShare} (ms0_31 t).view.writes (Elt F) f x31) ∗ (∃ f, (ms0_32 t).view.loc (c : Thread nD τ) ↦[(ms0_32 t).view.set]{fullShare} (ms0_32 t).view.writes (Elt F) f x32) ∗ (∃ f, (ms0_33 t).view.loc (c : Thread nD τ) ↦[(ms0_33 t).view.set]{fullShare} (ms0_33 t).view.writes (Elt F) f x33) ∗ (∃ f, (ms0_34 t).view.loc (c : Thread nD τ) ↦[(ms0_34 t).view.set]{fullShare} (ms0_34 t).view.writes (Elt F) f x34) ∗ (∃ f, (ms0_35 t).view.loc (c : Thread nD τ) ↦[(ms0_35 t).view.set]{fullShare} (ms0_35 t).view.writes (Elt F) f x35) ∗ (∃ f, (ms0_36 t).view.loc (c : Thread nD τ) ↦[(ms0_36 t).view.set]{fullShare} (ms0_36 t).view.writes (Elt F) f x36) ∗ (∃ f, (ms0_37 t).view.loc (c : Thread nD τ) ↦[(ms0_37 t).view.set]{fullShare} (ms0_37 t).view.writes (Elt F) f x37) ∗ (∃ f, (ms0_38 t).view.loc (c : Thread nD τ) ↦[(ms0_38 t).view.set]{fullShare} (ms0_38 t).view.writes (Elt F) f x38) ∗ (∃ f, (ms0_39 t).view.loc (c : Thread nD τ) ↦[(ms0_39 t).view.set]{fullShare} (ms0_39 t).view.writes (Elt F) f x39) ∗ (∃ f, (ms0_40 t).view.loc (c : Thread nD τ) ↦[(ms0_40 t).view.set]{fullShare} (ms0_40 t).view.writes (Elt F) f x40) ∗ (∃ f, (ms0_41 t).view.loc (c : Thread nD τ) ↦[(ms0_41 t).view.set]{fullShare} (ms0_41 t).view.writes (Elt F) f x41) ∗ (∃ f, (ms0_42 t).view.loc (c : Thread nD τ) ↦[(ms0_42 t).view.set]{fullShare} (ms0_42 t).view.writes (Elt F) f x42) ∗ (∃ f, (ms0_43 t).view.loc (c : Thread nD τ) ↦[(ms0_43 t).view.set]{fullShare} (ms0_43 t).view.writes (Elt F) f x43) ∗ (∃ f, scM0_0.view.loc (c : Thread nD τ) ↦[scM0_0.view.set]{fullShare} scM0_0.view.writes (Elt F) f xT0) ∗ (∃ f, scM0_1.view.loc (c : Thread nD τ) ↦[scM0_1.view.set]{fullShare} scM0_1.view.writes (Elt F) f xT1) ∗ (∃ f, scM0_2.view.loc (c : Thread nD τ) ↦[scM0_2.view.set]{fullShare} scM0_2.view.writes (Elt F) f xT2)) -∗ K ⟨⟩))
          ⊢ wp frame (wpE (defs₀ (F := F)) Variants.none c none) E (cc0_small_adamw (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) scM0_0 (Memref.isWhole_whole _) scM0_1 (Memref.isWhole_whole _) scM0_2 (Memref.isWhole_whole _)) K

abbrev Y27 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) (x39 x40 : Pc F) (x41 x42 : Pa F) (x43 : Pe F) (xT0 xT1 : Ph F) : Type _ := { xT2 : Ph F // St m c t x19 x20 x21 x22 x23 x24 x25 x26 x27 x28 x29 x30 x31 x32 x33 x34 x35 x36 x37 x38 x39 x40 x41 x42 x43 xT0 xT1 xT2 }
abbrev Y26 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) (x39 x40 : Pc F) (x41 x42 : Pa F) (x43 : Pe F) (xT0 : Ph F) : Type _ := Σ' xT1 : Ph F, Y27 m c t x19 x20 x21 x22 x23 x24 x25 x26 x27 x28 x29 x30 x31 x32 x33 x34 x35 x36 x37 x38 x39 x40 x41 x42 x43 xT0 xT1
abbrev Y25 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) (x39 x40 : Pc F) (x41 x42 : Pa F) (x43 : Pe F) : Type _ := Σ' xT0 : Ph F, Y26 m c t x19 x20 x21 x22 x23 x24 x25 x26 x27 x28 x29 x30 x31 x32 x33 x34 x35 x36 x37 x38 x39 x40 x41 x42 x43 xT0
abbrev Y24 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) (x39 x40 : Pc F) (x41 x42 : Pa F) : Type _ := Σ' x43 : Pe F, Y25 m c t x19 x20 x21 x22 x23 x24 x25 x26 x27 x28 x29 x30 x31 x32 x33 x34 x35 x36 x37 x38 x39 x40 x41 x42 x43
abbrev Y23 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) (x39 x40 : Pc F) (x41 : Pa F) : Type _ := Σ' x42 : Pa F, Y24 m c t x19 x20 x21 x22 x23 x24 x25 x26 x27 x28 x29 x30 x31 x32 x33 x34 x35 x36 x37 x38 x39 x40 x41 x42
abbrev Y22 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) (x39 x40 : Pc F) : Type _ := Σ' x41 : Pa F, Y23 m c t x19 x20 x21 x22 x23 x24 x25 x26 x27 x28 x29 x30 x31 x32 x33 x34 x35 x36 x37 x38 x39 x40 x41
abbrev Y21 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) (x39 : Pc F) : Type _ := Σ' x40 : Pc F, Y22 m c t x19 x20 x21 x22 x23 x24 x25 x26 x27 x28 x29 x30 x31 x32 x33 x34 x35 x36 x37 x38 x39 x40
abbrev Y20 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) (x38 : Pb F) : Type _ := Σ' x39 : Pc F, Y21 m c t x19 x20 x21 x22 x23 x24 x25 x26 x27 x28 x29 x30 x31 x32 x33 x34 x35 x36 x37 x38 x39
abbrev Y19 (x19 : Pa F) (x20 : Pb F) (x21 x22 : Pc F) (x23 x24 x25 : Pa F) (x26 : Pb F) (x27 x28 : Pc F) (x29 x30 x31 : Pa F) (x32 : Pb F) (x33 x34 : Pc F) (x35 x36 x37 : Pa F) : Type _ := Σ' x38 : Pb F, Y20 m c t x19 x20 x21 x22 x23 x24 x25 x26 x27 x28 x29 x30 x31 x32 x33 x34 x35 x36 x37 x38
abbrev Y18 (x19 : Pa F) (x20 : Pb F) (x21 x22 : Pc F) (x23 x24 x25 : Pa F) (x26 : Pb F) (x27 x28 : Pc F) (x29 x30 x31 : Pa F) (x32 : Pb F) (x33 x34 : Pc F) (x35 x36 : Pa F) : Type _ := Σ' x37 : Pa F, Y19 m c t x19 x20 x21 x22 x23 x24 x25 x26 x27 x28 x29 x30 x31 x32 x33 x34 x35 x36 x37
abbrev Y17 (x19 : Pa F) (x20 : Pb F) (x21 x22 : Pc F) (x23 x24 x25 : Pa F) (x26 : Pb F) (x27 x28 : Pc F) (x29 x30 x31 : Pa F) (x32 : Pb F) (x33 x34 : Pc F) (x35 : Pa F) : Type _ := Σ' x36 : Pa F, Y18 m c t x19 x20 x21 x22 x23 x24 x25 x26 x27 x28 x29 x30 x31 x32 x33 x34 x35 x36
abbrev Y16 (x19 : Pa F) (x20 : Pb F) (x21 x22 : Pc F) (x23 x24 x25 : Pa F) (x26 : Pb F) (x27 x28 : Pc F) (x29 x30 x31 : Pa F) (x32 : Pb F) (x33 x34 : Pc F) : Type _ := Σ' x35 : Pa F, Y17 m c t x19 x20 x21 x22 x23 x24 x25 x26 x27 x28 x29 x30 x31 x32 x33 x34 x35
abbrev Y15 (x19 : Pa F) (x20 : Pb F) (x21 x22 : Pc F) (x23 x24 x25 : Pa F) (x26 : Pb F) (x27 x28 : Pc F) (x29 x30 x31 : Pa F) (x32 : Pb F) (x33 : Pc F) : Type _ := Σ' x34 : Pc F, Y16 m c t x19 x20 x21 x22 x23 x24 x25 x26 x27 x28 x29 x30 x31 x32 x33 x34
abbrev Y14 (x19 : Pa F) (x20 : Pb F) (x21 x22 : Pc F) (x23 x24 x25 : Pa F) (x26 : Pb F) (x27 x28 : Pc F) (x29 x30 x31 : Pa F) (x32 : Pb F) : Type _ := Σ' x33 : Pc F, Y15 m c t x19 x20 x21 x22 x23 x24 x25 x26 x27 x28 x29 x30 x31 x32 x33
abbrev Y13 (x19 : Pa F) (x20 : Pb F) (x21 x22 : Pc F) (x23 x24 x25 : Pa F) (x26 : Pb F) (x27 x28 : Pc F) (x29 x30 x31 : Pa F) : Type _ := Σ' x32 : Pb F, Y14 m c t x19 x20 x21 x22 x23 x24 x25 x26 x27 x28 x29 x30 x31 x32
abbrev Y12 (x19 : Pa F) (x20 : Pb F) (x21 x22 : Pc F) (x23 x24 x25 : Pa F) (x26 : Pb F) (x27 x28 : Pc F) (x29 x30 : Pa F) : Type _ := Σ' x31 : Pa F, Y13 m c t x19 x20 x21 x22 x23 x24 x25 x26 x27 x28 x29 x30 x31
abbrev Y11 (x19 : Pa F) (x20 : Pb F) (x21 x22 : Pc F) (x23 x24 x25 : Pa F) (x26 : Pb F) (x27 x28 : Pc F) (x29 : Pa F) : Type _ := Σ' x30 : Pa F, Y12 m c t x19 x20 x21 x22 x23 x24 x25 x26 x27 x28 x29 x30
abbrev Y10 (x19 : Pa F) (x20 : Pb F) (x21 x22 : Pc F) (x23 x24 x25 : Pa F) (x26 : Pb F) (x27 x28 : Pc F) : Type _ := Σ' x29 : Pa F, Y11 m c t x19 x20 x21 x22 x23 x24 x25 x26 x27 x28 x29
abbrev Y9 (x19 : Pa F) (x20 : Pb F) (x21 x22 : Pc F) (x23 x24 x25 : Pa F) (x26 : Pb F) (x27 : Pc F) : Type _ := Σ' x28 : Pc F, Y10 m c t x19 x20 x21 x22 x23 x24 x25 x26 x27 x28
abbrev Y8 (x19 : Pa F) (x20 : Pb F) (x21 x22 : Pc F) (x23 x24 x25 : Pa F) (x26 : Pb F) : Type _ := Σ' x27 : Pc F, Y9 m c t x19 x20 x21 x22 x23 x24 x25 x26 x27
abbrev Y7 (x19 : Pa F) (x20 : Pb F) (x21 x22 : Pc F) (x23 x24 x25 : Pa F) : Type _ := Σ' x26 : Pb F, Y8 m c t x19 x20 x21 x22 x23 x24 x25 x26
abbrev Y6 (x19 : Pa F) (x20 : Pb F) (x21 x22 : Pc F) (x23 x24 : Pa F) : Type _ := Σ' x25 : Pa F, Y7 m c t x19 x20 x21 x22 x23 x24 x25
abbrev Y5 (x19 : Pa F) (x20 : Pb F) (x21 x22 : Pc F) (x23 : Pa F) : Type _ := Σ' x24 : Pa F, Y6 m c t x19 x20 x21 x22 x23 x24
abbrev Y4 (x19 : Pa F) (x20 : Pb F) (x21 x22 : Pc F) : Type _ := Σ' x23 : Pa F, Y5 m c t x19 x20 x21 x22 x23
abbrev Y3 (x19 : Pa F) (x20 : Pb F) (x21 : Pc F) : Type _ := Σ' x22 : Pc F, Y4 m c t x19 x20 x21 x22
abbrev Y2 (x19 : Pa F) (x20 : Pb F) : Type _ := Σ' x21 : Pc F, Y3 m c t x19 x20 x21
abbrev Y1 (x19 : Pa F) : Type _ := Σ' x20 : Pb F, Y2 m c t x19 x20
abbrev Y0 : Type _ := Σ' x19 : Pa F, Y1 m c t x19
def T0 : Y0 m c t  := kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) scM0_0 (Memref.isWhole_whole _) scM0_1 (Memref.isWhole_whole _) scM0_2 (Memref.isWhole_whole _)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
def L19 : List (View.Piece (Elt F) S1x1024 .f32) := (T0 m c t).1
def T1 : Y1 m c t (L19 m c t) := (T0 m c t).2
def L20 : List (View.Piece (Elt F) S2x512 .f32) := (T1 m c t).1
def T2 : Y2 m c t (L19 m c t) (L20 m c t) := (T1 m c t).2
def L21 : List (View.Piece (Elt F) S1x512 .f32) := (T2 m c t).1
def T3 : Y3 m c t (L19 m c t) (L20 m c t) (L21 m c t) := (T2 m c t).2
def L22 : List (View.Piece (Elt F) S1x512 .f32) := (T3 m c t).1
def T4 : Y4 m c t (L19 m c t) (L20 m c t) (L21 m c t) (L22 m c t) := (T3 m c t).2
def L23 : List (View.Piece (Elt F) S1x1024 .f32) := (T4 m c t).1
def T5 : Y5 m c t (L19 m c t) (L20 m c t) (L21 m c t) (L22 m c t) (L23 m c t) := (T4 m c t).2
def L24 : List (View.Piece (Elt F) S1x1024 .f32) := (T5 m c t).1
def T6 : Y6 m c t (L19 m c t) (L20 m c t) (L21 m c t) (L22 m c t) (L23 m c t) (L24 m c t) := (T5 m c t).2
def L25 : List (View.Piece (Elt F) S1x1024 .f32) := (T6 m c t).1
def T7 : Y7 m c t (L19 m c t) (L20 m c t) (L21 m c t) (L22 m c t) (L23 m c t) (L24 m c t) (L25 m c t) := (T6 m c t).2
def L26 : List (View.Piece (Elt F) S2x512 .f32) := (T7 m c t).1
def T8 : Y8 m c t (L19 m c t) (L20 m c t) (L21 m c t) (L22 m c t) (L23 m c t) (L24 m c t) (L25 m c t) (L26 m c t) := (T7 m c t).2
def L27 : List (View.Piece (Elt F) S1x512 .f32) := (T8 m c t).1
def T9 : Y9 m c t (L19 m c t) (L20 m c t) (L21 m c t) (L22 m c t) (L23 m c t) (L24 m c t) (L25 m c t) (L26 m c t) (L27 m c t) := (T8 m c t).2
def L28 : List (View.Piece (Elt F) S1x512 .f32) := (T9 m c t).1
def T10 : Y10 m c t (L19 m c t) (L20 m c t) (L21 m c t) (L22 m c t) (L23 m c t) (L24 m c t) (L25 m c t) (L26 m c t) (L27 m c t) (L28 m c t) := (T9 m c t).2
def L29 : List (View.Piece (Elt F) S1x1024 .f32) := (T10 m c t).1
def T11 : Y11 m c t (L19 m c t) (L20 m c t) (L21 m c t) (L22 m c t) (L23 m c t) (L24 m c t) (L25 m c t) (L26 m c t) (L27 m c t) (L28 m c t) (L29 m c t) := (T10 m c t).2
def L30 : List (View.Piece (Elt F) S1x1024 .f32) := (T11 m c t).1
def T12 : Y12 m c t (L19 m c t) (L20 m c t) (L21 m c t) (L22 m c t) (L23 m c t) (L24 m c t) (L25 m c t) (L26 m c t) (L27 m c t) (L28 m c t) (L29 m c t) (L30 m c t) := (T11 m c t).2
def L31 : List (View.Piece (Elt F) S1x1024 .f32) := (T12 m c t).1
def T13 : Y13 m c t (L19 m c t) (L20 m c t) (L21 m c t) (L22 m c t) (L23 m c t) (L24 m c t) (L25 m c t) (L26 m c t) (L27 m c t) (L28 m c t) (L29 m c t) (L30 m c t) (L31 m c t) := (T12 m c t).2
def L32 : List (View.Piece (Elt F) S2x512 .f32) := (T13 m c t).1
def T14 : Y14 m c t (L19 m c t) (L20 m c t) (L21 m c t) (L22 m c t) (L23 m c t) (L24 m c t) (L25 m c t) (L26 m c t) (L27 m c t) (L28 m c t) (L29 m c t) (L30 m c t) (L31 m c t) (L32 m c t) := (T13 m c t).2
def L33 : List (View.Piece (Elt F) S1x512 .f32) := (T14 m c t).1
def T15 : Y15 m c t (L19 m c t) (L20 m c t) (L21 m c t) (L22 m c t) (L23 m c t) (L24 m c t) (L25 m c t) (L26 m c t) (L27 m c t) (L28 m c t) (L29 m c t) (L30 m c t) (L31 m c t) (L32 m c t) (L33 m c t) := (T14 m c t).2
def L34 : List (View.Piece (Elt F) S1x512 .f32) := (T15 m c t).1
def T16 : Y16 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) := (T15 m c t).2
def L35 : List (View.Piece (Elt F) S1x1024 .f32) := (T16 m c t).1
def T17 : Y17 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) := (T16 m c t).2
def L36 : List (View.Piece (Elt F) S1x1024 .f32) := (T17 m c t).1
def T18 : Y18 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) := (T17 m c t).2
def L37 : List (View.Piece (Elt F) S1x1024 .f32) := (T18 m c t).1
def T19 : Y19 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) := (T18 m c t).2
def L38 : List (View.Piece (Elt F) S2x512 .f32) := (T19 m c t).1
def T20 : Y20 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) (L38 m c t) := (T19 m c t).2
def L39 : List (View.Piece (Elt F) S1x512 .f32) := (T20 m c t).1
def T21 : Y21 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) (L38 m c t) (L39 m c t) := (T20 m c t).2
def L40 : List (View.Piece (Elt F) S1x512 .f32) := (T21 m c t).1
def T22 : Y22 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) (L38 m c t) (L39 m c t) (L40 m c t) := (T21 m c t).2
def L41 : List (View.Piece (Elt F) S1x1024 .f32) := (T22 m c t).1
def T23 : Y23 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) (L38 m c t) (L39 m c t) (L40 m c t) (L41 m c t) := (T22 m c t).2
def L42 : List (View.Piece (Elt F) S1x1024 .f32) := (T23 m c t).1
def T24 : Y24 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) (L38 m c t) (L39 m c t) (L40 m c t) (L41 m c t) (L42 m c t) := (T23 m c t).2
def L43 : List (View.Piece (Elt F) S1x128 .f32) := (T24 m c t).1
def T25 : Y25 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) (L38 m c t) (L39 m c t) (L40 m c t) (L41 m c t) (L42 m c t) (L43 m c t) := (T24 m c t).2
def LT0 : List (View.Piece (Elt F) S8x1024 .f32) := (T25 m c t).1
def T26 : Y26 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) (L38 m c t) (L39 m c t) (L40 m c t) (L41 m c t) (L42 m c t) (L43 m c t) (LT0 m c t) := (T25 m c t).2
def LT1 : List (View.Piece (Elt F) S8x1024 .f32) := (T26 m c t).1
def T27 : Y27 m c t (L19 m c t) (L20 m c t) (L21 m c t) (L22 m c t) (L23 m c t) (L24 m c t) (L25 m c t) (L26 m c t) (L27 m c t) (L28 m c t) (L29 m c t) (L30 m c t) (L31 m c t) (L32 m c t) (L33 m c t) (L34 m c t) (L35 m c t) (L36 m c t) (L37 m c t) (L38 m c t) (L39 m c t) (L40 m c t) (L41 m c t) (L42 m c t) (L43 m c t) (LT0 m c t) (LT1 m c t) := (T26 m c t).2

end Cert.Kernel15Ideal.Small

end
-- ==== Proof.Small.Cov.lean ====
/- The pieces of every output cover it. -/
module

public import proofs.«01_k».proof.Proof.Small.At

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (t : Fin cfg0.N)

theorem cov19 (y : S1x1024.Idx) : ∃ p ∈ L19 m c t, y ∈ p.1.set :=
  View.cover_of_tiledL (s := S1x1024) _ S1x1024.size (by sl_kernel_rfl) y

theorem cov20 (y : S2x512.Idx) : ∃ p ∈ L20 m c t, y ∈ p.1.set :=
  View.cover_of_tiledL (s := S2x512) _ S1x512.size (by sl_kernel_rfl) y

theorem cov21 (y : S1x512.Idx) : ∃ p ∈ L21 m c t, y ∈ p.1.set :=
  View.cover_of_tiledL (s := S1x512) _ S1x512.size (by sl_kernel_rfl) y

theorem cov22 (y : S1x512.Idx) : ∃ p ∈ L22 m c t, y ∈ p.1.set :=
  View.cover_of_tiledL (s := S1x512) _ S1x512.size (by sl_kernel_rfl) y

theorem cov23 (y : S1x1024.Idx) : ∃ p ∈ L23 m c t, y ∈ p.1.set :=
  View.cover_of_tiledL (s := S1x1024) _ S1x1024.size (by sl_kernel_rfl) y

theorem cov24 (y : S1x1024.Idx) : ∃ p ∈ L24 m c t, y ∈ p.1.set :=
  View.cover_of_tiledL (s := S1x1024) _ S1x1024.size (by sl_kernel_rfl) y

theorem cov25 (y : S1x1024.Idx) : ∃ p ∈ L25 m c t, y ∈ p.1.set :=
  View.cover_of_tiledL (s := S1x1024) _ S1x1024.size (by sl_kernel_rfl) y

theorem cov26 (y : S2x512.Idx) : ∃ p ∈ L26 m c t, y ∈ p.1.set :=
  View.cover_of_tiledL (s := S2x512) _ S1x512.size (by sl_kernel_rfl) y

theorem cov27 (y : S1x512.Idx) : ∃ p ∈ L27 m c t, y ∈ p.1.set :=
  View.cover_of_tiledL (s := S1x512) _ S1x512.size (by sl_kernel_rfl) y

theorem cov28 (y : S1x512.Idx) : ∃ p ∈ L28 m c t, y ∈ p.1.set :=
  View.cover_of_tiledL (s := S1x512) _ S1x512.size (by sl_kernel_rfl) y

theorem cov29 (y : S1x1024.Idx) : ∃ p ∈ L29 m c t, y ∈ p.1.set :=
  View.cover_of_tiledL (s := S1x1024) _ S1x1024.size (by sl_kernel_rfl) y

theorem cov30 (y : S1x1024.Idx) : ∃ p ∈ L30 m c t, y ∈ p.1.set :=
  View.cover_of_tiledL (s := S1x1024) _ S1x1024.size (by sl_kernel_rfl) y

theorem cov31 (y : S1x1024.Idx) : ∃ p ∈ L31 m c t, y ∈ p.1.set :=
  View.cover_of_tiledL (s := S1x1024) _ S1x1024.size (by sl_kernel_rfl) y

theorem cov32 (y : S2x512.Idx) : ∃ p ∈ L32 m c t, y ∈ p.1.set :=
  View.cover_of_tiledL (s := S2x512) _ S1x512.size (by sl_kernel_rfl) y

theorem cov33 (y : S1x512.Idx) : ∃ p ∈ L33 m c t, y ∈ p.1.set :=
  View.cover_of_tiledL (s := S1x512) _ S1x512.size (by sl_kernel_rfl) y

theorem cov34 (y : S1x512.Idx) : ∃ p ∈ L34 m c t, y ∈ p.1.set :=
  View.cover_of_tiledL (s := S1x512) _ S1x512.size (by sl_kernel_rfl) y

theorem cov35 (y : S1x1024.Idx) : ∃ p ∈ L35 m c t, y ∈ p.1.set :=
  View.cover_of_tiledL (s := S1x1024) _ S1x1024.size (by sl_kernel_rfl) y

theorem cov36 (y : S1x1024.Idx) : ∃ p ∈ L36 m c t, y ∈ p.1.set :=
  View.cover_of_tiledL (s := S1x1024) _ S1x1024.size (by sl_kernel_rfl) y

theorem cov37 (y : S1x1024.Idx) : ∃ p ∈ L37 m c t, y ∈ p.1.set :=
  View.cover_of_tiledL (s := S1x1024) _ S1x1024.size (by sl_kernel_rfl) y

theorem cov38 (y : S2x512.Idx) : ∃ p ∈ L38 m c t, y ∈ p.1.set :=
  View.cover_of_tiledL (s := S2x512) _ S1x512.size (by sl_kernel_rfl) y

theorem cov39 (y : S1x512.Idx) : ∃ p ∈ L39 m c t, y ∈ p.1.set :=
  View.cover_of_tiledL (s := S1x512) _ S1x512.size (by sl_kernel_rfl) y

theorem cov40 (y : S1x512.Idx) : ∃ p ∈ L40 m c t, y ∈ p.1.set :=
  View.cover_of_tiledL (s := S1x512) _ S1x512.size (by sl_kernel_rfl) y

theorem cov41 (y : S1x1024.Idx) : ∃ p ∈ L41 m c t, y ∈ p.1.set :=
  View.cover_of_tiledL (s := S1x1024) _ S1x1024.size (by sl_kernel_rfl) y

theorem cov42 (y : S1x1024.Idx) : ∃ p ∈ L42 m c t, y ∈ p.1.set :=
  View.cover_of_tiledL (s := S1x1024) _ S1x1024.size (by sl_kernel_rfl) y

theorem cov43 (y : S1x128.Idx) : ∃ p ∈ L43 m c t, y ∈ p.1.set :=
  View.cover_of_tiledL (s := S1x128) _ S1x128.size (by sl_kernel_rfl) y

end Cert.Kernel15Ideal.Small

end
-- ==== Proof.Small.Dats.lean ====
/- The data of the small parameters' step: what every window holds. -/
module

public import proofs.«01_k».proof.Proof.Small.Cov

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The data of the pipeline: the arrays as found, the inputs' blocks, and after the body the outputs' pieces. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => View.canon (L19 m c t)
    | ⟨20, _⟩ => View.canon (L20 m c t)
    | ⟨21, _⟩ => View.canon (L21 m c t)
    | ⟨22, _⟩ => View.canon (L22 m c t)
    | ⟨23, _⟩ => View.canon (L23 m c t)
    | ⟨24, _⟩ => View.canon (L24 m c t)
    | ⟨25, _⟩ => View.canon (L25 m c t)
    | ⟨26, _⟩ => View.canon (L26 m c t)
    | ⟨27, _⟩ => View.canon (L27 m c t)
    | ⟨28, _⟩ => View.canon (L28 m c t)
    | ⟨29, _⟩ => View.canon (L29 m c t)
    | ⟨30, _⟩ => View.canon (L30 m c t)
    | ⟨31, _⟩ => View.canon (L31 m c t)
    | ⟨32, _⟩ => View.canon (L32 m c t)
    | ⟨33, _⟩ => View.canon (L33 m c t)
    | ⟨34, _⟩ => View.canon (L34 m c t)
    | ⟨35, _⟩ => View.canon (L35 m c t)
    | ⟨36, _⟩ => View.canon (L36 m c t)
    | ⟨37, _⟩ => View.canon (L37 m c t)
    | ⟨38, _⟩ => View.canon (L38 m c t)
    | ⟨39, _⟩ => View.canon (L39 m c t)
    | ⟨40, _⟩ => View.canon (L40 m c t)
    | ⟨41, _⟩ => View.canon (L41 m c t)
    | ⟨42, _⟩ => View.canon (L42 m c t)
    | ⟨43, _⟩ => View.canon (L43 m c t)
    | ⟨_ + 44, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

variable (c : Dev nD) (t : Fin cfg0.N)

theorem aft0 : (dats m 0 c).after 0 t = iblk m c 0 t := by dsimp only [dats]
theorem aft1 : (dats m 0 c).after 1 t = iblk m c 1 t := by dsimp only [dats]
theorem aft2 : (dats m 0 c).after 2 t = iblk m c 2 t := by dsimp only [dats]
theorem aft3 : (dats m 0 c).after 3 t = iblk m c 3 t := by dsimp only [dats]
theorem aft4 : (dats m 0 c).after 4 t = iblk m c 4 t := by dsimp only [dats]
theorem aft5 : (dats m 0 c).after 5 t = iblk m c 5 t := by dsimp only [dats]
theorem aft6 : (dats m 0 c).after 6 t = iblk m c 6 t := by dsimp only [dats]
theorem aft7 : (dats m 0 c).after 7 t = iblk m c 7 t := by dsimp only [dats]
theorem aft8 : (dats m 0 c).after 8 t = iblk m c 8 t := by dsimp only [dats]
theorem aft9 : (dats m 0 c).after 9 t = iblk m c 9 t := by dsimp only [dats]
theorem aft10 : (dats m 0 c).after 10 t = iblk m c 10 t := by dsimp only [dats]
theorem aft11 : (dats m 0 c).after 11 t = iblk m c 11 t := by dsimp only [dats]
theorem aft12 : (dats m 0 c).after 12 t = iblk m c 12 t := by dsimp only [dats]
theorem aft13 : (dats m 0 c).after 13 t = iblk m c 13 t := by dsimp only [dats]
theorem aft14 : (dats m 0 c).after 14 t = iblk m c 14 t := by dsimp only [dats]
theorem aft15 : (dats m 0 c).after 15 t = iblk m c 15 t := by dsimp only [dats]
theorem aft16 : (dats m 0 c).after 16 t = iblk m c 16 t := by dsimp only [dats]
theorem aft17 : (dats m 0 c).after 17 t = iblk m c 17 t := by dsimp only [dats]
theorem aft18 : (dats m 0 c).after 18 t = iblk m c 18 t := by dsimp only [dats]
theorem aft19 : (dats m 0 c).after 19 t = View.canon (L19 m c t) := by dsimp only [dats]
theorem aft20 : (dats m 0 c).after 20 t = View.canon (L20 m c t) := by dsimp only [dats]
theorem aft21 : (dats m 0 c).after 21 t = View.canon (L21 m c t) := by dsimp only [dats]
theorem aft22 : (dats m 0 c).after 22 t = View.canon (L22 m c t) := by dsimp only [dats]
theorem aft23 : (dats m 0 c).after 23 t = View.canon (L23 m c t) := by dsimp only [dats]
theorem aft24 : (dats m 0 c).after 24 t = View.canon (L24 m c t) := by dsimp only [dats]
theorem aft25 : (dats m 0 c).after 25 t = View.canon (L25 m c t) := by dsimp only [dats]
theorem aft26 : (dats m 0 c).after 26 t = View.canon (L26 m c t) := by dsimp only [dats]
theorem aft27 : (dats m 0 c).after 27 t = View.canon (L27 m c t) := by dsimp only [dats]
theorem aft28 : (dats m 0 c).after 28 t = View.canon (L28 m c t) := by dsimp only [dats]
theorem aft29 : (dats m 0 c).after 29 t = View.canon (L29 m c t) := by dsimp only [dats]
theorem aft30 : (dats m 0 c).after 30 t = View.canon (L30 m c t) := by dsimp only [dats]
theorem aft31 : (dats m 0 c).after 31 t = View.canon (L31 m c t) := by dsimp only [dats]
theorem aft32 : (dats m 0 c).after 32 t = View.canon (L32 m c t) := by dsimp only [dats]
theorem aft33 : (dats m 0 c).after 33 t = View.canon (L33 m c t) := by dsimp only [dats]
theorem aft34 : (dats m 0 c).after 34 t = View.canon (L34 m c t) := by dsimp only [dats]
theorem aft35 : (dats m 0 c).after 35 t = View.canon (L35 m c t) := by dsimp only [dats]
theorem aft36 : (dats m 0 c).after 36 t = View.canon (L36 m c t) := by dsimp only [dats]
theorem aft37 : (dats m 0 c).after 37 t = View.canon (L37 m c t) := by dsimp only [dats]
theorem aft38 : (dats m 0 c).after 38 t = View.canon (L38 m c t) := by dsimp only [dats]
theorem aft39 : (dats m 0 c).after 39 t = View.canon (L39 m c t) := by dsimp only [dats]
theorem aft40 : (dats m 0 c).after 40 t = View.canon (L40 m c t) := by dsimp only [dats]
theorem aft41 : (dats m 0 c).after 41 t = View.canon (L41 m c t) := by dsimp only [dats]
theorem aft42 : (dats m 0 c).after 42 t = View.canon (L42 m c t) := by dsimp only [dats]
theorem aft43 : (dats m 0 c).after 43 t = View.canon (L43 m c t) := by dsimp only [dats]
theorem bef0 (d) : (dats m 0 c).before 0 t d = iblk m c 0 t := before0_0_of m (dats m 0 c) (A_eq m c 0) (aft0 m c) t d
theorem bef1 (d) : (dats m 0 c).before 1 t d = iblk m c 1 t := before0_1_of m (dats m 0 c) (A_eq m c 1) (aft1 m c) t d
theorem bef2 (d) : (dats m 0 c).before 2 t d = iblk m c 2 t := before0_2_of m (dats m 0 c) (A_eq m c 2) (aft2 m c) t d
theorem bef3 (d) : (dats m 0 c).before 3 t d = iblk m c 3 t := before0_3_of m (dats m 0 c) (A_eq m c 3) (aft3 m c) t d
theorem bef4 (d) : (dats m 0 c).before 4 t d = iblk m c 4 t := before0_4_of m (dats m 0 c) (A_eq m c 4) (aft4 m c) t d
theorem bef5 (d) : (dats m 0 c).before 5 t d = iblk m c 5 t := before0_5_of m (dats m 0 c) (A_eq m c 5) (aft5 m c) t d
theorem bef6 (d) : (dats m 0 c).before 6 t d = iblk m c 6 t := before0_6_of m (dats m 0 c) (A_eq m c 6) (aft6 m c) t d
theorem bef7 (d) : (dats m 0 c).before 7 t d = iblk m c 7 t := before0_7_of m (dats m 0 c) (A_eq m c 7) (aft7 m c) t d
theorem bef8 (d) : (dats m 0 c).before 8 t d = iblk m c 8 t := before0_8_of m (dats m 0 c) (A_eq m c 8) (aft8 m c) t d
theorem bef9 (d) : (dats m 0 c).before 9 t d = iblk m c 9 t := before0_9_of m (dats m 0 c) (A_eq m c 9) (aft9 m c) t d
theorem bef10 (d) : (dats m 0 c).before 10 t d = iblk m c 10 t := before0_10_of m (dats m 0 c) (A_eq m c 10) (aft10 m c) t d
theorem bef11 (d) : (dats m 0 c).before 11 t d = iblk m c 11 t := before0_11_of m (dats m 0 c) (A_eq m c 11) (aft11 m c) t d
theorem bef12 (d) : (dats m 0 c).before 12 t d = iblk m c 12 t := before0_12_of m (dats m 0 c) (A_eq m c 12) (aft12 m c) t d
theorem bef13 (d) : (dats m 0 c).before 13 t d = iblk m c 13 t := before0_13_of m (dats m 0 c) (A_eq m c 13) (aft13 m c) t d
theorem bef14 (d) : (dats m 0 c).before 14 t d = iblk m c 14 t := before0_14_of m (dats m 0 c) (A_eq m c 14) (aft14 m c) t d
theorem bef15 (d) : (dats m 0 c).before 15 t d = iblk m c 15 t := before0_15_of m (dats m 0 c) (A_eq m c 15) (aft15 m c) t d
theorem bef16 (d) : (dats m 0 c).before 16 t d = iblk m c 16 t := before0_16_of m (dats m 0 c) (A_eq m c 16) (aft16 m c) t d
theorem bef17 (d) : (dats m 0 c).before 17 t d = iblk m c 17 t := before0_17_of m (dats m 0 c) (A_eq m c 17) (aft17 m c) t d
theorem bef18 (d) : (dats m 0 c).before 18 t d = iblk m c 18 t := before0_18_of m (dats m 0 c) (A_eq m c 18) (aft18 m c) t d

/-- What the body is called with, and what it returns. -/
def pre : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d)))

def post : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t))

end Cert.Kernel15Ideal.Small

end
-- ==== Proof.Small.Body.lean ====
/- The body of the small parameters' step at a point of the grid. -/
module

public import proofs.«01_k».proof.Proof.Small.Dats

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 16000000 in
/-- The body at a point. -/
theorem body (c : Dev nD) (t : Fin cfg0.N) :
    pre m c t ⊢ wp frame (wpE (defs₀ (F := F)) Variants.none c none) Set.univ (bodyAt0 t) (fun _ => post m c t) := by
  unfold pre post bodyAt0
  simp only [bef0, bef1, bef2, bef3, bef4, bef5, bef6, bef7, bef8, bef9, bef10, bef11, bef12, bef13, bef14, bef15, bef16, bef17, bef18]
  rw [show (dats m 0 c).Φ t.succ = (dats m 0 c).Φ t.castSucc from rfl, show (dats m 0 c).owesAt () t.succ = (dats m 0 c).owesAt () t.castSucc from rfl,
    aft0, aft1, aft2, aft3, aft4, aft5, aft6, aft7, aft8, aft9, aft10, aft11, aft12, aft13, aft14, aft15, aft16, aft17, aft18, aft19, aft20, aft21, aft22, aft23, aft24, aft25, aft26, aft27, aft28, aft29, aft30, aft31, aft32, aft33, aft34, aft35, aft36, aft37, aft38, aft39, aft40, aft41, aft42, aft43,
    show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩⟩
  have h := (T27 m c t).2
  unfold St at h
  iapply (h Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  isplitl [H30]; · iexists _; iexact H30
  isplitl [H31]; · iexists _; iexact H31
  isplitl [H32]; · iexists _; iexact H32
  isplitl [H33]; · iexists _; iexact H33
  isplitl [H34]; · iexists _; iexact H34
  isplitl [H35]; · iexists _; iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [HS0]; · iexact HS0
  isplitl [HS1]; · iexact HS1
  isplitl [HS2]; · iexact HS2
  iintro ⟨H0, H1, H2, H3, H4, H5, H6, H7, H8, H9, H10, H11, H12, H13, H14, H15, H16, H17, H18, ⟨%e19, H19⟩, ⟨%e20, H20⟩, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%e31, H31⟩, ⟨%e32, H32⟩, ⟨%e33, H33⟩, ⟨%e34, H34⟩, ⟨%e35, H35⟩, ⟨%e36, H36⟩, ⟨%e37, H37⟩, ⟨%e38, H38⟩, ⟨%e39, H39⟩, ⟨%e40, H40⟩, ⟨%e41, H41⟩, ⟨%e42, H42⟩, ⟨%e43, H43⟩, ⟨%g0, HS0⟩, ⟨%g1, HS1⟩, ⟨%g2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]
  · unfold owns; iexists _; isplitr
    swap; · iexact H19
    ipureintro; exact View.read_writes_eq_canon _ _ _ (cov19 m c t)
  isplitl [H20]
  · unfold owns; iexists _; isplitr
    swap; · iexact H20
    ipureintro; exact View.read_writes_eq_canon _ _ _ (cov20 m c t)
  isplitl [H21]
  · unfold owns; iexists _; isplitr
    swap; · iexact H21
    ipureintro; exact View.read_writes_eq_canon _ _ _ (cov21 m c t)
  isplitl [H22]
  · unfold owns; iexists _; isplitr
    swap; · iexact H22
    ipureintro; exact View.read_writes_eq_canon _ _ _ (cov22 m c t)
  isplitl [H23]
  · unfold owns; iexists _; isplitr
    swap; · iexact H23
    ipureintro; exact View.read_writes_eq_canon _ _ _ (cov23 m c t)
  isplitl [H24]
  · unfold owns; iexists _; isplitr
    swap; · iexact H24
    ipureintro; exact View.read_writes_eq_canon _ _ _ (cov24 m c t)
  isplitl [H25]
  · unfold owns; iexists _; isplitr
    swap; · iexact H25
    ipureintro; exact View.read_writes_eq_canon _ _ _ (cov25 m c t)
  isplitl [H26]
  · unfold owns; iexists _; isplitr
    swap; · iexact H26
    ipureintro; exact View.read_writes_eq_canon _ _ _ (cov26 m c t)
  isplitl [H27]
  · unfold owns; iexists _; isplitr
    swap; · iexact H27
    ipureintro; exact View.read_writes_eq_canon _ _ _ (cov27 m c t)
  isplitl [H28]
  · unfold owns; iexists _; isplitr
    swap; · iexact H28
    ipureintro; exact View.read_writes_eq_canon _ _ _ (cov28 m c t)
  isplitl [H29]
  · unfold owns; iexists _; isplitr
    swap; · iexact H29
    ipureintro; exact View.read_writes_eq_canon _ _ _ (cov29 m c t)
  isplitl [H30]
  · unfold owns; iexists _; isplitr
    swap; · iexact H30
    ipureintro; exact View.read_writes_eq_canon _ _ _ (cov30 m c t)
  isplitl [H31]
  · unfold owns; iexists _; isplitr
    swap; · iexact H31
    ipureintro; exact View.read_writes_eq_canon _ _ _ (cov31 m c t)
  isplitl [H32]
  · unfold owns; iexists _; isplitr
    swap; · iexact H32
    ipureintro; exact View.read_writes_eq_canon _ _ _ (cov32 m c t)
  isplitl [H33]
  · unfold owns; iexists _; isplitr
    swap; · iexact H33
    ipureintro; exact View.read_writes_eq_canon _ _ _ (cov33 m c t)
  isplitl [H34]
  · unfold owns; iexists _; isplitr
    swap; · iexact H34
    ipureintro; exact View.read_writes_eq_canon _ _ _ (cov34 m c t)
  isplitl [H35]
  · unfold owns; iexists _; isplitr
    swap; · iexact H35
    ipureintro; exact View.read_writes_eq_canon _ _ _ (cov35 m c t)
  isplitl [H36]
  · unfold owns; iexists _; isplitr
    swap; · iexact H36
    ipureintro; exact View.read_writes_eq_canon _ _ _ (cov36 m c t)
  isplitl [H37]
  · unfold owns; iexists _; isplitr
    swap; · iexact H37
    ipureintro; exact View.read_writes_eq_canon _ _ _ (cov37 m c t)
  isplitl [H38]
  · unfold owns; iexists _; isplitr
    swap; · iexact H38
    ipureintro; exact View.read_writes_eq_canon _ _ _ (cov38 m c t)
  isplitl [H39]
  · unfold owns; iexists _; isplitr
    swap; · iexact H39
    ipureintro; exact View.read_writes_eq_canon _ _ _ (cov39 m c t)
  isplitl [H40]
  · unfold owns; iexists _; isplitr
    swap; · iexact H40
    ipureintro; exact View.read_writes_eq_canon _ _ _ (cov40 m c t)
  isplitl [H41]
  · unfold owns; iexists _; isplitr
    swap; · iexact H41
    ipureintro; exact View.read_writes_eq_canon _ _ _ (cov41 m c t)
  isplitl [H42]
  · unfold owns; iexists _; isplitr
    swap; · iexact H42
    ipureintro; exact View.read_writes_eq_canon _ _ _ (cov42 m c t)
  unfold owns; iexists _; isplitr
  swap; · iexact H43
  ipureintro; exact View.read_writes_eq_canon _ _ _ (cov43 m c t)

end Cert.Kernel15Ideal.Small

end
-- ==== Proof.Small.Frame.lean ====
/- The frame of the small parameters' step. -/
module

public import proofs.«01_k».proof.Proof.Small.Body
public import Idealize.ShloMosaic.Lib.Claim

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem row (t : Fin cfg0.N) : defs₀ (F := F) .tc cfg0.body (cfg0.bodyArgs t (cfg0.slots t)) = bodyAt0 t := by
  unfold defs₀; rw [Defs.onTc_tc]

set_option maxHeartbeats 16000000 in
theorem obligation (c : Dev nD) : BodyObligation (dats (F := F) m 0 c) (defs₀ (F := F)) Variants.none () Set.univ := fun t => by
  rw [bigSep_W0, bigSep_W0, row]
  exact triple_restated (body m c t) rfl .rfl fun _ => .rfl

set_option backward.isDefEq.respectTransparency.types false in
/-- The launch, with the counters at zero at the end. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_quiescent m ρ)

/-- The arguments end as they began, and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0) :=
  θ_run_and (frame_of m ρ (dats m) (A_eq m) (run_main m ρ)) ((θ_run defs _ _).mono (fun _ h => h.2) (run_quiescent m ρ))

end Cert.Kernel15Ideal.Small

end
-- ==== Proof.Small.Pd.lean ====
/- The pieces the run leaves of the changes. -/
module

public import proofs.«01_k».proof.Proof.Small.At

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (t : Fin cfg0.N)

theorem eq25 : L25 m c t =
    [⟨Rect.unit (s := S1x1024) ![0, 0] S1x1024.size inb_S1x1024_S1x1024_0_0, extractStridedSlice S1x1024 ![0, 0] (dr m c t) slices_S8x1024_o0_0_S1x1024⟩] := by sl_kernel_rfl

theorem eq26 : L26 m c t =
    [⟨Rect.unit (s := S2x512) ![1, 0] S1x512.size inb_S2x512_S1x512_1_0, extractStridedSlice S1x512 ![1, 512] (dr m c t) slices_S8x1024_o1_512_S1x512⟩, ⟨Rect.unit (s := S2x512) ![0, 0] S1x512.size inb_S2x512_S1x512_0_0, extractStridedSlice S1x512 ![1, 0] (dr m c t) slices_S8x1024_o1_0_S1x512⟩] := by sl_kernel_rfl

theorem eq27 : L27 m c t =
    [⟨Rect.unit (s := S1x512) ![0, 0] S1x512.size inb_S1x512_S1x512_0_0, extractStridedSlice S1x512 ![2, 0] (dr m c t) slices_S8x1024_o2_0_S1x512⟩] := by sl_kernel_rfl

theorem eq28 : L28 m c t =
    [⟨Rect.unit (s := S1x512) ![0, 0] S1x512.size inb_S1x512_S1x512_0_0, extractStridedSlice S1x512 ![2, 512] (dr m c t) slices_S8x1024_o2_512_S1x512⟩] := by sl_kernel_rfl

theorem eq29 : L29 m c t =
    [⟨Rect.unit (s := S1x1024) ![0, 0] S1x1024.size inb_S1x1024_S1x1024_0_0, extractStridedSlice S1x1024 ![3, 0] (dr m c t) slices_S8x1024_o3_0_S1x1024⟩] := by sl_kernel_rfl

theorem eq30 : L30 m c t =
    [⟨Rect.unit (s := S1x1024) ![0, 0] S1x1024.size inb_S1x1024_S1x1024_0_0, extractStridedSlice S1x1024 ![4, 0] (dr m c t) slices_S8x1024_o4_0_S1x1024⟩] := by sl_kernel_rfl

end Cert.Kernel15Ideal.Small

end
-- ==== Proof.Small.Pm.lean ====
/- The pieces the run leaves of the first moments. -/
module

public import proofs.«01_k».proof.Proof.Small.At

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (t : Fin cfg0.N)

theorem eq31 : L31 m c t =
    [⟨Rect.unit (s := S1x1024) ![0, 0] S1x1024.size inb_S1x1024_S1x1024_0_0, extractStridedSlice S1x1024 ![0, 0] (mr m c t) slices_S8x1024_o0_0_S1x1024⟩] := by sl_kernel_rfl

theorem eq32 : L32 m c t =
    [⟨Rect.unit (s := S2x512) ![1, 0] S1x512.size inb_S2x512_S1x512_1_0, extractStridedSlice S1x512 ![1, 512] (mr m c t) slices_S8x1024_o1_512_S1x512⟩, ⟨Rect.unit (s := S2x512) ![0, 0] S1x512.size inb_S2x512_S1x512_0_0, extractStridedSlice S1x512 ![1, 0] (mr m c t) slices_S8x1024_o1_0_S1x512⟩] := by sl_kernel_rfl

theorem eq33 : L33 m c t =
    [⟨Rect.unit (s := S1x512) ![0, 0] S1x512.size inb_S1x512_S1x512_0_0, extractStridedSlice S1x512 ![2, 0] (mr m c t) slices_S8x1024_o2_0_S1x512⟩] := by sl_kernel_rfl

theorem eq34 : L34 m c t =
    [⟨Rect.unit (s := S1x512) ![0, 0] S1x512.size inb_S1x512_S1x512_0_0, extractStridedSlice S1x512 ![2, 512] (mr m c t) slices_S8x1024_o2_512_S1x512⟩] := by sl_kernel_rfl

theorem eq35 : L35 m c t =
    [⟨Rect.unit (s := S1x1024) ![0, 0] S1x1024.size inb_S1x1024_S1x1024_0_0, extractStridedSlice S1x1024 ![3, 0] (mr m c t) slices_S8x1024_o3_0_S1x1024⟩] := by sl_kernel_rfl

theorem eq36 : L36 m c t =
    [⟨Rect.unit (s := S1x1024) ![0, 0] S1x1024.size inb_S1x1024_S1x1024_0_0, extractStridedSlice S1x1024 ![4, 0] (mr m c t) slices_S8x1024_o4_0_S1x1024⟩] := by sl_kernel_rfl

end Cert.Kernel15Ideal.Small

end
-- ==== Proof.Small.Pv.lean ====
/- The pieces the run leaves of the second moments. -/
module

public import proofs.«01_k».proof.Proof.Small.At

@[expose] public section

set_option maxRecDepth 16384

noncomputable section

namespace Cert.Kernel15Ideal.Small

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (t : Fin cfg0.N)

theorem eq37 : L37 m c t =
    [⟨Rect.unit (s := S1x1024) ![0, 0] S1x1024.size inb_S1x1024_S1x1024_0_0, extractStridedSlice S1x1024 ![0, 0] (vr m c t) slices_S8x1024_o0_0_S1x1024⟩] := by sl_kernel_rfl

theorem eq38 : L38 m c t =
    [⟨Rect.unit (s := S2x512) ![1, 0] S1x512.size inb_S2x512_S1x512_1_0, extractStridedSlice S1x512 ![1, 512] (vr m c t) slices_S8x1024_o1_512_S1x512⟩, ⟨Rect.unit (s := S2x512) ![0, 0] S1x512.size inb_S2x512_S1x512_0_0, extractStridedSlice S1x512 ![1, 0] (vr m c t) slices_S8x1024_o1_0_S1x512⟩] := by sl_kernel_rfl

theorem eq39 : L39 m c t =
    [⟨Rect.unit (s := S1x512) ![0, 0] S1x512.size inb_S1x512_S1x512_0_0, extractStridedSlice S1x512 ![2, 0] (vr m c t) slices_S8x1024_o2_0_S1x512⟩] := by sl_kernel_rfl

theorem eq40 : L40 m c t =
    [⟨Rect.unit (s := S1x512) ![0, 0] S1x512.size inb_S1x512_S1x512_0_0, extractStridedSlice S1x512 ![2, 512] (vr m c t) slices_S8x1024_o2_512_S1x512⟩] := by sl_kernel_rfl

theorem eq41 : L41 m c t =
    [⟨Rect.unit (s := S1x1024) ![0, 0] S1x1024.size inb_S1x1024_S1x1024_0_0, extractStridedSlice S1x1024 ![3, 0] (vr m c t) slices_S8x1024_o3_0_S1x1024⟩] := by sl_kernel_rfl

theorem eq42 : L42 m c t =
    [⟨Rect.unit (s := S1x1024) ![0, 0] S1x1024.size inb_S1x1024_S1x1024_0_0, extractStridedSlice S1x1024 ![4, 0] (vr m c t) slices_S8x1024_o4_0_S1x1024⟩] := by sl_kernel_rfl

end Cert.Kernel15Ideal.Small

end
-- ==== Proof.Small.Rows.lean ====
/- The rows of the packed arrays of the small parameters' step, and the step entry by entry. -/
module

public import proofs.«01_k».proof.Proof.Small.Pack
public import Idealize.ShloMosaic.Lib.Pointwise
public import Idealize.ShloMosaic.Lib.Pipeline.Value
public import proofs.«01_k».proof.Proof.Adam

@[expose] public section

set_option maxRecDepth 16384

noncomputable section

namespace Cert.Kernel15Ideal.Small

open Cert.Kernel15Ideal Cert.Kernel15Ideal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg)

theorem hz2 : (![0, 0] : Fin 2 → Nat) = fun _ => 0 := funext fun a => by fin_cases a <;> rfl

theorem off_row {o n : Nat} {sz : Fin 2 → Nat} {inb} (hs : sz 0 = 1) (i : Fin 8) (j : Fin 1024) (h : i.val ≠ n) :
    (ix2 i j : S8x1024.Idx) ∉ (Rect.unit (s := S8x1024) ![n, o] sz inb).set := fun hm => by
  have h0 : n ≤ i.val ∧ i.val < n + sz 0 := Rect.mem_set_unit.1 hm 0
  rw [hs] at h0
  omega

theorem off_col {o n : Nat} {sz : Fin 2 → Nat} {inb} (i : Fin 8) (j : Fin 1024) (h : j.val < o ∨ o + sz 1 ≤ j.val) :
    (ix2 i j : S8x1024.Idx) ∉ (Rect.unit (s := S8x1024) ![n, o] sz inb).set := fun hm => by
  have h0 : o ≤ j.val ∧ j.val < o + sz 1 := Rect.mem_set_unit.1 hm 1
  omega

theorem skip_row {o n : Nat} {sz : Fin 2 → Nat} {inb} (w : (Rect.unit (s := S8x1024) ![n, o] sz inb).shape.Idx → Elt Ideal .f32) (L : List (View.Piece (Elt Ideal) S8x1024 .f32)) (i : Fin 8) (j : Fin 1024) (hs : sz 0 = 1) (h : i.val ≠ n) :
    View.canon (⟨Rect.unit (s := S8x1024) ![n, o] sz inb, w⟩ :: L) (ix2 i j) = View.canon L (ix2 i j) := View.canon_cons_of_not_mem _ _ (off_row (inb := inb) hs i j h)

theorem skip_col {o n : Nat} {sz : Fin 2 → Nat} {inb} (w : (Rect.unit (s := S8x1024) ![n, o] sz inb).shape.Idx → Elt Ideal .f32) (L : List (View.Piece (Elt Ideal) S8x1024 .f32)) (i : Fin 8) (j : Fin 1024) (h : j.val < o) :
    View.canon (⟨Rect.unit (s := S8x1024) ![n, o] sz inb, w⟩ :: L) (ix2 i j) = View.canon L (ix2 i j) := View.canon_cons_of_not_mem _ _ (off_col (inb := inb) i j (.inl h))

theorem hit_wide {n : Nat} {inb} (w : Vec Ideal S1x1024 .f32) (L : List (View.Piece (Elt Ideal) S8x1024 .f32)) (i : Fin 8) (j : Fin 1024) (h : i.val = n) :
    View.canon (⟨Rect.unit (s := S8x1024) ![n, 0] S1x1024.size inb, w⟩ :: L) (ix2 i j) = w (ix2 0 j) := by
  have e : (ix2 i j : S8x1024.Idx) = (Rect.unit (s := S8x1024) ![n, 0] S1x1024.size inb).emb (ix2 (0 : Fin 1) j) := funext fun a => Fin.ext (by
    match a with
    | ⟨0, _⟩ => show i.val = n + 1 * 0; omega
    | ⟨1, _⟩ => show j.val = 0 + 1 * j.val; omega)
  rw [e, View.canon_cons_emb]

theorem hit_half {n o : Nat} {inb} (w : Vec Ideal S1x512 .f32) (L : List (View.Piece (Elt Ideal) S8x1024 .f32)) (i : Fin 8) (j : Fin 1024) (k : Fin 512) (h : i.val = n) (hj : j.val = o + k.val) :
    View.canon (⟨Rect.unit (s := S8x1024) ![n, o] S1x512.size inb, w⟩ :: L) (ix2 i j) = w (ix2 0 k) := by
  have e : (ix2 i j : S8x1024.Idx) = (Rect.unit (s := S8x1024) ![n, o] S1x512.size inb).emb (ix2 (0 : Fin 1) k) := funext fun a => Fin.ext (by
    match a with
    | ⟨0, _⟩ => show i.val = n + 1 * 0; omega
    | ⟨1, _⟩ => show j.val = o + 1 * k.val; omega)
  rw [e, View.canon_cons_emb]

section
variable (a1 : Vec Ideal S1x1024 .f32) (a2 a2' a3 a4 : Vec Ideal S1x512 .f32) (a5 a6 : Vec Ideal S1x1024 .f32)

theorem row_a6 (j : Fin 1024) : View.canon (pk a1 a2 a2' a3 a4 a5 a6) (ix2 (4 : Fin 8) j) = a6 (ix2 0 j) := by
  unfold pk
  rw [hit_wide]
  all_goals first | rfl | decide | omega

theorem row_a5 (j : Fin 1024) : View.canon (pk a1 a2 a2' a3 a4 a5 a6) (ix2 (3 : Fin 8) j) = a5 (ix2 0 j) := by
  unfold pk
  rw [skip_row, hit_wide]
  all_goals first | rfl | decide | omega

theorem row_a4 (j : Fin 1024) (k : Fin 512) (hj : j.val = 512 + k.val) : View.canon (pk a1 a2 a2' a3 a4 a5 a6) (ix2 (2 : Fin 8) j) = a4 (ix2 0 k) := by
  have hk := k.isLt
  unfold pk
  rw [skip_row, skip_row, hit_half (k := k) (hj := hj)]
  all_goals first | rfl | decide | omega

theorem row_a3 (j : Fin 1024) (k : Fin 512) (hj : j.val = 0 + k.val) : View.canon (pk a1 a2 a2' a3 a4 a5 a6) (ix2 (2 : Fin 8) j) = a3 (ix2 0 k) := by
  have hk := k.isLt
  unfold pk
  rw [skip_row, skip_row, skip_col, hit_half (k := k) (hj := hj)]
  all_goals first | rfl | decide | omega

theorem row_a2x (j : Fin 1024) (k : Fin 512) (hj : j.val = 512 + k.val) : View.canon (pk a1 a2 a2' a3 a4 a5 a6) (ix2 (1 : Fin 8) j) = a2' (ix2 0 k) := by
  have hk := k.isLt
  unfold pk
  rw [skip_row, skip_row, skip_row, skip_row, hit_half (k := k) (hj := hj)]
  all_goals first | rfl | decide | omega

theorem row_a2 (j : Fin 1024) (k : Fin 512) (hj : j.val = 0 + k.val) : View.canon (pk a1 a2 a2' a3 a4 a5 a6) (ix2 (1 : Fin 8) j) = a2 (ix2 0 k) := by
  have hk := k.isLt
  unfold pk
  rw [skip_row, skip_row, skip_row, skip_row, skip_col, hit_half (k := k) (hj := hj)]
  all_goals first | rfl | decide | omega

theorem row_a1 (j : Fin 1024) : View.canon (pk a1 a2 a2' a3 a4 a5 a6) (ix2 (0 : Fin 8) j) = a1 (ix2 0 j) := by
  unfold pk
  rw [skip_row, skip_row, skip_row, skip_row, skip_row, skip_row, hit_wide]
  all_goals first | rfl | decide | omega

end

theorem pk_congr {a1 b1 : Vec Ideal S1x1024 .f32} {a2 b2 c2 d2 a3 b3 a4 b4 : Vec Ideal S1x512 .f32} {a5 b5 a6 b6 : Vec Ideal S1x1024 .f32}
    (h1 : a1 = b1) (h2 : a2 = b2) (h2' : c2 = d2) (h3 : a3 = b3) (h4 : a4 = b4) (h5 : a5 = b5) (h6 : a6 = b6) : pk a1 a2 c2 a3 a4 a5 a6 = pk b1 b2 d2 b3 b4 b5 b6 := by
  rw [h1, h2, h2', h3, h4, h5, h6]

theorem same_wide (x : Vec Ideal S1x1024 .f32) : shapeCast S1x1024 x shapeCasts_S1x1024_S1x1024 = x := by
  funext j
  idx_vars j
  pointwise

theorem same_half (x : Vec Ideal S1x512 .f32) : shapeCast S1x512 x shapeCasts_S1x512_S1x512 = x := by
  funext j
  idx_vars j
  pointwise

theorem read_all {κ : Kind} {sp : Space} (v : View sig κ sp S8x1024 .f32) (L : List (View.Piece (Elt Ideal) S8x1024 .f32)) :
    v.readCov L (Rect.unit (s := S8x1024) ![0, 0] S8x1024.size inb_S8x1024_S8x1024_0_0).toLoadRect = View.canon L := by
  rw [View.readCov_eq_canon']
  exact funext fun j => congrArg _ (funext fun a => Fin.ext (by
    match a with
    | ⟨0, _⟩ => show 0 + 1 * (j 0).val = (j 0).val; omega
    | ⟨1, _⟩ => show 0 + 1 * (j 1).val = (j 1).val; omega))

/-- The two rows of a parameter of two rows. -/
def lo (x : Vec Ideal S2x512 .f32) : Vec Ideal S1x512 .f32 := fun i => x (ix2 0 (i 1))

def hi (x : Vec Ideal S2x512 .f32) : Vec Ideal S1x512 .f32 := fun i => x (ix2 1 (i 1))

theorem ld_lo (x : Vec Ideal S2x512 .f32) : View.ld x (Rect.unit (s := S2x512) ![0, 0] S1x512.size inb_S2x512_S1x512_0_0) = lo x :=
  funext fun i => congrArg x (funext fun a => Fin.ext (by
    match a with
    | ⟨0, _⟩ => have h : (i 0).val < 1 := (i 0).isLt
                show 0 + 1 * (i 0).val = 0; omega
    | ⟨1, _⟩ => show 0 + 1 * (i 1).val = (i 1).val; omega))

theorem ld_hi (x : Vec Ideal S2x512 .f32) : View.ld x (Rect.unit (s := S2x512) ![1, 0] S1x512.size inb_S2x512_S1x512_1_0) = hi x :=
  funext fun i => congrArg x (funext fun a => Fin.ext (by
    match a with
    | ⟨0, _⟩ => have h : (i 0).val < 1 := (i 0).isLt
                show 1 + 1 * (i 0).val = 1; omega
    | ⟨1, _⟩ => show 0 + 1 * (i 1).val = (i 1).val; omega))

/-- The index maps at the only point. -/
theorem zero0 : ∀ t : Fin cfg0.N, win0_0.index t (0 : Fin 2) = 0 ∧ win0_0.index t (1 : Fin 2) = 0 := (by decide +kernel : ∀ t : Fin grid0.N, _)

theorem zero1 : ∀ t : Fin cfg0.N, win0_1.index t (0 : Fin 2) = 0 ∧ win0_1.index t (1 : Fin 2) = 0 := (by decide +kernel : ∀ t : Fin grid0.N, _)

theorem zero2 : ∀ t : Fin cfg0.N, win0_2.index t (0 : Fin 2) = 0 ∧ win0_2.index t (1 : Fin 2) = 0 := (by decide +kernel : ∀ t : Fin grid0.N, _)

theorem zero3 : ∀ t : Fin cfg0.N, win0_3.index t (0 : Fin 2) = 0 ∧ win0_3.index t (1 : Fin 2) = 0 := (by decide +kernel : ∀ t : Fin grid0.N, _)

theorem zero4 : ∀ t : Fin cfg0.N, win0_4.index t (0 : Fin 2) = 0 ∧ win0_4.index t (1 : Fin 2) = 0 := (by decide +kernel : ∀ t : Fin grid0.N, _)

theorem zero5 : ∀ t : Fin cfg0.N, win0_5.index t (0 : Fin 2) = 0 ∧ win0_5.index t (1 : Fin 2) = 0 := (by decide +kernel : ∀ t : Fin grid0.N, _)

theorem zero6 : ∀ t : Fin cfg0.N, win0_6.index t (0 : Fin 2) = 0 ∧ win0_6.index t (1 : Fin 2) = 0 := (by decide +kernel : ∀ t : Fin grid0.N, _)

theorem zero7 : ∀ t : Fin cfg0.N, win0_7.index t (0 : Fin 2) = 0 ∧ win0_7.index t (1 : Fin 2) = 0 := (by decide +kernel : ∀ t : Fin grid0.N, _)

theorem zero8 : ∀ t : Fin cfg0.N, win0_8.index t (0 : Fin 2) = 0 ∧ win0_8.index t (1 : Fin 2) = 0 := (by decide +kernel : ∀ t : Fin grid0.N, _)

theorem zero9 : ∀ t : Fin cfg0.N, win0_9.index t (0 : Fin 2) = 0 ∧ win0_9.index t (1 : Fin 2) = 0 := (by decide +kernel : ∀ t : Fin grid0.N, _)

theorem zero10 : ∀ t : Fin cfg0.N, win0_10.index t (0 : Fin 2) = 0 ∧ win0_10.index t (1 : Fin 2) = 0 := (by decide +kernel : ∀ t : Fin grid0.N, _)

theorem zero11 : ∀ t : Fin cfg0.N, win0_11.index t (0 : Fin 2) = 0 ∧ win0_11.index t (1 : Fin 2) = 0 := (by decide +kernel : ∀ t : Fin grid0.N, _)

theorem zero12 : ∀ t : Fin cfg0.N, win0_12.index t (0 : Fin 2) = 0 ∧ win0_12.index t (1 : Fin 2) = 0 := (by decide +kernel : ∀ t : Fin grid0.N, _)

theorem zero13 : ∀ t : Fin cfg0.N, win0_13.index t (0 : Fin 2) = 0 ∧ win0_13.index t (1 : Fin 2) = 0 := (by decide +kernel : ∀ t : Fin grid0.N, _)

theorem zero14 : ∀ t : Fin cfg0.N, win0_14.index t (0 : Fin 2) = 0 ∧ win0_14.index t (1 : Fin 2) = 0 := (by decide +kernel : ∀ t : Fin grid0.N, _)

theorem zero15 : ∀ t : Fin cfg0.N, win0_15.index t (0 : Fin 2) = 0 ∧ win0_15.index t (1 : Fin 2) = 0 := (by decide +kernel : ∀ t : Fin grid0.N, _)

theorem zero16 : ∀ t : Fin cfg0.N, win0_16.index t (0 : Fin 2) = 0 ∧ win0_16.index t (1 : Fin 2) = 0 := (by decide +kernel : ∀ t : Fin grid0.N, _)

theorem zero17 : ∀ t : Fin cfg0.N, win0_17.index t (0 : Fin 2) = 0 ∧ win0_17.index t (1 : Fin 2) = 0 := (by decide +kernel : ∀ t : Fin grid0.N, _)

theorem zero18 : ∀ t : Fin cfg0.N, win0_18.index t (0 : Fin 2) = 0 ∧ win0_18.index t (1 : Fin 2) = 0 := (by decide +kernel : ∀ t : Fin grid0.N, _)

theorem zero25 : ∀ t : Fin cfg0.N, win0_25.index t (0 : Fin 2) = 0 ∧ win0_25.index t (1 : Fin 2) = 0 := (by decide +kernel : ∀ t : Fin grid0.N, _)

theorem zero26 : ∀ t : Fin cfg0.N, win0_26.index t (0 : Fin 2) = 0 ∧ win0_26.index t (1 : Fin 2) = 0 := (by decide +kernel : ∀ t : Fin grid0.N, _)

theorem zero27 : ∀ t : Fin cfg0.N, win0_27.index t (0 : Fin 2) = 0 ∧ win0_27.index t (1 : Fin 2) = 0 := (by decide +kernel : ∀ t : Fin grid0.N, _)

theorem zero28 : ∀ t : Fin cfg0.N, win0_28.index t (0 : Fin 2) = 0 ∧ win0_28.index t (1 : Fin 2) = 0 := (by decide +kernel : ∀ t : Fin grid0.N, _)

theorem zero29 : ∀ t : Fin cfg0.N, win0_29.index t (0 : Fin 2) = 0 ∧ win0_29.index t (1 : Fin 2) = 0 := (by decide +kernel : ∀ t : Fin grid0.N, _)

theorem zero30 : ∀ t : Fin cfg0.N, win0_30.index t (0 : Fin 2) = 0 ∧ win0_30.index t (1 : Fin 2) = 0 := (by decide +kernel : ∀ t : Fin grid0.N, _)

theorem zero31 : ∀ t : Fin cfg0.N, win0_31.index t (0 : Fin 2) = 0 ∧ win0_31.index t (1 : Fin 2) = 0 := (by decide +kernel : ∀ t : Fin grid0.N, _)

theorem zero32 : ∀ t : Fin cfg0.N, win0_32.index t (0 : Fin 2) = 0 ∧ win0_32.index t (1 : Fin 2) = 0 := (by decide +kernel : ∀ t : Fin grid0.N, _)

theorem zero33 : ∀ t : Fin cfg0.N, win0_33.index t (0 : Fin 2) = 0 ∧ win0_33.index t (1 : Fin 2) = 0 := (by decide +kernel : ∀ t : Fin grid0.N, _)

theorem zero34 : ∀ t : Fin cfg0.N, win0_34.index t (0 : Fin 2) = 0 ∧ win0_34.index t (1 : Fin 2) = 0 := (by decide +kernel : ∀ t : Fin grid0.N, _)

theorem zero35 : ∀ t : Fin cfg0.N, win0_35.index t (0 : Fin 2) = 0 ∧ win0_35.index t (1 : Fin 2) = 0 := (by decide +kernel : ∀ t : Fin grid0.N, _)

theorem zero36 : ∀ t : Fin cfg0.N, win0_36.index t (0 : Fin 2) = 0 ∧ win0_36.index t (1 : Fin 2) = 0 := (by decide +kernel : ∀ t : Fin grid0.N, _)

theorem zero37 : ∀ t : Fin cfg0.N, win0_37.index t (0 : Fin 2) = 0 ∧ win0_37.index t (1 : Fin 2) = 0 := (by decide +kernel : ∀ t : Fin grid0.N, _)

theorem zero38 : ∀ t : Fin cfg0.N, win0_38.index t (0 : Fin 2) = 0 ∧ win0_38.index t (1 : Fin 2) = 0 := (by decide +kernel : ∀ t : Fin grid0.N, _)

theorem zero39 : ∀ t : Fin cfg0.N, win0_39.index t (0 : Fin 2) = 0 ∧ win0_39.index t (1 : Fin 2) = 0 := (by decide +kernel : ∀ t : Fin grid0.N, _)

theorem zero40 : ∀ t : Fin cfg0.N, win0_40.index t (0 : Fin 2) = 0 ∧ win0_40.index t (1 : Fin 2) = 0 := (by decide +kernel : ∀ t : Fin grid0.N, _)

theorem zero41 : ∀ t : Fin cfg0.N, win0_41.index t (0 : Fin 2) = 0 ∧ win0_41.index t (1 : Fin 2) = 0 := (by decide +kernel : ∀ t : Fin grid0.N, _)

theorem zero42 : ∀ t : Fin cfg0.N, win0_42.index t (0 : Fin 2) = 0 ∧ win0_42.index t (1 : Fin 2) = 0 := (by decide +kernel : ∀ t : Fin grid0.N, _)

theorem blk0 (c : Dev nD) (t : Fin cfg0.N) : (iblk m c 0 t : Vec Ideal S8x1024 .f32) = V m c main_v7 := by
  obtain ⟨e0, e1⟩ := zero0 t
  funext i
  show (V m c main_v7 : Vec Ideal S8x1024 .f32) (((cfg0.win 0).blk t).view.emb i) = _
  refine congrArg _ (funext fun a => Fin.ext ?_)
  match a with
  | ⟨0, _⟩ => show win0_0.index t (0 : Fin 2) * 8 + 1 * (i 0).val = (i 0).val; rw [e0]; omega
  | ⟨1, _⟩ => show win0_0.index t (1 : Fin 2) * 1024 + 1 * (i 1).val = (i 1).val; rw [e1]; omega

theorem blk1 (c : Dev nD) (t : Fin cfg0.N) : (iblk m c 1 t : Vec Ideal S1x1024 .f32) = m ((c : Thread nD τ).loc main_arg7) := by
  obtain ⟨e0, e1⟩ := zero1 t
  rw [← V_main_arg7 m c]
  funext i
  show (V m c main_arg7 : Vec Ideal S1x1024 .f32) (((cfg0.win 1).blk t).view.emb i) = _
  refine congrArg _ (funext fun a => Fin.ext ?_)
  match a with
  | ⟨0, _⟩ => show win0_1.index t (0 : Fin 2) * 1 + 1 * (i 0).val = (i 0).val; rw [e0]; omega
  | ⟨1, _⟩ => show win0_1.index t (1 : Fin 2) * 1024 + 1 * (i 1).val = (i 1).val; rw [e1]; omega

theorem blk2 (c : Dev nD) (t : Fin cfg0.N) : (iblk m c 2 t : Vec Ideal S2x512 .f32) = m ((c : Thread nD τ).loc main_arg8) := by
  obtain ⟨e0, e1⟩ := zero2 t
  rw [← V_main_arg8 m c]
  funext i
  show (V m c main_arg8 : Vec Ideal S2x512 .f32) (((cfg0.win 2).blk t).view.emb i) = _
  refine congrArg _ (funext fun a => Fin.ext ?_)
  match a with
  | ⟨0, _⟩ => show win0_2.index t (0 : Fin 2) * 2 + 1 * (i 0).val = (i 0).val; rw [e0]; omega
  | ⟨1, _⟩ => show win0_2.index t (1 : Fin 2) * 512 + 1 * (i 1).val = (i 1).val; rw [e1]; omega

theorem blk3 (c : Dev nD) (t : Fin cfg0.N) : (iblk m c 3 t : Vec Ideal S1x512 .f32) = m ((c : Thread nD τ).loc main_arg9) := by
  obtain ⟨e0, e1⟩ := zero3 t
  rw [← V_main_arg9 m c]
  funext i
  show (V m c main_arg9 : Vec Ideal S1x512 .f32) (((cfg0.win 3).blk t).view.emb i) = _
  refine congrArg _ (funext fun a => Fin.ext ?_)
  match a with
  | ⟨0, _⟩ => show win0_3.index t (0 : Fin 2) * 1 + 1 * (i 0).val = (i 0).val; rw [e0]; omega
  | ⟨1, _⟩ => show win0_3.index t (1 : Fin 2) * 512 + 1 * (i 1).val = (i 1).val; rw [e1]; omega

theorem blk4 (c : Dev nD) (t : Fin cfg0.N) : (iblk m c 4 t : Vec Ideal S1x512 .f32) = m ((c : Thread nD τ).loc main_arg10) := by
  obtain ⟨e0, e1⟩ := zero4 t
  rw [← V_main_arg10 m c]
  funext i
  show (V m c main_arg10 : Vec Ideal S1x512 .f32) (((cfg0.win 4).blk t).view.emb i) = _
  refine congrArg _ (funext fun a => Fin.ext ?_)
  match a with
  | ⟨0, _⟩ => show win0_4.index t (0 : Fin 2) * 1 + 1 * (i 0).val = (i 0).val; rw [e0]; omega
  | ⟨1, _⟩ => show win0_4.index t (1 : Fin 2) * 512 + 1 * (i 1).val = (i 1).val; rw [e1]; omega

theorem blk5 (c : Dev nD) (t : Fin cfg0.N) : (iblk m c 5 t : Vec Ideal S1x1024 .f32) = m ((c : Thread nD τ).loc main_arg11) := by
  obtain ⟨e0, e1⟩ := zero5 t
  rw [← V_main_arg11 m c]
  funext i
  show (V m c main_arg11 : Vec Ideal S1x1024 .f32) (((cfg0.win 5).blk t).view.emb i) = _
  refine congrArg _ (funext fun a => Fin.ext ?_)
  match a with
  | ⟨0, _⟩ => show win0_5.index t (0 : Fin 2) * 1 + 1 * (i 0).val = (i 0).val; rw [e0]; omega
  | ⟨1, _⟩ => show win0_5.index t (1 : Fin 2) * 1024 + 1 * (i 1).val = (i 1).val; rw [e1]; omega

theorem blk6 (c : Dev nD) (t : Fin cfg0.N) : (iblk m c 6 t : Vec Ideal S1x1024 .f32) = m ((c : Thread nD τ).loc main_arg12) := by
  obtain ⟨e0, e1⟩ := zero6 t
  rw [← V_main_arg12 m c]
  funext i
  show (V m c main_arg12 : Vec Ideal S1x1024 .f32) (((cfg0.win 6).blk t).view.emb i) = _
  refine congrArg _ (funext fun a => Fin.ext ?_)
  match a with
  | ⟨0, _⟩ => show win0_6.index t (0 : Fin 2) * 1 + 1 * (i 0).val = (i 0).val; rw [e0]; omega
  | ⟨1, _⟩ => show win0_6.index t (1 : Fin 2) * 1024 + 1 * (i 1).val = (i 1).val; rw [e1]; omega

theorem blk7 (c : Dev nD) (t : Fin cfg0.N) : (iblk m c 7 t : Vec Ideal S1x1024 .f32) = m ((c : Thread nD τ).loc main_arg13) := by
  obtain ⟨e0, e1⟩ := zero7 t
  rw [← V_main_arg13 m c]
  funext i
  show (V m c main_arg13 : Vec Ideal S1x1024 .f32) (((cfg0.win 7).blk t).view.emb i) = _
  refine congrArg _ (funext fun a => Fin.ext ?_)
  match a with
  | ⟨0, _⟩ => show win0_7.index t (0 : Fin 2) * 1 + 1 * (i 0).val = (i 0).val; rw [e0]; omega
  | ⟨1, _⟩ => show win0_7.index t (1 : Fin 2) * 1024 + 1 * (i 1).val = (i 1).val; rw [e1]; omega

theorem blk8 (c : Dev nD) (t : Fin cfg0.N) : (iblk m c 8 t : Vec Ideal S2x512 .f32) = m ((c : Thread nD τ).loc main_arg14) := by
  obtain ⟨e0, e1⟩ := zero8 t
  rw [← V_main_arg14 m c]
  funext i
  show (V m c main_arg14 : Vec Ideal S2x512 .f32) (((cfg0.win 8).blk t).view.emb i) = _
  refine congrArg _ (funext fun a => Fin.ext ?_)
  match a with
  | ⟨0, _⟩ => show win0_8.index t (0 : Fin 2) * 2 + 1 * (i 0).val = (i 0).val; rw [e0]; omega
  | ⟨1, _⟩ => show win0_8.index t (1 : Fin 2) * 512 + 1 * (i 1).val = (i 1).val; rw [e1]; omega

theorem blk9 (c : Dev nD) (t : Fin cfg0.N) : (iblk m c 9 t : Vec Ideal S1x512 .f32) = m ((c : Thread nD τ).loc main_arg15) := by
  obtain ⟨e0, e1⟩ := zero9 t
  rw [← V_main_arg15 m c]
  funext i
  show (V m c main_arg15 : Vec Ideal S1x512 .f32) (((cfg0.win 9).blk t).view.emb i) = _
  refine congrArg _ (funext fun a => Fin.ext ?_)
  match a with
  | ⟨0, _⟩ => show win0_9.index t (0 : Fin 2) * 1 + 1 * (i 0).val = (i 0).val; rw [e0]; omega
  | ⟨1, _⟩ => show win0_9.index t (1 : Fin 2) * 512 + 1 * (i 1).val = (i 1).val; rw [e1]; omega

theorem blk10 (c : Dev nD) (t : Fin cfg0.N) : (iblk m c 10 t : Vec Ideal S1x512 .f32) = m ((c : Thread nD τ).loc main_arg16) := by
  obtain ⟨e0, e1⟩ := zero10 t
  rw [← V_main_arg16 m c]
  funext i
  show (V m c main_arg16 : Vec Ideal S1x512 .f32) (((cfg0.win 10).blk t).view.emb i) = _
  refine congrArg _ (funext fun a => Fin.ext ?_)
  match a with
  | ⟨0, _⟩ => show win0_10.index t (0 : Fin 2) * 1 + 1 * (i 0).val = (i 0).val; rw [e0]; omega
  | ⟨1, _⟩ => show win0_10.index t (1 : Fin 2) * 512 + 1 * (i 1).val = (i 1).val; rw [e1]; omega

theorem blk11 (c : Dev nD) (t : Fin cfg0.N) : (iblk m c 11 t : Vec Ideal S1x1024 .f32) = m ((c : Thread nD τ).loc main_arg17) := by
  obtain ⟨e0, e1⟩ := zero11 t
  rw [← V_main_arg17 m c]
  funext i
  show (V m c main_arg17 : Vec Ideal S1x1024 .f32) (((cfg0.win 11).blk t).view.emb i) = _
  refine congrArg _ (funext fun a => Fin.ext ?_)
  match a with
  | ⟨0, _⟩ => show win0_11.index t (0 : Fin 2) * 1 + 1 * (i 0).val = (i 0).val; rw [e0]; omega
  | ⟨1, _⟩ => show win0_11.index t (1 : Fin 2) * 1024 + 1 * (i 1).val = (i 1).val; rw [e1]; omega

theorem blk12 (c : Dev nD) (t : Fin cfg0.N) : (iblk m c 12 t : Vec Ideal S1x1024 .f32) = m ((c : Thread nD τ).loc main_arg18) := by
  obtain ⟨e0, e1⟩ := zero12 t
  rw [← V_main_arg18 m c]
  funext i
  show (V m c main_arg18 : Vec Ideal S1x1024 .f32) (((cfg0.win 12).blk t).view.emb i) = _
  refine congrArg _ (funext fun a => Fin.ext ?_)
  match a with
  | ⟨0, _⟩ => show win0_12.index t (0 : Fin 2) * 1 + 1 * (i 0).val = (i 0).val; rw [e0]; omega
  | ⟨1, _⟩ => show win0_12.index t (1 : Fin 2) * 1024 + 1 * (i 1).val = (i 1).val; rw [e1]; omega

theorem blk13 (c : Dev nD) (t : Fin cfg0.N) : (iblk m c 13 t : Vec Ideal S1x1024 .f32) = m ((c : Thread nD τ).loc main_arg19) := by
  obtain ⟨e0, e1⟩ := zero13 t
  rw [← V_main_arg19 m c]
  funext i
  show (V m c main_arg19 : Vec Ideal S1x1024 .f32) (((cfg0.win 13).blk t).view.emb i) = _
  refine congrArg _ (funext fun a => Fin.ext ?_)
  match a with
  | ⟨0, _⟩ => show win0_13.index t (0 : Fin 2) * 1 + 1 * (i 0).val = (i 0).val; rw [e0]; omega
  | ⟨1, _⟩ => show win0_13.index t (1 : Fin 2) * 1024 + 1 * (i 1).val = (i 1).val; rw [e1]; omega

theorem blk14 (c : Dev nD) (t : Fin cfg0.N) : (iblk m c 14 t : Vec Ideal S2x512 .f32) = m ((c : Thread nD τ).loc main_arg20) := by
  obtain ⟨e0, e1⟩ := zero14 t
  rw [← V_main_arg20 m c]
  funext i
  show (V m c main_arg20 : Vec Ideal S2x512 .f32) (((cfg0.win 14).blk t).view.emb i) = _
  refine congrArg _ (funext fun a => Fin.ext ?_)
  match a with
  | ⟨0, _⟩ => show win0_14.index t (0 : Fin 2) * 2 + 1 * (i 0).val = (i 0).val; rw [e0]; omega
  | ⟨1, _⟩ => show win0_14.index t (1 : Fin 2) * 512 + 1 * (i 1).val = (i 1).val; rw [e1]; omega

theorem blk15 (c : Dev nD) (t : Fin cfg0.N) : (iblk m c 15 t : Vec Ideal S1x512 .f32) = m ((c : Thread nD τ).loc main_arg21) := by
  obtain ⟨e0, e1⟩ := zero15 t
  rw [← V_main_arg21 m c]
  funext i
  show (V m c main_arg21 : Vec Ideal S1x512 .f32) (((cfg0.win 15).blk t).view.emb i) = _
  refine congrArg _ (funext fun a => Fin.ext ?_)
  match a with
  | ⟨0, _⟩ => show win0_15.index t (0 : Fin 2) * 1 + 1 * (i 0).val = (i 0).val; rw [e0]; omega
  | ⟨1, _⟩ => show win0_15.index t (1 : Fin 2) * 512 + 1 * (i 1).val = (i 1).val; rw [e1]; omega

theorem blk16 (c : Dev nD) (t : Fin cfg0.N) : (iblk m c 16 t : Vec Ideal S1x512 .f32) = m ((c : Thread nD τ).loc main_arg22) := by
  obtain ⟨e0, e1⟩ := zero16 t
  rw [← V_main_arg22 m c]
  funext i
  show (V m c main_arg22 : Vec Ideal S1x512 .f32) (((cfg0.win 16).blk t).view.emb i) = _
  refine congrArg _ (funext fun a => Fin.ext ?_)
  match a with
  | ⟨0, _⟩ => show win0_16.index t (0 : Fin 2) * 1 + 1 * (i 0).val = (i 0).val; rw [e0]; omega
  | ⟨1, _⟩ => show win0_16.index t (1 : Fin 2) * 512 + 1 * (i 1).val = (i 1).val; rw [e1]; omega

theorem blk17 (c : Dev nD) (t : Fin cfg0.N) : (iblk m c 17 t : Vec Ideal S1x1024 .f32) = m ((c : Thread nD τ).loc main_arg23) := by
  obtain ⟨e0, e1⟩ := zero17 t
  rw [← V_main_arg23 m c]
  funext i
  show (V m c main_arg23 : Vec Ideal S1x1024 .f32) (((cfg0.win 17).blk t).view.emb i) = _
  refine congrArg _ (funext fun a => Fin.ext ?_)
  match a with
  | ⟨0, _⟩ => show win0_17.index t (0 : Fin 2) * 1 + 1 * (i 0).val = (i 0).val; rw [e0]; omega
  | ⟨1, _⟩ => show win0_17.index t (1 : Fin 2) * 1024 + 1 * (i 1).val = (i 1).val; rw [e1]; omega

theorem blk18 (c : Dev nD) (t : Fin cfg0.N) : (iblk m c 18 t : Vec Ideal S1x1024 .f32) = m ((c : Thread nD τ).loc main_arg24) := by
  obtain ⟨e0, e1⟩ := zero18 t
  rw [← V_main_arg24 m c]
  funext i
  show (V m c main_arg24 : Vec Ideal S1x1024 .f32) (((cfg0.win 18).blk t).view.emb i) = _
  refine congrArg _ (funext fun a => Fin.ext ?_)
  match a with
  | ⟨0, _⟩ => show win0_18.index t (0 : Fin 2) * 1 + 1 * (i 0).val = (i 0).val; rw [e0]; omega
  | ⟨1, _⟩ => show win0_18.index t (1 : Fin 2) * 1024 + 1 * (i 1).val = (i 1).val; rw [e1]; omega

theorem wr_eq (c : Dev nD) (t : Fin cfg0.N) : wr m c t = View.canon (pk (m ((c : Thread nD τ).loc main_arg7)) (lo (m ((c : Thread nD τ).loc main_arg8))) (hi (m ((c : Thread nD τ).loc main_arg8))) (m ((c : Thread nD τ).loc main_arg9)) (m ((c : Thread nD τ).loc main_arg10)) (m ((c : Thread nD τ).loc main_arg11)) (m ((c : Thread nD τ).loc main_arg12))) := by
  unfold wr
  rw [read_all]
  refine congrArg View.canon (pk_congr ((same_wide _).trans ?_) ((same_half _).trans ?_) ((same_half _).trans ?_) ((same_half _).trans ?_) ((same_half _).trans ?_) ((same_wide _).trans ?_) ((same_wide _).trans ?_))
  · rw [View.readAt_eq_ld, (hs0_1 t).read_unread, View.ld_unit_zero (S := S1x1024) hz2, blk1]
  · rw [View.readAt_eq_ld, (hs0_2 t).read_unread, ld_lo, blk2]
  · rw [View.readAt_eq_ld, (hs0_2 t).read_unread, ld_hi, blk2]
  · rw [View.readAt_eq_ld, (hs0_3 t).read_unread, View.ld_unit_zero (S := S1x512) hz2, blk3]
  · rw [View.readAt_eq_ld, (hs0_4 t).read_unread, View.ld_unit_zero (S := S1x512) hz2, blk4]
  · rw [View.readAt_eq_ld, (hs0_5 t).read_unread, View.ld_unit_zero (S := S1x1024) hz2, blk5]
  · rw [View.readAt_eq_ld, (hs0_6 t).read_unread, View.ld_unit_zero (S := S1x1024) hz2, blk6]

theorem ar_eq (c : Dev nD) (t : Fin cfg0.N) : ar m c t = View.canon (pk (m ((c : Thread nD τ).loc main_arg13)) (lo (m ((c : Thread nD τ).loc main_arg14))) (hi (m ((c : Thread nD τ).loc main_arg14))) (m ((c : Thread nD τ).loc main_arg15)) (m ((c : Thread nD τ).loc main_arg16)) (m ((c : Thread nD τ).loc main_arg17)) (m ((c : Thread nD τ).loc main_arg18))) := by
  unfold ar
  rw [read_all]
  refine congrArg View.canon (pk_congr ((same_wide _).trans ?_) ((same_half _).trans ?_) ((same_half _).trans ?_) ((same_half _).trans ?_) ((same_half _).trans ?_) ((same_wide _).trans ?_) ((same_wide _).trans ?_))
  · rw [View.readAt_eq_ld, (hs0_7 t).read_unread, View.ld_unit_zero (S := S1x1024) hz2, blk7]
  · rw [View.readAt_eq_ld, (hs0_8 t).read_unread, ld_lo, blk8]
  · rw [View.readAt_eq_ld, (hs0_8 t).read_unread, ld_hi, blk8]
  · rw [View.readAt_eq_ld, (hs0_9 t).read_unread, View.ld_unit_zero (S := S1x512) hz2, blk9]
  · rw [View.readAt_eq_ld, (hs0_10 t).read_unread, View.ld_unit_zero (S := S1x512) hz2, blk10]
  · rw [View.readAt_eq_ld, (hs0_11 t).read_unread, View.ld_unit_zero (S := S1x1024) hz2, blk11]
  · rw [View.readAt_eq_ld, (hs0_12 t).read_unread, View.ld_unit_zero (S := S1x1024) hz2, blk12]

theorem br_eq (c : Dev nD) (t : Fin cfg0.N) : br m c t = View.canon (pk (m ((c : Thread nD τ).loc main_arg19)) (lo (m ((c : Thread nD τ).loc main_arg20))) (hi (m ((c : Thread nD τ).loc main_arg20))) (m ((c : Thread nD τ).loc main_arg21)) (m ((c : Thread nD τ).loc main_arg22)) (m ((c : Thread nD τ).loc main_arg23)) (m ((c : Thread nD τ).loc main_arg24))) := by
  unfold br
  rw [read_all]
  refine congrArg View.canon (pk_congr ((same_wide _).trans ?_) ((same_half _).trans ?_) ((same_half _).trans ?_) ((same_half _).trans ?_) ((same_half _).trans ?_) ((same_wide _).trans ?_) ((same_wide _).trans ?_))
  · rw [View.readAt_eq_ld, (hs0_13 t).read_unread, View.ld_unit_zero (S := S1x1024) hz2, blk13]
  · rw [View.readAt_eq_ld, (hs0_14 t).read_unread, ld_lo, blk14]
  · rw [View.readAt_eq_ld, (hs0_14 t).read_unread, ld_hi, blk14]
  · rw [View.readAt_eq_ld, (hs0_15 t).read_unread, View.ld_unit_zero (S := S1x512) hz2, blk15]
  · rw [View.readAt_eq_ld, (hs0_16 t).read_unread, View.ld_unit_zero (S := S1x512) hz2, blk16]
  · rw [View.readAt_eq_ld, (hs0_17 t).read_unread, View.ld_unit_zero (S := S1x1024) hz2, blk17]
  · rw [View.readAt_eq_ld, (hs0_18 t).read_unread, View.ld_unit_zero (S := S1x1024) hz2, blk18]

theorem gr_eq (c : Dev nD) (t : Fin cfg0.N) : gr m c t = (V m c main_v7 : Vec Ideal S8x1024 .f32) := by
  unfold gr
  rw [View.readAt_eq_ld, (hs0_0 t).read_unread, View.ld_unit_zero (S := S8x1024) hz2, blk0]

theorem mr_at (c : Dev nD) (t : Fin cfg0.N) (i : Fin 8) (j : Fin 1024) : mr m c t (ix2 i j : S8x1024.Idx) = Cert.Adam.nm (gr m c t (ix2 i j : S8x1024.Idx)) (ar m c t (ix2 i j : S8x1024.Idx)) := by
  unfold mr
  generalize gr m c t = g
  generalize ar m c t = a
  pointwise [k0_pay35, k0_pay34]
  rfl

theorem vr_at (c : Dev nD) (t : Fin cfg0.N) (i : Fin 8) (j : Fin 1024) : vr m c t (ix2 i j : S8x1024.Idx) = Cert.Adam.nv (gr m c t (ix2 i j : S8x1024.Idx)) (br m c t (ix2 i j : S8x1024.Idx)) := by
  unfold vr
  generalize gr m c t = g
  generalize br m c t = b
  pointwise [k0_pay39, k0_pay38, k0_pay37, k0_pay36, k0_pay34]
  rfl

theorem dr_at (c : Dev nD) (t : Fin cfg0.N) (i : Fin 8) (j : Fin 1024) :
    dr m c t (ix2 i j : S8x1024.Idx) = Cert.Adam.delta (wr m c t (ix2 i j : S8x1024.Idx)) (gr m c t (ix2 i j : S8x1024.Idx)) (ar m c t (ix2 i j : S8x1024.Idx)) (br m c t (ix2 i j : S8x1024.Idx)) := by
  unfold dr mr
  generalize gr m c t = g
  generalize ar m c t = a
  generalize br m c t = b
  generalize wr m c t = w
  pointwise [k0_pay40, k0_pay39, k0_pay38, k0_pay37, k0_pay36, k0_pay35, k0_pay34]
  rfl

end Cert.Kernel15Ideal.Small

end
-- ==== Proof.Small.Host.lean ====
/- The packed gradients, as the host's lines leave them. -/
module

public import proofs.«01_k».proof.Proof.Small.Rows

@[expose] public section

set_option maxRecDepth 16384

noncomputable section

namespace Cert.Kernel15Ideal.Small

open Cert.Kernel15Ideal Cert.Kernel15Ideal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg)

theorem V_v2 (c : Dev nD) : (V m c main_v2 : FVec Ideal S1x1024 .f32) = concatenate S1x1024 1 [⟨S1x512, extractStridedSlice S1x512 ![0, 0] (m ((c : Thread nD τ).loc main_arg2) : FVec Ideal S2x512 .f32) slices_S2x512_S1x512_0_0⟩, ⟨S1x512, extractStridedSlice S1x512 ![1, 0] (m ((c : Thread nD τ).loc main_arg2) : FVec Ideal S2x512 .f32) slices_S2x512_S1x512_1_0⟩] concatenates_S1x512_S1x512_S1x1024_d1 := by
  dsimp only [V, hostOps0]
  after_results

theorem V_v3 (c : Dev nD) : (V m c main_v3 : FVec Ideal S1x1024 .f32) = concatenate S1x1024 1 [⟨S1x512, (m ((c : Thread nD τ).loc main_arg3) : FVec Ideal S1x512 .f32)⟩, ⟨S1x512, (m ((c : Thread nD τ).loc main_arg4) : FVec Ideal S1x512 .f32)⟩] concatenates_S1x512_S1x512_S1x1024_d1 := by
  dsimp only [V, hostOps0]
  after_results

/-- The packed gradients. -/
theorem V_v7 (c : Dev nD) : (V m c main_v7 : FVec Ideal S8x1024 .f32) = concatenate S8x1024 0 [⟨S1x1024, (V m c main_arg1 : FVec Ideal S1x1024 .f32)⟩, ⟨S1x1024, (V m c main_v2 : FVec Ideal S1x1024 .f32)⟩, ⟨S1x1024, (V m c main_v3 : FVec Ideal S1x1024 .f32)⟩, ⟨S1x1024, (V m c main_arg5 : FVec Ideal S1x1024 .f32)⟩, ⟨S1x1024, (V m c main_arg6 : FVec Ideal S1x1024 .f32)⟩, ⟨S1x1024, (V m c main_v5 : FVec Ideal S1x1024 .f32)⟩, ⟨S2x1024, (V m c main_v6 : FVec Ideal S2x1024 .f32)⟩]
    concatenates_S1x1024_S1x1024_S1x1024_S1x1024_S1x1024_S1x1024_S2x1024_S8x1024_d0 := by
  dsimp only [V, hostOps0]
  rw [after_cons, after_cons, after_cons, after_cons, after_cons, after_cons, after_cons, after_cons, after_cons, after_cons, after_nil]
  rw [nary_result, nary_result_ne (r := main_arg1) (h := by decide), nary_result_ne (r := main_v2) (h := by decide), nary_result_ne (r := main_v3) (h := by decide), nary_result_ne (r := main_arg5) (h := by decide), nary_result_ne (r := main_arg6) (h := by decide), nary_result_ne (r := main_v5) (h := by decide), nary_result_ne (r := main_v6) (h := by decide)]
  rfl

theorem pair_lo (x y : FVec Ideal S1x512 .f32) (j : Fin 1024) (k : Fin 512) (hj : j.val = 0 + k.val) : concatenate S1x1024 1 [⟨S1x512, x⟩, ⟨S1x512, y⟩] concatenates_S1x512_S1x512_S1x1024_d1 (ix2 (0 : Fin 1) j) = x (ix2 0 k) :=
  concatenate_pair_apply_left (t := S1x1024) (s₁ := S1x512) (s₂ := S1x512) (1 : Fin 2) x y concatenates_S1x512_S1x512_S1x1024_d1 (ix2 (0 : Fin 1) j) rfl (ix2 (0 : Fin 1) k) fun b => by
    match b with
    | ⟨0, _⟩ => rfl
    | ⟨1, _⟩ => show k.val = j.val; omega

theorem pair_hi (x y : FVec Ideal S1x512 .f32) (j : Fin 1024) (k : Fin 512) (hj : j.val = 512 + k.val) : concatenate S1x1024 1 [⟨S1x512, x⟩, ⟨S1x512, y⟩] concatenates_S1x512_S1x512_S1x1024_d1 (ix2 (0 : Fin 1) j) = y (ix2 0 k) :=
  concatenate_pair_apply_right (t := S1x1024) (s₁ := S1x512) (s₂ := S1x512) (1 : Fin 2) x y concatenates_S1x512_S1x512_S1x1024_d1 (ix2 (0 : Fin 1) j) rfl rfl (ix2 (0 : Fin 1) k) (fun b hb => by
    match b, hb with
    | ⟨0, _⟩, _ => rfl
    | ⟨1, _⟩, hb => exact absurd rfl hb) (by show k.val + 512 = j.val; omega)

theorem seven (a b d e f g : FVec Ideal S1x1024 .f32) (h : FVec Ideal S2x1024 .f32) (j : Fin 1024) :
    let X : FVec Ideal S8x1024 .f32 := concatenate S8x1024 0 [⟨S1x1024, a⟩, ⟨S1x1024, b⟩, ⟨S1x1024, d⟩, ⟨S1x1024, e⟩, ⟨S1x1024, f⟩, ⟨S1x1024, g⟩, ⟨S2x1024, h⟩] concatenates_S1x1024_S1x1024_S1x1024_S1x1024_S1x1024_S1x1024_S2x1024_S8x1024_d0
    X (ix2 (0 : Fin 8) j) = a (ix2 0 j) ∧ X (ix2 (1 : Fin 8) j) = b (ix2 0 j) ∧ X (ix2 (2 : Fin 8) j) = d (ix2 0 j) ∧ X (ix2 (3 : Fin 8) j) = e (ix2 0 j) ∧ X (ix2 (4 : Fin 8) j) = f (ix2 0 j) := by
  refine ⟨?_, ?_, ?_, ?_, ?_⟩ <;> pointwise

theorem g0 (c : Dev nD) (t : Fin cfg0.N) (j : Fin 1024) : gr m c t (ix2 (0 : Fin 8) j) = (m ((c : Thread nD τ).loc main_arg1) : FVec Ideal S1x1024 .f32) (ix2 0 j) := by
  rw [gr_eq, V_v7, (seven _ _ _ _ _ _ _ j).1, V_main_arg1]

theorem g3 (c : Dev nD) (t : Fin cfg0.N) (j : Fin 1024) : gr m c t (ix2 (3 : Fin 8) j) = (m ((c : Thread nD τ).loc main_arg5) : FVec Ideal S1x1024 .f32) (ix2 0 j) := by
  rw [gr_eq, V_v7, (seven _ _ _ _ _ _ _ j).2.2.2.1, V_main_arg5]

theorem g4 (c : Dev nD) (t : Fin cfg0.N) (j : Fin 1024) : gr m c t (ix2 (4 : Fin 8) j) = (m ((c : Thread nD τ).loc main_arg6) : FVec Ideal S1x1024 .f32) (ix2 0 j) := by
  rw [gr_eq, V_v7, (seven _ _ _ _ _ _ _ j).2.2.2.2, V_main_arg6]

theorem g1 (c : Dev nD) (t : Fin cfg0.N) (j : Fin 1024) (k : Fin 512) (hj : j.val = 0 + k.val) : gr m c t (ix2 (1 : Fin 8) j) = lo (m ((c : Thread nD τ).loc main_arg2) : FVec Ideal S2x512 .f32) (ix2 0 k) := by
  rw [gr_eq, V_v7, (seven _ _ _ _ _ _ _ j).2.1, V_v2, pair_lo _ _ j k hj]
  exact congrArg (m ((c : Thread nD τ).loc main_arg2) : FVec Ideal S2x512 .f32) (funext fun a => Fin.ext (by
    match a with
    | ⟨0, _⟩ => rfl
    | ⟨1, _⟩ => show 0 + k.val = k.val; omega))

theorem g1x (c : Dev nD) (t : Fin cfg0.N) (j : Fin 1024) (k : Fin 512) (hj : j.val = 512 + k.val) : gr m c t (ix2 (1 : Fin 8) j) = hi (m ((c : Thread nD τ).loc main_arg2) : FVec Ideal S2x512 .f32) (ix2 0 k) := by
  rw [gr_eq, V_v7, (seven _ _ _ _ _ _ _ j).2.1, V_v2, pair_hi _ _ j k hj]
  exact congrArg (m ((c : Thread nD τ).loc main_arg2) : FVec Ideal S2x512 .f32) (funext fun a => Fin.ext (by
    match a with
    | ⟨0, _⟩ => rfl
    | ⟨1, _⟩ => show 0 + k.val = k.val; omega))

theorem g2 (c : Dev nD) (t : Fin cfg0.N) (j : Fin 1024) (k : Fin 512) (hj : j.val = 0 + k.val) : gr m c t (ix2 (2 : Fin 8) j) = (m ((c : Thread nD τ).loc main_arg3) : FVec Ideal S1x512 .f32) (ix2 0 k) := by
  rw [gr_eq, V_v7, (seven _ _ _ _ _ _ _ j).2.2.1, V_v3, pair_lo _ _ j k hj]

theorem g2x (c : Dev nD) (t : Fin cfg0.N) (j : Fin 1024) (k : Fin 512) (hj : j.val = 512 + k.val) : gr m c t (ix2 (2 : Fin 8) j) = (m ((c : Thread nD τ).loc main_arg4) : FVec Ideal S1x512 .f32) (ix2 0 k) := by
  rw [gr_eq, V_v7, (seven _ _ _ _ _ _ _ j).2.2.1, V_v3, pair_hi _ _ j k hj]

/-- The new moments and the change, of arrays. -/
def GD {s : Shape} (w g a b : Vec Ideal s .f32) : Vec Ideal s .f32 := fun i => Cert.Adam.delta (w i) (g i) (a i) (b i)

def GM {s : Shape} (g a : Vec Ideal s .f32) : Vec Ideal s .f32 := fun i => Cert.Adam.nm (g i) (a i)

def GV {s : Shape} (g b : Vec Ideal s .f32) : Vec Ideal s .f32 := fun i => Cert.Adam.nv (g i) (b i)

theorem ext_wide {x y : Vec Ideal S1x1024 .f32} (h : ∀ j : Fin 1024, x (ix2 0 j) = y (ix2 0 j)) : x = y := funext fun i => by
  have e : i = ix2 (0 : Fin 1) (i 1) := (eq_ix2 (n0 := 1) (n1 := 1024) i).trans (congrArg (fun z : Fin 1 => (ix2 z (i 1) : S1x1024.Idx)) (Subsingleton.elim _ _))
  rw [e]; exact h (i 1)

theorem ext_half {x y : Vec Ideal S1x512 .f32} (h : ∀ j : Fin 512, x (ix2 0 j) = y (ix2 0 j)) : x = y := funext fun i => by
  have e : i = ix2 (0 : Fin 1) (i 1) := (eq_ix2 (n0 := 1) (n1 := 512) i).trans (congrArg (fun z : Fin 1 => (ix2 z (i 1) : S1x512.Idx)) (Subsingleton.elim _ _))
  rw [e]; exact h (i 1)

theorem slice_wide {n : Nat} (x : Vec Ideal S8x1024 .f32) (h) (i : Fin 8) (j : Fin 1024) (hi : i.val = n) : extractStridedSlice S1x1024 ![n, 0] x h (ix2 (0 : Fin 1) j) = x (ix2 i j) :=
  congrArg x (funext fun a => Fin.ext (by
    match a with
    | ⟨0, _⟩ => show n + 0 = i.val; omega
    | ⟨1, _⟩ => show 0 + j.val = j.val; omega))

theorem slice_half {n o : Nat} (x : Vec Ideal S8x1024 .f32) (h) (i : Fin 8) (j : Fin 1024) (k : Fin 512) (hi : i.val = n) (hj : j.val = o + k.val) :
    extractStridedSlice S1x512 ![n, o] x h (ix2 (0 : Fin 1) k) = x (ix2 i j) :=
  congrArg x (funext fun a => Fin.ext (by
    match a with
    | ⟨0, _⟩ => show n + 0 = i.val; omega
    | ⟨1, _⟩ => show o + k.val = j.val; omega))

theorem sd0 (c : Dev nD) (t : Fin cfg0.N) (h) : extractStridedSlice S1x1024 ![0, 0] (dr m c t) h = (GD ((m ((c : Thread nD τ).loc main_arg7))) ((m ((c : Thread nD τ).loc main_arg1))) ((m ((c : Thread nD τ).loc main_arg13))) ((m ((c : Thread nD τ).loc main_arg19))) : Vec Ideal S1x1024 .f32) := by
  refine ext_wide fun j => ?_
  rw [slice_wide (n := 0) _ _ (0 : Fin 8) j rfl, dr_at, wr_eq, ar_eq, br_eq, row_a1, row_a1, row_a1, g0]
  rfl

theorem sm0 (c : Dev nD) (t : Fin cfg0.N) (h) : extractStridedSlice S1x1024 ![0, 0] (mr m c t) h = (GM ((m ((c : Thread nD τ).loc main_arg1))) ((m ((c : Thread nD τ).loc main_arg13))) : Vec Ideal S1x1024 .f32) := by
  refine ext_wide fun j => ?_
  rw [slice_wide (n := 0) _ _ (0 : Fin 8) j rfl, mr_at, ar_eq, row_a1, g0]
  rfl

theorem sv0 (c : Dev nD) (t : Fin cfg0.N) (h) : extractStridedSlice S1x1024 ![0, 0] (vr m c t) h = (GV ((m ((c : Thread nD τ).loc main_arg1))) ((m ((c : Thread nD τ).loc main_arg19))) : Vec Ideal S1x1024 .f32) := by
  refine ext_wide fun j => ?_
  rw [slice_wide (n := 0) _ _ (0 : Fin 8) j rfl, vr_at, br_eq, row_a1, g0]
  rfl

theorem sd1 (c : Dev nD) (t : Fin cfg0.N) (h) : extractStridedSlice S1x512 ![1, 0] (dr m c t) h = (GD (lo (m ((c : Thread nD τ).loc main_arg8))) (lo (m ((c : Thread nD τ).loc main_arg2))) (lo (m ((c : Thread nD τ).loc main_arg14))) (lo (m ((c : Thread nD τ).loc main_arg20))) : Vec Ideal S1x512 .f32) := by
  refine ext_half fun k => ?_
  have hj : (⟨0 + k.val, by have := k.isLt; omega⟩ : Fin 1024).val = 0 + k.val := rfl
  rw [slice_half (n := 1) (o := 0) _ _ (1 : Fin 8) _ k rfl hj, dr_at, wr_eq, ar_eq, br_eq, row_a2 (hj := hj), row_a2 (hj := hj), row_a2 (hj := hj), g1 m c t _ k hj]
  rfl

theorem sm1 (c : Dev nD) (t : Fin cfg0.N) (h) : extractStridedSlice S1x512 ![1, 0] (mr m c t) h = (GM (lo (m ((c : Thread nD τ).loc main_arg2))) (lo (m ((c : Thread nD τ).loc main_arg14))) : Vec Ideal S1x512 .f32) := by
  refine ext_half fun k => ?_
  have hj : (⟨0 + k.val, by have := k.isLt; omega⟩ : Fin 1024).val = 0 + k.val := rfl
  rw [slice_half (n := 1) (o := 0) _ _ (1 : Fin 8) _ k rfl hj, mr_at, ar_eq, row_a2 (hj := hj), g1 m c t _ k hj]
  rfl

theorem sv1 (c : Dev nD) (t : Fin cfg0.N) (h) : extractStridedSlice S1x512 ![1, 0] (vr m c t) h = (GV (lo (m ((c : Thread nD τ).loc main_arg2))) (lo (m ((c : Thread nD τ).loc main_arg20))) : Vec Ideal S1x512 .f32) := by
  refine ext_half fun k => ?_
  have hj : (⟨0 + k.val, by have := k.isLt; omega⟩ : Fin 1024).val = 0 + k.val := rfl
  rw [slice_half (n := 1) (o := 0) _ _ (1 : Fin 8) _ k rfl hj, vr_at, br_eq, row_a2 (hj := hj), g1 m c t _ k hj]
  rfl

theorem sd1x (c : Dev nD) (t : Fin cfg0.N) (h) : extractStridedSlice S1x512 ![1, 512] (dr m c t) h = (GD (hi (m ((c : Thread nD τ).loc main_arg8))) (hi (m ((c : Thread nD τ).loc main_arg2))) (hi (m ((c : Thread nD τ).loc main_arg14))) (hi (m ((c : Thread nD τ).loc main_arg20))) : Vec Ideal S1x512 .f32) := by
  refine ext_half fun k => ?_
  have hj : (⟨512 + k.val, by have := k.isLt; omega⟩ : Fin 1024).val = 512 + k.val := rfl
  rw [slice_half (n := 1) (o := 512) _ _ (1 : Fin 8) _ k rfl hj, dr_at, wr_eq, ar_eq, br_eq, row_a2x (hj := hj), row_a2x (hj := hj), row_a2x (hj := hj), g1x m c t _ k hj]
  rfl

theorem sm1x (c : Dev nD) (t : Fin cfg0.N) (h) : extractStridedSlice S1x512 ![1, 512] (mr m c t) h = (GM (hi (m ((c : Thread nD τ).loc main_arg2))) (hi (m ((c : Thread nD τ).loc main_arg14))) : Vec Ideal S1x512 .f32) := by
  refine ext_half fun k => ?_
  have hj : (⟨512 + k.val, by have := k.isLt; omega⟩ : Fin 1024).val = 512 + k.val := rfl
  rw [slice_half (n := 1) (o := 512) _ _ (1 : Fin 8) _ k rfl hj, mr_at, ar_eq, row_a2x (hj := hj), g1x m c t _ k hj]
  rfl

theorem sv1x (c : Dev nD) (t : Fin cfg0.N) (h) : extractStridedSlice S1x512 ![1, 512] (vr m c t) h = (GV (hi (m ((c : Thread nD τ).loc main_arg2))) (hi (m ((c : Thread nD τ).loc main_arg20))) : Vec Ideal S1x512 .f32) := by
  refine ext_half fun k => ?_
  have hj : (⟨512 + k.val, by have := k.isLt; omega⟩ : Fin 1024).val = 512 + k.val := rfl
  rw [slice_half (n := 1) (o := 512) _ _ (1 : Fin 8) _ k rfl hj, vr_at, br_eq, row_a2x (hj := hj), g1x m c t _ k hj]
  rfl

theorem sd2 (c : Dev nD) (t : Fin cfg0.N) (h) : extractStridedSlice S1x512 ![2, 0] (dr m c t) h = (GD ((m ((c : Thread nD τ).loc main_arg9))) ((m ((c : Thread nD τ).loc main_arg3))) ((m ((c : Thread nD τ).loc main_arg15))) ((m ((c : Thread nD τ).loc main_arg21))) : Vec Ideal S1x512 .f32) := by
  refine ext_half fun k => ?_
  have hj : (⟨0 + k.val, by have := k.isLt; omega⟩ : Fin 1024).val = 0 + k.val := rfl
  rw [slice_half (n := 2) (o := 0) _ _ (2 : Fin 8) _ k rfl hj, dr_at, wr_eq, ar_eq, br_eq, row_a3 (hj := hj), row_a3 (hj := hj), row_a3 (hj := hj), g2 m c t _ k hj]
  rfl

theorem sm2 (c : Dev nD) (t : Fin cfg0.N) (h) : extractStridedSlice S1x512 ![2, 0] (mr m c t) h = (GM ((m ((c : Thread nD τ).loc main_arg3))) ((m ((c : Thread nD τ).loc main_arg15))) : Vec Ideal S1x512 .f32) := by
  refine ext_half fun k => ?_
  have hj : (⟨0 + k.val, by have := k.isLt; omega⟩ : Fin 1024).val = 0 + k.val := rfl
  rw [slice_half (n := 2) (o := 0) _ _ (2 : Fin 8) _ k rfl hj, mr_at, ar_eq, row_a3 (hj := hj), g2 m c t _ k hj]
  rfl

theorem sv2 (c : Dev nD) (t : Fin cfg0.N) (h) : extractStridedSlice S1x512 ![2, 0] (vr m c t) h = (GV ((m ((c : Thread nD τ).loc main_arg3))) ((m ((c : Thread nD τ).loc main_arg21))) : Vec Ideal S1x512 .f32) := by
  refine ext_half fun k => ?_
  have hj : (⟨0 + k.val, by have := k.isLt; omega⟩ : Fin 1024).val = 0 + k.val := rfl
  rw [slice_half (n := 2) (o := 0) _ _ (2 : Fin 8) _ k rfl hj, vr_at, br_eq, row_a3 (hj := hj), g2 m c t _ k hj]
  rfl

theorem sd2x (c : Dev nD) (t : Fin cfg0.N) (h) : extractStridedSlice S1x512 ![2, 512] (dr m c t) h = (GD ((m ((c : Thread nD τ).loc main_arg10))) ((m ((c : Thread nD τ).loc main_arg4))) ((m ((c : Thread nD τ).loc main_arg16))) ((m ((c : Thread nD τ).loc main_arg22))) : Vec Ideal S1x512 .f32) := by
  refine ext_half fun k => ?_
  have hj : (⟨512 + k.val, by have := k.isLt; omega⟩ : Fin 1024).val = 512 + k.val := rfl
  rw [slice_half (n := 2) (o := 512) _ _ (2 : Fin 8) _ k rfl hj, dr_at, wr_eq, ar_eq, br_eq, row_a4 (hj := hj), row_a4 (hj := hj), row_a4 (hj := hj), g2x m c t _ k hj]
  rfl

theorem sm2x (c : Dev nD) (t : Fin cfg0.N) (h) : extractStridedSlice S1x512 ![2, 512] (mr m c t) h = (GM ((m ((c : Thread nD τ).loc main_arg4))) ((m ((c : Thread nD τ).loc main_arg16))) : Vec Ideal S1x512 .f32) := by
  refine ext_half fun k => ?_
  have hj : (⟨512 + k.val, by have := k.isLt; omega⟩ : Fin 1024).val = 512 + k.val := rfl
  rw [slice_half (n := 2) (o := 512) _ _ (2 : Fin 8) _ k rfl hj, mr_at, ar_eq, row_a4 (hj := hj), g2x m c t _ k hj]
  rfl

theorem sv2x (c : Dev nD) (t : Fin cfg0.N) (h) : extractStridedSlice S1x512 ![2, 512] (vr m c t) h = (GV ((m ((c : Thread nD τ).loc main_arg4))) ((m ((c : Thread nD τ).loc main_arg22))) : Vec Ideal S1x512 .f32) := by
  refine ext_half fun k => ?_
  have hj : (⟨512 + k.val, by have := k.isLt; omega⟩ : Fin 1024).val = 512 + k.val := rfl
  rw [slice_half (n := 2) (o := 512) _ _ (2 : Fin 8) _ k rfl hj, vr_at, br_eq, row_a4 (hj := hj), g2x m c t _ k hj]
  rfl

theorem sd3 (c : Dev nD) (t : Fin cfg0.N) (h) : extractStridedSlice S1x1024 ![3, 0] (dr m c t) h = (GD ((m ((c : Thread nD τ).loc main_arg11))) ((m ((c : Thread nD τ).loc main_arg5))) ((m ((c : Thread nD τ).loc main_arg17))) ((m ((c : Thread nD τ).loc main_arg23))) : Vec Ideal S1x1024 .f32) := by
  refine ext_wide fun j => ?_
  rw [slice_wide (n := 3) _ _ (3 : Fin 8) j rfl, dr_at, wr_eq, ar_eq, br_eq, row_a5, row_a5, row_a5, g3]
  rfl

theorem sm3 (c : Dev nD) (t : Fin cfg0.N) (h) : extractStridedSlice S1x1024 ![3, 0] (mr m c t) h = (GM ((m ((c : Thread nD τ).loc main_arg5))) ((m ((c : Thread nD τ).loc main_arg17))) : Vec Ideal S1x1024 .f32) := by
  refine ext_wide fun j => ?_
  rw [slice_wide (n := 3) _ _ (3 : Fin 8) j rfl, mr_at, ar_eq, row_a5, g3]
  rfl

theorem sv3 (c : Dev nD) (t : Fin cfg0.N) (h) : extractStridedSlice S1x1024 ![3, 0] (vr m c t) h = (GV ((m ((c : Thread nD τ).loc main_arg5))) ((m ((c : Thread nD τ).loc main_arg23))) : Vec Ideal S1x1024 .f32) := by
  refine ext_wide fun j => ?_
  rw [slice_wide (n := 3) _ _ (3 : Fin 8) j rfl, vr_at, br_eq, row_a5, g3]
  rfl

theorem sd4 (c : Dev nD) (t : Fin cfg0.N) (h) : extractStridedSlice S1x1024 ![4, 0] (dr m c t) h = (GD ((m ((c : Thread nD τ).loc main_arg12))) ((m ((c : Thread nD τ).loc main_arg6))) ((m ((c : Thread nD τ).loc main_arg18))) ((m ((c : Thread nD τ).loc main_arg24))) : Vec Ideal S1x1024 .f32) := by
  refine ext_wide fun j => ?_
  rw [slice_wide (n := 4) _ _ (4 : Fin 8) j rfl, dr_at, wr_eq, ar_eq, br_eq, row_a6, row_a6, row_a6, g4]
  rfl

theorem sm4 (c : Dev nD) (t : Fin cfg0.N) (h) : extractStridedSlice S1x1024 ![4, 0] (mr m c t) h = (GM ((m ((c : Thread nD τ).loc main_arg6))) ((m ((c : Thread nD τ).loc main_arg18))) : Vec Ideal S1x1024 .f32) := by
  refine ext_wide fun j => ?_
  rw [slice_wide (n := 4) _ _ (4 : Fin 8) j rfl, mr_at, ar_eq, row_a6, g4]
  rfl

theorem sv4 (c : Dev nD) (t : Fin cfg0.N) (h) : extractStridedSlice S1x1024 ![4, 0] (vr m c t) h = (GV ((m ((c : Thread nD τ).loc main_arg6))) ((m ((c : Thread nD τ).loc main_arg24))) : Vec Ideal S1x1024 .f32) := by
  refine ext_wide fun j => ?_
  rw [slice_wide (n := 4) _ _ (4 : Fin 8) j rfl, vr_at, br_eq, row_a6, g4]
  rfl

/-- A parameter of two rows, written row by row. -/
theorem two_rows (u v : Vec Ideal S1x512 .f32) (X : Vec Ideal S2x512 .f32) (hu : u = lo X) (hv : v = hi X) :
    View.canon (Val := Elt Ideal) (s := S2x512) (e := .f32) [⟨Rect.unit (s := S2x512) ![1, 0] S1x512.size inb_S2x512_S1x512_1_0, v⟩, ⟨Rect.unit (s := S2x512) ![0, 0] S1x512.size inb_S2x512_S1x512_0_0, u⟩] = X := by
  have h1 : ∀ k : Fin 512, (ix2 (1 : Fin 2) k : S2x512.Idx) = (Rect.unit (s := S2x512) ![1, 0] S1x512.size inb_S2x512_S1x512_1_0).emb (ix2 (0 : Fin 1) k) := fun k => funext fun a => Fin.ext (by
    match a with
    | ⟨0, _⟩ => rfl
    | ⟨1, _⟩ => show k.val = 0 + 1 * k.val; omega)
  have h0 : ∀ k : Fin 512, (ix2 (0 : Fin 2) k : S2x512.Idx) = (Rect.unit (s := S2x512) ![0, 0] S1x512.size inb_S2x512_S1x512_0_0).emb (ix2 (0 : Fin 1) k) := fun k => funext fun a => Fin.ext (by
    match a with
    | ⟨0, _⟩ => rfl
    | ⟨1, _⟩ => show k.val = 0 + 1 * k.val; omega)
  have hn : ∀ k : Fin 512, (ix2 (0 : Fin 2) k : S2x512.Idx) ∉ (Rect.unit (s := S2x512) ![1, 0] S1x512.size inb_S2x512_S1x512_1_0).set := fun k hm => by
    have h : 1 ≤ 0 ∧ 0 < 1 + 1 := Rect.mem_set_unit.1 hm 0
    omega
  subst hu hv
  have key0 : ∀ k : Fin 512, View.canon (Val := Elt Ideal) (s := S2x512) (e := .f32) [⟨Rect.unit (s := S2x512) ![1, 0] S1x512.size inb_S2x512_S1x512_1_0, hi X⟩, ⟨Rect.unit (s := S2x512) ![0, 0] S1x512.size inb_S2x512_S1x512_0_0, lo X⟩] (ix2 0 k) = X (ix2 0 k) := fun k => by
    rw [View.canon_cons_of_not_mem (p := ⟨Rect.unit (s := S2x512) ![1, 0] S1x512.size inb_S2x512_S1x512_1_0, hi X⟩) (h := hn k), h0, View.canon_cons_emb, ← h0]
    rfl
  have key1 : ∀ k : Fin 512, View.canon (Val := Elt Ideal) (s := S2x512) (e := .f32) [⟨Rect.unit (s := S2x512) ![1, 0] S1x512.size inb_S2x512_S1x512_1_0, hi X⟩, ⟨Rect.unit (s := S2x512) ![0, 0] S1x512.size inb_S2x512_S1x512_0_0, lo X⟩] (ix2 1 k) = X (ix2 1 k) := fun k => by
    rw [h1, View.canon_cons_emb, ← h1]
    rfl
  have key : ∀ (r : Fin 2) (k : Fin 512), View.canon (Val := Elt Ideal) (s := S2x512) (e := .f32) [⟨Rect.unit (s := S2x512) ![1, 0] S1x512.size inb_S2x512_S1x512_1_0, hi X⟩, ⟨Rect.unit (s := S2x512) ![0, 0] S1x512.size inb_S2x512_S1x512_0_0, lo X⟩] (ix2 r k) = X (ix2 r k) := fun r k => by
    match r with
    | 0 => exact key0 k
    | 1 => exact key1 k
  funext i
  rw [eq_ix2 (n0 := 2) (n1 := 512) i]
  exact key _ _

end Cert.Kernel15Ideal.Small

end
-- ==== Proof.Small.Value.lean ====
/- The results of the small parameters' step, and the reference's. -/
module

public import proofs.«01_k».proof.Proof.Small.Frame
public import proofs.«01_k».proof.Proof.Small.Pd
public import proofs.«01_k».proof.Proof.Small.Pm
public import proofs.«01_k».proof.Proof.Small.Pv
public import proofs.«01_k».proof.Proof.Small.Host
public import proofs.«01_k».proof.Proof.Gen.Reference15Ideal.Run

@[expose] public section

set_option maxRecDepth 16384

noncomputable section

namespace Cert.Kernel15Ideal.Small

open Cert.Kernel15Ideal Cert.Kernel15Ideal.Gen Idealize.ShloMosaic Idealize.ShloMosaic.TcCoe Idealize.SL.Sem
open Idealize.ShloMosaic.Pipeline (Dat)
open Idealize.ShloMosaic.StableHlo

variable (m : (ℓ : Loc nD τ sig) → Buf (Elt Ideal) ℓ) (ρ : Dev nD → PrngReg)

theorem within0 {a d x : ℕ} (e : a = 0) (h : x < d) : a * d ≤ x ∧ x < a * d + d := by rw [e]; omega

variable (c : Dev nD) (t : Fin cfg0.N)

abbrev v25 : Vec Ideal S1x1024 .f32 := GD (m ((c : Thread nD τ).loc main_arg7)) (m ((c : Thread nD τ).loc main_arg1)) (m ((c : Thread nD τ).loc main_arg13)) (m ((c : Thread nD τ).loc main_arg19))

theorem val25 : View.canon (L25 m c t) = v25 m c := by
  rw [eq25, View.canon_unit_zero hz2, sd0]

theorem flushed25 : (dats m 0 c).flushed 25 t = ((cfg0.win 25).blk t).view.read (Elt Ideal) (v25 m c) := by
  obtain ⟨e0, e1⟩ := zero25 t
  show (cfg0.win 25).cut (grid0.coords t) ((dats m 0 c).after 25 t) = _
  rw [aft25, val25]
  funext y
  refine congrArg (v25 m c) (funext fun a => Fin.ext ?_)
  match a with
  | ⟨0, _⟩ => show (y 0).val = win0_25.index t (0 : Fin 2) * 1 + 1 * (y 0).val; rw [e0]; omega
  | ⟨1, _⟩ => show (y 1).val = win0_25.index t (1 : Fin 2) * 1024 + 1 * (y 1).val; rw [e1]; omega

theorem cover25 (i : S1x1024.Idx) : ∃ t : Fin cfg0.N, (cfg0.win 25).flush t = true ∧ i ∈ ((cfg0.win 25).blk t).view.set := by
  obtain ⟨e0, e1⟩ := zero25 t0_0
  refine ⟨t0_0, flush0_25 t0_0, ?_⟩
  show i ∈ ((View.whole main_v8_6).slice (win0_25.rect t0_0)).set
  rw [View.set_slice_whole, Rect.mem_set_unit]
  intro a
  match a with
  | ⟨0, _⟩ => exact within0 (d := 1) e0 (i 0).isLt
  | ⟨1, _⟩ => exact within0 (d := 1024) e1 (i 1).isLt

abbrev v26 : Vec Ideal S2x512 .f32 := GD (m ((c : Thread nD τ).loc main_arg8)) (m ((c : Thread nD τ).loc main_arg2)) (m ((c : Thread nD τ).loc main_arg14)) (m ((c : Thread nD τ).loc main_arg20))

theorem val26 : View.canon (L26 m c t) = v26 m c := by
  rw [eq26]
  exact two_rows _ _ _ (sd1 m c t _) (sd1x m c t _)

theorem flushed26 : (dats m 0 c).flushed 26 t = ((cfg0.win 26).blk t).view.read (Elt Ideal) (v26 m c) := by
  obtain ⟨e0, e1⟩ := zero26 t
  show (cfg0.win 26).cut (grid0.coords t) ((dats m 0 c).after 26 t) = _
  rw [aft26, val26]
  funext y
  refine congrArg (v26 m c) (funext fun a => Fin.ext ?_)
  match a with
  | ⟨0, _⟩ => show (y 0).val = win0_26.index t (0 : Fin 2) * 2 + 1 * (y 0).val; rw [e0]; omega
  | ⟨1, _⟩ => show (y 1).val = win0_26.index t (1 : Fin 2) * 512 + 1 * (y 1).val; rw [e1]; omega

theorem cover26 (i : S2x512.Idx) : ∃ t : Fin cfg0.N, (cfg0.win 26).flush t = true ∧ i ∈ ((cfg0.win 26).blk t).view.set := by
  obtain ⟨e0, e1⟩ := zero26 t0_0
  refine ⟨t0_0, flush0_26 t0_0, ?_⟩
  show i ∈ ((View.whole main_v8_7).slice (win0_26.rect t0_0)).set
  rw [View.set_slice_whole, Rect.mem_set_unit]
  intro a
  match a with
  | ⟨0, _⟩ => exact within0 (d := 2) e0 (i 0).isLt
  | ⟨1, _⟩ => exact within0 (d := 512) e1 (i 1).isLt

abbrev v27 : Vec Ideal S1x512 .f32 := GD (m ((c : Thread nD τ).loc main_arg9)) (m ((c : Thread nD τ).loc main_arg3)) (m ((c : Thread nD τ).loc main_arg15)) (m ((c : Thread nD τ).loc main_arg21))

theorem val27 : View.canon (L27 m c t) = v27 m c := by
  rw [eq27, View.canon_unit_zero hz2, sd2]

theorem flushed27 : (dats m 0 c).flushed 27 t = ((cfg0.win 27).blk t).view.read (Elt Ideal) (v27 m c) := by
  obtain ⟨e0, e1⟩ := zero27 t
  show (cfg0.win 27).cut (grid0.coords t) ((dats m 0 c).after 27 t) = _
  rw [aft27, val27]
  funext y
  refine congrArg (v27 m c) (funext fun a => Fin.ext ?_)
  match a with
  | ⟨0, _⟩ => show (y 0).val = win0_27.index t (0 : Fin 2) * 1 + 1 * (y 0).val; rw [e0]; omega
  | ⟨1, _⟩ => show (y 1).val = win0_27.index t (1 : Fin 2) * 512 + 1 * (y 1).val; rw [e1]; omega

theorem cover27 (i : S1x512.Idx) : ∃ t : Fin cfg0.N, (cfg0.win 27).flush t = true ∧ i ∈ ((cfg0.win 27).blk t).view.set := by
  obtain ⟨e0, e1⟩ := zero27 t0_0
  refine ⟨t0_0, flush0_27 t0_0, ?_⟩
  show i ∈ ((View.whole main_v8_8).slice (win0_27.rect t0_0)).set
  rw [View.set_slice_whole, Rect.mem_set_unit]
  intro a
  match a with
  | ⟨0, _⟩ => exact within0 (d := 1) e0 (i 0).isLt
  | ⟨1, _⟩ => exact within0 (d := 512) e1 (i 1).isLt

abbrev v28 : Vec Ideal S1x512 .f32 := GD (m ((c : Thread nD τ).loc main_arg10)) (m ((c : Thread nD τ).loc main_arg4)) (m ((c : Thread nD τ).loc main_arg16)) (m ((c : Thread nD τ).loc main_arg22))

theorem val28 : View.canon (L28 m c t) = v28 m c := by
  rw [eq28, View.canon_unit_zero hz2, sd2x]

theorem flushed28 : (dats m 0 c).flushed 28 t = ((cfg0.win 28).blk t).view.read (Elt Ideal) (v28 m c) := by
  obtain ⟨e0, e1⟩ := zero28 t
  show (cfg0.win 28).cut (grid0.coords t) ((dats m 0 c).after 28 t) = _
  rw [aft28, val28]
  funext y
  refine congrArg (v28 m c) (funext fun a => Fin.ext ?_)
  match a with
  | ⟨0, _⟩ => show (y 0).val = win0_28.index t (0 : Fin 2) * 1 + 1 * (y 0).val; rw [e0]; omega
  | ⟨1, _⟩ => show (y 1).val = win0_28.index t (1 : Fin 2) * 512 + 1 * (y 1).val; rw [e1]; omega

theorem cover28 (i : S1x512.Idx) : ∃ t : Fin cfg0.N, (cfg0.win 28).flush t = true ∧ i ∈ ((cfg0.win 28).blk t).view.set := by
  obtain ⟨e0, e1⟩ := zero28 t0_0
  refine ⟨t0_0, flush0_28 t0_0, ?_⟩
  show i ∈ ((View.whole main_v8_9).slice (win0_28.rect t0_0)).set
  rw [View.set_slice_whole, Rect.mem_set_unit]
  intro a
  match a with
  | ⟨0, _⟩ => exact within0 (d := 1) e0 (i 0).isLt
  | ⟨1, _⟩ => exact within0 (d := 512) e1 (i 1).isLt

abbrev v29 : Vec Ideal S1x1024 .f32 := GD (m ((c : Thread nD τ).loc main_arg11)) (m ((c : Thread nD τ).loc main_arg5)) (m ((c : Thread nD τ).loc main_arg17)) (m ((c : Thread nD τ).loc main_arg23))

theorem val29 : View.canon (L29 m c t) = v29 m c := by
  rw [eq29, View.canon_unit_zero hz2, sd3]

theorem flushed29 : (dats m 0 c).flushed 29 t = ((cfg0.win 29).blk t).view.read (Elt Ideal) (v29 m c) := by
  obtain ⟨e0, e1⟩ := zero29 t
  show (cfg0.win 29).cut (grid0.coords t) ((dats m 0 c).after 29 t) = _
  rw [aft29, val29]
  funext y
  refine congrArg (v29 m c) (funext fun a => Fin.ext ?_)
  match a with
  | ⟨0, _⟩ => show (y 0).val = win0_29.index t (0 : Fin 2) * 1 + 1 * (y 0).val; rw [e0]; omega
  | ⟨1, _⟩ => show (y 1).val = win0_29.index t (1 : Fin 2) * 1024 + 1 * (y 1).val; rw [e1]; omega

theorem cover29 (i : S1x1024.Idx) : ∃ t : Fin cfg0.N, (cfg0.win 29).flush t = true ∧ i ∈ ((cfg0.win 29).blk t).view.set := by
  obtain ⟨e0, e1⟩ := zero29 t0_0
  refine ⟨t0_0, flush0_29 t0_0, ?_⟩
  show i ∈ ((View.whole main_v8_10).slice (win0_29.rect t0_0)).set
  rw [View.set_slice_whole, Rect.mem_set_unit]
  intro a
  match a with
  | ⟨0, _⟩ => exact within0 (d := 1) e0 (i 0).isLt
  | ⟨1, _⟩ => exact within0 (d := 1024) e1 (i 1).isLt

abbrev v30 : Vec Ideal S1x1024 .f32 := GD (m ((c : Thread nD τ).loc main_arg12)) (m ((c : Thread nD τ).loc main_arg6)) (m ((c : Thread nD τ).loc main_arg18)) (m ((c : Thread nD τ).loc main_arg24))

theorem val30 : View.canon (L30 m c t) = v30 m c := by
  rw [eq30, View.canon_unit_zero hz2, sd4]

theorem flushed30 : (dats m 0 c).flushed 30 t = ((cfg0.win 30).blk t).view.read (Elt Ideal) (v30 m c) := by
  obtain ⟨e0, e1⟩ := zero30 t
  show (cfg0.win 30).cut (grid0.coords t) ((dats m 0 c).after 30 t) = _
  rw [aft30, val30]
  funext y
  refine congrArg (v30 m c) (funext fun a => Fin.ext ?_)
  match a with
  | ⟨0, _⟩ => show (y 0).val = win0_30.index t (0 : Fin 2) * 1 + 1 * (y 0).val; rw [e0]; omega
  | ⟨1, _⟩ => show (y 1).val = win0_30.index t (1 : Fin 2) * 1024 + 1 * (y 1).val; rw [e1]; omega

theorem cover30 (i : S1x1024.Idx) : ∃ t : Fin cfg0.N, (cfg0.win 30).flush t = true ∧ i ∈ ((cfg0.win 30).blk t).view.set := by
  obtain ⟨e0, e1⟩ := zero30 t0_0
  refine ⟨t0_0, flush0_30 t0_0, ?_⟩
  show i ∈ ((View.whole main_v8_11).slice (win0_30.rect t0_0)).set
  rw [View.set_slice_whole, Rect.mem_set_unit]
  intro a
  match a with
  | ⟨0, _⟩ => exact within0 (d := 1) e0 (i 0).isLt
  | ⟨1, _⟩ => exact within0 (d := 1024) e1 (i 1).isLt

abbrev v31 : Vec Ideal S1x1024 .f32 := GM (m ((c : Thread nD τ).loc main_arg1)) (m ((c : Thread nD τ).loc main_arg13))

theorem val31 : View.canon (L31 m c t) = v31 m c := by
  rw [eq31, View.canon_unit_zero hz2, sm0]

theorem flushed31 : (dats m 0 c).flushed 31 t = ((cfg0.win 31).blk t).view.read (Elt Ideal) (v31 m c) := by
  obtain ⟨e0, e1⟩ := zero31 t
  show (cfg0.win 31).cut (grid0.coords t) ((dats m 0 c).after 31 t) = _
  rw [aft31, val31]
  funext y
  refine congrArg (v31 m c) (funext fun a => Fin.ext ?_)
  match a with
  | ⟨0, _⟩ => show (y 0).val = win0_31.index t (0 : Fin 2) * 1 + 1 * (y 0).val; rw [e0]; omega
  | ⟨1, _⟩ => show (y 1).val = win0_31.index t (1 : Fin 2) * 1024 + 1 * (y 1).val; rw [e1]; omega

theorem cover31 (i : S1x1024.Idx) : ∃ t : Fin cfg0.N, (cfg0.win 31).flush t = true ∧ i ∈ ((cfg0.win 31).blk t).view.set := by
  obtain ⟨e0, e1⟩ := zero31 t0_0
  refine ⟨t0_0, flush0_31 t0_0, ?_⟩
  show i ∈ ((View.whole main_v8_12).slice (win0_31.rect t0_0)).set
  rw [View.set_slice_whole, Rect.mem_set_unit]
  intro a
  match a with
  | ⟨0, _⟩ => exact within0 (d := 1) e0 (i 0).isLt
  | ⟨1, _⟩ => exact within0 (d := 1024) e1 (i 1).isLt

abbrev v32 : Vec Ideal S2x512 .f32 := GM (m ((c : Thread nD τ).loc main_arg2)) (m ((c : Thread nD τ).loc main_arg14))

theorem val32 : View.canon (L32 m c t) = v32 m c := by
  rw [eq32]
  exact two_rows _ _ _ (sm1 m c t _) (sm1x m c t _)

theorem flushed32 : (dats m 0 c).flushed 32 t = ((cfg0.win 32).blk t).view.read (Elt Ideal) (v32 m c) := by
  obtain ⟨e0, e1⟩ := zero32 t
  show (cfg0.win 32).cut (grid0.coords t) ((dats m 0 c).after 32 t) = _
  rw [aft32, val32]
  funext y
  refine congrArg (v32 m c) (funext fun a => Fin.ext ?_)
  match a with
  | ⟨0, _⟩ => show (y 0).val = win0_32.index t (0 : Fin 2) * 2 + 1 * (y 0).val; rw [e0]; omega
  | ⟨1, _⟩ => show (y 1).val = win0_32.index t (1 : Fin 2) * 512 + 1 * (y 1).val; rw [e1]; omega

theorem cover32 (i : S2x512.Idx) : ∃ t : Fin cfg0.N, (cfg0.win 32).flush t = true ∧ i ∈ ((cfg0.win 32).blk t).view.set := by
  obtain ⟨e0, e1⟩ := zero32 t0_0
  refine ⟨t0_0, flush0_32 t0_0, ?_⟩
  show i ∈ ((View.whole main_v8_13).slice (win0_32.rect t0_0)).set
  rw [View.set_slice_whole, Rect.mem_set_unit]
  intro a
  match a with
  | ⟨0, _⟩ => exact within0 (d := 2) e0 (i 0).isLt
  | ⟨1, _⟩ => exact within0 (d := 512) e1 (i 1).isLt

abbrev v33 : Vec Ideal S1x512 .f32 := GM (m ((c : Thread nD τ).loc main_arg3)) (m ((c : Thread nD τ).loc main_arg15))

theorem val33 : View.canon (L33 m c t) = v33 m c := by
  rw [eq33, View.canon_unit_zero hz2, sm2]

theorem flushed33 : (dats m 0 c).flushed 33 t = ((cfg0.win 33).blk t).view.read (Elt Ideal) (v33 m c) := by
  obtain ⟨e0, e1⟩ := zero33 t
  show (cfg0.win 33).cut (grid0.coords t) ((dats m 0 c).after 33 t) = _
  rw [aft33, val33]
  funext y
  refine congrArg (v33 m c) (funext fun a => Fin.ext ?_)
  match a with
  | ⟨0, _⟩ => show (y 0).val = win0_33.index t (0 : Fin 2) * 1 + 1 * (y 0).val; rw [e0]; omega
  | ⟨1, _⟩ => show (y 1).val = win0_33.index t (1 : Fin 2) * 512 + 1 * (y 1).val; rw [e1]; omega

theorem cover33 (i : S1x512.Idx) : ∃ t : Fin cfg0.N, (cfg0.win 33).flush t = true ∧ i ∈ ((cfg0.win 33).blk t).view.set := by
  obtain ⟨e0, e1⟩ := zero33 t0_0
  refine ⟨t0_0, flush0_33 t0_0, ?_⟩
  show i ∈ ((View.whole main_v8_14).slice (win0_33.rect t0_0)).set
  rw [View.set_slice_whole, Rect.mem_set_unit]
  intro a
  match a with
  | ⟨0, _⟩ => exact within0 (d := 1) e0 (i 0).isLt
  | ⟨1, _⟩ => exact within0 (d := 512) e1 (i 1).isLt

abbrev v34 : Vec Ideal S1x512 .f32 := GM (m ((c : Thread nD τ).loc main_arg4)) (m ((c : Thread nD τ).loc main_arg16))

theorem val34 : View.canon (L34 m c t) = v34 m c := by
  rw [eq34, View.canon_unit_zero hz2, sm2x]

theorem flushed34 : (dats m 0 c).flushed 34 t = ((cfg0.win 34).blk t).view.read (Elt Ideal) (v34 m c) := by
  obtain ⟨e0, e1⟩ := zero34 t
  show (cfg0.win 34).cut (grid0.coords t) ((dats m 0 c).after 34 t) = _
  rw [aft34, val34]
  funext y
  refine congrArg (v34 m c) (funext fun a => Fin.ext ?_)
  match a with
  | ⟨0, _⟩ => show (y 0).val = win0_34.index t (0 : Fin 2) * 1 + 1 * (y 0).val; rw [e0]; omega
  | ⟨1, _⟩ => show (y 1).val = win0_34.index t (1 : Fin 2) * 512 + 1 * (y 1).val; rw [e1]; omega

theorem cover34 (i : S1x512.Idx) : ∃ t : Fin cfg0.N, (cfg0.win 34).flush t = true ∧ i ∈ ((cfg0.win 34).blk t).view.set := by
  obtain ⟨e0, e1⟩ := zero34 t0_0
  refine ⟨t0_0, flush0_34 t0_0, ?_⟩
  show i ∈ ((View.whole main_v8_15).slice (win0_34.rect t0_0)).set
  rw [View.set_slice_whole, Rect.mem_set_unit]
  intro a
  match a with
  | ⟨0, _⟩ => exact within0 (d := 1) e0 (i 0).isLt
  | ⟨1, _⟩ => exact within0 (d := 512) e1 (i 1).isLt

abbrev v35 : Vec Ideal S1x1024 .f32 := GM (m ((c : Thread nD τ).loc main_arg5)) (m ((c : Thread nD τ).loc main_arg17))

theorem val35 : View.canon (L35 m c t) = v35 m c := by
  rw [eq35, View.canon_unit_zero hz2, sm3]

theorem flushed35 : (dats m 0 c).flushed 35 t = ((cfg0.win 35).blk t).view.read (Elt Ideal) (v35 m c) := by
  obtain ⟨e0, e1⟩ := zero35 t
  show (cfg0.win 35).cut (grid0.coords t) ((dats m 0 c).after 35 t) = _
  rw [aft35, val35]
  funext y
  refine congrArg (v35 m c) (funext fun a => Fin.ext ?_)
  match a with
  | ⟨0, _⟩ => show (y 0).val = win0_35.index t (0 : Fin 2) * 1 + 1 * (y 0).val; rw [e0]; omega
  | ⟨1, _⟩ => show (y 1).val = win0_35.index t (1 : Fin 2) * 1024 + 1 * (y 1).val; rw [e1]; omega

theorem cover35 (i : S1x1024.Idx) : ∃ t : Fin cfg0.N, (cfg0.win 35).flush t = true ∧ i ∈ ((cfg0.win 35).blk t).view.set := by
  obtain ⟨e0, e1⟩ := zero35 t0_0
  refine ⟨t0_0, flush0_35 t0_0, ?_⟩
  show i ∈ ((View.whole main_v8_16).slice (win0_35.rect t0_0)).set
  rw [View.set_slice_whole, Rect.mem_set_unit]
  intro a
  match a with
  | ⟨0, _⟩ => exact within0 (d := 1) e0 (i 0).isLt
  | ⟨1, _⟩ => exact within0 (d := 1024) e1 (i 1).isLt

abbrev v36 : Vec Ideal S1x1024 .f32 := GM (m ((c : Thread nD τ).loc main_arg6)) (m ((c : Thread nD τ).loc main_arg18))

theorem val36 : View.canon (L36 m c t) = v36 m c := by
  rw [eq36, View.canon_unit_zero hz2, sm4]

theorem flushed36 : (dats m 0 c).flushed 36 t = ((cfg0.win 36).blk t).view.read (Elt Ideal) (v36 m c) := by
  obtain ⟨e0, e1⟩ := zero36 t
  show (cfg0.win 36).cut (grid0.coords t) ((dats m 0 c).after 36 t) = _
  rw [aft36, val36]
  funext y
  refine congrArg (v36 m c) (funext fun a => Fin.ext ?_)
  match a with
  | ⟨0, _⟩ => show (y 0).val = win0_36.index t (0 : Fin 2) * 1 + 1 * (y 0).val; rw [e0]; omega
  | ⟨1, _⟩ => show (y 1).val = win0_36.index t (1 : Fin 2) * 1024 + 1 * (y 1).val; rw [e1]; omega

theorem cover36 (i : S1x1024.Idx) : ∃ t : Fin cfg0.N, (cfg0.win 36).flush t = true ∧ i ∈ ((cfg0.win 36).blk t).view.set := by
  obtain ⟨e0, e1⟩ := zero36 t0_0
  refine ⟨t0_0, flush0_36 t0_0, ?_⟩
  show i ∈ ((View.whole main_v8_17).slice (win0_36.rect t0_0)).set
  rw [View.set_slice_whole, Rect.mem_set_unit]
  intro a
  match a with
  | ⟨0, _⟩ => exact within0 (d := 1) e0 (i 0).isLt
  | ⟨1, _⟩ => exact within0 (d := 1024) e1 (i 1).isLt

abbrev v37 : Vec Ideal S1x1024 .f32 := GV (m ((c : Thread nD τ).loc main_arg1)) (m ((c : Thread nD τ).loc main_arg19))

theorem val37 : View.canon (L37 m c t) = v37 m c := by
  rw [eq37, View.canon_unit_zero hz2, sv0]

theorem flushed37 : (dats m 0 c).flushed 37 t = ((cfg0.win 37).blk t).view.read (Elt Ideal) (v37 m c) := by
  obtain ⟨e0, e1⟩ := zero37 t
  show (cfg0.win 37).cut (grid0.coords t) ((dats m 0 c).after 37 t) = _
  rw [aft37, val37]
  funext y
  refine congrArg (v37 m c) (funext fun a => Fin.ext ?_)
  match a with
  | ⟨0, _⟩ => show (y 0).val = win0_37.index t (0 : Fin 2) * 1 + 1 * (y 0).val; rw [e0]; omega
  | ⟨1, _⟩ => show (y 1).val = win0_37.index t (1 : Fin 2) * 1024 + 1 * (y 1).val; rw [e1]; omega

theorem cover37 (i : S1x1024.Idx) : ∃ t : Fin cfg0.N, (cfg0.win 37).flush t = true ∧ i ∈ ((cfg0.win 37).blk t).view.set := by
  obtain ⟨e0, e1⟩ := zero37 t0_0
  refine ⟨t0_0, flush0_37 t0_0, ?_⟩
  show i ∈ ((View.whole main_v8_18).slice (win0_37.rect t0_0)).set
  rw [View.set_slice_whole, Rect.mem_set_unit]
  intro a
  match a with
  | ⟨0, _⟩ => exact within0 (d := 1) e0 (i 0).isLt
  | ⟨1, _⟩ => exact within0 (d := 1024) e1 (i 1).isLt

abbrev v38 : Vec Ideal S2x512 .f32 := GV (m ((c : Thread nD τ).loc main_arg2)) (m ((c : Thread nD τ).loc main_arg20))

theorem val38 : View.canon (L38 m c t) = v38 m c := by
  rw [eq38]
  exact two_rows _ _ _ (sv1 m c t _) (sv1x m c t _)

theorem flushed38 : (dats m 0 c).flushed 38 t = ((cfg0.win 38).blk t).view.read (Elt Ideal) (v38 m c) := by
  obtain ⟨e0, e1⟩ := zero38 t
  show (cfg0.win 38).cut (grid0.coords t) ((dats m 0 c).after 38 t) = _
  rw [aft38, val38]
  funext y
  refine congrArg (v38 m c) (funext fun a => Fin.ext ?_)
  match a with
  | ⟨0, _⟩ => show (y 0).val = win0_38.index t (0 : Fin 2) * 2 + 1 * (y 0).val; rw [e0]; omega
  | ⟨1, _⟩ => show (y 1).val = win0_38.index t (1 : Fin 2) * 512 + 1 * (y 1).val; rw [e1]; omega

theorem cover38 (i : S2x512.Idx) : ∃ t : Fin cfg0.N, (cfg0.win 38).flush t = true ∧ i ∈ ((cfg0.win 38).blk t).view.set := by
  obtain ⟨e0, e1⟩ := zero38 t0_0
  refine ⟨t0_0, flush0_38 t0_0, ?_⟩
  show i ∈ ((View.whole main_v8_19).slice (win0_38.rect t0_0)).set
  rw [View.set_slice_whole, Rect.mem_set_unit]
  intro a
  match a with
  | ⟨0, _⟩ => exact within0 (d := 2) e0 (i 0).isLt
  | ⟨1, _⟩ => exact within0 (d := 512) e1 (i 1).isLt

abbrev v39 : Vec Ideal S1x512 .f32 := GV (m ((c : Thread nD τ).loc main_arg3)) (m ((c : Thread nD τ).loc main_arg21))

theorem val39 : View.canon (L39 m c t) = v39 m c := by
  rw [eq39, View.canon_unit_zero hz2, sv2]

theorem flushed39 : (dats m 0 c).flushed 39 t = ((cfg0.win 39).blk t).view.read (Elt Ideal) (v39 m c) := by
  obtain ⟨e0, e1⟩ := zero39 t
  show (cfg0.win 39).cut (grid0.coords t) ((dats m 0 c).after 39 t) = _
  rw [aft39, val39]
  funext y
  refine congrArg (v39 m c) (funext fun a => Fin.ext ?_)
  match a with
  | ⟨0, _⟩ => show (y 0).val = win0_39.index t (0 : Fin 2) * 1 + 1 * (y 0).val; rw [e0]; omega
  | ⟨1, _⟩ => show (y 1).val = win0_39.index t (1 : Fin 2) * 512 + 1 * (y 1).val; rw [e1]; omega

theorem cover39 (i : S1x512.Idx) : ∃ t : Fin cfg0.N, (cfg0.win 39).flush t = true ∧ i ∈ ((cfg0.win 39).blk t).view.set := by
  obtain ⟨e0, e1⟩ := zero39 t0_0
  refine ⟨t0_0, flush0_39 t0_0, ?_⟩
  show i ∈ ((View.whole main_v8_20).slice (win0_39.rect t0_0)).set
  rw [View.set_slice_whole, Rect.mem_set_unit]
  intro a
  match a with
  | ⟨0, _⟩ => exact within0 (d := 1) e0 (i 0).isLt
  | ⟨1, _⟩ => exact within0 (d := 512) e1 (i 1).isLt

abbrev v40 : Vec Ideal S1x512 .f32 := GV (m ((c : Thread nD τ).loc main_arg4)) (m ((c : Thread nD τ).loc main_arg22))

theorem val40 : View.canon (L40 m c t) = v40 m c := by
  rw [eq40, View.canon_unit_zero hz2, sv2x]

theorem flushed40 : (dats m 0 c).flushed 40 t = ((cfg0.win 40).blk t).view.read (Elt Ideal) (v40 m c) := by
  obtain ⟨e0, e1⟩ := zero40 t
  show (cfg0.win 40).cut (grid0.coords t) ((dats m 0 c).after 40 t) = _
  rw [aft40, val40]
  funext y
  refine congrArg (v40 m c) (funext fun a => Fin.ext ?_)
  match a with
  | ⟨0, _⟩ => show (y 0).val = win0_40.index t (0 : Fin 2) * 1 + 1 * (y 0).val; rw [e0]; omega
  | ⟨1, _⟩ => show (y 1).val = win0_40.index t (1 : Fin 2) * 512 + 1 * (y 1).val; rw [e1]; omega

theorem cover40 (i : S1x512.Idx) : ∃ t : Fin cfg0.N, (cfg0.win 40).flush t = true ∧ i ∈ ((cfg0.win 40).blk t).view.set := by
  obtain ⟨e0, e1⟩ := zero40 t0_0
  refine ⟨t0_0, flush0_40 t0_0, ?_⟩
  show i ∈ ((View.whole main_v8_21).slice (win0_40.rect t0_0)).set
  rw [View.set_slice_whole, Rect.mem_set_unit]
  intro a
  match a with
  | ⟨0, _⟩ => exact within0 (d := 1) e0 (i 0).isLt
  | ⟨1, _⟩ => exact within0 (d := 512) e1 (i 1).isLt

abbrev v41 : Vec Ideal S1x1024 .f32 := GV (m ((c : Thread nD τ).loc main_arg5)) (m ((c : Thread nD τ).loc main_arg23))

theorem val41 : View.canon (L41 m c t) = v41 m c := by
  rw [eq41, View.canon_unit_zero hz2, sv3]

theorem flushed41 : (dats m 0 c).flushed 41 t = ((cfg0.win 41).blk t).view.read (Elt Ideal) (v41 m c) := by
  obtain ⟨e0, e1⟩ := zero41 t
  show (cfg0.win 41).cut (grid0.coords t) ((dats m 0 c).after 41 t) = _
  rw [aft41, val41]
  funext y
  refine congrArg (v41 m c) (funext fun a => Fin.ext ?_)
  match a with
  | ⟨0, _⟩ => show (y 0).val = win0_41.index t (0 : Fin 2) * 1 + 1 * (y 0).val; rw [e0]; omega
  | ⟨1, _⟩ => show (y 1).val = win0_41.index t (1 : Fin 2) * 1024 + 1 * (y 1).val; rw [e1]; omega

theorem cover41 (i : S1x1024.Idx) : ∃ t : Fin cfg0.N, (cfg0.win 41).flush t = true ∧ i ∈ ((cfg0.win 41).blk t).view.set := by
  obtain ⟨e0, e1⟩ := zero41 t0_0
  refine ⟨t0_0, flush0_41 t0_0, ?_⟩
  show i ∈ ((View.whole main_v8_22).slice (win0_41.rect t0_0)).set
  rw [View.set_slice_whole, Rect.mem_set_unit]
  intro a
  match a with
  | ⟨0, _⟩ => exact within0 (d := 1) e0 (i 0).isLt
  | ⟨1, _⟩ => exact within0 (d := 1024) e1 (i 1).isLt

abbrev v42 : Vec Ideal S1x1024 .f32 := GV (m ((c : Thread nD τ).loc main_arg6)) (m ((c : Thread nD τ).loc main_arg24))

theorem val42 : View.canon (L42 m c t) = v42 m c := by
  rw [eq42, View.canon_unit_zero hz2, sv4]

theorem flushed42 : (dats m 0 c).flushed 42 t = ((cfg0.win 42).blk t).view.read (Elt Ideal) (v42 m c) := by
  obtain ⟨e0, e1⟩ := zero42 t
  show (cfg0.win 42).cut (grid0.coords t) ((dats m 0 c).after 42 t) = _
  rw [aft42, val42]
  funext y
  refine congrArg (v42 m c) (funext fun a => Fin.ext ?_)
  match a with
  | ⟨0, _⟩ => show (y 0).val = win0_42.index t (0 : Fin 2) * 1 + 1 * (y 0).val; rw [e0]; omega
  | ⟨1, _⟩ => show (y 1).val = win0_42.index t (1 : Fin 2) * 1024 + 1 * (y 1).val; rw [e1]; omega

theorem cover42 (i : S1x1024.Idx) : ∃ t : Fin cfg0.N, (cfg0.win 42).flush t = true ∧ i ∈ ((cfg0.win 42).blk t).view.set := by
  obtain ⟨e0, e1⟩ := zero42 t0_0
  refine ⟨t0_0, flush0_42 t0_0, ?_⟩
  show i ∈ ((View.whole main_v8_23).slice (win0_42.rect t0_0)).set
  rw [View.set_slice_whole, Rect.mem_set_unit]
  intro a
  match a with
  | ⟨0, _⟩ => exact within0 (d := 1) e0 (i 0).isLt
  | ⟨1, _⟩ => exact within0 (d := 1024) e1 (i 1).isLt

set_option maxHeartbeats 16000000 in
/-- The run, read: the results, the arguments unchanged. -/
theorem run : θ_run defs (onTc (τ := τ) (main (F := Ideal))) ⟨m, fun _ => 0, ρ⟩ fun r => ∀ c : Dev nD,
      r.2.mem ((c.tc : Thread nD τ).loc main_v8_6) = v25 m c
      ∧ r.2.mem ((c.tc : Thread nD τ).loc main_v8_7) = v26 m c
      ∧ r.2.mem ((c.tc : Thread nD τ).loc main_v8_8) = v27 m c
      ∧ r.2.mem ((c.tc : Thread nD τ).loc main_v8_9) = v28 m c
      ∧ r.2.mem ((c.tc : Thread nD τ).loc main_v8_10) = v29 m c
      ∧ r.2.mem ((c.tc : Thread nD τ).loc main_v8_11) = v30 m c
      ∧ r.2.mem ((c.tc : Thread nD τ).loc main_v8_12) = v31 m c
      ∧ r.2.mem ((c.tc : Thread nD τ).loc main_v8_13) = v32 m c
      ∧ r.2.mem ((c.tc : Thread nD τ).loc main_v8_14) = v33 m c
      ∧ r.2.mem ((c.tc : Thread nD τ).loc main_v8_15) = v34 m c
      ∧ r.2.mem ((c.tc : Thread nD τ).loc main_v8_16) = v35 m c
      ∧ r.2.mem ((c.tc : Thread nD τ).loc main_v8_17) = v36 m c
      ∧ r.2.mem ((c.tc : Thread nD τ).loc main_v8_18) = v37 m c
      ∧ r.2.mem ((c.tc : Thread nD τ).loc main_v8_19) = v38 m c
      ∧ r.2.mem ((c.tc : Thread nD τ).loc main_v8_20) = v39 m c
      ∧ r.2.mem ((c.tc : Thread nD τ).loc main_v8_21) = v40 m c
      ∧ r.2.mem ((c.tc : Thread nD τ).loc main_v8_22) = v41 m c
      ∧ r.2.mem ((c.tc : Thread nD τ).loc main_v8_23) = v42 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun r h c => ⟨((h.1 c).1 25).trans ((dats m 0 c).arrAt_eq_of_cover 25 _ (fun t _ => flushed25 m c t) cover25),
      ((h.1 c).1 26).trans ((dats m 0 c).arrAt_eq_of_cover 26 _ (fun t _ => flushed26 m c t) cover26),
      ((h.1 c).1 27).trans ((dats m 0 c).arrAt_eq_of_cover 27 _ (fun t _ => flushed27 m c t) cover27),
      ((h.1 c).1 28).trans ((dats m 0 c).arrAt_eq_of_cover 28 _ (fun t _ => flushed28 m c t) cover28),
      ((h.1 c).1 29).trans ((dats m 0 c).arrAt_eq_of_cover 29 _ (fun t _ => flushed29 m c t) cover29),
      ((h.1 c).1 30).trans ((dats m 0 c).arrAt_eq_of_cover 30 _ (fun t _ => flushed30 m c t) cover30),
      ((h.1 c).1 31).trans ((dats m 0 c).arrAt_eq_of_cover 31 _ (fun t _ => flushed31 m c t) cover31),
      ((h.1 c).1 32).trans ((dats m 0 c).arrAt_eq_of_cover 32 _ (fun t _ => flushed32 m c t) cover32),
      ((h.1 c).1 33).trans ((dats m 0 c).arrAt_eq_of_cover 33 _ (fun t _ => flushed33 m c t) cover33),
      ((h.1 c).1 34).trans ((dats m 0 c).arrAt_eq_of_cover 34 _ (fun t _ => flushed34 m c t) cover34),
      ((h.1 c).1 35).trans ((dats m 0 c).arrAt_eq_of_cover 35 _ (fun t _ => flushed35 m c t) cover35),
      ((h.1 c).1 36).trans ((dats m 0 c).arrAt_eq_of_cover 36 _ (fun t _ => flushed36 m c t) cover36),
      ((h.1 c).1 37).trans ((dats m 0 c).arrAt_eq_of_cover 37 _ (fun t _ => flushed37 m c t) cover37),
      ((h.1 c).1 38).trans ((dats m 0 c).arrAt_eq_of_cover 38 _ (fun t _ => flushed38 m c t) cover38),
      ((h.1 c).1 39).trans ((dats m 0 c).arrAt_eq_of_cover 39 _ (fun t _ => flushed39 m c t) cover39),
      ((h.1 c).1 40).trans ((dats m 0 c).arrAt_eq_of_cover 40 _ (fun t _ => flushed40 m c t) cover40),
      ((h.1 c).1 41).trans ((dats m 0 c).arrAt_eq_of_cover 41 _ (fun t _ => flushed41 m c t) cover41),
      ((h.1 c).1 42).trans ((dats m 0 c).arrAt_eq_of_cover 42 _ (fun t _ => flushed42 m c t) cover42),
      h.2 c⟩)
    (θ_run_and (run_main m ρ) (frame_of m ρ (dats m) (A_eq m) (run_main m ρ)))

end Cert.Kernel15Ideal.Small

end
-- ==== Proof.Small.Ref.lean ====
/- The reference's lines of the small parameters' step, entry by entry. -/
module

public import proofs.«01_k».proof.Proof.Small.Host
public import proofs.«01_k».proof.Proof.Gen.Reference15Ideal.Run

@[expose] public section

set_option maxRecDepth 16384

noncomputable section

namespace Cert.Reference15Ideal.Small

open Cert.Reference15Ideal Cert.Reference15Ideal.Facts₀ Idealize.ShloMosaic Idealize.ShloMosaic.TcCoe Idealize.SL.Sem
open Cert.Kernel15Ideal.Small (GD GM GV)

theorem da (w g a b : FVec Ideal S1x1024 .f32) : mulf (broadcastInDim S1x1024 ![] bcast_S_S1x1024 (constant S_ .f32 0xBA83126F#32)) (addf (Host.divf (Host.divf (addf (mulf (broadcastInDim S1x1024 ![] bcast_S_S1x1024 (constant S_ .f32 0x3F666666#32)) a) (mulf (broadcastInDim S1x1024 ![] bcast_S_S1x1024 (constant S_ .f32 0x3DCCCCCD#32)) g)) (broadcastInDim S1x1024 ![] bcast_S_S1x1024 (constant S_ .f32 0x3F26BD02#32))) (addf (Host.sqrt (Host.divf (addf (mulf (broadcastInDim S1x1024 ![] bcast_S_S1x1024 (constant S_ .f32 0x3F7FBE77#32)) b) (mulf (broadcastInDim S1x1024 ![] bcast_S_S1x1024 (constant S_ .f32 0x3A83126F#32)) (mulf g g))) (broadcastInDim S1x1024 ![] bcast_S_S1x1024 (constant S_ .f32 0x3C231ACC#32)))) (broadcastInDim S1x1024 ![] bcast_S_S1x1024 (constant S_ .f32 0x322BCC77#32)))) (mulf (broadcastInDim S1x1024 ![] bcast_S_S1x1024 (constant S_ .f32 0x3C23D70A#32)) w)) = GD w g a b := by
  funext j
  idx_vars j
  show _ = Cert.Adam.delta (w (ix2 j0 j1)) (g (ix2 j0 j1)) (a (ix2 j0 j1)) (b (ix2 j0 j1))
  pointwise
  rfl

theorem ma (g a : FVec Ideal S1x1024 .f32) : addf (mulf (broadcastInDim S1x1024 ![] bcast_S_S1x1024 (constant S_ .f32 0x3F666666#32)) a) (mulf (broadcastInDim S1x1024 ![] bcast_S_S1x1024 (constant S_ .f32 0x3DCCCCCD#32)) g) = GM g a := by
  funext j
  idx_vars j
  show _ = Cert.Adam.nm (g (ix2 j0 j1)) (a (ix2 j0 j1))
  pointwise
  rfl

theorem va (g b : FVec Ideal S1x1024 .f32) : addf (mulf (broadcastInDim S1x1024 ![] bcast_S_S1x1024 (constant S_ .f32 0x3F7FBE77#32)) b) (mulf (broadcastInDim S1x1024 ![] bcast_S_S1x1024 (constant S_ .f32 0x3A83126F#32)) (mulf g g)) = GV g b := by
  funext j
  idx_vars j
  show _ = Cert.Adam.nv (g (ix2 j0 j1)) (b (ix2 j0 j1))
  pointwise
  rfl

theorem db (w g a b : FVec Ideal S2x512 .f32) : mulf (broadcastInDim S2x512 ![] bcast_S_S2x512 (constant S_ .f32 0xBA83126F#32)) (addf (Host.divf (Host.divf (addf (mulf (broadcastInDim S2x512 ![] bcast_S_S2x512 (constant S_ .f32 0x3F666666#32)) a) (mulf (broadcastInDim S2x512 ![] bcast_S_S2x512 (constant S_ .f32 0x3DCCCCCD#32)) g)) (broadcastInDim S2x512 ![] bcast_S_S2x512 (constant S_ .f32 0x3F26BD02#32))) (addf (Host.sqrt (Host.divf (addf (mulf (broadcastInDim S2x512 ![] bcast_S_S2x512 (constant S_ .f32 0x3F7FBE77#32)) b) (mulf (broadcastInDim S2x512 ![] bcast_S_S2x512 (constant S_ .f32 0x3A83126F#32)) (mulf g g))) (broadcastInDim S2x512 ![] bcast_S_S2x512 (constant S_ .f32 0x3C231ACC#32)))) (broadcastInDim S2x512 ![] bcast_S_S2x512 (constant S_ .f32 0x322BCC77#32)))) (mulf (broadcastInDim S2x512 ![] bcast_S_S2x512 (constant S_ .f32 0x3C23D70A#32)) w)) = GD w g a b := by
  funext j
  idx_vars j
  show _ = Cert.Adam.delta (w (ix2 j0 j1)) (g (ix2 j0 j1)) (a (ix2 j0 j1)) (b (ix2 j0 j1))
  pointwise
  rfl

theorem mb (g a : FVec Ideal S2x512 .f32) : addf (mulf (broadcastInDim S2x512 ![] bcast_S_S2x512 (constant S_ .f32 0x3F666666#32)) a) (mulf (broadcastInDim S2x512 ![] bcast_S_S2x512 (constant S_ .f32 0x3DCCCCCD#32)) g) = GM g a := by
  funext j
  idx_vars j
  show _ = Cert.Adam.nm (g (ix2 j0 j1)) (a (ix2 j0 j1))
  pointwise
  rfl

theorem vb (g b : FVec Ideal S2x512 .f32) : addf (mulf (broadcastInDim S2x512 ![] bcast_S_S2x512 (constant S_ .f32 0x3F7FBE77#32)) b) (mulf (broadcastInDim S2x512 ![] bcast_S_S2x512 (constant S_ .f32 0x3A83126F#32)) (mulf g g)) = GV g b := by
  funext j
  idx_vars j
  show _ = Cert.Adam.nv (g (ix2 j0 j1)) (b (ix2 j0 j1))
  pointwise
  rfl

theorem dc (w g a b : FVec Ideal S1x512 .f32) : mulf (broadcastInDim S1x512 ![] bcast_S_S1x512 (constant S_ .f32 0xBA83126F#32)) (addf (Host.divf (Host.divf (addf (mulf (broadcastInDim S1x512 ![] bcast_S_S1x512 (constant S_ .f32 0x3F666666#32)) a) (mulf (broadcastInDim S1x512 ![] bcast_S_S1x512 (constant S_ .f32 0x3DCCCCCD#32)) g)) (broadcastInDim S1x512 ![] bcast_S_S1x512 (constant S_ .f32 0x3F26BD02#32))) (addf (Host.sqrt (Host.divf (addf (mulf (broadcastInDim S1x512 ![] bcast_S_S1x512 (constant S_ .f32 0x3F7FBE77#32)) b) (mulf (broadcastInDim S1x512 ![] bcast_S_S1x512 (constant S_ .f32 0x3A83126F#32)) (mulf g g))) (broadcastInDim S1x512 ![] bcast_S_S1x512 (constant S_ .f32 0x3C231ACC#32)))) (broadcastInDim S1x512 ![] bcast_S_S1x512 (constant S_ .f32 0x322BCC77#32)))) (mulf (broadcastInDim S1x512 ![] bcast_S_S1x512 (constant S_ .f32 0x3C23D70A#32)) w)) = GD w g a b := by
  funext j
  idx_vars j
  show _ = Cert.Adam.delta (w (ix2 j0 j1)) (g (ix2 j0 j1)) (a (ix2 j0 j1)) (b (ix2 j0 j1))
  pointwise
  rfl

theorem mc (g a : FVec Ideal S1x512 .f32) : addf (mulf (broadcastInDim S1x512 ![] bcast_S_S1x512 (constant S_ .f32 0x3F666666#32)) a) (mulf (broadcastInDim S1x512 ![] bcast_S_S1x512 (constant S_ .f32 0x3DCCCCCD#32)) g) = GM g a := by
  funext j
  idx_vars j
  show _ = Cert.Adam.nm (g (ix2 j0 j1)) (a (ix2 j0 j1))
  pointwise
  rfl

theorem vc (g b : FVec Ideal S1x512 .f32) : addf (mulf (broadcastInDim S1x512 ![] bcast_S_S1x512 (constant S_ .f32 0x3F7FBE77#32)) b) (mulf (broadcastInDim S1x512 ![] bcast_S_S1x512 (constant S_ .f32 0x3A83126F#32)) (mulf g g)) = GV g b := by
  funext j
  idx_vars j
  show _ = Cert.Adam.nv (g (ix2 j0 j1)) (b (ix2 j0 j1))
  pointwise
  rfl

theorem GDe {s : Shape} {w w' g g' a a' b b' : Vec Ideal s .f32} (h : w = w') (i : g = g') (j : a = a') (k : b = b') : GD w g a b = GD w' g' a' b' := by
  rw [h, i, j, k]

theorem GMe {s : Shape} {g g' a a' : Vec Ideal s .f32} (i : g = g') (j : a = a') : GM g a = GM g' a' := by rw [i, j]

theorem GVe {s : Shape} {g g' a a' : Vec Ideal s .f32} (i : g = g') (j : a = a') : GV g a = GV g' a' := by rw [i, j]

end Cert.Reference15Ideal.Small

end
-- ==== Proof.lean ====
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Pre_finite2
public import proofs.«01_k».proof.Proof.Gen.Kernel3
public import proofs.«01_k».proof.Proof.Gen.Kernel3Ideal
public import proofs.«01_k».proof.Proof.Gen.Reference3Ideal
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Pre_finite3
public import proofs.«01_k».proof.Proof.Gen.Kernel4
public import proofs.«01_k».proof.Proof.Gen.Kernel4Ideal
public import proofs.«01_k».proof.Proof.Gen.Reference4Ideal
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel6
public import proofs.«01_k».proof.Proof.Gen.Kernel6Ideal
public import proofs.«01_k».proof.Proof.Gen.Reference6Ideal
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Pre_finite6
public import proofs.«01_k».proof.Proof.Gen.Kernel7
public import proofs.«01_k».proof.Proof.Gen.Kernel7Ideal
public import proofs.«01_k».proof.Proof.Gen.Reference7Ideal
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9
public import proofs.«01_k».proof.Proof.Gen.Kernel9Ideal
public import proofs.«01_k».proof.Proof.Gen.Reference9Ideal
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Pre_finite9
public import proofs.«01_k».proof.Proof.Gen.Kernel10
public import proofs.«01_k».proof.Proof.Gen.Kernel10Ideal
public import proofs.«01_k».proof.Proof.Gen.Reference10Ideal
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11
public import proofs.«01_k».proof.Proof.Gen.Kernel11Ideal
public import proofs.«01_k».proof.Proof.Gen.Reference11Ideal
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12
public import proofs.«01_k».proof.Proof.Gen.Kernel12Ideal
public import proofs.«01_k».proof.Proof.Gen.Reference12Ideal
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13
public import proofs.«01_k».proof.Proof.Gen.Kernel13Ideal
public import proofs.«01_k».proof.Proof.Gen.Reference13Ideal
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14
public import proofs.«01_k».proof.Proof.Gen.Kernel14Ideal
public import proofs.«01_k».proof.Proof.Gen.Reference14Ideal
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15Ideal
public import proofs.«01_k».proof.Proof.Gen.Reference15Ideal
public import proofs.«01_k».proof.Proof.Gen.Reference15Ideal.Run
public import proofs.«01_k».proof.Proof.DhFfn
public import proofs.«01_k».proof.Proof.FfnBwd
public import proofs.«01_k».proof.Proof.DwGate
public import proofs.«01_k».proof.Proof.DhMix
public import proofs.«01_k».proof.Proof.FfnUp
public import proofs.«01_k».proof.Proof.Proj
public import proofs.«01_k».proof.Proof.LossDown
public import proofs.«01_k».proof.Proof.DwDown
public import proofs.«01_k».proof.Proof.OptIn
public import proofs.«01_k».proof.Proof.OptGate
public import proofs.«01_k».proof.Proof.OptOut
public import proofs.«01_k».proof.Proof.OptDown
public import proofs.«01_k».proof.Proof.Small.Value
public import proofs.«01_k».proof.Proof.Small.Ref
@[expose] public section

set_option maxRecDepth 16384

noncomputable section

namespace Cert.Proof

open Idealize.ShloMosaic Idealize.ShloMosaic.TcCoe Idealize.ShloMosaic.Tactic Idealize.SL.Sem

/-! ## Program 2 -/

theorem frame2 : Cert.quiescent_Kernel2 := fun m ρ _ => Cert.Kernel2.Gen.frame m ρ

theorem frameI2 : Cert.quiescent_Kernel2Ideal := fun m ρ _ => Cert.Kernel2Ideal.Gen.frame m ρ

theorem frameR2 : Cert.quiescent_Reference2Ideal := fun m ρ _ =>
  (θ_run Cert.Reference2Ideal.defs _ _).mono (fun r h => ⟨fun c => (h c).2.2.2, sem_eq_zero_of_no_sems (by decide) r.2⟩) (Cert.Reference2Ideal.Value.run m ρ)

theorem value2 : Cert.algebraic_Kernel2Ideal_Reference2Ideal_pre_finite2 := fun m ρ m' ρ' hpre hag =>
  ⟨_, _, _,
    Cert.Kernel2Ideal.Norm.run m ρ,
    (θ_run Cert.Reference2Ideal.defs _ _).mono (fun _ h c => by
      obtain ⟨e0, e1, e2, e3, e4, e5, e6, e7, e8⟩ := hag c
      exact ⟨(h c).1.trans (by unfold Cert.Reference2Ideal.Value.res_main_v46; rw [e0, e1, e2, e3, e4, e5, e6, e7, e8]; exact Cert.Reference2Ideal.Norm.ref8 _ _ _ _ _ _ _ _ _ (hpre c)),
        (h c).2.1.trans (by rw [e0, e1, e3, e4, e5, e6, e7]; exact Cert.Reference2Ideal.Norm.ref9 _ _ _ _ _ _ _ _ _ (hpre c)),
        (h c).2.2.1.trans (by unfold Cert.Reference2Ideal.Value.res_main_v49; rw [e0, e1, e2, e3, e4, e5, e6, e7, e8]; exact Cert.Reference2Ideal.Norm.ref10 _ _ _ _ _ _ _ _ _ (hpre c)), (h c).2.2.2⟩) (Cert.Reference2Ideal.Value.run m' ρ')⟩

/-! ## Program 3 -/

theorem frame3 : Cert.quiescent_Kernel3 := fun m ρ _ => Cert.Kernel3.Gen.frame m ρ

theorem frameI3 : Cert.quiescent_Kernel3Ideal := fun m ρ _ => Cert.Kernel3Ideal.Gen.frame m ρ

theorem frameR3 : Cert.quiescent_Reference3Ideal := fun m ρ _ =>
  (θ_run Cert.Reference3Ideal.defs _ _).mono (fun r h => ⟨fun c => (h c).2.2, sem_eq_zero_of_no_sems (by decide) r.2⟩) (Cert.Reference3Ideal.Value.run m ρ)

theorem value3 : Cert.algebraic_Kernel3Ideal_Reference3Ideal_pre_finite3 := fun m ρ m' ρ' hpre hag =>
  ⟨_, _,
    Cert.Kernel3Ideal.Gate.run m ρ,
    (θ_run Cert.Reference3Ideal.defs _ _).mono (fun _ h c => by
      obtain ⟨e0, e1, e2, e3, e4⟩ := hag c
      exact ⟨(h c).1.trans (by rw [e0, e1, e2, e3, e4]; exact Cert.Reference3Ideal.Gate.ref4 _ _ _ _ _ (hpre c)),
        (h c).2.1.trans (by rw [e0, e1, e3, e4]; exact Cert.Reference3Ideal.Gate.ref5 _ _ _ _), (h c).2.2⟩) (Cert.Reference3Ideal.Value.run m' ρ')⟩

/-! ## Program 4 -/

theorem frame4 : Cert.quiescent_Kernel4 := fun m ρ _ => Cert.Kernel4.Gen.frame m ρ

theorem frameI4 : Cert.quiescent_Kernel4Ideal := fun m ρ _ => Cert.Kernel4Ideal.Gen.frame m ρ

theorem frameR4 : Cert.quiescent_Reference4Ideal := fun m ρ _ =>
  (θ_run Cert.Reference4Ideal.defs _ _).mono (fun r h => ⟨fun c => (h c).2, sem_eq_zero_of_no_sems (by decide) r.2⟩) (Cert.Reference4Ideal.Value.run m ρ)

theorem value4 : Cert.algebraic_Kernel4Ideal_Reference4Ideal := fun m ρ m' ρ' hpre hag =>
  ⟨_,
    Cert.Kernel4Ideal.Tn.run m ρ,
    (θ_run Cert.Reference4Ideal.defs _ _).mono (fun _ h c => by
      obtain ⟨e0, e1, e2⟩ := hag c
      exact ⟨(h c).1.trans (by rw [e0, e2]; exact Cert.Reference4Ideal.Tn.ref _ _), (h c).2⟩) (Cert.Reference4Ideal.Value.run m' ρ')⟩

/-! ## Program 6 -/

theorem frame6 : Cert.quiescent_Kernel6 := fun m ρ _ => Cert.Kernel6.Gen.frame m ρ

theorem frameI6 : Cert.quiescent_Kernel6Ideal := fun m ρ _ => Cert.Kernel6Ideal.Gen.frame m ρ

theorem frameR6 : Cert.quiescent_Reference6Ideal := fun m ρ _ =>
  (θ_run Cert.Reference6Ideal.defs _ _).mono (fun r h => ⟨fun c => (h c).2.2, sem_eq_zero_of_no_sems (by decide) r.2⟩) (Cert.Reference6Ideal.Value.run m ρ)

theorem value6 : Cert.algebraic_Kernel6Ideal_Reference6Ideal_pre_finite6 := fun m ρ m' ρ' hpre hag =>
  ⟨_, _,
    Cert.Kernel6Ideal.Norm.run m ρ,
    (θ_run Cert.Reference6Ideal.defs _ _).mono (fun _ h c => by
      obtain ⟨e0, e1, e2, e3, e4⟩ := hag c
      exact ⟨(h c).1.trans (by unfold Cert.Reference6Ideal.Value.res_main_v40; rw [e0, e1, e2, e3, e4]; exact Cert.Reference6Ideal.Norm.ref17 _ _ _ _ _ (hpre c)),
        (h c).2.1.trans (by rw [e0, e2, e3]; exact Cert.Reference6Ideal.Norm.ref18 _ _ _ _ _ (hpre c)), (h c).2.2⟩) (Cert.Reference6Ideal.Value.run m' ρ')⟩

/-! ## Program 7 -/

theorem frame7 : Cert.quiescent_Kernel7 := fun m ρ _ => Cert.Kernel7.Gen.frame m ρ

theorem frameI7 : Cert.quiescent_Kernel7Ideal := fun m ρ _ => Cert.Kernel7Ideal.Gen.frame m ρ

theorem frameR7 : Cert.quiescent_Reference7Ideal := fun m ρ _ =>
  (θ_run Cert.Reference7Ideal.defs _ _).mono (fun r h => ⟨fun c => (h c).2.2.2, sem_eq_zero_of_no_sems (by decide) r.2⟩) (Cert.Reference7Ideal.Value.run m ρ)

theorem value7 : Cert.algebraic_Kernel7Ideal_Reference7Ideal := fun m ρ m' ρ' hpre hag =>
  ⟨_, _, _,
    Cert.Kernel7Ideal.Ffn.run m ρ,
    (θ_run Cert.Reference7Ideal.defs _ _).mono (fun _ h c => by
      obtain ⟨e0, e1, e2⟩ := hag c
      exact ⟨(h c).1.trans (by rw [e0, e1]; exact Cert.Reference7Ideal.Ffn.ref3 _ _),
        (h c).2.1.trans (by rw [e0, e2]; exact Cert.Reference7Ideal.Ffn.ref3 _ _),
        (h c).2.2.1.trans (by rw [e0, e1, e2]; exact Cert.Reference7Ideal.Ffn.ref5 _ _ _), (h c).2.2.2⟩) (Cert.Reference7Ideal.Value.run m' ρ')⟩

/-! ## Program 8 -/

theorem frame8 : Cert.quiescent_Kernel8 := fun m ρ _ => Cert.Kernel8.Gen.frame m ρ

theorem frameI8 : Cert.quiescent_Kernel8Ideal := fun m ρ _ => Cert.Kernel8Ideal.Gen.frame m ρ

theorem frameR8 : Cert.quiescent_Reference8Ideal := fun m ρ _ =>
  (θ_run Cert.Reference8Ideal.defs _ _).mono (fun r h => ⟨fun c => (h c).2.2, sem_eq_zero_of_no_sems (by decide) r.2⟩) (Cert.Reference8Ideal.Value.run m ρ)

theorem value8 : Cert.algebraic_Kernel8Ideal_Reference8Ideal := fun m ρ m' ρ' hpre hag =>
  ⟨_, _,
    Cert.Kernel8Ideal.Proj.run m ρ,
    (θ_run Cert.Reference8Ideal.defs _ _).mono (fun _ h c => by
      obtain ⟨e0, e1⟩ := hag c
      exact ⟨(h c).1.trans (by rw [e0, e1]; exact Cert.Reference8Ideal.Proj.ref2 _ _),
        (h c).2.1.trans (by rw [e0, e1]; exact Cert.Reference8Ideal.Proj.ref3 _ _), (h c).2.2⟩) (Cert.Reference8Ideal.Value.run m' ρ')⟩

/-! ## Program 9 -/

theorem frame9 : Cert.quiescent_Kernel9 := fun m ρ _ => Cert.Kernel9.Gen.frame m ρ

theorem frameI9 : Cert.quiescent_Kernel9Ideal := fun m ρ _ => Cert.Kernel9Ideal.Gen.frame m ρ

theorem frameR9 : Cert.quiescent_Reference9Ideal := fun m ρ _ =>
  (θ_run Cert.Reference9Ideal.defs _ _).mono (fun r h => ⟨fun c => (h c).2.2.2.2, sem_eq_zero_of_no_sems (by decide) r.2⟩) (Cert.Reference9Ideal.Value.run m ρ)

theorem value9 : Cert.algebraic_Kernel9Ideal_Reference9Ideal_pre_finite9 := fun m ρ m' ρ' hpre hag =>
  ⟨_, _, _, _,
    Cert.Kernel9Ideal.Loss.run m ρ,
    (θ_run Cert.Reference9Ideal.defs _ _).mono (fun _ h c => by
      obtain ⟨e0, e1, e2, e3, e4⟩ := hag c
      exact ⟨(h c).1.trans (by unfold Cert.Reference9Ideal.Value.res_main_v54; rw [e0, e1, e2, e3, e4]; exact Cert.Reference9Ideal.Loss.ref5 _ _ _ _ _ (hpre c)),
        (h c).2.1.trans (by unfold Cert.Reference9Ideal.Value.res_main_v56; rw [e0, e1, e2, e3, e4]; exact Cert.Reference9Ideal.Loss.ref6 _ _ _ _ _ (hpre c)),
        (h c).2.2.1.trans (by rw [e0, e1, e2, e3, e4]; exact Cert.Reference9Ideal.Loss.ref7 _ _ _ _ _ (hpre c)),
        (h c).2.2.2.1.trans (by rw [e0, e1, e2, e3, e4]; exact Cert.Reference9Ideal.Loss.ref8 _ _ _ _ _ (hpre c)), (h c).2.2.2.2⟩) (Cert.Reference9Ideal.Value.run m' ρ')⟩

/-! ## Program 10 -/

theorem frame10 : Cert.quiescent_Kernel10 := fun m ρ _ => Cert.Kernel10.Gen.frame m ρ

theorem frameI10 : Cert.quiescent_Kernel10Ideal := fun m ρ _ => Cert.Kernel10Ideal.Gen.frame m ρ

theorem frameR10 : Cert.quiescent_Reference10Ideal := fun m ρ _ =>
  (θ_run Cert.Reference10Ideal.defs _ _).mono (fun r h => ⟨fun c => (h c).2, sem_eq_zero_of_no_sems (by decide) r.2⟩) (Cert.Reference10Ideal.Value.run m ρ)

theorem value10 : Cert.algebraic_Kernel10Ideal_Reference10Ideal := fun m ρ m' ρ' hpre hag =>
  ⟨_,
    Cert.Kernel10Ideal.Tn.run m ρ,
    (θ_run Cert.Reference10Ideal.defs _ _).mono (fun _ h c => by
      obtain ⟨e0, e1, e2⟩ := hag c
      exact ⟨(h c).1.trans (by rw [e0, e2]; exact Cert.Reference10Ideal.Tn.ref _ _), (h c).2⟩) (Cert.Reference10Ideal.Value.run m' ρ')⟩

/-! ## Program 11 -/

theorem frame11 : Cert.quiescent_Kernel11 := fun m ρ _ => Cert.Kernel11.Gen.frame m ρ

theorem frameI11 : Cert.quiescent_Kernel11Ideal := fun m ρ _ => Cert.Kernel11Ideal.Gen.frame m ρ

theorem frameR11 : Cert.quiescent_Reference11Ideal := fun m ρ _ =>
  (θ_run Cert.Reference11Ideal.defs _ _).mono (fun r h => ⟨fun c => (h c).2.2.2.2, sem_eq_zero_of_no_sems (by decide) r.2⟩) (Cert.Reference11Ideal.Value.run m ρ)

theorem value11 : Cert.algebraic_Kernel11Ideal_Reference11Ideal := fun m ρ m' ρ' hpre hag =>
  ⟨_, _, _, _,
    Cert.Kernel11Ideal.Opt.run m ρ,
    (θ_run Cert.Reference11Ideal.defs _ _).mono (fun _ h c => by
      obtain ⟨e0, e1, e2, e3⟩ := hag c
      exact ⟨(h c).1.trans (by rw [e0]; exact Cert.Reference11Ideal.Opt.ref4 _),
        (h c).2.1.trans (by rw [e0, e1, e2, e3]; exact Cert.Reference11Ideal.Opt.ref5 _ _ _ _),
        (h c).2.2.1.trans (by rw [e0, e2]; exact Cert.Reference11Ideal.Opt.ref6 _ _),
        (h c).2.2.2.1.trans (by rw [e0, e3]; exact Cert.Reference11Ideal.Opt.ref7 _ _), (h c).2.2.2.2⟩) (Cert.Reference11Ideal.Value.run m' ρ')⟩

/-! ## Program 12 -/

theorem frame12 : Cert.quiescent_Kernel12 := fun m ρ _ => Cert.Kernel12.Gen.frame m ρ

theorem frameI12 : Cert.quiescent_Kernel12Ideal := fun m ρ _ => Cert.Kernel12Ideal.Gen.frame m ρ

theorem frameR12 : Cert.quiescent_Reference12Ideal := fun m ρ _ =>
  (θ_run Cert.Reference12Ideal.defs _ _).mono (fun r h => ⟨fun c => (h c).2.2.2.2, sem_eq_zero_of_no_sems (by decide) r.2⟩) (Cert.Reference12Ideal.Value.run m ρ)

theorem value12 : Cert.algebraic_Kernel12Ideal_Reference12Ideal := fun m ρ m' ρ' hpre hag =>
  ⟨_, _, _, _,
    Cert.Kernel12Ideal.Opt.run m ρ,
    (θ_run Cert.Reference12Ideal.defs _ _).mono (fun _ h c => by
      obtain ⟨e0, e1, e2, e3⟩ := hag c
      exact ⟨(h c).1.trans (by rw [e0]; exact Cert.Reference12Ideal.Opt.ref4 _),
        (h c).2.1.trans (by rw [e0, e1, e2, e3]; exact Cert.Reference12Ideal.Opt.ref5 _ _ _ _),
        (h c).2.2.1.trans (by rw [e0, e2]; exact Cert.Reference12Ideal.Opt.ref6 _ _),
        (h c).2.2.2.1.trans (by rw [e0, e3]; exact Cert.Reference12Ideal.Opt.ref7 _ _), (h c).2.2.2.2⟩) (Cert.Reference12Ideal.Value.run m' ρ')⟩

/-! ## Program 13 -/

theorem frame13 : Cert.quiescent_Kernel13 := fun m ρ _ => Cert.Kernel13.Gen.frame m ρ

theorem frameI13 : Cert.quiescent_Kernel13Ideal := fun m ρ _ => Cert.Kernel13Ideal.Gen.frame m ρ

theorem frameR13 : Cert.quiescent_Reference13Ideal := fun m ρ _ =>
  (θ_run Cert.Reference13Ideal.defs _ _).mono (fun r h => ⟨fun c => (h c).2.2.2.2, sem_eq_zero_of_no_sems (by decide) r.2⟩) (Cert.Reference13Ideal.Value.run m ρ)

theorem value13 : Cert.algebraic_Kernel13Ideal_Reference13Ideal := fun m ρ m' ρ' hpre hag =>
  ⟨_, _, _, _,
    Cert.Kernel13Ideal.Opt.run m ρ,
    (θ_run Cert.Reference13Ideal.defs _ _).mono (fun _ h c => by
      obtain ⟨e0, e1, e2, e3⟩ := hag c
      exact ⟨(h c).1.trans (by rw [e0]; exact Cert.Reference13Ideal.Opt.ref4 _),
        (h c).2.1.trans (by rw [e0, e1, e2, e3]; exact Cert.Reference13Ideal.Opt.ref5 _ _ _ _),
        (h c).2.2.1.trans (by rw [e0, e2]; exact Cert.Reference13Ideal.Opt.ref6 _ _),
        (h c).2.2.2.1.trans (by rw [e0, e3]; exact Cert.Reference13Ideal.Opt.ref7 _ _), (h c).2.2.2.2⟩) (Cert.Reference13Ideal.Value.run m' ρ')⟩

/-! ## Program 14 -/

theorem frame14 : Cert.quiescent_Kernel14 := fun m ρ _ => Cert.Kernel14.Gen.frame m ρ

theorem frameI14 : Cert.quiescent_Kernel14Ideal := fun m ρ _ => Cert.Kernel14Ideal.Gen.frame m ρ

theorem frameR14 : Cert.quiescent_Reference14Ideal := fun m ρ _ =>
  (θ_run Cert.Reference14Ideal.defs _ _).mono (fun r h => ⟨fun c => (h c).2.2.2.2, sem_eq_zero_of_no_sems (by decide) r.2⟩) (Cert.Reference14Ideal.Value.run m ρ)

theorem value14 : Cert.algebraic_Kernel14Ideal_Reference14Ideal := fun m ρ m' ρ' hpre hag =>
  ⟨_, _, _, _,
    Cert.Kernel14Ideal.Opt.run m ρ,
    (θ_run Cert.Reference14Ideal.defs _ _).mono (fun _ h c => by
      obtain ⟨e0, e1, e2, e3⟩ := hag c
      exact ⟨(h c).1.trans (by rw [e0]; exact Cert.Reference14Ideal.Opt.ref4 _),
        (h c).2.1.trans (by rw [e0, e1, e2, e3]; exact Cert.Reference14Ideal.Opt.ref5 _ _ _ _),
        (h c).2.2.1.trans (by rw [e0, e2]; exact Cert.Reference14Ideal.Opt.ref6 _ _),
        (h c).2.2.2.1.trans (by rw [e0, e3]; exact Cert.Reference14Ideal.Opt.ref7 _ _), (h c).2.2.2.2⟩) (Cert.Reference14Ideal.Value.run m' ρ')⟩

/-! ## Program 15 -/

theorem frameI15 : Cert.quiescent_Kernel15Ideal := fun m ρ _ => Cert.Kernel15Ideal.Small.frame m ρ

open Cert.Kernel15Ideal in
/-- The frame's statement, of the ideal reading's text at the machine's numbers. -/
def Frame15 : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24))
      ∧ r.2.sem = fun _ => 0)

/-- The two texts of program 15 are the same. -/
theorem frame15_eq : Cert.quiescent_Kernel15 = Frame15 := by sl_kernel_rfl

theorem frame15 : Cert.quiescent_Kernel15 := frame15_eq.mpr fun m ρ _ => Cert.Kernel15Ideal.Small.frame (F := Bits) m ρ

theorem frameR15 : Cert.quiescent_Reference15Ideal := fun m ρ _ =>
  (θ_run Cert.Reference15Ideal.defs _ _).mono (fun r h => ⟨fun c => (h c).2.2.2.2.2.2.2.2.2.2.2.2.2.2.2.2.2.2, sem_eq_zero_of_no_sems (by decide) r.2⟩) (Cert.Reference15Ideal.Value.run m ρ)

open Cert.Reference15Ideal.Small in
theorem value15 : Cert.algebraic_Kernel15Ideal_Reference15Ideal := fun m ρ m' ρ' hpre hag =>
  ⟨_, _, _, _, _, _, _, _, _, _, _, _, _, _, _, _, _, _,
    Cert.Kernel15Ideal.Small.run m ρ,
    (θ_run Cert.Reference15Ideal.defs _ _).mono (fun _ h c => by
      obtain ⟨e0, e1, e2, e3, e4, e5, e6, e7, e8, e9, e10, e11, e12, e13, e14, e15, e16, e17, e18, e19, e20, e21, e22, e23, e24⟩ := hag c
      exact ⟨(h c).1.trans ((da _ _ _ _).trans (GDe e7 e1 e13 e19)),
        (h c).2.1.trans ((db _ _ _ _).trans (GDe e8 e2 e14 e20)),
        (h c).2.2.1.trans ((dc _ _ _ _).trans (GDe e9 e3 e15 e21)),
        (h c).2.2.2.1.trans ((dc _ _ _ _).trans (GDe e10 e4 e16 e22)),
        (h c).2.2.2.2.1.trans ((da _ _ _ _).trans (GDe e11 e5 e17 e23)),
        (h c).2.2.2.2.2.1.trans ((da _ _ _ _).trans (GDe e12 e6 e18 e24)),
        (h c).2.2.2.2.2.2.1.trans ((ma _ _).trans (GMe e1 e13)),
        (h c).2.2.2.2.2.2.2.1.trans ((mb _ _).trans (GMe e2 e14)),
        (h c).2.2.2.2.2.2.2.2.1.trans ((mc _ _).trans (GMe e3 e15)),
        (h c).2.2.2.2.2.2.2.2.2.1.trans ((mc _ _).trans (GMe e4 e16)),
        (h c).2.2.2.2.2.2.2.2.2.2.1.trans ((ma _ _).trans (GMe e5 e17)),
        (h c).2.2.2.2.2.2.2.2.2.2.2.1.trans ((ma _ _).trans (GMe e6 e18)),
        (h c).2.2.2.2.2.2.2.2.2.2.2.2.1.trans ((va _ _).trans (GVe e1 e19)),
        (h c).2.2.2.2.2.2.2.2.2.2.2.2.2.1.trans ((vb _ _).trans (GVe e2 e20)),
        (h c).2.2.2.2.2.2.2.2.2.2.2.2.2.2.1.trans ((vc _ _).trans (GVe e3 e21)),
        (h c).2.2.2.2.2.2.2.2.2.2.2.2.2.2.2.1.trans ((vc _ _).trans (GVe e4 e22)),
        (h c).2.2.2.2.2.2.2.2.2.2.2.2.2.2.2.2.1.trans ((va _ _).trans (GVe e5 e23)),
        (h c).2.2.2.2.2.2.2.2.2.2.2.2.2.2.2.2.2.1.trans ((va _ _).trans (GVe e6 e24)), (h c).2.2.2.2.2.2.2.2.2.2.2.2.2.2.2.2.2.2⟩) (Cert.Reference15Ideal.Value.run m' ρ')⟩

/-- The certificate. -/
theorem claim : Cert.Claim :=
  ⟨Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite2.Gen.facts, Cert.Pre_finite3.Gen.facts, Cert.Pre_finite6.Gen.facts, Cert.Pre_finite9.Gen.facts,
    frame2,
    frameI2,
    fun m ρ _ => frameI2 m ρ trivial,
    frameR2,
    fun m ρ _ => frameR2 m ρ trivial,
    frame3,
    frameI3,
    fun m ρ _ => frameI3 m ρ trivial,
    frameR3,
    fun m ρ _ => frameR3 m ρ trivial,
    frame4,
    frameI4,
    frameR4,
    frame6,
    frameI6,
    fun m ρ _ => frameI6 m ρ trivial,
    frameR6,
    fun m ρ _ => frameR6 m ρ trivial,
    frame7,
    frameI7,
    frameR7,
    frame8,
    frameI8,
    frameR8,
    frame9,
    frameI9,
    fun m ρ _ => frameI9 m ρ trivial,
    frameR9,
    fun m ρ _ => frameR9 m ρ trivial,
    frame10,
    frameI10,
    frameR10,
    frame11,
    frameI11,
    frameR11,
    frame12,
    frameI12,
    frameR12,
    frame13,
    frameI13,
    frameR13,
    frame14,
    frameI14,
    frameR14,
    frame15,
    frameI15,
    frameR15,
    trivial,
    value2,
    trivial,
    value3,
    trivial,
    value4,
    trivial,
    value6,
    trivial,
    value7,
    trivial,
    value8,
    trivial,
    value9,
    trivial,
    value10,
    trivial,
    value11,
    trivial,
    value12,
    trivial,
    value13,
    trivial,
    value14,
    trivial,
    value15⟩

end Cert.Proof

end
